-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DhOdd (m : (ℓ : Loc Cert.DhOdd.nD Cert.DhOdd.τ Cert.DhOdd.sig) → Buf (Elt Bits) ℓ) : Prop :=
  True

def Pre_DhOddIdeal (m : (ℓ : Loc Cert.DhOddIdeal.nD Cert.DhOddIdeal.τ Cert.DhOddIdeal.sig) → Buf (Elt Ideal) ℓ) : Prop :=
  True

def Pre_DhOddRefIdeal (m : (ℓ : Loc Cert.DhOddRefIdeal.nD Cert.DhOddRefIdeal.τ Cert.DhOddRefIdeal.sig) → Buf (Elt Ideal) ℓ) : Prop :=
  True

def Pre_DwInOdd (m : (ℓ : Loc Cert.DwInOdd.nD Cert.DwInOdd.τ Cert.DwInOdd.sig) → Buf (Elt Bits) ℓ) : Prop :=
  True

def Pre_DwInOddIdeal (m : (ℓ : Loc Cert.DwInOddIdeal.nD Cert.DwInOddIdeal.τ Cert.DwInOddIdeal.sig) → Buf (Elt Ideal) ℓ) : Prop :=
  True

def Pre_DwInOddRefIdeal (m : (ℓ : Loc Cert.DwInOddRefIdeal.nD Cert.DwInOddRefIdeal.τ Cert.DwInOddRefIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddRefIdeal (m : (ℓ : Loc Cert.InOddRefIdeal.nD Cert.InOddRefIdeal.τ Cert.InOddRefIdeal.sig) → Buf (Elt Ideal) ℓ) : Prop :=
  True

def Pre_DhEven (m : (ℓ : Loc Cert.DhEven.nD Cert.DhEven.τ Cert.DhEven.sig) → Buf (Elt Bits) ℓ) : Prop :=
  True

def Pre_DhEvenIdeal (m : (ℓ : Loc Cert.DhEvenIdeal.nD Cert.DhEvenIdeal.τ Cert.DhEvenIdeal.sig) → Buf (Elt Ideal) ℓ) : Prop :=
  True

def Pre_DhEvenRefIdeal (m : (ℓ : Loc Cert.DhEvenRefIdeal.nD Cert.DhEvenRefIdeal.τ Cert.DhEvenRefIdeal.sig) → Buf (Elt Ideal) ℓ) : Prop :=
  True

def Pre_DwOwn (m : (ℓ : Loc Cert.DwOwn.nD Cert.DwOwn.τ Cert.DwOwn.sig) → Buf (Elt Bits) ℓ) : Prop :=
  True

def Pre_DwOwnIdeal (m : (ℓ : Loc Cert.DwOwnIdeal.nD Cert.DwOwnIdeal.τ Cert.DwOwnIdeal.sig) → Buf (Elt Ideal) ℓ) : Prop :=
  True

def Pre_DwOwnRefIdeal (m : (ℓ : Loc Cert.DwOwnRefIdeal.nD Cert.DwOwnRefIdeal.τ Cert.DwOwnRefIdeal.sig) → Buf (Elt Ideal) ℓ) : Prop :=
  True

def Pre_DwSibling (m : (ℓ : Loc Cert.DwSibling.nD Cert.DwSibling.τ Cert.DwSibling.sig) → Buf (Elt Bits) ℓ) : Prop :=
  True

def Pre_DwSiblingIdeal (m : (ℓ : Loc Cert.DwSiblingIdeal.nD Cert.DwSiblingIdeal.τ Cert.DwSiblingIdeal.sig) → Buf (Elt Ideal) ℓ) : Prop :=
  True

def Pre_DwSiblingRefIdeal (m : (ℓ : Loc Cert.DwSiblingRefIdeal.nD Cert.DwSiblingRefIdeal.τ Cert.DwSiblingRefIdeal.sig) → Buf (Elt Ideal) ℓ) : Prop :=
  True

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_DyRefIdeal (m : (ℓ : Loc Cert.DyRefIdeal.nD Cert.DyRefIdeal.τ Cert.DyRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_AdamInEven (m : (ℓ : Loc Cert.AdamInEven.nD Cert.AdamInEven.τ Cert.AdamInEven.sig) → Buf (Elt Bits) ℓ) : Prop :=
  True

def Pre_AdamInEvenIdeal (m : (ℓ : Loc Cert.AdamInEvenIdeal.nD Cert.AdamInEvenIdeal.τ Cert.AdamInEvenIdeal.sig) → Buf (Elt Ideal) ℓ) : Prop :=
  True

def Pre_AdamInEvenRefIdeal (m : (ℓ : Loc Cert.AdamInEvenRefIdeal.nD Cert.AdamInEvenRefIdeal.τ Cert.AdamInEvenRefIdeal.sig) → Buf (Elt Ideal) ℓ) : Prop :=
  True

def Pre_AdamInOdd (m : (ℓ : Loc Cert.AdamInOdd.nD Cert.AdamInOdd.τ Cert.AdamInOdd.sig) → Buf (Elt Bits) ℓ) : Prop :=
  True

def Pre_AdamInOddIdeal (m : (ℓ : Loc Cert.AdamInOddIdeal.nD Cert.AdamInOddIdeal.τ Cert.AdamInOddIdeal.sig) → Buf (Elt Ideal) ℓ) : Prop :=
  True

def Pre_AdamInOddRefIdeal (m : (ℓ : Loc Cert.AdamInOddRefIdeal.nD Cert.AdamInOddRefIdeal.τ Cert.AdamInOddRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_AdamSmallA (m : (ℓ : Loc Cert.AdamSmallA.nD Cert.AdamSmallA.τ Cert.AdamSmallA.sig) → Buf (Elt Bits) ℓ) : Prop :=
  True

def Pre_AdamSmallAIdeal (m : (ℓ : Loc Cert.AdamSmallAIdeal.nD Cert.AdamSmallAIdeal.τ Cert.AdamSmallAIdeal.sig) → Buf (Elt Ideal) ℓ) : Prop :=
  True

def Pre_AdamSmallARefIdeal (m : (ℓ : Loc Cert.AdamSmallARefIdeal.nD Cert.AdamSmallARefIdeal.τ Cert.AdamSmallARefIdeal.sig) → Buf (Elt Ideal) ℓ) : Prop :=
  True

def Pre_AdamSmallB (m : (ℓ : Loc Cert.AdamSmallB.nD Cert.AdamSmallB.τ Cert.AdamSmallB.sig) → Buf (Elt Bits) ℓ) : Prop :=
  True

def Pre_AdamSmallBIdeal (m : (ℓ : Loc Cert.AdamSmallBIdeal.nD Cert.AdamSmallBIdeal.τ Cert.AdamSmallBIdeal.sig) → Buf (Elt Ideal) ℓ) : Prop :=
  True

def Pre_AdamSmallBRefIdeal (m : (ℓ : Loc Cert.AdamSmallBRefIdeal.nD Cert.AdamSmallBRefIdeal.τ Cert.AdamSmallBRefIdeal.sig) → Buf (Elt Ideal) ℓ) : Prop :=
  True

def Pre_AdamSmallC (m : (ℓ : Loc Cert.AdamSmallC.nD Cert.AdamSmallC.τ Cert.AdamSmallC.sig) → Buf (Elt Bits) ℓ) : Prop :=
  True

def Pre_AdamSmallCIdeal (m : (ℓ : Loc Cert.AdamSmallCIdeal.nD Cert.AdamSmallCIdeal.τ Cert.AdamSmallCIdeal.sig) → Buf (Elt Ideal) ℓ) : Prop :=
  True

def Pre_AdamSmallCRefIdeal (m : (ℓ : Loc Cert.AdamSmallCRefIdeal.nD Cert.AdamSmallCRefIdeal.τ Cert.AdamSmallCRefIdeal.sig) → Buf (Elt Ideal) ℓ) : Prop :=
  True

def Pre_AdamSmallD (m : (ℓ : Loc Cert.AdamSmallD.nD Cert.AdamSmallD.τ Cert.AdamSmallD.sig) → Buf (Elt Bits) ℓ) : Prop :=
  True

def Pre_AdamSmallDIdeal (m : (ℓ : Loc Cert.AdamSmallDIdeal.nD Cert.AdamSmallDIdeal.τ Cert.AdamSmallDIdeal.sig) → Buf (Elt Ideal) ℓ) : Prop :=
  True

def Pre_AdamSmallDRefIdeal (m : (ℓ : Loc Cert.AdamSmallDRefIdeal.nD Cert.AdamSmallDRefIdeal.τ Cert.AdamSmallDRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_PreEven (m : (ℓ : Loc Cert.PreEven.nD Cert.PreEven.τ Cert.PreEven.sig) → Buf (Elt Bits) ℓ) : Prop :=
  True

def Pre_PreEvenIdeal (m : (ℓ : Loc Cert.PreEvenIdeal.nD Cert.PreEvenIdeal.τ Cert.PreEvenIdeal.sig) → Buf (Elt Ideal) ℓ) : Prop :=
  True

def Pre_PreEvenRefIdeal (m : (ℓ : Loc Cert.PreEvenRefIdeal.nD Cert.PreEvenRefIdeal.τ Cert.PreEvenRefIdeal.sig) → Buf (Elt Ideal) ℓ) : Prop :=
  True

def Pre_Between (m : (ℓ : Loc Cert.Between.nD Cert.Between.τ Cert.Between.sig) → Buf (Elt Bits) ℓ) : Prop :=
  True

def Pre_BetweenIdeal (m : (ℓ : Loc Cert.BetweenIdeal.nD Cert.BetweenIdeal.τ Cert.BetweenIdeal.sig) → Buf (Elt Ideal) ℓ) : Prop :=
  True

def Pre_BetweenRefIdeal (m : (ℓ : Loc Cert.BetweenRefIdeal.nD Cert.BetweenRefIdeal.τ Cert.BetweenRefIdeal.sig) → Buf (Elt Ideal) ℓ) : Prop :=
  True

def Pre_TokenLoss (m : (ℓ : Loc Cert.TokenLoss.nD Cert.TokenLoss.τ Cert.TokenLoss.sig) → Buf (Elt Bits) ℓ) : Prop :=
  True

def Pre_TokenLossIdeal (m : (ℓ : Loc Cert.TokenLossIdeal.nD Cert.TokenLossIdeal.τ Cert.TokenLossIdeal.sig) → Buf (Elt Ideal) ℓ) : Prop :=
  True

def Pre_TokenLossRefIdeal (m : (ℓ : Loc Cert.TokenLossRefIdeal.nD Cert.TokenLossRefIdeal.τ Cert.TokenLossRefIdeal.sig) → Buf (Elt Ideal) ℓ) : Prop :=
  True

def Pre_PairAdd (m : (ℓ : Loc Cert.PairAdd.nD Cert.PairAdd.τ Cert.PairAdd.sig) → Buf (Elt Bits) ℓ) : Prop :=
  True

def Pre_PairAddIdeal (m : (ℓ : Loc Cert.PairAddIdeal.nD Cert.PairAddIdeal.τ Cert.PairAddIdeal.sig) → Buf (Elt Ideal) ℓ) : Prop :=
  True

def Pre_PairAddRefIdeal (m : (ℓ : Loc Cert.PairAddRefIdeal.nD Cert.PairAddRefIdeal.τ Cert.PairAddRefIdeal.sig) → Buf (Elt Ideal) ℓ) : Prop :=
  True

def Pre_PairOut (m : (ℓ : Loc Cert.PairOut.nD Cert.PairOut.τ Cert.PairOut.sig) → Buf (Elt Bits) ℓ) : Prop :=
  True

def Pre_PairOutIdeal (m : (ℓ : Loc Cert.PairOutIdeal.nD Cert.PairOutIdeal.τ Cert.PairOutIdeal.sig) → Buf (Elt Ideal) ℓ) : Prop :=
  True

def Pre_PairOutRefIdeal (m : (ℓ : Loc Cert.PairOutRefIdeal.nD Cert.PairOutRefIdeal.τ Cert.PairOutRefIdeal.sig) → Buf (Elt Ideal) ℓ) : Prop :=
  True

def Pre_PairPool (m : (ℓ : Loc Cert.PairPool.nD Cert.PairPool.τ Cert.PairPool.sig) → Buf (Elt Bits) ℓ) : Prop :=
  True

def Pre_PairPoolIdeal (m : (ℓ : Loc Cert.PairPoolIdeal.nD Cert.PairPoolIdeal.τ Cert.PairPoolIdeal.sig) → Buf (Elt Ideal) ℓ) : Prop :=
  True

def Pre_PairPoolRefIdeal (m : (ℓ : Loc Cert.PairPoolRefIdeal.nD Cert.PairPoolRefIdeal.τ Cert.PairPoolRefIdeal.sig) → Buf (Elt Ideal) ℓ) : Prop :=
  True

def Pre_PairInEven (m : (ℓ : Loc Cert.PairInEven.nD Cert.PairInEven.τ Cert.PairInEven.sig) → Buf (Elt Bits) ℓ) : Prop :=
  True

def Pre_PairInEvenIdeal (m : (ℓ : Loc Cert.PairInEvenIdeal.nD Cert.PairInEvenIdeal.τ Cert.PairInEvenIdeal.sig) → Buf (Elt Ideal) ℓ) : Prop :=
  True

def Pre_PairInEvenRefIdeal (m : (ℓ : Loc Cert.PairInEvenRefIdeal.nD Cert.PairInEvenRefIdeal.τ Cert.PairInEvenRefIdeal.sig) → Buf (Elt Ideal) ℓ) : Prop :=
  True

def Pre_PostNorm (m : (ℓ : Loc Cert.PostNorm.nD Cert.PostNorm.τ Cert.PostNorm.sig) → Buf (Elt Bits) ℓ) : Prop :=
  True

def Pre_PostNormIdeal (m : (ℓ : Loc Cert.PostNormIdeal.nD Cert.PostNormIdeal.τ Cert.PostNormIdeal.sig) → Buf (Elt Ideal) ℓ) : Prop :=
  True

def Pre_PostNormRefIdeal (m : (ℓ : Loc Cert.PostNormRefIdeal.nD Cert.PostNormRefIdeal.τ Cert.PostNormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_DhOdd [hDhOdd : Cert.DhOdd.Facts] : Prop :=
  ∀ (m : (ℓ : Loc Cert.DhOdd.nD Cert.DhOdd.τ Cert.DhOdd.sig) → Buf (Elt Bits) ℓ) (g : Dev Cert.DhOdd.nD → PrngReg), Pre_DhOdd m →
    θ_run (Cert.DhOdd.defs (F := Bits)) (onTc (τ := Cert.DhOdd.τ) (Cert.DhOdd.main (F := Bits))) ⟨m, fun _ => 0, g⟩ (fun r => (∀ c : Dev Cert.DhOdd.nD,
      r.2.mem ((c.tc : Thread Cert.DhOdd.nD Cert.DhOdd.τ).loc Cert.DhOdd.main_arg0) = m ((c.tc : Thread Cert.DhOdd.nD Cert.DhOdd.τ).loc Cert.DhOdd.main_arg0)
      ∧ r.2.mem ((c.tc : Thread Cert.DhOdd.nD Cert.DhOdd.τ).loc Cert.DhOdd.main_arg1) = m ((c.tc : Thread Cert.DhOdd.nD Cert.DhOdd.τ).loc Cert.DhOdd.main_arg1)
      ∧ r.2.mem ((c.tc : Thread Cert.DhOdd.nD Cert.DhOdd.τ).loc Cert.DhOdd.main_arg2) = m ((c.tc : Thread Cert.DhOdd.nD Cert.DhOdd.τ).loc Cert.DhOdd.main_arg2))
      ∧ r.2.sem = fun _ => 0)

def quiescent_DhOddIdeal [hDhOddIdeal : Cert.DhOddIdeal.Facts] : Prop :=
  ∀ (m : (ℓ : Loc Cert.DhOddIdeal.nD Cert.DhOddIdeal.τ Cert.DhOddIdeal.sig) → Buf (Elt Ideal) ℓ) (g : Dev Cert.DhOddIdeal.nD → PrngReg), Pre_DhOddIdeal m →
    θ_run (Cert.DhOddIdeal.defs (F := Ideal)) (onTc (τ := Cert.DhOddIdeal.τ) (Cert.DhOddIdeal.main (F := Ideal))) ⟨m, fun _ => 0, g⟩ (fun r => (∀ c : Dev Cert.DhOddIdeal.nD,
      r.2.mem ((c.tc : Thread Cert.DhOddIdeal.nD Cert.DhOddIdeal.τ).loc Cert.DhOddIdeal.main_arg0) = m ((c.tc : Thread Cert.DhOddIdeal.nD Cert.DhOddIdeal.τ).loc Cert.DhOddIdeal.main_arg0)
      ∧ r.2.mem ((c.tc : Thread Cert.DhOddIdeal.nD Cert.DhOddIdeal.τ).loc Cert.DhOddIdeal.main_arg1) = m ((c.tc : Thread Cert.DhOddIdeal.nD Cert.DhOddIdeal.τ).loc Cert.DhOddIdeal.main_arg1)
      ∧ r.2.mem ((c.tc : Thread Cert.DhOddIdeal.nD Cert.DhOddIdeal.τ).loc Cert.DhOddIdeal.main_arg2) = m ((c.tc : Thread Cert.DhOddIdeal.nD Cert.DhOddIdeal.τ).loc Cert.DhOddIdeal.main_arg2))
      ∧ r.2.sem = fun _ => 0)

def quiescent_DhOddRefIdeal [hDhOddRefIdeal : Cert.DhOddRefIdeal.Facts] : Prop :=
  ∀ (m : (ℓ : Loc Cert.DhOddRefIdeal.nD Cert.DhOddRefIdeal.τ Cert.DhOddRefIdeal.sig) → Buf (Elt Ideal) ℓ) (g : Dev Cert.DhOddRefIdeal.nD → PrngReg), Pre_DhOddRefIdeal m →
    θ_run (Cert.DhOddRefIdeal.defs (F := Ideal)) (onTc (τ := Cert.DhOddRefIdeal.τ) (Cert.DhOddRefIdeal.main (F := Ideal))) ⟨m, fun _ => 0, g⟩ (fun r => (∀ c : Dev Cert.DhOddRefIdeal.nD,
      r.2.mem ((c.tc : Thread Cert.DhOddRefIdeal.nD Cert.DhOddRefIdeal.τ).loc Cert.DhOddRefIdeal.main_arg0) = m ((c.tc : Thread Cert.DhOddRefIdeal.nD Cert.DhOddRefIdeal.τ).loc Cert.DhOddRefIdeal.main_arg0)
      ∧ r.2.mem ((c.tc : Thread Cert.DhOddRefIdeal.nD Cert.DhOddRefIdeal.τ).loc Cert.DhOddRefIdeal.main_arg1) = m ((c.tc : Thread Cert.DhOddRefIdeal.nD Cert.DhOddRefIdeal.τ).loc Cert.DhOddRefIdeal.main_arg1)
      ∧ r.2.mem ((c.tc : Thread Cert.DhOddRefIdeal.nD Cert.DhOddRefIdeal.τ).loc Cert.DhOddRefIdeal.main_arg2) = m ((c.tc : Thread Cert.DhOddRefIdeal.nD Cert.DhOddRefIdeal.τ).loc Cert.DhOddRefIdeal.main_arg2))
      ∧ r.2.sem = fun _ => 0)

def quiescent_DwInOdd [hDwInOdd : Cert.DwInOdd.Facts] : Prop :=
  ∀ (m : (ℓ : Loc Cert.DwInOdd.nD Cert.DwInOdd.τ Cert.DwInOdd.sig) → Buf (Elt Bits) ℓ) (g : Dev Cert.DwInOdd.nD → PrngReg), Pre_DwInOdd m →
    θ_run (Cert.DwInOdd.defs (F := Bits)) (onTc (τ := Cert.DwInOdd.τ) (Cert.DwInOdd.main (F := Bits))) ⟨m, fun _ => 0, g⟩ (fun r => (∀ c : Dev Cert.DwInOdd.nD,
      r.2.mem ((c.tc : Thread Cert.DwInOdd.nD Cert.DwInOdd.τ).loc Cert.DwInOdd.main_arg0) = m ((c.tc : Thread Cert.DwInOdd.nD Cert.DwInOdd.τ).loc Cert.DwInOdd.main_arg0)
      ∧ r.2.mem ((c.tc : Thread Cert.DwInOdd.nD Cert.DwInOdd.τ).loc Cert.DwInOdd.main_arg1) = m ((c.tc : Thread Cert.DwInOdd.nD Cert.DwInOdd.τ).loc Cert.DwInOdd.main_arg1)
      ∧ r.2.mem ((c.tc : Thread Cert.DwInOdd.nD Cert.DwInOdd.τ).loc Cert.DwInOdd.main_arg2) = m ((c.tc : Thread Cert.DwInOdd.nD Cert.DwInOdd.τ).loc Cert.DwInOdd.main_arg2))
      ∧ r.2.sem = fun _ => 0)

def quiescent_DwInOddIdeal [hDwInOddIdeal : Cert.DwInOddIdeal.Facts] : Prop :=
  ∀ (m : (ℓ : Loc Cert.DwInOddIdeal.nD Cert.DwInOddIdeal.τ Cert.DwInOddIdeal.sig) → Buf (Elt Ideal) ℓ) (g : Dev Cert.DwInOddIdeal.nD → PrngReg), Pre_DwInOddIdeal m →
    θ_run (Cert.DwInOddIdeal.defs (F := Ideal)) (onTc (τ := Cert.DwInOddIdeal.τ) (Cert.DwInOddIdeal.main (F := Ideal))) ⟨m, fun _ => 0, g⟩ (fun r => (∀ c : Dev Cert.DwInOddIdeal.nD,
      r.2.mem ((c.tc : Thread Cert.DwInOddIdeal.nD Cert.DwInOddIdeal.τ).loc Cert.DwInOddIdeal.main_arg0) = m ((c.tc : Thread Cert.DwInOddIdeal.nD Cert.DwInOddIdeal.τ).loc Cert.DwInOddIdeal.main_arg0)
      ∧ r.2.mem ((c.tc : Thread Cert.DwInOddIdeal.nD Cert.DwInOddIdeal.τ).loc Cert.DwInOddIdeal.main_arg1) = m ((c.tc : Thread Cert.DwInOddIdeal.nD Cert.DwInOddIdeal.τ).loc Cert.DwInOddIdeal.main_arg1)
      ∧ r.2.mem ((c.tc : Thread Cert.DwInOddIdeal.nD Cert.DwInOddIdeal.τ).loc Cert.DwInOddIdeal.main_arg2) = m ((c.tc : Thread Cert.DwInOddIdeal.nD Cert.DwInOddIdeal.τ).loc Cert.DwInOddIdeal.main_arg2))
      ∧ r.2.sem = fun _ => 0)

def quiescent_DwInOddRefIdeal [hDwInOddRefIdeal : Cert.DwInOddRefIdeal.Facts] : Prop :=
  ∀ (m : (ℓ : Loc Cert.DwInOddRefIdeal.nD Cert.DwInOddRefIdeal.τ Cert.DwInOddRefIdeal.sig) → Buf (Elt Ideal) ℓ) (g : Dev Cert.DwInOddRefIdeal.nD → PrngReg), Pre_DwInOddRefIdeal m →
    θ_run (Cert.DwInOddRefIdeal.defs (F := Ideal)) (onTc (τ := Cert.DwInOddRefIdeal.τ) (Cert.DwInOddRefIdeal.main (F := Ideal))) ⟨m, fun _ => 0, g⟩ (fun r => (∀ c : Dev Cert.DwInOddRefIdeal.nD,
      r.2.mem ((c.tc : Thread Cert.DwInOddRefIdeal.nD Cert.DwInOddRefIdeal.τ).loc Cert.DwInOddRefIdeal.main_arg0) = m ((c.tc : Thread Cert.DwInOddRefIdeal.nD Cert.DwInOddRefIdeal.τ).loc Cert.DwInOddRefIdeal.main_arg0)
      ∧ r.2.mem ((c.tc : Thread Cert.DwInOddRefIdeal.nD Cert.DwInOddRefIdeal.τ).loc Cert.DwInOddRefIdeal.main_arg1) = m ((c.tc : Thread Cert.DwInOddRefIdeal.nD Cert.DwInOddRefIdeal.τ).loc Cert.DwInOddRefIdeal.main_arg1)
      ∧ r.2.mem ((c.tc : Thread Cert.DwInOddRefIdeal.nD Cert.DwInOddRefIdeal.τ).loc Cert.DwInOddRefIdeal.main_arg2) = m ((c.tc : Thread Cert.DwInOddRefIdeal.nD Cert.DwInOddRefIdeal.τ).loc Cert.DwInOddRefIdeal.main_arg2))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1))
      ∧ r.2.sem = fun _ => 0)

def quiescent_InOddRefIdeal [hInOddRefIdeal : Cert.InOddRefIdeal.Facts] : Prop :=
  ∀ (m : (ℓ : Loc Cert.InOddRefIdeal.nD Cert.InOddRefIdeal.τ Cert.InOddRefIdeal.sig) → Buf (Elt Ideal) ℓ) (g : Dev Cert.InOddRefIdeal.nD → PrngReg), Pre_InOddRefIdeal m →
    θ_run (Cert.InOddRefIdeal.defs (F := Ideal)) (onTc (τ := Cert.InOddRefIdeal.τ) (Cert.InOddRefIdeal.main (F := Ideal))) ⟨m, fun _ => 0, g⟩ (fun r => (∀ c : Dev Cert.InOddRefIdeal.nD,
      r.2.mem ((c.tc : Thread Cert.InOddRefIdeal.nD Cert.InOddRefIdeal.τ).loc Cert.InOddRefIdeal.main_arg0) = m ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m ((c.tc : Thread Cert.InOddRefIdeal.nD Cert.InOddRefIdeal.τ).loc Cert.InOddRefIdeal.main_arg1))
      ∧ r.2.sem = fun _ => 0)

def quiescent_DhEven [hDhEven : Cert.DhEven.Facts] : Prop :=
  ∀ (m : (ℓ : Loc Cert.DhEven.nD Cert.DhEven.τ Cert.DhEven.sig) → Buf (Elt Bits) ℓ) (g : Dev Cert.DhEven.nD → PrngReg), Pre_DhEven m →
    θ_run (Cert.DhEven.defs (F := Bits)) (onTc (τ := Cert.DhEven.τ) (Cert.DhEven.main (F := Bits))) ⟨m, fun _ => 0, g⟩ (fun r => (∀ c : Dev Cert.DhEven.nD,
      r.2.mem ((c.tc : Thread Cert.DhEven.nD Cert.DhEven.τ).loc Cert.DhEven.main_arg0) = m ((c.tc : Thread Cert.DhEven.nD Cert.DhEven.τ).loc Cert.DhEven.main_arg0)
      ∧ r.2.mem ((c.tc : Thread Cert.DhEven.nD Cert.DhEven.τ).loc Cert.DhEven.main_arg1) = m ((c.tc : Thread Cert.DhEven.nD Cert.DhEven.τ).loc Cert.DhEven.main_arg1)
      ∧ r.2.mem ((c.tc : Thread Cert.DhEven.nD Cert.DhEven.τ).loc Cert.DhEven.main_arg2) = m ((c.tc : Thread Cert.DhEven.nD Cert.DhEven.τ).loc Cert.DhEven.main_arg2))
      ∧ r.2.sem = fun _ => 0)

def quiescent_DhEvenIdeal [hDhEvenIdeal : Cert.DhEvenIdeal.Facts] : Prop :=
  ∀ (m : (ℓ : Loc Cert.DhEvenIdeal.nD Cert.DhEvenIdeal.τ Cert.DhEvenIdeal.sig) → Buf (Elt Ideal) ℓ) (g : Dev Cert.DhEvenIdeal.nD → PrngReg), Pre_DhEvenIdeal m →
    θ_run (Cert.DhEvenIdeal.defs (F := Ideal)) (onTc (τ := Cert.DhEvenIdeal.τ) (Cert.DhEvenIdeal.main (F := Ideal))) ⟨m, fun _ => 0, g⟩ (fun r => (∀ c : Dev Cert.DhEvenIdeal.nD,
      r.2.mem ((c.tc : Thread Cert.DhEvenIdeal.nD Cert.DhEvenIdeal.τ).loc Cert.DhEvenIdeal.main_arg0) = m ((c.tc : Thread Cert.DhEvenIdeal.nD Cert.DhEvenIdeal.τ).loc Cert.DhEvenIdeal.main_arg0)
      ∧ r.2.mem ((c.tc : Thread Cert.DhEvenIdeal.nD Cert.DhEvenIdeal.τ).loc Cert.DhEvenIdeal.main_arg1) = m ((c.tc : Thread Cert.DhEvenIdeal.nD Cert.DhEvenIdeal.τ).loc Cert.DhEvenIdeal.main_arg1)
      ∧ r.2.mem ((c.tc : Thread Cert.DhEvenIdeal.nD Cert.DhEvenIdeal.τ).loc Cert.DhEvenIdeal.main_arg2) = m ((c.tc : Thread Cert.DhEvenIdeal.nD Cert.DhEvenIdeal.τ).loc Cert.DhEvenIdeal.main_arg2))
      ∧ r.2.sem = fun _ => 0)

def quiescent_DhEvenRefIdeal [hDhEvenRefIdeal : Cert.DhEvenRefIdeal.Facts] : Prop :=
  ∀ (m : (ℓ : Loc Cert.DhEvenRefIdeal.nD Cert.DhEvenRefIdeal.τ Cert.DhEvenRefIdeal.sig) → Buf (Elt Ideal) ℓ) (g : Dev Cert.DhEvenRefIdeal.nD → PrngReg), Pre_DhEvenRefIdeal m →
    θ_run (Cert.DhEvenRefIdeal.defs (F := Ideal)) (onTc (τ := Cert.DhEvenRefIdeal.τ) (Cert.DhEvenRefIdeal.main (F := Ideal))) ⟨m, fun _ => 0, g⟩ (fun r => (∀ c : Dev Cert.DhEvenRefIdeal.nD,
      r.2.mem ((c.tc : Thread Cert.DhEvenRefIdeal.nD Cert.DhEvenRefIdeal.τ).loc Cert.DhEvenRefIdeal.main_arg0) = m ((c.tc : Thread Cert.DhEvenRefIdeal.nD Cert.DhEvenRefIdeal.τ).loc Cert.DhEvenRefIdeal.main_arg0)
      ∧ r.2.mem ((c.tc : Thread Cert.DhEvenRefIdeal.nD Cert.DhEvenRefIdeal.τ).loc Cert.DhEvenRefIdeal.main_arg1) = m ((c.tc : Thread Cert.DhEvenRefIdeal.nD Cert.DhEvenRefIdeal.τ).loc Cert.DhEvenRefIdeal.main_arg1)
      ∧ r.2.mem ((c.tc : Thread Cert.DhEvenRefIdeal.nD Cert.DhEvenRefIdeal.τ).loc Cert.DhEvenRefIdeal.main_arg2) = m ((c.tc : Thread Cert.DhEvenRefIdeal.nD Cert.DhEvenRefIdeal.τ).loc Cert.DhEvenRefIdeal.main_arg2))
      ∧ r.2.sem = fun _ => 0)

def quiescent_DwOwn [hDwOwn : Cert.DwOwn.Facts] : Prop :=
  ∀ (m : (ℓ : Loc Cert.DwOwn.nD Cert.DwOwn.τ Cert.DwOwn.sig) → Buf (Elt Bits) ℓ) (g : Dev Cert.DwOwn.nD → PrngReg), Pre_DwOwn m →
    θ_run (Cert.DwOwn.defs (F := Bits)) (onTc (τ := Cert.DwOwn.τ) (Cert.DwOwn.main (F := Bits))) ⟨m, fun _ => 0, g⟩ (fun r => (∀ c : Dev Cert.DwOwn.nD,
      r.2.mem ((c.tc : Thread Cert.DwOwn.nD Cert.DwOwn.τ).loc Cert.DwOwn.main_arg0) = m ((c.tc : Thread Cert.DwOwn.nD Cert.DwOwn.τ).loc Cert.DwOwn.main_arg0)
      ∧ r.2.mem ((c.tc : Thread Cert.DwOwn.nD Cert.DwOwn.τ).loc Cert.DwOwn.main_arg1) = m ((c.tc : Thread Cert.DwOwn.nD Cert.DwOwn.τ).loc Cert.DwOwn.main_arg1)
      ∧ r.2.mem ((c.tc : Thread Cert.DwOwn.nD Cert.DwOwn.τ).loc Cert.DwOwn.main_arg2) = m ((c.tc : Thread Cert.DwOwn.nD Cert.DwOwn.τ).loc Cert.DwOwn.main_arg2))
      ∧ r.2.sem = fun _ => 0)

def quiescent_DwOwnIdeal [hDwOwnIdeal : Cert.DwOwnIdeal.Facts] : Prop :=
  ∀ (m : (ℓ : Loc Cert.DwOwnIdeal.nD Cert.DwOwnIdeal.τ Cert.DwOwnIdeal.sig) → Buf (Elt Ideal) ℓ) (g : Dev Cert.DwOwnIdeal.nD → PrngReg), Pre_DwOwnIdeal m →
    θ_run (Cert.DwOwnIdeal.defs (F := Ideal)) (onTc (τ := Cert.DwOwnIdeal.τ) (Cert.DwOwnIdeal.main (F := Ideal))) ⟨m, fun _ => 0, g⟩ (fun r => (∀ c : Dev Cert.DwOwnIdeal.nD,
      r.2.mem ((c.tc : Thread Cert.DwOwnIdeal.nD Cert.DwOwnIdeal.τ).loc Cert.DwOwnIdeal.main_arg0) = m ((c.tc : Thread Cert.DwOwnIdeal.nD Cert.DwOwnIdeal.τ).loc Cert.DwOwnIdeal.main_arg0)
      ∧ r.2.mem ((c.tc : Thread Cert.DwOwnIdeal.nD Cert.DwOwnIdeal.τ).loc Cert.DwOwnIdeal.main_arg1) = m ((c.tc : Thread Cert.DwOwnIdeal.nD Cert.DwOwnIdeal.τ).loc Cert.DwOwnIdeal.main_arg1)
      ∧ r.2.mem ((c.tc : Thread Cert.DwOwnIdeal.nD Cert.DwOwnIdeal.τ).loc Cert.DwOwnIdeal.main_arg2) = m ((c.tc : Thread Cert.DwOwnIdeal.nD Cert.DwOwnIdeal.τ).loc Cert.DwOwnIdeal.main_arg2))
      ∧ r.2.sem = fun _ => 0)

def quiescent_DwOwnRefIdeal [hDwOwnRefIdeal : Cert.DwOwnRefIdeal.Facts] : Prop :=
  ∀ (m : (ℓ : Loc Cert.DwOwnRefIdeal.nD Cert.DwOwnRefIdeal.τ Cert.DwOwnRefIdeal.sig) → Buf (Elt Ideal) ℓ) (g : Dev Cert.DwOwnRefIdeal.nD → PrngReg), Pre_DwOwnRefIdeal m →
    θ_run (Cert.DwOwnRefIdeal.defs (F := Ideal)) (onTc (τ := Cert.DwOwnRefIdeal.τ) (Cert.DwOwnRefIdeal.main (F := Ideal))) ⟨m, fun _ => 0, g⟩ (fun r => (∀ c : Dev Cert.DwOwnRefIdeal.nD,
      r.2.mem ((c.tc : Thread Cert.DwOwnRefIdeal.nD Cert.DwOwnRefIdeal.τ).loc Cert.DwOwnRefIdeal.main_arg0) = m ((c.tc : Thread Cert.DwOwnRefIdeal.nD Cert.DwOwnRefIdeal.τ).loc Cert.DwOwnRefIdeal.main_arg0)
      ∧ r.2.mem ((c.tc : Thread Cert.DwOwnRefIdeal.nD Cert.DwOwnRefIdeal.τ).loc Cert.DwOwnRefIdeal.main_arg1) = m ((c.tc : Thread Cert.DwOwnRefIdeal.nD Cert.DwOwnRefIdeal.τ).loc Cert.DwOwnRefIdeal.main_arg1)
      ∧ r.2.mem ((c.tc : Thread Cert.DwOwnRefIdeal.nD Cert.DwOwnRefIdeal.τ).loc Cert.DwOwnRefIdeal.main_arg2) = m ((c.tc : Thread Cert.DwOwnRefIdeal.nD Cert.DwOwnRefIdeal.τ).loc Cert.DwOwnRefIdeal.main_arg2))
      ∧ r.2.sem = fun _ => 0)

def quiescent_DwSibling [hDwSibling : Cert.DwSibling.Facts] : Prop :=
  ∀ (m : (ℓ : Loc Cert.DwSibling.nD Cert.DwSibling.τ Cert.DwSibling.sig) → Buf (Elt Bits) ℓ) (g : Dev Cert.DwSibling.nD → PrngReg), Pre_DwSibling m →
    θ_run (Cert.DwSibling.defs (F := Bits)) (onTc (τ := Cert.DwSibling.τ) (Cert.DwSibling.main (F := Bits))) ⟨m, fun _ => 0, g⟩ (fun r => (∀ c : Dev Cert.DwSibling.nD,
      r.2.mem ((c.tc : Thread Cert.DwSibling.nD Cert.DwSibling.τ).loc Cert.DwSibling.main_arg0) = m ((c.tc : Thread Cert.DwSibling.nD Cert.DwSibling.τ).loc Cert.DwSibling.main_arg0)
      ∧ r.2.mem ((c.tc : Thread Cert.DwSibling.nD Cert.DwSibling.τ).loc Cert.DwSibling.main_arg1) = m ((c.tc : Thread Cert.DwSibling.nD Cert.DwSibling.τ).loc Cert.DwSibling.main_arg1)
      ∧ r.2.mem ((c.tc : Thread Cert.DwSibling.nD Cert.DwSibling.τ).loc Cert.DwSibling.main_arg2) = m ((c.tc : Thread Cert.DwSibling.nD Cert.DwSibling.τ).loc Cert.DwSibling.main_arg2))
      ∧ r.2.sem = fun _ => 0)

def quiescent_DwSiblingIdeal [hDwSiblingIdeal : Cert.DwSiblingIdeal.Facts] : Prop :=
  ∀ (m : (ℓ : Loc Cert.DwSiblingIdeal.nD Cert.DwSiblingIdeal.τ Cert.DwSiblingIdeal.sig) → Buf (Elt Ideal) ℓ) (g : Dev Cert.DwSiblingIdeal.nD → PrngReg), Pre_DwSiblingIdeal m →
    θ_run (Cert.DwSiblingIdeal.defs (F := Ideal)) (onTc (τ := Cert.DwSiblingIdeal.τ) (Cert.DwSiblingIdeal.main (F := Ideal))) ⟨m, fun _ => 0, g⟩ (fun r => (∀ c : Dev Cert.DwSiblingIdeal.nD,
      r.2.mem ((c.tc : Thread Cert.DwSiblingIdeal.nD Cert.DwSiblingIdeal.τ).loc Cert.DwSiblingIdeal.main_arg0) = m ((c.tc : Thread Cert.DwSiblingIdeal.nD Cert.DwSiblingIdeal.τ).loc Cert.DwSiblingIdeal.main_arg0)
      ∧ r.2.mem ((c.tc : Thread Cert.DwSiblingIdeal.nD Cert.DwSiblingIdeal.τ).loc Cert.DwSiblingIdeal.main_arg1) = m ((c.tc : Thread Cert.DwSiblingIdeal.nD Cert.DwSiblingIdeal.τ).loc Cert.DwSiblingIdeal.main_arg1)
      ∧ r.2.mem ((c.tc : Thread Cert.DwSiblingIdeal.nD Cert.DwSiblingIdeal.τ).loc Cert.DwSiblingIdeal.main_arg2) = m ((c.tc : Thread Cert.DwSiblingIdeal.nD Cert.DwSiblingIdeal.τ).loc Cert.DwSiblingIdeal.main_arg2))
      ∧ r.2.sem = fun _ => 0)

def quiescent_DwSiblingRefIdeal [hDwSiblingRefIdeal : Cert.DwSiblingRefIdeal.Facts] : Prop :=
  ∀ (m : (ℓ : Loc Cert.DwSiblingRefIdeal.nD Cert.DwSiblingRefIdeal.τ Cert.DwSiblingRefIdeal.sig) → Buf (Elt Ideal) ℓ) (g : Dev Cert.DwSiblingRefIdeal.nD → PrngReg), Pre_DwSiblingRefIdeal m →
    θ_run (Cert.DwSiblingRefIdeal.defs (F := Ideal)) (onTc (τ := Cert.DwSiblingRefIdeal.τ) (Cert.DwSiblingRefIdeal.main (F := Ideal))) ⟨m, fun _ => 0, g⟩ (fun r => (∀ c : Dev Cert.DwSiblingRefIdeal.nD,
      r.2.mem ((c.tc : Thread Cert.DwSiblingRefIdeal.nD Cert.DwSiblingRefIdeal.τ).loc Cert.DwSiblingRefIdeal.main_arg0) = m ((c.tc : Thread Cert.DwSiblingRefIdeal.nD Cert.DwSiblingRefIdeal.τ).loc Cert.DwSiblingRefIdeal.main_arg0)
      ∧ r.2.mem ((c.tc : Thread Cert.DwSiblingRefIdeal.nD Cert.DwSiblingRefIdeal.τ).loc Cert.DwSiblingRefIdeal.main_arg1) = m ((c.tc : Thread Cert.DwSiblingRefIdeal.nD Cert.DwSiblingRefIdeal.τ).loc Cert.DwSiblingRefIdeal.main_arg1)
      ∧ r.2.mem ((c.tc : Thread Cert.DwSiblingRefIdeal.nD Cert.DwSiblingRefIdeal.τ).loc Cert.DwSiblingRefIdeal.main_arg2) = m ((c.tc : Thread Cert.DwSiblingRefIdeal.nD Cert.DwSiblingRefIdeal.τ).loc Cert.DwSiblingRefIdeal.main_arg2))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0)
      ∧ r.2.mem ((c.tc : Thread Cert.Dy.nD Cert.Dy.τ).loc Cert.Dy.main_arg1) = m ((c.tc : Thread Cert.Dy.nD Cert.Dy.τ).loc Cert.Dy.main_arg1)
      ∧ r.2.mem ((c.tc : Thread Cert.Dy.nD Cert.Dy.τ).loc Cert.Dy.main_arg2) = m ((c.tc : Thread Cert.Dy.nD Cert.Dy.τ).loc Cert.Dy.main_arg2))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1)
      ∧ r.2.mem ((c.tc : Thread Cert.DyIdeal.nD Cert.DyIdeal.τ).loc Cert.DyIdeal.main_arg2) = m ((c.tc : Thread Cert.DyIdeal.nD Cert.DyIdeal.τ).loc Cert.DyIdeal.main_arg2))
      ∧ r.2.sem = fun _ => 0)

def quiescent_DyRefIdeal [hDyRefIdeal : Cert.DyRefIdeal.Facts] : Prop :=
  ∀ (m : (ℓ : Loc Cert.DyRefIdeal.nD Cert.DyRefIdeal.τ Cert.DyRefIdeal.sig) → Buf (Elt Ideal) ℓ) (g : Dev Cert.DyRefIdeal.nD → PrngReg), Pre_DyRefIdeal m →
    θ_run (Cert.DyRefIdeal.defs (F := Ideal)) (onTc (τ := Cert.DyRefIdeal.τ) (Cert.DyRefIdeal.main (F := Ideal))) ⟨m, fun _ => 0, g⟩ (fun r => (∀ c : Dev Cert.DyRefIdeal.nD,
      r.2.mem ((c.tc : Thread Cert.DyRefIdeal.nD Cert.DyRefIdeal.τ).loc Cert.DyRefIdeal.main_arg0) = m ((c.tc : Thread Cert.DyRefIdeal.nD Cert.DyRefIdeal.τ).loc Cert.DyRefIdeal.main_arg0)
      ∧ r.2.mem ((c.tc : Thread Cert.DyRefIdeal.nD Cert.DyRefIdeal.τ).loc Cert.DyRefIdeal.main_arg1) = m ((c.tc : Thread Cert.DyRefIdeal.nD Cert.DyRefIdeal.τ).loc Cert.DyRefIdeal.main_arg1)
      ∧ r.2.mem ((c.tc : Thread Cert.DyRefIdeal.nD Cert.DyRefIdeal.τ).loc Cert.DyRefIdeal.main_arg2) = m ((c.tc : Thread Cert.DyRefIdeal.nD Cert.DyRefIdeal.τ).loc Cert.DyRefIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_AdamInEven [hAdamInEven : Cert.AdamInEven.Facts] : Prop :=
  ∀ (m : (ℓ : Loc Cert.AdamInEven.nD Cert.AdamInEven.τ Cert.AdamInEven.sig) → Buf (Elt Bits) ℓ) (g : Dev Cert.AdamInEven.nD → PrngReg), Pre_AdamInEven m →
    θ_run (Cert.AdamInEven.defs (F := Bits)) (onTc (τ := Cert.AdamInEven.τ) (Cert.AdamInEven.main (F := Bits))) ⟨m, fun _ => 0, g⟩ (fun r => (∀ c : Dev Cert.AdamInEven.nD,
      r.2.mem ((c.tc : Thread Cert.AdamInEven.nD Cert.AdamInEven.τ).loc Cert.AdamInEven.main_arg0) = m ((c.tc : Thread Cert.AdamInEven.nD Cert.AdamInEven.τ).loc Cert.AdamInEven.main_arg0)
      ∧ r.2.mem ((c.tc : Thread Cert.AdamInEven.nD Cert.AdamInEven.τ).loc Cert.AdamInEven.main_arg1) = m ((c.tc : Thread Cert.AdamInEven.nD Cert.AdamInEven.τ).loc Cert.AdamInEven.main_arg1)
      ∧ r.2.mem ((c.tc : Thread Cert.AdamInEven.nD Cert.AdamInEven.τ).loc Cert.AdamInEven.main_arg2) = m ((c.tc : Thread Cert.AdamInEven.nD Cert.AdamInEven.τ).loc Cert.AdamInEven.main_arg2)
      ∧ r.2.mem ((c.tc : Thread Cert.AdamInEven.nD Cert.AdamInEven.τ).loc Cert.AdamInEven.main_arg3) = m ((c.tc : Thread Cert.AdamInEven.nD Cert.AdamInEven.τ).loc Cert.AdamInEven.main_arg3)
      ∧ r.2.mem ((c.tc : Thread Cert.AdamInEven.nD Cert.AdamInEven.τ).loc Cert.AdamInEven.main_arg4) = m ((c.tc : Thread Cert.AdamInEven.nD Cert.AdamInEven.τ).loc Cert.AdamInEven.main_arg4))
      ∧ r.2.sem = fun _ => 0)

def quiescent_AdamInEvenIdeal [hAdamInEvenIdeal : Cert.AdamInEvenIdeal.Facts] : Prop :=
  ∀ (m : (ℓ : Loc Cert.AdamInEvenIdeal.nD Cert.AdamInEvenIdeal.τ Cert.AdamInEvenIdeal.sig) → Buf (Elt Ideal) ℓ) (g : Dev Cert.AdamInEvenIdeal.nD → PrngReg), Pre_AdamInEvenIdeal m →
    θ_run (Cert.AdamInEvenIdeal.defs (F := Ideal)) (onTc (τ := Cert.AdamInEvenIdeal.τ) (Cert.AdamInEvenIdeal.main (F := Ideal))) ⟨m, fun _ => 0, g⟩ (fun r => (∀ c : Dev Cert.AdamInEvenIdeal.nD,
      r.2.mem ((c.tc : Thread Cert.AdamInEvenIdeal.nD Cert.AdamInEvenIdeal.τ).loc Cert.AdamInEvenIdeal.main_arg0) = m ((c.tc : Thread Cert.AdamInEvenIdeal.nD Cert.AdamInEvenIdeal.τ).loc Cert.AdamInEvenIdeal.main_arg0)
      ∧ r.2.mem ((c.tc : Thread Cert.AdamInEvenIdeal.nD Cert.AdamInEvenIdeal.τ).loc Cert.AdamInEvenIdeal.main_arg1) = m ((c.tc : Thread Cert.AdamInEvenIdeal.nD Cert.AdamInEvenIdeal.τ).loc Cert.AdamInEvenIdeal.main_arg1)
      ∧ r.2.mem ((c.tc : Thread Cert.AdamInEvenIdeal.nD Cert.AdamInEvenIdeal.τ).loc Cert.AdamInEvenIdeal.main_arg2) = m ((c.tc : Thread Cert.AdamInEvenIdeal.nD Cert.AdamInEvenIdeal.τ).loc Cert.AdamInEvenIdeal.main_arg2)
      ∧ r.2.mem ((c.tc : Thread Cert.AdamInEvenIdeal.nD Cert.AdamInEvenIdeal.τ).loc Cert.AdamInEvenIdeal.main_arg3) = m ((c.tc : Thread Cert.AdamInEvenIdeal.nD Cert.AdamInEvenIdeal.τ).loc Cert.AdamInEvenIdeal.main_arg3)
      ∧ r.2.mem ((c.tc : Thread Cert.AdamInEvenIdeal.nD Cert.AdamInEvenIdeal.τ).loc Cert.AdamInEvenIdeal.main_arg4) = m ((c.tc : Thread Cert.AdamInEvenIdeal.nD Cert.AdamInEvenIdeal.τ).loc Cert.AdamInEvenIdeal.main_arg4))
      ∧ r.2.sem = fun _ => 0)

def quiescent_AdamInEvenRefIdeal [hAdamInEvenRefIdeal : Cert.AdamInEvenRefIdeal.Facts] : Prop :=
  ∀ (m : (ℓ : Loc Cert.AdamInEvenRefIdeal.nD Cert.AdamInEvenRefIdeal.τ Cert.AdamInEvenRefIdeal.sig) → Buf (Elt Ideal) ℓ) (g : Dev Cert.AdamInEvenRefIdeal.nD → PrngReg), Pre_AdamInEvenRefIdeal m →
    θ_run (Cert.AdamInEvenRefIdeal.defs (F := Ideal)) (onTc (τ := Cert.AdamInEvenRefIdeal.τ) (Cert.AdamInEvenRefIdeal.main (F := Ideal))) ⟨m, fun _ => 0, g⟩ (fun r => (∀ c : Dev Cert.AdamInEvenRefIdeal.nD,
      r.2.mem ((c.tc : Thread Cert.AdamInEvenRefIdeal.nD Cert.AdamInEvenRefIdeal.τ).loc Cert.AdamInEvenRefIdeal.main_arg0) = m ((c.tc : Thread Cert.AdamInEvenRefIdeal.nD Cert.AdamInEvenRefIdeal.τ).loc Cert.AdamInEvenRefIdeal.main_arg0)
      ∧ r.2.mem ((c.tc : Thread Cert.AdamInEvenRefIdeal.nD Cert.AdamInEvenRefIdeal.τ).loc Cert.AdamInEvenRefIdeal.main_arg1) = m ((c.tc : Thread Cert.AdamInEvenRefIdeal.nD Cert.AdamInEvenRefIdeal.τ).loc Cert.AdamInEvenRefIdeal.main_arg1)
      ∧ r.2.mem ((c.tc : Thread Cert.AdamInEvenRefIdeal.nD Cert.AdamInEvenRefIdeal.τ).loc Cert.AdamInEvenRefIdeal.main_arg2) = m ((c.tc : Thread Cert.AdamInEvenRefIdeal.nD Cert.AdamInEvenRefIdeal.τ).loc Cert.AdamInEvenRefIdeal.main_arg2)
      ∧ r.2.mem ((c.tc : Thread Cert.AdamInEvenRefIdeal.nD Cert.AdamInEvenRefIdeal.τ).loc Cert.AdamInEvenRefIdeal.main_arg3) = m ((c.tc : Thread Cert.AdamInEvenRefIdeal.nD Cert.AdamInEvenRefIdeal.τ).loc Cert.AdamInEvenRefIdeal.main_arg3)
      ∧ r.2.mem ((c.tc : Thread Cert.AdamInEvenRefIdeal.nD Cert.AdamInEvenRefIdeal.τ).loc Cert.AdamInEvenRefIdeal.main_arg4) = m ((c.tc : Thread Cert.AdamInEvenRefIdeal.nD Cert.AdamInEvenRefIdeal.τ).loc Cert.AdamInEvenRefIdeal.main_arg4))
      ∧ r.2.sem = fun _ => 0)

def quiescent_AdamInOdd [hAdamInOdd : Cert.AdamInOdd.Facts] : Prop :=
  ∀ (m : (ℓ : Loc Cert.AdamInOdd.nD Cert.AdamInOdd.τ Cert.AdamInOdd.sig) → Buf (Elt Bits) ℓ) (g : Dev Cert.AdamInOdd.nD → PrngReg), Pre_AdamInOdd m →
    θ_run (Cert.AdamInOdd.defs (F := Bits)) (onTc (τ := Cert.AdamInOdd.τ) (Cert.AdamInOdd.main (F := Bits))) ⟨m, fun _ => 0, g⟩ (fun r => (∀ c : Dev Cert.AdamInOdd.nD,
      r.2.mem ((c.tc : Thread Cert.AdamInOdd.nD Cert.AdamInOdd.τ).loc Cert.AdamInOdd.main_arg0) = m ((c.tc : Thread Cert.AdamInOdd.nD Cert.AdamInOdd.τ).loc Cert.AdamInOdd.main_arg0)
      ∧ r.2.mem ((c.tc : Thread Cert.AdamInOdd.nD Cert.AdamInOdd.τ).loc Cert.AdamInOdd.main_arg1) = m ((c.tc : Thread Cert.AdamInOdd.nD Cert.AdamInOdd.τ).loc Cert.AdamInOdd.main_arg1)
      ∧ r.2.mem ((c.tc : Thread Cert.AdamInOdd.nD Cert.AdamInOdd.τ).loc Cert.AdamInOdd.main_arg2) = m ((c.tc : Thread Cert.AdamInOdd.nD Cert.AdamInOdd.τ).loc Cert.AdamInOdd.main_arg2)
      ∧ r.2.mem ((c.tc : Thread Cert.AdamInOdd.nD Cert.AdamInOdd.τ).loc Cert.AdamInOdd.main_arg3) = m ((c.tc : Thread Cert.AdamInOdd.nD Cert.AdamInOdd.τ).loc Cert.AdamInOdd.main_arg3)
      ∧ r.2.mem ((c.tc : Thread Cert.AdamInOdd.nD Cert.AdamInOdd.τ).loc Cert.AdamInOdd.main_arg4) = m ((c.tc : Thread Cert.AdamInOdd.nD Cert.AdamInOdd.τ).loc Cert.AdamInOdd.main_arg4))
      ∧ r.2.sem = fun _ => 0)

def quiescent_AdamInOddIdeal [hAdamInOddIdeal : Cert.AdamInOddIdeal.Facts] : Prop :=
  ∀ (m : (ℓ : Loc Cert.AdamInOddIdeal.nD Cert.AdamInOddIdeal.τ Cert.AdamInOddIdeal.sig) → Buf (Elt Ideal) ℓ) (g : Dev Cert.AdamInOddIdeal.nD → PrngReg), Pre_AdamInOddIdeal m →
    θ_run (Cert.AdamInOddIdeal.defs (F := Ideal)) (onTc (τ := Cert.AdamInOddIdeal.τ) (Cert.AdamInOddIdeal.main (F := Ideal))) ⟨m, fun _ => 0, g⟩ (fun r => (∀ c : Dev Cert.AdamInOddIdeal.nD,
      r.2.mem ((c.tc : Thread Cert.AdamInOddIdeal.nD Cert.AdamInOddIdeal.τ).loc Cert.AdamInOddIdeal.main_arg0) = m ((c.tc : Thread Cert.AdamInOddIdeal.nD Cert.AdamInOddIdeal.τ).loc Cert.AdamInOddIdeal.main_arg0)
      ∧ r.2.mem ((c.tc : Thread Cert.AdamInOddIdeal.nD Cert.AdamInOddIdeal.τ).loc Cert.AdamInOddIdeal.main_arg1) = m ((c.tc : Thread Cert.AdamInOddIdeal.nD Cert.AdamInOddIdeal.τ).loc Cert.AdamInOddIdeal.main_arg1)
      ∧ r.2.mem ((c.tc : Thread Cert.AdamInOddIdeal.nD Cert.AdamInOddIdeal.τ).loc Cert.AdamInOddIdeal.main_arg2) = m ((c.tc : Thread Cert.AdamInOddIdeal.nD Cert.AdamInOddIdeal.τ).loc Cert.AdamInOddIdeal.main_arg2)
      ∧ r.2.mem ((c.tc : Thread Cert.AdamInOddIdeal.nD Cert.AdamInOddIdeal.τ).loc Cert.AdamInOddIdeal.main_arg3) = m ((c.tc : Thread Cert.AdamInOddIdeal.nD Cert.AdamInOddIdeal.τ).loc Cert.AdamInOddIdeal.main_arg3)
      ∧ r.2.mem ((c.tc : Thread Cert.AdamInOddIdeal.nD Cert.AdamInOddIdeal.τ).loc Cert.AdamInOddIdeal.main_arg4) = m ((c.tc : Thread Cert.AdamInOddIdeal.nD Cert.AdamInOddIdeal.τ).loc Cert.AdamInOddIdeal.main_arg4))
      ∧ r.2.sem = fun _ => 0)

def quiescent_AdamInOddRefIdeal [hAdamInOddRefIdeal : Cert.AdamInOddRefIdeal.Facts] : Prop :=
  ∀ (m : (ℓ : Loc Cert.AdamInOddRefIdeal.nD Cert.AdamInOddRefIdeal.τ Cert.AdamInOddRefIdeal.sig) → Buf (Elt Ideal) ℓ) (g : Dev Cert.AdamInOddRefIdeal.nD → PrngReg), Pre_AdamInOddRefIdeal m →
    θ_run (Cert.AdamInOddRefIdeal.defs (F := Ideal)) (onTc (τ := Cert.AdamInOddRefIdeal.τ) (Cert.AdamInOddRefIdeal.main (F := Ideal))) ⟨m, fun _ => 0, g⟩ (fun r => (∀ c : Dev Cert.AdamInOddRefIdeal.nD,
      r.2.mem ((c.tc : Thread Cert.AdamInOddRefIdeal.nD Cert.AdamInOddRefIdeal.τ).loc Cert.AdamInOddRefIdeal.main_arg0) = m ((c.tc : Thread Cert.AdamInOddRefIdeal.nD Cert.AdamInOddRefIdeal.τ).loc Cert.AdamInOddRefIdeal.main_arg0)
      ∧ r.2.mem ((c.tc : Thread Cert.AdamInOddRefIdeal.nD Cert.AdamInOddRefIdeal.τ).loc Cert.AdamInOddRefIdeal.main_arg1) = m ((c.tc : Thread Cert.AdamInOddRefIdeal.nD Cert.AdamInOddRefIdeal.τ).loc Cert.AdamInOddRefIdeal.main_arg1)
      ∧ r.2.mem ((c.tc : Thread Cert.AdamInOddRefIdeal.nD Cert.AdamInOddRefIdeal.τ).loc Cert.AdamInOddRefIdeal.main_arg2) = m ((c.tc : Thread Cert.AdamInOddRefIdeal.nD Cert.AdamInOddRefIdeal.τ).loc Cert.AdamInOddRefIdeal.main_arg2)
      ∧ r.2.mem ((c.tc : Thread Cert.AdamInOddRefIdeal.nD Cert.AdamInOddRefIdeal.τ).loc Cert.AdamInOddRefIdeal.main_arg3) = m ((c.tc : Thread Cert.AdamInOddRefIdeal.nD Cert.AdamInOddRefIdeal.τ).loc Cert.AdamInOddRefIdeal.main_arg3)
      ∧ r.2.mem ((c.tc : Thread Cert.AdamInOddRefIdeal.nD Cert.AdamInOddRefIdeal.τ).loc Cert.AdamInOddRefIdeal.main_arg4) = m ((c.tc : Thread Cert.AdamInOddRefIdeal.nD Cert.AdamInOddRefIdeal.τ).loc Cert.AdamInOddRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3)
      ∧ r.2.mem ((c.tc : Thread Cert.AdamPool.nD Cert.AdamPool.τ).loc Cert.AdamPool.main_arg4) = m ((c.tc : Thread Cert.AdamPool.nD Cert.AdamPool.τ).loc Cert.AdamPool.main_arg4))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3)
      ∧ r.2.mem ((c.tc : Thread Cert.AdamPoolIdeal.nD Cert.AdamPoolIdeal.τ).loc Cert.AdamPoolIdeal.main_arg4) = m ((c.tc : Thread Cert.AdamPoolIdeal.nD Cert.AdamPoolIdeal.τ).loc Cert.AdamPoolIdeal.main_arg4))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3)
      ∧ r.2.mem ((c.tc : Thread Cert.AdamPoolRefIdeal.nD Cert.AdamPoolRefIdeal.τ).loc Cert.AdamPoolRefIdeal.main_arg4) = m ((c.tc : Thread Cert.AdamPoolRefIdeal.nD Cert.AdamPoolRefIdeal.τ).loc Cert.AdamPoolRefIdeal.main_arg4))
      ∧ r.2.sem = fun _ => 0)

def quiescent_AdamSmallA [hAdamSmallA : Cert.AdamSmallA.Facts] : Prop :=
  ∀ (m : (ℓ : Loc Cert.AdamSmallA.nD Cert.AdamSmallA.τ Cert.AdamSmallA.sig) → Buf (Elt Bits) ℓ) (g : Dev Cert.AdamSmallA.nD → PrngReg), Pre_AdamSmallA m →
    θ_run (Cert.AdamSmallA.defs (F := Bits)) (onTc (τ := Cert.AdamSmallA.τ) (Cert.AdamSmallA.main (F := Bits))) ⟨m, fun _ => 0, g⟩ (fun r => (∀ c : Dev Cert.AdamSmallA.nD,
      r.2.mem ((c.tc : Thread Cert.AdamSmallA.nD Cert.AdamSmallA.τ).loc Cert.AdamSmallA.main_arg0) = m ((c.tc : Thread Cert.AdamSmallA.nD Cert.AdamSmallA.τ).loc Cert.AdamSmallA.main_arg0)
      ∧ r.2.mem ((c.tc : Thread Cert.AdamSmallA.nD Cert.AdamSmallA.τ).loc Cert.AdamSmallA.main_arg1) = m ((c.tc : Thread Cert.AdamSmallA.nD Cert.AdamSmallA.τ).loc Cert.AdamSmallA.main_arg1)
      ∧ r.2.mem ((c.tc : Thread Cert.AdamSmallA.nD Cert.AdamSmallA.τ).loc Cert.AdamSmallA.main_arg2) = m ((c.tc : Thread Cert.AdamSmallA.nD Cert.AdamSmallA.τ).loc Cert.AdamSmallA.main_arg2)
      ∧ r.2.mem ((c.tc : Thread Cert.AdamSmallA.nD Cert.AdamSmallA.τ).loc Cert.AdamSmallA.main_arg3) = m ((c.tc : Thread Cert.AdamSmallA.nD Cert.AdamSmallA.τ).loc Cert.AdamSmallA.main_arg3)
      ∧ r.2.mem ((c.tc : Thread Cert.AdamSmallA.nD Cert.AdamSmallA.τ).loc Cert.AdamSmallA.main_arg4) = m ((c.tc : Thread Cert.AdamSmallA.nD Cert.AdamSmallA.τ).loc Cert.AdamSmallA.main_arg4)
      ∧ r.2.mem ((c.tc : Thread Cert.AdamSmallA.nD Cert.AdamSmallA.τ).loc Cert.AdamSmallA.main_arg5) = m ((c.tc : Thread Cert.AdamSmallA.nD Cert.AdamSmallA.τ).loc Cert.AdamSmallA.main_arg5)
      ∧ r.2.mem ((c.tc : Thread Cert.AdamSmallA.nD Cert.AdamSmallA.τ).loc Cert.AdamSmallA.main_arg6) = m ((c.tc : Thread Cert.AdamSmallA.nD Cert.AdamSmallA.τ).loc Cert.AdamSmallA.main_arg6)
      ∧ r.2.mem ((c.tc : Thread Cert.AdamSmallA.nD Cert.AdamSmallA.τ).loc Cert.AdamSmallA.main_arg7) = m ((c.tc : Thread Cert.AdamSmallA.nD Cert.AdamSmallA.τ).loc Cert.AdamSmallA.main_arg7)
      ∧ r.2.mem ((c.tc : Thread Cert.AdamSmallA.nD Cert.AdamSmallA.τ).loc Cert.AdamSmallA.main_arg8) = m ((c.tc : Thread Cert.AdamSmallA.nD Cert.AdamSmallA.τ).loc Cert.AdamSmallA.main_arg8)
      ∧ r.2.mem ((c.tc : Thread Cert.AdamSmallA.nD Cert.AdamSmallA.τ).loc Cert.AdamSmallA.main_arg9) = m ((c.tc : Thread Cert.AdamSmallA.nD Cert.AdamSmallA.τ).loc Cert.AdamSmallA.main_arg9)
      ∧ r.2.mem ((c.tc : Thread Cert.AdamSmallA.nD Cert.AdamSmallA.τ).loc Cert.AdamSmallA.main_arg10) = m ((c.tc : Thread Cert.AdamSmallA.nD Cert.AdamSmallA.τ).loc Cert.AdamSmallA.main_arg10)
      ∧ r.2.mem ((c.tc : Thread Cert.AdamSmallA.nD Cert.AdamSmallA.τ).loc Cert.AdamSmallA.main_arg11) = m ((c.tc : Thread Cert.AdamSmallA.nD Cert.AdamSmallA.τ).loc Cert.AdamSmallA.main_arg11))
      ∧ r.2.sem = fun _ => 0)

def quiescent_AdamSmallAIdeal [hAdamSmallAIdeal : Cert.AdamSmallAIdeal.Facts] : Prop :=
  ∀ (m : (ℓ : Loc Cert.AdamSmallAIdeal.nD Cert.AdamSmallAIdeal.τ Cert.AdamSmallAIdeal.sig) → Buf (Elt Ideal) ℓ) (g : Dev Cert.AdamSmallAIdeal.nD → PrngReg), Pre_AdamSmallAIdeal m →
    θ_run (Cert.AdamSmallAIdeal.defs (F := Ideal)) (onTc (τ := Cert.AdamSmallAIdeal.τ) (Cert.AdamSmallAIdeal.main (F := Ideal))) ⟨m, fun _ => 0, g⟩ (fun r => (∀ c : Dev Cert.AdamSmallAIdeal.nD,
      r.2.mem ((c.tc : Thread Cert.AdamSmallAIdeal.nD Cert.AdamSmallAIdeal.τ).loc Cert.AdamSmallAIdeal.main_arg0) = m ((c.tc : Thread Cert.AdamSmallAIdeal.nD Cert.AdamSmallAIdeal.τ).loc Cert.AdamSmallAIdeal.main_arg0)
      ∧ r.2.mem ((c.tc : Thread Cert.AdamSmallAIdeal.nD Cert.AdamSmallAIdeal.τ).loc Cert.AdamSmallAIdeal.main_arg1) = m ((c.tc : Thread Cert.AdamSmallAIdeal.nD Cert.AdamSmallAIdeal.τ).loc Cert.AdamSmallAIdeal.main_arg1)
      ∧ r.2.mem ((c.tc : Thread Cert.AdamSmallAIdeal.nD Cert.AdamSmallAIdeal.τ).loc Cert.AdamSmallAIdeal.main_arg2) = m ((c.tc : Thread Cert.AdamSmallAIdeal.nD Cert.AdamSmallAIdeal.τ).loc Cert.AdamSmallAIdeal.main_arg2)
      ∧ r.2.mem ((c.tc : Thread Cert.AdamSmallAIdeal.nD Cert.AdamSmallAIdeal.τ).loc Cert.AdamSmallAIdeal.main_arg3) = m ((c.tc : Thread Cert.AdamSmallAIdeal.nD Cert.AdamSmallAIdeal.τ).loc Cert.AdamSmallAIdeal.main_arg3)
      ∧ r.2.mem ((c.tc : Thread Cert.AdamSmallAIdeal.nD Cert.AdamSmallAIdeal.τ).loc Cert.AdamSmallAIdeal.main_arg4) = m ((c.tc : Thread Cert.AdamSmallAIdeal.nD Cert.AdamSmallAIdeal.τ).loc Cert.AdamSmallAIdeal.main_arg4)
      ∧ r.2.mem ((c.tc : Thread Cert.AdamSmallAIdeal.nD Cert.AdamSmallAIdeal.τ).loc Cert.AdamSmallAIdeal.main_arg5) = m ((c.tc : Thread Cert.AdamSmallAIdeal.nD Cert.AdamSmallAIdeal.τ).loc Cert.AdamSmallAIdeal.main_arg5)
      ∧ r.2.mem ((c.tc : Thread Cert.AdamSmallAIdeal.nD Cert.AdamSmallAIdeal.τ).loc Cert.AdamSmallAIdeal.main_arg6) = m ((c.tc : Thread Cert.AdamSmallAIdeal.nD Cert.AdamSmallAIdeal.τ).loc Cert.AdamSmallAIdeal.main_arg6)
      ∧ r.2.mem ((c.tc : Thread Cert.AdamSmallAIdeal.nD Cert.AdamSmallAIdeal.τ).loc Cert.AdamSmallAIdeal.main_arg7) = m ((c.tc : Thread Cert.AdamSmallAIdeal.nD Cert.AdamSmallAIdeal.τ).loc Cert.AdamSmallAIdeal.main_arg7)
      ∧ r.2.mem ((c.tc : Thread Cert.AdamSmallAIdeal.nD Cert.AdamSmallAIdeal.τ).loc Cert.AdamSmallAIdeal.main_arg8) = m ((c.tc : Thread Cert.AdamSmallAIdeal.nD Cert.AdamSmallAIdeal.τ).loc Cert.AdamSmallAIdeal.main_arg8)
      ∧ r.2.mem ((c.tc : Thread Cert.AdamSmallAIdeal.nD Cert.AdamSmallAIdeal.τ).loc Cert.AdamSmallAIdeal.main_arg9) = m ((c.tc : Thread Cert.AdamSmallAIdeal.nD Cert.AdamSmallAIdeal.τ).loc Cert.AdamSmallAIdeal.main_arg9)
      ∧ r.2.mem ((c.tc : Thread Cert.AdamSmallAIdeal.nD Cert.AdamSmallAIdeal.τ).loc Cert.AdamSmallAIdeal.main_arg10) = m ((c.tc : Thread Cert.AdamSmallAIdeal.nD Cert.AdamSmallAIdeal.τ).loc Cert.AdamSmallAIdeal.main_arg10)
      ∧ r.2.mem ((c.tc : Thread Cert.AdamSmallAIdeal.nD Cert.AdamSmallAIdeal.τ).loc Cert.AdamSmallAIdeal.main_arg11) = m ((c.tc : Thread Cert.AdamSmallAIdeal.nD Cert.AdamSmallAIdeal.τ).loc Cert.AdamSmallAIdeal.main_arg11))
      ∧ r.2.sem = fun _ => 0)

def quiescent_AdamSmallARefIdeal [hAdamSmallARefIdeal : Cert.AdamSmallARefIdeal.Facts] : Prop :=
  ∀ (m : (ℓ : Loc Cert.AdamSmallARefIdeal.nD Cert.AdamSmallARefIdeal.τ Cert.AdamSmallARefIdeal.sig) → Buf (Elt Ideal) ℓ) (g : Dev Cert.AdamSmallARefIdeal.nD → PrngReg), Pre_AdamSmallARefIdeal m →
    θ_run (Cert.AdamSmallARefIdeal.defs (F := Ideal)) (onTc (τ := Cert.AdamSmallARefIdeal.τ) (Cert.AdamSmallARefIdeal.main (F := Ideal))) ⟨m, fun _ => 0, g⟩ (fun r => (∀ c : Dev Cert.AdamSmallARefIdeal.nD,
      r.2.mem ((c.tc : Thread Cert.AdamSmallARefIdeal.nD Cert.AdamSmallARefIdeal.τ).loc Cert.AdamSmallARefIdeal.main_arg0) = m ((c.tc : Thread Cert.AdamSmallARefIdeal.nD Cert.AdamSmallARefIdeal.τ).loc Cert.AdamSmallARefIdeal.main_arg0)
      ∧ r.2.mem ((c.tc : Thread Cert.AdamSmallARefIdeal.nD Cert.AdamSmallARefIdeal.τ).loc Cert.AdamSmallARefIdeal.main_arg1) = m ((c.tc : Thread Cert.AdamSmallARefIdeal.nD Cert.AdamSmallARefIdeal.τ).loc Cert.AdamSmallARefIdeal.main_arg1)
      ∧ r.2.mem ((c.tc : Thread Cert.AdamSmallARefIdeal.nD Cert.AdamSmallARefIdeal.τ).loc Cert.AdamSmallARefIdeal.main_arg2) = m ((c.tc : Thread Cert.AdamSmallARefIdeal.nD Cert.AdamSmallARefIdeal.τ).loc Cert.AdamSmallARefIdeal.main_arg2)
      ∧ r.2.mem ((c.tc : Thread Cert.AdamSmallARefIdeal.nD Cert.AdamSmallARefIdeal.τ).loc Cert.AdamSmallARefIdeal.main_arg3) = m ((c.tc : Thread Cert.AdamSmallARefIdeal.nD Cert.AdamSmallARefIdeal.τ).loc Cert.AdamSmallARefIdeal.main_arg3)
      ∧ r.2.mem ((c.tc : Thread Cert.AdamSmallARefIdeal.nD Cert.AdamSmallARefIdeal.τ).loc Cert.AdamSmallARefIdeal.main_arg4) = m ((c.tc : Thread Cert.AdamSmallARefIdeal.nD Cert.AdamSmallARefIdeal.τ).loc Cert.AdamSmallARefIdeal.main_arg4)
      ∧ r.2.mem ((c.tc : Thread Cert.AdamSmallARefIdeal.nD Cert.AdamSmallARefIdeal.τ).loc Cert.AdamSmallARefIdeal.main_arg5) = m ((c.tc : Thread Cert.AdamSmallARefIdeal.nD Cert.AdamSmallARefIdeal.τ).loc Cert.AdamSmallARefIdeal.main_arg5)
      ∧ r.2.mem ((c.tc : Thread Cert.AdamSmallARefIdeal.nD Cert.AdamSmallARefIdeal.τ).loc Cert.AdamSmallARefIdeal.main_arg6) = m ((c.tc : Thread Cert.AdamSmallARefIdeal.nD Cert.AdamSmallARefIdeal.τ).loc Cert.AdamSmallARefIdeal.main_arg6)
      ∧ r.2.mem ((c.tc : Thread Cert.AdamSmallARefIdeal.nD Cert.AdamSmallARefIdeal.τ).loc Cert.AdamSmallARefIdeal.main_arg7) = m ((c.tc : Thread Cert.AdamSmallARefIdeal.nD Cert.AdamSmallARefIdeal.τ).loc Cert.AdamSmallARefIdeal.main_arg7)
      ∧ r.2.mem ((c.tc : Thread Cert.AdamSmallARefIdeal.nD Cert.AdamSmallARefIdeal.τ).loc Cert.AdamSmallARefIdeal.main_arg8) = m ((c.tc : Thread Cert.AdamSmallARefIdeal.nD Cert.AdamSmallARefIdeal.τ).loc Cert.AdamSmallARefIdeal.main_arg8)
      ∧ r.2.mem ((c.tc : Thread Cert.AdamSmallARefIdeal.nD Cert.AdamSmallARefIdeal.τ).loc Cert.AdamSmallARefIdeal.main_arg9) = m ((c.tc : Thread Cert.AdamSmallARefIdeal.nD Cert.AdamSmallARefIdeal.τ).loc Cert.AdamSmallARefIdeal.main_arg9)
      ∧ r.2.mem ((c.tc : Thread Cert.AdamSmallARefIdeal.nD Cert.AdamSmallARefIdeal.τ).loc Cert.AdamSmallARefIdeal.main_arg10) = m ((c.tc : Thread Cert.AdamSmallARefIdeal.nD Cert.AdamSmallARefIdeal.τ).loc Cert.AdamSmallARefIdeal.main_arg10)
      ∧ r.2.mem ((c.tc : Thread Cert.AdamSmallARefIdeal.nD Cert.AdamSmallARefIdeal.τ).loc Cert.AdamSmallARefIdeal.main_arg11) = m ((c.tc : Thread Cert.AdamSmallARefIdeal.nD Cert.AdamSmallARefIdeal.τ).loc Cert.AdamSmallARefIdeal.main_arg11))
      ∧ r.2.sem = fun _ => 0)

def quiescent_AdamSmallB [hAdamSmallB : Cert.AdamSmallB.Facts] : Prop :=
  ∀ (m : (ℓ : Loc Cert.AdamSmallB.nD Cert.AdamSmallB.τ Cert.AdamSmallB.sig) → Buf (Elt Bits) ℓ) (g : Dev Cert.AdamSmallB.nD → PrngReg), Pre_AdamSmallB m →
    θ_run (Cert.AdamSmallB.defs (F := Bits)) (onTc (τ := Cert.AdamSmallB.τ) (Cert.AdamSmallB.main (F := Bits))) ⟨m, fun _ => 0, g⟩ (fun r => (∀ c : Dev Cert.AdamSmallB.nD,
      r.2.mem ((c.tc : Thread Cert.AdamSmallB.nD Cert.AdamSmallB.τ).loc Cert.AdamSmallB.main_arg0) = m ((c.tc : Thread Cert.AdamSmallB.nD Cert.AdamSmallB.τ).loc Cert.AdamSmallB.main_arg0)
      ∧ r.2.mem ((c.tc : Thread Cert.AdamSmallB.nD Cert.AdamSmallB.τ).loc Cert.AdamSmallB.main_arg1) = m ((c.tc : Thread Cert.AdamSmallB.nD Cert.AdamSmallB.τ).loc Cert.AdamSmallB.main_arg1)
      ∧ r.2.mem ((c.tc : Thread Cert.AdamSmallB.nD Cert.AdamSmallB.τ).loc Cert.AdamSmallB.main_arg2) = m ((c.tc : Thread Cert.AdamSmallB.nD Cert.AdamSmallB.τ).loc Cert.AdamSmallB.main_arg2)
      ∧ r.2.mem ((c.tc : Thread Cert.AdamSmallB.nD Cert.AdamSmallB.τ).loc Cert.AdamSmallB.main_arg3) = m ((c.tc : Thread Cert.AdamSmallB.nD Cert.AdamSmallB.τ).loc Cert.AdamSmallB.main_arg3)
      ∧ r.2.mem ((c.tc : Thread Cert.AdamSmallB.nD Cert.AdamSmallB.τ).loc Cert.AdamSmallB.main_arg4) = m ((c.tc : Thread Cert.AdamSmallB.nD Cert.AdamSmallB.τ).loc Cert.AdamSmallB.main_arg4)
      ∧ r.2.mem ((c.tc : Thread Cert.AdamSmallB.nD Cert.AdamSmallB.τ).loc Cert.AdamSmallB.main_arg5) = m ((c.tc : Thread Cert.AdamSmallB.nD Cert.AdamSmallB.τ).loc Cert.AdamSmallB.main_arg5)
      ∧ r.2.mem ((c.tc : Thread Cert.AdamSmallB.nD Cert.AdamSmallB.τ).loc Cert.AdamSmallB.main_arg6) = m ((c.tc : Thread Cert.AdamSmallB.nD Cert.AdamSmallB.τ).loc Cert.AdamSmallB.main_arg6)
      ∧ r.2.mem ((c.tc : Thread Cert.AdamSmallB.nD Cert.AdamSmallB.τ).loc Cert.AdamSmallB.main_arg7) = m ((c.tc : Thread Cert.AdamSmallB.nD Cert.AdamSmallB.τ).loc Cert.AdamSmallB.main_arg7)
      ∧ r.2.mem ((c.tc : Thread Cert.AdamSmallB.nD Cert.AdamSmallB.τ).loc Cert.AdamSmallB.main_arg8) = m ((c.tc : Thread Cert.AdamSmallB.nD Cert.AdamSmallB.τ).loc Cert.AdamSmallB.main_arg8)
      ∧ r.2.mem ((c.tc : Thread Cert.AdamSmallB.nD Cert.AdamSmallB.τ).loc Cert.AdamSmallB.main_arg9) = m ((c.tc : Thread Cert.AdamSmallB.nD Cert.AdamSmallB.τ).loc Cert.AdamSmallB.main_arg9)
      ∧ r.2.mem ((c.tc : Thread Cert.AdamSmallB.nD Cert.AdamSmallB.τ).loc Cert.AdamSmallB.main_arg10) = m ((c.tc : Thread Cert.AdamSmallB.nD Cert.AdamSmallB.τ).loc Cert.AdamSmallB.main_arg10)
      ∧ r.2.mem ((c.tc : Thread Cert.AdamSmallB.nD Cert.AdamSmallB.τ).loc Cert.AdamSmallB.main_arg11) = m ((c.tc : Thread Cert.AdamSmallB.nD Cert.AdamSmallB.τ).loc Cert.AdamSmallB.main_arg11))
      ∧ r.2.sem = fun _ => 0)

def quiescent_AdamSmallBIdeal [hAdamSmallBIdeal : Cert.AdamSmallBIdeal.Facts] : Prop :=
  ∀ (m : (ℓ : Loc Cert.AdamSmallBIdeal.nD Cert.AdamSmallBIdeal.τ Cert.AdamSmallBIdeal.sig) → Buf (Elt Ideal) ℓ) (g : Dev Cert.AdamSmallBIdeal.nD → PrngReg), Pre_AdamSmallBIdeal m →
    θ_run (Cert.AdamSmallBIdeal.defs (F := Ideal)) (onTc (τ := Cert.AdamSmallBIdeal.τ) (Cert.AdamSmallBIdeal.main (F := Ideal))) ⟨m, fun _ => 0, g⟩ (fun r => (∀ c : Dev Cert.AdamSmallBIdeal.nD,
      r.2.mem ((c.tc : Thread Cert.AdamSmallBIdeal.nD Cert.AdamSmallBIdeal.τ).loc Cert.AdamSmallBIdeal.main_arg0) = m ((c.tc : Thread Cert.AdamSmallBIdeal.nD Cert.AdamSmallBIdeal.τ).loc Cert.AdamSmallBIdeal.main_arg0)
      ∧ r.2.mem ((c.tc : Thread Cert.AdamSmallBIdeal.nD Cert.AdamSmallBIdeal.τ).loc Cert.AdamSmallBIdeal.main_arg1) = m ((c.tc : Thread Cert.AdamSmallBIdeal.nD Cert.AdamSmallBIdeal.τ).loc Cert.AdamSmallBIdeal.main_arg1)
      ∧ r.2.mem ((c.tc : Thread Cert.AdamSmallBIdeal.nD Cert.AdamSmallBIdeal.τ).loc Cert.AdamSmallBIdeal.main_arg2) = m ((c.tc : Thread Cert.AdamSmallBIdeal.nD Cert.AdamSmallBIdeal.τ).loc Cert.AdamSmallBIdeal.main_arg2)
      ∧ r.2.mem ((c.tc : Thread Cert.AdamSmallBIdeal.nD Cert.AdamSmallBIdeal.τ).loc Cert.AdamSmallBIdeal.main_arg3) = m ((c.tc : Thread Cert.AdamSmallBIdeal.nD Cert.AdamSmallBIdeal.τ).loc Cert.AdamSmallBIdeal.main_arg3)
      ∧ r.2.mem ((c.tc : Thread Cert.AdamSmallBIdeal.nD Cert.AdamSmallBIdeal.τ).loc Cert.AdamSmallBIdeal.main_arg4) = m ((c.tc : Thread Cert.AdamSmallBIdeal.nD Cert.AdamSmallBIdeal.τ).loc Cert.AdamSmallBIdeal.main_arg4)
      ∧ r.2.mem ((c.tc : Thread Cert.AdamSmallBIdeal.nD Cert.AdamSmallBIdeal.τ).loc Cert.AdamSmallBIdeal.main_arg5) = m ((c.tc : Thread Cert.AdamSmallBIdeal.nD Cert.AdamSmallBIdeal.τ).loc Cert.AdamSmallBIdeal.main_arg5)
      ∧ r.2.mem ((c.tc : Thread Cert.AdamSmallBIdeal.nD Cert.AdamSmallBIdeal.τ).loc Cert.AdamSmallBIdeal.main_arg6) = m ((c.tc : Thread Cert.AdamSmallBIdeal.nD Cert.AdamSmallBIdeal.τ).loc Cert.AdamSmallBIdeal.main_arg6)
      ∧ r.2.mem ((c.tc : Thread Cert.AdamSmallBIdeal.nD Cert.AdamSmallBIdeal.τ).loc Cert.AdamSmallBIdeal.main_arg7) = m ((c.tc : Thread Cert.AdamSmallBIdeal.nD Cert.AdamSmallBIdeal.τ).loc Cert.AdamSmallBIdeal.main_arg7)
      ∧ r.2.mem ((c.tc : Thread Cert.AdamSmallBIdeal.nD Cert.AdamSmallBIdeal.τ).loc Cert.AdamSmallBIdeal.main_arg8) = m ((c.tc : Thread Cert.AdamSmallBIdeal.nD Cert.AdamSmallBIdeal.τ).loc Cert.AdamSmallBIdeal.main_arg8)
      ∧ r.2.mem ((c.tc : Thread Cert.AdamSmallBIdeal.nD Cert.AdamSmallBIdeal.τ).loc Cert.AdamSmallBIdeal.main_arg9) = m ((c.tc : Thread Cert.AdamSmallBIdeal.nD Cert.AdamSmallBIdeal.τ).loc Cert.AdamSmallBIdeal.main_arg9)
      ∧ r.2.mem ((c.tc : Thread Cert.AdamSmallBIdeal.nD Cert.AdamSmallBIdeal.τ).loc Cert.AdamSmallBIdeal.main_arg10) = m ((c.tc : Thread Cert.AdamSmallBIdeal.nD Cert.AdamSmallBIdeal.τ).loc Cert.AdamSmallBIdeal.main_arg10)
      ∧ r.2.mem ((c.tc : Thread Cert.AdamSmallBIdeal.nD Cert.AdamSmallBIdeal.τ).loc Cert.AdamSmallBIdeal.main_arg11) = m ((c.tc : Thread Cert.AdamSmallBIdeal.nD Cert.AdamSmallBIdeal.τ).loc Cert.AdamSmallBIdeal.main_arg11))
      ∧ r.2.sem = fun _ => 0)

def quiescent_AdamSmallBRefIdeal [hAdamSmallBRefIdeal : Cert.AdamSmallBRefIdeal.Facts] : Prop :=
  ∀ (m : (ℓ : Loc Cert.AdamSmallBRefIdeal.nD Cert.AdamSmallBRefIdeal.τ Cert.AdamSmallBRefIdeal.sig) → Buf (Elt Ideal) ℓ) (g : Dev Cert.AdamSmallBRefIdeal.nD → PrngReg), Pre_AdamSmallBRefIdeal m →
    θ_run (Cert.AdamSmallBRefIdeal.defs (F := Ideal)) (onTc (τ := Cert.AdamSmallBRefIdeal.τ) (Cert.AdamSmallBRefIdeal.main (F := Ideal))) ⟨m, fun _ => 0, g⟩ (fun r => (∀ c : Dev Cert.AdamSmallBRefIdeal.nD,
      r.2.mem ((c.tc : Thread Cert.AdamSmallBRefIdeal.nD Cert.AdamSmallBRefIdeal.τ).loc Cert.AdamSmallBRefIdeal.main_arg0) = m ((c.tc : Thread Cert.AdamSmallBRefIdeal.nD Cert.AdamSmallBRefIdeal.τ).loc Cert.AdamSmallBRefIdeal.main_arg0)
      ∧ r.2.mem ((c.tc : Thread Cert.AdamSmallBRefIdeal.nD Cert.AdamSmallBRefIdeal.τ).loc Cert.AdamSmallBRefIdeal.main_arg1) = m ((c.tc : Thread Cert.AdamSmallBRefIdeal.nD Cert.AdamSmallBRefIdeal.τ).loc Cert.AdamSmallBRefIdeal.main_arg1)
      ∧ r.2.mem ((c.tc : Thread Cert.AdamSmallBRefIdeal.nD Cert.AdamSmallBRefIdeal.τ).loc Cert.AdamSmallBRefIdeal.main_arg2) = m ((c.tc : Thread Cert.AdamSmallBRefIdeal.nD Cert.AdamSmallBRefIdeal.τ).loc Cert.AdamSmallBRefIdeal.main_arg2)
      ∧ r.2.mem ((c.tc : Thread Cert.AdamSmallBRefIdeal.nD Cert.AdamSmallBRefIdeal.τ).loc Cert.AdamSmallBRefIdeal.main_arg3) = m ((c.tc : Thread Cert.AdamSmallBRefIdeal.nD Cert.AdamSmallBRefIdeal.τ).loc Cert.AdamSmallBRefIdeal.main_arg3)
      ∧ r.2.mem ((c.tc : Thread Cert.AdamSmallBRefIdeal.nD Cert.AdamSmallBRefIdeal.τ).loc Cert.AdamSmallBRefIdeal.main_arg4) = m ((c.tc : Thread Cert.AdamSmallBRefIdeal.nD Cert.AdamSmallBRefIdeal.τ).loc Cert.AdamSmallBRefIdeal.main_arg4)
      ∧ r.2.mem ((c.tc : Thread Cert.AdamSmallBRefIdeal.nD Cert.AdamSmallBRefIdeal.τ).loc Cert.AdamSmallBRefIdeal.main_arg5) = m ((c.tc : Thread Cert.AdamSmallBRefIdeal.nD Cert.AdamSmallBRefIdeal.τ).loc Cert.AdamSmallBRefIdeal.main_arg5)
      ∧ r.2.mem ((c.tc : Thread Cert.AdamSmallBRefIdeal.nD Cert.AdamSmallBRefIdeal.τ).loc Cert.AdamSmallBRefIdeal.main_arg6) = m ((c.tc : Thread Cert.AdamSmallBRefIdeal.nD Cert.AdamSmallBRefIdeal.τ).loc Cert.AdamSmallBRefIdeal.main_arg6)
      ∧ r.2.mem ((c.tc : Thread Cert.AdamSmallBRefIdeal.nD Cert.AdamSmallBRefIdeal.τ).loc Cert.AdamSmallBRefIdeal.main_arg7) = m ((c.tc : Thread Cert.AdamSmallBRefIdeal.nD Cert.AdamSmallBRefIdeal.τ).loc Cert.AdamSmallBRefIdeal.main_arg7)
      ∧ r.2.mem ((c.tc : Thread Cert.AdamSmallBRefIdeal.nD Cert.AdamSmallBRefIdeal.τ).loc Cert.AdamSmallBRefIdeal.main_arg8) = m ((c.tc : Thread Cert.AdamSmallBRefIdeal.nD Cert.AdamSmallBRefIdeal.τ).loc Cert.AdamSmallBRefIdeal.main_arg8)
      ∧ r.2.mem ((c.tc : Thread Cert.AdamSmallBRefIdeal.nD Cert.AdamSmallBRefIdeal.τ).loc Cert.AdamSmallBRefIdeal.main_arg9) = m ((c.tc : Thread Cert.AdamSmallBRefIdeal.nD Cert.AdamSmallBRefIdeal.τ).loc Cert.AdamSmallBRefIdeal.main_arg9)
      ∧ r.2.mem ((c.tc : Thread Cert.AdamSmallBRefIdeal.nD Cert.AdamSmallBRefIdeal.τ).loc Cert.AdamSmallBRefIdeal.main_arg10) = m ((c.tc : Thread Cert.AdamSmallBRefIdeal.nD Cert.AdamSmallBRefIdeal.τ).loc Cert.AdamSmallBRefIdeal.main_arg10)
      ∧ r.2.mem ((c.tc : Thread Cert.AdamSmallBRefIdeal.nD Cert.AdamSmallBRefIdeal.τ).loc Cert.AdamSmallBRefIdeal.main_arg11) = m ((c.tc : Thread Cert.AdamSmallBRefIdeal.nD Cert.AdamSmallBRefIdeal.τ).loc Cert.AdamSmallBRefIdeal.main_arg11))
      ∧ r.2.sem = fun _ => 0)

def quiescent_AdamSmallC [hAdamSmallC : Cert.AdamSmallC.Facts] : Prop :=
  ∀ (m : (ℓ : Loc Cert.AdamSmallC.nD Cert.AdamSmallC.τ Cert.AdamSmallC.sig) → Buf (Elt Bits) ℓ) (g : Dev Cert.AdamSmallC.nD → PrngReg), Pre_AdamSmallC m →
    θ_run (Cert.AdamSmallC.defs (F := Bits)) (onTc (τ := Cert.AdamSmallC.τ) (Cert.AdamSmallC.main (F := Bits))) ⟨m, fun _ => 0, g⟩ (fun r => (∀ c : Dev Cert.AdamSmallC.nD,
      r.2.mem ((c.tc : Thread Cert.AdamSmallC.nD Cert.AdamSmallC.τ).loc Cert.AdamSmallC.main_arg0) = m ((c.tc : Thread Cert.AdamSmallC.nD Cert.AdamSmallC.τ).loc Cert.AdamSmallC.main_arg0)
      ∧ r.2.mem ((c.tc : Thread Cert.AdamSmallC.nD Cert.AdamSmallC.τ).loc Cert.AdamSmallC.main_arg1) = m ((c.tc : Thread Cert.AdamSmallC.nD Cert.AdamSmallC.τ).loc Cert.AdamSmallC.main_arg1)
      ∧ r.2.mem ((c.tc : Thread Cert.AdamSmallC.nD Cert.AdamSmallC.τ).loc Cert.AdamSmallC.main_arg2) = m ((c.tc : Thread Cert.AdamSmallC.nD Cert.AdamSmallC.τ).loc Cert.AdamSmallC.main_arg2)
      ∧ r.2.mem ((c.tc : Thread Cert.AdamSmallC.nD Cert.AdamSmallC.τ).loc Cert.AdamSmallC.main_arg3) = m ((c.tc : Thread Cert.AdamSmallC.nD Cert.AdamSmallC.τ).loc Cert.AdamSmallC.main_arg3)
      ∧ r.2.mem ((c.tc : Thread Cert.AdamSmallC.nD Cert.AdamSmallC.τ).loc Cert.AdamSmallC.main_arg4) = m ((c.tc : Thread Cert.AdamSmallC.nD Cert.AdamSmallC.τ).loc Cert.AdamSmallC.main_arg4)
      ∧ r.2.mem ((c.tc : Thread Cert.AdamSmallC.nD Cert.AdamSmallC.τ).loc Cert.AdamSmallC.main_arg5) = m ((c.tc : Thread Cert.AdamSmallC.nD Cert.AdamSmallC.τ).loc Cert.AdamSmallC.main_arg5)
      ∧ r.2.mem ((c.tc : Thread Cert.AdamSmallC.nD Cert.AdamSmallC.τ).loc Cert.AdamSmallC.main_arg6) = m ((c.tc : Thread Cert.AdamSmallC.nD Cert.AdamSmallC.τ).loc Cert.AdamSmallC.main_arg6)
      ∧ r.2.mem ((c.tc : Thread Cert.AdamSmallC.nD Cert.AdamSmallC.τ).loc Cert.AdamSmallC.main_arg7) = m ((c.tc : Thread Cert.AdamSmallC.nD Cert.AdamSmallC.τ).loc Cert.AdamSmallC.main_arg7))
      ∧ r.2.sem = fun _ => 0)

def quiescent_AdamSmallCIdeal [hAdamSmallCIdeal : Cert.AdamSmallCIdeal.Facts] : Prop :=
  ∀ (m : (ℓ : Loc Cert.AdamSmallCIdeal.nD Cert.AdamSmallCIdeal.τ Cert.AdamSmallCIdeal.sig) → Buf (Elt Ideal) ℓ) (g : Dev Cert.AdamSmallCIdeal.nD → PrngReg), Pre_AdamSmallCIdeal m →
    θ_run (Cert.AdamSmallCIdeal.defs (F := Ideal)) (onTc (τ := Cert.AdamSmallCIdeal.τ) (Cert.AdamSmallCIdeal.main (F := Ideal))) ⟨m, fun _ => 0, g⟩ (fun r => (∀ c : Dev Cert.AdamSmallCIdeal.nD,
      r.2.mem ((c.tc : Thread Cert.AdamSmallCIdeal.nD Cert.AdamSmallCIdeal.τ).loc Cert.AdamSmallCIdeal.main_arg0) = m ((c.tc : Thread Cert.AdamSmallCIdeal.nD Cert.AdamSmallCIdeal.τ).loc Cert.AdamSmallCIdeal.main_arg0)
      ∧ r.2.mem ((c.tc : Thread Cert.AdamSmallCIdeal.nD Cert.AdamSmallCIdeal.τ).loc Cert.AdamSmallCIdeal.main_arg1) = m ((c.tc : Thread Cert.AdamSmallCIdeal.nD Cert.AdamSmallCIdeal.τ).loc Cert.AdamSmallCIdeal.main_arg1)
      ∧ r.2.mem ((c.tc : Thread Cert.AdamSmallCIdeal.nD Cert.AdamSmallCIdeal.τ).loc Cert.AdamSmallCIdeal.main_arg2) = m ((c.tc : Thread Cert.AdamSmallCIdeal.nD Cert.AdamSmallCIdeal.τ).loc Cert.AdamSmallCIdeal.main_arg2)
      ∧ r.2.mem ((c.tc : Thread Cert.AdamSmallCIdeal.nD Cert.AdamSmallCIdeal.τ).loc Cert.AdamSmallCIdeal.main_arg3) = m ((c.tc : Thread Cert.AdamSmallCIdeal.nD Cert.AdamSmallCIdeal.τ).loc Cert.AdamSmallCIdeal.main_arg3)
      ∧ r.2.mem ((c.tc : Thread Cert.AdamSmallCIdeal.nD Cert.AdamSmallCIdeal.τ).loc Cert.AdamSmallCIdeal.main_arg4) = m ((c.tc : Thread Cert.AdamSmallCIdeal.nD Cert.AdamSmallCIdeal.τ).loc Cert.AdamSmallCIdeal.main_arg4)
      ∧ r.2.mem ((c.tc : Thread Cert.AdamSmallCIdeal.nD Cert.AdamSmallCIdeal.τ).loc Cert.AdamSmallCIdeal.main_arg5) = m ((c.tc : Thread Cert.AdamSmallCIdeal.nD Cert.AdamSmallCIdeal.τ).loc Cert.AdamSmallCIdeal.main_arg5)
      ∧ r.2.mem ((c.tc : Thread Cert.AdamSmallCIdeal.nD Cert.AdamSmallCIdeal.τ).loc Cert.AdamSmallCIdeal.main_arg6) = m ((c.tc : Thread Cert.AdamSmallCIdeal.nD Cert.AdamSmallCIdeal.τ).loc Cert.AdamSmallCIdeal.main_arg6)
      ∧ r.2.mem ((c.tc : Thread Cert.AdamSmallCIdeal.nD Cert.AdamSmallCIdeal.τ).loc Cert.AdamSmallCIdeal.main_arg7) = m ((c.tc : Thread Cert.AdamSmallCIdeal.nD Cert.AdamSmallCIdeal.τ).loc Cert.AdamSmallCIdeal.main_arg7))
      ∧ r.2.sem = fun _ => 0)

def quiescent_AdamSmallCRefIdeal [hAdamSmallCRefIdeal : Cert.AdamSmallCRefIdeal.Facts] : Prop :=
  ∀ (m : (ℓ : Loc Cert.AdamSmallCRefIdeal.nD Cert.AdamSmallCRefIdeal.τ Cert.AdamSmallCRefIdeal.sig) → Buf (Elt Ideal) ℓ) (g : Dev Cert.AdamSmallCRefIdeal.nD → PrngReg), Pre_AdamSmallCRefIdeal m →
    θ_run (Cert.AdamSmallCRefIdeal.defs (F := Ideal)) (onTc (τ := Cert.AdamSmallCRefIdeal.τ) (Cert.AdamSmallCRefIdeal.main (F := Ideal))) ⟨m, fun _ => 0, g⟩ (fun r => (∀ c : Dev Cert.AdamSmallCRefIdeal.nD,
      r.2.mem ((c.tc : Thread Cert.AdamSmallCRefIdeal.nD Cert.AdamSmallCRefIdeal.τ).loc Cert.AdamSmallCRefIdeal.main_arg0) = m ((c.tc : Thread Cert.AdamSmallCRefIdeal.nD Cert.AdamSmallCRefIdeal.τ).loc Cert.AdamSmallCRefIdeal.main_arg0)
      ∧ r.2.mem ((c.tc : Thread Cert.AdamSmallCRefIdeal.nD Cert.AdamSmallCRefIdeal.τ).loc Cert.AdamSmallCRefIdeal.main_arg1) = m ((c.tc : Thread Cert.AdamSmallCRefIdeal.nD Cert.AdamSmallCRefIdeal.τ).loc Cert.AdamSmallCRefIdeal.main_arg1)
      ∧ r.2.mem ((c.tc : Thread Cert.AdamSmallCRefIdeal.nD Cert.AdamSmallCRefIdeal.τ).loc Cert.AdamSmallCRefIdeal.main_arg2) = m ((c.tc : Thread Cert.AdamSmallCRefIdeal.nD Cert.AdamSmallCRefIdeal.τ).loc Cert.AdamSmallCRefIdeal.main_arg2)
      ∧ r.2.mem ((c.tc : Thread Cert.AdamSmallCRefIdeal.nD Cert.AdamSmallCRefIdeal.τ).loc Cert.AdamSmallCRefIdeal.main_arg3) = m ((c.tc : Thread Cert.AdamSmallCRefIdeal.nD Cert.AdamSmallCRefIdeal.τ).loc Cert.AdamSmallCRefIdeal.main_arg3)
      ∧ r.2.mem ((c.tc : Thread Cert.AdamSmallCRefIdeal.nD Cert.AdamSmallCRefIdeal.τ).loc Cert.AdamSmallCRefIdeal.main_arg4) = m ((c.tc : Thread Cert.AdamSmallCRefIdeal.nD Cert.AdamSmallCRefIdeal.τ).loc Cert.AdamSmallCRefIdeal.main_arg4)
      ∧ r.2.mem ((c.tc : Thread Cert.AdamSmallCRefIdeal.nD Cert.AdamSmallCRefIdeal.τ).loc Cert.AdamSmallCRefIdeal.main_arg5) = m ((c.tc : Thread Cert.AdamSmallCRefIdeal.nD Cert.AdamSmallCRefIdeal.τ).loc Cert.AdamSmallCRefIdeal.main_arg5)
      ∧ r.2.mem ((c.tc : Thread Cert.AdamSmallCRefIdeal.nD Cert.AdamSmallCRefIdeal.τ).loc Cert.AdamSmallCRefIdeal.main_arg6) = m ((c.tc : Thread Cert.AdamSmallCRefIdeal.nD Cert.AdamSmallCRefIdeal.τ).loc Cert.AdamSmallCRefIdeal.main_arg6)
      ∧ r.2.mem ((c.tc : Thread Cert.AdamSmallCRefIdeal.nD Cert.AdamSmallCRefIdeal.τ).loc Cert.AdamSmallCRefIdeal.main_arg7) = m ((c.tc : Thread Cert.AdamSmallCRefIdeal.nD Cert.AdamSmallCRefIdeal.τ).loc Cert.AdamSmallCRefIdeal.main_arg7))
      ∧ r.2.sem = fun _ => 0)

def quiescent_AdamSmallD [hAdamSmallD : Cert.AdamSmallD.Facts] : Prop :=
  ∀ (m : (ℓ : Loc Cert.AdamSmallD.nD Cert.AdamSmallD.τ Cert.AdamSmallD.sig) → Buf (Elt Bits) ℓ) (g : Dev Cert.AdamSmallD.nD → PrngReg), Pre_AdamSmallD m →
    θ_run (Cert.AdamSmallD.defs (F := Bits)) (onTc (τ := Cert.AdamSmallD.τ) (Cert.AdamSmallD.main (F := Bits))) ⟨m, fun _ => 0, g⟩ (fun r => (∀ c : Dev Cert.AdamSmallD.nD,
      r.2.mem ((c.tc : Thread Cert.AdamSmallD.nD Cert.AdamSmallD.τ).loc Cert.AdamSmallD.main_arg0) = m ((c.tc : Thread Cert.AdamSmallD.nD Cert.AdamSmallD.τ).loc Cert.AdamSmallD.main_arg0)
      ∧ r.2.mem ((c.tc : Thread Cert.AdamSmallD.nD Cert.AdamSmallD.τ).loc Cert.AdamSmallD.main_arg1) = m ((c.tc : Thread Cert.AdamSmallD.nD Cert.AdamSmallD.τ).loc Cert.AdamSmallD.main_arg1)
      ∧ r.2.mem ((c.tc : Thread Cert.AdamSmallD.nD Cert.AdamSmallD.τ).loc Cert.AdamSmallD.main_arg2) = m ((c.tc : Thread Cert.AdamSmallD.nD Cert.AdamSmallD.τ).loc Cert.AdamSmallD.main_arg2)
      ∧ r.2.mem ((c.tc : Thread Cert.AdamSmallD.nD Cert.AdamSmallD.τ).loc Cert.AdamSmallD.main_arg3) = m ((c.tc : Thread Cert.AdamSmallD.nD Cert.AdamSmallD.τ).loc Cert.AdamSmallD.main_arg3)
      ∧ r.2.mem ((c.tc : Thread Cert.AdamSmallD.nD Cert.AdamSmallD.τ).loc Cert.AdamSmallD.main_arg4) = m ((c.tc : Thread Cert.AdamSmallD.nD Cert.AdamSmallD.τ).loc Cert.AdamSmallD.main_arg4)
      ∧ r.2.mem ((c.tc : Thread Cert.AdamSmallD.nD Cert.AdamSmallD.τ).loc Cert.AdamSmallD.main_arg5) = m ((c.tc : Thread Cert.AdamSmallD.nD Cert.AdamSmallD.τ).loc Cert.AdamSmallD.main_arg5)
      ∧ r.2.mem ((c.tc : Thread Cert.AdamSmallD.nD Cert.AdamSmallD.τ).loc Cert.AdamSmallD.main_arg6) = m ((c.tc : Thread Cert.AdamSmallD.nD Cert.AdamSmallD.τ).loc Cert.AdamSmallD.main_arg6)
      ∧ r.2.mem ((c.tc : Thread Cert.AdamSmallD.nD Cert.AdamSmallD.τ).loc Cert.AdamSmallD.main_arg7) = m ((c.tc : Thread Cert.AdamSmallD.nD Cert.AdamSmallD.τ).loc Cert.AdamSmallD.main_arg7))
      ∧ r.2.sem = fun _ => 0)

def quiescent_AdamSmallDIdeal [hAdamSmallDIdeal : Cert.AdamSmallDIdeal.Facts] : Prop :=
  ∀ (m : (ℓ : Loc Cert.AdamSmallDIdeal.nD Cert.AdamSmallDIdeal.τ Cert.AdamSmallDIdeal.sig) → Buf (Elt Ideal) ℓ) (g : Dev Cert.AdamSmallDIdeal.nD → PrngReg), Pre_AdamSmallDIdeal m →
    θ_run (Cert.AdamSmallDIdeal.defs (F := Ideal)) (onTc (τ := Cert.AdamSmallDIdeal.τ) (Cert.AdamSmallDIdeal.main (F := Ideal))) ⟨m, fun _ => 0, g⟩ (fun r => (∀ c : Dev Cert.AdamSmallDIdeal.nD,
      r.2.mem ((c.tc : Thread Cert.AdamSmallDIdeal.nD Cert.AdamSmallDIdeal.τ).loc Cert.AdamSmallDIdeal.main_arg0) = m ((c.tc : Thread Cert.AdamSmallDIdeal.nD Cert.AdamSmallDIdeal.τ).loc Cert.AdamSmallDIdeal.main_arg0)
      ∧ r.2.mem ((c.tc : Thread Cert.AdamSmallDIdeal.nD Cert.AdamSmallDIdeal.τ).loc Cert.AdamSmallDIdeal.main_arg1) = m ((c.tc : Thread Cert.AdamSmallDIdeal.nD Cert.AdamSmallDIdeal.τ).loc Cert.AdamSmallDIdeal.main_arg1)
      ∧ r.2.mem ((c.tc : Thread Cert.AdamSmallDIdeal.nD Cert.AdamSmallDIdeal.τ).loc Cert.AdamSmallDIdeal.main_arg2) = m ((c.tc : Thread Cert.AdamSmallDIdeal.nD Cert.AdamSmallDIdeal.τ).loc Cert.AdamSmallDIdeal.main_arg2)
      ∧ r.2.mem ((c.tc : Thread Cert.AdamSmallDIdeal.nD Cert.AdamSmallDIdeal.τ).loc Cert.AdamSmallDIdeal.main_arg3) = m ((c.tc : Thread Cert.AdamSmallDIdeal.nD Cert.AdamSmallDIdeal.τ).loc Cert.AdamSmallDIdeal.main_arg3)
      ∧ r.2.mem ((c.tc : Thread Cert.AdamSmallDIdeal.nD Cert.AdamSmallDIdeal.τ).loc Cert.AdamSmallDIdeal.main_arg4) = m ((c.tc : Thread Cert.AdamSmallDIdeal.nD Cert.AdamSmallDIdeal.τ).loc Cert.AdamSmallDIdeal.main_arg4)
      ∧ r.2.mem ((c.tc : Thread Cert.AdamSmallDIdeal.nD Cert.AdamSmallDIdeal.τ).loc Cert.AdamSmallDIdeal.main_arg5) = m ((c.tc : Thread Cert.AdamSmallDIdeal.nD Cert.AdamSmallDIdeal.τ).loc Cert.AdamSmallDIdeal.main_arg5)
      ∧ r.2.mem ((c.tc : Thread Cert.AdamSmallDIdeal.nD Cert.AdamSmallDIdeal.τ).loc Cert.AdamSmallDIdeal.main_arg6) = m ((c.tc : Thread Cert.AdamSmallDIdeal.nD Cert.AdamSmallDIdeal.τ).loc Cert.AdamSmallDIdeal.main_arg6)
      ∧ r.2.mem ((c.tc : Thread Cert.AdamSmallDIdeal.nD Cert.AdamSmallDIdeal.τ).loc Cert.AdamSmallDIdeal.main_arg7) = m ((c.tc : Thread Cert.AdamSmallDIdeal.nD Cert.AdamSmallDIdeal.τ).loc Cert.AdamSmallDIdeal.main_arg7))
      ∧ r.2.sem = fun _ => 0)

def quiescent_AdamSmallDRefIdeal [hAdamSmallDRefIdeal : Cert.AdamSmallDRefIdeal.Facts] : Prop :=
  ∀ (m : (ℓ : Loc Cert.AdamSmallDRefIdeal.nD Cert.AdamSmallDRefIdeal.τ Cert.AdamSmallDRefIdeal.sig) → Buf (Elt Ideal) ℓ) (g : Dev Cert.AdamSmallDRefIdeal.nD → PrngReg), Pre_AdamSmallDRefIdeal m →
    θ_run (Cert.AdamSmallDRefIdeal.defs (F := Ideal)) (onTc (τ := Cert.AdamSmallDRefIdeal.τ) (Cert.AdamSmallDRefIdeal.main (F := Ideal))) ⟨m, fun _ => 0, g⟩ (fun r => (∀ c : Dev Cert.AdamSmallDRefIdeal.nD,
      r.2.mem ((c.tc : Thread Cert.AdamSmallDRefIdeal.nD Cert.AdamSmallDRefIdeal.τ).loc Cert.AdamSmallDRefIdeal.main_arg0) = m ((c.tc : Thread Cert.AdamSmallDRefIdeal.nD Cert.AdamSmallDRefIdeal.τ).loc Cert.AdamSmallDRefIdeal.main_arg0)
      ∧ r.2.mem ((c.tc : Thread Cert.AdamSmallDRefIdeal.nD Cert.AdamSmallDRefIdeal.τ).loc Cert.AdamSmallDRefIdeal.main_arg1) = m ((c.tc : Thread Cert.AdamSmallDRefIdeal.nD Cert.AdamSmallDRefIdeal.τ).loc Cert.AdamSmallDRefIdeal.main_arg1)
      ∧ r.2.mem ((c.tc : Thread Cert.AdamSmallDRefIdeal.nD Cert.AdamSmallDRefIdeal.τ).loc Cert.AdamSmallDRefIdeal.main_arg2) = m ((c.tc : Thread Cert.AdamSmallDRefIdeal.nD Cert.AdamSmallDRefIdeal.τ).loc Cert.AdamSmallDRefIdeal.main_arg2)
      ∧ r.2.mem ((c.tc : Thread Cert.AdamSmallDRefIdeal.nD Cert.AdamSmallDRefIdeal.τ).loc Cert.AdamSmallDRefIdeal.main_arg3) = m ((c.tc : Thread Cert.AdamSmallDRefIdeal.nD Cert.AdamSmallDRefIdeal.τ).loc Cert.AdamSmallDRefIdeal.main_arg3)
      ∧ r.2.mem ((c.tc : Thread Cert.AdamSmallDRefIdeal.nD Cert.AdamSmallDRefIdeal.τ).loc Cert.AdamSmallDRefIdeal.main_arg4) = m ((c.tc : Thread Cert.AdamSmallDRefIdeal.nD Cert.AdamSmallDRefIdeal.τ).loc Cert.AdamSmallDRefIdeal.main_arg4)
      ∧ r.2.mem ((c.tc : Thread Cert.AdamSmallDRefIdeal.nD Cert.AdamSmallDRefIdeal.τ).loc Cert.AdamSmallDRefIdeal.main_arg5) = m ((c.tc : Thread Cert.AdamSmallDRefIdeal.nD Cert.AdamSmallDRefIdeal.τ).loc Cert.AdamSmallDRefIdeal.main_arg5)
      ∧ r.2.mem ((c.tc : Thread Cert.AdamSmallDRefIdeal.nD Cert.AdamSmallDRefIdeal.τ).loc Cert.AdamSmallDRefIdeal.main_arg6) = m ((c.tc : Thread Cert.AdamSmallDRefIdeal.nD Cert.AdamSmallDRefIdeal.τ).loc Cert.AdamSmallDRefIdeal.main_arg6)
      ∧ r.2.mem ((c.tc : Thread Cert.AdamSmallDRefIdeal.nD Cert.AdamSmallDRefIdeal.τ).loc Cert.AdamSmallDRefIdeal.main_arg7) = m ((c.tc : Thread Cert.AdamSmallDRefIdeal.nD Cert.AdamSmallDRefIdeal.τ).loc Cert.AdamSmallDRefIdeal.main_arg7))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_PreEven [hPreEven : Cert.PreEven.Facts] : Prop :=
  ∀ (m : (ℓ : Loc Cert.PreEven.nD Cert.PreEven.τ Cert.PreEven.sig) → Buf (Elt Bits) ℓ) (g : Dev Cert.PreEven.nD → PrngReg), Pre_PreEven m →
    θ_run (Cert.PreEven.defs (F := Bits)) (onTc (τ := Cert.PreEven.τ) (Cert.PreEven.main (F := Bits))) ⟨m, fun _ => 0, g⟩ (fun r => (∀ c : Dev Cert.PreEven.nD,
      r.2.mem ((c.tc : Thread Cert.PreEven.nD Cert.PreEven.τ).loc Cert.PreEven.main_arg0) = m ((c.tc : Thread Cert.PreEven.nD Cert.PreEven.τ).loc Cert.PreEven.main_arg0)
      ∧ r.2.mem ((c.tc : Thread Cert.PreEven.nD Cert.PreEven.τ).loc Cert.PreEven.main_arg1) = m ((c.tc : Thread Cert.PreEven.nD Cert.PreEven.τ).loc Cert.PreEven.main_arg1)
      ∧ r.2.mem ((c.tc : Thread Cert.PreEven.nD Cert.PreEven.τ).loc Cert.PreEven.main_arg2) = m ((c.tc : Thread Cert.PreEven.nD Cert.PreEven.τ).loc Cert.PreEven.main_arg2)
      ∧ r.2.mem ((c.tc : Thread Cert.PreEven.nD Cert.PreEven.τ).loc Cert.PreEven.main_arg3) = m ((c.tc : Thread Cert.PreEven.nD Cert.PreEven.τ).loc Cert.PreEven.main_arg3))
      ∧ r.2.sem = fun _ => 0)

def quiescent_PreEvenIdeal [hPreEvenIdeal : Cert.PreEvenIdeal.Facts] : Prop :=
  ∀ (m : (ℓ : Loc Cert.PreEvenIdeal.nD Cert.PreEvenIdeal.τ Cert.PreEvenIdeal.sig) → Buf (Elt Ideal) ℓ) (g : Dev Cert.PreEvenIdeal.nD → PrngReg), Pre_PreEvenIdeal m →
    θ_run (Cert.PreEvenIdeal.defs (F := Ideal)) (onTc (τ := Cert.PreEvenIdeal.τ) (Cert.PreEvenIdeal.main (F := Ideal))) ⟨m, fun _ => 0, g⟩ (fun r => (∀ c : Dev Cert.PreEvenIdeal.nD,
      r.2.mem ((c.tc : Thread Cert.PreEvenIdeal.nD Cert.PreEvenIdeal.τ).loc Cert.PreEvenIdeal.main_arg0) = m ((c.tc : Thread Cert.PreEvenIdeal.nD Cert.PreEvenIdeal.τ).loc Cert.PreEvenIdeal.main_arg0)
      ∧ r.2.mem ((c.tc : Thread Cert.PreEvenIdeal.nD Cert.PreEvenIdeal.τ).loc Cert.PreEvenIdeal.main_arg1) = m ((c.tc : Thread Cert.PreEvenIdeal.nD Cert.PreEvenIdeal.τ).loc Cert.PreEvenIdeal.main_arg1)
      ∧ r.2.mem ((c.tc : Thread Cert.PreEvenIdeal.nD Cert.PreEvenIdeal.τ).loc Cert.PreEvenIdeal.main_arg2) = m ((c.tc : Thread Cert.PreEvenIdeal.nD Cert.PreEvenIdeal.τ).loc Cert.PreEvenIdeal.main_arg2)
      ∧ r.2.mem ((c.tc : Thread Cert.PreEvenIdeal.nD Cert.PreEvenIdeal.τ).loc Cert.PreEvenIdeal.main_arg3) = m ((c.tc : Thread Cert.PreEvenIdeal.nD Cert.PreEvenIdeal.τ).loc Cert.PreEvenIdeal.main_arg3))
      ∧ r.2.sem = fun _ => 0)

def quiescent_PreEvenRefIdeal [hPreEvenRefIdeal : Cert.PreEvenRefIdeal.Facts] : Prop :=
  ∀ (m : (ℓ : Loc Cert.PreEvenRefIdeal.nD Cert.PreEvenRefIdeal.τ Cert.PreEvenRefIdeal.sig) → Buf (Elt Ideal) ℓ) (g : Dev Cert.PreEvenRefIdeal.nD → PrngReg), Pre_PreEvenRefIdeal m →
    θ_run (Cert.PreEvenRefIdeal.defs (F := Ideal)) (onTc (τ := Cert.PreEvenRefIdeal.τ) (Cert.PreEvenRefIdeal.main (F := Ideal))) ⟨m, fun _ => 0, g⟩ (fun r => (∀ c : Dev Cert.PreEvenRefIdeal.nD,
      r.2.mem ((c.tc : Thread Cert.PreEvenRefIdeal.nD Cert.PreEvenRefIdeal.τ).loc Cert.PreEvenRefIdeal.main_arg0) = m ((c.tc : Thread Cert.PreEvenRefIdeal.nD Cert.PreEvenRefIdeal.τ).loc Cert.PreEvenRefIdeal.main_arg0)
      ∧ r.2.mem ((c.tc : Thread Cert.PreEvenRefIdeal.nD Cert.PreEvenRefIdeal.τ).loc Cert.PreEvenRefIdeal.main_arg1) = m ((c.tc : Thread Cert.PreEvenRefIdeal.nD Cert.PreEvenRefIdeal.τ).loc Cert.PreEvenRefIdeal.main_arg1)
      ∧ r.2.mem ((c.tc : Thread Cert.PreEvenRefIdeal.nD Cert.PreEvenRefIdeal.τ).loc Cert.PreEvenRefIdeal.main_arg2) = m ((c.tc : Thread Cert.PreEvenRefIdeal.nD Cert.PreEvenRefIdeal.τ).loc Cert.PreEvenRefIdeal.main_arg2)
      ∧ r.2.mem ((c.tc : Thread Cert.PreEvenRefIdeal.nD Cert.PreEvenRefIdeal.τ).loc Cert.PreEvenRefIdeal.main_arg3) = m ((c.tc : Thread Cert.PreEvenRefIdeal.nD Cert.PreEvenRefIdeal.τ).loc Cert.PreEvenRefIdeal.main_arg3))
      ∧ r.2.sem = fun _ => 0)

def quiescent_Between [hBetween : Cert.Between.Facts] : Prop :=
  ∀ (m : (ℓ : Loc Cert.Between.nD Cert.Between.τ Cert.Between.sig) → Buf (Elt Bits) ℓ) (g : Dev Cert.Between.nD → PrngReg), Pre_Between m →
    θ_run (Cert.Between.defs (F := Bits)) (onTc (τ := Cert.Between.τ) (Cert.Between.main (F := Bits))) ⟨m, fun _ => 0, g⟩ (fun r => (∀ c : Dev Cert.Between.nD,
      r.2.mem ((c.tc : Thread Cert.Between.nD Cert.Between.τ).loc Cert.Between.main_arg0) = m ((c.tc : Thread Cert.Between.nD Cert.Between.τ).loc Cert.Between.main_arg0)
      ∧ r.2.mem ((c.tc : Thread Cert.Between.nD Cert.Between.τ).loc Cert.Between.main_arg1) = m ((c.tc : Thread Cert.Between.nD Cert.Between.τ).loc Cert.Between.main_arg1)
      ∧ r.2.mem ((c.tc : Thread Cert.Between.nD Cert.Between.τ).loc Cert.Between.main_arg2) = m ((c.tc : Thread Cert.Between.nD Cert.Between.τ).loc Cert.Between.main_arg2)
      ∧ r.2.mem ((c.tc : Thread Cert.Between.nD Cert.Between.τ).loc Cert.Between.main_arg3) = m ((c.tc : Thread Cert.Between.nD Cert.Between.τ).loc Cert.Between.main_arg3)
      ∧ r.2.mem ((c.tc : Thread Cert.Between.nD Cert.Between.τ).loc Cert.Between.main_arg4) = m ((c.tc : Thread Cert.Between.nD Cert.Between.τ).loc Cert.Between.main_arg4)
      ∧ r.2.mem ((c.tc : Thread Cert.Between.nD Cert.Between.τ).loc Cert.Between.main_arg5) = m ((c.tc : Thread Cert.Between.nD Cert.Between.τ).loc Cert.Between.main_arg5))
      ∧ r.2.sem = fun _ => 0)

def quiescent_BetweenIdeal [hBetweenIdeal : Cert.BetweenIdeal.Facts] : Prop :=
  ∀ (m : (ℓ : Loc Cert.BetweenIdeal.nD Cert.BetweenIdeal.τ Cert.BetweenIdeal.sig) → Buf (Elt Ideal) ℓ) (g : Dev Cert.BetweenIdeal.nD → PrngReg), Pre_BetweenIdeal m →
    θ_run (Cert.BetweenIdeal.defs (F := Ideal)) (onTc (τ := Cert.BetweenIdeal.τ) (Cert.BetweenIdeal.main (F := Ideal))) ⟨m, fun _ => 0, g⟩ (fun r => (∀ c : Dev Cert.BetweenIdeal.nD,
      r.2.mem ((c.tc : Thread Cert.BetweenIdeal.nD Cert.BetweenIdeal.τ).loc Cert.BetweenIdeal.main_arg0) = m ((c.tc : Thread Cert.BetweenIdeal.nD Cert.BetweenIdeal.τ).loc Cert.BetweenIdeal.main_arg0)
      ∧ r.2.mem ((c.tc : Thread Cert.BetweenIdeal.nD Cert.BetweenIdeal.τ).loc Cert.BetweenIdeal.main_arg1) = m ((c.tc : Thread Cert.BetweenIdeal.nD Cert.BetweenIdeal.τ).loc Cert.BetweenIdeal.main_arg1)
      ∧ r.2.mem ((c.tc : Thread Cert.BetweenIdeal.nD Cert.BetweenIdeal.τ).loc Cert.BetweenIdeal.main_arg2) = m ((c.tc : Thread Cert.BetweenIdeal.nD Cert.BetweenIdeal.τ).loc Cert.BetweenIdeal.main_arg2)
      ∧ r.2.mem ((c.tc : Thread Cert.BetweenIdeal.nD Cert.BetweenIdeal.τ).loc Cert.BetweenIdeal.main_arg3) = m ((c.tc : Thread Cert.BetweenIdeal.nD Cert.BetweenIdeal.τ).loc Cert.BetweenIdeal.main_arg3)
      ∧ r.2.mem ((c.tc : Thread Cert.BetweenIdeal.nD Cert.BetweenIdeal.τ).loc Cert.BetweenIdeal.main_arg4) = m ((c.tc : Thread Cert.BetweenIdeal.nD Cert.BetweenIdeal.τ).loc Cert.BetweenIdeal.main_arg4)
      ∧ r.2.mem ((c.tc : Thread Cert.BetweenIdeal.nD Cert.BetweenIdeal.τ).loc Cert.BetweenIdeal.main_arg5) = m ((c.tc : Thread Cert.BetweenIdeal.nD Cert.BetweenIdeal.τ).loc Cert.BetweenIdeal.main_arg5))
      ∧ r.2.sem = fun _ => 0)

def quiescent_BetweenRefIdeal [hBetweenRefIdeal : Cert.BetweenRefIdeal.Facts] : Prop :=
  ∀ (m : (ℓ : Loc Cert.BetweenRefIdeal.nD Cert.BetweenRefIdeal.τ Cert.BetweenRefIdeal.sig) → Buf (Elt Ideal) ℓ) (g : Dev Cert.BetweenRefIdeal.nD → PrngReg), Pre_BetweenRefIdeal m →
    θ_run (Cert.BetweenRefIdeal.defs (F := Ideal)) (onTc (τ := Cert.BetweenRefIdeal.τ) (Cert.BetweenRefIdeal.main (F := Ideal))) ⟨m, fun _ => 0, g⟩ (fun r => (∀ c : Dev Cert.BetweenRefIdeal.nD,
      r.2.mem ((c.tc : Thread Cert.BetweenRefIdeal.nD Cert.BetweenRefIdeal.τ).loc Cert.BetweenRefIdeal.main_arg0) = m ((c.tc : Thread Cert.BetweenRefIdeal.nD Cert.BetweenRefIdeal.τ).loc Cert.BetweenRefIdeal.main_arg0)
      ∧ r.2.mem ((c.tc : Thread Cert.BetweenRefIdeal.nD Cert.BetweenRefIdeal.τ).loc Cert.BetweenRefIdeal.main_arg1) = m ((c.tc : Thread Cert.BetweenRefIdeal.nD Cert.BetweenRefIdeal.τ).loc Cert.BetweenRefIdeal.main_arg1)
      ∧ r.2.mem ((c.tc : Thread Cert.BetweenRefIdeal.nD Cert.BetweenRefIdeal.τ).loc Cert.BetweenRefIdeal.main_arg2) = m ((c.tc : Thread Cert.BetweenRefIdeal.nD Cert.BetweenRefIdeal.τ).loc Cert.BetweenRefIdeal.main_arg2)
      ∧ r.2.mem ((c.tc : Thread Cert.BetweenRefIdeal.nD Cert.BetweenRefIdeal.τ).loc Cert.BetweenRefIdeal.main_arg3) = m ((c.tc : Thread Cert.BetweenRefIdeal.nD Cert.BetweenRefIdeal.τ).loc Cert.BetweenRefIdeal.main_arg3)
      ∧ r.2.mem ((c.tc : Thread Cert.BetweenRefIdeal.nD Cert.BetweenRefIdeal.τ).loc Cert.BetweenRefIdeal.main_arg4) = m ((c.tc : Thread Cert.BetweenRefIdeal.nD Cert.BetweenRefIdeal.τ).loc Cert.BetweenRefIdeal.main_arg4)
      ∧ r.2.mem ((c.tc : Thread Cert.BetweenRefIdeal.nD Cert.BetweenRefIdeal.τ).loc Cert.BetweenRefIdeal.main_arg5) = m ((c.tc : Thread Cert.BetweenRefIdeal.nD Cert.BetweenRefIdeal.τ).loc Cert.BetweenRefIdeal.main_arg5))
      ∧ r.2.sem = fun _ => 0)

def quiescent_TokenLoss [hTokenLoss : Cert.TokenLoss.Facts] : Prop :=
  ∀ (m : (ℓ : Loc Cert.TokenLoss.nD Cert.TokenLoss.τ Cert.TokenLoss.sig) → Buf (Elt Bits) ℓ) (g : Dev Cert.TokenLoss.nD → PrngReg), Pre_TokenLoss m →
    θ_run (Cert.TokenLoss.defs (F := Bits)) (onTc (τ := Cert.TokenLoss.τ) (Cert.TokenLoss.main (F := Bits))) ⟨m, fun _ => 0, g⟩ (fun r => (∀ c : Dev Cert.TokenLoss.nD,
      r.2.mem ((c.tc : Thread Cert.TokenLoss.nD Cert.TokenLoss.τ).loc Cert.TokenLoss.main_arg0) = m ((c.tc : Thread Cert.TokenLoss.nD Cert.TokenLoss.τ).loc Cert.TokenLoss.main_arg0)
      ∧ r.2.mem ((c.tc : Thread Cert.TokenLoss.nD Cert.TokenLoss.τ).loc Cert.TokenLoss.main_arg1) = m ((c.tc : Thread Cert.TokenLoss.nD Cert.TokenLoss.τ).loc Cert.TokenLoss.main_arg1)
      ∧ r.2.mem ((c.tc : Thread Cert.TokenLoss.nD Cert.TokenLoss.τ).loc Cert.TokenLoss.main_arg2) = m ((c.tc : Thread Cert.TokenLoss.nD Cert.TokenLoss.τ).loc Cert.TokenLoss.main_arg2)
      ∧ r.2.mem ((c.tc : Thread Cert.TokenLoss.nD Cert.TokenLoss.τ).loc Cert.TokenLoss.main_arg3) = m ((c.tc : Thread Cert.TokenLoss.nD Cert.TokenLoss.τ).loc Cert.TokenLoss.main_arg3))
      ∧ r.2.sem = fun _ => 0)

def quiescent_TokenLossIdeal [hTokenLossIdeal : Cert.TokenLossIdeal.Facts] : Prop :=
  ∀ (m : (ℓ : Loc Cert.TokenLossIdeal.nD Cert.TokenLossIdeal.τ Cert.TokenLossIdeal.sig) → Buf (Elt Ideal) ℓ) (g : Dev Cert.TokenLossIdeal.nD → PrngReg), Pre_TokenLossIdeal m →
    θ_run (Cert.TokenLossIdeal.defs (F := Ideal)) (onTc (τ := Cert.TokenLossIdeal.τ) (Cert.TokenLossIdeal.main (F := Ideal))) ⟨m, fun _ => 0, g⟩ (fun r => (∀ c : Dev Cert.TokenLossIdeal.nD,
      r.2.mem ((c.tc : Thread Cert.TokenLossIdeal.nD Cert.TokenLossIdeal.τ).loc Cert.TokenLossIdeal.main_arg0) = m ((c.tc : Thread Cert.TokenLossIdeal.nD Cert.TokenLossIdeal.τ).loc Cert.TokenLossIdeal.main_arg0)
      ∧ r.2.mem ((c.tc : Thread Cert.TokenLossIdeal.nD Cert.TokenLossIdeal.τ).loc Cert.TokenLossIdeal.main_arg1) = m ((c.tc : Thread Cert.TokenLossIdeal.nD Cert.TokenLossIdeal.τ).loc Cert.TokenLossIdeal.main_arg1)
      ∧ r.2.mem ((c.tc : Thread Cert.TokenLossIdeal.nD Cert.TokenLossIdeal.τ).loc Cert.TokenLossIdeal.main_arg2) = m ((c.tc : Thread Cert.TokenLossIdeal.nD Cert.TokenLossIdeal.τ).loc Cert.TokenLossIdeal.main_arg2)
      ∧ r.2.mem ((c.tc : Thread Cert.TokenLossIdeal.nD Cert.TokenLossIdeal.τ).loc Cert.TokenLossIdeal.main_arg3) = m ((c.tc : Thread Cert.TokenLossIdeal.nD Cert.TokenLossIdeal.τ).loc Cert.TokenLossIdeal.main_arg3))
      ∧ r.2.sem = fun _ => 0)

def quiescent_TokenLossRefIdeal [hTokenLossRefIdeal : Cert.TokenLossRefIdeal.Facts] : Prop :=
  ∀ (m : (ℓ : Loc Cert.TokenLossRefIdeal.nD Cert.TokenLossRefIdeal.τ Cert.TokenLossRefIdeal.sig) → Buf (Elt Ideal) ℓ) (g : Dev Cert.TokenLossRefIdeal.nD → PrngReg), Pre_TokenLossRefIdeal m →
    θ_run (Cert.TokenLossRefIdeal.defs (F := Ideal)) (onTc (τ := Cert.TokenLossRefIdeal.τ) (Cert.TokenLossRefIdeal.main (F := Ideal))) ⟨m, fun _ => 0, g⟩ (fun r => (∀ c : Dev Cert.TokenLossRefIdeal.nD,
      r.2.mem ((c.tc : Thread Cert.TokenLossRefIdeal.nD Cert.TokenLossRefIdeal.τ).loc Cert.TokenLossRefIdeal.main_arg0) = m ((c.tc : Thread Cert.TokenLossRefIdeal.nD Cert.TokenLossRefIdeal.τ).loc Cert.TokenLossRefIdeal.main_arg0)
      ∧ r.2.mem ((c.tc : Thread Cert.TokenLossRefIdeal.nD Cert.TokenLossRefIdeal.τ).loc Cert.TokenLossRefIdeal.main_arg1) = m ((c.tc : Thread Cert.TokenLossRefIdeal.nD Cert.TokenLossRefIdeal.τ).loc Cert.TokenLossRefIdeal.main_arg1)
      ∧ r.2.mem ((c.tc : Thread Cert.TokenLossRefIdeal.nD Cert.TokenLossRefIdeal.τ).loc Cert.TokenLossRefIdeal.main_arg2) = m ((c.tc : Thread Cert.TokenLossRefIdeal.nD Cert.TokenLossRefIdeal.τ).loc Cert.TokenLossRefIdeal.main_arg2)
      ∧ r.2.mem ((c.tc : Thread Cert.TokenLossRefIdeal.nD Cert.TokenLossRefIdeal.τ).loc Cert.TokenLossRefIdeal.main_arg3) = m ((c.tc : Thread Cert.TokenLossRefIdeal.nD Cert.TokenLossRefIdeal.τ).loc Cert.TokenLossRefIdeal.main_arg3))
      ∧ r.2.sem = fun _ => 0)

def quiescent_PairAdd [hPairAdd : Cert.PairAdd.Facts] : Prop :=
  ∀ (m : (ℓ : Loc Cert.PairAdd.nD Cert.PairAdd.τ Cert.PairAdd.sig) → Buf (Elt Bits) ℓ) (g : Dev Cert.PairAdd.nD → PrngReg), Pre_PairAdd m →
    θ_run (Cert.PairAdd.defs (F := Bits)) (onTc (τ := Cert.PairAdd.τ) (Cert.PairAdd.main (F := Bits))) ⟨m, fun _ => 0, g⟩ (fun r => (∀ c : Dev Cert.PairAdd.nD,
      r.2.mem ((c.tc : Thread Cert.PairAdd.nD Cert.PairAdd.τ).loc Cert.PairAdd.main_arg0) = m ((c.tc : Thread Cert.PairAdd.nD Cert.PairAdd.τ).loc Cert.PairAdd.main_arg0)
      ∧ r.2.mem ((c.tc : Thread Cert.PairAdd.nD Cert.PairAdd.τ).loc Cert.PairAdd.main_arg1) = m ((c.tc : Thread Cert.PairAdd.nD Cert.PairAdd.τ).loc Cert.PairAdd.main_arg1))
      ∧ r.2.sem = fun _ => 0)

def quiescent_PairAddIdeal [hPairAddIdeal : Cert.PairAddIdeal.Facts] : Prop :=
  ∀ (m : (ℓ : Loc Cert.PairAddIdeal.nD Cert.PairAddIdeal.τ Cert.PairAddIdeal.sig) → Buf (Elt Ideal) ℓ) (g : Dev Cert.PairAddIdeal.nD → PrngReg), Pre_PairAddIdeal m →
    θ_run (Cert.PairAddIdeal.defs (F := Ideal)) (onTc (τ := Cert.PairAddIdeal.τ) (Cert.PairAddIdeal.main (F := Ideal))) ⟨m, fun _ => 0, g⟩ (fun r => (∀ c : Dev Cert.PairAddIdeal.nD,
      r.2.mem ((c.tc : Thread Cert.PairAddIdeal.nD Cert.PairAddIdeal.τ).loc Cert.PairAddIdeal.main_arg0) = m ((c.tc : Thread Cert.PairAddIdeal.nD Cert.PairAddIdeal.τ).loc Cert.PairAddIdeal.main_arg0)
      ∧ r.2.mem ((c.tc : Thread Cert.PairAddIdeal.nD Cert.PairAddIdeal.τ).loc Cert.PairAddIdeal.main_arg1) = m ((c.tc : Thread Cert.PairAddIdeal.nD Cert.PairAddIdeal.τ).loc Cert.PairAddIdeal.main_arg1))
      ∧ r.2.sem = fun _ => 0)

def quiescent_PairAddRefIdeal [hPairAddRefIdeal : Cert.PairAddRefIdeal.Facts] : Prop :=
  ∀ (m : (ℓ : Loc Cert.PairAddRefIdeal.nD Cert.PairAddRefIdeal.τ Cert.PairAddRefIdeal.sig) → Buf (Elt Ideal) ℓ) (g : Dev Cert.PairAddRefIdeal.nD → PrngReg), Pre_PairAddRefIdeal m →
    θ_run (Cert.PairAddRefIdeal.defs (F := Ideal)) (onTc (τ := Cert.PairAddRefIdeal.τ) (Cert.PairAddRefIdeal.main (F := Ideal))) ⟨m, fun _ => 0, g⟩ (fun r => (∀ c : Dev Cert.PairAddRefIdeal.nD,
      r.2.mem ((c.tc : Thread Cert.PairAddRefIdeal.nD Cert.PairAddRefIdeal.τ).loc Cert.PairAddRefIdeal.main_arg0) = m ((c.tc : Thread Cert.PairAddRefIdeal.nD Cert.PairAddRefIdeal.τ).loc Cert.PairAddRefIdeal.main_arg0)
      ∧ r.2.mem ((c.tc : Thread Cert.PairAddRefIdeal.nD Cert.PairAddRefIdeal.τ).loc Cert.PairAddRefIdeal.main_arg1) = m ((c.tc : Thread Cert.PairAddRefIdeal.nD Cert.PairAddRefIdeal.τ).loc Cert.PairAddRefIdeal.main_arg1))
      ∧ r.2.sem = fun _ => 0)

def quiescent_PairOut [hPairOut : Cert.PairOut.Facts] : Prop :=
  ∀ (m : (ℓ : Loc Cert.PairOut.nD Cert.PairOut.τ Cert.PairOut.sig) → Buf (Elt Bits) ℓ) (g : Dev Cert.PairOut.nD → PrngReg), Pre_PairOut m →
    θ_run (Cert.PairOut.defs (F := Bits)) (onTc (τ := Cert.PairOut.τ) (Cert.PairOut.main (F := Bits))) ⟨m, fun _ => 0, g⟩ (fun r => (∀ c : Dev Cert.PairOut.nD,
      r.2.mem ((c.tc : Thread Cert.PairOut.nD Cert.PairOut.τ).loc Cert.PairOut.main_arg0) = m ((c.tc : Thread Cert.PairOut.nD Cert.PairOut.τ).loc Cert.PairOut.main_arg0)
      ∧ r.2.mem ((c.tc : Thread Cert.PairOut.nD Cert.PairOut.τ).loc Cert.PairOut.main_arg1) = m ((c.tc : Thread Cert.PairOut.nD Cert.PairOut.τ).loc Cert.PairOut.main_arg1))
      ∧ r.2.sem = fun _ => 0)

def quiescent_PairOutIdeal [hPairOutIdeal : Cert.PairOutIdeal.Facts] : Prop :=
  ∀ (m : (ℓ : Loc Cert.PairOutIdeal.nD Cert.PairOutIdeal.τ Cert.PairOutIdeal.sig) → Buf (Elt Ideal) ℓ) (g : Dev Cert.PairOutIdeal.nD → PrngReg), Pre_PairOutIdeal m →
    θ_run (Cert.PairOutIdeal.defs (F := Ideal)) (onTc (τ := Cert.PairOutIdeal.τ) (Cert.PairOutIdeal.main (F := Ideal))) ⟨m, fun _ => 0, g⟩ (fun r => (∀ c : Dev Cert.PairOutIdeal.nD,
      r.2.mem ((c.tc : Thread Cert.PairOutIdeal.nD Cert.PairOutIdeal.τ).loc Cert.PairOutIdeal.main_arg0) = m ((c.tc : Thread Cert.PairOutIdeal.nD Cert.PairOutIdeal.τ).loc Cert.PairOutIdeal.main_arg0)
      ∧ r.2.mem ((c.tc : Thread Cert.PairOutIdeal.nD Cert.PairOutIdeal.τ).loc Cert.PairOutIdeal.main_arg1) = m ((c.tc : Thread Cert.PairOutIdeal.nD Cert.PairOutIdeal.τ).loc Cert.PairOutIdeal.main_arg1))
      ∧ r.2.sem = fun _ => 0)

def quiescent_PairOutRefIdeal [hPairOutRefIdeal : Cert.PairOutRefIdeal.Facts] : Prop :=
  ∀ (m : (ℓ : Loc Cert.PairOutRefIdeal.nD Cert.PairOutRefIdeal.τ Cert.PairOutRefIdeal.sig) → Buf (Elt Ideal) ℓ) (g : Dev Cert.PairOutRefIdeal.nD → PrngReg), Pre_PairOutRefIdeal m →
    θ_run (Cert.PairOutRefIdeal.defs (F := Ideal)) (onTc (τ := Cert.PairOutRefIdeal.τ) (Cert.PairOutRefIdeal.main (F := Ideal))) ⟨m, fun _ => 0, g⟩ (fun r => (∀ c : Dev Cert.PairOutRefIdeal.nD,
      r.2.mem ((c.tc : Thread Cert.PairOutRefIdeal.nD Cert.PairOutRefIdeal.τ).loc Cert.PairOutRefIdeal.main_arg0) = m ((c.tc : Thread Cert.PairOutRefIdeal.nD Cert.PairOutRefIdeal.τ).loc Cert.PairOutRefIdeal.main_arg0)
      ∧ r.2.mem ((c.tc : Thread Cert.PairOutRefIdeal.nD Cert.PairOutRefIdeal.τ).loc Cert.PairOutRefIdeal.main_arg1) = m ((c.tc : Thread Cert.PairOutRefIdeal.nD Cert.PairOutRefIdeal.τ).loc Cert.PairOutRefIdeal.main_arg1))
      ∧ r.2.sem = fun _ => 0)

def quiescent_PairPool [hPairPool : Cert.PairPool.Facts] : Prop :=
  ∀ (m : (ℓ : Loc Cert.PairPool.nD Cert.PairPool.τ Cert.PairPool.sig) → Buf (Elt Bits) ℓ) (g : Dev Cert.PairPool.nD → PrngReg), Pre_PairPool m →
    θ_run (Cert.PairPool.defs (F := Bits)) (onTc (τ := Cert.PairPool.τ) (Cert.PairPool.main (F := Bits))) ⟨m, fun _ => 0, g⟩ (fun r => (∀ c : Dev Cert.PairPool.nD,
      r.2.mem ((c.tc : Thread Cert.PairPool.nD Cert.PairPool.τ).loc Cert.PairPool.main_arg0) = m ((c.tc : Thread Cert.PairPool.nD Cert.PairPool.τ).loc Cert.PairPool.main_arg0)
      ∧ r.2.mem ((c.tc : Thread Cert.PairPool.nD Cert.PairPool.τ).loc Cert.PairPool.main_arg1) = m ((c.tc : Thread Cert.PairPool.nD Cert.PairPool.τ).loc Cert.PairPool.main_arg1))
      ∧ r.2.sem = fun _ => 0)

def quiescent_PairPoolIdeal [hPairPoolIdeal : Cert.PairPoolIdeal.Facts] : Prop :=
  ∀ (m : (ℓ : Loc Cert.PairPoolIdeal.nD Cert.PairPoolIdeal.τ Cert.PairPoolIdeal.sig) → Buf (Elt Ideal) ℓ) (g : Dev Cert.PairPoolIdeal.nD → PrngReg), Pre_PairPoolIdeal m →
    θ_run (Cert.PairPoolIdeal.defs (F := Ideal)) (onTc (τ := Cert.PairPoolIdeal.τ) (Cert.PairPoolIdeal.main (F := Ideal))) ⟨m, fun _ => 0, g⟩ (fun r => (∀ c : Dev Cert.PairPoolIdeal.nD,
      r.2.mem ((c.tc : Thread Cert.PairPoolIdeal.nD Cert.PairPoolIdeal.τ).loc Cert.PairPoolIdeal.main_arg0) = m ((c.tc : Thread Cert.PairPoolIdeal.nD Cert.PairPoolIdeal.τ).loc Cert.PairPoolIdeal.main_arg0)
      ∧ r.2.mem ((c.tc : Thread Cert.PairPoolIdeal.nD Cert.PairPoolIdeal.τ).loc Cert.PairPoolIdeal.main_arg1) = m ((c.tc : Thread Cert.PairPoolIdeal.nD Cert.PairPoolIdeal.τ).loc Cert.PairPoolIdeal.main_arg1))
      ∧ r.2.sem = fun _ => 0)

def quiescent_PairPoolRefIdeal [hPairPoolRefIdeal : Cert.PairPoolRefIdeal.Facts] : Prop :=
  ∀ (m : (ℓ : Loc Cert.PairPoolRefIdeal.nD Cert.PairPoolRefIdeal.τ Cert.PairPoolRefIdeal.sig) → Buf (Elt Ideal) ℓ) (g : Dev Cert.PairPoolRefIdeal.nD → PrngReg), Pre_PairPoolRefIdeal m →
    θ_run (Cert.PairPoolRefIdeal.defs (F := Ideal)) (onTc (τ := Cert.PairPoolRefIdeal.τ) (Cert.PairPoolRefIdeal.main (F := Ideal))) ⟨m, fun _ => 0, g⟩ (fun r => (∀ c : Dev Cert.PairPoolRefIdeal.nD,
      r.2.mem ((c.tc : Thread Cert.PairPoolRefIdeal.nD Cert.PairPoolRefIdeal.τ).loc Cert.PairPoolRefIdeal.main_arg0) = m ((c.tc : Thread Cert.PairPoolRefIdeal.nD Cert.PairPoolRefIdeal.τ).loc Cert.PairPoolRefIdeal.main_arg0)
      ∧ r.2.mem ((c.tc : Thread Cert.PairPoolRefIdeal.nD Cert.PairPoolRefIdeal.τ).loc Cert.PairPoolRefIdeal.main_arg1) = m ((c.tc : Thread Cert.PairPoolRefIdeal.nD Cert.PairPoolRefIdeal.τ).loc Cert.PairPoolRefIdeal.main_arg1))
      ∧ r.2.sem = fun _ => 0)

def quiescent_PairInEven [hPairInEven : Cert.PairInEven.Facts] : Prop :=
  ∀ (m : (ℓ : Loc Cert.PairInEven.nD Cert.PairInEven.τ Cert.PairInEven.sig) → Buf (Elt Bits) ℓ) (g : Dev Cert.PairInEven.nD → PrngReg), Pre_PairInEven m →
    θ_run (Cert.PairInEven.defs (F := Bits)) (onTc (τ := Cert.PairInEven.τ) (Cert.PairInEven.main (F := Bits))) ⟨m, fun _ => 0, g⟩ (fun r => (∀ c : Dev Cert.PairInEven.nD,
      r.2.mem ((c.tc : Thread Cert.PairInEven.nD Cert.PairInEven.τ).loc Cert.PairInEven.main_arg0) = m ((c.tc : Thread Cert.PairInEven.nD Cert.PairInEven.τ).loc Cert.PairInEven.main_arg0)
      ∧ r.2.mem ((c.tc : Thread Cert.PairInEven.nD Cert.PairInEven.τ).loc Cert.PairInEven.main_arg1) = m ((c.tc : Thread Cert.PairInEven.nD Cert.PairInEven.τ).loc Cert.PairInEven.main_arg1))
      ∧ r.2.sem = fun _ => 0)

def quiescent_PairInEvenIdeal [hPairInEvenIdeal : Cert.PairInEvenIdeal.Facts] : Prop :=
  ∀ (m : (ℓ : Loc Cert.PairInEvenIdeal.nD Cert.PairInEvenIdeal.τ Cert.PairInEvenIdeal.sig) → Buf (Elt Ideal) ℓ) (g : Dev Cert.PairInEvenIdeal.nD → PrngReg), Pre_PairInEvenIdeal m →
    θ_run (Cert.PairInEvenIdeal.defs (F := Ideal)) (onTc (τ := Cert.PairInEvenIdeal.τ) (Cert.PairInEvenIdeal.main (F := Ideal))) ⟨m, fun _ => 0, g⟩ (fun r => (∀ c : Dev Cert.PairInEvenIdeal.nD,
      r.2.mem ((c.tc : Thread Cert.PairInEvenIdeal.nD Cert.PairInEvenIdeal.τ).loc Cert.PairInEvenIdeal.main_arg0) = m ((c.tc : Thread Cert.PairInEvenIdeal.nD Cert.PairInEvenIdeal.τ).loc Cert.PairInEvenIdeal.main_arg0)
      ∧ r.2.mem ((c.tc : Thread Cert.PairInEvenIdeal.nD Cert.PairInEvenIdeal.τ).loc Cert.PairInEvenIdeal.main_arg1) = m ((c.tc : Thread Cert.PairInEvenIdeal.nD Cert.PairInEvenIdeal.τ).loc Cert.PairInEvenIdeal.main_arg1))
      ∧ r.2.sem = fun _ => 0)

def quiescent_PairInEvenRefIdeal [hPairInEvenRefIdeal : Cert.PairInEvenRefIdeal.Facts] : Prop :=
  ∀ (m : (ℓ : Loc Cert.PairInEvenRefIdeal.nD Cert.PairInEvenRefIdeal.τ Cert.PairInEvenRefIdeal.sig) → Buf (Elt Ideal) ℓ) (g : Dev Cert.PairInEvenRefIdeal.nD → PrngReg), Pre_PairInEvenRefIdeal m →
    θ_run (Cert.PairInEvenRefIdeal.defs (F := Ideal)) (onTc (τ := Cert.PairInEvenRefIdeal.τ) (Cert.PairInEvenRefIdeal.main (F := Ideal))) ⟨m, fun _ => 0, g⟩ (fun r => (∀ c : Dev Cert.PairInEvenRefIdeal.nD,
      r.2.mem ((c.tc : Thread Cert.PairInEvenRefIdeal.nD Cert.PairInEvenRefIdeal.τ).loc Cert.PairInEvenRefIdeal.main_arg0) = m ((c.tc : Thread Cert.PairInEvenRefIdeal.nD Cert.PairInEvenRefIdeal.τ).loc Cert.PairInEvenRefIdeal.main_arg0)
      ∧ r.2.mem ((c.tc : Thread Cert.PairInEvenRefIdeal.nD Cert.PairInEvenRefIdeal.τ).loc Cert.PairInEvenRefIdeal.main_arg1) = m ((c.tc : Thread Cert.PairInEvenRefIdeal.nD Cert.PairInEvenRefIdeal.τ).loc Cert.PairInEvenRefIdeal.main_arg1))
      ∧ r.2.sem = fun _ => 0)

def quiescent_PostNorm [hPostNorm : Cert.PostNorm.Facts] : Prop :=
  ∀ (m : (ℓ : Loc Cert.PostNorm.nD Cert.PostNorm.τ Cert.PostNorm.sig) → Buf (Elt Bits) ℓ) (g : Dev Cert.PostNorm.nD → PrngReg), Pre_PostNorm m →
    θ_run (Cert.PostNorm.defs (F := Bits)) (onTc (τ := Cert.PostNorm.τ) (Cert.PostNorm.main (F := Bits))) ⟨m, fun _ => 0, g⟩ (fun r => (∀ c : Dev Cert.PostNorm.nD,
      r.2.mem ((c.tc : Thread Cert.PostNorm.nD Cert.PostNorm.τ).loc Cert.PostNorm.main_arg0) = m ((c.tc : Thread Cert.PostNorm.nD Cert.PostNorm.τ).loc Cert.PostNorm.main_arg0)
      ∧ r.2.mem ((c.tc : Thread Cert.PostNorm.nD Cert.PostNorm.τ).loc Cert.PostNorm.main_arg1) = m ((c.tc : Thread Cert.PostNorm.nD Cert.PostNorm.τ).loc Cert.PostNorm.main_arg1)
      ∧ r.2.mem ((c.tc : Thread Cert.PostNorm.nD Cert.PostNorm.τ).loc Cert.PostNorm.main_arg2) = m ((c.tc : Thread Cert.PostNorm.nD Cert.PostNorm.τ).loc Cert.PostNorm.main_arg2)
      ∧ r.2.mem ((c.tc : Thread Cert.PostNorm.nD Cert.PostNorm.τ).loc Cert.PostNorm.main_arg3) = m ((c.tc : Thread Cert.PostNorm.nD Cert.PostNorm.τ).loc Cert.PostNorm.main_arg3))
      ∧ r.2.sem = fun _ => 0)

def quiescent_PostNormIdeal [hPostNormIdeal : Cert.PostNormIdeal.Facts] : Prop :=
  ∀ (m : (ℓ : Loc Cert.PostNormIdeal.nD Cert.PostNormIdeal.τ Cert.PostNormIdeal.sig) → Buf (Elt Ideal) ℓ) (g : Dev Cert.PostNormIdeal.nD → PrngReg), Pre_PostNormIdeal m →
    θ_run (Cert.PostNormIdeal.defs (F := Ideal)) (onTc (τ := Cert.PostNormIdeal.τ) (Cert.PostNormIdeal.main (F := Ideal))) ⟨m, fun _ => 0, g⟩ (fun r => (∀ c : Dev Cert.PostNormIdeal.nD,
      r.2.mem ((c.tc : Thread Cert.PostNormIdeal.nD Cert.PostNormIdeal.τ).loc Cert.PostNormIdeal.main_arg0) = m ((c.tc : Thread Cert.PostNormIdeal.nD Cert.PostNormIdeal.τ).loc Cert.PostNormIdeal.main_arg0)
      ∧ r.2.mem ((c.tc : Thread Cert.PostNormIdeal.nD Cert.PostNormIdeal.τ).loc Cert.PostNormIdeal.main_arg1) = m ((c.tc : Thread Cert.PostNormIdeal.nD Cert.PostNormIdeal.τ).loc Cert.PostNormIdeal.main_arg1)
      ∧ r.2.mem ((c.tc : Thread Cert.PostNormIdeal.nD Cert.PostNormIdeal.τ).loc Cert.PostNormIdeal.main_arg2) = m ((c.tc : Thread Cert.PostNormIdeal.nD Cert.PostNormIdeal.τ).loc Cert.PostNormIdeal.main_arg2)
      ∧ r.2.mem ((c.tc : Thread Cert.PostNormIdeal.nD Cert.PostNormIdeal.τ).loc Cert.PostNormIdeal.main_arg3) = m ((c.tc : Thread Cert.PostNormIdeal.nD Cert.PostNormIdeal.τ).loc Cert.PostNormIdeal.main_arg3))
      ∧ r.2.sem = fun _ => 0)

def quiescent_PostNormRefIdeal [hPostNormRefIdeal : Cert.PostNormRefIdeal.Facts] : Prop :=
  ∀ (m : (ℓ : Loc Cert.PostNormRefIdeal.nD Cert.PostNormRefIdeal.τ Cert.PostNormRefIdeal.sig) → Buf (Elt Ideal) ℓ) (g : Dev Cert.PostNormRefIdeal.nD → PrngReg), Pre_PostNormRefIdeal m →
    θ_run (Cert.PostNormRefIdeal.defs (F := Ideal)) (onTc (τ := Cert.PostNormRefIdeal.τ) (Cert.PostNormRefIdeal.main (F := Ideal))) ⟨m, fun _ => 0, g⟩ (fun r => (∀ c : Dev Cert.PostNormRefIdeal.nD,
      r.2.mem ((c.tc : Thread Cert.PostNormRefIdeal.nD Cert.PostNormRefIdeal.τ).loc Cert.PostNormRefIdeal.main_arg0) = m ((c.tc : Thread Cert.PostNormRefIdeal.nD Cert.PostNormRefIdeal.τ).loc Cert.PostNormRefIdeal.main_arg0)
      ∧ r.2.mem ((c.tc : Thread Cert.PostNormRefIdeal.nD Cert.PostNormRefIdeal.τ).loc Cert.PostNormRefIdeal.main_arg1) = m ((c.tc : Thread Cert.PostNormRefIdeal.nD Cert.PostNormRefIdeal.τ).loc Cert.PostNormRefIdeal.main_arg1)
      ∧ r.2.mem ((c.tc : Thread Cert.PostNormRefIdeal.nD Cert.PostNormRefIdeal.τ).loc Cert.PostNormRefIdeal.main_arg2) = m ((c.tc : Thread Cert.PostNormRefIdeal.nD Cert.PostNormRefIdeal.τ).loc Cert.PostNormRefIdeal.main_arg2)
      ∧ r.2.mem ((c.tc : Thread Cert.PostNormRefIdeal.nD Cert.PostNormRefIdeal.τ).loc Cert.PostNormRefIdeal.main_arg3) = m ((c.tc : Thread Cert.PostNormRefIdeal.nD Cert.PostNormRefIdeal.τ).loc Cert.PostNormRefIdeal.main_arg3))
      ∧ r.2.sem = fun _ => 0)

def preserves_Kernel_KernelIdeal : Prop :=
  IdealRules.named_const.Statement Cert.KernelIdeal.κ "neg_scale_log2e" .f32 0xBE0293EE#32 ((-((Real.sqrt 128)⁻¹ * (Real.log 2)⁻¹) : ℝ) : EReal)
  ∧ IdealRules.bf16_pack.Statement Cert.KernelIdeal.S128x128
  ∧ IdealRules.named_const.Statement Cert.KernelIdeal.κ "scale" .f32 0x3DB504F3#32 (((Real.sqrt 128)⁻¹ : ℝ) : EReal)

def preserves_DhOdd_DhOddIdeal : Prop :=
  True

def algebraic_DhOddIdeal_DhOddRefIdeal [hDhOddIdeal : Cert.DhOddIdeal.Facts] [hDhOddRefIdeal : Cert.DhOddRefIdeal.Facts] : Prop :=
  ∀ (m : (ℓ : Loc Cert.DhOddIdeal.nD Cert.DhOddIdeal.τ Cert.DhOddIdeal.sig) → Buf (Elt Ideal) ℓ) (g : Dev Cert.DhOddIdeal.nD → PrngReg)
    (m' : (ℓ : Loc Cert.DhOddRefIdeal.nD Cert.DhOddRefIdeal.τ Cert.DhOddRefIdeal.sig) → Buf (Elt Ideal) ℓ) (g' : Dev Cert.DhOddRefIdeal.nD → PrngReg), Pre_DhOddIdeal m →
    (∀ c : Dev Cert.DhOddIdeal.nD,
      m' ((c.tc : Thread Cert.DhOddRefIdeal.nD Cert.DhOddRefIdeal.τ).loc Cert.DhOddRefIdeal.main_arg0) = m ((c.tc : Thread Cert.DhOddIdeal.nD Cert.DhOddIdeal.τ).loc Cert.DhOddIdeal.main_arg0)
      ∧ m' ((c.tc : Thread Cert.DhOddRefIdeal.nD Cert.DhOddRefIdeal.τ).loc Cert.DhOddRefIdeal.main_arg1) = m ((c.tc : Thread Cert.DhOddIdeal.nD Cert.DhOddIdeal.τ).loc Cert.DhOddIdeal.main_arg1)
      ∧ m' ((c.tc : Thread Cert.DhOddRefIdeal.nD Cert.DhOddRefIdeal.τ).loc Cert.DhOddRefIdeal.main_arg2) = m ((c.tc : Thread Cert.DhOddIdeal.nD Cert.DhOddIdeal.τ).loc Cert.DhOddIdeal.main_arg2)) →
    ∃ (v0 : (c : Dev Cert.DhOddIdeal.nD) → Buf (Elt Ideal) ((c.tc : Thread Cert.DhOddIdeal.nD Cert.DhOddIdeal.τ).loc Cert.DhOddIdeal.main_v2)),
      θ_run (Cert.DhOddIdeal.defs (F := Ideal)) (onTc (τ := Cert.DhOddIdeal.τ) (Cert.DhOddIdeal.main (F := Ideal))) ⟨m, fun _ => 0, g⟩ (fun r => ∀ c : Dev Cert.DhOddIdeal.nD,
          r.2.mem ((c.tc : Thread Cert.DhOddIdeal.nD Cert.DhOddIdeal.τ).loc Cert.DhOddIdeal.main_v2) = v0 c
          ∧ r.2.mem ((c.tc : Thread Cert.DhOddIdeal.nD Cert.DhOddIdeal.τ).loc Cert.DhOddIdeal.main_arg0) = m ((c.tc : Thread Cert.DhOddIdeal.nD Cert.DhOddIdeal.τ).loc Cert.DhOddIdeal.main_arg0)
          ∧ r.2.mem ((c.tc : Thread Cert.DhOddIdeal.nD Cert.DhOddIdeal.τ).loc Cert.DhOddIdeal.main_arg1) = m ((c.tc : Thread Cert.DhOddIdeal.nD Cert.DhOddIdeal.τ).loc Cert.DhOddIdeal.main_arg1)
          ∧ r.2.mem ((c.tc : Thread Cert.DhOddIdeal.nD Cert.DhOddIdeal.τ).loc Cert.DhOddIdeal.main_arg2) = m ((c.tc : Thread Cert.DhOddIdeal.nD Cert.DhOddIdeal.τ).loc Cert.DhOddIdeal.main_arg2))
      ∧ θ_run (Cert.DhOddRefIdeal.defs (F := Ideal)) (onTc (τ := Cert.DhOddRefIdeal.τ) (Cert.DhOddRefIdeal.main (F := Ideal))) ⟨m', fun _ => 0, g'⟩ (fun r => ∀ c : Dev Cert.DhOddRefIdeal.nD,
          r.2.mem ((c.tc : Thread Cert.DhOddRefIdeal.nD Cert.DhOddRefIdeal.τ).loc Cert.DhOddRefIdeal.main_v9) = v0 c
          ∧ r.2.mem ((c.tc : Thread Cert.DhOddRefIdeal.nD Cert.DhOddRefIdeal.τ).loc Cert.DhOddRefIdeal.main_arg0) = m' ((c.tc : Thread Cert.DhOddRefIdeal.nD Cert.DhOddRefIdeal.τ).loc Cert.DhOddRefIdeal.main_arg0)
          ∧ r.2.mem ((c.tc : Thread Cert.DhOddRefIdeal.nD Cert.DhOddRefIdeal.τ).loc Cert.DhOddRefIdeal.main_arg1) = m' ((c.tc : Thread Cert.DhOddRefIdeal.nD Cert.DhOddRefIdeal.τ).loc Cert.DhOddRefIdeal.main_arg1)
          ∧ r.2.mem ((c.tc : Thread Cert.DhOddRefIdeal.nD Cert.DhOddRefIdeal.τ).loc Cert.DhOddRefIdeal.main_arg2) = m' ((c.tc : Thread Cert.DhOddRefIdeal.nD Cert.DhOddRefIdeal.τ).loc Cert.DhOddRefIdeal.main_arg2))

def preserves_DwInOdd_DwInOddIdeal : Prop :=
  True

def algebraic_DwInOddIdeal_DwInOddRefIdeal [hDwInOddIdeal : Cert.DwInOddIdeal.Facts] [hDwInOddRefIdeal : Cert.DwInOddRefIdeal.Facts] : Prop :=
  ∀ (m : (ℓ : Loc Cert.DwInOddIdeal.nD Cert.DwInOddIdeal.τ Cert.DwInOddIdeal.sig) → Buf (Elt Ideal) ℓ) (g : Dev Cert.DwInOddIdeal.nD → PrngReg)
    (m' : (ℓ : Loc Cert.DwInOddRefIdeal.nD Cert.DwInOddRefIdeal.τ Cert.DwInOddRefIdeal.sig) → Buf (Elt Ideal) ℓ) (g' : Dev Cert.DwInOddRefIdeal.nD → PrngReg), Pre_DwInOddIdeal m →
    (∀ c : Dev Cert.DwInOddIdeal.nD,
      m' ((c.tc : Thread Cert.DwInOddRefIdeal.nD Cert.DwInOddRefIdeal.τ).loc Cert.DwInOddRefIdeal.main_arg0) = m ((c.tc : Thread Cert.DwInOddIdeal.nD Cert.DwInOddIdeal.τ).loc Cert.DwInOddIdeal.main_arg0)
      ∧ m' ((c.tc : Thread Cert.DwInOddRefIdeal.nD Cert.DwInOddRefIdeal.τ).loc Cert.DwInOddRefIdeal.main_arg1) = m ((c.tc : Thread Cert.DwInOddIdeal.nD Cert.DwInOddIdeal.τ).loc Cert.DwInOddIdeal.main_arg1)
      ∧ m' ((c.tc : Thread Cert.DwInOddRefIdeal.nD Cert.DwInOddRefIdeal.τ).loc Cert.DwInOddRefIdeal.main_arg2) = m ((c.tc : Thread Cert.DwInOddIdeal.nD Cert.DwInOddIdeal.τ).loc Cert.DwInOddIdeal.main_arg2)) →
    ∃ (v0 : (c : Dev Cert.DwInOddIdeal.nD) → Buf (Elt Ideal) ((c.tc : Thread Cert.DwInOddIdeal.nD Cert.DwInOddIdeal.τ).loc Cert.DwInOddIdeal.main_v0)),
      θ_run (Cert.DwInOddIdeal.defs (F := Ideal)) (onTc (τ := Cert.DwInOddIdeal.τ) (Cert.DwInOddIdeal.main (F := Ideal))) ⟨m, fun _ => 0, g⟩ (fun r => ∀ c : Dev Cert.DwInOddIdeal.nD,
          r.2.mem ((c.tc : Thread Cert.DwInOddIdeal.nD Cert.DwInOddIdeal.τ).loc Cert.DwInOddIdeal.main_v0) = v0 c
          ∧ r.2.mem ((c.tc : Thread Cert.DwInOddIdeal.nD Cert.DwInOddIdeal.τ).loc Cert.DwInOddIdeal.main_arg0) = m ((c.tc : Thread Cert.DwInOddIdeal.nD Cert.DwInOddIdeal.τ).loc Cert.DwInOddIdeal.main_arg0)
          ∧ r.2.mem ((c.tc : Thread Cert.DwInOddIdeal.nD Cert.DwInOddIdeal.τ).loc Cert.DwInOddIdeal.main_arg1) = m ((c.tc : Thread Cert.DwInOddIdeal.nD Cert.DwInOddIdeal.τ).loc Cert.DwInOddIdeal.main_arg1)
          ∧ r.2.mem ((c.tc : Thread Cert.DwInOddIdeal.nD Cert.DwInOddIdeal.τ).loc Cert.DwInOddIdeal.main_arg2) = m ((c.tc : Thread Cert.DwInOddIdeal.nD Cert.DwInOddIdeal.τ).loc Cert.DwInOddIdeal.main_arg2))
      ∧ θ_run (Cert.DwInOddRefIdeal.defs (F := Ideal)) (onTc (τ := Cert.DwInOddRefIdeal.τ) (Cert.DwInOddRefIdeal.main (F := Ideal))) ⟨m', fun _ => 0, g'⟩ (fun r => ∀ c : Dev Cert.DwInOddRefIdeal.nD,
          r.2.mem ((c.tc : Thread Cert.DwInOddRefIdeal.nD Cert.DwInOddRefIdeal.τ).loc Cert.DwInOddRefIdeal.main_v11) = v0 c
          ∧ r.2.mem ((c.tc : Thread Cert.DwInOddRefIdeal.nD Cert.DwInOddRefIdeal.τ).loc Cert.DwInOddRefIdeal.main_arg0) = m' ((c.tc : Thread Cert.DwInOddRefIdeal.nD Cert.DwInOddRefIdeal.τ).loc Cert.DwInOddRefIdeal.main_arg0)
          ∧ r.2.mem ((c.tc : Thread Cert.DwInOddRefIdeal.nD Cert.DwInOddRefIdeal.τ).loc Cert.DwInOddRefIdeal.main_arg1) = m' ((c.tc : Thread Cert.DwInOddRefIdeal.nD Cert.DwInOddRefIdeal.τ).loc Cert.DwInOddRefIdeal.main_arg1)
          ∧ r.2.mem ((c.tc : Thread Cert.DwInOddRefIdeal.nD Cert.DwInOddRefIdeal.τ).loc Cert.DwInOddRefIdeal.main_arg2) = m' ((c.tc : Thread Cert.DwInOddRefIdeal.nD Cert.DwInOddRefIdeal.τ).loc Cert.DwInOddRefIdeal.main_arg2))

def preserves_InOdd_InOddIdeal : Prop :=
  True

def algebraic_InOddIdeal_InOddRefIdeal [hInOddIdeal : Cert.InOddIdeal.Facts] [hInOddRefIdeal : Cert.InOddRefIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddRefIdeal.nD Cert.InOddRefIdeal.τ Cert.InOddRefIdeal.sig) → Buf (Elt Ideal) ℓ) (g' : Dev Cert.InOddRefIdeal.nD → PrngReg), Pre_InOddIdeal m →
    (∀ c : Dev Cert.InOddIdeal.nD,
      m' ((c.tc : Thread Cert.InOddRefIdeal.nD Cert.InOddRefIdeal.τ).loc Cert.InOddRefIdeal.main_arg0) = m ((c.tc : Thread Cert.InOddIdeal.nD Cert.InOddIdeal.τ).loc Cert.InOddIdeal.main_arg0)
      ∧ m' ((c.tc : Thread Cert.InOddRefIdeal.nD Cert.InOddRefIdeal.τ).loc Cert.InOddRefIdeal.main_arg1) = m ((c.tc : Thread Cert.InOddIdeal.nD Cert.InOddIdeal.τ).loc Cert.InOddIdeal.main_arg1)) →
    ∃ (v0 : (c : Dev Cert.InOddIdeal.nD) → Buf (Elt Ideal) ((c.tc : Thread Cert.InOddIdeal.nD Cert.InOddIdeal.τ).loc Cert.InOddIdeal.main_v2)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v2) = v0 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1))
      ∧ θ_run (Cert.InOddRefIdeal.defs (F := Ideal)) (onTc (τ := Cert.InOddRefIdeal.τ) (Cert.InOddRefIdeal.main (F := Ideal))) ⟨m', fun _ => 0, g'⟩ (fun r => ∀ c : Dev Cert.InOddRefIdeal.nD,
          r.2.mem ((c.tc : Thread Cert.InOddRefIdeal.nD Cert.InOddRefIdeal.τ).loc Cert.InOddRefIdeal.main_v3) = v0 c
          ∧ r.2.mem ((c.tc : Thread Cert.InOddRefIdeal.nD Cert.InOddRefIdeal.τ).loc Cert.InOddRefIdeal.main_arg0) = m' ((c.tc : Thread Cert.InOddRefIdeal.nD Cert.InOddRefIdeal.τ).loc Cert.InOddRefIdeal.main_arg0)
          ∧ r.2.mem ((c.tc : Thread Cert.InOddRefIdeal.nD Cert.InOddRefIdeal.τ).loc Cert.InOddRefIdeal.main_arg1) = m' ((c.tc : Thread Cert.InOddRefIdeal.nD Cert.InOddRefIdeal.τ).loc Cert.InOddRefIdeal.main_arg1))

def preserves_DhEven_DhEvenIdeal : Prop :=
  True

def algebraic_DhEvenIdeal_DhEvenRefIdeal [hDhEvenIdeal : Cert.DhEvenIdeal.Facts] [hDhEvenRefIdeal : Cert.DhEvenRefIdeal.Facts] : Prop :=
  ∀ (m : (ℓ : Loc Cert.DhEvenIdeal.nD Cert.DhEvenIdeal.τ Cert.DhEvenIdeal.sig) → Buf (Elt Ideal) ℓ) (g : Dev Cert.DhEvenIdeal.nD → PrngReg)
    (m' : (ℓ : Loc Cert.DhEvenRefIdeal.nD Cert.DhEvenRefIdeal.τ Cert.DhEvenRefIdeal.sig) → Buf (Elt Ideal) ℓ) (g' : Dev Cert.DhEvenRefIdeal.nD → PrngReg), Pre_DhEvenIdeal m →
    (∀ c : Dev Cert.DhEvenIdeal.nD,
      m' ((c.tc : Thread Cert.DhEvenRefIdeal.nD Cert.DhEvenRefIdeal.τ).loc Cert.DhEvenRefIdeal.main_arg0) = m ((c.tc : Thread Cert.DhEvenIdeal.nD Cert.DhEvenIdeal.τ).loc Cert.DhEvenIdeal.main_arg0)
      ∧ m' ((c.tc : Thread Cert.DhEvenRefIdeal.nD Cert.DhEvenRefIdeal.τ).loc Cert.DhEvenRefIdeal.main_arg1) = m ((c.tc : Thread Cert.DhEvenIdeal.nD Cert.DhEvenIdeal.τ).loc Cert.DhEvenIdeal.main_arg1)
      ∧ m' ((c.tc : Thread Cert.DhEvenRefIdeal.nD Cert.DhEvenRefIdeal.τ).loc Cert.DhEvenRefIdeal.main_arg2) = m ((c.tc : Thread Cert.DhEvenIdeal.nD Cert.DhEvenIdeal.τ).loc Cert.DhEvenIdeal.main_arg2)) →
    ∃ (v0 : (c : Dev Cert.DhEvenIdeal.nD) → Buf (Elt Ideal) ((c.tc : Thread Cert.DhEvenIdeal.nD Cert.DhEvenIdeal.τ).loc Cert.DhEvenIdeal.main_v2)),
      θ_run (Cert.DhEvenIdeal.defs (F := Ideal)) (onTc (τ := Cert.DhEvenIdeal.τ) (Cert.DhEvenIdeal.main (F := Ideal))) ⟨m, fun _ => 0, g⟩ (fun r => ∀ c : Dev Cert.DhEvenIdeal.nD,
          r.2.mem ((c.tc : Thread Cert.DhEvenIdeal.nD Cert.DhEvenIdeal.τ).loc Cert.DhEvenIdeal.main_v2) = v0 c
          ∧ r.2.mem ((c.tc : Thread Cert.DhEvenIdeal.nD Cert.DhEvenIdeal.τ).loc Cert.DhEvenIdeal.main_arg0) = m ((c.tc : Thread Cert.DhEvenIdeal.nD Cert.DhEvenIdeal.τ).loc Cert.DhEvenIdeal.main_arg0)
          ∧ r.2.mem ((c.tc : Thread Cert.DhEvenIdeal.nD Cert.DhEvenIdeal.τ).loc Cert.DhEvenIdeal.main_arg1) = m ((c.tc : Thread Cert.DhEvenIdeal.nD Cert.DhEvenIdeal.τ).loc Cert.DhEvenIdeal.main_arg1)
          ∧ r.2.mem ((c.tc : Thread Cert.DhEvenIdeal.nD Cert.DhEvenIdeal.τ).loc Cert.DhEvenIdeal.main_arg2) = m ((c.tc : Thread Cert.DhEvenIdeal.nD Cert.DhEvenIdeal.τ).loc Cert.DhEvenIdeal.main_arg2))
      ∧ θ_run (Cert.DhEvenRefIdeal.defs (F := Ideal)) (onTc (τ := Cert.DhEvenRefIdeal.τ) (Cert.DhEvenRefIdeal.main (F := Ideal))) ⟨m', fun _ => 0, g'⟩ (fun r => ∀ c : Dev Cert.DhEvenRefIdeal.nD,
          r.2.mem ((c.tc : Thread Cert.DhEvenRefIdeal.nD Cert.DhEvenRefIdeal.τ).loc Cert.DhEvenRefIdeal.main_v9) = v0 c
          ∧ r.2.mem ((c.tc : Thread Cert.DhEvenRefIdeal.nD Cert.DhEvenRefIdeal.τ).loc Cert.DhEvenRefIdeal.main_arg0) = m' ((c.tc : Thread Cert.DhEvenRefIdeal.nD Cert.DhEvenRefIdeal.τ).loc Cert.DhEvenRefIdeal.main_arg0)
          ∧ r.2.mem ((c.tc : Thread Cert.DhEvenRefIdeal.nD Cert.DhEvenRefIdeal.τ).loc Cert.DhEvenRefIdeal.main_arg1) = m' ((c.tc : Thread Cert.DhEvenRefIdeal.nD Cert.DhEvenRefIdeal.τ).loc Cert.DhEvenRefIdeal.main_arg1)
          ∧ r.2.mem ((c.tc : Thread Cert.DhEvenRefIdeal.nD Cert.DhEvenRefIdeal.τ).loc Cert.DhEvenRefIdeal.main_arg2) = m' ((c.tc : Thread Cert.DhEvenRefIdeal.nD Cert.DhEvenRefIdeal.τ).loc Cert.DhEvenRefIdeal.main_arg2))

def preserves_DwOwn_DwOwnIdeal : Prop :=
  True

def algebraic_DwOwnIdeal_DwOwnRefIdeal [hDwOwnIdeal : Cert.DwOwnIdeal.Facts] [hDwOwnRefIdeal : Cert.DwOwnRefIdeal.Facts] : Prop :=
  ∀ (m : (ℓ : Loc Cert.DwOwnIdeal.nD Cert.DwOwnIdeal.τ Cert.DwOwnIdeal.sig) → Buf (Elt Ideal) ℓ) (g : Dev Cert.DwOwnIdeal.nD → PrngReg)
    (m' : (ℓ : Loc Cert.DwOwnRefIdeal.nD Cert.DwOwnRefIdeal.τ Cert.DwOwnRefIdeal.sig) → Buf (Elt Ideal) ℓ) (g' : Dev Cert.DwOwnRefIdeal.nD → PrngReg), Pre_DwOwnIdeal m →
    (∀ c : Dev Cert.DwOwnIdeal.nD,
      m' ((c.tc : Thread Cert.DwOwnRefIdeal.nD Cert.DwOwnRefIdeal.τ).loc Cert.DwOwnRefIdeal.main_arg0) = m ((c.tc : Thread Cert.DwOwnIdeal.nD Cert.DwOwnIdeal.τ).loc Cert.DwOwnIdeal.main_arg0)
      ∧ m' ((c.tc : Thread Cert.DwOwnRefIdeal.nD Cert.DwOwnRefIdeal.τ).loc Cert.DwOwnRefIdeal.main_arg1) = m ((c.tc : Thread Cert.DwOwnIdeal.nD Cert.DwOwnIdeal.τ).loc Cert.DwOwnIdeal.main_arg1)
      ∧ m' ((c.tc : Thread Cert.DwOwnRefIdeal.nD Cert.DwOwnRefIdeal.τ).loc Cert.DwOwnRefIdeal.main_arg2) = m ((c.tc : Thread Cert.DwOwnIdeal.nD Cert.DwOwnIdeal.τ).loc Cert.DwOwnIdeal.main_arg2)) →
    ∃ (v0 : (c : Dev Cert.DwOwnIdeal.nD) → Buf (Elt Ideal) ((c.tc : Thread Cert.DwOwnIdeal.nD Cert.DwOwnIdeal.τ).loc Cert.DwOwnIdeal.main_v1)),
      θ_run (Cert.DwOwnIdeal.defs (F := Ideal)) (onTc (τ := Cert.DwOwnIdeal.τ) (Cert.DwOwnIdeal.main (F := Ideal))) ⟨m, fun _ => 0, g⟩ (fun r => ∀ c : Dev Cert.DwOwnIdeal.nD,
          r.2.mem ((c.tc : Thread Cert.DwOwnIdeal.nD Cert.DwOwnIdeal.τ).loc Cert.DwOwnIdeal.main_v1) = v0 c
          ∧ r.2.mem ((c.tc : Thread Cert.DwOwnIdeal.nD Cert.DwOwnIdeal.τ).loc Cert.DwOwnIdeal.main_arg0) = m ((c.tc : Thread Cert.DwOwnIdeal.nD Cert.DwOwnIdeal.τ).loc Cert.DwOwnIdeal.main_arg0)
          ∧ r.2.mem ((c.tc : Thread Cert.DwOwnIdeal.nD Cert.DwOwnIdeal.τ).loc Cert.DwOwnIdeal.main_arg1) = m ((c.tc : Thread Cert.DwOwnIdeal.nD Cert.DwOwnIdeal.τ).loc Cert.DwOwnIdeal.main_arg1)
          ∧ r.2.mem ((c.tc : Thread Cert.DwOwnIdeal.nD Cert.DwOwnIdeal.τ).loc Cert.DwOwnIdeal.main_arg2) = m ((c.tc : Thread Cert.DwOwnIdeal.nD Cert.DwOwnIdeal.τ).loc Cert.DwOwnIdeal.main_arg2))
      ∧ θ_run (Cert.DwOwnRefIdeal.defs (F := Ideal)) (onTc (τ := Cert.DwOwnRefIdeal.τ) (Cert.DwOwnRefIdeal.main (F := Ideal))) ⟨m', fun _ => 0, g'⟩ (fun r => ∀ c : Dev Cert.DwOwnRefIdeal.nD,
          r.2.mem ((c.tc : Thread Cert.DwOwnRefIdeal.nD Cert.DwOwnRefIdeal.τ).loc Cert.DwOwnRefIdeal.main_v12) = v0 c
          ∧ r.2.mem ((c.tc : Thread Cert.DwOwnRefIdeal.nD Cert.DwOwnRefIdeal.τ).loc Cert.DwOwnRefIdeal.main_arg0) = m' ((c.tc : Thread Cert.DwOwnRefIdeal.nD Cert.DwOwnRefIdeal.τ).loc Cert.DwOwnRefIdeal.main_arg0)
          ∧ r.2.mem ((c.tc : Thread Cert.DwOwnRefIdeal.nD Cert.DwOwnRefIdeal.τ).loc Cert.DwOwnRefIdeal.main_arg1) = m' ((c.tc : Thread Cert.DwOwnRefIdeal.nD Cert.DwOwnRefIdeal.τ).loc Cert.DwOwnRefIdeal.main_arg1)
          ∧ r.2.mem ((c.tc : Thread Cert.DwOwnRefIdeal.nD Cert.DwOwnRefIdeal.τ).loc Cert.DwOwnRefIdeal.main_arg2) = m' ((c.tc : Thread Cert.DwOwnRefIdeal.nD Cert.DwOwnRefIdeal.τ).loc Cert.DwOwnRefIdeal.main_arg2))

def preserves_DwSibling_DwSiblingIdeal : Prop :=
  True

def algebraic_DwSiblingIdeal_DwSiblingRefIdeal [hDwSiblingIdeal : Cert.DwSiblingIdeal.Facts] [hDwSiblingRefIdeal : Cert.DwSiblingRefIdeal.Facts] : Prop :=
  ∀ (m : (ℓ : Loc Cert.DwSiblingIdeal.nD Cert.DwSiblingIdeal.τ Cert.DwSiblingIdeal.sig) → Buf (Elt Ideal) ℓ) (g : Dev Cert.DwSiblingIdeal.nD → PrngReg)
    (m' : (ℓ : Loc Cert.DwSiblingRefIdeal.nD Cert.DwSiblingRefIdeal.τ Cert.DwSiblingRefIdeal.sig) → Buf (Elt Ideal) ℓ) (g' : Dev Cert.DwSiblingRefIdeal.nD → PrngReg), Pre_DwSiblingIdeal m →
    (∀ c : Dev Cert.DwSiblingIdeal.nD,
      m' ((c.tc : Thread Cert.DwSiblingRefIdeal.nD Cert.DwSiblingRefIdeal.τ).loc Cert.DwSiblingRefIdeal.main_arg0) = m ((c.tc : Thread Cert.DwSiblingIdeal.nD Cert.DwSiblingIdeal.τ).loc Cert.DwSiblingIdeal.main_arg0)
      ∧ m' ((c.tc : Thread Cert.DwSiblingRefIdeal.nD Cert.DwSiblingRefIdeal.τ).loc Cert.DwSiblingRefIdeal.main_arg1) = m ((c.tc : Thread Cert.DwSiblingIdeal.nD Cert.DwSiblingIdeal.τ).loc Cert.DwSiblingIdeal.main_arg1)
      ∧ m' ((c.tc : Thread Cert.DwSiblingRefIdeal.nD Cert.DwSiblingRefIdeal.τ).loc Cert.DwSiblingRefIdeal.main_arg2) = m ((c.tc : Thread Cert.DwSiblingIdeal.nD Cert.DwSiblingIdeal.τ).loc Cert.DwSiblingIdeal.main_arg2)) →
    ∃ (v0 : (c : Dev Cert.DwSiblingIdeal.nD) → Buf (Elt Ideal) ((c.tc : Thread Cert.DwSiblingIdeal.nD Cert.DwSiblingIdeal.τ).loc Cert.DwSiblingIdeal.main_v1)),
      θ_run (Cert.DwSiblingIdeal.defs (F := Ideal)) (onTc (τ := Cert.DwSiblingIdeal.τ) (Cert.DwSiblingIdeal.main (F := Ideal))) ⟨m, fun _ => 0, g⟩ (fun r => ∀ c : Dev Cert.DwSiblingIdeal.nD,
          r.2.mem ((c.tc : Thread Cert.DwSiblingIdeal.nD Cert.DwSiblingIdeal.τ).loc Cert.DwSiblingIdeal.main_v1) = v0 c
          ∧ r.2.mem ((c.tc : Thread Cert.DwSiblingIdeal.nD Cert.DwSiblingIdeal.τ).loc Cert.DwSiblingIdeal.main_arg0) = m ((c.tc : Thread Cert.DwSiblingIdeal.nD Cert.DwSiblingIdeal.τ).loc Cert.DwSiblingIdeal.main_arg0)
          ∧ r.2.mem ((c.tc : Thread Cert.DwSiblingIdeal.nD Cert.DwSiblingIdeal.τ).loc Cert.DwSiblingIdeal.main_arg1) = m ((c.tc : Thread Cert.DwSiblingIdeal.nD Cert.DwSiblingIdeal.τ).loc Cert.DwSiblingIdeal.main_arg1)
          ∧ r.2.mem ((c.tc : Thread Cert.DwSiblingIdeal.nD Cert.DwSiblingIdeal.τ).loc Cert.DwSiblingIdeal.main_arg2) = m ((c.tc : Thread Cert.DwSiblingIdeal.nD Cert.DwSiblingIdeal.τ).loc Cert.DwSiblingIdeal.main_arg2))
      ∧ θ_run (Cert.DwSiblingRefIdeal.defs (F := Ideal)) (onTc (τ := Cert.DwSiblingRefIdeal.τ) (Cert.DwSiblingRefIdeal.main (F := Ideal))) ⟨m', fun _ => 0, g'⟩ (fun r => ∀ c : Dev Cert.DwSiblingRefIdeal.nD,
          r.2.mem ((c.tc : Thread Cert.DwSiblingRefIdeal.nD Cert.DwSiblingRefIdeal.τ).loc Cert.DwSiblingRefIdeal.main_v12) = v0 c
          ∧ r.2.mem ((c.tc : Thread Cert.DwSiblingRefIdeal.nD Cert.DwSiblingRefIdeal.τ).loc Cert.DwSiblingRefIdeal.main_arg0) = m' ((c.tc : Thread Cert.DwSiblingRefIdeal.nD Cert.DwSiblingRefIdeal.τ).loc Cert.DwSiblingRefIdeal.main_arg0)
          ∧ r.2.mem ((c.tc : Thread Cert.DwSiblingRefIdeal.nD Cert.DwSiblingRefIdeal.τ).loc Cert.DwSiblingRefIdeal.main_arg1) = m' ((c.tc : Thread Cert.DwSiblingRefIdeal.nD Cert.DwSiblingRefIdeal.τ).loc Cert.DwSiblingRefIdeal.main_arg1)
          ∧ r.2.mem ((c.tc : Thread Cert.DwSiblingRefIdeal.nD Cert.DwSiblingRefIdeal.τ).loc Cert.DwSiblingRefIdeal.main_arg2) = m' ((c.tc : Thread Cert.DwSiblingRefIdeal.nD Cert.DwSiblingRefIdeal.τ).loc Cert.DwSiblingRefIdeal.main_arg2))

def preserves_Dy_DyIdeal : Prop :=
  True

def algebraic_DyIdeal_DyRefIdeal [hDyIdeal : Cert.DyIdeal.Facts] [hDyRefIdeal : Cert.DyRefIdeal.Facts] : Prop :=
  ∀ (m : (ℓ : Loc Cert.DyIdeal.nD Cert.DyIdeal.τ Cert.DyIdeal.sig) → Buf (Elt Ideal) ℓ) (g : Dev Cert.DyIdeal.nD → PrngReg)
    (m' : (ℓ : Loc Cert.DyRefIdeal.nD Cert.DyRefIdeal.τ Cert.DyRefIdeal.sig) → Buf (Elt Ideal) ℓ) (g' : Dev Cert.DyRefIdeal.nD → PrngReg), Pre_DyIdeal m →
    (∀ c : Dev Cert.DyIdeal.nD,
      m' ((c.tc : Thread Cert.DyRefIdeal.nD Cert.DyRefIdeal.τ).loc Cert.DyRefIdeal.main_arg0) = m ((c.tc : Thread Cert.DyIdeal.nD Cert.DyIdeal.τ).loc Cert.DyIdeal.main_arg0)
      ∧ m' ((c.tc : Thread Cert.DyRefIdeal.nD Cert.DyRefIdeal.τ).loc Cert.DyRefIdeal.main_arg1) = m ((c.tc : Thread Cert.DyIdeal.nD Cert.DyIdeal.τ).loc Cert.DyIdeal.main_arg1)
      ∧ m' ((c.tc : Thread Cert.DyRefIdeal.nD Cert.DyRefIdeal.τ).loc Cert.DyRefIdeal.main_arg2) = m ((c.tc : Thread Cert.DyIdeal.nD Cert.DyIdeal.τ).loc Cert.DyIdeal.main_arg2)) →
    ∃ (v0 : (c : Dev Cert.DyIdeal.nD) → Buf (Elt Ideal) ((c.tc : Thread Cert.DyIdeal.nD Cert.DyIdeal.τ).loc Cert.DyIdeal.main_v1)),
      θ_run (Cert.DyIdeal.defs (F := Ideal)) (onTc (τ := Cert.DyIdeal.τ) (Cert.DyIdeal.main (F := Ideal))) ⟨m, fun _ => 0, g⟩ (fun r => ∀ c : Dev Cert.DyIdeal.nD,
          r.2.mem ((c.tc : Thread Cert.DyIdeal.nD Cert.DyIdeal.τ).loc Cert.DyIdeal.main_v1) = v0 c
          ∧ r.2.mem ((c.tc : Thread Cert.DyIdeal.nD Cert.DyIdeal.τ).loc Cert.DyIdeal.main_arg0) = m ((c.tc : Thread Cert.DyIdeal.nD Cert.DyIdeal.τ).loc Cert.DyIdeal.main_arg0)
          ∧ r.2.mem ((c.tc : Thread Cert.DyIdeal.nD Cert.DyIdeal.τ).loc Cert.DyIdeal.main_arg1) = m ((c.tc : Thread Cert.DyIdeal.nD Cert.DyIdeal.τ).loc Cert.DyIdeal.main_arg1)
          ∧ r.2.mem ((c.tc : Thread Cert.DyIdeal.nD Cert.DyIdeal.τ).loc Cert.DyIdeal.main_arg2) = m ((c.tc : Thread Cert.DyIdeal.nD Cert.DyIdeal.τ).loc Cert.DyIdeal.main_arg2))
      ∧ θ_run (Cert.DyRefIdeal.defs (F := Ideal)) (onTc (τ := Cert.DyRefIdeal.τ) (Cert.DyRefIdeal.main (F := Ideal))) ⟨m', fun _ => 0, g'⟩ (fun r => ∀ c : Dev Cert.DyRefIdeal.nD,
          r.2.mem ((c.tc : Thread Cert.DyRefIdeal.nD Cert.DyRefIdeal.τ).loc Cert.DyRefIdeal.main_v9) = v0 c
          ∧ r.2.mem ((c.tc : Thread Cert.DyRefIdeal.nD Cert.DyRefIdeal.τ).loc Cert.DyRefIdeal.main_arg0) = m' ((c.tc : Thread Cert.DyRefIdeal.nD Cert.DyRefIdeal.τ).loc Cert.DyRefIdeal.main_arg0)
          ∧ r.2.mem ((c.tc : Thread Cert.DyRefIdeal.nD Cert.DyRefIdeal.τ).loc Cert.DyRefIdeal.main_arg1) = m' ((c.tc : Thread Cert.DyRefIdeal.nD Cert.DyRefIdeal.τ).loc Cert.DyRefIdeal.main_arg1)
          ∧ r.2.mem ((c.tc : Thread Cert.DyRefIdeal.nD Cert.DyRefIdeal.τ).loc Cert.DyRefIdeal.main_arg2) = m' ((c.tc : Thread Cert.DyRefIdeal.nD Cert.DyRefIdeal.τ).loc Cert.DyRefIdeal.main_arg2))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v10) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_AdamInEven_AdamInEvenIdeal : Prop :=
  True

def algebraic_AdamInEvenIdeal_AdamInEvenRefIdeal [hAdamInEvenIdeal : Cert.AdamInEvenIdeal.Facts] [hAdamInEvenRefIdeal : Cert.AdamInEvenRefIdeal.Facts] : Prop :=
  ∀ (m : (ℓ : Loc Cert.AdamInEvenIdeal.nD Cert.AdamInEvenIdeal.τ Cert.AdamInEvenIdeal.sig) → Buf (Elt Ideal) ℓ) (g : Dev Cert.AdamInEvenIdeal.nD → PrngReg)
    (m' : (ℓ : Loc Cert.AdamInEvenRefIdeal.nD Cert.AdamInEvenRefIdeal.τ Cert.AdamInEvenRefIdeal.sig) → Buf (Elt Ideal) ℓ) (g' : Dev Cert.AdamInEvenRefIdeal.nD → PrngReg), Pre_AdamInEvenIdeal m →
    (∀ c : Dev Cert.AdamInEvenIdeal.nD,
      m' ((c.tc : Thread Cert.AdamInEvenRefIdeal.nD Cert.AdamInEvenRefIdeal.τ).loc Cert.AdamInEvenRefIdeal.main_arg0) = m ((c.tc : Thread Cert.AdamInEvenIdeal.nD Cert.AdamInEvenIdeal.τ).loc Cert.AdamInEvenIdeal.main_arg0)
      ∧ m' ((c.tc : Thread Cert.AdamInEvenRefIdeal.nD Cert.AdamInEvenRefIdeal.τ).loc Cert.AdamInEvenRefIdeal.main_arg1) = m ((c.tc : Thread Cert.AdamInEvenIdeal.nD Cert.AdamInEvenIdeal.τ).loc Cert.AdamInEvenIdeal.main_arg1)
      ∧ m' ((c.tc : Thread Cert.AdamInEvenRefIdeal.nD Cert.AdamInEvenRefIdeal.τ).loc Cert.AdamInEvenRefIdeal.main_arg2) = m ((c.tc : Thread Cert.AdamInEvenIdeal.nD Cert.AdamInEvenIdeal.τ).loc Cert.AdamInEvenIdeal.main_arg2)
      ∧ m' ((c.tc : Thread Cert.AdamInEvenRefIdeal.nD Cert.AdamInEvenRefIdeal.τ).loc Cert.AdamInEvenRefIdeal.main_arg3) = m ((c.tc : Thread Cert.AdamInEvenIdeal.nD Cert.AdamInEvenIdeal.τ).loc Cert.AdamInEvenIdeal.main_arg3)
      ∧ m' ((c.tc : Thread Cert.AdamInEvenRefIdeal.nD Cert.AdamInEvenRefIdeal.τ).loc Cert.AdamInEvenRefIdeal.main_arg4) = m ((c.tc : Thread Cert.AdamInEvenIdeal.nD Cert.AdamInEvenIdeal.τ).loc Cert.AdamInEvenIdeal.main_arg4)) →
    ∃ (v0 : (c : Dev Cert.AdamInEvenIdeal.nD) → Buf (Elt Ideal) ((c.tc : Thread Cert.AdamInEvenIdeal.nD Cert.AdamInEvenIdeal.τ).loc Cert.AdamInEvenIdeal.main_v1_0)) (v1 : (c : Dev Cert.AdamInEvenIdeal.nD) → Buf (Elt Ideal) ((c.tc : Thread Cert.AdamInEvenIdeal.nD Cert.AdamInEvenIdeal.τ).loc Cert.AdamInEvenIdeal.main_v1_1)) (v2 : (c : Dev Cert.AdamInEvenIdeal.nD) → Buf (Elt Ideal) ((c.tc : Thread Cert.AdamInEvenIdeal.nD Cert.AdamInEvenIdeal.τ).loc Cert.AdamInEvenIdeal.main_v1_2)) (v3 : (c : Dev Cert.AdamInEvenIdeal.nD) → Buf (Elt Ideal) ((c.tc : Thread Cert.AdamInEvenIdeal.nD Cert.AdamInEvenIdeal.τ).loc Cert.AdamInEvenIdeal.main_v1_3)),
      θ_run (Cert.AdamInEvenIdeal.defs (F := Ideal)) (onTc (τ := Cert.AdamInEvenIdeal.τ) (Cert.AdamInEvenIdeal.main (F := Ideal))) ⟨m, fun _ => 0, g⟩ (fun r => ∀ c : Dev Cert.AdamInEvenIdeal.nD,
          r.2.mem ((c.tc : Thread Cert.AdamInEvenIdeal.nD Cert.AdamInEvenIdeal.τ).loc Cert.AdamInEvenIdeal.main_v1_0) = v0 c
          ∧ r.2.mem ((c.tc : Thread Cert.AdamInEvenIdeal.nD Cert.AdamInEvenIdeal.τ).loc Cert.AdamInEvenIdeal.main_v1_1) = v1 c
          ∧ r.2.mem ((c.tc : Thread Cert.AdamInEvenIdeal.nD Cert.AdamInEvenIdeal.τ).loc Cert.AdamInEvenIdeal.main_v1_2) = v2 c
          ∧ r.2.mem ((c.tc : Thread Cert.AdamInEvenIdeal.nD Cert.AdamInEvenIdeal.τ).loc Cert.AdamInEvenIdeal.main_v1_3) = v3 c
          ∧ r.2.mem ((c.tc : Thread Cert.AdamInEvenIdeal.nD Cert.AdamInEvenIdeal.τ).loc Cert.AdamInEvenIdeal.main_arg0) = m ((c.tc : Thread Cert.AdamInEvenIdeal.nD Cert.AdamInEvenIdeal.τ).loc Cert.AdamInEvenIdeal.main_arg0)
          ∧ r.2.mem ((c.tc : Thread Cert.AdamInEvenIdeal.nD Cert.AdamInEvenIdeal.τ).loc Cert.AdamInEvenIdeal.main_arg1) = m ((c.tc : Thread Cert.AdamInEvenIdeal.nD Cert.AdamInEvenIdeal.τ).loc Cert.AdamInEvenIdeal.main_arg1)
          ∧ r.2.mem ((c.tc : Thread Cert.AdamInEvenIdeal.nD Cert.AdamInEvenIdeal.τ).loc Cert.AdamInEvenIdeal.main_arg2) = m ((c.tc : Thread Cert.AdamInEvenIdeal.nD Cert.AdamInEvenIdeal.τ).loc Cert.AdamInEvenIdeal.main_arg2)
          ∧ r.2.mem ((c.tc : Thread Cert.AdamInEvenIdeal.nD Cert.AdamInEvenIdeal.τ).loc Cert.AdamInEvenIdeal.main_arg3) = m ((c.tc : Thread Cert.AdamInEvenIdeal.nD Cert.AdamInEvenIdeal.τ).loc Cert.AdamInEvenIdeal.main_arg3)
          ∧ r.2.mem ((c.tc : Thread Cert.AdamInEvenIdeal.nD Cert.AdamInEvenIdeal.τ).loc Cert.AdamInEvenIdeal.main_arg4) = m ((c.tc : Thread Cert.AdamInEvenIdeal.nD Cert.AdamInEvenIdeal.τ).loc Cert.AdamInEvenIdeal.main_arg4))
      ∧ θ_run (Cert.AdamInEvenRefIdeal.defs (F := Ideal)) (onTc (τ := Cert.AdamInEvenRefIdeal.τ) (Cert.AdamInEvenRefIdeal.main (F := Ideal))) ⟨m', fun _ => 0, g'⟩ (fun r => ∀ c : Dev Cert.AdamInEvenRefIdeal.nD,
          r.2.mem ((c.tc : Thread Cert.AdamInEvenRefIdeal.nD Cert.AdamInEvenRefIdeal.τ).loc Cert.AdamInEvenRefIdeal.main_v14) = v0 c
          ∧ r.2.mem ((c.tc : Thread Cert.AdamInEvenRefIdeal.nD Cert.AdamInEvenRefIdeal.τ).loc Cert.AdamInEvenRefIdeal.main_v38) = v1 c
          ∧ r.2.mem ((c.tc : Thread Cert.AdamInEvenRefIdeal.nD Cert.AdamInEvenRefIdeal.τ).loc Cert.AdamInEvenRefIdeal.main_v19) = v2 c
          ∧ r.2.mem ((c.tc : Thread Cert.AdamInEvenRefIdeal.nD Cert.AdamInEvenRefIdeal.τ).loc Cert.AdamInEvenRefIdeal.main_v25) = v3 c
          ∧ r.2.mem ((c.tc : Thread Cert.AdamInEvenRefIdeal.nD Cert.AdamInEvenRefIdeal.τ).loc Cert.AdamInEvenRefIdeal.main_arg0) = m' ((c.tc : Thread Cert.AdamInEvenRefIdeal.nD Cert.AdamInEvenRefIdeal.τ).loc Cert.AdamInEvenRefIdeal.main_arg0)
          ∧ r.2.mem ((c.tc : Thread Cert.AdamInEvenRefIdeal.nD Cert.AdamInEvenRefIdeal.τ).loc Cert.AdamInEvenRefIdeal.main_arg1) = m' ((c.tc : Thread Cert.AdamInEvenRefIdeal.nD Cert.AdamInEvenRefIdeal.τ).loc Cert.AdamInEvenRefIdeal.main_arg1)
          ∧ r.2.mem ((c.tc : Thread Cert.AdamInEvenRefIdeal.nD Cert.AdamInEvenRefIdeal.τ).loc Cert.AdamInEvenRefIdeal.main_arg2) = m' ((c.tc : Thread Cert.AdamInEvenRefIdeal.nD Cert.AdamInEvenRefIdeal.τ).loc Cert.AdamInEvenRefIdeal.main_arg2)
          ∧ r.2.mem ((c.tc : Thread Cert.AdamInEvenRefIdeal.nD Cert.AdamInEvenRefIdeal.τ).loc Cert.AdamInEvenRefIdeal.main_arg3) = m' ((c.tc : Thread Cert.AdamInEvenRefIdeal.nD Cert.AdamInEvenRefIdeal.τ).loc Cert.AdamInEvenRefIdeal.main_arg3)
          ∧ r.2.mem ((c.tc : Thread Cert.AdamInEvenRefIdeal.nD Cert.AdamInEvenRefIdeal.τ).loc Cert.AdamInEvenRefIdeal.main_arg4) = m' ((c.tc : Thread Cert.AdamInEvenRefIdeal.nD Cert.AdamInEvenRefIdeal.τ).loc Cert.AdamInEvenRefIdeal.main_arg4))

def preserves_AdamInOdd_AdamInOddIdeal : Prop :=
  True

def algebraic_AdamInOddIdeal_AdamInOddRefIdeal [hAdamInOddIdeal : Cert.AdamInOddIdeal.Facts] [hAdamInOddRefIdeal : Cert.AdamInOddRefIdeal.Facts] : Prop :=
  ∀ (m : (ℓ : Loc Cert.AdamInOddIdeal.nD Cert.AdamInOddIdeal.τ Cert.AdamInOddIdeal.sig) → Buf (Elt Ideal) ℓ) (g : Dev Cert.AdamInOddIdeal.nD → PrngReg)
    (m' : (ℓ : Loc Cert.AdamInOddRefIdeal.nD Cert.AdamInOddRefIdeal.τ Cert.AdamInOddRefIdeal.sig) → Buf (Elt Ideal) ℓ) (g' : Dev Cert.AdamInOddRefIdeal.nD → PrngReg), Pre_AdamInOddIdeal m →
    (∀ c : Dev Cert.AdamInOddIdeal.nD,
      m' ((c.tc : Thread Cert.AdamInOddRefIdeal.nD Cert.AdamInOddRefIdeal.τ).loc Cert.AdamInOddRefIdeal.main_arg0) = m ((c.tc : Thread Cert.AdamInOddIdeal.nD Cert.AdamInOddIdeal.τ).loc Cert.AdamInOddIdeal.main_arg0)
      ∧ m' ((c.tc : Thread Cert.AdamInOddRefIdeal.nD Cert.AdamInOddRefIdeal.τ).loc Cert.AdamInOddRefIdeal.main_arg1) = m ((c.tc : Thread Cert.AdamInOddIdeal.nD Cert.AdamInOddIdeal.τ).loc Cert.AdamInOddIdeal.main_arg1)
      ∧ m' ((c.tc : Thread Cert.AdamInOddRefIdeal.nD Cert.AdamInOddRefIdeal.τ).loc Cert.AdamInOddRefIdeal.main_arg2) = m ((c.tc : Thread Cert.AdamInOddIdeal.nD Cert.AdamInOddIdeal.τ).loc Cert.AdamInOddIdeal.main_arg2)
      ∧ m' ((c.tc : Thread Cert.AdamInOddRefIdeal.nD Cert.AdamInOddRefIdeal.τ).loc Cert.AdamInOddRefIdeal.main_arg3) = m ((c.tc : Thread Cert.AdamInOddIdeal.nD Cert.AdamInOddIdeal.τ).loc Cert.AdamInOddIdeal.main_arg3)
      ∧ m' ((c.tc : Thread Cert.AdamInOddRefIdeal.nD Cert.AdamInOddRefIdeal.τ).loc Cert.AdamInOddRefIdeal.main_arg4) = m ((c.tc : Thread Cert.AdamInOddIdeal.nD Cert.AdamInOddIdeal.τ).loc Cert.AdamInOddIdeal.main_arg4)) →
    ∃ (v0 : (c : Dev Cert.AdamInOddIdeal.nD) → Buf (Elt Ideal) ((c.tc : Thread Cert.AdamInOddIdeal.nD Cert.AdamInOddIdeal.τ).loc Cert.AdamInOddIdeal.main_v1_0)) (v1 : (c : Dev Cert.AdamInOddIdeal.nD) → Buf (Elt Ideal) ((c.tc : Thread Cert.AdamInOddIdeal.nD Cert.AdamInOddIdeal.τ).loc Cert.AdamInOddIdeal.main_v1_1)) (v2 : (c : Dev Cert.AdamInOddIdeal.nD) → Buf (Elt Ideal) ((c.tc : Thread Cert.AdamInOddIdeal.nD Cert.AdamInOddIdeal.τ).loc Cert.AdamInOddIdeal.main_v1_2)) (v3 : (c : Dev Cert.AdamInOddIdeal.nD) → Buf (Elt Ideal) ((c.tc : Thread Cert.AdamInOddIdeal.nD Cert.AdamInOddIdeal.τ).loc Cert.AdamInOddIdeal.main_v1_3)),
      θ_run (Cert.AdamInOddIdeal.defs (F := Ideal)) (onTc (τ := Cert.AdamInOddIdeal.τ) (Cert.AdamInOddIdeal.main (F := Ideal))) ⟨m, fun _ => 0, g⟩ (fun r => ∀ c : Dev Cert.AdamInOddIdeal.nD,
          r.2.mem ((c.tc : Thread Cert.AdamInOddIdeal.nD Cert.AdamInOddIdeal.τ).loc Cert.AdamInOddIdeal.main_v1_0) = v0 c
          ∧ r.2.mem ((c.tc : Thread Cert.AdamInOddIdeal.nD Cert.AdamInOddIdeal.τ).loc Cert.AdamInOddIdeal.main_v1_1) = v1 c
          ∧ r.2.mem ((c.tc : Thread Cert.AdamInOddIdeal.nD Cert.AdamInOddIdeal.τ).loc Cert.AdamInOddIdeal.main_v1_2) = v2 c
          ∧ r.2.mem ((c.tc : Thread Cert.AdamInOddIdeal.nD Cert.AdamInOddIdeal.τ).loc Cert.AdamInOddIdeal.main_v1_3) = v3 c
          ∧ r.2.mem ((c.tc : Thread Cert.AdamInOddIdeal.nD Cert.AdamInOddIdeal.τ).loc Cert.AdamInOddIdeal.main_arg0) = m ((c.tc : Thread Cert.AdamInOddIdeal.nD Cert.AdamInOddIdeal.τ).loc Cert.AdamInOddIdeal.main_arg0)
          ∧ r.2.mem ((c.tc : Thread Cert.AdamInOddIdeal.nD Cert.AdamInOddIdeal.τ).loc Cert.AdamInOddIdeal.main_arg1) = m ((c.tc : Thread Cert.AdamInOddIdeal.nD Cert.AdamInOddIdeal.τ).loc Cert.AdamInOddIdeal.main_arg1)
          ∧ r.2.mem ((c.tc : Thread Cert.AdamInOddIdeal.nD Cert.AdamInOddIdeal.τ).loc Cert.AdamInOddIdeal.main_arg2) = m ((c.tc : Thread Cert.AdamInOddIdeal.nD Cert.AdamInOddIdeal.τ).loc Cert.AdamInOddIdeal.main_arg2)
          ∧ r.2.mem ((c.tc : Thread Cert.AdamInOddIdeal.nD Cert.AdamInOddIdeal.τ).loc Cert.AdamInOddIdeal.main_arg3) = m ((c.tc : Thread Cert.AdamInOddIdeal.nD Cert.AdamInOddIdeal.τ).loc Cert.AdamInOddIdeal.main_arg3)
          ∧ r.2.mem ((c.tc : Thread Cert.AdamInOddIdeal.nD Cert.AdamInOddIdeal.τ).loc Cert.AdamInOddIdeal.main_arg4) = m ((c.tc : Thread Cert.AdamInOddIdeal.nD Cert.AdamInOddIdeal.τ).loc Cert.AdamInOddIdeal.main_arg4))
      ∧ θ_run (Cert.AdamInOddRefIdeal.defs (F := Ideal)) (onTc (τ := Cert.AdamInOddRefIdeal.τ) (Cert.AdamInOddRefIdeal.main (F := Ideal))) ⟨m', fun _ => 0, g'⟩ (fun r => ∀ c : Dev Cert.AdamInOddRefIdeal.nD,
          r.2.mem ((c.tc : Thread Cert.AdamInOddRefIdeal.nD Cert.AdamInOddRefIdeal.τ).loc Cert.AdamInOddRefIdeal.main_v14) = v0 c
          ∧ r.2.mem ((c.tc : Thread Cert.AdamInOddRefIdeal.nD Cert.AdamInOddRefIdeal.τ).loc Cert.AdamInOddRefIdeal.main_v38) = v1 c
          ∧ r.2.mem ((c.tc : Thread Cert.AdamInOddRefIdeal.nD Cert.AdamInOddRefIdeal.τ).loc Cert.AdamInOddRefIdeal.main_v19) = v2 c
          ∧ r.2.mem ((c.tc : Thread Cert.AdamInOddRefIdeal.nD Cert.AdamInOddRefIdeal.τ).loc Cert.AdamInOddRefIdeal.main_v25) = v3 c
          ∧ r.2.mem ((c.tc : Thread Cert.AdamInOddRefIdeal.nD Cert.AdamInOddRefIdeal.τ).loc Cert.AdamInOddRefIdeal.main_arg0) = m' ((c.tc : Thread Cert.AdamInOddRefIdeal.nD Cert.AdamInOddRefIdeal.τ).loc Cert.AdamInOddRefIdeal.main_arg0)
          ∧ r.2.mem ((c.tc : Thread Cert.AdamInOddRefIdeal.nD Cert.AdamInOddRefIdeal.τ).loc Cert.AdamInOddRefIdeal.main_arg1) = m' ((c.tc : Thread Cert.AdamInOddRefIdeal.nD Cert.AdamInOddRefIdeal.τ).loc Cert.AdamInOddRefIdeal.main_arg1)
          ∧ r.2.mem ((c.tc : Thread Cert.AdamInOddRefIdeal.nD Cert.AdamInOddRefIdeal.τ).loc Cert.AdamInOddRefIdeal.main_arg2) = m' ((c.tc : Thread Cert.AdamInOddRefIdeal.nD Cert.AdamInOddRefIdeal.τ).loc Cert.AdamInOddRefIdeal.main_arg2)
          ∧ r.2.mem ((c.tc : Thread Cert.AdamInOddRefIdeal.nD Cert.AdamInOddRefIdeal.τ).loc Cert.AdamInOddRefIdeal.main_arg3) = m' ((c.tc : Thread Cert.AdamInOddRefIdeal.nD Cert.AdamInOddRefIdeal.τ).loc Cert.AdamInOddRefIdeal.main_arg3)
          ∧ r.2.mem ((c.tc : Thread Cert.AdamInOddRefIdeal.nD Cert.AdamInOddRefIdeal.τ).loc Cert.AdamInOddRefIdeal.main_arg4) = m' ((c.tc : Thread Cert.AdamInOddRefIdeal.nD Cert.AdamInOddRefIdeal.τ).loc Cert.AdamInOddRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v1_0)) (v1 : (c : Dev Cert.AdamOutIdeal.nD) → Buf (Elt Ideal) ((c.tc : Thread Cert.AdamOutIdeal.nD Cert.AdamOutIdeal.τ).loc Cert.AdamOutIdeal.main_v1_1)) (v2 : (c : Dev Cert.AdamOutIdeal.nD) → Buf (Elt Ideal) ((c.tc : Thread Cert.AdamOutIdeal.nD Cert.AdamOutIdeal.τ).loc Cert.AdamOutIdeal.main_v1_2)) (v3 : (c : Dev Cert.AdamOutIdeal.nD) → Buf (Elt Ideal) ((c.tc : Thread Cert.AdamOutIdeal.nD Cert.AdamOutIdeal.τ).loc Cert.AdamOutIdeal.main_v1_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v1_0) = v0 c
          ∧ r.2.mem ((c.tc : Thread Cert.AdamOutIdeal.nD Cert.AdamOutIdeal.τ).loc Cert.AdamOutIdeal.main_v1_1) = v1 c
          ∧ r.2.mem ((c.tc : Thread Cert.AdamOutIdeal.nD Cert.AdamOutIdeal.τ).loc Cert.AdamOutIdeal.main_v1_2) = v2 c
          ∧ r.2.mem ((c.tc : Thread Cert.AdamOutIdeal.nD Cert.AdamOutIdeal.τ).loc Cert.AdamOutIdeal.main_v1_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v14) = v0 c
          ∧ r.2.mem ((c.tc : Thread Cert.AdamOutRefIdeal.nD Cert.AdamOutRefIdeal.τ).loc Cert.AdamOutRefIdeal.main_v38) = v1 c
          ∧ r.2.mem ((c.tc : Thread Cert.AdamOutRefIdeal.nD Cert.AdamOutRefIdeal.τ).loc Cert.AdamOutRefIdeal.main_v19) = v2 c
          ∧ r.2.mem ((c.tc : Thread Cert.AdamOutRefIdeal.nD Cert.AdamOutRefIdeal.τ).loc Cert.AdamOutRefIdeal.main_v25) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)
      ∧ m' ((c.tc : Thread Cert.AdamPoolRefIdeal.nD Cert.AdamPoolRefIdeal.τ).loc Cert.AdamPoolRefIdeal.main_arg4) = m ((c.tc : Thread Cert.AdamPoolIdeal.nD Cert.AdamPoolIdeal.τ).loc Cert.AdamPoolIdeal.main_arg4)) →
    ∃ (v0 : (c : Dev Cert.AdamPoolIdeal.nD) → Buf (Elt Ideal) ((c.tc : Thread Cert.AdamPoolIdeal.nD Cert.AdamPoolIdeal.τ).loc Cert.AdamPoolIdeal.main_v1_0)) (v1 : (c : Dev Cert.AdamPoolIdeal.nD) → Buf (Elt Ideal) ((c.tc : Thread Cert.AdamPoolIdeal.nD Cert.AdamPoolIdeal.τ).loc Cert.AdamPoolIdeal.main_v1_1)) (v2 : (c : Dev Cert.AdamPoolIdeal.nD) → Buf (Elt Ideal) ((c.tc : Thread Cert.AdamPoolIdeal.nD Cert.AdamPoolIdeal.τ).loc Cert.AdamPoolIdeal.main_v1_2)) (v3 : (c : Dev Cert.AdamPoolIdeal.nD) → Buf (Elt Ideal) ((c.tc : Thread Cert.AdamPoolIdeal.nD Cert.AdamPoolIdeal.τ).loc Cert.AdamPoolIdeal.main_v1_3)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v1_0) = v0 c
          ∧ r.2.mem ((c.tc : Thread Cert.AdamPoolIdeal.nD Cert.AdamPoolIdeal.τ).loc Cert.AdamPoolIdeal.main_v1_1) = v1 c
          ∧ r.2.mem ((c.tc : Thread Cert.AdamPoolIdeal.nD Cert.AdamPoolIdeal.τ).loc Cert.AdamPoolIdeal.main_v1_2) = v2 c
          ∧ r.2.mem ((c.tc : Thread Cert.AdamPoolIdeal.nD Cert.AdamPoolIdeal.τ).loc Cert.AdamPoolIdeal.main_v1_3) = v3 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3)
          ∧ r.2.mem ((c.tc : Thread Cert.AdamPoolIdeal.nD Cert.AdamPoolIdeal.τ).loc Cert.AdamPoolIdeal.main_arg4) = m ((c.tc : Thread Cert.AdamPoolIdeal.nD Cert.AdamPoolIdeal.τ).loc Cert.AdamPoolIdeal.main_arg4))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v14) = v0 c
          ∧ r.2.mem ((c.tc : Thread Cert.AdamPoolRefIdeal.nD Cert.AdamPoolRefIdeal.τ).loc Cert.AdamPoolRefIdeal.main_v38) = v1 c
          ∧ r.2.mem ((c.tc : Thread Cert.AdamPoolRefIdeal.nD Cert.AdamPoolRefIdeal.τ).loc Cert.AdamPoolRefIdeal.main_v19) = v2 c
          ∧ r.2.mem ((c.tc : Thread Cert.AdamPoolRefIdeal.nD Cert.AdamPoolRefIdeal.τ).loc Cert.AdamPoolRefIdeal.main_v25) = v3 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3)
          ∧ r.2.mem ((c.tc : Thread Cert.AdamPoolRefIdeal.nD Cert.AdamPoolRefIdeal.τ).loc Cert.AdamPoolRefIdeal.main_arg4) = m' ((c.tc : Thread Cert.AdamPoolRefIdeal.nD Cert.AdamPoolRefIdeal.τ).loc Cert.AdamPoolRefIdeal.main_arg4))

def preserves_AdamSmallA_AdamSmallAIdeal : Prop :=
  True

def algebraic_AdamSmallAIdeal_AdamSmallARefIdeal [hAdamSmallAIdeal : Cert.AdamSmallAIdeal.Facts] [hAdamSmallARefIdeal : Cert.AdamSmallARefIdeal.Facts] : Prop :=
  ∀ (m : (ℓ : Loc Cert.AdamSmallAIdeal.nD Cert.AdamSmallAIdeal.τ Cert.AdamSmallAIdeal.sig) → Buf (Elt Ideal) ℓ) (g : Dev Cert.AdamSmallAIdeal.nD → PrngReg)
    (m' : (ℓ : Loc Cert.AdamSmallARefIdeal.nD Cert.AdamSmallARefIdeal.τ Cert.AdamSmallARefIdeal.sig) → Buf (Elt Ideal) ℓ) (g' : Dev Cert.AdamSmallARefIdeal.nD → PrngReg), Pre_AdamSmallAIdeal m →
    (∀ c : Dev Cert.AdamSmallAIdeal.nD,
      m' ((c.tc : Thread Cert.AdamSmallARefIdeal.nD Cert.AdamSmallARefIdeal.τ).loc Cert.AdamSmallARefIdeal.main_arg0) = m ((c.tc : Thread Cert.AdamSmallAIdeal.nD Cert.AdamSmallAIdeal.τ).loc Cert.AdamSmallAIdeal.main_arg0)
      ∧ m' ((c.tc : Thread Cert.AdamSmallARefIdeal.nD Cert.AdamSmallARefIdeal.τ).loc Cert.AdamSmallARefIdeal.main_arg1) = m ((c.tc : Thread Cert.AdamSmallAIdeal.nD Cert.AdamSmallAIdeal.τ).loc Cert.AdamSmallAIdeal.main_arg1)
      ∧ m' ((c.tc : Thread Cert.AdamSmallARefIdeal.nD Cert.AdamSmallARefIdeal.τ).loc Cert.AdamSmallARefIdeal.main_arg2) = m ((c.tc : Thread Cert.AdamSmallAIdeal.nD Cert.AdamSmallAIdeal.τ).loc Cert.AdamSmallAIdeal.main_arg2)
      ∧ m' ((c.tc : Thread Cert.AdamSmallARefIdeal.nD Cert.AdamSmallARefIdeal.τ).loc Cert.AdamSmallARefIdeal.main_arg3) = m ((c.tc : Thread Cert.AdamSmallAIdeal.nD Cert.AdamSmallAIdeal.τ).loc Cert.AdamSmallAIdeal.main_arg3)
      ∧ m' ((c.tc : Thread Cert.AdamSmallARefIdeal.nD Cert.AdamSmallARefIdeal.τ).loc Cert.AdamSmallARefIdeal.main_arg4) = m ((c.tc : Thread Cert.AdamSmallAIdeal.nD Cert.AdamSmallAIdeal.τ).loc Cert.AdamSmallAIdeal.main_arg4)
      ∧ m' ((c.tc : Thread Cert.AdamSmallARefIdeal.nD Cert.AdamSmallARefIdeal.τ).loc Cert.AdamSmallARefIdeal.main_arg5) = m ((c.tc : Thread Cert.AdamSmallAIdeal.nD Cert.AdamSmallAIdeal.τ).loc Cert.AdamSmallAIdeal.main_arg5)
      ∧ m' ((c.tc : Thread Cert.AdamSmallARefIdeal.nD Cert.AdamSmallARefIdeal.τ).loc Cert.AdamSmallARefIdeal.main_arg6) = m ((c.tc : Thread Cert.AdamSmallAIdeal.nD Cert.AdamSmallAIdeal.τ).loc Cert.AdamSmallAIdeal.main_arg6)
      ∧ m' ((c.tc : Thread Cert.AdamSmallARefIdeal.nD Cert.AdamSmallARefIdeal.τ).loc Cert.AdamSmallARefIdeal.main_arg7) = m ((c.tc : Thread Cert.AdamSmallAIdeal.nD Cert.AdamSmallAIdeal.τ).loc Cert.AdamSmallAIdeal.main_arg7)
      ∧ m' ((c.tc : Thread Cert.AdamSmallARefIdeal.nD Cert.AdamSmallARefIdeal.τ).loc Cert.AdamSmallARefIdeal.main_arg8) = m ((c.tc : Thread Cert.AdamSmallAIdeal.nD Cert.AdamSmallAIdeal.τ).loc Cert.AdamSmallAIdeal.main_arg8)
      ∧ m' ((c.tc : Thread Cert.AdamSmallARefIdeal.nD Cert.AdamSmallARefIdeal.τ).loc Cert.AdamSmallARefIdeal.main_arg9) = m ((c.tc : Thread Cert.AdamSmallAIdeal.nD Cert.AdamSmallAIdeal.τ).loc Cert.AdamSmallAIdeal.main_arg9)
      ∧ m' ((c.tc : Thread Cert.AdamSmallARefIdeal.nD Cert.AdamSmallARefIdeal.τ).loc Cert.AdamSmallARefIdeal.main_arg10) = m ((c.tc : Thread Cert.AdamSmallAIdeal.nD Cert.AdamSmallAIdeal.τ).loc Cert.AdamSmallAIdeal.main_arg10)
      ∧ m' ((c.tc : Thread Cert.AdamSmallARefIdeal.nD Cert.AdamSmallARefIdeal.τ).loc Cert.AdamSmallARefIdeal.main_arg11) = m ((c.tc : Thread Cert.AdamSmallAIdeal.nD Cert.AdamSmallAIdeal.τ).loc Cert.AdamSmallAIdeal.main_arg11)) →
    ∃ (v0 : (c : Dev Cert.AdamSmallAIdeal.nD) → Buf (Elt Ideal) ((c.tc : Thread Cert.AdamSmallAIdeal.nD Cert.AdamSmallAIdeal.τ).loc Cert.AdamSmallAIdeal.main_v0_0)) (v1 : (c : Dev Cert.AdamSmallAIdeal.nD) → Buf (Elt Ideal) ((c.tc : Thread Cert.AdamSmallAIdeal.nD Cert.AdamSmallAIdeal.τ).loc Cert.AdamSmallAIdeal.main_v0_1)) (v2 : (c : Dev Cert.AdamSmallAIdeal.nD) → Buf (Elt Ideal) ((c.tc : Thread Cert.AdamSmallAIdeal.nD Cert.AdamSmallAIdeal.τ).loc Cert.AdamSmallAIdeal.main_v0_2)) (v3 : (c : Dev Cert.AdamSmallAIdeal.nD) → Buf (Elt Ideal) ((c.tc : Thread Cert.AdamSmallAIdeal.nD Cert.AdamSmallAIdeal.τ).loc Cert.AdamSmallAIdeal.main_v0_3)) (v4 : (c : Dev Cert.AdamSmallAIdeal.nD) → Buf (Elt Ideal) ((c.tc : Thread Cert.AdamSmallAIdeal.nD Cert.AdamSmallAIdeal.τ).loc Cert.AdamSmallAIdeal.main_v0_4)) (v5 : (c : Dev Cert.AdamSmallAIdeal.nD) → Buf (Elt Ideal) ((c.tc : Thread Cert.AdamSmallAIdeal.nD Cert.AdamSmallAIdeal.τ).loc Cert.AdamSmallAIdeal.main_v0_5)) (v6 : (c : Dev Cert.AdamSmallAIdeal.nD) → Buf (Elt Ideal) ((c.tc : Thread Cert.AdamSmallAIdeal.nD Cert.AdamSmallAIdeal.τ).loc Cert.AdamSmallAIdeal.main_v0_6)) (v7 : (c : Dev Cert.AdamSmallAIdeal.nD) → Buf (Elt Ideal) ((c.tc : Thread Cert.AdamSmallAIdeal.nD Cert.AdamSmallAIdeal.τ).loc Cert.AdamSmallAIdeal.main_v0_7)) (v8 : (c : Dev Cert.AdamSmallAIdeal.nD) → Buf (Elt Ideal) ((c.tc : Thread Cert.AdamSmallAIdeal.nD Cert.AdamSmallAIdeal.τ).loc Cert.AdamSmallAIdeal.main_v0_8)),
      θ_run (Cert.AdamSmallAIdeal.defs (F := Ideal)) (onTc (τ := Cert.AdamSmallAIdeal.τ) (Cert.AdamSmallAIdeal.main (F := Ideal))) ⟨m, fun _ => 0, g⟩ (fun r => ∀ c : Dev Cert.AdamSmallAIdeal.nD,
          r.2.mem ((c.tc : Thread Cert.AdamSmallAIdeal.nD Cert.AdamSmallAIdeal.τ).loc Cert.AdamSmallAIdeal.main_v0_0) = v0 c
          ∧ r.2.mem ((c.tc : Thread Cert.AdamSmallAIdeal.nD Cert.AdamSmallAIdeal.τ).loc Cert.AdamSmallAIdeal.main_v0_1) = v1 c
          ∧ r.2.mem ((c.tc : Thread Cert.AdamSmallAIdeal.nD Cert.AdamSmallAIdeal.τ).loc Cert.AdamSmallAIdeal.main_v0_2) = v2 c
          ∧ r.2.mem ((c.tc : Thread Cert.AdamSmallAIdeal.nD Cert.AdamSmallAIdeal.τ).loc Cert.AdamSmallAIdeal.main_v0_3) = v3 c
          ∧ r.2.mem ((c.tc : Thread Cert.AdamSmallAIdeal.nD Cert.AdamSmallAIdeal.τ).loc Cert.AdamSmallAIdeal.main_v0_4) = v4 c
          ∧ r.2.mem ((c.tc : Thread Cert.AdamSmallAIdeal.nD Cert.AdamSmallAIdeal.τ).loc Cert.AdamSmallAIdeal.main_v0_5) = v5 c
          ∧ r.2.mem ((c.tc : Thread Cert.AdamSmallAIdeal.nD Cert.AdamSmallAIdeal.τ).loc Cert.AdamSmallAIdeal.main_v0_6) = v6 c
          ∧ r.2.mem ((c.tc : Thread Cert.AdamSmallAIdeal.nD Cert.AdamSmallAIdeal.τ).loc Cert.AdamSmallAIdeal.main_v0_7) = v7 c
          ∧ r.2.mem ((c.tc : Thread Cert.AdamSmallAIdeal.nD Cert.AdamSmallAIdeal.τ).loc Cert.AdamSmallAIdeal.main_v0_8) = v8 c
          ∧ r.2.mem ((c.tc : Thread Cert.AdamSmallAIdeal.nD Cert.AdamSmallAIdeal.τ).loc Cert.AdamSmallAIdeal.main_arg0) = m ((c.tc : Thread Cert.AdamSmallAIdeal.nD Cert.AdamSmallAIdeal.τ).loc Cert.AdamSmallAIdeal.main_arg0)
          ∧ r.2.mem ((c.tc : Thread Cert.AdamSmallAIdeal.nD Cert.AdamSmallAIdeal.τ).loc Cert.AdamSmallAIdeal.main_arg1) = m ((c.tc : Thread Cert.AdamSmallAIdeal.nD Cert.AdamSmallAIdeal.τ).loc Cert.AdamSmallAIdeal.main_arg1)
          ∧ r.2.mem ((c.tc : Thread Cert.AdamSmallAIdeal.nD Cert.AdamSmallAIdeal.τ).loc Cert.AdamSmallAIdeal.main_arg2) = m ((c.tc : Thread Cert.AdamSmallAIdeal.nD Cert.AdamSmallAIdeal.τ).loc Cert.AdamSmallAIdeal.main_arg2)
          ∧ r.2.mem ((c.tc : Thread Cert.AdamSmallAIdeal.nD Cert.AdamSmallAIdeal.τ).loc Cert.AdamSmallAIdeal.main_arg3) = m ((c.tc : Thread Cert.AdamSmallAIdeal.nD Cert.AdamSmallAIdeal.τ).loc Cert.AdamSmallAIdeal.main_arg3)
          ∧ r.2.mem ((c.tc : Thread Cert.AdamSmallAIdeal.nD Cert.AdamSmallAIdeal.τ).loc Cert.AdamSmallAIdeal.main_arg4) = m ((c.tc : Thread Cert.AdamSmallAIdeal.nD Cert.AdamSmallAIdeal.τ).loc Cert.AdamSmallAIdeal.main_arg4)
          ∧ r.2.mem ((c.tc : Thread Cert.AdamSmallAIdeal.nD Cert.AdamSmallAIdeal.τ).loc Cert.AdamSmallAIdeal.main_arg5) = m ((c.tc : Thread Cert.AdamSmallAIdeal.nD Cert.AdamSmallAIdeal.τ).loc Cert.AdamSmallAIdeal.main_arg5)
          ∧ r.2.mem ((c.tc : Thread Cert.AdamSmallAIdeal.nD Cert.AdamSmallAIdeal.τ).loc Cert.AdamSmallAIdeal.main_arg6) = m ((c.tc : Thread Cert.AdamSmallAIdeal.nD Cert.AdamSmallAIdeal.τ).loc Cert.AdamSmallAIdeal.main_arg6)
          ∧ r.2.mem ((c.tc : Thread Cert.AdamSmallAIdeal.nD Cert.AdamSmallAIdeal.τ).loc Cert.AdamSmallAIdeal.main_arg7) = m ((c.tc : Thread Cert.AdamSmallAIdeal.nD Cert.AdamSmallAIdeal.τ).loc Cert.AdamSmallAIdeal.main_arg7)
          ∧ r.2.mem ((c.tc : Thread Cert.AdamSmallAIdeal.nD Cert.AdamSmallAIdeal.τ).loc Cert.AdamSmallAIdeal.main_arg8) = m ((c.tc : Thread Cert.AdamSmallAIdeal.nD Cert.AdamSmallAIdeal.τ).loc Cert.AdamSmallAIdeal.main_arg8)
          ∧ r.2.mem ((c.tc : Thread Cert.AdamSmallAIdeal.nD Cert.AdamSmallAIdeal.τ).loc Cert.AdamSmallAIdeal.main_arg9) = m ((c.tc : Thread Cert.AdamSmallAIdeal.nD Cert.AdamSmallAIdeal.τ).loc Cert.AdamSmallAIdeal.main_arg9)
          ∧ r.2.mem ((c.tc : Thread Cert.AdamSmallAIdeal.nD Cert.AdamSmallAIdeal.τ).loc Cert.AdamSmallAIdeal.main_arg10) = m ((c.tc : Thread Cert.AdamSmallAIdeal.nD Cert.AdamSmallAIdeal.τ).loc Cert.AdamSmallAIdeal.main_arg10)
          ∧ r.2.mem ((c.tc : Thread Cert.AdamSmallAIdeal.nD Cert.AdamSmallAIdeal.τ).loc Cert.AdamSmallAIdeal.main_arg11) = m ((c.tc : Thread Cert.AdamSmallAIdeal.nD Cert.AdamSmallAIdeal.τ).loc Cert.AdamSmallAIdeal.main_arg11))
      ∧ θ_run (Cert.AdamSmallARefIdeal.defs (F := Ideal)) (onTc (τ := Cert.AdamSmallARefIdeal.τ) (Cert.AdamSmallARefIdeal.main (F := Ideal))) ⟨m', fun _ => 0, g'⟩ (fun r => ∀ c : Dev Cert.AdamSmallARefIdeal.nD,
          r.2.mem ((c.tc : Thread Cert.AdamSmallARefIdeal.nD Cert.AdamSmallARefIdeal.τ).loc Cert.AdamSmallARefIdeal.main_v23) = v0 c
          ∧ r.2.mem ((c.tc : Thread Cert.AdamSmallARefIdeal.nD Cert.AdamSmallARefIdeal.τ).loc Cert.AdamSmallARefIdeal.main_v47) = v1 c
          ∧ r.2.mem ((c.tc : Thread Cert.AdamSmallARefIdeal.nD Cert.AdamSmallARefIdeal.τ).loc Cert.AdamSmallARefIdeal.main_v71) = v2 c
          ∧ r.2.mem ((c.tc : Thread Cert.AdamSmallARefIdeal.nD Cert.AdamSmallARefIdeal.τ).loc Cert.AdamSmallARefIdeal.main_v4) = v3 c
          ∧ r.2.mem ((c.tc : Thread Cert.AdamSmallARefIdeal.nD Cert.AdamSmallARefIdeal.τ).loc Cert.AdamSmallARefIdeal.main_v28) = v4 c
          ∧ r.2.mem ((c.tc : Thread Cert.AdamSmallARefIdeal.nD Cert.AdamSmallARefIdeal.τ).loc Cert.AdamSmallARefIdeal.main_v52) = v5 c
          ∧ r.2.mem ((c.tc : Thread Cert.AdamSmallARefIdeal.nD Cert.AdamSmallARefIdeal.τ).loc Cert.AdamSmallARefIdeal.main_v10) = v6 c
          ∧ r.2.mem ((c.tc : Thread Cert.AdamSmallARefIdeal.nD Cert.AdamSmallARefIdeal.τ).loc Cert.AdamSmallARefIdeal.main_v34) = v7 c
          ∧ r.2.mem ((c.tc : Thread Cert.AdamSmallARefIdeal.nD Cert.AdamSmallARefIdeal.τ).loc Cert.AdamSmallARefIdeal.main_v58) = v8 c
          ∧ r.2.mem ((c.tc : Thread Cert.AdamSmallARefIdeal.nD Cert.AdamSmallARefIdeal.τ).loc Cert.AdamSmallARefIdeal.main_arg0) = m' ((c.tc : Thread Cert.AdamSmallARefIdeal.nD Cert.AdamSmallARefIdeal.τ).loc Cert.AdamSmallARefIdeal.main_arg0)
          ∧ r.2.mem ((c.tc : Thread Cert.AdamSmallARefIdeal.nD Cert.AdamSmallARefIdeal.τ).loc Cert.AdamSmallARefIdeal.main_arg1) = m' ((c.tc : Thread Cert.AdamSmallARefIdeal.nD Cert.AdamSmallARefIdeal.τ).loc Cert.AdamSmallARefIdeal.main_arg1)
          ∧ r.2.mem ((c.tc : Thread Cert.AdamSmallARefIdeal.nD Cert.AdamSmallARefIdeal.τ).loc Cert.AdamSmallARefIdeal.main_arg2) = m' ((c.tc : Thread Cert.AdamSmallARefIdeal.nD Cert.AdamSmallARefIdeal.τ).loc Cert.AdamSmallARefIdeal.main_arg2)
          ∧ r.2.mem ((c.tc : Thread Cert.AdamSmallARefIdeal.nD Cert.AdamSmallARefIdeal.τ).loc Cert.AdamSmallARefIdeal.main_arg3) = m' ((c.tc : Thread Cert.AdamSmallARefIdeal.nD Cert.AdamSmallARefIdeal.τ).loc Cert.AdamSmallARefIdeal.main_arg3)
          ∧ r.2.mem ((c.tc : Thread Cert.AdamSmallARefIdeal.nD Cert.AdamSmallARefIdeal.τ).loc Cert.AdamSmallARefIdeal.main_arg4) = m' ((c.tc : Thread Cert.AdamSmallARefIdeal.nD Cert.AdamSmallARefIdeal.τ).loc Cert.AdamSmallARefIdeal.main_arg4)
          ∧ r.2.mem ((c.tc : Thread Cert.AdamSmallARefIdeal.nD Cert.AdamSmallARefIdeal.τ).loc Cert.AdamSmallARefIdeal.main_arg5) = m' ((c.tc : Thread Cert.AdamSmallARefIdeal.nD Cert.AdamSmallARefIdeal.τ).loc Cert.AdamSmallARefIdeal.main_arg5)
          ∧ r.2.mem ((c.tc : Thread Cert.AdamSmallARefIdeal.nD Cert.AdamSmallARefIdeal.τ).loc Cert.AdamSmallARefIdeal.main_arg6) = m' ((c.tc : Thread Cert.AdamSmallARefIdeal.nD Cert.AdamSmallARefIdeal.τ).loc Cert.AdamSmallARefIdeal.main_arg6)
          ∧ r.2.mem ((c.tc : Thread Cert.AdamSmallARefIdeal.nD Cert.AdamSmallARefIdeal.τ).loc Cert.AdamSmallARefIdeal.main_arg7) = m' ((c.tc : Thread Cert.AdamSmallARefIdeal.nD Cert.AdamSmallARefIdeal.τ).loc Cert.AdamSmallARefIdeal.main_arg7)
          ∧ r.2.mem ((c.tc : Thread Cert.AdamSmallARefIdeal.nD Cert.AdamSmallARefIdeal.τ).loc Cert.AdamSmallARefIdeal.main_arg8) = m' ((c.tc : Thread Cert.AdamSmallARefIdeal.nD Cert.AdamSmallARefIdeal.τ).loc Cert.AdamSmallARefIdeal.main_arg8)
          ∧ r.2.mem ((c.tc : Thread Cert.AdamSmallARefIdeal.nD Cert.AdamSmallARefIdeal.τ).loc Cert.AdamSmallARefIdeal.main_arg9) = m' ((c.tc : Thread Cert.AdamSmallARefIdeal.nD Cert.AdamSmallARefIdeal.τ).loc Cert.AdamSmallARefIdeal.main_arg9)
          ∧ r.2.mem ((c.tc : Thread Cert.AdamSmallARefIdeal.nD Cert.AdamSmallARefIdeal.τ).loc Cert.AdamSmallARefIdeal.main_arg10) = m' ((c.tc : Thread Cert.AdamSmallARefIdeal.nD Cert.AdamSmallARefIdeal.τ).loc Cert.AdamSmallARefIdeal.main_arg10)
          ∧ r.2.mem ((c.tc : Thread Cert.AdamSmallARefIdeal.nD Cert.AdamSmallARefIdeal.τ).loc Cert.AdamSmallARefIdeal.main_arg11) = m' ((c.tc : Thread Cert.AdamSmallARefIdeal.nD Cert.AdamSmallARefIdeal.τ).loc Cert.AdamSmallARefIdeal.main_arg11))

def preserves_AdamSmallB_AdamSmallBIdeal : Prop :=
  True

def algebraic_AdamSmallBIdeal_AdamSmallBRefIdeal [hAdamSmallBIdeal : Cert.AdamSmallBIdeal.Facts] [hAdamSmallBRefIdeal : Cert.AdamSmallBRefIdeal.Facts] : Prop :=
  ∀ (m : (ℓ : Loc Cert.AdamSmallBIdeal.nD Cert.AdamSmallBIdeal.τ Cert.AdamSmallBIdeal.sig) → Buf (Elt Ideal) ℓ) (g : Dev Cert.AdamSmallBIdeal.nD → PrngReg)
    (m' : (ℓ : Loc Cert.AdamSmallBRefIdeal.nD Cert.AdamSmallBRefIdeal.τ Cert.AdamSmallBRefIdeal.sig) → Buf (Elt Ideal) ℓ) (g' : Dev Cert.AdamSmallBRefIdeal.nD → PrngReg), Pre_AdamSmallBIdeal m →
    (∀ c : Dev Cert.AdamSmallBIdeal.nD,
      m' ((c.tc : Thread Cert.AdamSmallBRefIdeal.nD Cert.AdamSmallBRefIdeal.τ).loc Cert.AdamSmallBRefIdeal.main_arg0) = m ((c.tc : Thread Cert.AdamSmallBIdeal.nD Cert.AdamSmallBIdeal.τ).loc Cert.AdamSmallBIdeal.main_arg0)
      ∧ m' ((c.tc : Thread Cert.AdamSmallBRefIdeal.nD Cert.AdamSmallBRefIdeal.τ).loc Cert.AdamSmallBRefIdeal.main_arg1) = m ((c.tc : Thread Cert.AdamSmallBIdeal.nD Cert.AdamSmallBIdeal.τ).loc Cert.AdamSmallBIdeal.main_arg1)
      ∧ m' ((c.tc : Thread Cert.AdamSmallBRefIdeal.nD Cert.AdamSmallBRefIdeal.τ).loc Cert.AdamSmallBRefIdeal.main_arg2) = m ((c.tc : Thread Cert.AdamSmallBIdeal.nD Cert.AdamSmallBIdeal.τ).loc Cert.AdamSmallBIdeal.main_arg2)
      ∧ m' ((c.tc : Thread Cert.AdamSmallBRefIdeal.nD Cert.AdamSmallBRefIdeal.τ).loc Cert.AdamSmallBRefIdeal.main_arg3) = m ((c.tc : Thread Cert.AdamSmallBIdeal.nD Cert.AdamSmallBIdeal.τ).loc Cert.AdamSmallBIdeal.main_arg3)
      ∧ m' ((c.tc : Thread Cert.AdamSmallBRefIdeal.nD Cert.AdamSmallBRefIdeal.τ).loc Cert.AdamSmallBRefIdeal.main_arg4) = m ((c.tc : Thread Cert.AdamSmallBIdeal.nD Cert.AdamSmallBIdeal.τ).loc Cert.AdamSmallBIdeal.main_arg4)
      ∧ m' ((c.tc : Thread Cert.AdamSmallBRefIdeal.nD Cert.AdamSmallBRefIdeal.τ).loc Cert.AdamSmallBRefIdeal.main_arg5) = m ((c.tc : Thread Cert.AdamSmallBIdeal.nD Cert.AdamSmallBIdeal.τ).loc Cert.AdamSmallBIdeal.main_arg5)
      ∧ m' ((c.tc : Thread Cert.AdamSmallBRefIdeal.nD Cert.AdamSmallBRefIdeal.τ).loc Cert.AdamSmallBRefIdeal.main_arg6) = m ((c.tc : Thread Cert.AdamSmallBIdeal.nD Cert.AdamSmallBIdeal.τ).loc Cert.AdamSmallBIdeal.main_arg6)
      ∧ m' ((c.tc : Thread Cert.AdamSmallBRefIdeal.nD Cert.AdamSmallBRefIdeal.τ).loc Cert.AdamSmallBRefIdeal.main_arg7) = m ((c.tc : Thread Cert.AdamSmallBIdeal.nD Cert.AdamSmallBIdeal.τ).loc Cert.AdamSmallBIdeal.main_arg7)
      ∧ m' ((c.tc : Thread Cert.AdamSmallBRefIdeal.nD Cert.AdamSmallBRefIdeal.τ).loc Cert.AdamSmallBRefIdeal.main_arg8) = m ((c.tc : Thread Cert.AdamSmallBIdeal.nD Cert.AdamSmallBIdeal.τ).loc Cert.AdamSmallBIdeal.main_arg8)
      ∧ m' ((c.tc : Thread Cert.AdamSmallBRefIdeal.nD Cert.AdamSmallBRefIdeal.τ).loc Cert.AdamSmallBRefIdeal.main_arg9) = m ((c.tc : Thread Cert.AdamSmallBIdeal.nD Cert.AdamSmallBIdeal.τ).loc Cert.AdamSmallBIdeal.main_arg9)
      ∧ m' ((c.tc : Thread Cert.AdamSmallBRefIdeal.nD Cert.AdamSmallBRefIdeal.τ).loc Cert.AdamSmallBRefIdeal.main_arg10) = m ((c.tc : Thread Cert.AdamSmallBIdeal.nD Cert.AdamSmallBIdeal.τ).loc Cert.AdamSmallBIdeal.main_arg10)
      ∧ m' ((c.tc : Thread Cert.AdamSmallBRefIdeal.nD Cert.AdamSmallBRefIdeal.τ).loc Cert.AdamSmallBRefIdeal.main_arg11) = m ((c.tc : Thread Cert.AdamSmallBIdeal.nD Cert.AdamSmallBIdeal.τ).loc Cert.AdamSmallBIdeal.main_arg11)) →
    ∃ (v0 : (c : Dev Cert.AdamSmallBIdeal.nD) → Buf (Elt Ideal) ((c.tc : Thread Cert.AdamSmallBIdeal.nD Cert.AdamSmallBIdeal.τ).loc Cert.AdamSmallBIdeal.main_v0_0)) (v1 : (c : Dev Cert.AdamSmallBIdeal.nD) → Buf (Elt Ideal) ((c.tc : Thread Cert.AdamSmallBIdeal.nD Cert.AdamSmallBIdeal.τ).loc Cert.AdamSmallBIdeal.main_v0_1)) (v2 : (c : Dev Cert.AdamSmallBIdeal.nD) → Buf (Elt Ideal) ((c.tc : Thread Cert.AdamSmallBIdeal.nD Cert.AdamSmallBIdeal.τ).loc Cert.AdamSmallBIdeal.main_v0_2)) (v3 : (c : Dev Cert.AdamSmallBIdeal.nD) → Buf (Elt Ideal) ((c.tc : Thread Cert.AdamSmallBIdeal.nD Cert.AdamSmallBIdeal.τ).loc Cert.AdamSmallBIdeal.main_v0_3)) (v4 : (c : Dev Cert.AdamSmallBIdeal.nD) → Buf (Elt Ideal) ((c.tc : Thread Cert.AdamSmallBIdeal.nD Cert.AdamSmallBIdeal.τ).loc Cert.AdamSmallBIdeal.main_v0_4)) (v5 : (c : Dev Cert.AdamSmallBIdeal.nD) → Buf (Elt Ideal) ((c.tc : Thread Cert.AdamSmallBIdeal.nD Cert.AdamSmallBIdeal.τ).loc Cert.AdamSmallBIdeal.main_v0_5)) (v6 : (c : Dev Cert.AdamSmallBIdeal.nD) → Buf (Elt Ideal) ((c.tc : Thread Cert.AdamSmallBIdeal.nD Cert.AdamSmallBIdeal.τ).loc Cert.AdamSmallBIdeal.main_v0_6)) (v7 : (c : Dev Cert.AdamSmallBIdeal.nD) → Buf (Elt Ideal) ((c.tc : Thread Cert.AdamSmallBIdeal.nD Cert.AdamSmallBIdeal.τ).loc Cert.AdamSmallBIdeal.main_v0_7)) (v8 : (c : Dev Cert.AdamSmallBIdeal.nD) → Buf (Elt Ideal) ((c.tc : Thread Cert.AdamSmallBIdeal.nD Cert.AdamSmallBIdeal.τ).loc Cert.AdamSmallBIdeal.main_v0_8)),
      θ_run (Cert.AdamSmallBIdeal.defs (F := Ideal)) (onTc (τ := Cert.AdamSmallBIdeal.τ) (Cert.AdamSmallBIdeal.main (F := Ideal))) ⟨m, fun _ => 0, g⟩ (fun r => ∀ c : Dev Cert.AdamSmallBIdeal.nD,
          r.2.mem ((c.tc : Thread Cert.AdamSmallBIdeal.nD Cert.AdamSmallBIdeal.τ).loc Cert.AdamSmallBIdeal.main_v0_0) = v0 c
          ∧ r.2.mem ((c.tc : Thread Cert.AdamSmallBIdeal.nD Cert.AdamSmallBIdeal.τ).loc Cert.AdamSmallBIdeal.main_v0_1) = v1 c
          ∧ r.2.mem ((c.tc : Thread Cert.AdamSmallBIdeal.nD Cert.AdamSmallBIdeal.τ).loc Cert.AdamSmallBIdeal.main_v0_2) = v2 c
          ∧ r.2.mem ((c.tc : Thread Cert.AdamSmallBIdeal.nD Cert.AdamSmallBIdeal.τ).loc Cert.AdamSmallBIdeal.main_v0_3) = v3 c
          ∧ r.2.mem ((c.tc : Thread Cert.AdamSmallBIdeal.nD Cert.AdamSmallBIdeal.τ).loc Cert.AdamSmallBIdeal.main_v0_4) = v4 c
          ∧ r.2.mem ((c.tc : Thread Cert.AdamSmallBIdeal.nD Cert.AdamSmallBIdeal.τ).loc Cert.AdamSmallBIdeal.main_v0_5) = v5 c
          ∧ r.2.mem ((c.tc : Thread Cert.AdamSmallBIdeal.nD Cert.AdamSmallBIdeal.τ).loc Cert.AdamSmallBIdeal.main_v0_6) = v6 c
          ∧ r.2.mem ((c.tc : Thread Cert.AdamSmallBIdeal.nD Cert.AdamSmallBIdeal.τ).loc Cert.AdamSmallBIdeal.main_v0_7) = v7 c
          ∧ r.2.mem ((c.tc : Thread Cert.AdamSmallBIdeal.nD Cert.AdamSmallBIdeal.τ).loc Cert.AdamSmallBIdeal.main_v0_8) = v8 c
          ∧ r.2.mem ((c.tc : Thread Cert.AdamSmallBIdeal.nD Cert.AdamSmallBIdeal.τ).loc Cert.AdamSmallBIdeal.main_arg0) = m ((c.tc : Thread Cert.AdamSmallBIdeal.nD Cert.AdamSmallBIdeal.τ).loc Cert.AdamSmallBIdeal.main_arg0)
          ∧ r.2.mem ((c.tc : Thread Cert.AdamSmallBIdeal.nD Cert.AdamSmallBIdeal.τ).loc Cert.AdamSmallBIdeal.main_arg1) = m ((c.tc : Thread Cert.AdamSmallBIdeal.nD Cert.AdamSmallBIdeal.τ).loc Cert.AdamSmallBIdeal.main_arg1)
          ∧ r.2.mem ((c.tc : Thread Cert.AdamSmallBIdeal.nD Cert.AdamSmallBIdeal.τ).loc Cert.AdamSmallBIdeal.main_arg2) = m ((c.tc : Thread Cert.AdamSmallBIdeal.nD Cert.AdamSmallBIdeal.τ).loc Cert.AdamSmallBIdeal.main_arg2)
          ∧ r.2.mem ((c.tc : Thread Cert.AdamSmallBIdeal.nD Cert.AdamSmallBIdeal.τ).loc Cert.AdamSmallBIdeal.main_arg3) = m ((c.tc : Thread Cert.AdamSmallBIdeal.nD Cert.AdamSmallBIdeal.τ).loc Cert.AdamSmallBIdeal.main_arg3)
          ∧ r.2.mem ((c.tc : Thread Cert.AdamSmallBIdeal.nD Cert.AdamSmallBIdeal.τ).loc Cert.AdamSmallBIdeal.main_arg4) = m ((c.tc : Thread Cert.AdamSmallBIdeal.nD Cert.AdamSmallBIdeal.τ).loc Cert.AdamSmallBIdeal.main_arg4)
          ∧ r.2.mem ((c.tc : Thread Cert.AdamSmallBIdeal.nD Cert.AdamSmallBIdeal.τ).loc Cert.AdamSmallBIdeal.main_arg5) = m ((c.tc : Thread Cert.AdamSmallBIdeal.nD Cert.AdamSmallBIdeal.τ).loc Cert.AdamSmallBIdeal.main_arg5)
          ∧ r.2.mem ((c.tc : Thread Cert.AdamSmallBIdeal.nD Cert.AdamSmallBIdeal.τ).loc Cert.AdamSmallBIdeal.main_arg6) = m ((c.tc : Thread Cert.AdamSmallBIdeal.nD Cert.AdamSmallBIdeal.τ).loc Cert.AdamSmallBIdeal.main_arg6)
          ∧ r.2.mem ((c.tc : Thread Cert.AdamSmallBIdeal.nD Cert.AdamSmallBIdeal.τ).loc Cert.AdamSmallBIdeal.main_arg7) = m ((c.tc : Thread Cert.AdamSmallBIdeal.nD Cert.AdamSmallBIdeal.τ).loc Cert.AdamSmallBIdeal.main_arg7)
          ∧ r.2.mem ((c.tc : Thread Cert.AdamSmallBIdeal.nD Cert.AdamSmallBIdeal.τ).loc Cert.AdamSmallBIdeal.main_arg8) = m ((c.tc : Thread Cert.AdamSmallBIdeal.nD Cert.AdamSmallBIdeal.τ).loc Cert.AdamSmallBIdeal.main_arg8)
          ∧ r.2.mem ((c.tc : Thread Cert.AdamSmallBIdeal.nD Cert.AdamSmallBIdeal.τ).loc Cert.AdamSmallBIdeal.main_arg9) = m ((c.tc : Thread Cert.AdamSmallBIdeal.nD Cert.AdamSmallBIdeal.τ).loc Cert.AdamSmallBIdeal.main_arg9)
          ∧ r.2.mem ((c.tc : Thread Cert.AdamSmallBIdeal.nD Cert.AdamSmallBIdeal.τ).loc Cert.AdamSmallBIdeal.main_arg10) = m ((c.tc : Thread Cert.AdamSmallBIdeal.nD Cert.AdamSmallBIdeal.τ).loc Cert.AdamSmallBIdeal.main_arg10)
          ∧ r.2.mem ((c.tc : Thread Cert.AdamSmallBIdeal.nD Cert.AdamSmallBIdeal.τ).loc Cert.AdamSmallBIdeal.main_arg11) = m ((c.tc : Thread Cert.AdamSmallBIdeal.nD Cert.AdamSmallBIdeal.τ).loc Cert.AdamSmallBIdeal.main_arg11))
      ∧ θ_run (Cert.AdamSmallBRefIdeal.defs (F := Ideal)) (onTc (τ := Cert.AdamSmallBRefIdeal.τ) (Cert.AdamSmallBRefIdeal.main (F := Ideal))) ⟨m', fun _ => 0, g'⟩ (fun r => ∀ c : Dev Cert.AdamSmallBRefIdeal.nD,
          r.2.mem ((c.tc : Thread Cert.AdamSmallBRefIdeal.nD Cert.AdamSmallBRefIdeal.τ).loc Cert.AdamSmallBRefIdeal.main_v23) = v0 c
          ∧ r.2.mem ((c.tc : Thread Cert.AdamSmallBRefIdeal.nD Cert.AdamSmallBRefIdeal.τ).loc Cert.AdamSmallBRefIdeal.main_v47) = v1 c
          ∧ r.2.mem ((c.tc : Thread Cert.AdamSmallBRefIdeal.nD Cert.AdamSmallBRefIdeal.τ).loc Cert.AdamSmallBRefIdeal.main_v71) = v2 c
          ∧ r.2.mem ((c.tc : Thread Cert.AdamSmallBRefIdeal.nD Cert.AdamSmallBRefIdeal.τ).loc Cert.AdamSmallBRefIdeal.main_v4) = v3 c
          ∧ r.2.mem ((c.tc : Thread Cert.AdamSmallBRefIdeal.nD Cert.AdamSmallBRefIdeal.τ).loc Cert.AdamSmallBRefIdeal.main_v28) = v4 c
          ∧ r.2.mem ((c.tc : Thread Cert.AdamSmallBRefIdeal.nD Cert.AdamSmallBRefIdeal.τ).loc Cert.AdamSmallBRefIdeal.main_v52) = v5 c
          ∧ r.2.mem ((c.tc : Thread Cert.AdamSmallBRefIdeal.nD Cert.AdamSmallBRefIdeal.τ).loc Cert.AdamSmallBRefIdeal.main_v10) = v6 c
          ∧ r.2.mem ((c.tc : Thread Cert.AdamSmallBRefIdeal.nD Cert.AdamSmallBRefIdeal.τ).loc Cert.AdamSmallBRefIdeal.main_v34) = v7 c
          ∧ r.2.mem ((c.tc : Thread Cert.AdamSmallBRefIdeal.nD Cert.AdamSmallBRefIdeal.τ).loc Cert.AdamSmallBRefIdeal.main_v58) = v8 c
          ∧ r.2.mem ((c.tc : Thread Cert.AdamSmallBRefIdeal.nD Cert.AdamSmallBRefIdeal.τ).loc Cert.AdamSmallBRefIdeal.main_arg0) = m' ((c.tc : Thread Cert.AdamSmallBRefIdeal.nD Cert.AdamSmallBRefIdeal.τ).loc Cert.AdamSmallBRefIdeal.main_arg0)
          ∧ r.2.mem ((c.tc : Thread Cert.AdamSmallBRefIdeal.nD Cert.AdamSmallBRefIdeal.τ).loc Cert.AdamSmallBRefIdeal.main_arg1) = m' ((c.tc : Thread Cert.AdamSmallBRefIdeal.nD Cert.AdamSmallBRefIdeal.τ).loc Cert.AdamSmallBRefIdeal.main_arg1)
          ∧ r.2.mem ((c.tc : Thread Cert.AdamSmallBRefIdeal.nD Cert.AdamSmallBRefIdeal.τ).loc Cert.AdamSmallBRefIdeal.main_arg2) = m' ((c.tc : Thread Cert.AdamSmallBRefIdeal.nD Cert.AdamSmallBRefIdeal.τ).loc Cert.AdamSmallBRefIdeal.main_arg2)
          ∧ r.2.mem ((c.tc : Thread Cert.AdamSmallBRefIdeal.nD Cert.AdamSmallBRefIdeal.τ).loc Cert.AdamSmallBRefIdeal.main_arg3) = m' ((c.tc : Thread Cert.AdamSmallBRefIdeal.nD Cert.AdamSmallBRefIdeal.τ).loc Cert.AdamSmallBRefIdeal.main_arg3)
          ∧ r.2.mem ((c.tc : Thread Cert.AdamSmallBRefIdeal.nD Cert.AdamSmallBRefIdeal.τ).loc Cert.AdamSmallBRefIdeal.main_arg4) = m' ((c.tc : Thread Cert.AdamSmallBRefIdeal.nD Cert.AdamSmallBRefIdeal.τ).loc Cert.AdamSmallBRefIdeal.main_arg4)
          ∧ r.2.mem ((c.tc : Thread Cert.AdamSmallBRefIdeal.nD Cert.AdamSmallBRefIdeal.τ).loc Cert.AdamSmallBRefIdeal.main_arg5) = m' ((c.tc : Thread Cert.AdamSmallBRefIdeal.nD Cert.AdamSmallBRefIdeal.τ).loc Cert.AdamSmallBRefIdeal.main_arg5)
          ∧ r.2.mem ((c.tc : Thread Cert.AdamSmallBRefIdeal.nD Cert.AdamSmallBRefIdeal.τ).loc Cert.AdamSmallBRefIdeal.main_arg6) = m' ((c.tc : Thread Cert.AdamSmallBRefIdeal.nD Cert.AdamSmallBRefIdeal.τ).loc Cert.AdamSmallBRefIdeal.main_arg6)
          ∧ r.2.mem ((c.tc : Thread Cert.AdamSmallBRefIdeal.nD Cert.AdamSmallBRefIdeal.τ).loc Cert.AdamSmallBRefIdeal.main_arg7) = m' ((c.tc : Thread Cert.AdamSmallBRefIdeal.nD Cert.AdamSmallBRefIdeal.τ).loc Cert.AdamSmallBRefIdeal.main_arg7)
          ∧ r.2.mem ((c.tc : Thread Cert.AdamSmallBRefIdeal.nD Cert.AdamSmallBRefIdeal.τ).loc Cert.AdamSmallBRefIdeal.main_arg8) = m' ((c.tc : Thread Cert.AdamSmallBRefIdeal.nD Cert.AdamSmallBRefIdeal.τ).loc Cert.AdamSmallBRefIdeal.main_arg8)
          ∧ r.2.mem ((c.tc : Thread Cert.AdamSmallBRefIdeal.nD Cert.AdamSmallBRefIdeal.τ).loc Cert.AdamSmallBRefIdeal.main_arg9) = m' ((c.tc : Thread Cert.AdamSmallBRefIdeal.nD Cert.AdamSmallBRefIdeal.τ).loc Cert.AdamSmallBRefIdeal.main_arg9)
          ∧ r.2.mem ((c.tc : Thread Cert.AdamSmallBRefIdeal.nD Cert.AdamSmallBRefIdeal.τ).loc Cert.AdamSmallBRefIdeal.main_arg10) = m' ((c.tc : Thread Cert.AdamSmallBRefIdeal.nD Cert.AdamSmallBRefIdeal.τ).loc Cert.AdamSmallBRefIdeal.main_arg10)
          ∧ r.2.mem ((c.tc : Thread Cert.AdamSmallBRefIdeal.nD Cert.AdamSmallBRefIdeal.τ).loc Cert.AdamSmallBRefIdeal.main_arg11) = m' ((c.tc : Thread Cert.AdamSmallBRefIdeal.nD Cert.AdamSmallBRefIdeal.τ).loc Cert.AdamSmallBRefIdeal.main_arg11))

def preserves_AdamSmallC_AdamSmallCIdeal : Prop :=
  True

def algebraic_AdamSmallCIdeal_AdamSmallCRefIdeal [hAdamSmallCIdeal : Cert.AdamSmallCIdeal.Facts] [hAdamSmallCRefIdeal : Cert.AdamSmallCRefIdeal.Facts] : Prop :=
  ∀ (m : (ℓ : Loc Cert.AdamSmallCIdeal.nD Cert.AdamSmallCIdeal.τ Cert.AdamSmallCIdeal.sig) → Buf (Elt Ideal) ℓ) (g : Dev Cert.AdamSmallCIdeal.nD → PrngReg)
    (m' : (ℓ : Loc Cert.AdamSmallCRefIdeal.nD Cert.AdamSmallCRefIdeal.τ Cert.AdamSmallCRefIdeal.sig) → Buf (Elt Ideal) ℓ) (g' : Dev Cert.AdamSmallCRefIdeal.nD → PrngReg), Pre_AdamSmallCIdeal m →
    (∀ c : Dev Cert.AdamSmallCIdeal.nD,
      m' ((c.tc : Thread Cert.AdamSmallCRefIdeal.nD Cert.AdamSmallCRefIdeal.τ).loc Cert.AdamSmallCRefIdeal.main_arg0) = m ((c.tc : Thread Cert.AdamSmallCIdeal.nD Cert.AdamSmallCIdeal.τ).loc Cert.AdamSmallCIdeal.main_arg0)
      ∧ m' ((c.tc : Thread Cert.AdamSmallCRefIdeal.nD Cert.AdamSmallCRefIdeal.τ).loc Cert.AdamSmallCRefIdeal.main_arg1) = m ((c.tc : Thread Cert.AdamSmallCIdeal.nD Cert.AdamSmallCIdeal.τ).loc Cert.AdamSmallCIdeal.main_arg1)
      ∧ m' ((c.tc : Thread Cert.AdamSmallCRefIdeal.nD Cert.AdamSmallCRefIdeal.τ).loc Cert.AdamSmallCRefIdeal.main_arg2) = m ((c.tc : Thread Cert.AdamSmallCIdeal.nD Cert.AdamSmallCIdeal.τ).loc Cert.AdamSmallCIdeal.main_arg2)
      ∧ m' ((c.tc : Thread Cert.AdamSmallCRefIdeal.nD Cert.AdamSmallCRefIdeal.τ).loc Cert.AdamSmallCRefIdeal.main_arg3) = m ((c.tc : Thread Cert.AdamSmallCIdeal.nD Cert.AdamSmallCIdeal.τ).loc Cert.AdamSmallCIdeal.main_arg3)
      ∧ m' ((c.tc : Thread Cert.AdamSmallCRefIdeal.nD Cert.AdamSmallCRefIdeal.τ).loc Cert.AdamSmallCRefIdeal.main_arg4) = m ((c.tc : Thread Cert.AdamSmallCIdeal.nD Cert.AdamSmallCIdeal.τ).loc Cert.AdamSmallCIdeal.main_arg4)
      ∧ m' ((c.tc : Thread Cert.AdamSmallCRefIdeal.nD Cert.AdamSmallCRefIdeal.τ).loc Cert.AdamSmallCRefIdeal.main_arg5) = m ((c.tc : Thread Cert.AdamSmallCIdeal.nD Cert.AdamSmallCIdeal.τ).loc Cert.AdamSmallCIdeal.main_arg5)
      ∧ m' ((c.tc : Thread Cert.AdamSmallCRefIdeal.nD Cert.AdamSmallCRefIdeal.τ).loc Cert.AdamSmallCRefIdeal.main_arg6) = m ((c.tc : Thread Cert.AdamSmallCIdeal.nD Cert.AdamSmallCIdeal.τ).loc Cert.AdamSmallCIdeal.main_arg6)
      ∧ m' ((c.tc : Thread Cert.AdamSmallCRefIdeal.nD Cert.AdamSmallCRefIdeal.τ).loc Cert.AdamSmallCRefIdeal.main_arg7) = m ((c.tc : Thread Cert.AdamSmallCIdeal.nD Cert.AdamSmallCIdeal.τ).loc Cert.AdamSmallCIdeal.main_arg7)) →
    ∃ (v0 : (c : Dev Cert.AdamSmallCIdeal.nD) → Buf (Elt Ideal) ((c.tc : Thread Cert.AdamSmallCIdeal.nD Cert.AdamSmallCIdeal.τ).loc Cert.AdamSmallCIdeal.main_v0_0)) (v1 : (c : Dev Cert.AdamSmallCIdeal.nD) → Buf (Elt Ideal) ((c.tc : Thread Cert.AdamSmallCIdeal.nD Cert.AdamSmallCIdeal.τ).loc Cert.AdamSmallCIdeal.main_v0_1)) (v2 : (c : Dev Cert.AdamSmallCIdeal.nD) → Buf (Elt Ideal) ((c.tc : Thread Cert.AdamSmallCIdeal.nD Cert.AdamSmallCIdeal.τ).loc Cert.AdamSmallCIdeal.main_v0_2)) (v3 : (c : Dev Cert.AdamSmallCIdeal.nD) → Buf (Elt Ideal) ((c.tc : Thread Cert.AdamSmallCIdeal.nD Cert.AdamSmallCIdeal.τ).loc Cert.AdamSmallCIdeal.main_v0_3)) (v4 : (c : Dev Cert.AdamSmallCIdeal.nD) → Buf (Elt Ideal) ((c.tc : Thread Cert.AdamSmallCIdeal.nD Cert.AdamSmallCIdeal.τ).loc Cert.AdamSmallCIdeal.main_v0_4)) (v5 : (c : Dev Cert.AdamSmallCIdeal.nD) → Buf (Elt Ideal) ((c.tc : Thread Cert.AdamSmallCIdeal.nD Cert.AdamSmallCIdeal.τ).loc Cert.AdamSmallCIdeal.main_v0_5)),
      θ_run (Cert.AdamSmallCIdeal.defs (F := Ideal)) (onTc (τ := Cert.AdamSmallCIdeal.τ) (Cert.AdamSmallCIdeal.main (F := Ideal))) ⟨m, fun _ => 0, g⟩ (fun r => ∀ c : Dev Cert.AdamSmallCIdeal.nD,
          r.2.mem ((c.tc : Thread Cert.AdamSmallCIdeal.nD Cert.AdamSmallCIdeal.τ).loc Cert.AdamSmallCIdeal.main_v0_0) = v0 c
          ∧ r.2.mem ((c.tc : Thread Cert.AdamSmallCIdeal.nD Cert.AdamSmallCIdeal.τ).loc Cert.AdamSmallCIdeal.main_v0_1) = v1 c
          ∧ r.2.mem ((c.tc : Thread Cert.AdamSmallCIdeal.nD Cert.AdamSmallCIdeal.τ).loc Cert.AdamSmallCIdeal.main_v0_2) = v2 c
          ∧ r.2.mem ((c.tc : Thread Cert.AdamSmallCIdeal.nD Cert.AdamSmallCIdeal.τ).loc Cert.AdamSmallCIdeal.main_v0_3) = v3 c
          ∧ r.2.mem ((c.tc : Thread Cert.AdamSmallCIdeal.nD Cert.AdamSmallCIdeal.τ).loc Cert.AdamSmallCIdeal.main_v0_4) = v4 c
          ∧ r.2.mem ((c.tc : Thread Cert.AdamSmallCIdeal.nD Cert.AdamSmallCIdeal.τ).loc Cert.AdamSmallCIdeal.main_v0_5) = v5 c
          ∧ r.2.mem ((c.tc : Thread Cert.AdamSmallCIdeal.nD Cert.AdamSmallCIdeal.τ).loc Cert.AdamSmallCIdeal.main_arg0) = m ((c.tc : Thread Cert.AdamSmallCIdeal.nD Cert.AdamSmallCIdeal.τ).loc Cert.AdamSmallCIdeal.main_arg0)
          ∧ r.2.mem ((c.tc : Thread Cert.AdamSmallCIdeal.nD Cert.AdamSmallCIdeal.τ).loc Cert.AdamSmallCIdeal.main_arg1) = m ((c.tc : Thread Cert.AdamSmallCIdeal.nD Cert.AdamSmallCIdeal.τ).loc Cert.AdamSmallCIdeal.main_arg1)
          ∧ r.2.mem ((c.tc : Thread Cert.AdamSmallCIdeal.nD Cert.AdamSmallCIdeal.τ).loc Cert.AdamSmallCIdeal.main_arg2) = m ((c.tc : Thread Cert.AdamSmallCIdeal.nD Cert.AdamSmallCIdeal.τ).loc Cert.AdamSmallCIdeal.main_arg2)
          ∧ r.2.mem ((c.tc : Thread Cert.AdamSmallCIdeal.nD Cert.AdamSmallCIdeal.τ).loc Cert.AdamSmallCIdeal.main_arg3) = m ((c.tc : Thread Cert.AdamSmallCIdeal.nD Cert.AdamSmallCIdeal.τ).loc Cert.AdamSmallCIdeal.main_arg3)
          ∧ r.2.mem ((c.tc : Thread Cert.AdamSmallCIdeal.nD Cert.AdamSmallCIdeal.τ).loc Cert.AdamSmallCIdeal.main_arg4) = m ((c.tc : Thread Cert.AdamSmallCIdeal.nD Cert.AdamSmallCIdeal.τ).loc Cert.AdamSmallCIdeal.main_arg4)
          ∧ r.2.mem ((c.tc : Thread Cert.AdamSmallCIdeal.nD Cert.AdamSmallCIdeal.τ).loc Cert.AdamSmallCIdeal.main_arg5) = m ((c.tc : Thread Cert.AdamSmallCIdeal.nD Cert.AdamSmallCIdeal.τ).loc Cert.AdamSmallCIdeal.main_arg5)
          ∧ r.2.mem ((c.tc : Thread Cert.AdamSmallCIdeal.nD Cert.AdamSmallCIdeal.τ).loc Cert.AdamSmallCIdeal.main_arg6) = m ((c.tc : Thread Cert.AdamSmallCIdeal.nD Cert.AdamSmallCIdeal.τ).loc Cert.AdamSmallCIdeal.main_arg6)
          ∧ r.2.mem ((c.tc : Thread Cert.AdamSmallCIdeal.nD Cert.AdamSmallCIdeal.τ).loc Cert.AdamSmallCIdeal.main_arg7) = m ((c.tc : Thread Cert.AdamSmallCIdeal.nD Cert.AdamSmallCIdeal.τ).loc Cert.AdamSmallCIdeal.main_arg7))
      ∧ θ_run (Cert.AdamSmallCRefIdeal.defs (F := Ideal)) (onTc (τ := Cert.AdamSmallCRefIdeal.τ) (Cert.AdamSmallCRefIdeal.main (F := Ideal))) ⟨m', fun _ => 0, g'⟩ (fun r => ∀ c : Dev Cert.AdamSmallCRefIdeal.nD,
          r.2.mem ((c.tc : Thread Cert.AdamSmallCRefIdeal.nD Cert.AdamSmallCRefIdeal.τ).loc Cert.AdamSmallCRefIdeal.main_v23) = v0 c
          ∧ r.2.mem ((c.tc : Thread Cert.AdamSmallCRefIdeal.nD Cert.AdamSmallCRefIdeal.τ).loc Cert.AdamSmallCRefIdeal.main_v47) = v1 c
          ∧ r.2.mem ((c.tc : Thread Cert.AdamSmallCRefIdeal.nD Cert.AdamSmallCRefIdeal.τ).loc Cert.AdamSmallCRefIdeal.main_v4) = v2 c
          ∧ r.2.mem ((c.tc : Thread Cert.AdamSmallCRefIdeal.nD Cert.AdamSmallCRefIdeal.τ).loc Cert.AdamSmallCRefIdeal.main_v28) = v3 c
          ∧ r.2.mem ((c.tc : Thread Cert.AdamSmallCRefIdeal.nD Cert.AdamSmallCRefIdeal.τ).loc Cert.AdamSmallCRefIdeal.main_v10) = v4 c
          ∧ r.2.mem ((c.tc : Thread Cert.AdamSmallCRefIdeal.nD Cert.AdamSmallCRefIdeal.τ).loc Cert.AdamSmallCRefIdeal.main_v34) = v5 c
          ∧ r.2.mem ((c.tc : Thread Cert.AdamSmallCRefIdeal.nD Cert.AdamSmallCRefIdeal.τ).loc Cert.AdamSmallCRefIdeal.main_arg0) = m' ((c.tc : Thread Cert.AdamSmallCRefIdeal.nD Cert.AdamSmallCRefIdeal.τ).loc Cert.AdamSmallCRefIdeal.main_arg0)
          ∧ r.2.mem ((c.tc : Thread Cert.AdamSmallCRefIdeal.nD Cert.AdamSmallCRefIdeal.τ).loc Cert.AdamSmallCRefIdeal.main_arg1) = m' ((c.tc : Thread Cert.AdamSmallCRefIdeal.nD Cert.AdamSmallCRefIdeal.τ).loc Cert.AdamSmallCRefIdeal.main_arg1)
          ∧ r.2.mem ((c.tc : Thread Cert.AdamSmallCRefIdeal.nD Cert.AdamSmallCRefIdeal.τ).loc Cert.AdamSmallCRefIdeal.main_arg2) = m' ((c.tc : Thread Cert.AdamSmallCRefIdeal.nD Cert.AdamSmallCRefIdeal.τ).loc Cert.AdamSmallCRefIdeal.main_arg2)
          ∧ r.2.mem ((c.tc : Thread Cert.AdamSmallCRefIdeal.nD Cert.AdamSmallCRefIdeal.τ).loc Cert.AdamSmallCRefIdeal.main_arg3) = m' ((c.tc : Thread Cert.AdamSmallCRefIdeal.nD Cert.AdamSmallCRefIdeal.τ).loc Cert.AdamSmallCRefIdeal.main_arg3)
          ∧ r.2.mem ((c.tc : Thread Cert.AdamSmallCRefIdeal.nD Cert.AdamSmallCRefIdeal.τ).loc Cert.AdamSmallCRefIdeal.main_arg4) = m' ((c.tc : Thread Cert.AdamSmallCRefIdeal.nD Cert.AdamSmallCRefIdeal.τ).loc Cert.AdamSmallCRefIdeal.main_arg4)
          ∧ r.2.mem ((c.tc : Thread Cert.AdamSmallCRefIdeal.nD Cert.AdamSmallCRefIdeal.τ).loc Cert.AdamSmallCRefIdeal.main_arg5) = m' ((c.tc : Thread Cert.AdamSmallCRefIdeal.nD Cert.AdamSmallCRefIdeal.τ).loc Cert.AdamSmallCRefIdeal.main_arg5)
          ∧ r.2.mem ((c.tc : Thread Cert.AdamSmallCRefIdeal.nD Cert.AdamSmallCRefIdeal.τ).loc Cert.AdamSmallCRefIdeal.main_arg6) = m' ((c.tc : Thread Cert.AdamSmallCRefIdeal.nD Cert.AdamSmallCRefIdeal.τ).loc Cert.AdamSmallCRefIdeal.main_arg6)
          ∧ r.2.mem ((c.tc : Thread Cert.AdamSmallCRefIdeal.nD Cert.AdamSmallCRefIdeal.τ).loc Cert.AdamSmallCRefIdeal.main_arg7) = m' ((c.tc : Thread Cert.AdamSmallCRefIdeal.nD Cert.AdamSmallCRefIdeal.τ).loc Cert.AdamSmallCRefIdeal.main_arg7))

def preserves_AdamSmallD_AdamSmallDIdeal : Prop :=
  True

def algebraic_AdamSmallDIdeal_AdamSmallDRefIdeal [hAdamSmallDIdeal : Cert.AdamSmallDIdeal.Facts] [hAdamSmallDRefIdeal : Cert.AdamSmallDRefIdeal.Facts] : Prop :=
  ∀ (m : (ℓ : Loc Cert.AdamSmallDIdeal.nD Cert.AdamSmallDIdeal.τ Cert.AdamSmallDIdeal.sig) → Buf (Elt Ideal) ℓ) (g : Dev Cert.AdamSmallDIdeal.nD → PrngReg)
    (m' : (ℓ : Loc Cert.AdamSmallDRefIdeal.nD Cert.AdamSmallDRefIdeal.τ Cert.AdamSmallDRefIdeal.sig) → Buf (Elt Ideal) ℓ) (g' : Dev Cert.AdamSmallDRefIdeal.nD → PrngReg), Pre_AdamSmallDIdeal m →
    (∀ c : Dev Cert.AdamSmallDIdeal.nD,
      m' ((c.tc : Thread Cert.AdamSmallDRefIdeal.nD Cert.AdamSmallDRefIdeal.τ).loc Cert.AdamSmallDRefIdeal.main_arg0) = m ((c.tc : Thread Cert.AdamSmallDIdeal.nD Cert.AdamSmallDIdeal.τ).loc Cert.AdamSmallDIdeal.main_arg0)
      ∧ m' ((c.tc : Thread Cert.AdamSmallDRefIdeal.nD Cert.AdamSmallDRefIdeal.τ).loc Cert.AdamSmallDRefIdeal.main_arg1) = m ((c.tc : Thread Cert.AdamSmallDIdeal.nD Cert.AdamSmallDIdeal.τ).loc Cert.AdamSmallDIdeal.main_arg1)
      ∧ m' ((c.tc : Thread Cert.AdamSmallDRefIdeal.nD Cert.AdamSmallDRefIdeal.τ).loc Cert.AdamSmallDRefIdeal.main_arg2) = m ((c.tc : Thread Cert.AdamSmallDIdeal.nD Cert.AdamSmallDIdeal.τ).loc Cert.AdamSmallDIdeal.main_arg2)
      ∧ m' ((c.tc : Thread Cert.AdamSmallDRefIdeal.nD Cert.AdamSmallDRefIdeal.τ).loc Cert.AdamSmallDRefIdeal.main_arg3) = m ((c.tc : Thread Cert.AdamSmallDIdeal.nD Cert.AdamSmallDIdeal.τ).loc Cert.AdamSmallDIdeal.main_arg3)
      ∧ m' ((c.tc : Thread Cert.AdamSmallDRefIdeal.nD Cert.AdamSmallDRefIdeal.τ).loc Cert.AdamSmallDRefIdeal.main_arg4) = m ((c.tc : Thread Cert.AdamSmallDIdeal.nD Cert.AdamSmallDIdeal.τ).loc Cert.AdamSmallDIdeal.main_arg4)
      ∧ m' ((c.tc : Thread Cert.AdamSmallDRefIdeal.nD Cert.AdamSmallDRefIdeal.τ).loc Cert.AdamSmallDRefIdeal.main_arg5) = m ((c.tc : Thread Cert.AdamSmallDIdeal.nD Cert.AdamSmallDIdeal.τ).loc Cert.AdamSmallDIdeal.main_arg5)
      ∧ m' ((c.tc : Thread Cert.AdamSmallDRefIdeal.nD Cert.AdamSmallDRefIdeal.τ).loc Cert.AdamSmallDRefIdeal.main_arg6) = m ((c.tc : Thread Cert.AdamSmallDIdeal.nD Cert.AdamSmallDIdeal.τ).loc Cert.AdamSmallDIdeal.main_arg6)
      ∧ m' ((c.tc : Thread Cert.AdamSmallDRefIdeal.nD Cert.AdamSmallDRefIdeal.τ).loc Cert.AdamSmallDRefIdeal.main_arg7) = m ((c.tc : Thread Cert.AdamSmallDIdeal.nD Cert.AdamSmallDIdeal.τ).loc Cert.AdamSmallDIdeal.main_arg7)) →
    ∃ (v0 : (c : Dev Cert.AdamSmallDIdeal.nD) → Buf (Elt Ideal) ((c.tc : Thread Cert.AdamSmallDIdeal.nD Cert.AdamSmallDIdeal.τ).loc Cert.AdamSmallDIdeal.main_v0_0)) (v1 : (c : Dev Cert.AdamSmallDIdeal.nD) → Buf (Elt Ideal) ((c.tc : Thread Cert.AdamSmallDIdeal.nD Cert.AdamSmallDIdeal.τ).loc Cert.AdamSmallDIdeal.main_v0_1)) (v2 : (c : Dev Cert.AdamSmallDIdeal.nD) → Buf (Elt Ideal) ((c.tc : Thread Cert.AdamSmallDIdeal.nD Cert.AdamSmallDIdeal.τ).loc Cert.AdamSmallDIdeal.main_v0_2)) (v3 : (c : Dev Cert.AdamSmallDIdeal.nD) → Buf (Elt Ideal) ((c.tc : Thread Cert.AdamSmallDIdeal.nD Cert.AdamSmallDIdeal.τ).loc Cert.AdamSmallDIdeal.main_v0_3)) (v4 : (c : Dev Cert.AdamSmallDIdeal.nD) → Buf (Elt Ideal) ((c.tc : Thread Cert.AdamSmallDIdeal.nD Cert.AdamSmallDIdeal.τ).loc Cert.AdamSmallDIdeal.main_v0_4)) (v5 : (c : Dev Cert.AdamSmallDIdeal.nD) → Buf (Elt Ideal) ((c.tc : Thread Cert.AdamSmallDIdeal.nD Cert.AdamSmallDIdeal.τ).loc Cert.AdamSmallDIdeal.main_v0_5)),
      θ_run (Cert.AdamSmallDIdeal.defs (F := Ideal)) (onTc (τ := Cert.AdamSmallDIdeal.τ) (Cert.AdamSmallDIdeal.main (F := Ideal))) ⟨m, fun _ => 0, g⟩ (fun r => ∀ c : Dev Cert.AdamSmallDIdeal.nD,
          r.2.mem ((c.tc : Thread Cert.AdamSmallDIdeal.nD Cert.AdamSmallDIdeal.τ).loc Cert.AdamSmallDIdeal.main_v0_0) = v0 c
          ∧ r.2.mem ((c.tc : Thread Cert.AdamSmallDIdeal.nD Cert.AdamSmallDIdeal.τ).loc Cert.AdamSmallDIdeal.main_v0_1) = v1 c
          ∧ r.2.mem ((c.tc : Thread Cert.AdamSmallDIdeal.nD Cert.AdamSmallDIdeal.τ).loc Cert.AdamSmallDIdeal.main_v0_2) = v2 c
          ∧ r.2.mem ((c.tc : Thread Cert.AdamSmallDIdeal.nD Cert.AdamSmallDIdeal.τ).loc Cert.AdamSmallDIdeal.main_v0_3) = v3 c
          ∧ r.2.mem ((c.tc : Thread Cert.AdamSmallDIdeal.nD Cert.AdamSmallDIdeal.τ).loc Cert.AdamSmallDIdeal.main_v0_4) = v4 c
          ∧ r.2.mem ((c.tc : Thread Cert.AdamSmallDIdeal.nD Cert.AdamSmallDIdeal.τ).loc Cert.AdamSmallDIdeal.main_v0_5) = v5 c
          ∧ r.2.mem ((c.tc : Thread Cert.AdamSmallDIdeal.nD Cert.AdamSmallDIdeal.τ).loc Cert.AdamSmallDIdeal.main_arg0) = m ((c.tc : Thread Cert.AdamSmallDIdeal.nD Cert.AdamSmallDIdeal.τ).loc Cert.AdamSmallDIdeal.main_arg0)
          ∧ r.2.mem ((c.tc : Thread Cert.AdamSmallDIdeal.nD Cert.AdamSmallDIdeal.τ).loc Cert.AdamSmallDIdeal.main_arg1) = m ((c.tc : Thread Cert.AdamSmallDIdeal.nD Cert.AdamSmallDIdeal.τ).loc Cert.AdamSmallDIdeal.main_arg1)
          ∧ r.2.mem ((c.tc : Thread Cert.AdamSmallDIdeal.nD Cert.AdamSmallDIdeal.τ).loc Cert.AdamSmallDIdeal.main_arg2) = m ((c.tc : Thread Cert.AdamSmallDIdeal.nD Cert.AdamSmallDIdeal.τ).loc Cert.AdamSmallDIdeal.main_arg2)
          ∧ r.2.mem ((c.tc : Thread Cert.AdamSmallDIdeal.nD Cert.AdamSmallDIdeal.τ).loc Cert.AdamSmallDIdeal.main_arg3) = m ((c.tc : Thread Cert.AdamSmallDIdeal.nD Cert.AdamSmallDIdeal.τ).loc Cert.AdamSmallDIdeal.main_arg3)
          ∧ r.2.mem ((c.tc : Thread Cert.AdamSmallDIdeal.nD Cert.AdamSmallDIdeal.τ).loc Cert.AdamSmallDIdeal.main_arg4) = m ((c.tc : Thread Cert.AdamSmallDIdeal.nD Cert.AdamSmallDIdeal.τ).loc Cert.AdamSmallDIdeal.main_arg4)
          ∧ r.2.mem ((c.tc : Thread Cert.AdamSmallDIdeal.nD Cert.AdamSmallDIdeal.τ).loc Cert.AdamSmallDIdeal.main_arg5) = m ((c.tc : Thread Cert.AdamSmallDIdeal.nD Cert.AdamSmallDIdeal.τ).loc Cert.AdamSmallDIdeal.main_arg5)
          ∧ r.2.mem ((c.tc : Thread Cert.AdamSmallDIdeal.nD Cert.AdamSmallDIdeal.τ).loc Cert.AdamSmallDIdeal.main_arg6) = m ((c.tc : Thread Cert.AdamSmallDIdeal.nD Cert.AdamSmallDIdeal.τ).loc Cert.AdamSmallDIdeal.main_arg6)
          ∧ r.2.mem ((c.tc : Thread Cert.AdamSmallDIdeal.nD Cert.AdamSmallDIdeal.τ).loc Cert.AdamSmallDIdeal.main_arg7) = m ((c.tc : Thread Cert.AdamSmallDIdeal.nD Cert.AdamSmallDIdeal.τ).loc Cert.AdamSmallDIdeal.main_arg7))
      ∧ θ_run (Cert.AdamSmallDRefIdeal.defs (F := Ideal)) (onTc (τ := Cert.AdamSmallDRefIdeal.τ) (Cert.AdamSmallDRefIdeal.main (F := Ideal))) ⟨m', fun _ => 0, g'⟩ (fun r => ∀ c : Dev Cert.AdamSmallDRefIdeal.nD,
          r.2.mem ((c.tc : Thread Cert.AdamSmallDRefIdeal.nD Cert.AdamSmallDRefIdeal.τ).loc Cert.AdamSmallDRefIdeal.main_v23) = v0 c
          ∧ r.2.mem ((c.tc : Thread Cert.AdamSmallDRefIdeal.nD Cert.AdamSmallDRefIdeal.τ).loc Cert.AdamSmallDRefIdeal.main_v47) = v1 c
          ∧ r.2.mem ((c.tc : Thread Cert.AdamSmallDRefIdeal.nD Cert.AdamSmallDRefIdeal.τ).loc Cert.AdamSmallDRefIdeal.main_v4) = v2 c
          ∧ r.2.mem ((c.tc : Thread Cert.AdamSmallDRefIdeal.nD Cert.AdamSmallDRefIdeal.τ).loc Cert.AdamSmallDRefIdeal.main_v28) = v3 c
          ∧ r.2.mem ((c.tc : Thread Cert.AdamSmallDRefIdeal.nD Cert.AdamSmallDRefIdeal.τ).loc Cert.AdamSmallDRefIdeal.main_v10) = v4 c
          ∧ r.2.mem ((c.tc : Thread Cert.AdamSmallDRefIdeal.nD Cert.AdamSmallDRefIdeal.τ).loc Cert.AdamSmallDRefIdeal.main_v34) = v5 c
          ∧ r.2.mem ((c.tc : Thread Cert.AdamSmallDRefIdeal.nD Cert.AdamSmallDRefIdeal.τ).loc Cert.AdamSmallDRefIdeal.main_arg0) = m' ((c.tc : Thread Cert.AdamSmallDRefIdeal.nD Cert.AdamSmallDRefIdeal.τ).loc Cert.AdamSmallDRefIdeal.main_arg0)
          ∧ r.2.mem ((c.tc : Thread Cert.AdamSmallDRefIdeal.nD Cert.AdamSmallDRefIdeal.τ).loc Cert.AdamSmallDRefIdeal.main_arg1) = m' ((c.tc : Thread Cert.AdamSmallDRefIdeal.nD Cert.AdamSmallDRefIdeal.τ).loc Cert.AdamSmallDRefIdeal.main_arg1)
          ∧ r.2.mem ((c.tc : Thread Cert.AdamSmallDRefIdeal.nD Cert.AdamSmallDRefIdeal.τ).loc Cert.AdamSmallDRefIdeal.main_arg2) = m' ((c.tc : Thread Cert.AdamSmallDRefIdeal.nD Cert.AdamSmallDRefIdeal.τ).loc Cert.AdamSmallDRefIdeal.main_arg2)
          ∧ r.2.mem ((c.tc : Thread Cert.AdamSmallDRefIdeal.nD Cert.AdamSmallDRefIdeal.τ).loc Cert.AdamSmallDRefIdeal.main_arg3) = m' ((c.tc : Thread Cert.AdamSmallDRefIdeal.nD Cert.AdamSmallDRefIdeal.τ).loc Cert.AdamSmallDRefIdeal.main_arg3)
          ∧ r.2.mem ((c.tc : Thread Cert.AdamSmallDRefIdeal.nD Cert.AdamSmallDRefIdeal.τ).loc Cert.AdamSmallDRefIdeal.main_arg4) = m' ((c.tc : Thread Cert.AdamSmallDRefIdeal.nD Cert.AdamSmallDRefIdeal.τ).loc Cert.AdamSmallDRefIdeal.main_arg4)
          ∧ r.2.mem ((c.tc : Thread Cert.AdamSmallDRefIdeal.nD Cert.AdamSmallDRefIdeal.τ).loc Cert.AdamSmallDRefIdeal.main_arg5) = m' ((c.tc : Thread Cert.AdamSmallDRefIdeal.nD Cert.AdamSmallDRefIdeal.τ).loc Cert.AdamSmallDRefIdeal.main_arg5)
          ∧ r.2.mem ((c.tc : Thread Cert.AdamSmallDRefIdeal.nD Cert.AdamSmallDRefIdeal.τ).loc Cert.AdamSmallDRefIdeal.main_arg6) = m' ((c.tc : Thread Cert.AdamSmallDRefIdeal.nD Cert.AdamSmallDRefIdeal.τ).loc Cert.AdamSmallDRefIdeal.main_arg6)
          ∧ r.2.mem ((c.tc : Thread Cert.AdamSmallDRefIdeal.nD Cert.AdamSmallDRefIdeal.τ).loc Cert.AdamSmallDRefIdeal.main_arg7) = m' ((c.tc : Thread Cert.AdamSmallDRefIdeal.nD Cert.AdamSmallDRefIdeal.τ).loc Cert.AdamSmallDRefIdeal.main_arg7))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v2)) (v1 : (c : Dev Cert.SumSmallIdeal.nD) → Buf (Elt Ideal) ((c.tc : Thread Cert.SumSmallIdeal.nD Cert.SumSmallIdeal.τ).loc Cert.SumSmallIdeal.main_v4)) (v2 : (c : Dev Cert.SumSmallIdeal.nD) → Buf (Elt Ideal) ((c.tc : Thread Cert.SumSmallIdeal.nD Cert.SumSmallIdeal.τ).loc Cert.SumSmallIdeal.main_v6)) (v3 : (c : Dev Cert.SumSmallIdeal.nD) → Buf (Elt Ideal) ((c.tc : Thread Cert.SumSmallIdeal.nD Cert.SumSmallIdeal.τ).loc Cert.SumSmallIdeal.main_v8)) (v4 : (c : Dev Cert.SumSmallIdeal.nD) → Buf (Elt Ideal) ((c.tc : Thread Cert.SumSmallIdeal.nD Cert.SumSmallIdeal.τ).loc Cert.SumSmallIdeal.main_v11)) (v5 : (c : Dev Cert.SumSmallIdeal.nD) → Buf (Elt Ideal) ((c.tc : Thread Cert.SumSmallIdeal.nD Cert.SumSmallIdeal.τ).loc Cert.SumSmallIdeal.main_v14)) (v6 : (c : Dev Cert.SumSmallIdeal.nD) → Buf (Elt Ideal) ((c.tc : Thread Cert.SumSmallIdeal.nD Cert.SumSmallIdeal.τ).loc Cert.SumSmallIdeal.main_v17)) (v7 : (c : Dev Cert.SumSmallIdeal.nD) → Buf (Elt Ideal) ((c.tc : Thread Cert.SumSmallIdeal.nD Cert.SumSmallIdeal.τ).loc Cert.SumSmallIdeal.main_v20)) (v8 : (c : Dev Cert.SumSmallIdeal.nD) → Buf (Elt Ideal) ((c.tc : Thread Cert.SumSmallIdeal.nD Cert.SumSmallIdeal.τ).loc Cert.SumSmallIdeal.main_v23)) (v9 : (c : Dev Cert.SumSmallIdeal.nD) → Buf (Elt Ideal) ((c.tc : Thread Cert.SumSmallIdeal.nD Cert.SumSmallIdeal.τ).loc Cert.SumSmallIdeal.main_v26)) (v10 : (c : Dev Cert.SumSmallIdeal.nD) → Buf (Elt Ideal) ((c.tc : Thread Cert.SumSmallIdeal.nD Cert.SumSmallIdeal.τ).loc Cert.SumSmallIdeal.main_v29)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v2) = v0 c
          ∧ r.2.mem ((c.tc : Thread Cert.SumSmallIdeal.nD Cert.SumSmallIdeal.τ).loc Cert.SumSmallIdeal.main_v4) = v1 c
          ∧ r.2.mem ((c.tc : Thread Cert.SumSmallIdeal.nD Cert.SumSmallIdeal.τ).loc Cert.SumSmallIdeal.main_v6) = v2 c
          ∧ r.2.mem ((c.tc : Thread Cert.SumSmallIdeal.nD Cert.SumSmallIdeal.τ).loc Cert.SumSmallIdeal.main_v8) = v3 c
          ∧ r.2.mem ((c.tc : Thread Cert.SumSmallIdeal.nD Cert.SumSmallIdeal.τ).loc Cert.SumSmallIdeal.main_v11) = v4 c
          ∧ r.2.mem ((c.tc : Thread Cert.SumSmallIdeal.nD Cert.SumSmallIdeal.τ).loc Cert.SumSmallIdeal.main_v14) = v5 c
          ∧ r.2.mem ((c.tc : Thread Cert.SumSmallIdeal.nD Cert.SumSmallIdeal.τ).loc Cert.SumSmallIdeal.main_v17) = v6 c
          ∧ r.2.mem ((c.tc : Thread Cert.SumSmallIdeal.nD Cert.SumSmallIdeal.τ).loc Cert.SumSmallIdeal.main_v20) = v7 c
          ∧ r.2.mem ((c.tc : Thread Cert.SumSmallIdeal.nD Cert.SumSmallIdeal.τ).loc Cert.SumSmallIdeal.main_v23) = v8 c
          ∧ r.2.mem ((c.tc : Thread Cert.SumSmallIdeal.nD Cert.SumSmallIdeal.τ).loc Cert.SumSmallIdeal.main_v26) = v9 c
          ∧ r.2.mem ((c.tc : Thread Cert.SumSmallIdeal.nD Cert.SumSmallIdeal.τ).loc Cert.SumSmallIdeal.main_v29) = v10 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v39) = v0 c
          ∧ r.2.mem ((c.tc : Thread Cert.SumSmallRefIdeal.nD Cert.SumSmallRefIdeal.τ).loc Cert.SumSmallRefIdeal.main_v2) = v1 c
          ∧ r.2.mem ((c.tc : Thread Cert.SumSmallRefIdeal.nD Cert.SumSmallRefIdeal.τ).loc Cert.SumSmallRefIdeal.main_v5) = v2 c
          ∧ r.2.mem ((c.tc : Thread Cert.SumSmallRefIdeal.nD Cert.SumSmallRefIdeal.τ).loc Cert.SumSmallRefIdeal.main_v8) = v3 c
          ∧ r.2.mem ((c.tc : Thread Cert.SumSmallRefIdeal.nD Cert.SumSmallRefIdeal.τ).loc Cert.SumSmallRefIdeal.main_v12) = v4 c
          ∧ r.2.mem ((c.tc : Thread Cert.SumSmallRefIdeal.nD Cert.SumSmallRefIdeal.τ).loc Cert.SumSmallRefIdeal.main_v16) = v5 c
          ∧ r.2.mem ((c.tc : Thread Cert.SumSmallRefIdeal.nD Cert.SumSmallRefIdeal.τ).loc Cert.SumSmallRefIdeal.main_v20) = v6 c
          ∧ r.2.mem ((c.tc : Thread Cert.SumSmallRefIdeal.nD Cert.SumSmallRefIdeal.τ).loc Cert.SumSmallRefIdeal.main_v24) = v7 c
          ∧ r.2.mem ((c.tc : Thread Cert.SumSmallRefIdeal.nD Cert.SumSmallRefIdeal.τ).loc Cert.SumSmallRefIdeal.main_v28) = v8 c
          ∧ r.2.mem ((c.tc : Thread Cert.SumSmallRefIdeal.nD Cert.SumSmallRefIdeal.τ).loc Cert.SumSmallRefIdeal.main_v32) = v9 c
          ∧ r.2.mem ((c.tc : Thread Cert.SumSmallRefIdeal.nD Cert.SumSmallRefIdeal.τ).loc Cert.SumSmallRefIdeal.main_v36) = v10 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_PreEven_PreEvenIdeal : Prop :=
  True

def algebraic_PreEvenIdeal_PreEvenRefIdeal [hPreEvenIdeal : Cert.PreEvenIdeal.Facts] [hPreEvenRefIdeal : Cert.PreEvenRefIdeal.Facts] : Prop :=
  ∀ (m : (ℓ : Loc Cert.PreEvenIdeal.nD Cert.PreEvenIdeal.τ Cert.PreEvenIdeal.sig) → Buf (Elt Ideal) ℓ) (g : Dev Cert.PreEvenIdeal.nD → PrngReg)
    (m' : (ℓ : Loc Cert.PreEvenRefIdeal.nD Cert.PreEvenRefIdeal.τ Cert.PreEvenRefIdeal.sig) → Buf (Elt Ideal) ℓ) (g' : Dev Cert.PreEvenRefIdeal.nD → PrngReg), Pre_PreEvenIdeal m →
    (∀ c : Dev Cert.PreEvenIdeal.nD,
      m' ((c.tc : Thread Cert.PreEvenRefIdeal.nD Cert.PreEvenRefIdeal.τ).loc Cert.PreEvenRefIdeal.main_arg0) = m ((c.tc : Thread Cert.PreEvenIdeal.nD Cert.PreEvenIdeal.τ).loc Cert.PreEvenIdeal.main_arg0)
      ∧ m' ((c.tc : Thread Cert.PreEvenRefIdeal.nD Cert.PreEvenRefIdeal.τ).loc Cert.PreEvenRefIdeal.main_arg1) = m ((c.tc : Thread Cert.PreEvenIdeal.nD Cert.PreEvenIdeal.τ).loc Cert.PreEvenIdeal.main_arg1)
      ∧ m' ((c.tc : Thread Cert.PreEvenRefIdeal.nD Cert.PreEvenRefIdeal.τ).loc Cert.PreEvenRefIdeal.main_arg2) = m ((c.tc : Thread Cert.PreEvenIdeal.nD Cert.PreEvenIdeal.τ).loc Cert.PreEvenIdeal.main_arg2)
      ∧ m' ((c.tc : Thread Cert.PreEvenRefIdeal.nD Cert.PreEvenRefIdeal.τ).loc Cert.PreEvenRefIdeal.main_arg3) = m ((c.tc : Thread Cert.PreEvenIdeal.nD Cert.PreEvenIdeal.τ).loc Cert.PreEvenIdeal.main_arg3)) →
    ∃ (v0 : (c : Dev Cert.PreEvenIdeal.nD) → Buf (Elt Ideal) ((c.tc : Thread Cert.PreEvenIdeal.nD Cert.PreEvenIdeal.τ).loc Cert.PreEvenIdeal.main_v0_0)) (v1 : (c : Dev Cert.PreEvenIdeal.nD) → Buf (Elt Ideal) ((c.tc : Thread Cert.PreEvenIdeal.nD Cert.PreEvenIdeal.τ).loc Cert.PreEvenIdeal.main_v0_1)),
      θ_run (Cert.PreEvenIdeal.defs (F := Ideal)) (onTc (τ := Cert.PreEvenIdeal.τ) (Cert.PreEvenIdeal.main (F := Ideal))) ⟨m, fun _ => 0, g⟩ (fun r => ∀ c : Dev Cert.PreEvenIdeal.nD,
          r.2.mem ((c.tc : Thread Cert.PreEvenIdeal.nD Cert.PreEvenIdeal.τ).loc Cert.PreEvenIdeal.main_v0_0) = v0 c
          ∧ r.2.mem ((c.tc : Thread Cert.PreEvenIdeal.nD Cert.PreEvenIdeal.τ).loc Cert.PreEvenIdeal.main_v0_1) = v1 c
          ∧ r.2.mem ((c.tc : Thread Cert.PreEvenIdeal.nD Cert.PreEvenIdeal.τ).loc Cert.PreEvenIdeal.main_arg0) = m ((c.tc : Thread Cert.PreEvenIdeal.nD Cert.PreEvenIdeal.τ).loc Cert.PreEvenIdeal.main_arg0)
          ∧ r.2.mem ((c.tc : Thread Cert.PreEvenIdeal.nD Cert.PreEvenIdeal.τ).loc Cert.PreEvenIdeal.main_arg1) = m ((c.tc : Thread Cert.PreEvenIdeal.nD Cert.PreEvenIdeal.τ).loc Cert.PreEvenIdeal.main_arg1)
          ∧ r.2.mem ((c.tc : Thread Cert.PreEvenIdeal.nD Cert.PreEvenIdeal.τ).loc Cert.PreEvenIdeal.main_arg2) = m ((c.tc : Thread Cert.PreEvenIdeal.nD Cert.PreEvenIdeal.τ).loc Cert.PreEvenIdeal.main_arg2)
          ∧ r.2.mem ((c.tc : Thread Cert.PreEvenIdeal.nD Cert.PreEvenIdeal.τ).loc Cert.PreEvenIdeal.main_arg3) = m ((c.tc : Thread Cert.PreEvenIdeal.nD Cert.PreEvenIdeal.τ).loc Cert.PreEvenIdeal.main_arg3))
      ∧ θ_run (Cert.PreEvenRefIdeal.defs (F := Ideal)) (onTc (τ := Cert.PreEvenRefIdeal.τ) (Cert.PreEvenRefIdeal.main (F := Ideal))) ⟨m', fun _ => 0, g'⟩ (fun r => ∀ c : Dev Cert.PreEvenRefIdeal.nD,
          r.2.mem ((c.tc : Thread Cert.PreEvenRefIdeal.nD Cert.PreEvenRefIdeal.τ).loc Cert.PreEvenRefIdeal.main_v35) = v0 c
          ∧ r.2.mem ((c.tc : Thread Cert.PreEvenRefIdeal.nD Cert.PreEvenRefIdeal.τ).loc Cert.PreEvenRefIdeal.main_v18) = v1 c
          ∧ r.2.mem ((c.tc : Thread Cert.PreEvenRefIdeal.nD Cert.PreEvenRefIdeal.τ).loc Cert.PreEvenRefIdeal.main_arg0) = m' ((c.tc : Thread Cert.PreEvenRefIdeal.nD Cert.PreEvenRefIdeal.τ).loc Cert.PreEvenRefIdeal.main_arg0)
          ∧ r.2.mem ((c.tc : Thread Cert.PreEvenRefIdeal.nD Cert.PreEvenRefIdeal.τ).loc Cert.PreEvenRefIdeal.main_arg1) = m' ((c.tc : Thread Cert.PreEvenRefIdeal.nD Cert.PreEvenRefIdeal.τ).loc Cert.PreEvenRefIdeal.main_arg1)
          ∧ r.2.mem ((c.tc : Thread Cert.PreEvenRefIdeal.nD Cert.PreEvenRefIdeal.τ).loc Cert.PreEvenRefIdeal.main_arg2) = m' ((c.tc : Thread Cert.PreEvenRefIdeal.nD Cert.PreEvenRefIdeal.τ).loc Cert.PreEvenRefIdeal.main_arg2)
          ∧ r.2.mem ((c.tc : Thread Cert.PreEvenRefIdeal.nD Cert.PreEvenRefIdeal.τ).loc Cert.PreEvenRefIdeal.main_arg3) = m' ((c.tc : Thread Cert.PreEvenRefIdeal.nD Cert.PreEvenRefIdeal.τ).loc Cert.PreEvenRefIdeal.main_arg3))

def preserves_Between_BetweenIdeal : Prop :=
  True

def algebraic_BetweenIdeal_BetweenRefIdeal [hBetweenIdeal : Cert.BetweenIdeal.Facts] [hBetweenRefIdeal : Cert.BetweenRefIdeal.Facts] : Prop :=
  ∀ (m : (ℓ : Loc Cert.BetweenIdeal.nD Cert.BetweenIdeal.τ Cert.BetweenIdeal.sig) → Buf (Elt Ideal) ℓ) (g : Dev Cert.BetweenIdeal.nD → PrngReg)
    (m' : (ℓ : Loc Cert.BetweenRefIdeal.nD Cert.BetweenRefIdeal.τ Cert.BetweenRefIdeal.sig) → Buf (Elt Ideal) ℓ) (g' : Dev Cert.BetweenRefIdeal.nD → PrngReg), Pre_BetweenIdeal m →
    (∀ c : Dev Cert.BetweenIdeal.nD,
      m' ((c.tc : Thread Cert.BetweenRefIdeal.nD Cert.BetweenRefIdeal.τ).loc Cert.BetweenRefIdeal.main_arg0) = m ((c.tc : Thread Cert.BetweenIdeal.nD Cert.BetweenIdeal.τ).loc Cert.BetweenIdeal.main_arg0)
      ∧ m' ((c.tc : Thread Cert.BetweenRefIdeal.nD Cert.BetweenRefIdeal.τ).loc Cert.BetweenRefIdeal.main_arg1) = m ((c.tc : Thread Cert.BetweenIdeal.nD Cert.BetweenIdeal.τ).loc Cert.BetweenIdeal.main_arg1)
      ∧ m' ((c.tc : Thread Cert.BetweenRefIdeal.nD Cert.BetweenRefIdeal.τ).loc Cert.BetweenRefIdeal.main_arg2) = m ((c.tc : Thread Cert.BetweenIdeal.nD Cert.BetweenIdeal.τ).loc Cert.BetweenIdeal.main_arg2)
      ∧ m' ((c.tc : Thread Cert.BetweenRefIdeal.nD Cert.BetweenRefIdeal.τ).loc Cert.BetweenRefIdeal.main_arg3) = m ((c.tc : Thread Cert.BetweenIdeal.nD Cert.BetweenIdeal.τ).loc Cert.BetweenIdeal.main_arg3)
      ∧ m' ((c.tc : Thread Cert.BetweenRefIdeal.nD Cert.BetweenRefIdeal.τ).loc Cert.BetweenRefIdeal.main_arg4) = m ((c.tc : Thread Cert.BetweenIdeal.nD Cert.BetweenIdeal.τ).loc Cert.BetweenIdeal.main_arg4)
      ∧ m' ((c.tc : Thread Cert.BetweenRefIdeal.nD Cert.BetweenRefIdeal.τ).loc Cert.BetweenRefIdeal.main_arg5) = m ((c.tc : Thread Cert.BetweenIdeal.nD Cert.BetweenIdeal.τ).loc Cert.BetweenIdeal.main_arg5)) →
    ∃ (v0 : (c : Dev Cert.BetweenIdeal.nD) → Buf (Elt Ideal) ((c.tc : Thread Cert.BetweenIdeal.nD Cert.BetweenIdeal.τ).loc Cert.BetweenIdeal.main_v14_0)) (v1 : (c : Dev Cert.BetweenIdeal.nD) → Buf (Elt Ideal) ((c.tc : Thread Cert.BetweenIdeal.nD Cert.BetweenIdeal.τ).loc Cert.BetweenIdeal.main_v14_2)) (v2 : (c : Dev Cert.BetweenIdeal.nD) → Buf (Elt Ideal) ((c.tc : Thread Cert.BetweenIdeal.nD Cert.BetweenIdeal.τ).loc Cert.BetweenIdeal.main_v14_3)) (v3 : (c : Dev Cert.BetweenIdeal.nD) → Buf (Elt Ideal) ((c.tc : Thread Cert.BetweenIdeal.nD Cert.BetweenIdeal.τ).loc Cert.BetweenIdeal.main_v14_1)),
      θ_run (Cert.BetweenIdeal.defs (F := Ideal)) (onTc (τ := Cert.BetweenIdeal.τ) (Cert.BetweenIdeal.main (F := Ideal))) ⟨m, fun _ => 0, g⟩ (fun r => ∀ c : Dev Cert.BetweenIdeal.nD,
          r.2.mem ((c.tc : Thread Cert.BetweenIdeal.nD Cert.BetweenIdeal.τ).loc Cert.BetweenIdeal.main_v14_0) = v0 c
          ∧ r.2.mem ((c.tc : Thread Cert.BetweenIdeal.nD Cert.BetweenIdeal.τ).loc Cert.BetweenIdeal.main_v14_2) = v1 c
          ∧ r.2.mem ((c.tc : Thread Cert.BetweenIdeal.nD Cert.BetweenIdeal.τ).loc Cert.BetweenIdeal.main_v14_3) = v2 c
          ∧ r.2.mem ((c.tc : Thread Cert.BetweenIdeal.nD Cert.BetweenIdeal.τ).loc Cert.BetweenIdeal.main_v14_1) = v3 c
          ∧ r.2.mem ((c.tc : Thread Cert.BetweenIdeal.nD Cert.BetweenIdeal.τ).loc Cert.BetweenIdeal.main_arg0) = m ((c.tc : Thread Cert.BetweenIdeal.nD Cert.BetweenIdeal.τ).loc Cert.BetweenIdeal.main_arg0)
          ∧ r.2.mem ((c.tc : Thread Cert.BetweenIdeal.nD Cert.BetweenIdeal.τ).loc Cert.BetweenIdeal.main_arg1) = m ((c.tc : Thread Cert.BetweenIdeal.nD Cert.BetweenIdeal.τ).loc Cert.BetweenIdeal.main_arg1)
          ∧ r.2.mem ((c.tc : Thread Cert.BetweenIdeal.nD Cert.BetweenIdeal.τ).loc Cert.BetweenIdeal.main_arg2) = m ((c.tc : Thread Cert.BetweenIdeal.nD Cert.BetweenIdeal.τ).loc Cert.BetweenIdeal.main_arg2)
          ∧ r.2.mem ((c.tc : Thread Cert.BetweenIdeal.nD Cert.BetweenIdeal.τ).loc Cert.BetweenIdeal.main_arg3) = m ((c.tc : Thread Cert.BetweenIdeal.nD Cert.BetweenIdeal.τ).loc Cert.BetweenIdeal.main_arg3)
          ∧ r.2.mem ((c.tc : Thread Cert.BetweenIdeal.nD Cert.BetweenIdeal.τ).loc Cert.BetweenIdeal.main_arg4) = m ((c.tc : Thread Cert.BetweenIdeal.nD Cert.BetweenIdeal.τ).loc Cert.BetweenIdeal.main_arg4)
          ∧ r.2.mem ((c.tc : Thread Cert.BetweenIdeal.nD Cert.BetweenIdeal.τ).loc Cert.BetweenIdeal.main_arg5) = m ((c.tc : Thread Cert.BetweenIdeal.nD Cert.BetweenIdeal.τ).loc Cert.BetweenIdeal.main_arg5))
      ∧ θ_run (Cert.BetweenRefIdeal.defs (F := Ideal)) (onTc (τ := Cert.BetweenRefIdeal.τ) (Cert.BetweenRefIdeal.main (F := Ideal))) ⟨m', fun _ => 0, g'⟩ (fun r => ∀ c : Dev Cert.BetweenRefIdeal.nD,
          r.2.mem ((c.tc : Thread Cert.BetweenRefIdeal.nD Cert.BetweenRefIdeal.τ).loc Cert.BetweenRefIdeal.main_v52) = v0 c
          ∧ r.2.mem ((c.tc : Thread Cert.BetweenRefIdeal.nD Cert.BetweenRefIdeal.τ).loc Cert.BetweenRefIdeal.main_v73) = v1 c
          ∧ r.2.mem ((c.tc : Thread Cert.BetweenRefIdeal.nD Cert.BetweenRefIdeal.τ).loc Cert.BetweenRefIdeal.main_v56) = v2 c
          ∧ r.2.mem ((c.tc : Thread Cert.BetweenRefIdeal.nD Cert.BetweenRefIdeal.τ).loc Cert.BetweenRefIdeal.main_v35) = v3 c
          ∧ r.2.mem ((c.tc : Thread Cert.BetweenRefIdeal.nD Cert.BetweenRefIdeal.τ).loc Cert.BetweenRefIdeal.main_arg0) = m' ((c.tc : Thread Cert.BetweenRefIdeal.nD Cert.BetweenRefIdeal.τ).loc Cert.BetweenRefIdeal.main_arg0)
          ∧ r.2.mem ((c.tc : Thread Cert.BetweenRefIdeal.nD Cert.BetweenRefIdeal.τ).loc Cert.BetweenRefIdeal.main_arg1) = m' ((c.tc : Thread Cert.BetweenRefIdeal.nD Cert.BetweenRefIdeal.τ).loc Cert.BetweenRefIdeal.main_arg1)
          ∧ r.2.mem ((c.tc : Thread Cert.BetweenRefIdeal.nD Cert.BetweenRefIdeal.τ).loc Cert.BetweenRefIdeal.main_arg2) = m' ((c.tc : Thread Cert.BetweenRefIdeal.nD Cert.BetweenRefIdeal.τ).loc Cert.BetweenRefIdeal.main_arg2)
          ∧ r.2.mem ((c.tc : Thread Cert.BetweenRefIdeal.nD Cert.BetweenRefIdeal.τ).loc Cert.BetweenRefIdeal.main_arg3) = m' ((c.tc : Thread Cert.BetweenRefIdeal.nD Cert.BetweenRefIdeal.τ).loc Cert.BetweenRefIdeal.main_arg3)
          ∧ r.2.mem ((c.tc : Thread Cert.BetweenRefIdeal.nD Cert.BetweenRefIdeal.τ).loc Cert.BetweenRefIdeal.main_arg4) = m' ((c.tc : Thread Cert.BetweenRefIdeal.nD Cert.BetweenRefIdeal.τ).loc Cert.BetweenRefIdeal.main_arg4)
          ∧ r.2.mem ((c.tc : Thread Cert.BetweenRefIdeal.nD Cert.BetweenRefIdeal.τ).loc Cert.BetweenRefIdeal.main_arg5) = m' ((c.tc : Thread Cert.BetweenRefIdeal.nD Cert.BetweenRefIdeal.τ).loc Cert.BetweenRefIdeal.main_arg5))

def preserves_TokenLoss_TokenLossIdeal : Prop :=
  True

def algebraic_TokenLossIdeal_TokenLossRefIdeal [hTokenLossIdeal : Cert.TokenLossIdeal.Facts] [hTokenLossRefIdeal : Cert.TokenLossRefIdeal.Facts] : Prop :=
  ∀ (m : (ℓ : Loc Cert.TokenLossIdeal.nD Cert.TokenLossIdeal.τ Cert.TokenLossIdeal.sig) → Buf (Elt Ideal) ℓ) (g : Dev Cert.TokenLossIdeal.nD → PrngReg)
    (m' : (ℓ : Loc Cert.TokenLossRefIdeal.nD Cert.TokenLossRefIdeal.τ Cert.TokenLossRefIdeal.sig) → Buf (Elt Ideal) ℓ) (g' : Dev Cert.TokenLossRefIdeal.nD → PrngReg), Pre_TokenLossIdeal m →
    (∀ c : Dev Cert.TokenLossIdeal.nD,
      m' ((c.tc : Thread Cert.TokenLossRefIdeal.nD Cert.TokenLossRefIdeal.τ).loc Cert.TokenLossRefIdeal.main_arg0) = m ((c.tc : Thread Cert.TokenLossIdeal.nD Cert.TokenLossIdeal.τ).loc Cert.TokenLossIdeal.main_arg0)
      ∧ m' ((c.tc : Thread Cert.TokenLossRefIdeal.nD Cert.TokenLossRefIdeal.τ).loc Cert.TokenLossRefIdeal.main_arg1) = m ((c.tc : Thread Cert.TokenLossIdeal.nD Cert.TokenLossIdeal.τ).loc Cert.TokenLossIdeal.main_arg1)
      ∧ m' ((c.tc : Thread Cert.TokenLossRefIdeal.nD Cert.TokenLossRefIdeal.τ).loc Cert.TokenLossRefIdeal.main_arg2) = m ((c.tc : Thread Cert.TokenLossIdeal.nD Cert.TokenLossIdeal.τ).loc Cert.TokenLossIdeal.main_arg2)
      ∧ m' ((c.tc : Thread Cert.TokenLossRefIdeal.nD Cert.TokenLossRefIdeal.τ).loc Cert.TokenLossRefIdeal.main_arg3) = m ((c.tc : Thread Cert.TokenLossIdeal.nD Cert.TokenLossIdeal.τ).loc Cert.TokenLossIdeal.main_arg3)) →
    ∃ (v0 : (c : Dev Cert.TokenLossIdeal.nD) → Buf (Elt Ideal) ((c.tc : Thread Cert.TokenLossIdeal.nD Cert.TokenLossIdeal.τ).loc Cert.TokenLossIdeal.main_v0_0)) (v1 : (c : Dev Cert.TokenLossIdeal.nD) → Buf (Elt Ideal) ((c.tc : Thread Cert.TokenLossIdeal.nD Cert.TokenLossIdeal.τ).loc Cert.TokenLossIdeal.main_v0_1)) (v2 : (c : Dev Cert.TokenLossIdeal.nD) → Buf (Elt Ideal) ((c.tc : Thread Cert.TokenLossIdeal.nD Cert.TokenLossIdeal.τ).loc Cert.TokenLossIdeal.main_v0_2)) (v3 : (c : Dev Cert.TokenLossIdeal.nD) → Buf (Elt Ideal) ((c.tc : Thread Cert.TokenLossIdeal.nD Cert.TokenLossIdeal.τ).loc Cert.TokenLossIdeal.main_v0_3)),
      θ_run (Cert.TokenLossIdeal.defs (F := Ideal)) (onTc (τ := Cert.TokenLossIdeal.τ) (Cert.TokenLossIdeal.main (F := Ideal))) ⟨m, fun _ => 0, g⟩ (fun r => ∀ c : Dev Cert.TokenLossIdeal.nD,
          r.2.mem ((c.tc : Thread Cert.TokenLossIdeal.nD Cert.TokenLossIdeal.τ).loc Cert.TokenLossIdeal.main_v0_0) = v0 c
          ∧ r.2.mem ((c.tc : Thread Cert.TokenLossIdeal.nD Cert.TokenLossIdeal.τ).loc Cert.TokenLossIdeal.main_v0_1) = v1 c
          ∧ r.2.mem ((c.tc : Thread Cert.TokenLossIdeal.nD Cert.TokenLossIdeal.τ).loc Cert.TokenLossIdeal.main_v0_2) = v2 c
          ∧ r.2.mem ((c.tc : Thread Cert.TokenLossIdeal.nD Cert.TokenLossIdeal.τ).loc Cert.TokenLossIdeal.main_v0_3) = v3 c
          ∧ r.2.mem ((c.tc : Thread Cert.TokenLossIdeal.nD Cert.TokenLossIdeal.τ).loc Cert.TokenLossIdeal.main_arg0) = m ((c.tc : Thread Cert.TokenLossIdeal.nD Cert.TokenLossIdeal.τ).loc Cert.TokenLossIdeal.main_arg0)
          ∧ r.2.mem ((c.tc : Thread Cert.TokenLossIdeal.nD Cert.TokenLossIdeal.τ).loc Cert.TokenLossIdeal.main_arg1) = m ((c.tc : Thread Cert.TokenLossIdeal.nD Cert.TokenLossIdeal.τ).loc Cert.TokenLossIdeal.main_arg1)
          ∧ r.2.mem ((c.tc : Thread Cert.TokenLossIdeal.nD Cert.TokenLossIdeal.τ).loc Cert.TokenLossIdeal.main_arg2) = m ((c.tc : Thread Cert.TokenLossIdeal.nD Cert.TokenLossIdeal.τ).loc Cert.TokenLossIdeal.main_arg2)
          ∧ r.2.mem ((c.tc : Thread Cert.TokenLossIdeal.nD Cert.TokenLossIdeal.τ).loc Cert.TokenLossIdeal.main_arg3) = m ((c.tc : Thread Cert.TokenLossIdeal.nD Cert.TokenLossIdeal.τ).loc Cert.TokenLossIdeal.main_arg3))
      ∧ θ_run (Cert.TokenLossRefIdeal.defs (F := Ideal)) (onTc (τ := Cert.TokenLossRefIdeal.τ) (Cert.TokenLossRefIdeal.main (F := Ideal))) ⟨m', fun _ => 0, g'⟩ (fun r => ∀ c : Dev Cert.TokenLossRefIdeal.nD,
          r.2.mem ((c.tc : Thread Cert.TokenLossRefIdeal.nD Cert.TokenLossRefIdeal.τ).loc Cert.TokenLossRefIdeal.main_v51) = v0 c
          ∧ r.2.mem ((c.tc : Thread Cert.TokenLossRefIdeal.nD Cert.TokenLossRefIdeal.τ).loc Cert.TokenLossRefIdeal.main_v31) = v1 c
          ∧ r.2.mem ((c.tc : Thread Cert.TokenLossRefIdeal.nD Cert.TokenLossRefIdeal.τ).loc Cert.TokenLossRefIdeal.main_v52) = v2 c
          ∧ r.2.mem ((c.tc : Thread Cert.TokenLossRefIdeal.nD Cert.TokenLossRefIdeal.τ).loc Cert.TokenLossRefIdeal.main_v34) = v3 c
          ∧ r.2.mem ((c.tc : Thread Cert.TokenLossRefIdeal.nD Cert.TokenLossRefIdeal.τ).loc Cert.TokenLossRefIdeal.main_arg0) = m' ((c.tc : Thread Cert.TokenLossRefIdeal.nD Cert.TokenLossRefIdeal.τ).loc Cert.TokenLossRefIdeal.main_arg0)
          ∧ r.2.mem ((c.tc : Thread Cert.TokenLossRefIdeal.nD Cert.TokenLossRefIdeal.τ).loc Cert.TokenLossRefIdeal.main_arg1) = m' ((c.tc : Thread Cert.TokenLossRefIdeal.nD Cert.TokenLossRefIdeal.τ).loc Cert.TokenLossRefIdeal.main_arg1)
          ∧ r.2.mem ((c.tc : Thread Cert.TokenLossRefIdeal.nD Cert.TokenLossRefIdeal.τ).loc Cert.TokenLossRefIdeal.main_arg2) = m' ((c.tc : Thread Cert.TokenLossRefIdeal.nD Cert.TokenLossRefIdeal.τ).loc Cert.TokenLossRefIdeal.main_arg2)
          ∧ r.2.mem ((c.tc : Thread Cert.TokenLossRefIdeal.nD Cert.TokenLossRefIdeal.τ).loc Cert.TokenLossRefIdeal.main_arg3) = m' ((c.tc : Thread Cert.TokenLossRefIdeal.nD Cert.TokenLossRefIdeal.τ).loc Cert.TokenLossRefIdeal.main_arg3))

def preserves_PairAdd_PairAddIdeal : Prop :=
  True

def algebraic_PairAddIdeal_PairAddRefIdeal [hPairAddIdeal : Cert.PairAddIdeal.Facts] [hPairAddRefIdeal : Cert.PairAddRefIdeal.Facts] : Prop :=
  ∀ (m : (ℓ : Loc Cert.PairAddIdeal.nD Cert.PairAddIdeal.τ Cert.PairAddIdeal.sig) → Buf (Elt Ideal) ℓ) (g : Dev Cert.PairAddIdeal.nD → PrngReg)
    (m' : (ℓ : Loc Cert.PairAddRefIdeal.nD Cert.PairAddRefIdeal.τ Cert.PairAddRefIdeal.sig) → Buf (Elt Ideal) ℓ) (g' : Dev Cert.PairAddRefIdeal.nD → PrngReg), Pre_PairAddIdeal m →
    (∀ c : Dev Cert.PairAddIdeal.nD,
      m' ((c.tc : Thread Cert.PairAddRefIdeal.nD Cert.PairAddRefIdeal.τ).loc Cert.PairAddRefIdeal.main_arg0) = m ((c.tc : Thread Cert.PairAddIdeal.nD Cert.PairAddIdeal.τ).loc Cert.PairAddIdeal.main_arg0)
      ∧ m' ((c.tc : Thread Cert.PairAddRefIdeal.nD Cert.PairAddRefIdeal.τ).loc Cert.PairAddRefIdeal.main_arg1) = m ((c.tc : Thread Cert.PairAddIdeal.nD Cert.PairAddIdeal.τ).loc Cert.PairAddIdeal.main_arg1)) →
    ∃ (v0 : (c : Dev Cert.PairAddIdeal.nD) → Buf (Elt Ideal) ((c.tc : Thread Cert.PairAddIdeal.nD Cert.PairAddIdeal.τ).loc Cert.PairAddIdeal.main_v1)),
      θ_run (Cert.PairAddIdeal.defs (F := Ideal)) (onTc (τ := Cert.PairAddIdeal.τ) (Cert.PairAddIdeal.main (F := Ideal))) ⟨m, fun _ => 0, g⟩ (fun r => ∀ c : Dev Cert.PairAddIdeal.nD,
          r.2.mem ((c.tc : Thread Cert.PairAddIdeal.nD Cert.PairAddIdeal.τ).loc Cert.PairAddIdeal.main_v1) = v0 c
          ∧ r.2.mem ((c.tc : Thread Cert.PairAddIdeal.nD Cert.PairAddIdeal.τ).loc Cert.PairAddIdeal.main_arg0) = m ((c.tc : Thread Cert.PairAddIdeal.nD Cert.PairAddIdeal.τ).loc Cert.PairAddIdeal.main_arg0)
          ∧ r.2.mem ((c.tc : Thread Cert.PairAddIdeal.nD Cert.PairAddIdeal.τ).loc Cert.PairAddIdeal.main_arg1) = m ((c.tc : Thread Cert.PairAddIdeal.nD Cert.PairAddIdeal.τ).loc Cert.PairAddIdeal.main_arg1))
      ∧ θ_run (Cert.PairAddRefIdeal.defs (F := Ideal)) (onTc (τ := Cert.PairAddRefIdeal.τ) (Cert.PairAddRefIdeal.main (F := Ideal))) ⟨m', fun _ => 0, g'⟩ (fun r => ∀ c : Dev Cert.PairAddRefIdeal.nD,
          r.2.mem ((c.tc : Thread Cert.PairAddRefIdeal.nD Cert.PairAddRefIdeal.τ).loc Cert.PairAddRefIdeal.main_v6) = v0 c
          ∧ r.2.mem ((c.tc : Thread Cert.PairAddRefIdeal.nD Cert.PairAddRefIdeal.τ).loc Cert.PairAddRefIdeal.main_arg0) = m' ((c.tc : Thread Cert.PairAddRefIdeal.nD Cert.PairAddRefIdeal.τ).loc Cert.PairAddRefIdeal.main_arg0)
          ∧ r.2.mem ((c.tc : Thread Cert.PairAddRefIdeal.nD Cert.PairAddRefIdeal.τ).loc Cert.PairAddRefIdeal.main_arg1) = m' ((c.tc : Thread Cert.PairAddRefIdeal.nD Cert.PairAddRefIdeal.τ).loc Cert.PairAddRefIdeal.main_arg1))

def preserves_PairOut_PairOutIdeal : Prop :=
  True

def algebraic_PairOutIdeal_PairOutRefIdeal [hPairOutIdeal : Cert.PairOutIdeal.Facts] [hPairOutRefIdeal : Cert.PairOutRefIdeal.Facts] : Prop :=
  ∀ (m : (ℓ : Loc Cert.PairOutIdeal.nD Cert.PairOutIdeal.τ Cert.PairOutIdeal.sig) → Buf (Elt Ideal) ℓ) (g : Dev Cert.PairOutIdeal.nD → PrngReg)
    (m' : (ℓ : Loc Cert.PairOutRefIdeal.nD Cert.PairOutRefIdeal.τ Cert.PairOutRefIdeal.sig) → Buf (Elt Ideal) ℓ) (g' : Dev Cert.PairOutRefIdeal.nD → PrngReg), Pre_PairOutIdeal m →
    (∀ c : Dev Cert.PairOutIdeal.nD,
      m' ((c.tc : Thread Cert.PairOutRefIdeal.nD Cert.PairOutRefIdeal.τ).loc Cert.PairOutRefIdeal.main_arg0) = m ((c.tc : Thread Cert.PairOutIdeal.nD Cert.PairOutIdeal.τ).loc Cert.PairOutIdeal.main_arg0)
      ∧ m' ((c.tc : Thread Cert.PairOutRefIdeal.nD Cert.PairOutRefIdeal.τ).loc Cert.PairOutRefIdeal.main_arg1) = m ((c.tc : Thread Cert.PairOutIdeal.nD Cert.PairOutIdeal.τ).loc Cert.PairOutIdeal.main_arg1)) →
    ∃ (v0 : (c : Dev Cert.PairOutIdeal.nD) → Buf (Elt Ideal) ((c.tc : Thread Cert.PairOutIdeal.nD Cert.PairOutIdeal.τ).loc Cert.PairOutIdeal.main_v1)),
      θ_run (Cert.PairOutIdeal.defs (F := Ideal)) (onTc (τ := Cert.PairOutIdeal.τ) (Cert.PairOutIdeal.main (F := Ideal))) ⟨m, fun _ => 0, g⟩ (fun r => ∀ c : Dev Cert.PairOutIdeal.nD,
          r.2.mem ((c.tc : Thread Cert.PairOutIdeal.nD Cert.PairOutIdeal.τ).loc Cert.PairOutIdeal.main_v1) = v0 c
          ∧ r.2.mem ((c.tc : Thread Cert.PairOutIdeal.nD Cert.PairOutIdeal.τ).loc Cert.PairOutIdeal.main_arg0) = m ((c.tc : Thread Cert.PairOutIdeal.nD Cert.PairOutIdeal.τ).loc Cert.PairOutIdeal.main_arg0)
          ∧ r.2.mem ((c.tc : Thread Cert.PairOutIdeal.nD Cert.PairOutIdeal.τ).loc Cert.PairOutIdeal.main_arg1) = m ((c.tc : Thread Cert.PairOutIdeal.nD Cert.PairOutIdeal.τ).loc Cert.PairOutIdeal.main_arg1))
      ∧ θ_run (Cert.PairOutRefIdeal.defs (F := Ideal)) (onTc (τ := Cert.PairOutRefIdeal.τ) (Cert.PairOutRefIdeal.main (F := Ideal))) ⟨m', fun _ => 0, g'⟩ (fun r => ∀ c : Dev Cert.PairOutRefIdeal.nD,
          r.2.mem ((c.tc : Thread Cert.PairOutRefIdeal.nD Cert.PairOutRefIdeal.τ).loc Cert.PairOutRefIdeal.main_v6) = v0 c
          ∧ r.2.mem ((c.tc : Thread Cert.PairOutRefIdeal.nD Cert.PairOutRefIdeal.τ).loc Cert.PairOutRefIdeal.main_arg0) = m' ((c.tc : Thread Cert.PairOutRefIdeal.nD Cert.PairOutRefIdeal.τ).loc Cert.PairOutRefIdeal.main_arg0)
          ∧ r.2.mem ((c.tc : Thread Cert.PairOutRefIdeal.nD Cert.PairOutRefIdeal.τ).loc Cert.PairOutRefIdeal.main_arg1) = m' ((c.tc : Thread Cert.PairOutRefIdeal.nD Cert.PairOutRefIdeal.τ).loc Cert.PairOutRefIdeal.main_arg1))

def preserves_PairPool_PairPoolIdeal : Prop :=
  True

def algebraic_PairPoolIdeal_PairPoolRefIdeal [hPairPoolIdeal : Cert.PairPoolIdeal.Facts] [hPairPoolRefIdeal : Cert.PairPoolRefIdeal.Facts] : Prop :=
  ∀ (m : (ℓ : Loc Cert.PairPoolIdeal.nD Cert.PairPoolIdeal.τ Cert.PairPoolIdeal.sig) → Buf (Elt Ideal) ℓ) (g : Dev Cert.PairPoolIdeal.nD → PrngReg)
    (m' : (ℓ : Loc Cert.PairPoolRefIdeal.nD Cert.PairPoolRefIdeal.τ Cert.PairPoolRefIdeal.sig) → Buf (Elt Ideal) ℓ) (g' : Dev Cert.PairPoolRefIdeal.nD → PrngReg), Pre_PairPoolIdeal m →
    (∀ c : Dev Cert.PairPoolIdeal.nD,
      m' ((c.tc : Thread Cert.PairPoolRefIdeal.nD Cert.PairPoolRefIdeal.τ).loc Cert.PairPoolRefIdeal.main_arg0) = m ((c.tc : Thread Cert.PairPoolIdeal.nD Cert.PairPoolIdeal.τ).loc Cert.PairPoolIdeal.main_arg0)
      ∧ m' ((c.tc : Thread Cert.PairPoolRefIdeal.nD Cert.PairPoolRefIdeal.τ).loc Cert.PairPoolRefIdeal.main_arg1) = m ((c.tc : Thread Cert.PairPoolIdeal.nD Cert.PairPoolIdeal.τ).loc Cert.PairPoolIdeal.main_arg1)) →
    ∃ (v0 : (c : Dev Cert.PairPoolIdeal.nD) → Buf (Elt Ideal) ((c.tc : Thread Cert.PairPoolIdeal.nD Cert.PairPoolIdeal.τ).loc Cert.PairPoolIdeal.main_v1)),
      θ_run (Cert.PairPoolIdeal.defs (F := Ideal)) (onTc (τ := Cert.PairPoolIdeal.τ) (Cert.PairPoolIdeal.main (F := Ideal))) ⟨m, fun _ => 0, g⟩ (fun r => ∀ c : Dev Cert.PairPoolIdeal.nD,
          r.2.mem ((c.tc : Thread Cert.PairPoolIdeal.nD Cert.PairPoolIdeal.τ).loc Cert.PairPoolIdeal.main_v1) = v0 c
          ∧ r.2.mem ((c.tc : Thread Cert.PairPoolIdeal.nD Cert.PairPoolIdeal.τ).loc Cert.PairPoolIdeal.main_arg0) = m ((c.tc : Thread Cert.PairPoolIdeal.nD Cert.PairPoolIdeal.τ).loc Cert.PairPoolIdeal.main_arg0)
          ∧ r.2.mem ((c.tc : Thread Cert.PairPoolIdeal.nD Cert.PairPoolIdeal.τ).loc Cert.PairPoolIdeal.main_arg1) = m ((c.tc : Thread Cert.PairPoolIdeal.nD Cert.PairPoolIdeal.τ).loc Cert.PairPoolIdeal.main_arg1))
      ∧ θ_run (Cert.PairPoolRefIdeal.defs (F := Ideal)) (onTc (τ := Cert.PairPoolRefIdeal.τ) (Cert.PairPoolRefIdeal.main (F := Ideal))) ⟨m', fun _ => 0, g'⟩ (fun r => ∀ c : Dev Cert.PairPoolRefIdeal.nD,
          r.2.mem ((c.tc : Thread Cert.PairPoolRefIdeal.nD Cert.PairPoolRefIdeal.τ).loc Cert.PairPoolRefIdeal.main_v6) = v0 c
          ∧ r.2.mem ((c.tc : Thread Cert.PairPoolRefIdeal.nD Cert.PairPoolRefIdeal.τ).loc Cert.PairPoolRefIdeal.main_arg0) = m' ((c.tc : Thread Cert.PairPoolRefIdeal.nD Cert.PairPoolRefIdeal.τ).loc Cert.PairPoolRefIdeal.main_arg0)
          ∧ r.2.mem ((c.tc : Thread Cert.PairPoolRefIdeal.nD Cert.PairPoolRefIdeal.τ).loc Cert.PairPoolRefIdeal.main_arg1) = m' ((c.tc : Thread Cert.PairPoolRefIdeal.nD Cert.PairPoolRefIdeal.τ).loc Cert.PairPoolRefIdeal.main_arg1))

def preserves_PairInEven_PairInEvenIdeal : Prop :=
  True

def algebraic_PairInEvenIdeal_PairInEvenRefIdeal [hPairInEvenIdeal : Cert.PairInEvenIdeal.Facts] [hPairInEvenRefIdeal : Cert.PairInEvenRefIdeal.Facts] : Prop :=
  ∀ (m : (ℓ : Loc Cert.PairInEvenIdeal.nD Cert.PairInEvenIdeal.τ Cert.PairInEvenIdeal.sig) → Buf (Elt Ideal) ℓ) (g : Dev Cert.PairInEvenIdeal.nD → PrngReg)
    (m' : (ℓ : Loc Cert.PairInEvenRefIdeal.nD Cert.PairInEvenRefIdeal.τ Cert.PairInEvenRefIdeal.sig) → Buf (Elt Ideal) ℓ) (g' : Dev Cert.PairInEvenRefIdeal.nD → PrngReg), Pre_PairInEvenIdeal m →
    (∀ c : Dev Cert.PairInEvenIdeal.nD,
      m' ((c.tc : Thread Cert.PairInEvenRefIdeal.nD Cert.PairInEvenRefIdeal.τ).loc Cert.PairInEvenRefIdeal.main_arg0) = m ((c.tc : Thread Cert.PairInEvenIdeal.nD Cert.PairInEvenIdeal.τ).loc Cert.PairInEvenIdeal.main_arg0)
      ∧ m' ((c.tc : Thread Cert.PairInEvenRefIdeal.nD Cert.PairInEvenRefIdeal.τ).loc Cert.PairInEvenRefIdeal.main_arg1) = m ((c.tc : Thread Cert.PairInEvenIdeal.nD Cert.PairInEvenIdeal.τ).loc Cert.PairInEvenIdeal.main_arg1)) →
    ∃ (v0 : (c : Dev Cert.PairInEvenIdeal.nD) → Buf (Elt Ideal) ((c.tc : Thread Cert.PairInEvenIdeal.nD Cert.PairInEvenIdeal.τ).loc Cert.PairInEvenIdeal.main_v1)),
      θ_run (Cert.PairInEvenIdeal.defs (F := Ideal)) (onTc (τ := Cert.PairInEvenIdeal.τ) (Cert.PairInEvenIdeal.main (F := Ideal))) ⟨m, fun _ => 0, g⟩ (fun r => ∀ c : Dev Cert.PairInEvenIdeal.nD,
          r.2.mem ((c.tc : Thread Cert.PairInEvenIdeal.nD Cert.PairInEvenIdeal.τ).loc Cert.PairInEvenIdeal.main_v1) = v0 c
          ∧ r.2.mem ((c.tc : Thread Cert.PairInEvenIdeal.nD Cert.PairInEvenIdeal.τ).loc Cert.PairInEvenIdeal.main_arg0) = m ((c.tc : Thread Cert.PairInEvenIdeal.nD Cert.PairInEvenIdeal.τ).loc Cert.PairInEvenIdeal.main_arg0)
          ∧ r.2.mem ((c.tc : Thread Cert.PairInEvenIdeal.nD Cert.PairInEvenIdeal.τ).loc Cert.PairInEvenIdeal.main_arg1) = m ((c.tc : Thread Cert.PairInEvenIdeal.nD Cert.PairInEvenIdeal.τ).loc Cert.PairInEvenIdeal.main_arg1))
      ∧ θ_run (Cert.PairInEvenRefIdeal.defs (F := Ideal)) (onTc (τ := Cert.PairInEvenRefIdeal.τ) (Cert.PairInEvenRefIdeal.main (F := Ideal))) ⟨m', fun _ => 0, g'⟩ (fun r => ∀ c : Dev Cert.PairInEvenRefIdeal.nD,
          r.2.mem ((c.tc : Thread Cert.PairInEvenRefIdeal.nD Cert.PairInEvenRefIdeal.τ).loc Cert.PairInEvenRefIdeal.main_v5) = v0 c
          ∧ r.2.mem ((c.tc : Thread Cert.PairInEvenRefIdeal.nD Cert.PairInEvenRefIdeal.τ).loc Cert.PairInEvenRefIdeal.main_arg0) = m' ((c.tc : Thread Cert.PairInEvenRefIdeal.nD Cert.PairInEvenRefIdeal.τ).loc Cert.PairInEvenRefIdeal.main_arg0)
          ∧ r.2.mem ((c.tc : Thread Cert.PairInEvenRefIdeal.nD Cert.PairInEvenRefIdeal.τ).loc Cert.PairInEvenRefIdeal.main_arg1) = m' ((c.tc : Thread Cert.PairInEvenRefIdeal.nD Cert.PairInEvenRefIdeal.τ).loc Cert.PairInEvenRefIdeal.main_arg1))

def preserves_PostNorm_PostNormIdeal : Prop :=
  True

def algebraic_PostNormIdeal_PostNormRefIdeal [hPostNormIdeal : Cert.PostNormIdeal.Facts] [hPostNormRefIdeal : Cert.PostNormRefIdeal.Facts] : Prop :=
  ∀ (m : (ℓ : Loc Cert.PostNormIdeal.nD Cert.PostNormIdeal.τ Cert.PostNormIdeal.sig) → Buf (Elt Ideal) ℓ) (g : Dev Cert.PostNormIdeal.nD → PrngReg)
    (m' : (ℓ : Loc Cert.PostNormRefIdeal.nD Cert.PostNormRefIdeal.τ Cert.PostNormRefIdeal.sig) → Buf (Elt Ideal) ℓ) (g' : Dev Cert.PostNormRefIdeal.nD → PrngReg), Pre_PostNormIdeal m →
    (∀ c : Dev Cert.PostNormIdeal.nD,
      m' ((c.tc : Thread Cert.PostNormRefIdeal.nD Cert.PostNormRefIdeal.τ).loc Cert.PostNormRefIdeal.main_arg0) = m ((c.tc : Thread Cert.PostNormIdeal.nD Cert.PostNormIdeal.τ).loc Cert.PostNormIdeal.main_arg0)
      ∧ m' ((c.tc : Thread Cert.PostNormRefIdeal.nD Cert.PostNormRefIdeal.τ).loc Cert.PostNormRefIdeal.main_arg1) = m ((c.tc : Thread Cert.PostNormIdeal.nD Cert.PostNormIdeal.τ).loc Cert.PostNormIdeal.main_arg1)
      ∧ m' ((c.tc : Thread Cert.PostNormRefIdeal.nD Cert.PostNormRefIdeal.τ).loc Cert.PostNormRefIdeal.main_arg2) = m ((c.tc : Thread Cert.PostNormIdeal.nD Cert.PostNormIdeal.τ).loc Cert.PostNormIdeal.main_arg2)
      ∧ m' ((c.tc : Thread Cert.PostNormRefIdeal.nD Cert.PostNormRefIdeal.τ).loc Cert.PostNormRefIdeal.main_arg3) = m ((c.tc : Thread Cert.PostNormIdeal.nD Cert.PostNormIdeal.τ).loc Cert.PostNormIdeal.main_arg3)) →
    ∃ (v0 : (c : Dev Cert.PostNormIdeal.nD) → Buf (Elt Ideal) ((c.tc : Thread Cert.PostNormIdeal.nD Cert.PostNormIdeal.τ).loc Cert.PostNormIdeal.main_v0_0)) (v1 : (c : Dev Cert.PostNormIdeal.nD) → Buf (Elt Ideal) ((c.tc : Thread Cert.PostNormIdeal.nD Cert.PostNormIdeal.τ).loc Cert.PostNormIdeal.main_v0_1)),
      θ_run (Cert.PostNormIdeal.defs (F := Ideal)) (onTc (τ := Cert.PostNormIdeal.τ) (Cert.PostNormIdeal.main (F := Ideal))) ⟨m, fun _ => 0, g⟩ (fun r => ∀ c : Dev Cert.PostNormIdeal.nD,
          r.2.mem ((c.tc : Thread Cert.PostNormIdeal.nD Cert.PostNormIdeal.τ).loc Cert.PostNormIdeal.main_v0_0) = v0 c
          ∧ r.2.mem ((c.tc : Thread Cert.PostNormIdeal.nD Cert.PostNormIdeal.τ).loc Cert.PostNormIdeal.main_v0_1) = v1 c
          ∧ r.2.mem ((c.tc : Thread Cert.PostNormIdeal.nD Cert.PostNormIdeal.τ).loc Cert.PostNormIdeal.main_arg0) = m ((c.tc : Thread Cert.PostNormIdeal.nD Cert.PostNormIdeal.τ).loc Cert.PostNormIdeal.main_arg0)
          ∧ r.2.mem ((c.tc : Thread Cert.PostNormIdeal.nD Cert.PostNormIdeal.τ).loc Cert.PostNormIdeal.main_arg1) = m ((c.tc : Thread Cert.PostNormIdeal.nD Cert.PostNormIdeal.τ).loc Cert.PostNormIdeal.main_arg1)
          ∧ r.2.mem ((c.tc : Thread Cert.PostNormIdeal.nD Cert.PostNormIdeal.τ).loc Cert.PostNormIdeal.main_arg2) = m ((c.tc : Thread Cert.PostNormIdeal.nD Cert.PostNormIdeal.τ).loc Cert.PostNormIdeal.main_arg2)
          ∧ r.2.mem ((c.tc : Thread Cert.PostNormIdeal.nD Cert.PostNormIdeal.τ).loc Cert.PostNormIdeal.main_arg3) = m ((c.tc : Thread Cert.PostNormIdeal.nD Cert.PostNormIdeal.τ).loc Cert.PostNormIdeal.main_arg3))
      ∧ θ_run (Cert.PostNormRefIdeal.defs (F := Ideal)) (onTc (τ := Cert.PostNormRefIdeal.τ) (Cert.PostNormRefIdeal.main (F := Ideal))) ⟨m', fun _ => 0, g'⟩ (fun r => ∀ c : Dev Cert.PostNormRefIdeal.nD,
          r.2.mem ((c.tc : Thread Cert.PostNormRefIdeal.nD Cert.PostNormRefIdeal.τ).loc Cert.PostNormRefIdeal.main_v13) = v0 c
          ∧ r.2.mem ((c.tc : Thread Cert.PostNormRefIdeal.nD Cert.PostNormRefIdeal.τ).loc Cert.PostNormRefIdeal.main_v26) = v1 c
          ∧ r.2.mem ((c.tc : Thread Cert.PostNormRefIdeal.nD Cert.PostNormRefIdeal.τ).loc Cert.PostNormRefIdeal.main_arg0) = m' ((c.tc : Thread Cert.PostNormRefIdeal.nD Cert.PostNormRefIdeal.τ).loc Cert.PostNormRefIdeal.main_arg0)
          ∧ r.2.mem ((c.tc : Thread Cert.PostNormRefIdeal.nD Cert.PostNormRefIdeal.τ).loc Cert.PostNormRefIdeal.main_arg1) = m' ((c.tc : Thread Cert.PostNormRefIdeal.nD Cert.PostNormRefIdeal.τ).loc Cert.PostNormRefIdeal.main_arg1)
          ∧ r.2.mem ((c.tc : Thread Cert.PostNormRefIdeal.nD Cert.PostNormRefIdeal.τ).loc Cert.PostNormRefIdeal.main_arg2) = m' ((c.tc : Thread Cert.PostNormRefIdeal.nD Cert.PostNormRefIdeal.τ).loc Cert.PostNormRefIdeal.main_arg2)
          ∧ r.2.mem ((c.tc : Thread Cert.PostNormRefIdeal.nD Cert.PostNormRefIdeal.τ).loc Cert.PostNormRefIdeal.main_arg3) = m' ((c.tc : Thread Cert.PostNormRefIdeal.nD Cert.PostNormRefIdeal.τ).loc Cert.PostNormRefIdeal.main_arg3))

def Claim : Prop :=
  ∃ (hKernel : Cert.Kernel.Facts) (hKernelIdeal : Cert.KernelIdeal.Facts) (hReferenceIdeal : Cert.ReferenceIdeal.Facts) (hDhOdd : Cert.DhOdd.Facts) (hDhOddIdeal : Cert.DhOddIdeal.Facts) (hDhOddRefIdeal : Cert.DhOddRefIdeal.Facts) (hDwInOdd : Cert.DwInOdd.Facts) (hDwInOddIdeal : Cert.DwInOddIdeal.Facts) (hDwInOddRefIdeal : Cert.DwInOddRefIdeal.Facts) (hInOdd : Cert.InOdd.Facts) (hInOddIdeal : Cert.InOddIdeal.Facts) (hInOddRefIdeal : Cert.InOddRefIdeal.Facts) (hDhEven : Cert.DhEven.Facts) (hDhEvenIdeal : Cert.DhEvenIdeal.Facts) (hDhEvenRefIdeal : Cert.DhEvenRefIdeal.Facts) (hDwOwn : Cert.DwOwn.Facts) (hDwOwnIdeal : Cert.DwOwnIdeal.Facts) (hDwOwnRefIdeal : Cert.DwOwnRefIdeal.Facts) (hDwSibling : Cert.DwSibling.Facts) (hDwSiblingIdeal : Cert.DwSiblingIdeal.Facts) (hDwSiblingRefIdeal : Cert.DwSiblingRefIdeal.Facts) (hDy : Cert.Dy.Facts) (hDyIdeal : Cert.DyIdeal.Facts) (hDyRefIdeal : Cert.DyRefIdeal.Facts) (hDwOut : Cert.DwOut.Facts) (hDwOutIdeal : Cert.DwOutIdeal.Facts) (hDwOutRefIdeal : Cert.DwOutRefIdeal.Facts) (hOut : Cert.Out.Facts) (hOutIdeal : Cert.OutIdeal.Facts) (hOutRefIdeal : Cert.OutRefIdeal.Facts) (hAdamInEven : Cert.AdamInEven.Facts) (hAdamInEvenIdeal : Cert.AdamInEvenIdeal.Facts) (hAdamInEvenRefIdeal : Cert.AdamInEvenRefIdeal.Facts) (hAdamInOdd : Cert.AdamInOdd.Facts) (hAdamInOddIdeal : Cert.AdamInOddIdeal.Facts) (hAdamInOddRefIdeal : Cert.AdamInOddRefIdeal.Facts) (hAdamOut : Cert.AdamOut.Facts) (hAdamOutIdeal : Cert.AdamOutIdeal.Facts) (hAdamOutRefIdeal : Cert.AdamOutRefIdeal.Facts) (hAdamPool : Cert.AdamPool.Facts) (hAdamPoolIdeal : Cert.AdamPoolIdeal.Facts) (hAdamPoolRefIdeal : Cert.AdamPoolRefIdeal.Facts) (hAdamSmallA : Cert.AdamSmallA.Facts) (hAdamSmallAIdeal : Cert.AdamSmallAIdeal.Facts) (hAdamSmallARefIdeal : Cert.AdamSmallARefIdeal.Facts) (hAdamSmallB : Cert.AdamSmallB.Facts) (hAdamSmallBIdeal : Cert.AdamSmallBIdeal.Facts) (hAdamSmallBRefIdeal : Cert.AdamSmallBRefIdeal.Facts) (hAdamSmallC : Cert.AdamSmallC.Facts) (hAdamSmallCIdeal : Cert.AdamSmallCIdeal.Facts) (hAdamSmallCRefIdeal : Cert.AdamSmallCRefIdeal.Facts) (hAdamSmallD : Cert.AdamSmallD.Facts) (hAdamSmallDIdeal : Cert.AdamSmallDIdeal.Facts) (hAdamSmallDRefIdeal : Cert.AdamSmallDRefIdeal.Facts) (hSumSmall : Cert.SumSmall.Facts) (hSumSmallIdeal : Cert.SumSmallIdeal.Facts) (hSumSmallRefIdeal : Cert.SumSmallRefIdeal.Facts) (hPreEven : Cert.PreEven.Facts) (hPreEvenIdeal : Cert.PreEvenIdeal.Facts) (hPreEvenRefIdeal : Cert.PreEvenRefIdeal.Facts) (hBetween : Cert.Between.Facts) (hBetweenIdeal : Cert.BetweenIdeal.Facts) (hBetweenRefIdeal : Cert.BetweenRefIdeal.Facts) (hTokenLoss : Cert.TokenLoss.Facts) (hTokenLossIdeal : Cert.TokenLossIdeal.Facts) (hTokenLossRefIdeal : Cert.TokenLossRefIdeal.Facts) (hPairAdd : Cert.PairAdd.Facts) (hPairAddIdeal : Cert.PairAddIdeal.Facts) (hPairAddRefIdeal : Cert.PairAddRefIdeal.Facts) (hPairOut : Cert.PairOut.Facts) (hPairOutIdeal : Cert.PairOutIdeal.Facts) (hPairOutRefIdeal : Cert.PairOutRefIdeal.Facts) (hPairPool : Cert.PairPool.Facts) (hPairPoolIdeal : Cert.PairPoolIdeal.Facts) (hPairPoolRefIdeal : Cert.PairPoolRefIdeal.Facts) (hPairInEven : Cert.PairInEven.Facts) (hPairInEvenIdeal : Cert.PairInEvenIdeal.Facts) (hPairInEvenRefIdeal : Cert.PairInEvenRefIdeal.Facts) (hPostNorm : Cert.PostNorm.Facts) (hPostNormIdeal : Cert.PostNormIdeal.Facts) (hPostNormRefIdeal : Cert.PostNormRefIdeal.Facts),
    quiescent_Kernel (hKernel := hKernel)
    ∧ quiescent_KernelIdeal (hKernelIdeal := hKernelIdeal)
    ∧ quiescent_ReferenceIdeal (hReferenceIdeal := hReferenceIdeal)
    ∧ quiescent_DhOdd (hDhOdd := hDhOdd)
    ∧ quiescent_DhOddIdeal (hDhOddIdeal := hDhOddIdeal)
    ∧ quiescent_DhOddRefIdeal (hDhOddRefIdeal := hDhOddRefIdeal)
    ∧ quiescent_DwInOdd (hDwInOdd := hDwInOdd)
    ∧ quiescent_DwInOddIdeal (hDwInOddIdeal := hDwInOddIdeal)
    ∧ quiescent_DwInOddRefIdeal (hDwInOddRefIdeal := hDwInOddRefIdeal)
    ∧ quiescent_InOdd (hInOdd := hInOdd)
    ∧ quiescent_InOddIdeal (hInOddIdeal := hInOddIdeal)
    ∧ quiescent_InOddRefIdeal (hInOddRefIdeal := hInOddRefIdeal)
    ∧ quiescent_DhEven (hDhEven := hDhEven)
    ∧ quiescent_DhEvenIdeal (hDhEvenIdeal := hDhEvenIdeal)
    ∧ quiescent_DhEvenRefIdeal (hDhEvenRefIdeal := hDhEvenRefIdeal)
    ∧ quiescent_DwOwn (hDwOwn := hDwOwn)
    ∧ quiescent_DwOwnIdeal (hDwOwnIdeal := hDwOwnIdeal)
    ∧ quiescent_DwOwnRefIdeal (hDwOwnRefIdeal := hDwOwnRefIdeal)
    ∧ quiescent_DwSibling (hDwSibling := hDwSibling)
    ∧ quiescent_DwSiblingIdeal (hDwSiblingIdeal := hDwSiblingIdeal)
    ∧ quiescent_DwSiblingRefIdeal (hDwSiblingRefIdeal := hDwSiblingRefIdeal)
    ∧ quiescent_Dy (hDy := hDy)
    ∧ quiescent_DyIdeal (hDyIdeal := hDyIdeal)
    ∧ quiescent_DyRefIdeal (hDyRefIdeal := hDyRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_Out (hOut := hOut)
    ∧ quiescent_OutIdeal (hOutIdeal := hOutIdeal)
    ∧ quiescent_OutRefIdeal (hOutRefIdeal := hOutRefIdeal)
    ∧ quiescent_AdamInEven (hAdamInEven := hAdamInEven)
    ∧ quiescent_AdamInEvenIdeal (hAdamInEvenIdeal := hAdamInEvenIdeal)
    ∧ quiescent_AdamInEvenRefIdeal (hAdamInEvenRefIdeal := hAdamInEvenRefIdeal)
    ∧ quiescent_AdamInOdd (hAdamInOdd := hAdamInOdd)
    ∧ quiescent_AdamInOddIdeal (hAdamInOddIdeal := hAdamInOddIdeal)
    ∧ quiescent_AdamInOddRefIdeal (hAdamInOddRefIdeal := hAdamInOddRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_AdamSmallA (hAdamSmallA := hAdamSmallA)
    ∧ quiescent_AdamSmallAIdeal (hAdamSmallAIdeal := hAdamSmallAIdeal)
    ∧ quiescent_AdamSmallARefIdeal (hAdamSmallARefIdeal := hAdamSmallARefIdeal)
    ∧ quiescent_AdamSmallB (hAdamSmallB := hAdamSmallB)
    ∧ quiescent_AdamSmallBIdeal (hAdamSmallBIdeal := hAdamSmallBIdeal)
    ∧ quiescent_AdamSmallBRefIdeal (hAdamSmallBRefIdeal := hAdamSmallBRefIdeal)
    ∧ quiescent_AdamSmallC (hAdamSmallC := hAdamSmallC)
    ∧ quiescent_AdamSmallCIdeal (hAdamSmallCIdeal := hAdamSmallCIdeal)
    ∧ quiescent_AdamSmallCRefIdeal (hAdamSmallCRefIdeal := hAdamSmallCRefIdeal)
    ∧ quiescent_AdamSmallD (hAdamSmallD := hAdamSmallD)
    ∧ quiescent_AdamSmallDIdeal (hAdamSmallDIdeal := hAdamSmallDIdeal)
    ∧ quiescent_AdamSmallDRefIdeal (hAdamSmallDRefIdeal := hAdamSmallDRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_PreEven (hPreEven := hPreEven)
    ∧ quiescent_PreEvenIdeal (hPreEvenIdeal := hPreEvenIdeal)
    ∧ quiescent_PreEvenRefIdeal (hPreEvenRefIdeal := hPreEvenRefIdeal)
    ∧ quiescent_Between (hBetween := hBetween)
    ∧ quiescent_BetweenIdeal (hBetweenIdeal := hBetweenIdeal)
    ∧ quiescent_BetweenRefIdeal (hBetweenRefIdeal := hBetweenRefIdeal)
    ∧ quiescent_TokenLoss (hTokenLoss := hTokenLoss)
    ∧ quiescent_TokenLossIdeal (hTokenLossIdeal := hTokenLossIdeal)
    ∧ quiescent_TokenLossRefIdeal (hTokenLossRefIdeal := hTokenLossRefIdeal)
    ∧ quiescent_PairAdd (hPairAdd := hPairAdd)
    ∧ quiescent_PairAddIdeal (hPairAddIdeal := hPairAddIdeal)
    ∧ quiescent_PairAddRefIdeal (hPairAddRefIdeal := hPairAddRefIdeal)
    ∧ quiescent_PairOut (hPairOut := hPairOut)
    ∧ quiescent_PairOutIdeal (hPairOutIdeal := hPairOutIdeal)
    ∧ quiescent_PairOutRefIdeal (hPairOutRefIdeal := hPairOutRefIdeal)
    ∧ quiescent_PairPool (hPairPool := hPairPool)
    ∧ quiescent_PairPoolIdeal (hPairPoolIdeal := hPairPoolIdeal)
    ∧ quiescent_PairPoolRefIdeal (hPairPoolRefIdeal := hPairPoolRefIdeal)
    ∧ quiescent_PairInEven (hPairInEven := hPairInEven)
    ∧ quiescent_PairInEvenIdeal (hPairInEvenIdeal := hPairInEvenIdeal)
    ∧ quiescent_PairInEvenRefIdeal (hPairInEvenRefIdeal := hPairInEvenRefIdeal)
    ∧ quiescent_PostNorm (hPostNorm := hPostNorm)
    ∧ quiescent_PostNormIdeal (hPostNormIdeal := hPostNormIdeal)
    ∧ quiescent_PostNormRefIdeal (hPostNormRefIdeal := hPostNormRefIdeal)
    ∧ preserves_Kernel_KernelIdeal
    ∧ preserves_DhOdd_DhOddIdeal
    ∧ algebraic_DhOddIdeal_DhOddRefIdeal (hDhOddIdeal := hDhOddIdeal) (hDhOddRefIdeal := hDhOddRefIdeal)
    ∧ preserves_DwInOdd_DwInOddIdeal
    ∧ algebraic_DwInOddIdeal_DwInOddRefIdeal (hDwInOddIdeal := hDwInOddIdeal) (hDwInOddRefIdeal := hDwInOddRefIdeal)
    ∧ preserves_InOdd_InOddIdeal
    ∧ algebraic_InOddIdeal_InOddRefIdeal (hInOddIdeal := hInOddIdeal) (hInOddRefIdeal := hInOddRefIdeal)
    ∧ preserves_DhEven_DhEvenIdeal
    ∧ algebraic_DhEvenIdeal_DhEvenRefIdeal (hDhEvenIdeal := hDhEvenIdeal) (hDhEvenRefIdeal := hDhEvenRefIdeal)
    ∧ preserves_DwOwn_DwOwnIdeal
    ∧ algebraic_DwOwnIdeal_DwOwnRefIdeal (hDwOwnIdeal := hDwOwnIdeal) (hDwOwnRefIdeal := hDwOwnRefIdeal)
    ∧ preserves_DwSibling_DwSiblingIdeal
    ∧ algebraic_DwSiblingIdeal_DwSiblingRefIdeal (hDwSiblingIdeal := hDwSiblingIdeal) (hDwSiblingRefIdeal := hDwSiblingRefIdeal)
    ∧ preserves_Dy_DyIdeal
    ∧ algebraic_DyIdeal_DyRefIdeal (hDyIdeal := hDyIdeal) (hDyRefIdeal := hDyRefIdeal)
    ∧ preserves_DwOut_DwOutIdeal
    ∧ algebraic_DwOutIdeal_DwOutRefIdeal (hDwOutIdeal := hDwOutIdeal) (hDwOutRefIdeal := hDwOutRefIdeal)
    ∧ preserves_Out_OutIdeal
    ∧ algebraic_OutIdeal_OutRefIdeal (hOutIdeal := hOutIdeal) (hOutRefIdeal := hOutRefIdeal)
    ∧ preserves_AdamInEven_AdamInEvenIdeal
    ∧ algebraic_AdamInEvenIdeal_AdamInEvenRefIdeal (hAdamInEvenIdeal := hAdamInEvenIdeal) (hAdamInEvenRefIdeal := hAdamInEvenRefIdeal)
    ∧ preserves_AdamInOdd_AdamInOddIdeal
    ∧ algebraic_AdamInOddIdeal_AdamInOddRefIdeal (hAdamInOddIdeal := hAdamInOddIdeal) (hAdamInOddRefIdeal := hAdamInOddRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_AdamSmallA_AdamSmallAIdeal
    ∧ algebraic_AdamSmallAIdeal_AdamSmallARefIdeal (hAdamSmallAIdeal := hAdamSmallAIdeal) (hAdamSmallARefIdeal := hAdamSmallARefIdeal)
    ∧ preserves_AdamSmallB_AdamSmallBIdeal
    ∧ algebraic_AdamSmallBIdeal_AdamSmallBRefIdeal (hAdamSmallBIdeal := hAdamSmallBIdeal) (hAdamSmallBRefIdeal := hAdamSmallBRefIdeal)
    ∧ preserves_AdamSmallC_AdamSmallCIdeal
    ∧ algebraic_AdamSmallCIdeal_AdamSmallCRefIdeal (hAdamSmallCIdeal := hAdamSmallCIdeal) (hAdamSmallCRefIdeal := hAdamSmallCRefIdeal)
    ∧ preserves_AdamSmallD_AdamSmallDIdeal
    ∧ algebraic_AdamSmallDIdeal_AdamSmallDRefIdeal (hAdamSmallDIdeal := hAdamSmallDIdeal) (hAdamSmallDRefIdeal := hAdamSmallDRefIdeal)
    ∧ preserves_SumSmall_SumSmallIdeal
    ∧ algebraic_SumSmallIdeal_SumSmallRefIdeal (hSumSmallIdeal := hSumSmallIdeal) (hSumSmallRefIdeal := hSumSmallRefIdeal)
    ∧ preserves_PreEven_PreEvenIdeal
    ∧ algebraic_PreEvenIdeal_PreEvenRefIdeal (hPreEvenIdeal := hPreEvenIdeal) (hPreEvenRefIdeal := hPreEvenRefIdeal)
    ∧ preserves_Between_BetweenIdeal
    ∧ algebraic_BetweenIdeal_BetweenRefIdeal (hBetweenIdeal := hBetweenIdeal) (hBetweenRefIdeal := hBetweenRefIdeal)
    ∧ preserves_TokenLoss_TokenLossIdeal
    ∧ algebraic_TokenLossIdeal_TokenLossRefIdeal (hTokenLossIdeal := hTokenLossIdeal) (hTokenLossRefIdeal := hTokenLossRefIdeal)
    ∧ preserves_PairAdd_PairAddIdeal
    ∧ algebraic_PairAddIdeal_PairAddRefIdeal (hPairAddIdeal := hPairAddIdeal) (hPairAddRefIdeal := hPairAddRefIdeal)
    ∧ preserves_PairOut_PairOutIdeal
    ∧ algebraic_PairOutIdeal_PairOutRefIdeal (hPairOutIdeal := hPairOutIdeal) (hPairOutRefIdeal := hPairOutRefIdeal)
    ∧ preserves_PairPool_PairPoolIdeal
    ∧ algebraic_PairPoolIdeal_PairPoolRefIdeal (hPairPoolIdeal := hPairPoolIdeal) (hPairPoolRefIdeal := hPairPoolRefIdeal)
    ∧ preserves_PairInEven_PairInEvenIdeal
    ∧ algebraic_PairInEvenIdeal_PairInEvenRefIdeal (hPairInEvenIdeal := hPairInEvenIdeal) (hPairInEvenRefIdeal := hPairInEvenRefIdeal)
    ∧ preserves_PostNorm_PostNormIdeal
    ∧ algebraic_PostNormIdeal_PostNormRefIdeal (hPostNormIdeal := hPostNormIdeal) (hPostNormRefIdeal := hPostNormRefIdeal)
-- ==== Kernel.lean ====
abbrev S2048x6144 : Shape := ⟨2, ![2048, 6144]⟩
abbrev S2048x1024 : Shape := ⟨2, ![2048, 1024]⟩
abbrev S2048x8x128 : Shape := ⟨3, ![2048, 8, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x128x2048 : Shape := ⟨3, ![8, 128, 2048]⟩
abbrev S8x2048x2x1024 : Shape := ⟨4, ![8, 2048, 2, 1024]⟩
abbrev S8x2x2048x1024 : Shape := ⟨4, ![8, 2, 2048, 1024]⟩
abbrev S1024x128 : Shape := ⟨2, ![1024, 128]⟩
abbrev S2048x128 : Shape := ⟨2, ![2048, 128]⟩
abbrev S1x2x1024x1024 : Shape := ⟨4, ![1, 2, 1024, 1024]⟩
abbrev S128x128 : Shape := ⟨2, ![128, 128]⟩
abbrev S256x128 : Shape := ⟨2, ![256, 128]⟩
abbrev S128 : Shape := ⟨1, ![128]⟩
abbrev S128x1 : Shape := ⟨2, ![128, 1]⟩
abbrev S1x1x128x128 : Shape := ⟨4, ![1, 1, 128, 128]⟩
abbrev S128x256 : Shape := ⟨2, ![128, 256]⟩
abbrev S128x896 : Shape := ⟨2, ![128, 896]⟩
abbrev S128x1024 : Shape := ⟨2, ![128, 1024]⟩
abbrev S1x1x128x256 : Shape := ⟨4, ![1, 1, 128, 256]⟩
abbrev S128x768 : Shape := ⟨2, ![128, 768]⟩
abbrev S384x128 : Shape := ⟨2, ![384, 128]⟩
abbrev S128x384 : Shape := ⟨2, ![128, 384]⟩
abbrev S1x1x128x384 : Shape := ⟨4, ![1, 1, 128, 384]⟩
abbrev S128x640 : Shape := ⟨2, ![128, 640]⟩
abbrev S512x128 : Shape := ⟨2, ![512, 128]⟩
abbrev S128x512 : Shape := ⟨2, ![128, 512]⟩
abbrev S1x1x128x512 : Shape := ⟨4, ![1, 1, 128, 512]⟩
abbrev S640x128 : Shape := ⟨2, ![640, 128]⟩
abbrev S1x1x128x640 : Shape := ⟨4, ![1, 1, 128, 640]⟩
abbrev S768x128 : Shape := ⟨2, ![768, 128]⟩
abbrev S1x1x128x768 : Shape := ⟨4, ![1, 1, 128, 768]⟩
abbrev S896x128 : Shape := ⟨2, ![896, 128]⟩
abbrev S1x1x128x896 : Shape := ⟨4, ![1, 1, 128, 896]⟩
abbrev S1x1x128x1024 : Shape := ⟨4, ![1, 1, 128, 1024]⟩
abbrev S1024x1024 : Shape := ⟨2, ![1024, 1024]⟩

abbrev nBuf : Space → Nat
  | .hbm => 80
  | .vmem => 20
  | .smem => 0
  | _ => 0

abbrev bufTy : (tb : Table) → Fin (tcTables nBuf tb) → BufTy
  | .hbm, ⟨0, _⟩ => ⟨S2048x6144, .bf16⟩
  | .hbm, ⟨1, _⟩ => ⟨S2048x1024, .bf16⟩
  | .hbm, ⟨2, _⟩ => ⟨S2048x1024, .bf16⟩
  | .hbm, ⟨3, _⟩ => ⟨S2048x8x128, .bf16⟩
  | .hbm, ⟨4, _⟩ => ⟨S2048x8x128, .f32⟩
  | .hbm, ⟨5, _⟩ => ⟨S2048x1024, .bf16⟩
  | .hbm, ⟨6, _⟩ => ⟨S2048x8x128, .bf16⟩
  | .hbm, ⟨7, _⟩ => ⟨S2048x8x128, .f32⟩
  | .hbm, ⟨8, _⟩ => ⟨S2048x1024, .bf16⟩
  | .hbm, ⟨9, _⟩ => ⟨S2048x8x128, .bf16⟩
  | .hbm, ⟨10, _⟩ => ⟨S2048x8x128, .f32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S2048, .i32⟩
  | .hbm, ⟨16, _⟩ => ⟨S1x2048, .i32⟩
  | .hbm, ⟨17, _⟩ => ⟨S2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S8x2048x2048, .f32⟩
  | .hbm, ⟨23, _⟩ => ⟨S_, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x2048, .i1⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S8x2048x2048, .f32⟩
  | .hbm, ⟨45, _⟩ => ⟨S8x2048x2048, .i1⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S8x2048x2048, .f32⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S_, .f32⟩
  | .hbm, ⟨56, _⟩ => ⟨S_, .f32⟩
  | .hbm, ⟨57, _⟩ => ⟨S8x2048x2048, .i1⟩
  | .hbm, ⟨58, _⟩ => ⟨S8x2048x2048, .f32⟩
  | .hbm, ⟨59, _⟩ => ⟨S8x2048x2048, .f32⟩
  | .hbm, ⟨60, _⟩ => ⟨S_, .f32⟩
  | .hbm, ⟨61, _⟩ => ⟨S_, .f32⟩
  | .hbm, ⟨62, _⟩ => ⟨S8x2048x2048, .f32⟩
  | .hbm, ⟨63, _⟩ => ⟨S8x2048x2048, .f32⟩
  | .hbm, ⟨64, _⟩ => ⟨S8x2048x2048, .f32⟩
  | .hbm, ⟨65, _⟩ => ⟨S8x2048x2048, .f32⟩
  | .hbm, ⟨66, _⟩ => ⟨S_, .f32⟩
  | .hbm, ⟨67, _⟩ => ⟨S_, .f32⟩
  | .hbm, ⟨68, _⟩ => ⟨S8x2048x2048, .i1⟩
  | .hbm, ⟨69, _⟩ => ⟨S8x2048x2048, .f32⟩
  | .hbm, ⟨70, _⟩ => ⟨S8x2048x2048, .f32⟩
  | .hbm, ⟨71, _⟩ => ⟨S8x128x2048, .f32⟩
  | .hbm, ⟨72, _⟩ => ⟨S2048x8x128, .f32⟩
  | .hbm, ⟨73, _⟩ => ⟨S2048x1024, .f32⟩
  | .hbm, ⟨74, _⟩ => ⟨S8x2048x2x1024, .f32⟩
  | .hbm, ⟨75, _⟩ => ⟨S8x2x2048x1024, .f32⟩
  | .hbm, ⟨76, _⟩ => ⟨S8x2x2048x1024, .bf16⟩
  | .hbm, ⟨77, _⟩ => ⟨S2048x1024, .bf16⟩
  | .hbm, ⟨78, _⟩ => ⟨S2048x1024, .bf16⟩
  | .hbm, ⟨79, _⟩ => ⟨S2048x1024, .bf16⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .bf16⟩
  | .local _ .vmem, ⟨9, _⟩ => ⟨S1024x128, .bf16⟩
  | .local _ .vmem, ⟨10, _⟩ => ⟨S1x2x1024x1024, .bf16⟩
  | .local _ .vmem, ⟨11, _⟩ => ⟨S1x2x1024x1024, .bf16⟩
  | .local _ .vmem, ⟨12, _⟩ => ⟨S1024x128, .bf16⟩
  | .local _ .vmem, ⟨13, _⟩ => ⟨S1024x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .f32⟩
  | .local _ .vmem, ⟨19, _⟩ => ⟨S2048x128, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v19 : Ref sig .tc := ⟨.hbm, 37, rfl⟩
abbrev main_v20 : Ref sig .tc := ⟨.hbm, 38, rfl⟩
abbrev main_call1_v0 : Ref sig .tc := ⟨.hbm, 39, rfl⟩
abbrev main_call1_call0_cst : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_call0_v2 : Ref sig .tc := ⟨.hbm, 43, rfl⟩
abbrev main_call1_call0_v3 : Ref sig .tc := ⟨.hbm, 44, rfl⟩
abbrev main_call1_call0_v4 : Ref sig .tc := ⟨.hbm, 45, rfl⟩
abbrev main_call1_call0_v5 : Ref sig .tc := ⟨.hbm, 46, rfl⟩
abbrev main_call1_call0_v6 : Ref sig .tc := ⟨.hbm, 47, rfl⟩
abbrev main_call1_call0_v7 : Ref sig .tc := ⟨.hbm, 48, rfl⟩
abbrev main_call1_call0_v8 : Ref sig .tc := ⟨.hbm, 49, rfl⟩
abbrev main_call1_call0_v9 : Ref sig .tc := ⟨.hbm, 50, rfl⟩
abbrev main_call1_call0_v10 : Ref sig .tc := ⟨.hbm, 51, rfl⟩
abbrev main_call1_call0_v11 : Ref sig .tc := ⟨.hbm, 52, rfl⟩
abbrev main_call1_v1 : Ref sig .tc := ⟨.hbm, 53, rfl⟩
abbrev main_v21 : Ref sig .tc := ⟨.hbm, 54, rfl⟩
abbrev main_cst_0 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v22 : Ref sig .tc := ⟨.hbm, 59, rfl⟩
abbrev main_call3_cst : Ref sig .tc := ⟨.hbm, 60, rfl⟩
abbrev main_call3_v0 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34_0 : Ref sig .tc := ⟨.hbm, 77, rfl⟩
abbrev main_v34_1 : Ref sig .tc := ⟨.hbm, 78, rfl⟩
abbrev main_v34_2 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [BitOps F]

abbrev grid0 : Pipeline.Grid := ⟨2, ![8, 2], ![false, false]⟩

def k0_mult1 (i : grid0.Coords) : BitVec 32 :=
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_79 : BitVec 32 := 1#32
  let v115 : BitVec 32 := Scalar.subi v98 c1_i32_79
  let c0_i32_80 : BitVec 32 := 0#32
  let v116 : BitVec 32 := Scalar.subi v115 c0_i32_80
  let c1024_i32 : BitVec 32 := 1024#32
  let v117 : BitVec 32 := Scalar.muli v116 c1024_i32
  v117
def k0_off1 (i : grid0.Coords) : Fin 2 → Nat :=
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_79 : BitVec 32 := 1#32
  let v115 : BitVec 32 := Scalar.subi v98 c1_i32_79
  let c0_i32_80 : BitVec 32 := 0#32
  let v116 : BitVec 32 := Scalar.subi v115 c0_i32_80
  let c1024_i32 : BitVec 32 := 1024#32
  let v117 : BitVec 32 := Scalar.muli v116 c1024_i32
  let v118 : BitVec 32 := v117
  let v119 : Index := Scalar.indexCast v118
  let c0_81 : Index := 0#32
  ![v119.toNat, 0]
def k0_off2 (i : grid0.Coords) : Fin 4 → Nat :=
  let c0_90 : Index := 0#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_79 : BitVec 32 := 1#32
  let v115 : BitVec 32 := Scalar.subi v98 c1_i32_79
  let c0_i32_80 : BitVec 32 := 0#32
  let v116 : BitVec 32 := Scalar.subi v115 c0_i32_80
  let v136 : Index := Scalar.indexCast v116
  let c0_91 : Index := 0#32
  let c0_92 : Index := 0#32
  ![0, v136.toNat, 0, 0]
def k0_off3 (i : grid0.Coords) : Fin 4 → Nat :=
  let c0_109 : Index := 0#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_79 : BitVec 32 := 1#32
  let v115 : BitVec 32 := Scalar.subi v98 c1_i32_79
  let c0_i32_80 : BitVec 32 := 0#32
  let v116 : BitVec 32 := Scalar.subi v115 c0_i32_80
  let v191 : Index := Scalar.indexCast v116
  let c128_110 : Index := 128#32
  let c0_111 : Index := 0#32
  ![0, v191.toNat, 128, 0]
def k0_off4 (i : grid0.Coords) : Fin 4 → Nat :=
  let c0_134 : Index := 0#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_79 : BitVec 32 := 1#32
  let v115 : BitVec 32 := Scalar.subi v98 c1_i32_79
  let c0_i32_80 : BitVec 32 := 0#32
  let v116 : BitVec 32 := Scalar.subi v115 c0_i32_80
  let v279 : Index := Scalar.indexCast v116
  let c256_135 : Index := 256#32
  let c0_136 : Index := 0#32
  ![0, v279.toNat, 256, 0]
def k0_off5 (i : grid0.Coords) : Fin 4 → Nat :=
  let c0_164 : Index := 0#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_79 : BitVec 32 := 1#32
  let v115 : BitVec 32 := Scalar.subi v98 c1_i32_79
  let c0_i32_80 : BitVec 32 := 0#32
  let v116 : BitVec 32 := Scalar.subi v115 c0_i32_80
  let v395 : Index := Scalar.indexCast v116
  let c384_165 : Index := 384#32
  let c0_166 : Index := 0#32
  ![0, v395.toNat, 384, 0]
def k0_off6 (i : grid0.Coords) : Fin 4 → Nat :=
  let c0_199 : Index := 0#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_79 : BitVec 32 := 1#32
  let v115 : BitVec 32 := Scalar.subi v98 c1_i32_79
  let c0_i32_80 : BitVec 32 := 0#32
  let v116 : BitVec 32 := Scalar.subi v115 c0_i32_80
  let v539 : Index := Scalar.indexCast v116
  let c512_200 : Index := 512#32
  let c0_201 : Index := 0#32
  ![0, v539.toNat, 512, 0]
def k0_off7 (i : grid0.Coords) : Fin 4 → Nat :=
  let c0_239 : Index := 0#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_79 : BitVec 32 := 1#32
  let v115 : BitVec 32 := Scalar.subi v98 c1_i32_79
  let c0_i32_80 : BitVec 32 := 0#32
  let v116 : BitVec 32 := Scalar.subi v115 c0_i32_80
  let v711 : Index := Scalar.indexCast v116
  let c640_240 : Index := 640#32
  let c0_241 : Index := 0#32
  ![0, v711.toNat, 640, 0]
def k0_off8 (i : grid0.Coords) : Fin 4 → Nat :=
  let c0_284 : Index := 0#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_79 : BitVec 32 := 1#32
  let v115 : BitVec 32 := Scalar.subi v98 c1_i32_79
  let c0_i32_80 : BitVec 32 := 0#32
  let v116 : BitVec 32 := Scalar.subi v115 c0_i32_80
  let v911 : Index := Scalar.indexCast v116
  let c768_285 : Index := 768#32
  let c0_286 : Index := 0#32
  ![0, v911.toNat, 768, 0]
def k0_off9 (i : grid0.Coords) : Fin 4 → Nat :=
  let c0_334 : Index := 0#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_79 : BitVec 32 := 1#32
  let v115 : BitVec 32 := Scalar.subi v98 c1_i32_79
  let c0_i32_80 : BitVec 32 := 0#32
  let v116 : BitVec 32 := Scalar.subi v115 c0_i32_80
  let v1137 : Index := Scalar.indexCast v116
  let c896_335 : Index := 896#32
  let c0_336 : Index := 0#32
  ![0, v1137.toNat, 896, 0]
@[reducible] def k0_t1_loop (i : grid0.Coords) : Scf.Loop 32 :=
  let c1_i32_388 : BitVec 32 := 1#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let v1395 : BitVec 32 := Scalar.subi v98 c1_i32_388
  let c1_i32_389 : BitVec 32 := 1#32
  let v1397 : BitVec 32 := Scalar.divsi v1395 c1_i32_389
  let v1398 : BitVec 32 := Scalar.muli v1397 c1_i32_389
  let v1399 : BitVec 32 := Scalar.addi c1_i32_388 v1398
  let c1_i32_390 : BitVec 32 := 1#32
  ⟨c1_i32_388, v1399, c1_i32_390⟩
def k0_mult2 (i : grid0.Coords) (k0_t1 : Fin (k0_t1_loop i).trips) : BitVec 32 :=
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_410 : BitVec 32 := 1#32
  let v1421 : BitVec 32 := Scalar.subi v98 c1_i32_410
  let c1_i32_388 : BitVec 32 := 1#32
  let c1_i32_390 : BitVec 32 := 1#32
  let arg13 : BitVec 32 := Scf.iv c1_i32_388 c1_i32_390 k0_t1
  let v1422 : BitVec 32 := Scalar.subi v1421 arg13
  let c1024_i32_411 : BitVec 32 := 1024#32
  let v1423 : BitVec 32 := Scalar.muli v1422 c1024_i32_411
  v1423
def k0_off10 (i : grid0.Coords) (k0_t1 : Fin (k0_t1_loop i).trips) : Fin 2 → Nat :=
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_410 : BitVec 32 := 1#32
  let v1421 : BitVec 32 := Scalar.subi v98 c1_i32_410
  let c1_i32_388 : BitVec 32 := 1#32
  let c1_i32_390 : BitVec 32 := 1#32
  let arg13 : BitVec 32 := Scf.iv c1_i32_388 c1_i32_390 k0_t1
  let v1422 : BitVec 32 := Scalar.subi v1421 arg13
  let c1024_i32_411 : BitVec 32 := 1024#32
  let v1423 : BitVec 32 := Scalar.muli v1422 c1024_i32_411
  let v1424 : BitVec 32 := v1423
  let v1425 : Index := Scalar.indexCast v1424
  let c0_412 : Index := 0#32
  ![v1425.toNat, 0]
def k0_off11 (i : grid0.Coords) (k0_t1 : Fin (k0_t1_loop i).trips) : Fin 4 → Nat :=
  let c0_421 : Index := 0#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_410 : BitVec 32 := 1#32
  let v1421 : BitVec 32 := Scalar.subi v98 c1_i32_410
  let c1_i32_388 : BitVec 32 := 1#32
  let c1_i32_390 : BitVec 32 := 1#32
  let arg13 : BitVec 32 := Scf.iv c1_i32_388 c1_i32_390 k0_t1
  let v1422 : BitVec 32 := Scalar.subi v1421 arg13
  let v1440 : Index := Scalar.indexCast v1422
  let c0_422 : Index := 0#32
  let c0_423 : Index := 0#32
  ![0, v1440.toNat, 0, 0]
def k0_off12 (i : grid0.Coords) (k0_t1 : Fin (k0_t1_loop i).trips) : Fin 4 → Nat :=
  let c0_472 : Index := 0#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_410 : BitVec 32 := 1#32
  let v1421 : BitVec 32 := Scalar.subi v98 c1_i32_410
  let c1_i32_388 : BitVec 32 := 1#32
  let c1_i32_390 : BitVec 32 := 1#32
  let arg13 : BitVec 32 := Scf.iv c1_i32_388 c1_i32_390 k0_t1
  let v1422 : BitVec 32 := Scalar.subi v1421 arg13
  let v1683 : Index := Scalar.indexCast v1422
  let c128_473 : Index := 128#32
  let c0_474 : Index := 0#32
  ![0, v1683.toNat, 128, 0]
def k0_off13 (i : grid0.Coords) (k0_t1 : Fin (k0_t1_loop i).trips) : Fin 4 → Nat :=
  let c0_523 : Index := 0#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_410 : BitVec 32 := 1#32
  let v1421 : BitVec 32 := Scalar.subi v98 c1_i32_410
  let c1_i32_388 : BitVec 32 := 1#32
  let c1_i32_390 : BitVec 32 := 1#32
  let arg13 : BitVec 32 := Scf.iv c1_i32_388 c1_i32_390 k0_t1
  let v1422 : BitVec 32 := Scalar.subi v1421 arg13
  let v1926 : Index := Scalar.indexCast v1422
  let c256_524 : Index := 256#32
  let c0_525 : Index := 0#32
  ![0, v1926.toNat, 256, 0]
def k0_off14 (i : grid0.Coords) (k0_t1 : Fin (k0_t1_loop i).trips) : Fin 4 → Nat :=
  let c0_574 : Index := 0#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_410 : BitVec 32 := 1#32
  let v1421 : BitVec 32 := Scalar.subi v98 c1_i32_410
  let c1_i32_388 : BitVec 32 := 1#32
  let c1_i32_390 : BitVec 32 := 1#32
  let arg13 : BitVec 32 := Scf.iv c1_i32_388 c1_i32_390 k0_t1
  let v1422 : BitVec 32 := Scalar.subi v1421 arg13
  let v2169 : Index := Scalar.indexCast v1422
  let c384_575 : Index := 384#32
  let c0_576 : Index := 0#32
  ![0, v2169.toNat, 384, 0]
def k0_off15 (i : grid0.Coords) (k0_t1 : Fin (k0_t1_loop i).trips) : Fin 4 → Nat :=
  let c0_625 : Index := 0#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_410 : BitVec 32 := 1#32
  let v1421 : BitVec 32 := Scalar.subi v98 c1_i32_410
  let c1_i32_388 : BitVec 32 := 1#32
  let c1_i32_390 : BitVec 32 := 1#32
  let arg13 : BitVec 32 := Scf.iv c1_i32_388 c1_i32_390 k0_t1
  let v1422 : BitVec 32 := Scalar.subi v1421 arg13
  let v2412 : Index := Scalar.indexCast v1422
  let c512_626 : Index := 512#32
  let c0_627 : Index := 0#32
  ![0, v2412.toNat, 512, 0]
def k0_off16 (i : grid0.Coords) (k0_t1 : Fin (k0_t1_loop i).trips) : Fin 4 → Nat :=
  let c0_676 : Index := 0#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_410 : BitVec 32 := 1#32
  let v1421 : BitVec 32 := Scalar.subi v98 c1_i32_410
  let c1_i32_388 : BitVec 32 := 1#32
  let c1_i32_390 : BitVec 32 := 1#32
  let arg13 : BitVec 32 := Scf.iv c1_i32_388 c1_i32_390 k0_t1
  let v1422 : BitVec 32 := Scalar.subi v1421 arg13
  let v2655 : Index := Scalar.indexCast v1422
  let c640_677 : Index := 640#32
  let c0_678 : Index := 0#32
  ![0, v2655.toNat, 640, 0]
def k0_off17 (i : grid0.Coords) (k0_t1 : Fin (k0_t1_loop i).trips) : Fin 4 → Nat :=
  let c0_727 : Index := 0#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_410 : BitVec 32 := 1#32
  let v1421 : BitVec 32 := Scalar.subi v98 c1_i32_410
  let c1_i32_388 : BitVec 32 := 1#32
  let c1_i32_390 : BitVec 32 := 1#32
  let arg13 : BitVec 32 := Scf.iv c1_i32_388 c1_i32_390 k0_t1
  let v1422 : BitVec 32 := Scalar.subi v1421 arg13
  let v2898 : Index := Scalar.indexCast v1422
  let c768_728 : Index := 768#32
  let c0_729 : Index := 0#32
  ![0, v2898.toNat, 768, 0]
def k0_off18 (i : grid0.Coords) (k0_t1 : Fin (k0_t1_loop i).trips) : Fin 4 → Nat :=
  let c0_778 : Index := 0#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_410 : BitVec 32 := 1#32
  let v1421 : BitVec 32 := Scalar.subi v98 c1_i32_410
  let c1_i32_388 : BitVec 32 := 1#32
  let c1_i32_390 : BitVec 32 := 1#32
  let arg13 : BitVec 32 := Scf.iv c1_i32_388 c1_i32_390 k0_t1
  let v1422 : BitVec 32 := Scalar.subi v1421 arg13
  let v3141 : Index := Scalar.indexCast v1422
  let c896_779 : Index := 896#32
  let c0_780 : Index := 0#32
  ![0, v3141.toNat, 896, 0]
@[reducible] def k0_t2_loop (i : grid0.Coords) : Scf.Loop 32 :=
  let c1_i32_388 : BitVec 32 := 1#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let v1395 : BitVec 32 := Scalar.subi v98 c1_i32_388
  let c1_i32_389 : BitVec 32 := 1#32
  let v1397 : BitVec 32 := Scalar.divsi v1395 c1_i32_389
  let v1398 : BitVec 32 := Scalar.muli v1397 c1_i32_389
  let v1399 : BitVec 32 := Scalar.addi c1_i32_388 v1398
  let v1396 : BitVec 32 := Scalar.addi c1_i32_388 v1395
  let c1_i32_391 : BitVec 32 := 1#32
  ⟨v1399, v1396, c1_i32_391⟩
def k0_mult3 (i : grid0.Coords) (k0_t2 : Fin (k0_t2_loop i).trips) : BitVec 32 :=
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_410 : BitVec 32 := 1#32
  let v1421 : BitVec 32 := Scalar.subi v98 c1_i32_410
  let c1_i32_388 : BitVec 32 := 1#32
  let v1395 : BitVec 32 := Scalar.subi v98 c1_i32_388
  let c1_i32_389 : BitVec 32 := 1#32
  let v1397 : BitVec 32 := Scalar.divsi v1395 c1_i32_389
  let v1398 : BitVec 32 := Scalar.muli v1397 c1_i32_389
  let v1399 : BitVec 32 := Scalar.addi c1_i32_388 v1398
  let c1_i32_391 : BitVec 32 := 1#32
  let arg13 : BitVec 32 := Scf.iv v1399 c1_i32_391 k0_t2
  let v1422 : BitVec 32 := Scalar.subi v1421 arg13
  let c1024_i32_411 : BitVec 32 := 1024#32
  let v1423 : BitVec 32 := Scalar.muli v1422 c1024_i32_411
  v1423
def k0_off19 (i : grid0.Coords) (k0_t2 : Fin (k0_t2_loop i).trips) : Fin 2 → Nat :=
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_410 : BitVec 32 := 1#32
  let v1421 : BitVec 32 := Scalar.subi v98 c1_i32_410
  let c1_i32_388 : BitVec 32 := 1#32
  let v1395 : BitVec 32 := Scalar.subi v98 c1_i32_388
  let c1_i32_389 : BitVec 32 := 1#32
  let v1397 : BitVec 32 := Scalar.divsi v1395 c1_i32_389
  let v1398 : BitVec 32 := Scalar.muli v1397 c1_i32_389
  let v1399 : BitVec 32 := Scalar.addi c1_i32_388 v1398
  let c1_i32_391 : BitVec 32 := 1#32
  let arg13 : BitVec 32 := Scf.iv v1399 c1_i32_391 k0_t2
  let v1422 : BitVec 32 := Scalar.subi v1421 arg13
  let c1024_i32_411 : BitVec 32 := 1024#32
  let v1423 : BitVec 32 := Scalar.muli v1422 c1024_i32_411
  let v1424 : BitVec 32 := v1423
  let v1425 : Index := Scalar.indexCast v1424
  let c0_412 : Index := 0#32
  ![v1425.toNat, 0]
def k0_off20 (i : grid0.Coords) (k0_t2 : Fin (k0_t2_loop i).trips) : Fin 4 → Nat :=
  let c0_421 : Index := 0#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_410 : BitVec 32 := 1#32
  let v1421 : BitVec 32 := Scalar.subi v98 c1_i32_410
  let c1_i32_388 : BitVec 32 := 1#32
  let v1395 : BitVec 32 := Scalar.subi v98 c1_i32_388
  let c1_i32_389 : BitVec 32 := 1#32
  let v1397 : BitVec 32 := Scalar.divsi v1395 c1_i32_389
  let v1398 : BitVec 32 := Scalar.muli v1397 c1_i32_389
  let v1399 : BitVec 32 := Scalar.addi c1_i32_388 v1398
  let c1_i32_391 : BitVec 32 := 1#32
  let arg13 : BitVec 32 := Scf.iv v1399 c1_i32_391 k0_t2
  let v1422 : BitVec 32 := Scalar.subi v1421 arg13
  let v1440 : Index := Scalar.indexCast v1422
  let c0_422 : Index := 0#32
  let c0_423 : Index := 0#32
  ![0, v1440.toNat, 0, 0]
def k0_off21 (i : grid0.Coords) (k0_t2 : Fin (k0_t2_loop i).trips) : Fin 4 → Nat :=
  let c0_472 : Index := 0#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_410 : BitVec 32 := 1#32
  let v1421 : BitVec 32 := Scalar.subi v98 c1_i32_410
  let c1_i32_388 : BitVec 32 := 1#32
  let v1395 : BitVec 32 := Scalar.subi v98 c1_i32_388
  let c1_i32_389 : BitVec 32 := 1#32
  let v1397 : BitVec 32 := Scalar.divsi v1395 c1_i32_389
  let v1398 : BitVec 32 := Scalar.muli v1397 c1_i32_389
  let v1399 : BitVec 32 := Scalar.addi c1_i32_388 v1398
  let c1_i32_391 : BitVec 32 := 1#32
  let arg13 : BitVec 32 := Scf.iv v1399 c1_i32_391 k0_t2
  let v1422 : BitVec 32 := Scalar.subi v1421 arg13
  let v1683 : Index := Scalar.indexCast v1422
  let c128_473 : Index := 128#32
  let c0_474 : Index := 0#32
  ![0, v1683.toNat, 128, 0]
def k0_off22 (i : grid0.Coords) (k0_t2 : Fin (k0_t2_loop i).trips) : Fin 4 → Nat :=
  let c0_523 : Index := 0#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_410 : BitVec 32 := 1#32
  let v1421 : BitVec 32 := Scalar.subi v98 c1_i32_410
  let c1_i32_388 : BitVec 32 := 1#32
  let v1395 : BitVec 32 := Scalar.subi v98 c1_i32_388
  let c1_i32_389 : BitVec 32 := 1#32
  let v1397 : BitVec 32 := Scalar.divsi v1395 c1_i32_389
  let v1398 : BitVec 32 := Scalar.muli v1397 c1_i32_389
  let v1399 : BitVec 32 := Scalar.addi c1_i32_388 v1398
  let c1_i32_391 : BitVec 32 := 1#32
  let arg13 : BitVec 32 := Scf.iv v1399 c1_i32_391 k0_t2
  let v1422 : BitVec 32 := Scalar.subi v1421 arg13
  let v1926 : Index := Scalar.indexCast v1422
  let c256_524 : Index := 256#32
  let c0_525 : Index := 0#32
  ![0, v1926.toNat, 256, 0]
def k0_off23 (i : grid0.Coords) (k0_t2 : Fin (k0_t2_loop i).trips) : Fin 4 → Nat :=
  let c0_574 : Index := 0#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_410 : BitVec 32 := 1#32
  let v1421 : BitVec 32 := Scalar.subi v98 c1_i32_410
  let c1_i32_388 : BitVec 32 := 1#32
  let v1395 : BitVec 32 := Scalar.subi v98 c1_i32_388
  let c1_i32_389 : BitVec 32 := 1#32
  let v1397 : BitVec 32 := Scalar.divsi v1395 c1_i32_389
  let v1398 : BitVec 32 := Scalar.muli v1397 c1_i32_389
  let v1399 : BitVec 32 := Scalar.addi c1_i32_388 v1398
  let c1_i32_391 : BitVec 32 := 1#32
  let arg13 : BitVec 32 := Scf.iv v1399 c1_i32_391 k0_t2
  let v1422 : BitVec 32 := Scalar.subi v1421 arg13
  let v2169 : Index := Scalar.indexCast v1422
  let c384_575 : Index := 384#32
  let c0_576 : Index := 0#32
  ![0, v2169.toNat, 384, 0]
def k0_off24 (i : grid0.Coords) (k0_t2 : Fin (k0_t2_loop i).trips) : Fin 4 → Nat :=
  let c0_625 : Index := 0#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_410 : BitVec 32 := 1#32
  let v1421 : BitVec 32 := Scalar.subi v98 c1_i32_410
  let c1_i32_388 : BitVec 32 := 1#32
  let v1395 : BitVec 32 := Scalar.subi v98 c1_i32_388
  let c1_i32_389 : BitVec 32 := 1#32
  let v1397 : BitVec 32 := Scalar.divsi v1395 c1_i32_389
  let v1398 : BitVec 32 := Scalar.muli v1397 c1_i32_389
  let v1399 : BitVec 32 := Scalar.addi c1_i32_388 v1398
  let c1_i32_391 : BitVec 32 := 1#32
  let arg13 : BitVec 32 := Scf.iv v1399 c1_i32_391 k0_t2
  let v1422 : BitVec 32 := Scalar.subi v1421 arg13
  let v2412 : Index := Scalar.indexCast v1422
  let c512_626 : Index := 512#32
  let c0_627 : Index := 0#32
  ![0, v2412.toNat, 512, 0]
def k0_off25 (i : grid0.Coords) (k0_t2 : Fin (k0_t2_loop i).trips) : Fin 4 → Nat :=
  let c0_676 : Index := 0#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_410 : BitVec 32 := 1#32
  let v1421 : BitVec 32 := Scalar.subi v98 c1_i32_410
  let c1_i32_388 : BitVec 32 := 1#32
  let v1395 : BitVec 32 := Scalar.subi v98 c1_i32_388
  let c1_i32_389 : BitVec 32 := 1#32
  let v1397 : BitVec 32 := Scalar.divsi v1395 c1_i32_389
  let v1398 : BitVec 32 := Scalar.muli v1397 c1_i32_389
  let v1399 : BitVec 32 := Scalar.addi c1_i32_388 v1398
  let c1_i32_391 : BitVec 32 := 1#32
  let arg13 : BitVec 32 := Scf.iv v1399 c1_i32_391 k0_t2
  let v1422 : BitVec 32 := Scalar.subi v1421 arg13
  let v2655 : Index := Scalar.indexCast v1422
  let c640_677 : Index := 640#32
  let c0_678 : Index := 0#32
  ![0, v2655.toNat, 640, 0]
def k0_off26 (i : grid0.Coords) (k0_t2 : Fin (k0_t2_loop i).trips) : Fin 4 → Nat :=
  let c0_727 : Index := 0#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_410 : BitVec 32 := 1#32
  let v1421 : BitVec 32 := Scalar.subi v98 c1_i32_410
  let c1_i32_388 : BitVec 32 := 1#32
  let v1395 : BitVec 32 := Scalar.subi v98 c1_i32_388
  let c1_i32_389 : BitVec 32 := 1#32
  let v1397 : BitVec 32 := Scalar.divsi v1395 c1_i32_389
  let v1398 : BitVec 32 := Scalar.muli v1397 c1_i32_389
  let v1399 : BitVec 32 := Scalar.addi c1_i32_388 v1398
  let c1_i32_391 : BitVec 32 := 1#32
  let arg13 : BitVec 32 := Scf.iv v1399 c1_i32_391 k0_t2
  let v1422 : BitVec 32 := Scalar.subi v1421 arg13
  let v2898 : Index := Scalar.indexCast v1422
  let c768_728 : Index := 768#32
  let c0_729 : Index := 0#32
  ![0, v2898.toNat, 768, 0]
def k0_off27 (i : grid0.Coords) (k0_t2 : Fin (k0_t2_loop i).trips) : Fin 4 → Nat :=
  let c0_778 : Index := 0#32
  let arg1 : BitVec 32 := BitVec.ofNat 32 (i 1).val
  let c1_i32 : BitVec 32 := 1#32
  let v78 : BitVec 32 := Scalar.addi arg1 c1_i32
  let c8_i32 : BitVec 32 := 8#32
  let v79 : BitVec 32 := Scalar.muli v78 c8_i32
  let c1_i32_54 : BitVec 32 := 1#32
  let v80 : BitVec 32 := Scalar.subi v79 c1_i32_54
  let c0_i32_56 : BitVec 32 := 0#32
  let v82 : BitVec 1 := Scalar.cmpi .sgt v80 c0_i32_56
  let v83 : BitVec 32 := Scalar.extui v82
  let c0_i32_57 : BitVec 32 := 0#32
  let v84 : BitVec 1 := Scalar.cmpi .slt v80 c0_i32_57
  let v85 : BitVec 32 := Scalar.extui v84
  let v86 : BitVec 32 := Scalar.subi v83 v85
  let c8_i32_55 : BitVec 32 := 8#32
  let c0_i32_58 : BitVec 32 := 0#32
  let v87 : BitVec 1 := Scalar.cmpi .sgt c8_i32_55 c0_i32_58
  let v88 : BitVec 32 := Scalar.extui v87
  let c0_i32_59 : BitVec 32 := 0#32
  let v89 : BitVec 1 := Scalar.cmpi .slt c8_i32_55 c0_i32_59
  let v90 : BitVec 32 := Scalar.extui v89
  let v91 : BitVec 32 := Scalar.subi v88 v90
  let v92 : BitVec 1 := Scalar.cmpi .ne v86 v91
  let v93 : BitVec 32 := Scalar.remsi v80 c8_i32_55
  let c0_i32_60 : BitVec 32 := 0#32
  let v94 : BitVec 1 := Scalar.cmpi .ne v93 c0_i32_60
  let v95 : BitVec 1 := Scalar.andi v92 v94
  let v81 : BitVec 32 := Scalar.divsi v80 c8_i32_55
  let c1_i32_61 : BitVec 32 := 1#32
  let v96 : BitVec 32 := Scalar.subi v81 c1_i32_61
  let v97 : BitVec 32 := Scalar.select v95 v96 v81
  let c1_i32_62 : BitVec 32 := 1#32
  let v98 : BitVec 32 := Scalar.addi v97 c1_i32_62
  let c1_i32_410 : BitVec 32 := 1#32
  let v1421 : BitVec 32 := Scalar.subi v98 c1_i32_410
  let c1_i32_388 : BitVec 32 := 1#32
  let v1395 : BitVec 32 := Scalar.subi v98 c1_i32_388
  let c1_i32_389 : BitVec 32 := 1#32
  let v1397 : BitVec 32 := Scalar.divsi v1395 c1_i32_389
  let v1398 : BitVec 32 := Scalar.muli v1397 c1_i32_389
  let v1399 : BitVec 32 := Scalar.addi c1_i32_388 v1398
  let c1_i32_391 : BitVec 32 := 1#32
  let arg13 : BitVec 32 := Scf.iv v1399 c1_i32_391 k0_t2
  let v1422 : BitVec 32 := Scalar.subi v1421 arg13
  let v3141 : Index := Scalar.indexCast v1422
  let c896_779 : Index := 896#32
  let c0_780 : Index := 0#32
  ![0, v3141.toNat, 896, 0]
def k0_cond2 (i : grid0.Coords) : BitVec 1 :=
  let arg1 : BitVec 32 := BitVec.ofNat 32 (i 1).val
  let c1_i32_408 : BitVec 32 := 1#32
  let v1418 : BitVec 1 := Scalar.cmpi .eq arg1 c1_i32_408
  let v1419 : BitVec 32 := Scalar.extui v1418
  let c0_i32_409 : BitVec 32 := 0#32
  let v1420 : BitVec 1 := Scalar.cmpi .ne v1419 c0_i32_409
  v1420

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "neg_scale_log2e" => some ((-((Real.sqrt 128)⁻¹ * (Real.log 2)⁻¹) : ℝ) : EReal)
  | "scale" => some (((Real.sqrt 128)⁻¹ : ℝ) : EReal)
  | _ => none
-- ==== ReferenceIdeal.lean ====
abbrev S2048x6144 : Shape := ⟨2, ![2048, 6144]⟩
abbrev S2048x1024 : Shape := ⟨2, ![2048, 1024]⟩
abbrev S2048x8x128 : Shape := ⟨3, ![2048, 8, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x128x2048 : Shape := ⟨3, ![8, 128, 2048]⟩
abbrev S8x2048x128 : Shape := ⟨3, ![8, 2048, 128]⟩

abbrev nBuf : Space → Nat
  | .hbm => 180
  | .vmem => 0
  | .smem => 0
  | _ => 0

abbrev hbmTy0_0 (i : Nat) : BufTy := match i % 128 with
  | 0 => ⟨S2048x6144, .bf16⟩
  | 1 => ⟨S2048x1024, .bf16⟩
  | 2 => ⟨S2048x1024, .bf16⟩
  | 3 => ⟨S2048x8x128, .bf16⟩
  | 4 => ⟨S2048x8x128, .f32⟩
  | 5 => ⟨S2048x1024, .bf16⟩
  | 6 => ⟨S2048x8x128, .bf16⟩
  | 7 => ⟨S2048x8x128, .f32⟩
  | 8 => ⟨S2048x1024, .bf16⟩
  | 9 => ⟨S2048x8x128, .bf16⟩
  | 10 => ⟨S2048x8x128, .f32⟩
  | 11 => ⟨S2048x8x128, .bf16⟩
  | 12 => ⟨S2048x8x128, .f32⟩
  | 13 => ⟨S8x2048x2048, .f32⟩
  | 14 => ⟨S_, .f32⟩
  | 15 => ⟨S8x2048x2048, .f32⟩
  | 16 => ⟨S8x2048x2048, .f32⟩
  | 17 => ⟨S2048, .i32⟩
  | 18 => ⟨S1x2048, .i32⟩
  | 19 => ⟨S2048, .i32⟩
  | 20 => ⟨S2048x1, .i32⟩
  | 21 => ⟨S2048x2048, .i32⟩
  | 22 => ⟨S2048x2048, .i32⟩
  | 23 => ⟨S2048x2048, .i1⟩
  | 24 => ⟨S8x2048x2048, .f32⟩
  | 25 => ⟨S_, .f32⟩
  | 26 => ⟨S8x2048x2048, .f32⟩
  | 27 => ⟨S8x2048x2048, .f32⟩
  | 28 => ⟨S8x2048x2048, .f32⟩
  | 29 => ⟨S8x2048x2048, .f32⟩
  | 30 => ⟨S8x2048x2048, .i1⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S8x2048x2048, .f32⟩
  | 39 => ⟨S_, .f32⟩
  | 40 => ⟨S8x2048x2048, .f32⟩
  | 41 => ⟨S8x2048x2048, .i1⟩
  | 42 => ⟨S_, .f32⟩
  | 43 => ⟨S8x2048x2048, .f32⟩
  | 44 => ⟨S8x2048x2048, .f32⟩
  | 45 => ⟨S_, .f32⟩
  | 46 => ⟨S8x2048x2048, .f32⟩
  | 47 => ⟨S8x2048x2048, .i1⟩
  | 48 => ⟨S_, .f32⟩
  | 49 => ⟨S8x2048x2048, .f32⟩
  | 50 => ⟨S8x2048x2048, .f32⟩
  | 51 => ⟨S8x2048x2048, .f32⟩
  | 52 => ⟨S8x2048x2048, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S8x2048x2048, .f32⟩
  | 61 => ⟨S8x2048x2048, .i1⟩
  | 62 => ⟨S_, .f32⟩
  | 63 => ⟨S8x2048x2048, .f32⟩
  | 64 => ⟨S8x2048x2048, .f32⟩
  | 65 => ⟨S8x2048x2048, .f32⟩
  | 66 => ⟨S8x2048x2048, .f32⟩
  | 67 => ⟨S8x2048x2048, .f32⟩
  | 68 => ⟨S_, .f32⟩
  | 69 => ⟨S8x2048x2048, .f32⟩
  | 70 => ⟨S8x2048x2048, .f32⟩
  | 71 => ⟨S8x2048x2048, .f32⟩
  | 72 => ⟨S8x2048x2048, .f32⟩
  | 73 => ⟨S8x2048x2048, .f32⟩
  | 74 => ⟨S_, .f32⟩
  | 75 => ⟨S8x2048x2048, .f32⟩
  | 76 => ⟨S8x2048x2048, .f32⟩
  | 77 => ⟨S8x2048x2048, .f32⟩
  | 78 => ⟨S8x2048x2048, .f32⟩
  | 79 => ⟨S8x2048x2048, .i1⟩
  | 80 => ⟨S8x2048x2048, .f32⟩
  | 81 => ⟨S8x2048x2048, .f32⟩
  | 82 => ⟨S8x2048x2048, .f32⟩
  | 83 => ⟨S8x2048x2048, .f32⟩
  | 84 => ⟨S8x2048x2048, .f32⟩
  | 85 => ⟨S8x2048x2048, .f32⟩
  | 86 => ⟨S8x2048x2048, .f32⟩
  | 87 => ⟨S8x2048x2048, .f32⟩
  | 88 => ⟨S_, .f32⟩
  | 89 => ⟨S8x2048x2048, .f32⟩
  | 90 => ⟨S8x2048x2048, .i1⟩
  | 91 => ⟨S_, .f32⟩
  | 92 => ⟨S8x2048x2048, .f32⟩
  | 93 => ⟨S8x2048x2048, .f32⟩
  | 94 => ⟨S_, .f32⟩
  | 95 => ⟨S8x2048x2048, .f32⟩
  | 96 => ⟨S8x2048x2048, .i1⟩
  | 97 => ⟨S_, .f32⟩
  | 98 => ⟨S8x2048x2048, .f32⟩
  | 99 => ⟨S8x2048x2048, .f32⟩
  | 100 => ⟨S8x2048x2048, .f32⟩
  | 101 => ⟨S8x2048x2048, .f32⟩
  | 102 => ⟨S_, .f32⟩
  | 103 => ⟨S_, .f32⟩
  | 104 => ⟨S_, .i1⟩
  | 105 => ⟨S_, .f32⟩
  | 106 => ⟨S_, .f32⟩
  | 107 => ⟨S_, .f32⟩
  | 108 => ⟨S_, .f32⟩
  | 109 => ⟨S8x2048x2048, .f32⟩
  | 110 => ⟨S8x2048x2048, .i1⟩
  | 111 => ⟨S_, .f32⟩
  | 112 => ⟨S8x2048x2048, .f32⟩
  | 113 => ⟨S8x2048x2048, .f32⟩
  | 114 => ⟨S8x2048x2048, .f32⟩
  | 115 => ⟨S8x2048x2048, .f32⟩
  | 116 => ⟨S8x2048x2048, .f32⟩
  | 117 => ⟨S_, .f32⟩
  | 118 => ⟨S8x2048x2048, .f32⟩
  | 119 => ⟨S8x2048x2048, .f32⟩
  | 120 => ⟨S8x2048x2048, .f32⟩
  | 121 => ⟨S_, .f32⟩
  | 122 => ⟨S_, .f32⟩
  | 123 => ⟨S8x2048x2048, .i1⟩
  | 124 => ⟨S8x2048x2048, .f32⟩
  | 125 => ⟨S8x2048x2048, .f32⟩
  | 126 => ⟨S_, .f32⟩
  | 127 => ⟨S8x2048x2048, .f32⟩
  | _ => ⟨S2048x6144, .bf16⟩

abbrev hbmTy0_1 (i : Nat) : BufTy := match i % 128 with
  | 0 => ⟨S_, .f32⟩
  | 1 => ⟨S_, .f32⟩
  | 2 => ⟨S8x2048x2048, .f32⟩
  | 3 => ⟨S8x2048x2048, .f32⟩
  | 4 => ⟨S8x2048x2048, .f32⟩
  | 5 => ⟨S8x2048x2048, .f32⟩
  | 6 => ⟨S_, .f32⟩
  | 7 => ⟨S_, .f32⟩
  | 8 => ⟨S8x2048x2048, .i1⟩
  | 9 => ⟨S8x2048x2048, .f32⟩
  | 10 => ⟨S8x2048x2048, .f32⟩
  | 11 => ⟨S_, .f32⟩
  | 12 => ⟨S8x2048x2048, .f32⟩
  | 13 => ⟨S8x128x2048, .f32⟩
  | 14 => ⟨S2048x8x128, .f32⟩
  | 15 => ⟨S8x128x2048, .f32⟩
  | 16 => ⟨S8x2048x2048, .f32⟩
  | 17 => ⟨S8x128x2048, .f32⟩
  | 18 => ⟨S2048x8x128, .f32⟩
  | 19 => ⟨S_, .f32⟩
  | 20 => ⟨S8x2048x2048, .f32⟩
  | 21 => ⟨S8x2048x2048, .f32⟩
  | 22 => ⟨S8x2048x2048, .f32⟩
  | 23 => ⟨S8x2048x2048, .f32⟩
  | 24 => ⟨S_, .f32⟩
  | 25 => ⟨S_, .f32⟩
  | 26 => ⟨S8x2048x2048, .f32⟩
  | 27 => ⟨S8x2048x2048, .f32⟩
  | 28 => ⟨S_, .f32⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S8x2048x2048, .f32⟩
  | 39 => ⟨S_, .f32⟩
  | 40 => ⟨S8x2048x2048, .f32⟩
  | 41 => ⟨S8x2048x2048, .f32⟩
  | 42 => ⟨S8x2048x128, .f32⟩
  | 43 => ⟨S2048x8x128, .f32⟩
  | 44 => ⟨S8x2048x128, .f32⟩
  | 45 => ⟨S2048x8x128, .f32⟩
  | 46 => ⟨S2048x1024, .f32⟩
  | 47 => ⟨S2048x1024, .bf16⟩
  | 48 => ⟨S2048x1024, .f32⟩
  | 49 => ⟨S2048x1024, .bf16⟩
  | 50 => ⟨S2048x1024, .f32⟩
  | 51 => ⟨S2048x1024, .bf16⟩
  | _ => ⟨S2048x6144, .bf16⟩

abbrev hbmTy (i : Nat) : BufTy := match i / 128 with
  | 0 => hbmTy0_0 i
  | 1 => hbmTy0_1 i
  | _ => ⟨S2048x6144, .bf16⟩

abbrev bufTy : (tb : Table) → Fin (tcTables nBuf tb) → BufTy
  | .hbm, ⟨i, _⟩ => hbmTy i
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v21_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v21_2 : Ref sig .tc := ⟨.hbm, 70, rfl⟩
abbrev main_v21_0 : Ref sig .tc := ⟨.hbm, 71, rfl⟩
abbrev main_v22 : Ref sig .tc := ⟨.hbm, 72, rfl⟩
abbrev main_call1_v0 : Ref sig .tc := ⟨.hbm, 73, rfl⟩
abbrev main_call1_call0_cst : Ref sig .tc := ⟨.hbm, 74, rfl⟩
abbrev main_call1_call0_v0 : Ref sig .tc := ⟨.hbm, 75, rfl⟩
abbrev main_call1_call0_v1 : Ref sig .tc := ⟨.hbm, 76, rfl⟩
abbrev main_call1_call0_v2 : Ref sig .tc := ⟨.hbm, 77, rfl⟩
abbrev main_call1_call0_v3 : Ref sig .tc := ⟨.hbm, 78, rfl⟩
abbrev main_call1_call0_v4 : Ref sig .tc := ⟨.hbm, 79, rfl⟩
abbrev main_call1_call0_v5 : Ref sig .tc := ⟨.hbm, 80, rfl⟩
abbrev main_call1_call0_v6 : Ref sig .tc := ⟨.hbm, 81, rfl⟩
abbrev main_call1_call0_v7 : Ref sig .tc := ⟨.hbm, 82, rfl⟩
abbrev main_call1_call0_v8 : Ref sig .tc := ⟨.hbm, 83, rfl⟩
abbrev main_call1_call0_v9 : Ref sig .tc := ⟨.hbm, 84, rfl⟩
abbrev main_call1_call0_v10 : Ref sig .tc := ⟨.hbm, 85, rfl⟩
abbrev main_call1_call0_v11 : Ref sig .tc := ⟨.hbm, 86, rfl⟩
abbrev main_call1_v1_0 : Ref sig .tc := ⟨.hbm, 87, rfl⟩
abbrev main_call1_call0_cst_0 : Ref sig .tc := ⟨.hbm, 88, rfl⟩
abbrev main_call1_call0_v13 : Ref sig .tc := ⟨.hbm, 89, rfl⟩
abbrev main_call1_call0_v14 : Ref sig .tc := ⟨.hbm, 90, rfl⟩
abbrev main_call1_call0_cst_1 : Ref sig .tc := ⟨.hbm, 91, rfl⟩
abbrev main_call1_call0_v15 : Ref sig .tc := ⟨.hbm, 92, rfl⟩
abbrev main_call1_call0_v16 : Ref sig .tc := ⟨.hbm, 93, rfl⟩
abbrev main_call1_call0_cst_2 : Ref sig .tc := ⟨.hbm, 94, rfl⟩
abbrev main_call1_call0_v17 : Ref sig .tc := ⟨.hbm, 95, rfl⟩
abbrev main_call1_call0_v18 : Ref sig .tc := ⟨.hbm, 96, rfl⟩
abbrev main_call1_call0_cst_3 : Ref sig .tc := ⟨.hbm, 97, rfl⟩
abbrev main_call1_call0_v19 : Ref sig .tc := ⟨.hbm, 98, rfl⟩
abbrev main_call1_call0_v20 : Ref sig .tc := ⟨.hbm, 99, rfl⟩
abbrev main_call1_call0_v21 : Ref sig .tc := ⟨.hbm, 100, rfl⟩
abbrev main_v23_1 : Ref sig .tc := ⟨.hbm, 101, rfl⟩
abbrev main_call1_call0_cst_4 : Ref sig .tc := ⟨.hbm, 102, rfl⟩
abbrev main_call1_call0_cst_5 : Ref sig .tc := ⟨.hbm, 103, rfl⟩
abbrev main_call1_call0_v23 : Ref sig .tc := ⟨.hbm, 104, rfl⟩
abbrev main_call1_call0_cst_6 : Ref sig .tc := ⟨.hbm, 105, rfl⟩
abbrev main_call1_call0_cst_7 : Ref sig .tc := ⟨.hbm, 106, rfl⟩
abbrev main_call1_call0_v24 : Ref sig .tc := ⟨.hbm, 107, rfl⟩
abbrev main_call1_call0_cst_8 : Ref sig .tc := ⟨.hbm, 108, rfl⟩
abbrev main_call1_call0_v25 : Ref sig .tc := ⟨.hbm, 109, rfl⟩
abbrev main_call1_call0_v26 : Ref sig .tc := ⟨.hbm, 110, rfl⟩
abbrev main_call1_call0_cst_9 : Ref sig .tc := ⟨.hbm, 111, rfl⟩
abbrev main_call1_call0_v27 : Ref sig .tc := ⟨.hbm, 112, rfl⟩
abbrev main_call1_call0_v28 : Ref sig .tc := ⟨.hbm, 113, rfl⟩
abbrev main_call1_call0_v29 : Ref sig .tc := ⟨.hbm, 114, rfl⟩
abbrev main_call1_call0_v30 : Ref sig .tc := ⟨.hbm, 115, rfl⟩
abbrev main_call1_call0_v31 : Ref sig .tc := ⟨.hbm, 116, rfl⟩
abbrev main_call1_call0_cst_10 : Ref sig .tc := ⟨.hbm, 117, rfl⟩
abbrev main_call1_call0_v32 : Ref sig .tc := ⟨.hbm, 118, rfl⟩
abbrev main_v23_2 : Ref sig .tc := ⟨.hbm, 119, rfl⟩
abbrev main_v23_0 : Ref sig .tc := ⟨.hbm, 120, rfl⟩
abbrev main_cst_0 : Ref sig .tc := ⟨.hbm, 121, rfl⟩
abbrev main_call2_v0 : Ref sig .tc := ⟨.hbm, 122, rfl⟩
abbrev main_v24_1 : Ref sig .tc := ⟨.hbm, 123, rfl⟩
abbrev main_call2_v2 : Ref sig .tc := ⟨.hbm, 124, rfl⟩
abbrev main_v24_0 : Ref sig .tc := ⟨.hbm, 125, rfl⟩
abbrev main_call2_cst : Ref sig .tc := ⟨.hbm, 126, rfl⟩
abbrev main_v24_2 : Ref sig .tc := ⟨.hbm, 127, rfl⟩
abbrev main_call3_cst : Ref sig .tc := ⟨.hbm, 128, rfl⟩
abbrev main_call3_v0 : Ref sig .tc := ⟨.hbm, 129, rfl⟩
abbrev main_v25 : Ref sig .tc := ⟨.hbm, 130, rfl⟩
abbrev main_v26 : Ref sig .tc := ⟨.hbm, 131, rfl⟩
abbrev main_v27 : Ref sig .tc := ⟨.hbm, 132, rfl⟩
abbrev main_v28 : Ref sig .tc := ⟨.hbm, 133, rfl⟩
abbrev main_cst_1 : Ref sig .tc := ⟨.hbm, 134, rfl⟩
abbrev main_call4_v0 : Ref sig .tc := ⟨.hbm, 135, rfl⟩
abbrev main_v29_1 : Ref sig .tc := ⟨.hbm, 136, rfl⟩
abbrev main_call4_v2 : Ref sig .tc := ⟨.hbm, 137, rfl⟩
abbrev main_v29_0 : Ref sig .tc := ⟨.hbm, 138, rfl⟩
abbrev main_call4_cst : Ref sig .tc := ⟨.hbm, 139, rfl⟩
abbrev main_v29_2 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_call5_cst : Ref sig .tc := ⟨.hbm, 147, rfl⟩
abbrev main_call5_v0 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_call6_cst : Ref sig .tc := ⟨.hbm, 152, rfl⟩
abbrev main_call6_v0 : Ref sig .tc := ⟨.hbm, 153, rfl⟩
abbrev main_v39 : Ref sig .tc := ⟨.hbm, 154, rfl⟩
abbrev main_v40 : Ref sig .tc := ⟨.hbm, 155, rfl⟩
abbrev main_call7_cst : Ref sig .tc := ⟨.hbm, 156, rfl⟩
abbrev main_call7_v0 : Ref sig .tc := ⟨.hbm, 157, rfl⟩
abbrev main_v41 : Ref sig .tc := ⟨.hbm, 158, rfl⟩
abbrev main_call8_v0 : Ref sig .tc := ⟨.hbm, 159, rfl⟩
abbrev main_call8_v1 : Ref sig .tc := ⟨.hbm, 160, rfl⟩
abbrev main_v42 : Ref sig .tc := ⟨.hbm, 161, rfl⟩
abbrev main_v43 : Ref sig .tc := ⟨.hbm, 162, rfl⟩
abbrev main_call9_v0 : Ref sig .tc := ⟨.hbm, 163, rfl⟩
abbrev main_call9_v1 : Ref sig .tc := ⟨.hbm, 164, rfl⟩
abbrev main_v44 : Ref sig .tc := ⟨.hbm, 165, rfl⟩
abbrev main_v45 : Ref sig .tc := ⟨.hbm, 166, rfl⟩
abbrev main_cst_2 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩

abbrev nD : Nat := 1
abbrev τ : Topo := Topo.v7x

variable {F : FTy → Type} [FloatOps F]

def κ : String → Option EReal := fun
  | "scale" => some (((Real.sqrt 128)⁻¹ : ℝ) : EReal)
  | _ => none
-- ==== DhOdd.lean ====
abbrev S2048x2048 : Shape := ⟨2, ![2048, 2048]⟩
abbrev S2048x7168 : Shape := ⟨2, ![2048, 7168]⟩
abbrev S2048x8x896 : Shape := ⟨3, ![2048, 8, 896]⟩
abbrev S8x2048x896 : Shape := ⟨3, ![8, 2048, 896]⟩
abbrev S1024x1792 : Shape := ⟨2, ![1024, 1792]⟩
abbrev S2x2048x896 : Shape := ⟨3, ![2, 2048, 896]⟩
abbrev S1024x2048 : Shape := ⟨2, ![1024, 2048]⟩
abbrev S1x2048x896 : Shape := ⟨3, ![1, 2048, 896]⟩
abbrev S2048x896 : Shape := ⟨2, ![2048, 896]⟩
abbrev S2048x1792 : Shape := ⟨2, ![2048, 1792]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x7168, .bf16⟩
  | .hbm, ⟨2, _⟩ => ⟨S2048x7168, .bf16⟩
  | .hbm, ⟨3, _⟩ => ⟨S2048x8x896, .bf16⟩
  | .hbm, ⟨4, _⟩ => ⟨S8x2048x896, .bf16⟩
  | .hbm, ⟨5, _⟩ => ⟨S2048x2048, .bf16⟩
  | .local _ .vmem, ⟨0, _⟩ => ⟨S1024x1792, .bf16⟩
  | .local _ .vmem, ⟨1, _⟩ => ⟨S1024x1792, .bf16⟩
  | .local _ .vmem, ⟨2, _⟩ => ⟨S2x2048x896, .bf16⟩
  | .local _ .vmem, ⟨3, _⟩ => ⟨S2x2048x896, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DhOddRefIdeal.lean ====
abbrev S2048x2048 : Shape := ⟨2, ![2048, 2048]⟩
abbrev S2048x7168 : Shape := ⟨2, ![2048, 7168]⟩
abbrev S7168x2048 : Shape := ⟨2, ![7168, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x7168, .bf16⟩
  | .hbm, ⟨2, _⟩ => ⟨S2048x7168, .bf16⟩
  | .hbm, ⟨3, _⟩ => ⟨S2048x2048, .f32⟩
  | .hbm, ⟨4, _⟩ => ⟨S2048x7168, .f32⟩
  | .hbm, ⟨5, _⟩ => ⟨S2048x7168, .f32⟩
  | .hbm, ⟨6, _⟩ => ⟨S2048x7168, .bf16⟩
  | .hbm, ⟨7, _⟩ => ⟨S2048x7168, .f32⟩
  | .hbm, ⟨8, _⟩ => ⟨S7168x2048, .f32⟩
  | .hbm, ⟨9, _⟩ => ⟨S2048x7168, .f32⟩
  | .hbm, ⟨10, _⟩ => ⟨S2048x2048, .f32⟩
  | .hbm, ⟨11, _⟩ => ⟨S2048x7168, .bf16⟩
  | .hbm, ⟨12, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DwInOdd.lean ====
abbrev S2048x2048 : Shape := ⟨2, ![2048, 2048]⟩
abbrev S2048x7168 : Shape := ⟨2, ![2048, 7168]⟩
abbrev S8x2048x896 : Shape := ⟨3, ![8, 2048, 896]⟩
abbrev S2048x1024 : Shape := ⟨2, ![2048, 1024]⟩
abbrev S2048x1792 : Shape := ⟨2, ![2048, 1792]⟩
abbrev S2x1024x896 : Shape := ⟨3, ![2, 1024, 896]⟩
abbrev S1024x1792 : Shape := ⟨2, ![1024, 1792]⟩
abbrev S1024x896 : Shape := ⟨2, ![1024, 896]⟩
abbrev S1x1024x896 : Shape := ⟨3, ![1, 1024, 896]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x7168, .bf16⟩
  | .hbm, ⟨2, _⟩ => ⟨S2048x7168, .bf16⟩
  | .hbm, ⟨3, _⟩ => ⟨S8x2048x896, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1792, .bf16⟩
  | .local _ .vmem, ⟨3, _⟩ => ⟨S2048x1792, .bf16⟩
  | .local _ .vmem, ⟨4, _⟩ => ⟨S2x1024x896, .bf16⟩
  | .local _ .vmem, ⟨5, _⟩ => ⟨S2x1024x896, .bf16⟩
  | .local _ .vmem, ⟨6, _⟩ => ⟨S1024x1792, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInOddRefIdeal.lean ====
abbrev S2048x2048 : Shape := ⟨2, ![2048, 2048]⟩
abbrev S2048x7168 : Shape := ⟨2, ![2048, 7168]⟩
abbrev S7168x2048 : Shape := ⟨2, ![7168, 2048]⟩
abbrev S2048x8x896 : Shape := ⟨3, ![2048, 8, 896]⟩
abbrev S8x2048x896 : Shape := ⟨3, ![8, 2048, 896]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x7168, .bf16⟩
  | .hbm, ⟨2, _⟩ => ⟨S2048x7168, .bf16⟩
  | .hbm, ⟨3, _⟩ => ⟨S2048x2048, .f32⟩
  | .hbm, ⟨4, _⟩ => ⟨S2048x7168, .f32⟩
  | .hbm, ⟨5, _⟩ => ⟨S2048x7168, .f32⟩
  | .hbm, ⟨6, _⟩ => ⟨S2048x7168, .bf16⟩
  | .hbm, ⟨7, _⟩ => ⟨S2048x7168, .f32⟩
  | .hbm, ⟨8, _⟩ => ⟨S7168x2048, .f32⟩
  | .hbm, ⟨9, _⟩ => ⟨S2048x7168, .f32⟩
  | .hbm, ⟨10, _⟩ => ⟨S2048x2048, .f32⟩
  | .hbm, ⟨11, _⟩ => ⟨S2048x7168, .bf16⟩
  | .hbm, ⟨12, _⟩ => ⟨S2048x2048, .bf16⟩
  | .hbm, ⟨13, _⟩ => ⟨S2048x8x896, .bf16⟩
  | .hbm, ⟨14, _⟩ => ⟨S8x2048x896, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== InOdd.lean ====
abbrev S2048x2048 : Shape := ⟨2, ![2048, 2048]⟩
abbrev S2048x7168 : Shape := ⟨2, ![2048, 7168]⟩
abbrev S2048x8x896 : Shape := ⟨3, ![2048, 8, 896]⟩
abbrev S8x2048x896 : Shape := ⟨3, ![8, 2048, 896]⟩
abbrev S2x2048x896 : Shape := ⟨3, ![2, 2048, 896]⟩
abbrev S2048x1792 : Shape := ⟨2, ![2048, 1792]⟩
abbrev S1x2048x896 : Shape := ⟨3, ![1, 2048, 896]⟩
abbrev S2048x896 : Shape := ⟨2, ![2048, 896]⟩

abbrev nBuf : Space → Nat
  | .hbm => 5
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x7168, .bf16⟩
  | .hbm, ⟨2, _⟩ => ⟨S2048x8x896, .bf16⟩
  | .hbm, ⟨3, _⟩ => ⟨S8x2048x896, .bf16⟩
  | .hbm, ⟨4, _⟩ => ⟨S2048x7168, .bf16⟩
  | .local _ .vmem, ⟨0, _⟩ => ⟨S2048x2048, .bf16⟩
  | .local _ .vmem, ⟨1, _⟩ => ⟨S2x2048x896, .bf16⟩
  | .local _ .vmem, ⟨2, _⟩ => ⟨S2x2048x896, .bf16⟩
  | .local _ .vmem, ⟨3, _⟩ => ⟨S2048x1792, .bf16⟩
  | .local _ .vmem, ⟨4, _⟩ => ⟨S2048x1792, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S2x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== InOddRefIdeal.lean ====
abbrev S2048x2048 : Shape := ⟨2, ![2048, 2048]⟩
abbrev S2048x7168 : Shape := ⟨2, ![2048, 7168]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x7168, .bf16⟩
  | .hbm, ⟨2, _⟩ => ⟨S2048x2048, .f32⟩
  | .hbm, ⟨3, _⟩ => ⟨S2048x7168, .f32⟩
  | .hbm, ⟨4, _⟩ => ⟨S2048x7168, .f32⟩
  | .hbm, ⟨5, _⟩ => ⟨S2048x7168, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DhEven.lean ====
abbrev S2048x2048 : Shape := ⟨2, ![2048, 2048]⟩
abbrev S2048x6144 : Shape := ⟨2, ![2048, 6144]⟩
abbrev S2048x8x768 : Shape := ⟨3, ![2048, 8, 768]⟩
abbrev S8x2048x768 : Shape := ⟨3, ![8, 2048, 768]⟩
abbrev S1024x1536 : Shape := ⟨2, ![1024, 1536]⟩
abbrev S2x2048x768 : Shape := ⟨3, ![2, 2048, 768]⟩
abbrev S1024x2048 : Shape := ⟨2, ![1024, 2048]⟩
abbrev S1x2048x768 : Shape := ⟨3, ![1, 2048, 768]⟩
abbrev S2048x768 : Shape := ⟨2, ![2048, 768]⟩
abbrev S2048x1536 : Shape := ⟨2, ![2048, 1536]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .hbm, ⟨3, _⟩ => ⟨S2048x8x768, .bf16⟩
  | .hbm, ⟨4, _⟩ => ⟨S8x2048x768, .bf16⟩
  | .hbm, ⟨5, _⟩ => ⟨S2048x2048, .bf16⟩
  | .local _ .vmem, ⟨0, _⟩ => ⟨S1024x1536, .bf16⟩
  | .local _ .vmem, ⟨1, _⟩ => ⟨S1024x1536, .bf16⟩
  | .local _ .vmem, ⟨2, _⟩ => ⟨S2x2048x768, .bf16⟩
  | .local _ .vmem, ⟨3, _⟩ => ⟨S2x2048x768, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DhEvenRefIdeal.lean ====
abbrev S2048x2048 : Shape := ⟨2, ![2048, 2048]⟩
abbrev S2048x6144 : Shape := ⟨2, ![2048, 6144]⟩
abbrev S6144x2048 : Shape := ⟨2, ![6144, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .hbm, ⟨3, _⟩ => ⟨S2048x2048, .f32⟩
  | .hbm, ⟨4, _⟩ => ⟨S2048x6144, .f32⟩
  | .hbm, ⟨5, _⟩ => ⟨S2048x6144, .f32⟩
  | .hbm, ⟨6, _⟩ => ⟨S2048x6144, .bf16⟩
  | .hbm, ⟨7, _⟩ => ⟨S2048x6144, .f32⟩
  | .hbm, ⟨8, _⟩ => ⟨S6144x2048, .f32⟩
  | .hbm, ⟨9, _⟩ => ⟨S2048x6144, .f32⟩
  | .hbm, ⟨10, _⟩ => ⟨S2048x2048, .f32⟩
  | .hbm, ⟨11, _⟩ => ⟨S2048x6144, .bf16⟩
  | .hbm, ⟨12, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DwOwn.lean ====
abbrev S2048x2048 : Shape := ⟨2, ![2048, 2048]⟩
abbrev S2048x6144 : Shape := ⟨2, ![2048, 6144]⟩
abbrev S_ : Shape := ⟨0, ![]⟩
abbrev S1 : Shape := ⟨1, ![1]⟩
abbrev S4x2048x768 : Shape := ⟨3, ![4, 2048, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 5
  | .vmem => 7
  | .smem => 1
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .hbm, ⟨3, _⟩ => ⟨S_, .i32⟩
  | .hbm, ⟨4, _⟩ => ⟨S4x2048x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | .local _ .smem, ⟨0, _⟩ => ⟨S1, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  ![arg2.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOwnRefIdeal.lean ====
abbrev S2048x2048 : Shape := ⟨2, ![2048, 2048]⟩
abbrev S2048x6144 : Shape := ⟨2, ![2048, 6144]⟩
abbrev S6144x2048 : Shape := ⟨2, ![6144, 2048]⟩
abbrev S2048x8x768 : Shape := ⟨3, ![2048, 8, 768]⟩
abbrev S8x2048x768 : Shape := ⟨3, ![8, 2048, 768]⟩
abbrev S4x2048x768 : Shape := ⟨3, ![4, 2048, 768]⟩

abbrev nBuf : Space → Nat
  | .hbm => 16
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .hbm, ⟨3, _⟩ => ⟨S2048x2048, .f32⟩
  | .hbm, ⟨4, _⟩ => ⟨S2048x6144, .f32⟩
  | .hbm, ⟨5, _⟩ => ⟨S2048x6144, .f32⟩
  | .hbm, ⟨6, _⟩ => ⟨S2048x6144, .bf16⟩
  | .hbm, ⟨7, _⟩ => ⟨S2048x6144, .f32⟩
  | .hbm, ⟨8, _⟩ => ⟨S6144x2048, .f32⟩
  | .hbm, ⟨9, _⟩ => ⟨S2048x6144, .f32⟩
  | .hbm, ⟨10, _⟩ => ⟨S2048x2048, .f32⟩
  | .hbm, ⟨11, _⟩ => ⟨S2048x6144, .bf16⟩
  | .hbm, ⟨12, _⟩ => ⟨S2048x2048, .bf16⟩
  | .hbm, ⟨13, _⟩ => ⟨S2048x8x768, .bf16⟩
  | .hbm, ⟨14, _⟩ => ⟨S8x2048x768, .bf16⟩
  | .hbm, ⟨15, _⟩ => ⟨S4x2048x768, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== DwSibling.lean ====
abbrev S2048x2048 : Shape := ⟨2, ![2048, 2048]⟩
abbrev S2048x6144 : Shape := ⟨2, ![2048, 6144]⟩
abbrev S_ : Shape := ⟨0, ![]⟩
abbrev S1 : Shape := ⟨1, ![1]⟩
abbrev S4x2048x768 : Shape := ⟨3, ![4, 2048, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 5
  | .vmem => 7
  | .smem => 1
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .hbm, ⟨3, _⟩ => ⟨S_, .i32⟩
  | .hbm, ⟨4, _⟩ => ⟨S4x2048x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | .local _ .smem, ⟨0, _⟩ => ⟨S1, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  ![arg2.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwSiblingRefIdeal.lean ====
abbrev S2048x2048 : Shape := ⟨2, ![2048, 2048]⟩
abbrev S2048x6144 : Shape := ⟨2, ![2048, 6144]⟩
abbrev S6144x2048 : Shape := ⟨2, ![6144, 2048]⟩
abbrev S2048x8x768 : Shape := ⟨3, ![2048, 8, 768]⟩
abbrev S8x2048x768 : Shape := ⟨3, ![8, 2048, 768]⟩
abbrev S4x2048x768 : Shape := ⟨3, ![4, 2048, 768]⟩

abbrev nBuf : Space → Nat
  | .hbm => 16
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x6144, .bf16⟩
  | .hbm, ⟨2, _⟩ => ⟨S2048x6144, .bf16⟩
  | .hbm, ⟨3, _⟩ => ⟨S2048x2048, .f32⟩
  | .hbm, ⟨4, _⟩ => ⟨S2048x6144, .f32⟩
  | .hbm, ⟨5, _⟩ => ⟨S2048x6144, .f32⟩
  | .hbm, ⟨6, _⟩ => ⟨S2048x6144, .bf16⟩
  | .hbm, ⟨7, _⟩ => ⟨S2048x6144, .f32⟩
  | .hbm, ⟨8, _⟩ => ⟨S6144x2048, .f32⟩
  | .hbm, ⟨9, _⟩ => ⟨S2048x6144, .f32⟩
  | .hbm, ⟨10, _⟩ => ⟨S2048x2048, .f32⟩
  | .hbm, ⟨11, _⟩ => ⟨S2048x6144, .bf16⟩
  | .hbm, ⟨12, _⟩ => ⟨S2048x2048, .bf16⟩
  | .hbm, ⟨13, _⟩ => ⟨S2048x8x768, .bf16⟩
  | .hbm, ⟨14, _⟩ => ⟨S8x2048x768, .bf16⟩
  | .hbm, ⟨15, _⟩ => ⟨S4x2048x768, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Dy.lean ====
abbrev S2048x2048 : Shape := ⟨2, ![2048, 2048]⟩
abbrev S1x2048x2048 : Shape := ⟨3, ![1, 2048, 2048]⟩
abbrev S1024x2048 : Shape := ⟨2, ![1024, 2048]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S1x2048x2048, .bf16⟩
  | .hbm, ⟨4, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def k0_cond2 (i : grid0.Coords) : BitVec 1 :=
  let arg1 : BitVec 32 := BitVec.ofNat 32 (i 1).val
  let c0_i32_9 : BitVec 32 := 0#32
  let v12 : BitVec 1 := Scalar.cmpi .eq arg1 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DyRefIdeal.lean ====
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | .hbm, ⟨12, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DwOut.lean ====
abbrev S2048x2048 : Shape := ⟨2, ![2048, 2048]⟩
abbrev S1x2048x2048 : Shape := ⟨3, ![1, 2048, 2048]⟩
abbrev S2048x1024 : Shape := ⟨2, ![2048, 1024]⟩
abbrev S1x1024x2048 : Shape := ⟨3, ![1, 1024, 2048]⟩
abbrev S1024x2048 : Shape := ⟨2, ![1024, 2048]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1024x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S2048x2048 : Shape := ⟨2, ![2048, 2048]⟩
abbrev S1x2048x2048 : Shape := ⟨3, ![1, 2048, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | .hbm, ⟨12, _⟩ => ⟨S2048x2048, .bf16⟩
  | .hbm, ⟨13, _⟩ => ⟨S1x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Out.lean ====
abbrev S2048x2048 : Shape := ⟨2, ![2048, 2048]⟩
abbrev S1x2048x2048 : Shape := ⟨3, ![1, 2048, 2048]⟩
abbrev S1x2048x512 : Shape := ⟨3, ![1, 2048, 512]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1x2048x2048, .bf16⟩
  | .hbm, ⟨3, _⟩ => ⟨S2048x2048, .bf16⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== OutRefIdeal.lean ====
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AdamInEven.lean ====
abbrev S2048x768 : Shape := ⟨2, ![2048, 768]⟩
abbrev S4x2048x768 : Shape := ⟨3, ![4, 2048, 768]⟩
abbrev S_ : Shape := ⟨0, ![]⟩
abbrev S1 : Shape := ⟨1, ![1]⟩
abbrev S512x768 : Shape := ⟨2, ![512, 768]⟩
abbrev S1x512x768 : Shape := ⟨3, ![1, 512, 768]⟩

abbrev nBuf : Space → Nat
  | .hbm => 10
  | .vmem => 22
  | .smem => 1
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S4x2048x768, .bf16⟩
  | .hbm, ⟨4, _⟩ => ⟨S4x2048x768, .bf16⟩
  | .hbm, ⟨5, _⟩ => ⟨S_, .i32⟩
  | .hbm, ⟨6, _⟩ => ⟨S2048x768, .f32⟩
  | .hbm, ⟨7, _⟩ => ⟨S2048x768, .f32⟩
  | .hbm, ⟨8, _⟩ => ⟨S2048x768, .f32⟩
  | .hbm, ⟨9, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S1x512x768, .bf16⟩
  | .local _ .vmem, ⟨7, _⟩ => ⟨S1x512x768, .bf16⟩
  | .local _ .vmem, ⟨8, _⟩ => ⟨S1x512x768, .bf16⟩
  | .local _ .vmem, ⟨9, _⟩ => ⟨S1x512x768, .bf16⟩
  | .local _ .vmem, ⟨10, _⟩ => ⟨S1x512x768, .bf16⟩
  | .local _ .vmem, ⟨11, _⟩ => ⟨S1x512x768, .bf16⟩
  | .local _ .vmem, ⟨12, _⟩ => ⟨S1x512x768, .bf16⟩
  | .local _ .vmem, ⟨13, _⟩ => ⟨S1x512x768, .bf16⟩
  | .local _ .vmem, ⟨14, _⟩ => ⟨S512x768, .f32⟩
  | .local _ .vmem, ⟨15, _⟩ => ⟨S512x768, .f32⟩
  | .local _ .vmem, ⟨16, _⟩ => ⟨S512x768, .f32⟩
  | .local _ .vmem, ⟨17, _⟩ => ⟨S512x768, .f32⟩
  | .local _ .vmem, ⟨18, _⟩ => ⟨S512x768, .f32⟩
  | .local _ .vmem, ⟨19, _⟩ => ⟨S512x768, .f32⟩
  | .local _ .vmem, ⟨20, _⟩ => ⟨S512x768, .f32⟩
  | .local _ .vmem, ⟨21, _⟩ => ⟨S512x768, .f32⟩
  | .local _ .smem, ⟨0, _⟩ => ⟨S1, .i32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamInEvenIdeal.lean ====
abbrev S2048x768 : Shape := ⟨2, ![2048, 768]⟩
abbrev S4x2048x768 : Shape := ⟨3, ![4, 2048, 768]⟩
abbrev S_ : Shape := ⟨0, ![]⟩
abbrev S1 : Shape := ⟨1, ![1]⟩
abbrev S512x768 : Shape := ⟨2, ![512, 768]⟩
abbrev S1x512x768 : Shape := ⟨3, ![1, 512, 768]⟩

abbrev nBuf : Space → Nat
  | .hbm => 10
  | .vmem => 22
  | .smem => 1
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S4x2048x768, .bf16⟩
  | .hbm, ⟨4, _⟩ => ⟨S4x2048x768, .bf16⟩
  | .hbm, ⟨5, _⟩ => ⟨S_, .i32⟩
  | .hbm, ⟨6, _⟩ => ⟨S2048x768, .f32⟩
  | .hbm, ⟨7, _⟩ => ⟨S2048x768, .f32⟩
  | .hbm, ⟨8, _⟩ => ⟨S2048x768, .f32⟩
  | .hbm, ⟨9, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S1x512x768, .bf16⟩
  | .local _ .vmem, ⟨7, _⟩ => ⟨S1x512x768, .bf16⟩
  | .local _ .vmem, ⟨8, _⟩ => ⟨S1x512x768, .bf16⟩
  | .local _ .vmem, ⟨9, _⟩ => ⟨S1x512x768, .bf16⟩
  | .local _ .vmem, ⟨10, _⟩ => ⟨S1x512x768, .bf16⟩
  | .local _ .vmem, ⟨11, _⟩ => ⟨S1x512x768, .bf16⟩
  | .local _ .vmem, ⟨12, _⟩ => ⟨S1x512x768, .bf16⟩
  | .local _ .vmem, ⟨13, _⟩ => ⟨S1x512x768, .bf16⟩
  | .local _ .vmem, ⟨14, _⟩ => ⟨S512x768, .f32⟩
  | .local _ .vmem, ⟨15, _⟩ => ⟨S512x768, .f32⟩
  | .local _ .vmem, ⟨16, _⟩ => ⟨S512x768, .f32⟩
  | .local _ .vmem, ⟨17, _⟩ => ⟨S512x768, .f32⟩
  | .local _ .vmem, ⟨18, _⟩ => ⟨S512x768, .f32⟩
  | .local _ .vmem, ⟨19, _⟩ => ⟨S512x768, .f32⟩
  | .local _ .vmem, ⟨20, _⟩ => ⟨S512x768, .f32⟩
  | .local _ .vmem, ⟨21, _⟩ => ⟨S512x768, .f32⟩
  | .local _ .smem, ⟨0, _⟩ => ⟨S1, .i32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamInEvenRefIdeal.lean ====
abbrev S2048x768 : Shape := ⟨2, ![2048, 768]⟩
abbrev S4x2048x768 : Shape := ⟨3, ![4, 2048, 768]⟩
abbrev S1x2048x768 : Shape := ⟨3, ![1, 2048, 768]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S4x2048x768, .bf16⟩
  | .hbm, ⟨4, _⟩ => ⟨S4x2048x768, .bf16⟩
  | .hbm, ⟨5, _⟩ => ⟨S1x2048x768, .bf16⟩
  | .hbm, ⟨6, _⟩ => ⟨S2048x768, .bf16⟩
  | .hbm, ⟨7, _⟩ => ⟨S2048x768, .f32⟩
  | .hbm, ⟨8, _⟩ => ⟨S1x2048x768, .bf16⟩
  | .hbm, ⟨9, _⟩ => ⟨S2048x768, .bf16⟩
  | .hbm, ⟨10, _⟩ => ⟨S2048x768, .f32⟩
  | .hbm, ⟨11, _⟩ => ⟨S2048x768, .f32⟩
  | .hbm, ⟨12, _⟩ => ⟨S1x2048x768, .bf16⟩
  | .hbm, ⟨13, _⟩ => ⟨S2048x768, .bf16⟩
  | .hbm, ⟨14, _⟩ => ⟨S2048x768, .f32⟩
  | .hbm, ⟨15, _⟩ => ⟨S2048x768, .f32⟩
  | .hbm, ⟨16, _⟩ => ⟨S1x2048x768, .bf16⟩
  | .hbm, ⟨17, _⟩ => ⟨S2048x768, .bf16⟩
  | .hbm, ⟨18, _⟩ => ⟨S2048x768, .f32⟩
  | .hbm, ⟨19, _⟩ => ⟨S2048x768, .f32⟩
  | .hbm, ⟨20, _⟩ => ⟨S_, .f32⟩
  | .hbm, ⟨21, _⟩ => ⟨S2048x768, .f32⟩
  | .hbm, ⟨22, _⟩ => ⟨S2048x768, .f32⟩
  | .hbm, ⟨23, _⟩ => ⟨S_, .f32⟩
  | .hbm, ⟨24, _⟩ => ⟨S2048x768, .f32⟩
  | .hbm, ⟨25, _⟩ => ⟨S2048x768, .f32⟩
  | .hbm, ⟨26, _⟩ => ⟨S2048x768, .f32⟩
  | .hbm, ⟨27, _⟩ => ⟨S_, .f32⟩
  | .hbm, ⟨28, _⟩ => ⟨S2048x768, .f32⟩
  | .hbm, ⟨29, _⟩ => ⟨S2048x768, .f32⟩
  | .hbm, ⟨30, _⟩ => ⟨S2048x768, .f32⟩
  | .hbm, ⟨31, _⟩ => ⟨S_, .f32⟩
  | .hbm, ⟨32, _⟩ => ⟨S2048x768, .f32⟩
  | .hbm, ⟨33, _⟩ => ⟨S2048x768, .f32⟩
  | .hbm, ⟨34, _⟩ => ⟨S2048x768, .f32⟩
  | .hbm, ⟨35, _⟩ => ⟨S_, .f32⟩
  | .hbm, ⟨36, _⟩ => ⟨S2048x768, .f32⟩
  | .hbm, ⟨37, _⟩ => ⟨S2048x768, .f32⟩
  | .hbm, ⟨38, _⟩ => ⟨S_, .f32⟩
  | .hbm, ⟨39, _⟩ => ⟨S2048x768, .f32⟩
  | .hbm, ⟨40, _⟩ => ⟨S2048x768, .f32⟩
  | .hbm, ⟨41, _⟩ => ⟨S2048x768, .f32⟩
  | .hbm, ⟨42, _⟩ => ⟨S_, .f32⟩
  | .hbm, ⟨43, _⟩ => ⟨S2048x768, .f32⟩
  | .hbm, ⟨44, _⟩ => ⟨S2048x768, .f32⟩
  | .hbm, ⟨45, _⟩ => ⟨S2048x768, .f32⟩
  | .hbm, ⟨46, _⟩ => ⟨S_, .f32⟩
  | .hbm, ⟨47, _⟩ => ⟨S2048x768, .f32⟩
  | .hbm, ⟨48, _⟩ => ⟨S2048x768, .f32⟩
  | .hbm, ⟨49, _⟩ => ⟨S2048x768, .f32⟩
  | .hbm, ⟨50, _⟩ => ⟨S_, .f32⟩
  | .hbm, ⟨51, _⟩ => ⟨S2048x768, .f32⟩
  | .hbm, ⟨52, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== AdamInOdd.lean ====
abbrev S2048x896 : Shape := ⟨2, ![2048, 896]⟩
abbrev S4x2048x896 : Shape := ⟨3, ![4, 2048, 896]⟩
abbrev S_ : Shape := ⟨0, ![]⟩
abbrev S1 : Shape := ⟨1, ![1]⟩
abbrev S512x896 : Shape := ⟨2, ![512, 896]⟩
abbrev S1x512x896 : Shape := ⟨3, ![1, 512, 896]⟩

abbrev nBuf : Space → Nat
  | .hbm => 10
  | .vmem => 22
  | .smem => 1
  | _ => 0

abbrev bufTy : (tb : Table) → Fin (tcTables nBuf tb) → BufTy
  | .hbm, ⟨0, _⟩ => ⟨S2048x896, .f32⟩
  | .hbm, ⟨1, _⟩ => ⟨S2048x896, .f32⟩
  | .hbm, ⟨2, _⟩ => ⟨S2048x896, .f32⟩
  | .hbm, ⟨3, _⟩ => ⟨S4x2048x896, .bf16⟩
  | .hbm, ⟨4, _⟩ => ⟨S4x2048x896, .bf16⟩
  | .hbm, ⟨5, _⟩ => ⟨S_, .i32⟩
  | .hbm, ⟨6, _⟩ => ⟨S2048x896, .f32⟩
  | .hbm, ⟨7, _⟩ => ⟨S2048x896, .f32⟩
  | .hbm, ⟨8, _⟩ => ⟨S2048x896, .f32⟩
  | .hbm, ⟨9, _⟩ => ⟨S2048x896, .f32⟩
  | .local _ .vmem, ⟨0, _⟩ => ⟨S512x896, .f32⟩
  | .local _ .vmem, ⟨1, _⟩ => ⟨S512x896, .f32⟩
  | .local _ .vmem, ⟨2, _⟩ => ⟨S512x896, .f32⟩
  | .local _ .vmem, ⟨3, _⟩ => ⟨S512x896, .f32⟩
  | .local _ .vmem, ⟨4, _⟩ => ⟨S512x896, .f32⟩
  | .local _ .vmem, ⟨5, _⟩ => ⟨S512x896, .f32⟩
  | .local _ .vmem, ⟨6, _⟩ => ⟨S1x512x896, .bf16⟩
  | .local _ .vmem, ⟨7, _⟩ => ⟨S1x512x896, .bf16⟩
  | .local _ .vmem, ⟨8, _⟩ => ⟨S1x512x896, .bf16⟩
  | .local _ .vmem, ⟨9, _⟩ => ⟨S1x512x896, .bf16⟩
  | .local _ .vmem, ⟨10, _⟩ => ⟨S1x512x896, .bf16⟩
  | .local _ .vmem, ⟨11, _⟩ => ⟨S1x512x896, .bf16⟩
  | .local _ .vmem, ⟨12, _⟩ => ⟨S1x512x896, .bf16⟩
  | .local _ .vmem, ⟨13, _⟩ => ⟨S1x512x896, .bf16⟩
  | .local _ .vmem, ⟨14, _⟩ => ⟨S512x896, .f32⟩
  | .local _ .vmem, ⟨15, _⟩ => ⟨S512x896, .f32⟩
  | .local _ .vmem, ⟨16, _⟩ => ⟨S512x896, .f32⟩
  | .local _ .vmem, ⟨17, _⟩ => ⟨S512x896, .f32⟩
  | .local _ .vmem, ⟨18, _⟩ => ⟨S512x896, .f32⟩
  | .local _ .vmem, ⟨19, _⟩ => ⟨S512x896, .f32⟩
  | .local _ .vmem, ⟨20, _⟩ => ⟨S512x896, .f32⟩
  | .local _ .vmem, ⟨21, _⟩ => ⟨S512x896, .f32⟩
  | .local _ .smem, ⟨0, _⟩ => ⟨S1, .i32⟩
  | _, _ => ⟨S2048x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x896 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x896 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x896 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x896 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamInOddIdeal.lean ====
abbrev S2048x896 : Shape := ⟨2, ![2048, 896]⟩
abbrev S4x2048x896 : Shape := ⟨3, ![4, 2048, 896]⟩
abbrev S_ : Shape := ⟨0, ![]⟩
abbrev S1 : Shape := ⟨1, ![1]⟩
abbrev S512x896 : Shape := ⟨2, ![512, 896]⟩
abbrev S1x512x896 : Shape := ⟨3, ![1, 512, 896]⟩

abbrev nBuf : Space → Nat
  | .hbm => 10
  | .vmem => 22
  | .smem => 1
  | _ => 0

abbrev bufTy : (tb : Table) → Fin (tcTables nBuf tb) → BufTy
  | .hbm, ⟨0, _⟩ => ⟨S2048x896, .f32⟩
  | .hbm, ⟨1, _⟩ => ⟨S2048x896, .f32⟩
  | .hbm, ⟨2, _⟩ => ⟨S2048x896, .f32⟩
  | .hbm, ⟨3, _⟩ => ⟨S4x2048x896, .bf16⟩
  | .hbm, ⟨4, _⟩ => ⟨S4x2048x896, .bf16⟩
  | .hbm, ⟨5, _⟩ => ⟨S_, .i32⟩
  | .hbm, ⟨6, _⟩ => ⟨S2048x896, .f32⟩
  | .hbm, ⟨7, _⟩ => ⟨S2048x896, .f32⟩
  | .hbm, ⟨8, _⟩ => ⟨S2048x896, .f32⟩
  | .hbm, ⟨9, _⟩ => ⟨S2048x896, .f32⟩
  | .local _ .vmem, ⟨0, _⟩ => ⟨S512x896, .f32⟩
  | .local _ .vmem, ⟨1, _⟩ => ⟨S512x896, .f32⟩
  | .local _ .vmem, ⟨2, _⟩ => ⟨S512x896, .f32⟩
  | .local _ .vmem, ⟨3, _⟩ => ⟨S512x896, .f32⟩
  | .local _ .vmem, ⟨4, _⟩ => ⟨S512x896, .f32⟩
  | .local _ .vmem, ⟨5, _⟩ => ⟨S512x896, .f32⟩
  | .local _ .vmem, ⟨6, _⟩ => ⟨S1x512x896, .bf16⟩
  | .local _ .vmem, ⟨7, _⟩ => ⟨S1x512x896, .bf16⟩
  | .local _ .vmem, ⟨8, _⟩ => ⟨S1x512x896, .bf16⟩
  | .local _ .vmem, ⟨9, _⟩ => ⟨S1x512x896, .bf16⟩
  | .local _ .vmem, ⟨10, _⟩ => ⟨S1x512x896, .bf16⟩
  | .local _ .vmem, ⟨11, _⟩ => ⟨S1x512x896, .bf16⟩
  | .local _ .vmem, ⟨12, _⟩ => ⟨S1x512x896, .bf16⟩
  | .local _ .vmem, ⟨13, _⟩ => ⟨S1x512x896, .bf16⟩
  | .local _ .vmem, ⟨14, _⟩ => ⟨S512x896, .f32⟩
  | .local _ .vmem, ⟨15, _⟩ => ⟨S512x896, .f32⟩
  | .local _ .vmem, ⟨16, _⟩ => ⟨S512x896, .f32⟩
  | .local _ .vmem, ⟨17, _⟩ => ⟨S512x896, .f32⟩
  | .local _ .vmem, ⟨18, _⟩ => ⟨S512x896, .f32⟩
  | .local _ .vmem, ⟨19, _⟩ => ⟨S512x896, .f32⟩
  | .local _ .vmem, ⟨20, _⟩ => ⟨S512x896, .f32⟩
  | .local _ .vmem, ⟨21, _⟩ => ⟨S512x896, .f32⟩
  | .local _ .smem, ⟨0, _⟩ => ⟨S1, .i32⟩
  | _, _ => ⟨S2048x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x896 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x896 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x896 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x896 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AdamInOddRefIdeal.lean ====
abbrev S2048x896 : Shape := ⟨2, ![2048, 896]⟩
abbrev S4x2048x896 : Shape := ⟨3, ![4, 2048, 896]⟩
abbrev S1x2048x896 : Shape := ⟨3, ![1, 2048, 896]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S2048x896, .f32⟩
  | .hbm, ⟨1, _⟩ => ⟨S2048x896, .f32⟩
  | .hbm, ⟨2, _⟩ => ⟨S2048x896, .f32⟩
  | .hbm, ⟨3, _⟩ => ⟨S4x2048x896, .bf16⟩
  | .hbm, ⟨4, _⟩ => ⟨S4x2048x896, .bf16⟩
  | .hbm, ⟨5, _⟩ => ⟨S1x2048x896, .bf16⟩
  | .hbm, ⟨6, _⟩ => ⟨S2048x896, .bf16⟩
  | .hbm, ⟨7, _⟩ => ⟨S2048x896, .f32⟩
  | .hbm, ⟨8, _⟩ => ⟨S1x2048x896, .bf16⟩
  | .hbm, ⟨9, _⟩ => ⟨S2048x896, .bf16⟩
  | .hbm, ⟨10, _⟩ => ⟨S2048x896, .f32⟩
  | .hbm, ⟨11, _⟩ => ⟨S2048x896, .f32⟩
  | .hbm, ⟨12, _⟩ => ⟨S1x2048x896, .bf16⟩
  | .hbm, ⟨13, _⟩ => ⟨S2048x896, .bf16⟩
  | .hbm, ⟨14, _⟩ => ⟨S2048x896, .f32⟩
  | .hbm, ⟨15, _⟩ => ⟨S2048x896, .f32⟩
  | .hbm, ⟨16, _⟩ => ⟨S1x2048x896, .bf16⟩
  | .hbm, ⟨17, _⟩ => ⟨S2048x896, .bf16⟩
  | .hbm, ⟨18, _⟩ => ⟨S2048x896, .f32⟩
  | .hbm, ⟨19, _⟩ => ⟨S2048x896, .f32⟩
  | .hbm, ⟨20, _⟩ => ⟨S_, .f32⟩
  | .hbm, ⟨21, _⟩ => ⟨S2048x896, .f32⟩
  | .hbm, ⟨22, _⟩ => ⟨S2048x896, .f32⟩
  | .hbm, ⟨23, _⟩ => ⟨S_, .f32⟩
  | .hbm, ⟨24, _⟩ => ⟨S2048x896, .f32⟩
  | .hbm, ⟨25, _⟩ => ⟨S2048x896, .f32⟩
  | .hbm, ⟨26, _⟩ => ⟨S2048x896, .f32⟩
  | .hbm, ⟨27, _⟩ => ⟨S_, .f32⟩
  | .hbm, ⟨28, _⟩ => ⟨S2048x896, .f32⟩
  | .hbm, ⟨29, _⟩ => ⟨S2048x896, .f32⟩
  | .hbm, ⟨30, _⟩ => ⟨S2048x896, .f32⟩
  | .hbm, ⟨31, _⟩ => ⟨S_, .f32⟩
  | .hbm, ⟨32, _⟩ => ⟨S2048x896, .f32⟩
  | .hbm, ⟨33, _⟩ => ⟨S2048x896, .f32⟩
  | .hbm, ⟨34, _⟩ => ⟨S2048x896, .f32⟩
  | .hbm, ⟨35, _⟩ => ⟨S_, .f32⟩
  | .hbm, ⟨36, _⟩ => ⟨S2048x896, .f32⟩
  | .hbm, ⟨37, _⟩ => ⟨S2048x896, .f32⟩
  | .hbm, ⟨38, _⟩ => ⟨S_, .f32⟩
  | .hbm, ⟨39, _⟩ => ⟨S2048x896, .f32⟩
  | .hbm, ⟨40, _⟩ => ⟨S2048x896, .f32⟩
  | .hbm, ⟨41, _⟩ => ⟨S2048x896, .f32⟩
  | .hbm, ⟨42, _⟩ => ⟨S_, .f32⟩
  | .hbm, ⟨43, _⟩ => ⟨S2048x896, .f32⟩
  | .hbm, ⟨44, _⟩ => ⟨S2048x896, .f32⟩
  | .hbm, ⟨45, _⟩ => ⟨S2048x896, .f32⟩
  | .hbm, ⟨46, _⟩ => ⟨S_, .f32⟩
  | .hbm, ⟨47, _⟩ => ⟨S2048x896, .f32⟩
  | .hbm, ⟨48, _⟩ => ⟨S2048x896, .f32⟩
  | .hbm, ⟨49, _⟩ => ⟨S2048x896, .f32⟩
  | .hbm, ⟨50, _⟩ => ⟨S_, .f32⟩
  | .hbm, ⟨51, _⟩ => ⟨S2048x896, .f32⟩
  | .hbm, ⟨52, _⟩ => ⟨S2048x896, .f32⟩
  | _, _ => ⟨S2048x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== AdamOut.lean ====
abbrev S256x2048 : Shape := ⟨2, ![256, 2048]⟩
abbrev S4x256x2048 : Shape := ⟨3, ![4, 256, 2048]⟩
abbrev S_ : Shape := ⟨0, ![]⟩
abbrev S1 : Shape := ⟨1, ![1]⟩
abbrev S1x256x2048 : Shape := ⟨3, ![1, 256, 2048]⟩

abbrev nBuf : Space → Nat
  | .hbm => 10
  | .vmem => 11
  | .smem => 1
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S4x256x2048, .bf16⟩
  | .hbm, ⟨4, _⟩ => ⟨S4x256x2048, .bf16⟩
  | .hbm, ⟨5, _⟩ => ⟨S_, .i32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .smem, ⟨0, _⟩ => ⟨S1, .i32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== AdamOutIdeal.lean ====
abbrev S256x2048 : Shape := ⟨2, ![256, 2048]⟩
abbrev S4x256x2048 : Shape := ⟨3, ![4, 256, 2048]⟩
abbrev S_ : Shape := ⟨0, ![]⟩
abbrev S1 : Shape := ⟨1, ![1]⟩
abbrev S1x256x2048 : Shape := ⟨3, ![1, 256, 2048]⟩

abbrev nBuf : Space → Nat
  | .hbm => 10
  | .vmem => 11
  | .smem => 1
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S4x256x2048, .bf16⟩
  | .hbm, ⟨4, _⟩ => ⟨S4x256x2048, .bf16⟩
  | .hbm, ⟨5, _⟩ => ⟨S_, .i32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .smem, ⟨0, _⟩ => ⟨S1, .i32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== AdamOutRefIdeal.lean ====
abbrev S256x2048 : Shape := ⟨2, ![256, 2048]⟩
abbrev S4x256x2048 : Shape := ⟨3, ![4, 256, 2048]⟩
abbrev S1x256x2048 : Shape := ⟨3, ![1, 256, 2048]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S4x256x2048, .bf16⟩
  | .hbm, ⟨4, _⟩ => ⟨S4x256x2048, .bf16⟩
  | .hbm, ⟨5, _⟩ => ⟨S1x256x2048, .bf16⟩
  | .hbm, ⟨6, _⟩ => ⟨S256x2048, .bf16⟩
  | .hbm, ⟨7, _⟩ => ⟨S256x2048, .f32⟩
  | .hbm, ⟨8, _⟩ => ⟨S1x256x2048, .bf16⟩
  | .hbm, ⟨9, _⟩ => ⟨S256x2048, .bf16⟩
  | .hbm, ⟨10, _⟩ => ⟨S256x2048, .f32⟩
  | .hbm, ⟨11, _⟩ => ⟨S256x2048, .f32⟩
  | .hbm, ⟨12, _⟩ => ⟨S1x256x2048, .bf16⟩
  | .hbm, ⟨13, _⟩ => ⟨S256x2048, .bf16⟩
  | .hbm, ⟨14, _⟩ => ⟨S256x2048, .f32⟩
  | .hbm, ⟨15, _⟩ => ⟨S256x2048, .f32⟩
  | .hbm, ⟨16, _⟩ => ⟨S1x256x2048, .bf16⟩
  | .hbm, ⟨17, _⟩ => ⟨S256x2048, .bf16⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S256x2048, .f32⟩
  | .hbm, ⟨25, _⟩ => ⟨S256x2048, .f32⟩
  | .hbm, ⟨26, _⟩ => ⟨S256x2048, .f32⟩
  | .hbm, ⟨27, _⟩ => ⟨S_, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S_, .f32⟩
  | .hbm, ⟨32, _⟩ => ⟨S256x2048, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S_, .f32⟩
  | .hbm, ⟨39, _⟩ => ⟨S256x2048, .f32⟩
  | .hbm, ⟨40, _⟩ => ⟨S256x2048, .f32⟩
  | .hbm, ⟨41, _⟩ => ⟨S256x2048, .f32⟩
  | .hbm, ⟨42, _⟩ => ⟨S_, .f32⟩
  | .hbm, ⟨43, _⟩ => ⟨S256x2048, .f32⟩
  | .hbm, ⟨44, _⟩ => ⟨S256x2048, .f32⟩
  | .hbm, ⟨45, _⟩ => ⟨S256x2048, .f32⟩
  | .hbm, ⟨46, _⟩ => ⟨S_, .f32⟩
  | .hbm, ⟨47, _⟩ => ⟨S256x2048, .f32⟩
  | .hbm, ⟨48, _⟩ => ⟨S256x2048, .f32⟩
  | .hbm, ⟨49, _⟩ => ⟨S256x2048, .f32⟩
  | .hbm, ⟨50, _⟩ => ⟨S_, .f32⟩
  | .hbm, ⟨51, _⟩ => ⟨S256x2048, .f32⟩
  | .hbm, ⟨52, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== AdamPool.lean ====
abbrev S128x256 : Shape := ⟨2, ![128, 256]⟩
abbrev S4x128x256 : Shape := ⟨3, ![4, 128, 256]⟩
abbrev S_ : Shape := ⟨0, ![]⟩
abbrev S1 : Shape := ⟨1, ![1]⟩
abbrev S1x128x256 : Shape := ⟨3, ![1, 128, 256]⟩

abbrev nBuf : Space → Nat
  | .hbm => 10
  | .vmem => 11
  | .smem => 1
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S4x128x256, .bf16⟩
  | .hbm, ⟨4, _⟩ => ⟨S4x128x256, .bf16⟩
  | .hbm, ⟨5, _⟩ => ⟨S_, .i32⟩
  | .hbm, ⟨6, _⟩ => ⟨S128x256, .f32⟩
  | .hbm, ⟨7, _⟩ => ⟨S128x256, .f32⟩
  | .hbm, ⟨8, _⟩ => ⟨S128x256, .f32⟩
  | .hbm, ⟨9, _⟩ => ⟨S128x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .smem, ⟨0, _⟩ => ⟨S1, .i32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.xori v0 c0_i32
  let c0_i32_0 : BitVec 32 := 0#32
  let c0_i32_1 : BitVec 32 := 0#32
  ![v1.toNat, arg0.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.xori v0 c1_i32
  let c0_i32 : BitVec 32 := 0#32
  let c0_i32_0 : BitVec 32 := 0#32
  ![v1.toNat, arg0.toNat, c0_i32.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.xori v0 c2_i32
  let c0_i32 : BitVec 32 := 0#32
  let c0_i32_0 : BitVec 32 := 0#32
  ![v1.toNat, arg0.toNat, c0_i32.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 32 := Scalar.xori v0 c3_i32
  let c0_i32 : BitVec 32 := 0#32
  let c0_i32_0 : BitVec 32 := 0#32
  ![v1.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== AdamPoolRefIdeal.lean ====
abbrev S128x256 : Shape := ⟨2, ![128, 256]⟩
abbrev S4x128x256 : Shape := ⟨3, ![4, 128, 256]⟩
abbrev S1x128x256 : Shape := ⟨3, ![1, 128, 256]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S4x128x256, .bf16⟩
  | .hbm, ⟨4, _⟩ => ⟨S4x128x256, .bf16⟩
  | .hbm, ⟨5, _⟩ => ⟨S1x128x256, .bf16⟩
  | .hbm, ⟨6, _⟩ => ⟨S128x256, .bf16⟩
  | .hbm, ⟨7, _⟩ => ⟨S128x256, .f32⟩
  | .hbm, ⟨8, _⟩ => ⟨S1x128x256, .bf16⟩
  | .hbm, ⟨9, _⟩ => ⟨S128x256, .bf16⟩
  | .hbm, ⟨10, _⟩ => ⟨S128x256, .f32⟩
  | .hbm, ⟨11, _⟩ => ⟨S128x256, .f32⟩
  | .hbm, ⟨12, _⟩ => ⟨S1x128x256, .bf16⟩
  | .hbm, ⟨13, _⟩ => ⟨S128x256, .bf16⟩
  | .hbm, ⟨14, _⟩ => ⟨S128x256, .f32⟩
  | .hbm, ⟨15, _⟩ => ⟨S128x256, .f32⟩
  | .hbm, ⟨16, _⟩ => ⟨S1x128x256, .bf16⟩
  | .hbm, ⟨17, _⟩ => ⟨S128x256, .bf16⟩
  | .hbm, ⟨18, _⟩ => ⟨S128x256, .f32⟩
  | .hbm, ⟨19, _⟩ => ⟨S128x256, .f32⟩
  | .hbm, ⟨20, _⟩ => ⟨S_, .f32⟩
  | .hbm, ⟨21, _⟩ => ⟨S128x256, .f32⟩
  | .hbm, ⟨22, _⟩ => ⟨S128x256, .f32⟩
  | .hbm, ⟨23, _⟩ => ⟨S_, .f32⟩
  | .hbm, ⟨24, _⟩ => ⟨S128x256, .f32⟩
  | .hbm, ⟨25, _⟩ => ⟨S128x256, .f32⟩
  | .hbm, ⟨26, _⟩ => ⟨S128x256, .f32⟩
  | .hbm, ⟨27, _⟩ => ⟨S_, .f32⟩
  | .hbm, ⟨28, _⟩ => ⟨S128x256, .f32⟩
  | .hbm, ⟨29, _⟩ => ⟨S128x256, .f32⟩
  | .hbm, ⟨30, _⟩ => ⟨S128x256, .f32⟩
  | .hbm, ⟨31, _⟩ => ⟨S_, .f32⟩
  | .hbm, ⟨32, _⟩ => ⟨S128x256, .f32⟩
  | .hbm, ⟨33, _⟩ => ⟨S128x256, .f32⟩
  | .hbm, ⟨34, _⟩ => ⟨S128x256, .f32⟩
  | .hbm, ⟨35, _⟩ => ⟨S_, .f32⟩
  | .hbm, ⟨36, _⟩ => ⟨S128x256, .f32⟩
  | .hbm, ⟨37, _⟩ => ⟨S128x256, .f32⟩
  | .hbm, ⟨38, _⟩ => ⟨S_, .f32⟩
  | .hbm, ⟨39, _⟩ => ⟨S128x256, .f32⟩
  | .hbm, ⟨40, _⟩ => ⟨S128x256, .f32⟩
  | .hbm, ⟨41, _⟩ => ⟨S128x256, .f32⟩
  | .hbm, ⟨42, _⟩ => ⟨S_, .f32⟩
  | .hbm, ⟨43, _⟩ => ⟨S128x256, .f32⟩
  | .hbm, ⟨44, _⟩ => ⟨S128x256, .f32⟩
  | .hbm, ⟨45, _⟩ => ⟨S128x256, .f32⟩
  | .hbm, ⟨46, _⟩ => ⟨S_, .f32⟩
  | .hbm, ⟨47, _⟩ => ⟨S128x256, .f32⟩
  | .hbm, ⟨48, _⟩ => ⟨S128x256, .f32⟩
  | .hbm, ⟨49, _⟩ => ⟨S128x256, .f32⟩
  | .hbm, ⟨50, _⟩ => ⟨S_, .f32⟩
  | .hbm, ⟨51, _⟩ => ⟨S128x256, .f32⟩
  | .hbm, ⟨52, _⟩ => ⟨S128x256, .f32⟩
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== AdamSmallA.lean ====
abbrev S1x2048 : Shape := ⟨2, ![1, 2048]⟩
abbrev S1x1024 : Shape := ⟨2, ![1, 1024]⟩

abbrev nBuf : Space → Nat
  | .hbm => 21
  | .vmem => 21
  | .smem => 0
  | _ => 0

abbrev bufTy : (tb : Table) → Fin (tcTables nBuf tb) → BufTy
  | .hbm, ⟨0, _⟩ => ⟨S1x2048, .f32⟩
  | .hbm, ⟨1, _⟩ => ⟨S1x1024, .f32⟩
  | .hbm, ⟨2, _⟩ => ⟨S1x2048, .f32⟩
  | .hbm, ⟨3, _⟩ => ⟨S1x2048, .f32⟩
  | .hbm, ⟨4, _⟩ => ⟨S1x1024, .f32⟩
  | .hbm, ⟨5, _⟩ => ⟨S1x2048, .f32⟩
  | .hbm, ⟨6, _⟩ => ⟨S1x2048, .f32⟩
  | .hbm, ⟨7, _⟩ => ⟨S1x1024, .f32⟩
  | .hbm, ⟨8, _⟩ => ⟨S1x2048, .f32⟩
  | .hbm, ⟨9, _⟩ => ⟨S1x2048, .f32⟩
  | .hbm, ⟨10, _⟩ => ⟨S1x1024, .f32⟩
  | .hbm, ⟨11, _⟩ => ⟨S1x2048, .f32⟩
  | .hbm, ⟨12, _⟩ => ⟨S1x2048, .f32⟩
  | .hbm, ⟨13, _⟩ => ⟨S1x1024, .f32⟩
  | .hbm, ⟨14, _⟩ => ⟨S1x2048, .f32⟩
  | .hbm, ⟨15, _⟩ => ⟨S1x2048, .f32⟩
  | .hbm, ⟨16, _⟩ => ⟨S1x1024, .f32⟩
  | .hbm, ⟨17, _⟩ => ⟨S1x2048, .f32⟩
  | .hbm, ⟨18, _⟩ => ⟨S1x2048, .f32⟩
  | .hbm, ⟨19, _⟩ => ⟨S1x1024, .f32⟩
  | .hbm, ⟨20, _⟩ => ⟨S1x2048, .f32⟩
  | .local _ .vmem, ⟨0, _⟩ => ⟨S1x2048, .f32⟩
  | .local _ .vmem, ⟨1, _⟩ => ⟨S1x1024, .f32⟩
  | .local _ .vmem, ⟨2, _⟩ => ⟨S1x2048, .f32⟩
  | .local _ .vmem, ⟨3, _⟩ => ⟨S1x2048, .f32⟩
  | .local _ .vmem, ⟨4, _⟩ => ⟨S1x1024, .f32⟩
  | .local _ .vmem, ⟨5, _⟩ => ⟨S1x2048, .f32⟩
  | .local _ .vmem, ⟨6, _⟩ => ⟨S1x2048, .f32⟩
  | .local _ .vmem, ⟨7, _⟩ => ⟨S1x1024, .f32⟩
  | .local _ .vmem, ⟨8, _⟩ => ⟨S1x2048, .f32⟩
  | .local _ .vmem, ⟨9, _⟩ => ⟨S1x2048, .f32⟩
  | .local _ .vmem, ⟨10, _⟩ => ⟨S1x1024, .f32⟩
  | .local _ .vmem, ⟨11, _⟩ => ⟨S1x2048, .f32⟩
  | .local _ .vmem, ⟨12, _⟩ => ⟨S1x2048, .f32⟩
  | .local _ .vmem, ⟨13, _⟩ => ⟨S1x1024, .f32⟩
  | .local _ .vmem, ⟨14, _⟩ => ⟨S1x2048, .f32⟩
  | .local _ .vmem, ⟨15, _⟩ => ⟨S1x2048, .f32⟩
  | .local _ .vmem, ⟨16, _⟩ => ⟨S1x1024, .f32⟩
  | .local _ .vmem, ⟨17, _⟩ => ⟨S1x2048, .f32⟩
  | .local _ .vmem, ⟨18, _⟩ => ⟨S1x2048, .f32⟩
  | .local _ .vmem, ⟨19, _⟩ => ⟨S1x1024, .f32⟩
  | .local _ .vmem, ⟨20, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamSmallAIdeal.lean ====
abbrev S1x2048 : Shape := ⟨2, ![1, 2048]⟩
abbrev S1x1024 : Shape := ⟨2, ![1, 1024]⟩

abbrev nBuf : Space → Nat
  | .hbm => 21
  | .vmem => 21
  | .smem => 0
  | _ => 0

abbrev bufTy : (tb : Table) → Fin (tcTables nBuf tb) → BufTy
  | .hbm, ⟨0, _⟩ => ⟨S1x2048, .f32⟩
  | .hbm, ⟨1, _⟩ => ⟨S1x1024, .f32⟩
  | .hbm, ⟨2, _⟩ => ⟨S1x2048, .f32⟩
  | .hbm, ⟨3, _⟩ => ⟨S1x2048, .f32⟩
  | .hbm, ⟨4, _⟩ => ⟨S1x1024, .f32⟩
  | .hbm, ⟨5, _⟩ => ⟨S1x2048, .f32⟩
  | .hbm, ⟨6, _⟩ => ⟨S1x2048, .f32⟩
  | .hbm, ⟨7, _⟩ => ⟨S1x1024, .f32⟩
  | .hbm, ⟨8, _⟩ => ⟨S1x2048, .f32⟩
  | .hbm, ⟨9, _⟩ => ⟨S1x2048, .f32⟩
  | .hbm, ⟨10, _⟩ => ⟨S1x1024, .f32⟩
  | .hbm, ⟨11, _⟩ => ⟨S1x2048, .f32⟩
  | .hbm, ⟨12, _⟩ => ⟨S1x2048, .f32⟩
  | .hbm, ⟨13, _⟩ => ⟨S1x1024, .f32⟩
  | .hbm, ⟨14, _⟩ => ⟨S1x2048, .f32⟩
  | .hbm, ⟨15, _⟩ => ⟨S1x2048, .f32⟩
  | .hbm, ⟨16, _⟩ => ⟨S1x1024, .f32⟩
  | .hbm, ⟨17, _⟩ => ⟨S1x2048, .f32⟩
  | .hbm, ⟨18, _⟩ => ⟨S1x2048, .f32⟩
  | .hbm, ⟨19, _⟩ => ⟨S1x1024, .f32⟩
  | .hbm, ⟨20, _⟩ => ⟨S1x2048, .f32⟩
  | .local _ .vmem, ⟨0, _⟩ => ⟨S1x2048, .f32⟩
  | .local _ .vmem, ⟨1, _⟩ => ⟨S1x1024, .f32⟩
  | .local _ .vmem, ⟨2, _⟩ => ⟨S1x2048, .f32⟩
  | .local _ .vmem, ⟨3, _⟩ => ⟨S1x2048, .f32⟩
  | .local _ .vmem, ⟨4, _⟩ => ⟨S1x1024, .f32⟩
  | .local _ .vmem, ⟨5, _⟩ => ⟨S1x2048, .f32⟩
  | .local _ .vmem, ⟨6, _⟩ => ⟨S1x2048, .f32⟩
  | .local _ .vmem, ⟨7, _⟩ => ⟨S1x1024, .f32⟩
  | .local _ .vmem, ⟨8, _⟩ => ⟨S1x2048, .f32⟩
  | .local _ .vmem, ⟨9, _⟩ => ⟨S1x2048, .f32⟩
  | .local _ .vmem, ⟨10, _⟩ => ⟨S1x1024, .f32⟩
  | .local _ .vmem, ⟨11, _⟩ => ⟨S1x2048, .f32⟩
  | .local _ .vmem, ⟨12, _⟩ => ⟨S1x2048, .f32⟩
  | .local _ .vmem, ⟨13, _⟩ => ⟨S1x1024, .f32⟩
  | .local _ .vmem, ⟨14, _⟩ => ⟨S1x2048, .f32⟩
  | .local _ .vmem, ⟨15, _⟩ => ⟨S1x2048, .f32⟩
  | .local _ .vmem, ⟨16, _⟩ => ⟨S1x1024, .f32⟩
  | .local _ .vmem, ⟨17, _⟩ => ⟨S1x2048, .f32⟩
  | .local _ .vmem, ⟨18, _⟩ => ⟨S1x2048, .f32⟩
  | .local _ .vmem, ⟨19, _⟩ => ⟨S1x1024, .f32⟩
  | .local _ .vmem, ⟨20, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamSmallARefIdeal.lean ====
abbrev S1x2048 : Shape := ⟨2, ![1, 2048]⟩
abbrev S1x1024 : Shape := ⟨2, ![1, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x1024, .f32⟩
  | .hbm, ⟨2, _⟩ => ⟨S1x2048, .f32⟩
  | .hbm, ⟨3, _⟩ => ⟨S1x2048, .f32⟩
  | .hbm, ⟨4, _⟩ => ⟨S1x1024, .f32⟩
  | .hbm, ⟨5, _⟩ => ⟨S1x2048, .f32⟩
  | .hbm, ⟨6, _⟩ => ⟨S1x2048, .f32⟩
  | .hbm, ⟨7, _⟩ => ⟨S1x1024, .f32⟩
  | .hbm, ⟨8, _⟩ => ⟨S1x2048, .f32⟩
  | .hbm, ⟨9, _⟩ => ⟨S1x2048, .f32⟩
  | .hbm, ⟨10, _⟩ => ⟨S1x1024, .f32⟩
  | .hbm, ⟨11, _⟩ => ⟨S1x2048, .f32⟩
  | .hbm, ⟨12, _⟩ => ⟨S_, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S_, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S_, .f32⟩
  | .hbm, ⟨39, _⟩ => ⟨S1x2048, .f32⟩
  | .hbm, ⟨40, _⟩ => ⟨S1x2048, .f32⟩
  | .hbm, ⟨41, _⟩ => ⟨S1x2048, .f32⟩
  | .hbm, ⟨42, _⟩ => ⟨S_, .f32⟩
  | .hbm, ⟨43, _⟩ => ⟨S1x2048, .f32⟩
  | .hbm, ⟨44, _⟩ => ⟨S1x2048, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S_, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S_, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S_, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S_, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S_, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x2048, .f32⟩
  | .hbm, ⟨80, _⟩ => ⟨S1x2048, .f32⟩
  | .hbm, ⟨81, _⟩ => ⟨S_, .f32⟩
  | .hbm, ⟨82, _⟩ => ⟨S1x2048, .f32⟩
  | .hbm, ⟨83, _⟩ => ⟨S1x2048, .f32⟩
  | .hbm, ⟨84, _⟩ => ⟨S1x2048, .f32⟩
  | .hbm, ⟨85, _⟩ => ⟨S_, .f32⟩
  | .hbm, ⟨86, _⟩ => ⟨S1x2048, .f32⟩
  | .hbm, ⟨87, _⟩ => ⟨S1x2048, .f32⟩
  | .hbm, ⟨88, _⟩ => ⟨S1x2048, .f32⟩
  | .hbm, ⟨89, _⟩ => ⟨S_, .f32⟩
  | .hbm, ⟨90, _⟩ => ⟨S1x2048, .f32⟩
  | .hbm, ⟨91, _⟩ => ⟨S1x2048, .f32⟩
  | .hbm, ⟨92, _⟩ => ⟨S1x2048, .f32⟩
  | .hbm, ⟨93, _⟩ => ⟨S_, .f32⟩
  | .hbm, ⟨94, _⟩ => ⟨S1x2048, .f32⟩
  | .hbm, ⟨95, _⟩ => ⟨S1x2048, .f32⟩
  | .hbm, ⟨96, _⟩ => ⟨S_, .f32⟩
  | .hbm, ⟨97, _⟩ => ⟨S1x2048, .f32⟩
  | .hbm, ⟨98, _⟩ => ⟨S1x2048, .f32⟩
  | .hbm, ⟨99, _⟩ => ⟨S1x2048, .f32⟩
  | .hbm, ⟨100, _⟩ => ⟨S_, .f32⟩
  | .hbm, ⟨101, _⟩ => ⟨S1x2048, .f32⟩
  | .hbm, ⟨102, _⟩ => ⟨S1x2048, .f32⟩
  | .hbm, ⟨103, _⟩ => ⟨S1x2048, .f32⟩
  | .hbm, ⟨104, _⟩ => ⟨S_, .f32⟩
  | .hbm, ⟨105, _⟩ => ⟨S1x2048, .f32⟩
  | .hbm, ⟨106, _⟩ => ⟨S1x2048, .f32⟩
  | .hbm, ⟨107, _⟩ => ⟨S1x2048, .f32⟩
  | .hbm, ⟨108, _⟩ => ⟨S_, .f32⟩
  | .hbm, ⟨109, _⟩ => ⟨S1x2048, .f32⟩
  | .hbm, ⟨110, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== AdamSmallB.lean ====
abbrev S1x256 : Shape := ⟨2, ![1, 256]⟩
abbrev S3x128 : Shape := ⟨2, ![3, 128]⟩
abbrev S31x128 : Shape := ⟨2, ![31, 128]⟩

abbrev nBuf : Space → Nat
  | .hbm => 21
  | .vmem => 21
  | .smem => 0
  | _ => 0

abbrev bufTy : (tb : Table) → Fin (tcTables nBuf tb) → BufTy
  | .hbm, ⟨0, _⟩ => ⟨S1x256, .f32⟩
  | .hbm, ⟨1, _⟩ => ⟨S3x128, .f32⟩
  | .hbm, ⟨2, _⟩ => ⟨S31x128, .f32⟩
  | .hbm, ⟨3, _⟩ => ⟨S1x256, .f32⟩
  | .hbm, ⟨4, _⟩ => ⟨S3x128, .f32⟩
  | .hbm, ⟨5, _⟩ => ⟨S31x128, .f32⟩
  | .hbm, ⟨6, _⟩ => ⟨S1x256, .f32⟩
  | .hbm, ⟨7, _⟩ => ⟨S3x128, .f32⟩
  | .hbm, ⟨8, _⟩ => ⟨S31x128, .f32⟩
  | .hbm, ⟨9, _⟩ => ⟨S1x256, .f32⟩
  | .hbm, ⟨10, _⟩ => ⟨S3x128, .f32⟩
  | .hbm, ⟨11, _⟩ => ⟨S31x128, .f32⟩
  | .hbm, ⟨12, _⟩ => ⟨S1x256, .f32⟩
  | .hbm, ⟨13, _⟩ => ⟨S3x128, .f32⟩
  | .hbm, ⟨14, _⟩ => ⟨S31x128, .f32⟩
  | .hbm, ⟨15, _⟩ => ⟨S1x256, .f32⟩
  | .hbm, ⟨16, _⟩ => ⟨S3x128, .f32⟩
  | .hbm, ⟨17, _⟩ => ⟨S31x128, .f32⟩
  | .hbm, ⟨18, _⟩ => ⟨S1x256, .f32⟩
  | .hbm, ⟨19, _⟩ => ⟨S3x128, .f32⟩
  | .hbm, ⟨20, _⟩ => ⟨S31x128, .f32⟩
  | .local _ .vmem, ⟨0, _⟩ => ⟨S1x256, .f32⟩
  | .local _ .vmem, ⟨1, _⟩ => ⟨S3x128, .f32⟩
  | .local _ .vmem, ⟨2, _⟩ => ⟨S31x128, .f32⟩
  | .local _ .vmem, ⟨3, _⟩ => ⟨S1x256, .f32⟩
  | .local _ .vmem, ⟨4, _⟩ => ⟨S3x128, .f32⟩
  | .local _ .vmem, ⟨5, _⟩ => ⟨S31x128, .f32⟩
  | .local _ .vmem, ⟨6, _⟩ => ⟨S1x256, .f32⟩
  | .local _ .vmem, ⟨7, _⟩ => ⟨S3x128, .f32⟩
  | .local _ .vmem, ⟨8, _⟩ => ⟨S31x128, .f32⟩
  | .local _ .vmem, ⟨9, _⟩ => ⟨S1x256, .f32⟩
  | .local _ .vmem, ⟨10, _⟩ => ⟨S3x128, .f32⟩
  | .local _ .vmem, ⟨11, _⟩ => ⟨S31x128, .f32⟩
  | .local _ .vmem, ⟨12, _⟩ => ⟨S1x256, .f32⟩
  | .local _ .vmem, ⟨13, _⟩ => ⟨S3x128, .f32⟩
  | .local _ .vmem, ⟨14, _⟩ => ⟨S31x128, .f32⟩
  | .local _ .vmem, ⟨15, _⟩ => ⟨S1x256, .f32⟩
  | .local _ .vmem, ⟨16, _⟩ => ⟨S3x128, .f32⟩
  | .local _ .vmem, ⟨17, _⟩ => ⟨S31x128, .f32⟩
  | .local _ .vmem, ⟨18, _⟩ => ⟨S1x256, .f32⟩
  | .local _ .vmem, ⟨19, _⟩ => ⟨S3x128, .f32⟩
  | .local _ .vmem, ⟨20, _⟩ => ⟨S31x128, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S31x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S31x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S31x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S3x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S31x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S3x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S31x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamSmallBIdeal.lean ====
abbrev S1x256 : Shape := ⟨2, ![1, 256]⟩
abbrev S3x128 : Shape := ⟨2, ![3, 128]⟩
abbrev S31x128 : Shape := ⟨2, ![31, 128]⟩

abbrev nBuf : Space → Nat
  | .hbm => 21
  | .vmem => 21
  | .smem => 0
  | _ => 0

abbrev bufTy : (tb : Table) → Fin (tcTables nBuf tb) → BufTy
  | .hbm, ⟨0, _⟩ => ⟨S1x256, .f32⟩
  | .hbm, ⟨1, _⟩ => ⟨S3x128, .f32⟩
  | .hbm, ⟨2, _⟩ => ⟨S31x128, .f32⟩
  | .hbm, ⟨3, _⟩ => ⟨S1x256, .f32⟩
  | .hbm, ⟨4, _⟩ => ⟨S3x128, .f32⟩
  | .hbm, ⟨5, _⟩ => ⟨S31x128, .f32⟩
  | .hbm, ⟨6, _⟩ => ⟨S1x256, .f32⟩
  | .hbm, ⟨7, _⟩ => ⟨S3x128, .f32⟩
  | .hbm, ⟨8, _⟩ => ⟨S31x128, .f32⟩
  | .hbm, ⟨9, _⟩ => ⟨S1x256, .f32⟩
  | .hbm, ⟨10, _⟩ => ⟨S3x128, .f32⟩
  | .hbm, ⟨11, _⟩ => ⟨S31x128, .f32⟩
  | .hbm, ⟨12, _⟩ => ⟨S1x256, .f32⟩
  | .hbm, ⟨13, _⟩ => ⟨S3x128, .f32⟩
  | .hbm, ⟨14, _⟩ => ⟨S31x128, .f32⟩
  | .hbm, ⟨15, _⟩ => ⟨S1x256, .f32⟩
  | .hbm, ⟨16, _⟩ => ⟨S3x128, .f32⟩
  | .hbm, ⟨17, _⟩ => ⟨S31x128, .f32⟩
  | .hbm, ⟨18, _⟩ => ⟨S1x256, .f32⟩
  | .hbm, ⟨19, _⟩ => ⟨S3x128, .f32⟩
  | .hbm, ⟨20, _⟩ => ⟨S31x128, .f32⟩
  | .local _ .vmem, ⟨0, _⟩ => ⟨S1x256, .f32⟩
  | .local _ .vmem, ⟨1, _⟩ => ⟨S3x128, .f32⟩
  | .local _ .vmem, ⟨2, _⟩ => ⟨S31x128, .f32⟩
  | .local _ .vmem, ⟨3, _⟩ => ⟨S1x256, .f32⟩
  | .local _ .vmem, ⟨4, _⟩ => ⟨S3x128, .f32⟩
  | .local _ .vmem, ⟨5, _⟩ => ⟨S31x128, .f32⟩
  | .local _ .vmem, ⟨6, _⟩ => ⟨S1x256, .f32⟩
  | .local _ .vmem, ⟨7, _⟩ => ⟨S3x128, .f32⟩
  | .local _ .vmem, ⟨8, _⟩ => ⟨S31x128, .f32⟩
  | .local _ .vmem, ⟨9, _⟩ => ⟨S1x256, .f32⟩
  | .local _ .vmem, ⟨10, _⟩ => ⟨S3x128, .f32⟩
  | .local _ .vmem, ⟨11, _⟩ => ⟨S31x128, .f32⟩
  | .local _ .vmem, ⟨12, _⟩ => ⟨S1x256, .f32⟩
  | .local _ .vmem, ⟨13, _⟩ => ⟨S3x128, .f32⟩
  | .local _ .vmem, ⟨14, _⟩ => ⟨S31x128, .f32⟩
  | .local _ .vmem, ⟨15, _⟩ => ⟨S1x256, .f32⟩
  | .local _ .vmem, ⟨16, _⟩ => ⟨S3x128, .f32⟩
  | .local _ .vmem, ⟨17, _⟩ => ⟨S31x128, .f32⟩
  | .local _ .vmem, ⟨18, _⟩ => ⟨S1x256, .f32⟩
  | .local _ .vmem, ⟨19, _⟩ => ⟨S3x128, .f32⟩
  | .local _ .vmem, ⟨20, _⟩ => ⟨S31x128, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S31x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S31x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S31x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S3x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S31x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S3x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S31x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamSmallBRefIdeal.lean ====
abbrev S1x256 : Shape := ⟨2, ![1, 256]⟩
abbrev S3x128 : Shape := ⟨2, ![3, 128]⟩
abbrev S31x128 : Shape := ⟨2, ![31, 128]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S3x128, .f32⟩
  | .hbm, ⟨2, _⟩ => ⟨S31x128, .f32⟩
  | .hbm, ⟨3, _⟩ => ⟨S1x256, .f32⟩
  | .hbm, ⟨4, _⟩ => ⟨S3x128, .f32⟩
  | .hbm, ⟨5, _⟩ => ⟨S31x128, .f32⟩
  | .hbm, ⟨6, _⟩ => ⟨S1x256, .f32⟩
  | .hbm, ⟨7, _⟩ => ⟨S3x128, .f32⟩
  | .hbm, ⟨8, _⟩ => ⟨S31x128, .f32⟩
  | .hbm, ⟨9, _⟩ => ⟨S1x256, .f32⟩
  | .hbm, ⟨10, _⟩ => ⟨S3x128, .f32⟩
  | .hbm, ⟨11, _⟩ => ⟨S31x128, .f32⟩
  | .hbm, ⟨12, _⟩ => ⟨S_, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S_, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S_, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S_, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S_, .f32⟩
  | .hbm, ⟨43, _⟩ => ⟨S1x256, .f32⟩
  | .hbm, ⟨44, _⟩ => ⟨S1x256, .f32⟩
  | .hbm, ⟨45, _⟩ => ⟨S_, .f32⟩
  | .hbm, ⟨46, _⟩ => ⟨S3x128, .f32⟩
  | .hbm, ⟨47, _⟩ => ⟨S3x128, .f32⟩
  | .hbm, ⟨48, _⟩ => ⟨S_, .f32⟩
  | .hbm, ⟨49, _⟩ => ⟨S3x128, .f32⟩
  | .hbm, ⟨50, _⟩ => ⟨S3x128, .f32⟩
  | .hbm, ⟨51, _⟩ => ⟨S3x128, .f32⟩
  | .hbm, ⟨52, _⟩ => ⟨S_, .f32⟩
  | .hbm, ⟨53, _⟩ => ⟨S3x128, .f32⟩
  | .hbm, ⟨54, _⟩ => ⟨S3x128, .f32⟩
  | .hbm, ⟨55, _⟩ => ⟨S3x128, .f32⟩
  | .hbm, ⟨56, _⟩ => ⟨S_, .f32⟩
  | .hbm, ⟨57, _⟩ => ⟨S3x128, .f32⟩
  | .hbm, ⟨58, _⟩ => ⟨S3x128, .f32⟩
  | .hbm, ⟨59, _⟩ => ⟨S3x128, .f32⟩
  | .hbm, ⟨60, _⟩ => ⟨S_, .f32⟩
  | .hbm, ⟨61, _⟩ => ⟨S3x128, .f32⟩
  | .hbm, ⟨62, _⟩ => ⟨S3x128, .f32⟩
  | .hbm, ⟨63, _⟩ => ⟨S_, .f32⟩
  | .hbm, ⟨64, _⟩ => ⟨S3x128, .f32⟩
  | .hbm, ⟨65, _⟩ => ⟨S3x128, .f32⟩
  | .hbm, ⟨66, _⟩ => ⟨S3x128, .f32⟩
  | .hbm, ⟨67, _⟩ => ⟨S_, .f32⟩
  | .hbm, ⟨68, _⟩ => ⟨S3x128, .f32⟩
  | .hbm, ⟨69, _⟩ => ⟨S3x128, .f32⟩
  | .hbm, ⟨70, _⟩ => ⟨S3x128, .f32⟩
  | .hbm, ⟨71, _⟩ => ⟨S_, .f32⟩
  | .hbm, ⟨72, _⟩ => ⟨S3x128, .f32⟩
  | .hbm, ⟨73, _⟩ => ⟨S3x128, .f32⟩
  | .hbm, ⟨74, _⟩ => ⟨S3x128, .f32⟩
  | .hbm, ⟨75, _⟩ => ⟨S_, .f32⟩
  | .hbm, ⟨76, _⟩ => ⟨S3x128, .f32⟩
  | .hbm, ⟨77, _⟩ => ⟨S3x128, .f32⟩
  | .hbm, ⟨78, _⟩ => ⟨S_, .f32⟩
  | .hbm, ⟨79, _⟩ => ⟨S31x128, .f32⟩
  | .hbm, ⟨80, _⟩ => ⟨S31x128, .f32⟩
  | .hbm, ⟨81, _⟩ => ⟨S_, .f32⟩
  | .hbm, ⟨82, _⟩ => ⟨S31x128, .f32⟩
  | .hbm, ⟨83, _⟩ => ⟨S31x128, .f32⟩
  | .hbm, ⟨84, _⟩ => ⟨S31x128, .f32⟩
  | .hbm, ⟨85, _⟩ => ⟨S_, .f32⟩
  | .hbm, ⟨86, _⟩ => ⟨S31x128, .f32⟩
  | .hbm, ⟨87, _⟩ => ⟨S31x128, .f32⟩
  | .hbm, ⟨88, _⟩ => ⟨S31x128, .f32⟩
  | .hbm, ⟨89, _⟩ => ⟨S_, .f32⟩
  | .hbm, ⟨90, _⟩ => ⟨S31x128, .f32⟩
  | .hbm, ⟨91, _⟩ => ⟨S31x128, .f32⟩
  | .hbm, ⟨92, _⟩ => ⟨S31x128, .f32⟩
  | .hbm, ⟨93, _⟩ => ⟨S_, .f32⟩
  | .hbm, ⟨94, _⟩ => ⟨S31x128, .f32⟩
  | .hbm, ⟨95, _⟩ => ⟨S31x128, .f32⟩
  | .hbm, ⟨96, _⟩ => ⟨S_, .f32⟩
  | .hbm, ⟨97, _⟩ => ⟨S31x128, .f32⟩
  | .hbm, ⟨98, _⟩ => ⟨S31x128, .f32⟩
  | .hbm, ⟨99, _⟩ => ⟨S31x128, .f32⟩
  | .hbm, ⟨100, _⟩ => ⟨S_, .f32⟩
  | .hbm, ⟨101, _⟩ => ⟨S31x128, .f32⟩
  | .hbm, ⟨102, _⟩ => ⟨S31x128, .f32⟩
  | .hbm, ⟨103, _⟩ => ⟨S31x128, .f32⟩
  | .hbm, ⟨104, _⟩ => ⟨S_, .f32⟩
  | .hbm, ⟨105, _⟩ => ⟨S31x128, .f32⟩
  | .hbm, ⟨106, _⟩ => ⟨S31x128, .f32⟩
  | .hbm, ⟨107, _⟩ => ⟨S31x128, .f32⟩
  | .hbm, ⟨108, _⟩ => ⟨S_, .f32⟩
  | .hbm, ⟨109, _⟩ => ⟨S31x128, .f32⟩
  | .hbm, ⟨110, _⟩ => ⟨S31x128, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== AdamSmallC.lean ====
abbrev S1x128 : Shape := ⟨2, ![1, 128]⟩

abbrev nBuf : Space → Nat
  | .hbm => 14
  | .vmem => 14
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== AdamSmallCIdeal.lean ====
abbrev S1x128 : Shape := ⟨2, ![1, 128]⟩

abbrev nBuf : Space → Nat
  | .hbm => 14
  | .vmem => 14
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== AdamSmallCRefIdeal.lean ====
abbrev S1x128 : Shape := ⟨2, ![1, 128]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S_, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S_, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S_, .f32⟩
  | .hbm, ⟨42, _⟩ => ⟨S1x128, .f32⟩
  | .hbm, ⟨43, _⟩ => ⟨S1x128, .f32⟩
  | .hbm, ⟨44, _⟩ => ⟨S_, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S_, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S_, .f32⟩
  | .hbm, ⟨57, _⟩ => ⟨S1x128, .f32⟩
  | .hbm, ⟨58, _⟩ => ⟨S1x128, .f32⟩
  | .hbm, ⟨59, _⟩ => ⟨S_, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S_, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S_, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== AdamSmallD.lean ====
abbrev S1x128 : Shape := ⟨2, ![1, 128]⟩
abbrev S1x256 : Shape := ⟨2, ![1, 256]⟩

abbrev nBuf : Space → Nat
  | .hbm => 14
  | .vmem => 14
  | .smem => 0
  | _ => 0

abbrev bufTy : (tb : Table) → Fin (tcTables nBuf tb) → BufTy
  | .hbm, ⟨0, _⟩ => ⟨S1x128, .f32⟩
  | .hbm, ⟨1, _⟩ => ⟨S1x256, .f32⟩
  | .hbm, ⟨2, _⟩ => ⟨S1x128, .f32⟩
  | .hbm, ⟨3, _⟩ => ⟨S1x256, .f32⟩
  | .hbm, ⟨4, _⟩ => ⟨S1x128, .f32⟩
  | .hbm, ⟨5, _⟩ => ⟨S1x256, .f32⟩
  | .hbm, ⟨6, _⟩ => ⟨S1x128, .f32⟩
  | .hbm, ⟨7, _⟩ => ⟨S1x256, .f32⟩
  | .hbm, ⟨8, _⟩ => ⟨S1x128, .f32⟩
  | .hbm, ⟨9, _⟩ => ⟨S1x256, .f32⟩
  | .hbm, ⟨10, _⟩ => ⟨S1x128, .f32⟩
  | .hbm, ⟨11, _⟩ => ⟨S1x256, .f32⟩
  | .hbm, ⟨12, _⟩ => ⟨S1x128, .f32⟩
  | .hbm, ⟨13, _⟩ => ⟨S1x256, .f32⟩
  | .local _ .vmem, ⟨0, _⟩ => ⟨S1x128, .f32⟩
  | .local _ .vmem, ⟨1, _⟩ => ⟨S1x256, .f32⟩
  | .local _ .vmem, ⟨2, _⟩ => ⟨S1x128, .f32⟩
  | .local _ .vmem, ⟨3, _⟩ => ⟨S1x256, .f32⟩
  | .local _ .vmem, ⟨4, _⟩ => ⟨S1x128, .f32⟩
  | .local _ .vmem, ⟨5, _⟩ => ⟨S1x256, .f32⟩
  | .local _ .vmem, ⟨6, _⟩ => ⟨S1x128, .f32⟩
  | .local _ .vmem, ⟨7, _⟩ => ⟨S1x256, .f32⟩
  | .local _ .vmem, ⟨8, _⟩ => ⟨S1x128, .f32⟩
  | .local _ .vmem, ⟨9, _⟩ => ⟨S1x256, .f32⟩
  | .local _ .vmem, ⟨10, _⟩ => ⟨S1x128, .f32⟩
  | .local _ .vmem, ⟨11, _⟩ => ⟨S1x256, .f32⟩
  | .local _ .vmem, ⟨12, _⟩ => ⟨S1x128, .f32⟩
  | .local _ .vmem, ⟨13, _⟩ => ⟨S1x256, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== AdamSmallDRefIdeal.lean ====
abbrev S1x128 : Shape := ⟨2, ![1, 128]⟩
abbrev S1x256 : Shape := ⟨2, ![1, 256]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x256, .f32⟩
  | .hbm, ⟨2, _⟩ => ⟨S1x128, .f32⟩
  | .hbm, ⟨3, _⟩ => ⟨S1x256, .f32⟩
  | .hbm, ⟨4, _⟩ => ⟨S1x128, .f32⟩
  | .hbm, ⟨5, _⟩ => ⟨S1x256, .f32⟩
  | .hbm, ⟨6, _⟩ => ⟨S1x128, .f32⟩
  | .hbm, ⟨7, _⟩ => ⟨S1x256, .f32⟩
  | .hbm, ⟨8, _⟩ => ⟨S_, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S_, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S_, .f32⟩
  | .hbm, ⟨42, _⟩ => ⟨S1x256, .f32⟩
  | .hbm, ⟨43, _⟩ => ⟨S1x256, .f32⟩
  | .hbm, ⟨44, _⟩ => ⟨S_, .f32⟩
  | .hbm, ⟨45, _⟩ => ⟨S1x256, .f32⟩
  | .hbm, ⟨46, _⟩ => ⟨S1x256, .f32⟩
  | .hbm, ⟨47, _⟩ => ⟨S1x256, .f32⟩
  | .hbm, ⟨48, _⟩ => ⟨S_, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S_, .f32⟩
  | .hbm, ⟨53, _⟩ => ⟨S1x256, .f32⟩
  | .hbm, ⟨54, _⟩ => ⟨S1x256, .f32⟩
  | .hbm, ⟨55, _⟩ => ⟨S1x256, .f32⟩
  | .hbm, ⟨56, _⟩ => ⟨S_, .f32⟩
  | .hbm, ⟨57, _⟩ => ⟨S1x256, .f32⟩
  | .hbm, ⟨58, _⟩ => ⟨S1x256, .f32⟩
  | .hbm, ⟨59, _⟩ => ⟨S_, .f32⟩
  | .hbm, ⟨60, _⟩ => ⟨S1x256, .f32⟩
  | .hbm, ⟨61, _⟩ => ⟨S1x256, .f32⟩
  | .hbm, ⟨62, _⟩ => ⟨S1x256, .f32⟩
  | .hbm, ⟨63, _⟩ => ⟨S_, .f32⟩
  | .hbm, ⟨64, _⟩ => ⟨S1x256, .f32⟩
  | .hbm, ⟨65, _⟩ => ⟨S1x256, .f32⟩
  | .hbm, ⟨66, _⟩ => ⟨S1x256, .f32⟩
  | .hbm, ⟨67, _⟩ => ⟨S_, .f32⟩
  | .hbm, ⟨68, _⟩ => ⟨S1x256, .f32⟩
  | .hbm, ⟨69, _⟩ => ⟨S1x256, .f32⟩
  | .hbm, ⟨70, _⟩ => ⟨S1x256, .f32⟩
  | .hbm, ⟨71, _⟩ => ⟨S_, .f32⟩
  | .hbm, ⟨72, _⟩ => ⟨S1x256, .f32⟩
  | .hbm, ⟨73, _⟩ => ⟨S1x256, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== SumSmall.lean ====
abbrev S8x376x128 : Shape := ⟨3, ![8, 376, 128]⟩
abbrev S376x128 : Shape := ⟨2, ![376, 128]⟩
abbrev S1x376x128 : Shape := ⟨3, ![1, 376, 128]⟩
abbrev S1x1 : Shape := ⟨2, ![1, 1]⟩
abbrev S_ : Shape := ⟨0, ![]⟩
abbrev S16x128 : Shape := ⟨2, ![16, 128]⟩
abbrev S1x2048 : Shape := ⟨2, ![1, 2048]⟩
abbrev S8x128 : Shape := ⟨2, ![8, 128]⟩
abbrev S1x1024 : Shape := ⟨2, ![1, 1024]⟩
abbrev S1x256 : Shape := ⟨2, ![1, 256]⟩
abbrev S24x128 : Shape := ⟨2, ![24, 128]⟩
abbrev S3x1024 : Shape := ⟨2, ![3, 1024]⟩
abbrev S3x128 : Shape := ⟨2, ![3, 128]⟩
abbrev S248x128 : Shape := ⟨2, ![248, 128]⟩
abbrev S31x1024 : Shape := ⟨2, ![31, 1024]⟩
abbrev S31x128 : Shape := ⟨2, ![31, 128]⟩
abbrev S1x128 : Shape := ⟨2, ![1, 128]⟩

abbrev nBuf : Space → Nat
  | .hbm => 31
  | .vmem => 2
  | .smem => 0
  | _ => 0

abbrev bufTy : (tb : Table) → Fin (tcTables nBuf tb) → BufTy
  | .hbm, ⟨0, _⟩ => ⟨S8x376x128, .f32⟩
  | .hbm, ⟨1, _⟩ => ⟨S376x128, .f32⟩
  | .hbm, ⟨2, _⟩ => ⟨S1x1, .f32⟩
  | .hbm, ⟨3, _⟩ => ⟨S_, .f32⟩
  | .hbm, ⟨4, _⟩ => ⟨S16x128, .f32⟩
  | .hbm, ⟨5, _⟩ => ⟨S1x2048, .f32⟩
  | .hbm, ⟨6, _⟩ => ⟨S8x128, .f32⟩
  | .hbm, ⟨7, _⟩ => ⟨S1x1024, .f32⟩
  | .hbm, ⟨8, _⟩ => ⟨S16x128, .f32⟩
  | .hbm, ⟨9, _⟩ => ⟨S1x2048, .f32⟩
  | .hbm, ⟨10, _⟩ => ⟨S16x128, .f32⟩
  | .hbm, ⟨11, _⟩ => ⟨S1x2048, .f32⟩
  | .hbm, ⟨12, _⟩ => ⟨S1x256, .f32⟩
  | .hbm, ⟨13, _⟩ => ⟨S24x128, .f32⟩
  | .hbm, ⟨14, _⟩ => ⟨S3x1024, .f32⟩
  | .hbm, ⟨15, _⟩ => ⟨S3x128, .f32⟩
  | .hbm, ⟨16, _⟩ => ⟨S248x128, .f32⟩
  | .hbm, ⟨17, _⟩ => ⟨S31x1024, .f32⟩
  | .hbm, ⟨18, _⟩ => ⟨S31x128, .f32⟩
  | .hbm, ⟨19, _⟩ => ⟨S8x128, .f32⟩
  | .hbm, ⟨20, _⟩ => ⟨S1x1024, .f32⟩
  | .hbm, ⟨21, _⟩ => ⟨S1x128, .f32⟩
  | .hbm, ⟨22, _⟩ => ⟨S8x128, .f32⟩
  | .hbm, ⟨23, _⟩ => ⟨S1x1024, .f32⟩
  | .hbm, ⟨24, _⟩ => ⟨S1x128, .f32⟩
  | .hbm, ⟨25, _⟩ => ⟨S8x128, .f32⟩
  | .hbm, ⟨26, _⟩ => ⟨S1x1024, .f32⟩
  | .hbm, ⟨27, _⟩ => ⟨S1x128, .f32⟩
  | .hbm, ⟨28, _⟩ => ⟨S16x128, .f32⟩
  | .hbm, ⟨29, _⟩ => ⟨S1x2048, .f32⟩
  | .hbm, ⟨30, _⟩ => ⟨S1x256, .f32⟩
  | .local _ .vmem, ⟨0, _⟩ => ⟨S8x376x128, .f32⟩
  | .local _ .vmem, ⟨1, _⟩ => ⟨S376x128, .f32⟩
  | _, _ => ⟨S8x376x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x376x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S376x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S8x376x128 : Shape := ⟨3, ![8, 376, 128]⟩
abbrev S8x16x128 : Shape := ⟨3, ![8, 16, 128]⟩
abbrev S8x1x2048 : Shape := ⟨3, ![8, 1, 2048]⟩
abbrev S_ : Shape := ⟨0, ![]⟩
abbrev S1x2048 : Shape := ⟨2, ![1, 2048]⟩
abbrev S8x8x128 : Shape := ⟨3, ![8, 8, 128]⟩
abbrev S8x1x1024 : Shape := ⟨3, ![8, 1, 1024]⟩
abbrev S1x1024 : Shape := ⟨2, ![1, 1024]⟩
abbrev S8x1x256 : Shape := ⟨3, ![8, 1, 256]⟩
abbrev S1x256 : Shape := ⟨2, ![1, 256]⟩
abbrev S8x24x128 : Shape := ⟨3, ![8, 24, 128]⟩
abbrev S8x3x1024 : Shape := ⟨3, ![8, 3, 1024]⟩
abbrev S8x3x128 : Shape := ⟨3, ![8, 3, 128]⟩
abbrev S3x128 : Shape := ⟨2, ![3, 128]⟩
abbrev S8x248x128 : Shape := ⟨3, ![8, 248, 128]⟩
abbrev S8x31x1024 : Shape := ⟨3, ![8, 31, 1024]⟩
abbrev S8x31x128 : Shape := ⟨3, ![8, 31, 128]⟩
abbrev S31x128 : Shape := ⟨2, ![31, 128]⟩
abbrev S8x1x128 : Shape := ⟨3, ![8, 1, 128]⟩
abbrev S1x128 : Shape := ⟨2, ![1, 128]⟩
abbrev S8x1x1 : Shape := ⟨3, ![8, 1, 1]⟩
abbrev S8 : Shape := ⟨1, ![8]⟩

abbrev nBuf : Space → Nat
  | .hbm => 52
  | .vmem => 0
  | .smem => 0
  | _ => 0

abbrev bufTy : (tb : Table) → Fin (tcTables nBuf tb) → BufTy
  | .hbm, ⟨0, _⟩ => ⟨S8x376x128, .f32⟩
  | .hbm, ⟨1, _⟩ => ⟨S8x16x128, .f32⟩
  | .hbm, ⟨2, _⟩ => ⟨S8x1x2048, .f32⟩
  | .hbm, ⟨3, _⟩ => ⟨S_, .f32⟩
  | .hbm, ⟨4, _⟩ => ⟨S1x2048, .f32⟩
  | .hbm, ⟨5, _⟩ => ⟨S8x8x128, .f32⟩
  | .hbm, ⟨6, _⟩ => ⟨S8x1x1024, .f32⟩
  | .hbm, ⟨7, _⟩ => ⟨S_, .f32⟩
  | .hbm, ⟨8, _⟩ => ⟨S1x1024, .f32⟩
  | .hbm, ⟨9, _⟩ => ⟨S8x16x128, .f32⟩
  | .hbm, ⟨10, _⟩ => ⟨S8x1x2048, .f32⟩
  | .hbm, ⟨11, _⟩ => ⟨S_, .f32⟩
  | .hbm, ⟨12, _⟩ => ⟨S1x2048, .f32⟩
  | .hbm, ⟨13, _⟩ => ⟨S8x16x128, .f32⟩
  | .hbm, ⟨14, _⟩ => ⟨S8x1x2048, .f32⟩
  | .hbm, ⟨15, _⟩ => ⟨S8x1x256, .f32⟩
  | .hbm, ⟨16, _⟩ => ⟨S_, .f32⟩
  | .hbm, ⟨17, _⟩ => ⟨S1x256, .f32⟩
  | .hbm, ⟨18, _⟩ => ⟨S8x24x128, .f32⟩
  | .hbm, ⟨19, _⟩ => ⟨S8x3x1024, .f32⟩
  | .hbm, ⟨20, _⟩ => ⟨S8x3x128, .f32⟩
  | .hbm, ⟨21, _⟩ => ⟨S_, .f32⟩
  | .hbm, ⟨22, _⟩ => ⟨S3x128, .f32⟩
  | .hbm, ⟨23, _⟩ => ⟨S8x248x128, .f32⟩
  | .hbm, ⟨24, _⟩ => ⟨S8x31x1024, .f32⟩
  | .hbm, ⟨25, _⟩ => ⟨S8x31x128, .f32⟩
  | .hbm, ⟨26, _⟩ => ⟨S_, .f32⟩
  | .hbm, ⟨27, _⟩ => ⟨S31x128, .f32⟩
  | .hbm, ⟨28, _⟩ => ⟨S8x8x128, .f32⟩
  | .hbm, ⟨29, _⟩ => ⟨S8x1x1024, .f32⟩
  | .hbm, ⟨30, _⟩ => ⟨S8x1x128, .f32⟩
  | .hbm, ⟨31, _⟩ => ⟨S_, .f32⟩
  | .hbm, ⟨32, _⟩ => ⟨S1x128, .f32⟩
  | .hbm, ⟨33, _⟩ => ⟨S8x8x128, .f32⟩
  | .hbm, ⟨34, _⟩ => ⟨S8x1x1024, .f32⟩
  | .hbm, ⟨35, _⟩ => ⟨S8x1x128, .f32⟩
  | .hbm, ⟨36, _⟩ => ⟨S_, .f32⟩
  | .hbm, ⟨37, _⟩ => ⟨S1x128, .f32⟩
  | .hbm, ⟨38, _⟩ => ⟨S8x8x128, .f32⟩
  | .hbm, ⟨39, _⟩ => ⟨S8x1x1024, .f32⟩
  | .hbm, ⟨40, _⟩ => ⟨S8x1x128, .f32⟩
  | .hbm, ⟨41, _⟩ => ⟨S_, .f32⟩
  | .hbm, ⟨42, _⟩ => ⟨S1x128, .f32⟩
  | .hbm, ⟨43, _⟩ => ⟨S8x16x128, .f32⟩
  | .hbm, ⟨44, _⟩ => ⟨S8x1x2048, .f32⟩
  | .hbm, ⟨45, _⟩ => ⟨S8x1x256, .f32⟩
  | .hbm, ⟨46, _⟩ => ⟨S_, .f32⟩
  | .hbm, ⟨47, _⟩ => ⟨S1x256, .f32⟩
  | .hbm, ⟨48, _⟩ => ⟨S8x1x1, .f32⟩
  | .hbm, ⟨49, _⟩ => ⟨S8, .f32⟩
  | .hbm, ⟨50, _⟩ => ⟨S_, .f32⟩
  | .hbm, ⟨51, _⟩ => ⟨S_, .f32⟩
  | _, _ => ⟨S8x376x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_4 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_5 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_6 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_7 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_8 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_9 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== PreEven.lean ====
abbrev S2048x2048 : Shape := ⟨2, ![2048, 2048]⟩
abbrev S1x2048 : Shape := ⟨2, ![1, 2048]⟩
abbrev S512x2048 : Shape := ⟨2, ![512, 2048]⟩
abbrev S8x2048 : Shape := ⟨2, ![8, 2048]⟩
abbrev S512 : Shape := ⟨1, ![512]⟩
abbrev S512x1 : Shape := ⟨2, ![512, 1]⟩
abbrev S64x8x2048 : Shape := ⟨3, ![64, 8, 2048]⟩
abbrev S2048 : Shape := ⟨1, ![2048]⟩

abbrev nBuf : Space → Nat
  | .hbm => 6
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S8x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v40 : BitVec 1 := Scalar.cmpi .eq arg0 c3_i32
  let v41 : BitVec 32 := Scalar.extui v40
  let c0_i32_19 : BitVec 32 := 0#32
  let v42 : BitVec 1 := Scalar.cmpi .ne v41 c0_i32_19
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PreEvenRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 48
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x1, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Between.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S256x2048 : Shape := ⟨2, ![256, 2048]⟩
abbrev S8x2048 : Shape := ⟨2, ![8, 2048]⟩
abbrev S256 : Shape := ⟨1, ![256]⟩
abbrev S256x1 : Shape := ⟨2, ![256, 1]⟩
abbrev S32x8x2048 : Shape := ⟨3, ![32, 8, 2048]⟩

abbrev nBuf : Space → Nat
  | .hbm => 27
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S1x2048, .f32⟩
  | .hbm, ⟨25, _⟩ => ⟨S2048x2048, .bf16⟩
  | .hbm, ⟨26, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | .local _ .vmem, ⟨16, _⟩ => ⟨S8x2048, .f32⟩
  | .local _ .vmem, ⟨17, _⟩ => ⟨S8x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v76 : BitVec 1 := Scalar.cmpi .eq arg0 c7_i32
  let v77 : BitVec 32 := Scalar.extui v76
  let c0_i32_35 : BitVec 32 := 0#32
  let v78 : BitVec 1 := Scalar.cmpi .ne v77 c0_i32_35
  v78

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== BetweenRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 96
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S_, .f32⟩
  | .hbm, ⟨74, _⟩ => ⟨S2048, .f32⟩
  | .hbm, ⟨75, _⟩ => ⟨S1x2048, .f32⟩
  | .hbm, ⟨76, _⟩ => ⟨S2048x2048, .f32⟩
  | .hbm, ⟨77, _⟩ => ⟨S2048x2048, .f32⟩
  | .hbm, ⟨78, _⟩ => ⟨S2048x2048, .f32⟩
  | .hbm, ⟨79, _⟩ => ⟨S_, .f32⟩
  | .hbm, ⟨80, _⟩ => ⟨S2048, .f32⟩
  | .hbm, ⟨81, _⟩ => ⟨S2048x1, .f32⟩
  | .hbm, ⟨82, _⟩ => ⟨S2048x2048, .f32⟩
  | .hbm, ⟨83, _⟩ => ⟨S2048x2048, .f32⟩
  | .hbm, ⟨84, _⟩ => ⟨S2048x1, .f32⟩
  | .hbm, ⟨85, _⟩ => ⟨S_, .f32⟩
  | .hbm, ⟨86, _⟩ => ⟨S2048x1, .f32⟩
  | .hbm, ⟨87, _⟩ => ⟨S2048x1, .f32⟩
  | .hbm, ⟨88, _⟩ => ⟨S_, .f32⟩
  | .hbm, ⟨89, _⟩ => ⟨S2048, .f32⟩
  | .hbm, ⟨90, _⟩ => ⟨S2048x2048, .f32⟩
  | .hbm, ⟨91, _⟩ => ⟨S2048x2048, .f32⟩
  | .hbm, ⟨92, _⟩ => ⟨S2048x2048, .f32⟩
  | .hbm, ⟨93, _⟩ => ⟨S2048x2048, .f32⟩
  | .hbm, ⟨94, _⟩ => ⟨S2048x2048, .f32⟩
  | .hbm, ⟨95, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_cst_14 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩

abbrev nD : Nat := 1
abbrev τ : Topo := Topo.v7x

variable {F : FTy → Type} [FloatOps F]
-- ==== TokenLoss.lean ====
abbrev S2048x2048 : Shape := ⟨2, ![2048, 2048]⟩
abbrev S1x2048 : Shape := ⟨2, ![1, 2048]⟩
abbrev S8x128 : Shape := ⟨2, ![8, 128]⟩
abbrev S512x2048 : Shape := ⟨2, ![512, 2048]⟩
abbrev S8x2048 : Shape := ⟨2, ![8, 2048]⟩
abbrev S512 : Shape := ⟨1, ![512]⟩
abbrev S512x1 : Shape := ⟨2, ![512, 1]⟩
abbrev S64x8x2048 : Shape := ⟨3, ![64, 8, 2048]⟩
abbrev S2048 : Shape := ⟨1, ![2048]⟩
abbrev S1 : Shape := ⟨1, ![1]⟩
abbrev S1x1 : Shape := ⟨2, ![1, 1]⟩

abbrev nBuf : Space → Nat
  | .hbm => 8
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S1x2048, .f32⟩
  | .hbm, ⟨3, _⟩ => ⟨S2048x2048, .f32⟩
  | .hbm, ⟨4, _⟩ => ⟨S8x128, .f32⟩
  | .hbm, ⟨5, _⟩ => ⟨S2048x2048, .f32⟩
  | .hbm, ⟨6, _⟩ => ⟨S2048x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S8x128, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | .local _ .vmem, ⟨13, _⟩ => ⟨S8x2048, .f32⟩
  | .local _ .vmem, ⟨14, _⟩ => ⟨S8x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v55 : BitVec 1 := Scalar.cmpi .eq arg0 c3_i32
  let v56 : BitVec 32 := Scalar.extui v55
  let c0_i32_27 : BitVec 32 := 0#32
  let v57 : BitVec 1 := Scalar.cmpi .ne v56 c0_i32_27
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== TokenLossRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S2048, .f32⟩
  | .hbm, ⟨43, _⟩ => ⟨S_, .f32⟩
  | .hbm, ⟨44, _⟩ => ⟨S2048, .f32⟩
  | .hbm, ⟨45, _⟩ => ⟨S2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x2048, .f32⟩
  | .hbm, ⟨59, _⟩ => ⟨S2048x2048, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S8x128, .f32⟩
  | .hbm, ⟨72, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_cst_8 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_12 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_13 : Ref sig .tc := ⟨.hbm, 61, rfl⟩
abbrev main_v43 : Ref sig .tc := ⟨.hbm, 62, rfl⟩
abbrev main_v44 : Ref sig .tc := ⟨.hbm, 63, rfl⟩
abbrev main_cst_14 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== PairAdd.lean ====
abbrev S4x2x2048x896 : Shape := ⟨4, ![4, 2, 2048, 896]⟩
abbrev S4x1x2048x896 : Shape := ⟨4, ![4, 1, 2048, 896]⟩
abbrev S_ : Shape := ⟨0, ![]⟩
abbrev S1 : Shape := ⟨1, ![1]⟩
abbrev S4x2048x896 : Shape := ⟨3, ![4, 2048, 896]⟩
abbrev S1x1x2048x896 : Shape := ⟨4, ![1, 1, 2048, 896]⟩
abbrev S1x2048x896 : Shape := ⟨3, ![1, 2048, 896]⟩
abbrev S2048x896 : Shape := ⟨2, ![2048, 896]⟩

abbrev nBuf : Space → Nat
  | .hbm => 4
  | .vmem => 6
  | .smem => 1
  | _ => 0

abbrev bufTy : (tb : Table) → Fin (tcTables nBuf tb) → BufTy
  | .hbm, ⟨0, _⟩ => ⟨S4x2x2048x896, .bf16⟩
  | .hbm, ⟨1, _⟩ => ⟨S4x1x2048x896, .bf16⟩
  | .hbm, ⟨2, _⟩ => ⟨S_, .i32⟩
  | .hbm, ⟨3, _⟩ => ⟨S4x2048x896, .bf16⟩
  | .local _ .vmem, ⟨0, _⟩ => ⟨S1x1x2048x896, .bf16⟩
  | .local _ .vmem, ⟨1, _⟩ => ⟨S1x1x2048x896, .bf16⟩
  | .local _ .vmem, ⟨2, _⟩ => ⟨S1x1x2048x896, .bf16⟩
  | .local _ .vmem, ⟨3, _⟩ => ⟨S1x1x2048x896, .bf16⟩
  | .local _ .vmem, ⟨4, _⟩ => ⟨S1x2048x896, .bf16⟩
  | .local _ .vmem, ⟨5, _⟩ => ⟨S1x2048x896, .bf16⟩
  | .local _ .smem, ⟨0, _⟩ => ⟨S1, .i32⟩
  | _, _ => ⟨S4x2x2048x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairAddRefIdeal.lean ====
abbrev S4x2x2048x896 : Shape := ⟨4, ![4, 2, 2048, 896]⟩
abbrev S4x1x2048x896 : Shape := ⟨4, ![4, 1, 2048, 896]⟩
abbrev S4x2048x896 : Shape := ⟨3, ![4, 2048, 896]⟩

abbrev nBuf : Space → Nat
  | .hbm => 9
  | .vmem => 0
  | .smem => 0
  | _ => 0

abbrev bufTy : (tb : Table) → Fin (tcTables nBuf tb) → BufTy
  | .hbm, ⟨0, _⟩ => ⟨S4x2x2048x896, .bf16⟩
  | .hbm, ⟨1, _⟩ => ⟨S4x1x2048x896, .bf16⟩
  | .hbm, ⟨2, _⟩ => ⟨S4x1x2048x896, .bf16⟩
  | .hbm, ⟨3, _⟩ => ⟨S4x2048x896, .bf16⟩
  | .hbm, ⟨4, _⟩ => ⟨S4x2048x896, .f32⟩
  | .hbm, ⟨5, _⟩ => ⟨S4x2048x896, .bf16⟩
  | .hbm, ⟨6, _⟩ => ⟨S4x2048x896, .f32⟩
  | .hbm, ⟨7, _⟩ => ⟨S4x2048x896, .f32⟩
  | .hbm, ⟨8, _⟩ => ⟨S4x2048x896, .bf16⟩
  | _, _ => ⟨S4x2x2048x896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== PairOut.lean ====
abbrev S4x2x256x2048 : Shape := ⟨4, ![4, 2, 256, 2048]⟩
abbrev S4x1x256x2048 : Shape := ⟨4, ![4, 1, 256, 2048]⟩
abbrev S_ : Shape := ⟨0, ![]⟩
abbrev S1 : Shape := ⟨1, ![1]⟩
abbrev S4x256x2048 : Shape := ⟨3, ![4, 256, 2048]⟩
abbrev S1x1x256x2048 : Shape := ⟨4, ![1, 1, 256, 2048]⟩
abbrev S1x256x2048 : Shape := ⟨3, ![1, 256, 2048]⟩
abbrev S256x2048 : Shape := ⟨2, ![256, 2048]⟩

abbrev nBuf : Space → Nat
  | .hbm => 4
  | .vmem => 6
  | .smem => 1
  | _ => 0

abbrev bufTy : (tb : Table) → Fin (tcTables nBuf tb) → BufTy
  | .hbm, ⟨0, _⟩ => ⟨S4x2x256x2048, .bf16⟩
  | .hbm, ⟨1, _⟩ => ⟨S4x1x256x2048, .bf16⟩
  | .hbm, ⟨2, _⟩ => ⟨S_, .i32⟩
  | .hbm, ⟨3, _⟩ => ⟨S4x256x2048, .bf16⟩
  | .local _ .vmem, ⟨0, _⟩ => ⟨S1x1x256x2048, .bf16⟩
  | .local _ .vmem, ⟨1, _⟩ => ⟨S1x1x256x2048, .bf16⟩
  | .local _ .vmem, ⟨2, _⟩ => ⟨S1x1x256x2048, .bf16⟩
  | .local _ .vmem, ⟨3, _⟩ => ⟨S1x1x256x2048, .bf16⟩
  | .local _ .vmem, ⟨4, _⟩ => ⟨S1x256x2048, .bf16⟩
  | .local _ .vmem, ⟨5, _⟩ => ⟨S1x256x2048, .bf16⟩
  | .local _ .smem, ⟨0, _⟩ => ⟨S1, .i32⟩
  | _, _ => ⟨S4x2x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairOutRefIdeal.lean ====
abbrev S4x2x256x2048 : Shape := ⟨4, ![4, 2, 256, 2048]⟩
abbrev S4x1x256x2048 : Shape := ⟨4, ![4, 1, 256, 2048]⟩
abbrev S4x256x2048 : Shape := ⟨3, ![4, 256, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4x2x256x2048, .bf16⟩
  | .hbm, ⟨1, _⟩ => ⟨S4x1x256x2048, .bf16⟩
  | .hbm, ⟨2, _⟩ => ⟨S4x1x256x2048, .bf16⟩
  | .hbm, ⟨3, _⟩ => ⟨S4x256x2048, .bf16⟩
  | .hbm, ⟨4, _⟩ => ⟨S4x256x2048, .f32⟩
  | .hbm, ⟨5, _⟩ => ⟨S4x256x2048, .bf16⟩
  | .hbm, ⟨6, _⟩ => ⟨S4x256x2048, .f32⟩
  | .hbm, ⟨7, _⟩ => ⟨S4x256x2048, .f32⟩
  | .hbm, ⟨8, _⟩ => ⟨S4x256x2048, .bf16⟩
  | _, _ => ⟨S4x2x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== PairPool.lean ====
abbrev S4x2x128x256 : Shape := ⟨4, ![4, 2, 128, 256]⟩
abbrev S4x1x128x256 : Shape := ⟨4, ![4, 1, 128, 256]⟩
abbrev S_ : Shape := ⟨0, ![]⟩
abbrev S1 : Shape := ⟨1, ![1]⟩
abbrev S4x128x256 : Shape := ⟨3, ![4, 128, 256]⟩
abbrev S1x1x128x256 : Shape := ⟨4, ![1, 1, 128, 256]⟩
abbrev S1x128x256 : Shape := ⟨3, ![1, 128, 256]⟩
abbrev S128x256 : Shape := ⟨2, ![128, 256]⟩

abbrev nBuf : Space → Nat
  | .hbm => 4
  | .vmem => 6
  | .smem => 1
  | _ => 0

abbrev bufTy : (tb : Table) → Fin (tcTables nBuf tb) → BufTy
  | .hbm, ⟨0, _⟩ => ⟨S4x2x128x256, .bf16⟩
  | .hbm, ⟨1, _⟩ => ⟨S4x1x128x256, .bf16⟩
  | .hbm, ⟨2, _⟩ => ⟨S_, .i32⟩
  | .hbm, ⟨3, _⟩ => ⟨S4x128x256, .bf16⟩
  | .local _ .vmem, ⟨0, _⟩ => ⟨S1x1x128x256, .bf16⟩
  | .local _ .vmem, ⟨1, _⟩ => ⟨S1x1x128x256, .bf16⟩
  | .local _ .vmem, ⟨2, _⟩ => ⟨S1x1x128x256, .bf16⟩
  | .local _ .vmem, ⟨3, _⟩ => ⟨S1x1x128x256, .bf16⟩
  | .local _ .vmem, ⟨4, _⟩ => ⟨S1x128x256, .bf16⟩
  | .local _ .vmem, ⟨5, _⟩ => ⟨S1x128x256, .bf16⟩
  | .local _ .smem, ⟨0, _⟩ => ⟨S1, .i32⟩
  | _, _ => ⟨S4x2x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairPoolRefIdeal.lean ====
abbrev S4x2x128x256 : Shape := ⟨4, ![4, 2, 128, 256]⟩
abbrev S4x1x128x256 : Shape := ⟨4, ![4, 1, 128, 256]⟩
abbrev S4x128x256 : Shape := ⟨3, ![4, 128, 256]⟩

abbrev nBuf : Space → Nat
  | .hbm => 9
  | .vmem => 0
  | .smem => 0
  | _ => 0

abbrev bufTy : (tb : Table) → Fin (tcTables nBuf tb) → BufTy
  | .hbm, ⟨0, _⟩ => ⟨S4x2x128x256, .bf16⟩
  | .hbm, ⟨1, _⟩ => ⟨S4x1x128x256, .bf16⟩
  | .hbm, ⟨2, _⟩ => ⟨S4x1x128x256, .bf16⟩
  | .hbm, ⟨3, _⟩ => ⟨S4x128x256, .bf16⟩
  | .hbm, ⟨4, _⟩ => ⟨S4x128x256, .f32⟩
  | .hbm, ⟨5, _⟩ => ⟨S4x128x256, .bf16⟩
  | .hbm, ⟨6, _⟩ => ⟨S4x128x256, .f32⟩
  | .hbm, ⟨7, _⟩ => ⟨S4x128x256, .f32⟩
  | .hbm, ⟨8, _⟩ => ⟨S4x128x256, .bf16⟩
  | _, _ => ⟨S4x2x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== PairInEven.lean ====
abbrev S4x1x2048x768 : Shape := ⟨4, ![4, 1, 2048, 768]⟩
abbrev S_ : Shape := ⟨0, ![]⟩
abbrev S1 : Shape := ⟨1, ![1]⟩
abbrev S4x2048x768 : Shape := ⟨3, ![4, 2048, 768]⟩
abbrev S1x1x2048x768 : Shape := ⟨4, ![1, 1, 2048, 768]⟩
abbrev S1x2048x768 : Shape := ⟨3, ![1, 2048, 768]⟩
abbrev S2048x768 : Shape := ⟨2, ![2048, 768]⟩

abbrev nBuf : Space → Nat
  | .hbm => 4
  | .vmem => 6
  | .smem => 1
  | _ => 0

abbrev bufTy : (tb : Table) → Fin (tcTables nBuf tb) → BufTy
  | .hbm, ⟨0, _⟩ => ⟨S4x1x2048x768, .bf16⟩
  | .hbm, ⟨1, _⟩ => ⟨S4x1x2048x768, .bf16⟩
  | .hbm, ⟨2, _⟩ => ⟨S_, .i32⟩
  | .hbm, ⟨3, _⟩ => ⟨S4x2048x768, .bf16⟩
  | .local _ .vmem, ⟨0, _⟩ => ⟨S1x1x2048x768, .bf16⟩
  | .local _ .vmem, ⟨1, _⟩ => ⟨S1x1x2048x768, .bf16⟩
  | .local _ .vmem, ⟨2, _⟩ => ⟨S1x1x2048x768, .bf16⟩
  | .local _ .vmem, ⟨3, _⟩ => ⟨S1x1x2048x768, .bf16⟩
  | .local _ .vmem, ⟨4, _⟩ => ⟨S1x2048x768, .bf16⟩
  | .local _ .vmem, ⟨5, _⟩ => ⟨S1x2048x768, .bf16⟩
  | .local _ .smem, ⟨0, _⟩ => ⟨S1, .i32⟩
  | _, _ => ⟨S4x1x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairInEvenRefIdeal.lean ====
abbrev S4x1x2048x768 : Shape := ⟨4, ![4, 1, 2048, 768]⟩
abbrev S4x2048x768 : Shape := ⟨3, ![4, 2048, 768]⟩

abbrev nBuf : Space → Nat
  | .hbm => 8
  | .vmem => 0
  | .smem => 0
  | _ => 0

abbrev bufTy : (tb : Table) → Fin (tcTables nBuf tb) → BufTy
  | .hbm, ⟨0, _⟩ => ⟨S4x1x2048x768, .bf16⟩
  | .hbm, ⟨1, _⟩ => ⟨S4x1x2048x768, .bf16⟩
  | .hbm, ⟨2, _⟩ => ⟨S4x2048x768, .bf16⟩
  | .hbm, ⟨3, _⟩ => ⟨S4x2048x768, .f32⟩
  | .hbm, ⟨4, _⟩ => ⟨S4x2048x768, .bf16⟩
  | .hbm, ⟨5, _⟩ => ⟨S4x2048x768, .f32⟩
  | .hbm, ⟨6, _⟩ => ⟨S4x2048x768, .f32⟩
  | .hbm, ⟨7, _⟩ => ⟨S4x2048x768, .bf16⟩
  | _, _ => ⟨S4x1x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== PostNorm.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PostNormRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Proof.SbIdeal.Base.lean ====
/- What the two cases of the kernel's body are stated over: the conditions of its branches and the trip
   counts of its two loops as facts about the grid point, the points at which a result is not stored, and the
   memrefs the body is called with. -/
module

public import proofs.«01_k».proof.Proof.Gen.KernelIdeal.Frame
public import proofs.«01_k».proof.Proof.Gen.KernelIdeal.Loops

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The branches and the loops, over the grid points

The grid has 8 heads and, in each, 2 blocks of 1024 query rows; the second coordinate runs fastest. -/

/-- The first branch (clear the accumulators) at the point `i`. -/
abbrev cond0_0 (i : grid0.Coords) : Prop := (Scalar.cmpi .ne (Scalar.extui (Scalar.cmpi .eq (BitVec.ofNat 32 (i 1).val) 0#32)) 0#32) = 1#1

/-- It is taken at the first block of query rows of a head. -/
theorem hcond0_0 : ∀ t : Fin cfg0.N, cond0_0 (grid0.coords t) ↔ t.val % 2 = 0 :=
  (fun t => by
    have ht : t.val < 16 := Nat.lt_of_lt_of_eq t.isLt N_0
    have e1 : (grid0.coords t 1).val = t.val / 1 % 2 := Pipeline.Grid.coords_val t 1 (by decide) rfl
    simp only [cond0_0, e1]
    word_cmp
   : ∀ t : Fin grid0.N, cond0_0 (grid0.coords t) ↔ t.val % 2 = 0)

/-- The second branch (store the gradients of k and v) at the point `i`. -/
abbrev cond0_1 (i : grid0.Coords) : Prop := k0_cond2 i = 1#1

/-- It is taken at the last block of query rows of a head. -/
theorem hcond0_1 : ∀ t : Fin cfg0.N, cond0_1 (grid0.coords t) ↔ t.val % 2 = 1 :=
  (fun t => by
    have ht : t.val < 16 := Nat.lt_of_lt_of_eq t.isLt N_0
    have e1 : (grid0.coords t 1).val = t.val / 1 % 2 := Pipeline.Grid.coords_val t 1 (by decide) rfl
    simp only [cond0_1, k0_cond2, e1]
    word_cmp
   : ∀ t : Fin grid0.N, cond0_1 (grid0.coords t) ↔ t.val % 2 = 1)

/-- The loop over the earlier key groups makes no trip at the first block of query rows, -/
theorem trips1_zero : ∀ i : grid0.Coords, cond0_0 i → (k0_t1_loop i).trips = 0 := by decide +kernel
/-- and one at the second. -/
theorem trips1_one : ∀ i : grid0.Coords, ¬cond0_0 i → (k0_t1_loop i).trips = 1 := by decide +kernel
/-- The loop that would take up what is left over makes none. -/
theorem trips2_zero : ∀ i : grid0.Coords, (k0_t2_loop i).trips = 0 := fun i => Nat.le_zero.mp (k0_t2_abs i).2.1

/-! ## Where a window is idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
/-- The gradient of q is stored at every point. -/
theorem liveAt0_6 : ∀ t : Fin cfg0.N, cfg0.idle 6 (grid0.coords t) = false := by decide +kernel
/-- The gradients of k and of v are not stored, and not written back, at the first block of a head, -/
theorem idleAt0_7_A : ∀ t : Fin cfg0.N, cond0_0 (grid0.coords t) → cfg0.idle 7 (grid0.coords t) = true := by decide +kernel
theorem noFlush0_7_A : ∀ t : Fin cfg0.N, cond0_0 (grid0.coords t) → (cfg0.win 7).flush t = false := by decide +kernel
theorem idleAt0_8_A : ∀ t : Fin cfg0.N, cond0_0 (grid0.coords t) → cfg0.idle 8 (grid0.coords t) = true := by decide +kernel
theorem noFlush0_8_A : ∀ t : Fin cfg0.N, cond0_0 (grid0.coords t) → (cfg0.win 8).flush t = false := by decide +kernel
/-- and are stored at the second. -/
theorem liveAt0_7_B : ∀ t : Fin cfg0.N, ¬cond0_0 (grid0.coords t) → cfg0.idle 7 (grid0.coords t) = false := by decide +kernel
theorem liveAt0_8_B : ∀ t : Fin cfg0.N, ¬cond0_0 (grid0.coords t) → cfg0.idle 8 (grid0.coords t) = false := by decide +kernel

/-! ## The memrefs the body is called with -/

abbrev VO0_6 : View sig .tc .vmem S1024x128 .bf16 := (Memref.whole cc0_stg6_0 : Memref sig .tc .vmem S1024x128 .bf16).view
abbrev VO0_7 : View sig .tc .vmem S2048x128 .bf16 := (Memref.whole cc0_stg7_0 : Memref sig .tc .vmem S2048x128 .bf16).view
abbrev VO0_8 : View sig .tc .vmem S2048x128 .bf16 := (Memref.whole cc0_stg8_0 : Memref sig .tc .vmem S2048x128 .bf16).view
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x128 .bf16 := win0_8.stage (cfg0.slots t 8)
abbrev hs0_8 (t : Fin cfg0.N) : (ms0_8 t).IsWhole := hstage0_8 ((cfg0.slots t 8).cast nbuf0_8)
/-- The two accumulators, of the gradient of k and of v. -/
abbrev scM0_0 : Memref sig .tc .vmem S2048x128 .f32 := Memref.whole cc0_scratch0
abbrev scM0_1 : Memref sig .tc .vmem S2048x128 .f32 := Memref.whole cc0_scratch1

/-- What a region starts and ends with: both accumulators at some contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Sb

end
-- ==== Proof.SbIdeal.RunA.lean ====
/- The body at the first block of query rows of a head: the accumulators are cleared, the one step over the
   key group that crosses the diagonal is made, and the gradient of q is stored. -/
module

public import proofs.«01_k».proof.Proof.SbIdeal.Base

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body leaves at a first block, as the pieces it stores (last first): of the gradient of q (`L6`), and of the
    two accumulators (`LS0`, `LS1`), whatever these held before. The buffers of the gradients of k and v are as they were. -/
noncomputable def kernelRun0_A (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1x2x1024x1024 .bf16) (harg7 : arg7.IsWhole) (arg8 : Memref sig .tc .vmem S1024x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .f32) (harg11 : arg11.IsWhole) (arg12 : Memref sig .tc .vmem S2048x128 .f32) (harg12 : arg12.IsWhole) (hc0 : cond0_0 i) (hc1 : ¬cond0_1 i)
    (x0 : Vec F S1024x128 .bf16) (x1 : Vec F S2048x128 .bf16) (x2 : Vec F S2048x128 .bf16) (x3 : Vec F S1024x128 .f32) (x4 : Vec F S1024x128 .bf16) (x5 : Vec F S1x2x1024x1024 .bf16) :
    Σ' (L6 : List (View.Piece (Elt F) S1024x128 .bf16)) (LS0 : List (View.Piece (Elt F) S2048x128 .f32)), { LS1 : List (View.Piece (Elt F) S2048x128 .f32) //
      ∀ (xi7 : Vec F S2048x128 .bf16) (xi8 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0_sb_bwd i arg2 harg2 arg3 harg3 arg4 harg4 arg5 harg5 arg6 harg6 arg7 harg7 arg8 harg8 arg9 harg9 arg10 harg10 arg11 harg11 arg12 harg12) K } := by
  have htr1 : (k0_t1_loop i).trips = 0 := trips1_zero i hc0
  have htr2 : (k0_t2_loop i).trips = 0 := trips2_zero i
  refine ⟨?_, ?_, ?_, fun xi7 xi8 E K => ?run⟩
  case run =>
    simp only [cc0_sb_bwd_eq_skeleton]; unfold cc0_sb_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.KernelIdeal.Sb

end
-- ==== Proof.SbIdeal.RunB.lean ====
/- The body at the second block of query rows of a head: the step over the key group that crosses the
   diagonal, the trip over the earlier key group, and all three gradients stored. -/
module

public import proofs.«01_k».proof.Proof.SbIdeal.RunA

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body leaves at a second block, as the pieces it stores (last first): of the gradients of q, k and v (`L6`,
    `L7`, `L8`), and of the two accumulators (`LS0`, `LS1`) over what the first block left in them (`xs0`, `xs1`). -/
noncomputable def kernelRun0_B (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S1024x128 .f32) (harg5 : arg5.IsWhole) (arg6 : Memref sig .tc .vmem S1024x128 .bf16) (harg6 : arg6.IsWhole) (arg7 : Memref sig .tc .vmem S1x2x1024x1024 .bf16) (harg7 : arg7.IsWhole) (arg8 : Memref sig .tc .vmem S1024x128 .bf16) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x128 .f32) (harg11 : arg11.IsWhole) (arg12 : Memref sig .tc .vmem S2048x128 .f32) (harg12 : arg12.IsWhole) (hc0 : ¬cond0_0 i) (hc1 : cond0_1 i)
    (x0 : Vec F S1024x128 .bf16) (x1 : Vec F S2048x128 .bf16) (x2 : Vec F S2048x128 .bf16) (x3 : Vec F S1024x128 .f32) (x4 : Vec F S1024x128 .bf16) (x5 : Vec F S1x2x1024x1024 .bf16) (xs0 : Vec F S2048x128 .f32) (xs1 : Vec F S2048x128 .f32) :
    Σ' (L6 : List (View.Piece (Elt F) S1024x128 .bf16)) (L7 : List (View.Piece (Elt F) S2048x128 .bf16)) (L8 : List (View.Piece (Elt F) S2048x128 .bf16)) (LS0 : List (View.Piece (Elt F) S2048x128 .f32)), { LS1 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (arg11.view.loc (c : Thread nD τ) ↦[arg11.view.set]{fullShare} arg11.view.writes (Elt F) (harg11.unread xs0) LS0) ∗ (arg12.view.loc (c : Thread nD τ) ↦[arg12.view.set]{fullShare} arg12.view.writes (Elt F) (harg12.unread xs1) LS1)) -∗ K ⟨⟩))
          ⊢ wp frame (wpE (defs₀ (F := F)) Variants.none c none) E (cc0_sb_bwd i arg2 harg2 arg3 harg3 arg4 harg4 arg5 harg5 arg6 harg6 arg7 harg7 arg8 harg8 arg9 harg9 arg10 harg10 arg11 harg11 arg12 harg12) K } := by
  have htr2 : (k0_t2_loop i).trips = 0 := trips2_zero i
  refine ⟨?_, ?_, ?_, ?_, ?_, fun E K => ?run⟩
  case run =>
    simp only [cc0_sb_bwd_eq_skeleton]; unfold cc0_sb_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg11.eq_unread hfs0; obtain rfl := harg12.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [HS0]; · iexact HS0
    iexact HS1

end Cert.KernelIdeal.Sb

end
-- ==== Proof.SbIdeal.Frame.lean ====
/- What the body leaves at every grid point, the obligation of the pipeline's body, the run of the whole program
   and its frame: it terminates, its arguments end as they were, and every semaphore at zero. -/
module

public import proofs.«01_k».proof.Proof.SbIdeal.RunB
public import Idealize.ShloMosaic.Lib.Claim

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem c1_of_even {t : Fin cfg0.N} (h : t.val % 2 = 0) : ¬cond0_1 (grid0.coords t) := fun h1 => by
  have := (hcond0_1 t).mp h1; omega
theorem c0_of_odd {t : Fin cfg0.N} (h : ¬t.val % 2 = 0) : ¬cond0_0 (grid0.coords t) := fun h0 => h ((hcond0_0 t).mp h0)
theorem c1_of_odd {t : Fin cfg0.N} (h : ¬t.val % 2 = 0) : cond0_1 (grid0.coords t) := (hcond0_1 t).mpr (by omega)

/-- The point before `t`. -/
abbrev prev (t : Fin cfg0.N) : Fin cfg0.N := ⟨t.val - 1, Nat.lt_of_le_of_lt (Nat.sub_le _ _) t.isLt⟩
theorem prev_even {t : Fin cfg0.N} (h : ¬t.val % 2 = 0) : (prev t).val % 2 = 0 := by
  show (t.val - 1) % 2 = 0; omega

/-- The first block's run at the point `t`'s memrefs and input blocks. -/
abbrev runA (c : Dev nD) (t : Fin cfg0.N) (h : t.val % 2 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h) (c1_of_even h) (iblk m c 0 t) (iblk m c 1 t) (iblk m c 2 t) (iblk m c 3 t) (iblk m c 4 t) (iblk m c 5 t)

/-- The contents the first block leaves in the two accumulators. -/
def scrA (c : Dev nD) (t : Fin cfg0.N) (h : t.val % 2 = 0) : Vec F S2048x128 .f32 × Vec F S2048x128 .f32 :=
  (scM0_0.view.read (Elt F) (scM0_0.view.writes (Elt F) scM0_0.view.junk (runA m c t h).2.1),
   scM0_1.view.read (Elt F) (scM0_1.view.writes (Elt F) scM0_1.view.junk (runA m c t h).2.2.1))

/-- The second block's run at the point `t`, over what the point before left in the accumulators. -/
abbrev runB (c : Dev nD) (t : Fin cfg0.N) (h : ¬t.val % 2 = 0) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (c0_of_odd h) (c1_of_odd h) (iblk m c 0 t) (iblk m c 1 t) (iblk m c 2 t) (iblk m c 3 t) (iblk m c 4 t) (iblk m c 5 t)
    (scrA m c (prev t) (prev_even h)).1 (scrA m c (prev t) (prev_even h)).2

/-- The contents of the two accumulators after the point `t`. -/
def scr (c : Dev nD) (t : Fin cfg0.N) : Vec F S2048x128 .f32 × Vec F S2048x128 .f32 :=
  if h : t.val % 2 = 0 then scrA m c t h
  else (scM0_0.view.read (Elt F) (scM0_0.view.writes (Elt F) ((Memref.isWhole_whole cc0_scratch0).unread (scrA m c (prev t) (prev_even h)).1) (runB m c t h).2.2.2.1),
    scM0_1.view.read (Elt F) (scM0_1.view.writes (Elt F) ((Memref.isWhole_whole cc0_scratch1).unread (scrA m c (prev t) (prev_even h)).2) (runB m c t h).2.2.2.2.1))

/-- The block of the gradient of q stored at the point `t`. -/
def outQ (c : Dev nD) (t : Fin cfg0.N) : Vec F S1024x128 .bf16 :=
  if h : t.val % 2 = 0 then VO0_6.read (Elt F) (VO0_6.writes (Elt F) VO0_6.junk (runA m c t h).1)
  else VO0_6.read (Elt F) (VO0_6.writes (Elt F) VO0_6.junk (runB m c t h).1)

/-- The gradient of k stored at the point `t`, a second block (nothing is stored at a first one). -/
def outK (c : Dev nD) (t : Fin cfg0.N) : Vec F S2048x128 .bf16 :=
  if h : t.val % 2 = 0 then VO0_7.read (Elt F) VO0_7.junk
  else VO0_7.read (Elt F) (VO0_7.writes (Elt F) VO0_7.junk (runB m c t h).2.1)

/-- The gradient of v stored at the point `t`, a second block. -/
def outV (c : Dev nD) (t : Fin cfg0.N) : Vec F S2048x128 .bf16 :=
  if h : t.val % 2 = 0 then VO0_8.read (Elt F) VO0_8.junk
  else VO0_8.read (Elt F) (VO0_8.writes (Elt F) VO0_8.junk (runB m c t h).2.2.1)

/-! ## The stores cover what they fill -/

theorem coverA_6 (c : Dev nD) (t : Fin cfg0.N) (h : t.val % 2 = 0) (y : S1024x128.Idx) : ∃ pc ∈ (runA m c t h).1, y ∈ pc.1.set :=
  View.cover_of_tiledL (runA m c t h).1 S128x128.size (by sl_kernel_rfl) y
theorem coverB_6 (c : Dev nD) (t : Fin cfg0.N) (h : ¬t.val % 2 = 0) (y : S1024x128.Idx) : ∃ pc ∈ (runB m c t h).1, y ∈ pc.1.set :=
  View.cover_of_tiledL (runB m c t h).1 S128x128.size (by sl_kernel_rfl) y
theorem coverB_7 (c : Dev nD) (t : Fin cfg0.N) (h : ¬t.val % 2 = 0) (y : S2048x128.Idx) : ∃ pc ∈ (runB m c t h).2.1, y ∈ pc.1.set :=
  View.cover_of_tiledL (runB m c t h).2.1 S2048x128.size (by sl_kernel_rfl) y
theorem coverB_8 (c : Dev nD) (t : Fin cfg0.N) (h : ¬t.val % 2 = 0) (y : S2048x128.Idx) : ∃ pc ∈ (runB m c t h).2.2.1, y ∈ pc.1.set :=
  View.cover_of_tiledL (runB m c t h).2.2.1 S2048x128.size (by sl_kernel_rfl) y
/-- The clearing of an accumulator covers it. -/
theorem coverA_9 (c : Dev nD) (t : Fin cfg0.N) (h : t.val % 2 = 0) (y : S2048x128.Idx) : ∃ pc ∈ (runA m c t h).2.1, y ∈ pc.1.set :=
  View.cover_of_wholeMem (runA m c t h).2.1 (by sl_whole_mem) y
theorem coverA_10 (c : Dev nD) (t : Fin cfg0.N) (h : t.val % 2 = 0) (y : S2048x128.Idx) : ∃ pc ∈ (runA m c t h).2.2.1, y ∈ pc.1.set :=
  View.cover_of_wholeMem (runA m c t h).2.2.1 (by sl_whole_mem) y

/-! ## The pipeline's proof data -/

/-- What is held between the points: before the first, both accumulators at anything; then at what the last point left. -/
def PhiS (c : Dev nD) : (n : ℕ) → n ≤ cfg0.N → sProp 𝕄
  | 0, _ => Pipeline.ΦA spec0 c
  | n + 1, hn => iprop(iprop(owns (c : Thread nD τ) scM0_0 fullShare (scr m c ⟨n, hn⟩).1 ∗ owns (c : Thread nD τ) scM0_1 fullShare (scr m c ⟨n, hn⟩).2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (t : Fin cfg0.N) :
    PhiS m c (t.val + 1) t.isLt = iprop(iprop(owns (c : Thread nD τ) scM0_0 fullShare (scr m c t).1 ∗ owns (c : Thread nD τ) scM0_1 fullShare (scr m c t).2) ∗ (∃ r, prngReg c r)) := rfl
theorem PhiS_pos (c : Dev nD) (n : ℕ) (h : n ≤ cfg0.N) (hz : n ≠ 0) :
    PhiS m c n h = iprop(iprop(owns (c : Thread nD τ) scM0_0 fullShare (scr m c ⟨n - 1, by omega⟩).1 ∗ owns (c : Thread nD τ) scM0_1 fullShare (scr m c ⟨n - 1, by omega⟩).2) ∗ (∃ r, prngReg c r)) := by
  cases n with
  | zero => exact absurd rfl hz
  | succ n => rfl

/-- What any of these gives at least: both accumulators at some contents. -/
theorem PhiS_forget (c : Dev nD) (n : ℕ) (h : n ≤ cfg0.N) :
    PhiS m c n h ⊢ iprop(iprop((∃ d, owns (c : Thread nD τ) scM0_0 fullShare d) ∗ (∃ d, owns (c : Thread nD τ) scM0_1 fullShare d)) ∗ (∃ r, prngReg c r)) := by
  by_cases hz : n = 0
  · rw [PhiS_zero m c n h hz, PhiA0_eq]
  · rw [PhiS_pos m c n h hz]
    iintro ⟨⟨HS0, HS1⟩, Hg⟩
    isplitl [HS0 HS1]
    · isplitl [HS0]
      · iexists _; iexact HS0
      iexists _; iexact HS1
    iexact Hg

/-- The arrays as the region finds them, each window's buffer after each point, and what is held between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outQ m c t
    | ⟨7, _⟩ => outK m c t
    | ⟨8, _⟩ => outV m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outQ m c t := by dsimp only [dats]
theorem after0_7 (c : Dev nD) (t : Fin cfg0.N) : (dats m 0 c).after 7 t = outK m c t := by dsimp only [dats]
theorem after0_8 (c : Dev nD) (t : Fin cfg0.N) : (dats m 0 c).after 8 t = outV m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body's obligation -/

/-- What the body is called with at the point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves0_4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]
theorem leaves0_5 (c : Dev nD) (t : Fin cfg0.N) : (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [liveAt0_5 t], after0_5]
theorem leaves0_6 (c : Dev nD) (t : Fin cfg0.N) : (dats m 0 c).leavesExact 6 t = owns (c : Thread nD τ) (ms0_6 t) fullShare (outQ m c t) := by
  rw [show (dats m 0 c).leavesExact 6 t = owns (c : Thread nD τ) (ms0_6 t) fullShare ((dats m 0 c).after 6 t) from by
    unfold Dat.leavesExact; rw [liveAt0_6 t], after0_6]
theorem leaves0_7_B (c : Dev nD) (t : Fin cfg0.N) (h : ¬t.val % 2 = 0) : (dats m 0 c).leavesExact 7 t = owns (c : Thread nD τ) (ms0_7 t) fullShare (outK m c t) := by
  rw [show (dats m 0 c).leavesExact 7 t = owns (c : Thread nD τ) (ms0_7 t) fullShare ((dats m 0 c).after 7 t) from by
    unfold Dat.leavesExact; rw [liveAt0_7_B t (c0_of_odd h)], after0_7]
theorem leaves0_8_B (c : Dev nD) (t : Fin cfg0.N) (h : ¬t.val % 2 = 0) : (dats m 0 c).leavesExact 8 t = owns (c : Thread nD τ) (ms0_8 t) fullShare (outV m c t) := by
  rw [show (dats m 0 c).leavesExact 8 t = owns (c : Thread nD τ) (ms0_8 t) fullShare ((dats m 0 c).after 8 t) from by
    unfold Dat.leavesExact; rw [liveAt0_8_B t (c0_of_odd h)], after0_8]

set_option maxHeartbeats 4800000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, leaves0_0, leaves0_1, leaves0_2, leaves0_3, leaves0_4, leaves0_5, leaves0_6]
  rw [show (dats m 0 c).owesAt () t.succ = (dats m 0 c).owesAt () t.castSucc from rfl]
  rw [show (dats m 0 c).Φ t.succ = PhiS m c (t.val + 1) t.isLt from rfl, PhiS_succ, PhiS_castSucc m c t]
  by_cases h : t.val % 2 = 0
  · rw [Dat.leavesExact_idle (dats m 0 c) 7 t (idleAt0_7_A t ((hcond0_0 t).mpr h)) (noFlush0_7_A t ((hcond0_0 t).mpr h)),
      Dat.leavesExact_idle (dats m 0 c) 8 t (idleAt0_8_A t ((hcond0_0 t).mpr h)) (noFlush0_8_A t ((hcond0_0 t).mpr h))]
    rw [show scr m c t = scrA m c t h from dif_pos h, show outQ m c t = VO0_6.read (Elt F) (VO0_6.writes (Elt F) VO0_6.junk (runA m c t h).1) from dif_pos h]
    unfold scrA; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ' := (PhiS_forget m c _ _) $$ HΦ
    icases HΦ' with ⟨⟨HS0, HS1⟩, Hg⟩
    iapply ((runA m c t h).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (coverA_9 m c t h)
        unfold owns; iexists _; isplitr
        swap; · iexact HS1
        ipureintro; exact View.read_writes_of_cover _ _ _ _ _ (coverA_10 m c t h)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverA_6 m c t h)
    isplitl [H7]
    · iexists _; iexact H7
    iexists _; iexact H8
  · rw [leaves0_7_B m c t h, leaves0_8_B m c t h, PhiS_pos m c t.val _ (by rintro h0; rw [h0] at h; exact h rfl)]
    rw [show scr m c t = _ from dif_neg h, show outQ m c t = VO0_6.read (Elt F) (VO0_6.writes (Elt F) VO0_6.junk (runB m c t h).1) from dif_neg h,
      show outK m c t = VO0_7.read (Elt F) (VO0_7.writes (Elt F) VO0_7.junk (runB m c t h).2.1) from dif_neg h,
      show outV m c t = VO0_8.read (Elt F) (VO0_8.writes (Elt F) VO0_8.junk (runB m c t h).2.2.1) from dif_neg h]
    rw [show scr m c ⟨t.val - 1, _⟩ = scrA m c (prev t) (prev_even h) from dif_pos (prev_even h)]
    dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB m c t h).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    iintro ⟨H0, H1, H2, H3, H4, H5, ⟨%e6, H6⟩, ⟨%e7, H7⟩, ⟨%e8, H8⟩, HS0, HS1⟩
    isplitl [HS0 HS1 Hg]
    · isplitl [HS0 HS1]
      · isplitl [HS0]
        · unfold owns; iexists _; isplitr
          swap; · iexact HS0
          ipureintro; rfl
        unfold owns; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverB_6 m c t h)
    isplitl [H7]
    · unfold owns; iexists _; isplitr
      swap; · iexact H7
      ipureintro; exact View.read_writes_of_cover _ _ _ _ _ (coverB_7 m c t h)
    unfold owns; iexists _; isplitr
    swap; · iexact H8
    ipureintro; exact View.read_writes_of_cover _ _ _ _ _ (coverB_8 m c t h)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [PhiA0_eq, show (dats m 0 c).Φ (Fin.last cfg0.N) = PhiS m c cfg0.N le_rfl from rfl]; exact PhiS_forget m c _ _

/-! ## The run and the frame -/

set_option backward.isDefEq.respectTransparency.types false in
/-- Every execution terminates, with every array of the pipeline as computed from the proof data, every other array as
    the region found it, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The program terminates with its arguments unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Sb

end
-- ==== Proof.Products.Sums.lean ====
/- The three products of matrices that a linear layer and its backward pass take, each as a sum over the contracted
   coordinate, and the operations that compute them read at an index, over the extended reals. -/
module

public import Idealize.ShloMosaic.Lib.MatmulPlain
public import Idealize.ShloMosaic.Lib.StackMember
public import Idealize.ShloMosaic.Lib.VecWindow
public import Idealize.ShloMosaic.Lib.Pipeline.FrameBody
public import Idealize.ShloMosaic.Lib.Pipeline.Value
public import Idealize.ShloMosaic.PureOps.Ideal.Laws

@[expose] public section

noncomputable section

open scoped BigOperators

namespace Cert.Products

open Idealize.ShloMosaic Idealize.ShloMosaic.ValueIdx

/-- A matrix of extended reals. -/
abbrev Mat (M N : Nat) : Type := (⟨2, ![M, N]⟩ : Shape).Idx → EReal

/-- `l · r`. -/
def nn {M K N : Nat} (l : Mat M K) (r : Mat K N) : Mat M N := fun i => ∑ k : Fin K, l (ix2 (i 0) k) * r (ix2 k (i 1))
/-- `l · rᵀ`. -/
def nt {M K N : Nat} (l : Mat M K) (r : Mat N K) : Mat M N := fun i => ∑ k : Fin K, l (ix2 (i 0) k) * r (ix2 (i 1) k)
/-- `lᵀ · r`. -/
def tn {M K N : Nat} (l : Mat K M) (r : Mat K N) : Mat M N := fun i => ∑ k : Fin K, l (ix2 k (i 0)) * r (ix2 k (i 1))

section Dims
variable {M K N : Nat}

/-- The dimension numbers of `l · rᵀ` for any proof that they are well formed: the index of the left operand … -/
theorem nt_lhs (w : DotDims.WF ⟨2, ![M, K]⟩ ⟨2, ![N, K]⟩ ⟨2, ![M, N]⟩ [1] [1] [0] [0] [] []) (a : Fin M) (b : Fin N) (k : Fin K) :
    (⟨[1], [1], [0], [0], [], [], w⟩ : DotDims _ _ _).lhsIdx (ix2 a b)
      ((contrEquiv1 (⟨[1], [1], [0], [0], [], [], w⟩ : DotDims _ _ _) K rfl rfl).symm k) = ix2 a k := by
  have hk := contrEquiv1_symm_val (⟨[1], [1], [0], [0], [], [], w⟩ : DotDims ⟨2, ![M, K]⟩ ⟨2, ![N, K]⟩ ⟨2, ![M, N]⟩) K rfl rfl k
  funext d; apply Fin.ext
  match d with
  | ⟨0, _⟩ => simp [DotDims.lhsIdx]; rfl
  | ⟨1, _⟩ => simp [DotDims.lhsIdx]; exact hk
/-- … and of the right one. -/
theorem nt_rhs (w : DotDims.WF ⟨2, ![M, K]⟩ ⟨2, ![N, K]⟩ ⟨2, ![M, N]⟩ [1] [1] [0] [0] [] []) (a : Fin M) (b : Fin N) (k : Fin K) :
    (⟨[1], [1], [0], [0], [], [], w⟩ : DotDims _ _ _).rhsIdx (ix2 a b)
      ((contrEquiv1 (⟨[1], [1], [0], [0], [], [], w⟩ : DotDims _ _ _) K rfl rfl).symm k) = ix2 b k := by
  have hk := contrEquiv1_symm_val (⟨[1], [1], [0], [0], [], [], w⟩ : DotDims ⟨2, ![M, K]⟩ ⟨2, ![N, K]⟩ ⟨2, ![M, N]⟩) K rfl rfl k
  funext d; apply Fin.ext
  match d with
  | ⟨0, _⟩ => simp [DotDims.rhsIdx]; rfl
  | ⟨1, _⟩ => simp [DotDims.rhsIdx]; exact hk
/-- The dimension numbers of `lᵀ · r`: the index of the left operand … -/
theorem tn_lhs (w : DotDims.WF ⟨2, ![K, M]⟩ ⟨2, ![K, N]⟩ ⟨2, ![M, N]⟩ [0] [0] [1] [1] [] []) (a : Fin M) (b : Fin N) (k : Fin K) :
    (⟨[0], [0], [1], [1], [], [], w⟩ : DotDims _ _ _).lhsIdx (ix2 a b)
      ((contrEquiv1 (⟨[0], [0], [1], [1], [], [], w⟩ : DotDims _ _ _) K rfl rfl).symm k) = ix2 k a := by
  have hk := contrEquiv1_symm_val (⟨[0], [0], [1], [1], [], [], w⟩ : DotDims ⟨2, ![K, M]⟩ ⟨2, ![K, N]⟩ ⟨2, ![M, N]⟩) K rfl rfl k
  funext d; apply Fin.ext
  match d with
  | ⟨0, _⟩ => simp [DotDims.lhsIdx]; exact hk
  | ⟨1, _⟩ => simp [DotDims.lhsIdx]; rfl
/-- … and of the right one. -/
theorem tn_rhs (w : DotDims.WF ⟨2, ![K, M]⟩ ⟨2, ![K, N]⟩ ⟨2, ![M, N]⟩ [0] [0] [1] [1] [] []) (a : Fin M) (b : Fin N) (k : Fin K) :
    (⟨[0], [0], [1], [1], [], [], w⟩ : DotDims _ _ _).rhsIdx (ix2 a b)
      ((contrEquiv1 (⟨[0], [0], [1], [1], [], [], w⟩ : DotDims _ _ _) K rfl rfl).symm k) = ix2 k b := by
  have hk := contrEquiv1_symm_val (⟨[0], [0], [1], [1], [], [], w⟩ : DotDims ⟨2, ![K, M]⟩ ⟨2, ![K, N]⟩ ⟨2, ![M, N]⟩) K rfl rfl k
  funext d; apply Fin.ext
  match d with
  | ⟨0, _⟩ => simp [DotDims.rhsIdx]; exact hk
  | ⟨1, _⟩ => simp [DotDims.rhsIdx]; rfl

end Dims

section Apply
variable {M K N : Nat} {φ₁ φ₂ : FTy} (prec : Option ContractPrecision)

/-- A matrix unit's `l · r` over an accumulator. -/
theorem matmul_nn (l : FVec Ideal ⟨2, ![M, K]⟩ φ₁) (r : FVec Ideal ⟨2, ![K, N]⟩ φ₂) (acc : FVec Ideal ⟨2, ![M, N]⟩ .f32)
    (w : DotDims.WF ⟨2, ![M, K]⟩ ⟨2, ![K, N]⟩ ⟨2, ![M, N]⟩ [1] [0] [0] [1] [] []) (i : (⟨2, ![M, N]⟩ : Shape).Idx) :
    matmul (⟨[1], [0], [0], [1], [], [], w⟩ : DotDims _ _ _) prec l r acc i = acc i + nn (M := M) (N := N) l r i := by
  obtain ⟨a, b, rfl⟩ : ∃ a b, i = ix2 a b := ⟨_, _, eq_ix2 i⟩
  exact Ideal.matmul_plain_apply prec l r acc a b

/-- A matrix unit's `l · rᵀ` over an accumulator. -/
theorem matmul_nt (l : FVec Ideal ⟨2, ![M, K]⟩ φ₁) (r : FVec Ideal ⟨2, ![N, K]⟩ φ₂) (acc : FVec Ideal ⟨2, ![M, N]⟩ .f32)
    (w : DotDims.WF ⟨2, ![M, K]⟩ ⟨2, ![N, K]⟩ ⟨2, ![M, N]⟩ [1] [1] [0] [0] [] []) (i : (⟨2, ![M, N]⟩ : Shape).Idx) :
    matmul (⟨[1], [1], [0], [0], [], [], w⟩ : DotDims _ _ _) prec l r acc i = acc i + nt (M := M) (N := N) l r i := by
  obtain ⟨a, b, rfl⟩ : ∃ a b, i = ix2 a b := ⟨_, _, eq_ix2 i⟩
  exact Ideal.matmul_transposedRhs_apply prec l r acc a b

/-- A matrix unit's `lᵀ · r` over an accumulator. -/
theorem matmul_tn (l : FVec Ideal ⟨2, ![K, M]⟩ φ₁) (r : FVec Ideal ⟨2, ![K, N]⟩ φ₂) (acc : FVec Ideal ⟨2, ![M, N]⟩ .f32)
    (w : DotDims.WF ⟨2, ![K, M]⟩ ⟨2, ![K, N]⟩ ⟨2, ![M, N]⟩ [0] [0] [1] [1] [] []) (i : (⟨2, ![M, N]⟩ : Shape).Idx) :
    matmul (⟨[0], [0], [1], [1], [], [], w⟩ : DotDims _ _ _) prec l r acc i = acc i + tn (M := M) (N := N) l r i := by
  obtain ⟨a, b, rfl⟩ : ∃ a b, i = ix2 a b := ⟨_, _, eq_ix2 i⟩
  show FloatOps.matmul _ prec l r acc (ix2 a b) = _
  rw [Ideal.matmul_apply, ← Equiv.sum_comp (contrEquiv1 (⟨[0], [0], [1], [1], [], [], w⟩ : DotDims _ _ _) K rfl rfl).symm]
  refine congrArg (acc (ix2 a b) + ·) (Finset.sum_congr rfl fun k _ => ?_)
  rw [tn_lhs, tn_rhs]; rfl

/-- The host's `l · r`. -/
theorem dot_nn (l : FVec Ideal ⟨2, ![M, K]⟩ φ₁) (r : FVec Ideal ⟨2, ![K, N]⟩ φ₂)
    (w : DotDims.WF ⟨2, ![M, K]⟩ ⟨2, ![K, N]⟩ ⟨2, ![M, N]⟩ [1] [0] [0] [1] [] []) :
    Host.dotGeneral (⟨[1], [0], [0], [1], [], [], w⟩ : DotDims _ _ _) prec l r = nn (M := M) (N := N) l r := by
  funext i
  obtain ⟨a, b, rfl⟩ : ∃ a b, i = ix2 a b := ⟨_, _, eq_ix2 i⟩
  exact StackMember.dotGeneral_plain_apply prec l r a b

/-- The host's `l · rᵀ`. -/
theorem dot_nt (l : FVec Ideal ⟨2, ![M, K]⟩ φ₁) (r : FVec Ideal ⟨2, ![N, K]⟩ φ₂)
    (w : DotDims.WF ⟨2, ![M, K]⟩ ⟨2, ![N, K]⟩ ⟨2, ![M, N]⟩ [1] [1] [0] [0] [] []) :
    Host.dotGeneral (⟨[1], [1], [0], [0], [], [], w⟩ : DotDims _ _ _) prec l r = nt (M := M) (N := N) l r := by
  funext i
  obtain ⟨a, b, rfl⟩ : ∃ a b, i = ix2 a b := ⟨_, _, eq_ix2 i⟩
  show FloatOps.dotGeneral _ prec _ l r (ix2 a b) = _
  rw [Ideal.dotGeneral_apply, ← Equiv.sum_comp (contrEquiv1 (⟨[1], [1], [0], [0], [], [], w⟩ : DotDims _ _ _) K rfl rfl).symm]
  refine Finset.sum_congr rfl fun k _ => ?_
  rw [nt_lhs, nt_rhs]; rfl

/-- The host's `lᵀ · r`. -/
theorem dot_tn (l : FVec Ideal ⟨2, ![K, M]⟩ φ₁) (r : FVec Ideal ⟨2, ![K, N]⟩ φ₂)
    (w : DotDims.WF ⟨2, ![K, M]⟩ ⟨2, ![K, N]⟩ ⟨2, ![M, N]⟩ [0] [0] [1] [1] [] []) :
    Host.dotGeneral (⟨[0], [0], [1], [1], [], [], w⟩ : DotDims _ _ _) prec l r = tn (M := M) (N := N) l r := by
  funext i
  obtain ⟨a, b, rfl⟩ : ∃ a b, i = ix2 a b := ⟨_, _, eq_ix2 i⟩
  show FloatOps.dotGeneral _ prec _ l r (ix2 a b) = _
  rw [Ideal.dotGeneral_apply, ← Equiv.sum_comp (contrEquiv1 (⟨[0], [0], [1], [1], [], [], w⟩ : DotDims _ _ _) K rfl rfl).symm]
  refine Finset.sum_congr rfl fun k _ => ?_
  rw [tn_lhs, tn_rhs]; rfl

end Apply

/-- The f32 word of all zero bits is the number zero. -/
theorem ofBits_zero : Ideal.ofBits .f32 0x00000000#32 = 0 := by
  simp [Ideal.ofBits, Ideal.ieee]

theorem hz2 : (![0, 0] : Fin 2 → Nat) = fun _ => 0 := funext fun a => by fin_cases a <;> rfl
theorem hz3 : (![0, 0, 0] : Fin 3 → Nat) = fun _ => 0 := funext fun a => by fin_cases a <;> rfl

/-- `rᵀ · l` is the transpose of `lᵀ · r`. -/
theorem tn_swap {M K N : Nat} (l : Mat K M) (r : Mat K N) (a : Fin M) (b : Fin N) : tn r l (ix2 b a) = tn l r (ix2 a b) :=
  Finset.sum_congr rfl fun k _ => mul_comm _ _

/-- A leading axis of size one dropped. -/
theorem drop1 {α : Type} {M N : Nat} (x : (⟨3, ![1, M, N]⟩ : Shape).Idx → α) (h : Shape.ShapeCasts ⟨3, ![1, M, N]⟩ ⟨2, ![M, N]⟩)
    (a : Fin M) (b : Fin N) : shapeCast ⟨2, ![M, N]⟩ x h (ix2 a b) = x (ix3 0 a b) := by
  refine shapeCast_apply x h _ (ix3 0 a b) ?_
  rw [Shape.rowMajor_val_two, Shape.rowMajor_val_three]
  show (0 * M + a.val) * N + b.val = a.val * N + b.val
  rw [Nat.zero_mul, Nat.zero_add]

/-- A leading axis of size one added. -/
theorem add1 {α : Type} {M N : Nat} (x : (⟨2, ![M, N]⟩ : Shape).Idx → α) (h : Shape.ShapeCasts ⟨2, ![M, N]⟩ ⟨3, ![1, M, N]⟩)
    (z : Fin 1) (a : Fin M) (b : Fin N) : shapeCast ⟨3, ![1, M, N]⟩ x h (ix3 z a b) = x (ix2 a b) := by
  refine shapeCast_apply x h _ (ix2 a b) ?_
  rw [Shape.rowMajor_val_two, Shape.rowMajor_val_three]
  show a.val * N + b.val = (z.val * M + a.val) * N + b.val
  have hz : z.val = 0 := by omega
  rw [hz, Nat.zero_mul, Nat.zero_add]

/-- The columns of a matrix cut into `S` slabs of `N`, the slab's number first: what `reshape` and `transpose` of it hold. -/
theorem slab_apply {α : Type} {M S N W : Nat} (x : (⟨2, ![M, W]⟩ : Shape).Idx → α) (h : Shape.ShapeCasts ⟨2, ![M, W]⟩ ⟨3, ![M, S, N]⟩)
    (ht : Shape.Transposes ⟨3, ![M, S, N]⟩ [1, 0, 2] ⟨3, ![S, M, N]⟩) (hW : S * N = W) (s : Fin S) (a : Fin M) (b : Fin N) (j : Fin W)
    (hj : j.val = s.val * N + b.val) :
    transpose ⟨3, ![S, M, N]⟩ [1, 0, 2] (shapeCast ⟨3, ![M, S, N]⟩ x h) ht (ix3 s a b) = x (ix2 a j) := by
  refine (transpose_apply _ _ ht _ (ix3 a s b) (fun d => ?_)).trans ?_
  · match d with
    | ⟨0, _⟩ => rfl
    | ⟨1, _⟩ => rfl
    | ⟨2, _⟩ => rfl
  · refine shapeCast_apply x h _ (ix2 a j) ?_
    rw [Shape.rowMajor_val_two, Shape.rowMajor_val_three]
    show a.val * W + j.val = (a.val * S + s.val) * N + b.val
    rw [hj, ← hW, Nat.add_mul, Nat.mul_assoc, Nat.add_assoc]

/-- The column of a matrix of `W` columns that is column `b` of slab `s`. -/
def slabCol {S N W : Nat} (hW : S * N = W) (s : Fin S) (b : Fin N) : Fin W :=
  ⟨s.val * N + b.val, lt_of_lt_of_le (by rw [Nat.add_mul, Nat.one_mul]; exact Nat.add_lt_add_left b.isLt _)
    (hW ▸ Nat.mul_le_mul_right N (Nat.succ_le_of_lt s.isLt) : (s.val + 1) * N ≤ W)⟩

/-- `lᵀ · r`, its columns in `S` slabs of `N`. -/
def tnSlab {M K S N W : Nat} (hW : S * N = W) (l : Mat K M) (r : Mat K W) : (⟨3, ![S, M, N]⟩ : Shape).Idx → EReal :=
  fun i => tn l r (ix2 (i 1) (slabCol hW (i 0) (i 2)))

/-- A matrix transposed. -/
theorem transpose_ix2 {α : Type} {M N : Nat} (x : (⟨2, ![M, N]⟩ : Shape).Idx → α) (ht : Shape.Transposes ⟨2, ![M, N]⟩ [1, 0] ⟨2, ![N, M]⟩)
    (a : Fin N) (b : Fin M) : transpose ⟨2, ![N, M]⟩ [1, 0] x ht (ix2 a b) = x (ix2 b a) :=
  transpose_apply _ _ ht _ (ix2 b a) fun d => match d with
    | ⟨0, _⟩ => rfl
    | ⟨1, _⟩ => rfl

/-- What the reference computes for a weight's gradient: the transpose of `rᵀ · l`, which is `lᵀ · r`. -/
theorem weight_grad {M K N : Nat} (l : FVec Ideal ⟨2, ![K, M]⟩ .bf16) (r : FVec Ideal ⟨2, ![K, N]⟩ .bf16)
    (w : DotDims.WF ⟨2, ![K, N]⟩ ⟨2, ![K, M]⟩ ⟨2, ![N, M]⟩ [0] [0] [1] [1] [] []) (ht : Shape.Transposes ⟨2, ![N, M]⟩ [1, 0] ⟨2, ![M, N]⟩)
    (hb : FTy.bf16.bits < FTy.f32.bits) :
    truncf .bf16 (transpose ⟨2, ![M, N]⟩ [1, 0] (Host.dotGeneral (⟨[0], [0], [1], [1], [], [], w⟩ : DotDims _ _ _) none
      (extf .f32 r hb) (extf .f32 l hb)) ht) hb = tn (M := M) (N := N) l r := by
  funext i
  obtain ⟨a, b, rfl⟩ : ∃ a b, i = ix2 a b := ⟨_, _, eq_ix2 i⟩
  refine (transpose_ix2 (Host.dotGeneral (⟨[0], [0], [1], [1], [], [], w⟩ : DotDims _ _ _) none (extf .f32 r hb) (extf .f32 l hb)) ht a b).trans ?_
  refine (congrFun (dot_tn none (M := N) (K := K) (N := M) (extf .f32 r hb) (extf .f32 l hb) w) (ix2 b a)).trans ?_
  exact tn_swap (M := M) (N := N) l r a b

/-- Two slabs, each loaded by itself, side by side: column `b` of slab `g` is column `g · N + b` of the whole. -/
theorem pair_apply {e : EltTy} {M N W : Nat} (x : (⟨3, ![2, M, N]⟩ : Shape).Idx → Elt Ideal e)
    (inb0 : ∀ a, (![0, 0, 0] : Fin 3 → Nat) a + (![1, M, N] : Fin 3 → Nat) a ≤ (![2, M, N] : Fin 3 → Nat) a)
    (inb1 : ∀ a, (![1, 0, 0] : Fin 3 → Nat) a + (![1, M, N] : Fin 3 → Nat) a ≤ (![2, M, N] : Fin 3 → Nat) a)
    (h : Shape.ShapeCasts ⟨3, ![1, M, N]⟩ ⟨2, ![M, N]⟩)
    (hc : Shape.Concatenates [⟨2, ![M, N]⟩, ⟨2, ![M, N]⟩] ⟨2, ![M, W]⟩ 1) (g : Fin 2) (a : Fin M) (b : Fin N) (j : Fin W)
    (hj : j.val = g.val * N + b.val) :
    concatenate ⟨2, ![M, W]⟩ 1
      [⟨⟨2, ![M, N]⟩, shapeCast ⟨2, ![M, N]⟩ (View.ld x (Rect.unit (s := ⟨3, ![2, M, N]⟩) ![0, 0, 0] ![1, M, N] inb0)) h⟩,
       ⟨⟨2, ![M, N]⟩, shapeCast ⟨2, ![M, N]⟩ (View.ld x (Rect.unit (s := ⟨3, ![2, M, N]⟩) ![1, 0, 0] ![1, M, N] inb1)) h⟩] hc (ix2 a j)
      = x (ix3 g a b) := by
  match g with
  | ⟨0, _⟩ =>
    refine (concatenate_pair_apply_left 1 _ _ hc _ rfl (ix2 a b) (fun d => ?_)).trans ?_
    · match d with
      | ⟨0, _⟩ => rfl
      | ⟨1, _⟩ => show b.val = j.val; rw [hj]; show b.val = 0 * N + b.val; omega
    · refine (drop1 _ h a b).trans (congrArg x (funext fun d => Fin.ext ?_))
      match d with
      | ⟨0, _⟩ => rfl
      | ⟨1, _⟩ => show 0 + 1 * a.val = a.val; omega
      | ⟨2, _⟩ => show 0 + 1 * b.val = b.val; omega
  | ⟨1, _⟩ =>
    refine (concatenate_pair_apply_right 1 _ _ hc _ rfl rfl (ix2 a b) (fun d hd => ?_) ?_).trans ?_
    · match d with
      | ⟨0, _⟩ => rfl
      | ⟨1, _⟩ => exact absurd rfl hd
    · show b.val + N = j.val
      rw [hj]; show b.val + N = 1 * N + b.val; omega
    · refine (drop1 _ h a b).trans (congrArg x (funext fun d => Fin.ext ?_))
      match d with
      | ⟨0, _⟩ => rfl
      | ⟨1, _⟩ => show 0 + 1 * a.val = a.val; omega
      | ⟨2, _⟩ => show 0 + 1 * b.val = b.val; omega

/-- Two slabs stored one after the other are the block they make. -/
theorem pair_canon {e : EltTy} {M N : Nat} (X0 X1 : (⟨3, ![1, M, N]⟩ : Shape).Idx → Elt Ideal e)
    (inb0 : ∀ a, (![0, 0, 0] : Fin 3 → Nat) a + (![1, M, N] : Fin 3 → Nat) a ≤ (![2, M, N] : Fin 3 → Nat) a)
    (inb1 : ∀ a, (![1, 0, 0] : Fin 3 → Nat) a + (![1, M, N] : Fin 3 → Nat) a ≤ (![2, M, N] : Fin 3 → Nat) a)
    (G : Fin 2 → Fin M → Fin N → Elt Ideal e) (h0 : ∀ z a b, X0 (ix3 z a b) = G 0 a b) (h1 : ∀ z a b, X1 (ix3 z a b) = G 1 a b)
    (g : Fin 2) (a : Fin M) (b : Fin N) :
    View.canon (Val := Elt Ideal) (s := ⟨3, ![2, M, N]⟩) (e := e)
      [⟨Rect.unit (s := ⟨3, ![2, M, N]⟩) ![1, 0, 0] ![1, M, N] inb1, X1⟩,
       ⟨Rect.unit (s := ⟨3, ![2, M, N]⟩) ![0, 0, 0] ![1, M, N] inb0, X0⟩] (ix3 g a b) = G g a b := by
  match g with
  | ⟨0, _⟩ =>
    have hn : ix3 (n0 := 2) (n1 := M) (n2 := N) 0 a b ∉ (Rect.unit (s := ⟨3, ![2, M, N]⟩) ![1, 0, 0] ![1, M, N] inb1).set := by
      rw [Rect.mem_set_unit]
      intro h
      have := (h (0 : Fin 3)).1
      exact absurd this (by decide : ¬ (1 : Nat) ≤ 0)
    refine (View.canon_cons_of_not_mem (Val := Elt Ideal) (e := e) ⟨Rect.unit (s := ⟨3, ![2, M, N]⟩) ![1, 0, 0] ![1, M, N] inb1, X1⟩ _ hn).trans ?_
    have he : ix3 (n0 := 2) (n1 := M) (n2 := N) 0 a b = (Rect.unit (s := ⟨3, ![2, M, N]⟩) ![0, 0, 0] ![1, M, N] inb0).emb
        (ix3 (n0 := 1) (n1 := M) (n2 := N) 0 a b) := funext fun d => Fin.ext (match d with
      | ⟨0, _⟩ => rfl
      | ⟨1, _⟩ => by show a.val = 0 + 1 * a.val; omega
      | ⟨2, _⟩ => by show b.val = 0 + 1 * b.val; omega)
    exact (congrArg _ he).trans ((View.canon_cons_emb (Val := Elt Ideal) (e := e) (Rect.unit (s := ⟨3, ![2, M, N]⟩) ![0, 0, 0] ![1, M, N] inb0) X0 [] (ix3 (n0 := 1) (n1 := M) (n2 := N) 0 a b)).trans (h0 0 a b))
  | ⟨1, _⟩ =>
    have he : ix3 (n0 := 2) (n1 := M) (n2 := N) 1 a b = (Rect.unit (s := ⟨3, ![2, M, N]⟩) ![1, 0, 0] ![1, M, N] inb1).emb
        (ix3 (n0 := 1) (n1 := M) (n2 := N) 0 a b) := funext fun d => Fin.ext (match d with
      | ⟨0, _⟩ => rfl
      | ⟨1, _⟩ => by show a.val = 0 + 1 * a.val; omega
      | ⟨2, _⟩ => by show b.val = 0 + 1 * b.val; omega)
    exact (congrArg _ he).trans ((View.canon_cons_emb (Val := Elt Ideal) (e := e) (Rect.unit (s := ⟨3, ![2, M, N]⟩) ![1, 0, 0] ![1, M, N] inb1) X1 _ (ix3 (n0 := 1) (n1 := M) (n2 := N) 0 a b)).trans (h1 0 a b))

/-- The first `n` terms of a sum. -/
def psum {W : Nat} (f : Fin W → EReal) (n : Nat) : EReal := ∑ k ∈ Finset.range n, if h : k < W then f ⟨k, h⟩ else 0

theorem psum_zero {W : Nat} (f : Fin W → EReal) : psum f 0 = 0 := rfl

/-- The next `N` terms. -/
theorem psum_add {W : Nat} (f : Fin W → EReal) (n : Nat) {N : Nat} (g : Fin N → EReal) (hn : n + N ≤ W)
    (hg : ∀ b : Fin N, ∀ k : Fin W, k.val = n + b.val → g b = f k) : psum f n + ∑ b, g b = psum f (n + N) := by
  unfold psum
  rw [Finset.sum_range_add, Finset.sum_range (n := N)]
  congr 1
  refine Finset.sum_congr rfl fun b _ => ?_
  have hb := b.isLt
  rw [dif_pos (by omega)]
  exact hg b _ rfl

/-- All of them. -/
theorem psum_all {W : Nat} (f : Fin W → EReal) : psum f W = ∑ k, f k := by
  unfold psum
  rw [Finset.sum_range]
  exact Finset.sum_congr rfl fun k _ => dif_pos k.isLt

/-- Every second slab, from slab `o` on. -/
theorem slice_slabs {α : Type} {M N : Nat} (o : Nat) (x : (⟨3, ![8, M, N]⟩ : Shape).Idx → α)
    (h : Shape.SlicesBy ⟨3, ![8, M, N]⟩ ![o, 0, 0] ![2, 1, 1] ⟨3, ![4, M, N]⟩) (s : Fin 4) (a : Fin M) (b : Fin N) (q : Fin 8)
    (hq : q.val = 2 * s.val + o) : Host.slice ⟨3, ![4, M, N]⟩ ![o, 0, 0] ![2, 1, 1] x h (ix3 s a b) = x (ix3 q a b) := by
  refine congrArg x (funext fun d => Fin.ext ?_)
  match d with
  | ⟨0, _⟩ => show o + 2 * s.val = q.val; omega
  | ⟨1, _⟩ => show 0 + 1 * a.val = a.val; omega
  | ⟨2, _⟩ => show 0 + 1 * b.val = b.val; omega

end Cert.Products

end
-- ==== Proof.Products.DhOdd.lean ====
/- The gradient `ct · wᵀ` of the odd layer's input, folded over the weight's slabs two at a time. -/
module

public import proofs.«01_k».proof.Defs
public import proofs.«01_k».proof.Proof.Products.Sums
public import proofs.«01_k».proof.Proof.Gen.DhOddIdeal.Value
public import proofs.«01_k».proof.Proof.Gen.DhOddRefIdeal.Run
public import Idealize.ShloMosaic.Lib.Tactic

@[expose] public section

noncomputable section

open scoped BigOperators

namespace Cert.DhOddIdeal.Product

open Cert.DhOddIdeal Cert.DhOddIdeal.Gen Cert.Products Idealize.ShloMosaic Idealize.ShloMosaic.TcCoe Idealize.SL.Sem
open Idealize.ShloMosaic.ValueIdx

variable (m : (ℓ : Loc nD τ sig) → Buf (Elt Ideal) ℓ)

/-- The weight in the slabs the call takes. -/
theorem V_weight (c : Dev nD) : V m c main_v1 = transpose S8x2048x896 [1, 0, 2]
    (shapeCast S2048x8x896 (m ((c : Thread nD τ).loc main_arg1)) shapeCasts_S2048x7168_S2048x8x896) transposes_S2048x8x896_S8x2048x896_1_0_2 := by
  show StableHlo.after hostOps0 _ _ = _
  after_results <;> rfl

/-- The two slabs of a point. -/
def slab0 (x1 : Vec Ideal S2x2048x896 .bf16) : Vec Ideal S1x2048x896 .bf16 :=
  View.ld x1 (Rect.unit (s := S2x2048x896) ![0, 0, 0] S1x2048x896.size inb_S2x2048x896_S1x2048x896_0_0_0)
def slab1 (x1 : Vec Ideal S2x2048x896 .bf16) : Vec Ideal S1x2048x896 .bf16 :=
  View.ld x1 (Rect.unit (s := S2x2048x896) ![1, 0, 0] S1x2048x896.size inb_S2x2048x896_S1x2048x896_1_0_0)

/-- A point adds to its accumulator the product of its cotangent's columns and its slabs' rows. -/
theorem step_apply (acc : Vec Ideal S1024x2048 .f32) (x0 : Vec Ideal S1024x1792 .bf16) (x1 : Vec Ideal S2x2048x896 .bf16) (a : Fin 1024) (d : Fin 2048) :
    k0_pay2 acc x0 (slab0 x1) (slab1 x1) (ix2 a d) = acc (ix2 a d)
      + ∑ b : Fin 1792, x0 (ix2 a b) * x1 (ix3 (n0 := 2) (n2 := 896) ⟨b.val / 896, by omega⟩ d ⟨b.val % 896, by omega⟩) := by
  unfold k0_pay2
  rw [shapeCast_self]
  refine congrArg (acc (ix2 a d) + ·) ((matmul_nt none (M := 1024) (K := 1792) (N := 2048) (φ₁ := .bf16) (φ₂ := .bf16) x0
    _ _ dot_S1024x1792_S2048x1792_S1024x2048_1_1_0_0_n_n.wf (ix2 a d)).trans ?_)
  show Ideal.ofBits .f32 0#32 + _ = _
  rw [ofBits_zero, zero_add]
  refine Finset.sum_congr rfl fun b _ => congrArg (x0 (ix2 a b) * ·) ?_
  unfold slab0 slab1
  exact pair_apply (e := .bf16) x1 _ _ _ _ ⟨b.val / 896, by omega⟩ d ⟨b.val % 896, by omega⟩ b (by dsimp only; omega)

/-- The accumulator after a point of the first kind: from zero. -/
theorem acc_A (c : Dev nD) (i : grid0.Coords) (arg2 : Memref sig .tc .vmem S1024x1792 .bf16) (harg2 : arg2.IsWhole) (arg3 : Memref sig .tc .vmem S2x2048x896 .bf16) (harg3 : arg3.IsWhole) (arg4 : Memref sig .tc .vmem S1024x2048 .bf16) (harg4 : arg4.IsWhole) (arg5 : Memref sig .tc .vmem S1024x2048 .f32) (harg5 : arg5.IsWhole) (hc0 : cond0_0 i) (hc1 : ¬cond0_1 i)
    (x0 : Vec Ideal S1024x1792 .bf16) (x1 : Vec Ideal S2x2048x896 .bf16) :
    sout0_A_0 c i arg2 harg2 arg3 harg3 arg4 harg4 arg5 harg5 hc0 hc1 x0 x1 = k0_pay2 k0_pay1 x0 (slab0 x1) (slab1 x1) := by
  unfold sout0_A_0
  rw [View.read_writes_eq_canon _ _ _ (scover0_A_0 c i arg2 harg2 arg3 harg3 arg4 harg4 arg5 harg5 hc0 hc1 x0 x1)]
  unfold kernelRun0_A
  sl_unfold_words
  have e2 : View.readAt (Elt Ideal) arg2.view (Rect.unit ![0, 0] S1024x1792.size inb_S1024x1792_S1024x1792_0_0).toLoadRect (harg2.unread x0) = x0 := by
    rw [View.readAt_eq_ld, harg2.read_unread, View.ld_unit_zero hz2]
  have e30 : View.readAt (Elt Ideal) arg3.view (Rect.unit (s := S2x2048x896) ![0, 0, 0] S1x2048x896.size inb_S2x2048x896_S1x2048x896_0_0_0).toLoadRect (harg3.unread x1) = slab0 x1 := by
    rw [View.readAt_eq_ld, harg3.read_unread]; rfl
  have e31 : View.readAt (Elt Ideal) arg3.view (Rect.unit (s := S2x2048x896) ![1, 0, 0] S1x2048x896.size inb_S2x2048x896_S1x2048x896_1_0_0).toLoadRect (harg3.unread x1) = slab1 x1 := by
    rw [View.readAt_eq_ld, harg3.read_unread]; rfl
  have e5 := View.readCov_unit_zero (Val := Elt Ideal) arg5.view hz2 inb_S1024x2048_S1024x2048_0_0 (k0_pay1 (F := Ideal))
  dsimp only
  rw [View.canon_cons_unit_zero hz2, e2, e30, e31, e5]

/-- … of the second kind: over what the point before left. -/
theorem acc_B (c : Dev nD) (i : grid0.Coords) (arg2 : Memref sig .tc .vmem S1024x1792 .bf16) (harg2 : arg2.IsWhole) (arg3 : Memref sig .tc .vmem S2x2048x896 .bf16) (harg3 : arg3.IsWhole) (arg4 : Memref sig .tc .vmem S1024x2048 .bf16) (harg4 : arg4.IsWhole) (arg5 : Memref sig .tc .vmem S1024x2048 .f32) (harg5 : arg5.IsWhole) (hc0 : ¬cond0_0 i) (hc1 : ¬cond0_1 i)
    (x0 : Vec Ideal S1024x1792 .bf16) (x1 : Vec Ideal S2x2048x896 .bf16) (xs0 : Vec Ideal S1024x2048 .f32) :
    sout0_B_0 c i arg2 harg2 arg3 harg3 arg4 harg4 arg5 harg5 hc0 hc1 x0 x1 xs0 = k0_pay2 xs0 x0 (slab0 x1) (slab1 x1) := by
  unfold sout0_B_0
  rw [View.read_writes_eq_canon _ _ _ (scover0_B_0 c i arg2 harg2 arg3 harg3 arg4 harg4 arg5 harg5 hc0 hc1 x0 x1 xs0)]
  unfold kernelRun0_B
  sl_unfold_words
  have e2 : View.readAt (Elt Ideal) arg2.view (Rect.unit ![0, 0] S1024x1792.size inb_S1024x1792_S1024x1792_0_0).toLoadRect (harg2.unread x0) = x0 := by
    rw [View.readAt_eq_ld, harg2.read_unread, View.ld_unit_zero hz2]
  have e30 : View.readAt (Elt Ideal) arg3.view (Rect.unit (s := S2x2048x896) ![0, 0, 0] S1x2048x896.size inb_S2x2048x896_S1x2048x896_0_0_0).toLoadRect (harg3.unread x1) = slab0 x1 := by
    rw [View.readAt_eq_ld, harg3.read_unread]; rfl
  have e31 : View.readAt (Elt Ideal) arg3.view (Rect.unit (s := S2x2048x896) ![1, 0, 0] S1x2048x896.size inb_S2x2048x896_S1x2048x896_1_0_0).toLoadRect (harg3.unread x1) = slab1 x1 := by
    rw [View.readAt_eq_ld, harg3.read_unread]; rfl
  have e5 : View.readAt (Elt Ideal) arg5.view (Rect.unit ![0, 0] S1024x2048.size inb_S1024x2048_S1024x2048_0_0).toLoadRect (harg5.unread xs0) = xs0 := by
    rw [View.readAt_eq_ld, harg5.read_unread, View.ld_unit_zero hz2]
  dsimp only
  rw [View.canon_unit_zero hz2, e2, e30, e31, e5]

/-- … of the last kind, likewise; … -/
theorem acc_C (c : Dev nD) (i : grid0.Coords) (arg2 : Memref sig .tc .vmem S1024x1792 .bf16) (harg2 : arg2.IsWhole) (arg3 : Memref sig .tc .vmem S2x2048x896 .bf16) (harg3 : arg3.IsWhole) (arg4 : Memref sig .tc .vmem S1024x2048 .bf16) (harg4 : arg4.IsWhole) (arg5 : Memref sig .tc .vmem S1024x2048 .f32) (harg5 : arg5.IsWhole) (hc0 : ¬cond0_0 i) (hc1 : cond0_1 i)
    (x0 : Vec Ideal S1024x1792 .bf16) (x1 : Vec Ideal S2x2048x896 .bf16) (xs0 : Vec Ideal S1024x2048 .f32) :
    sout0_C_0 c i arg2 harg2 arg3 harg3 arg4 harg4 arg5 harg5 hc0 hc1 x0 x1 xs0 = k0_pay2 xs0 x0 (slab0 x1) (slab1 x1) := by
  unfold sout0_C_0
  rw [View.read_writes_eq_canon _ _ _ (scover0_C_0 c i arg2 harg2 arg3 harg3 arg4 harg4 arg5 harg5 hc0 hc1 x0 x1 xs0)]
  unfold kernelRun0_C
  sl_unfold_words
  have e2 : View.readAt (Elt Ideal) arg2.view (Rect.unit ![0, 0] S1024x1792.size inb_S1024x1792_S1024x1792_0_0).toLoadRect (harg2.unread x0) = x0 := by
    rw [View.readAt_eq_ld, harg2.read_unread, View.ld_unit_zero hz2]
  have e30 : View.readAt (Elt Ideal) arg3.view (Rect.unit (s := S2x2048x896) ![0, 0, 0] S1x2048x896.size inb_S2x2048x896_S1x2048x896_0_0_0).toLoadRect (harg3.unread x1) = slab0 x1 := by
    rw [View.readAt_eq_ld, harg3.read_unread]; rfl
  have e31 : View.readAt (Elt Ideal) arg3.view (Rect.unit (s := S2x2048x896) ![1, 0, 0] S1x2048x896.size inb_S2x2048x896_S1x2048x896_1_0_0).toLoadRect (harg3.unread x1) = slab1 x1 := by
    rw [View.readAt_eq_ld, harg3.read_unread]; rfl
  have e5 : View.readAt (Elt Ideal) arg5.view (Rect.unit ![0, 0] S1024x2048.size inb_S1024x2048_S1024x2048_0_0).toLoadRect (harg5.unread xs0) = xs0 := by
    rw [View.readAt_eq_ld, harg5.read_unread, View.ld_unit_zero hz2]
  dsimp only
  rw [View.canon_unit_zero hz2, e2, e30, e31, e5]

/-- … and what that kind of point stores: the same. -/
theorem out_C (c : Dev nD) (i : grid0.Coords) (arg2 : Memref sig .tc .vmem S1024x1792 .bf16) (harg2 : arg2.IsWhole) (arg3 : Memref sig .tc .vmem S2x2048x896 .bf16) (harg3 : arg3.IsWhole) (arg4 : Memref sig .tc .vmem S1024x2048 .bf16) (harg4 : arg4.IsWhole) (arg5 : Memref sig .tc .vmem S1024x2048 .f32) (harg5 : arg5.IsWhole) (hc0 : ¬cond0_0 i) (hc1 : cond0_1 i)
    (x0 : Vec Ideal S1024x1792 .bf16) (x1 : Vec Ideal S2x2048x896 .bf16) (xs0 : Vec Ideal S1024x2048 .f32) :
    out0_C_2 c i arg2 harg2 arg3 harg3 arg4 harg4 arg5 harg5 hc0 hc1 x0 x1 xs0 = k0_pay2 xs0 x0 (slab0 x1) (slab1 x1) := by
  unfold out0_C_2
  rw [View.read_writes_eq_canon _ _ _ (cover0_C_2 c i arg2 harg2 arg3 harg3 arg4 harg4 arg5 harg5 hc0 hc1 x0 x1 xs0)]
  unfold kernelRun0_C
  sl_unfold_words
  have e2 : View.readAt (Elt Ideal) arg2.view (Rect.unit ![0, 0] S1024x1792.size inb_S1024x1792_S1024x1792_0_0).toLoadRect (harg2.unread x0) = x0 := by
    rw [View.readAt_eq_ld, harg2.read_unread, View.ld_unit_zero hz2]
  have e30 : View.readAt (Elt Ideal) arg3.view (Rect.unit (s := S2x2048x896) ![0, 0, 0] S1x2048x896.size inb_S2x2048x896_S1x2048x896_0_0_0).toLoadRect (harg3.unread x1) = slab0 x1 := by
    rw [View.readAt_eq_ld, harg3.read_unread]; rfl
  have e31 : View.readAt (Elt Ideal) arg3.view (Rect.unit (s := S2x2048x896) ![1, 0, 0] S1x2048x896.size inb_S2x2048x896_S1x2048x896_1_0_0).toLoadRect (harg3.unread x1) = slab1 x1 := by
    rw [View.readAt_eq_ld, harg3.read_unread]; rfl
  have e5 : View.readAt (Elt Ideal) arg5.view (Rect.unit ![0, 0] S1024x2048.size inb_S1024x2048_S1024x2048_0_0).toLoadRect (harg5.unread xs0) = xs0 := by
    rw [View.readAt_eq_ld, harg5.read_unread, View.ld_unit_zero hz2]
  dsimp only
  rw [View.canon_unit_zero hz2, e2, e30, e31, e5, View.readCov_unit_zero _ hz2]
  rfl

/-- The blocks a point takes and gives: 1024 rows of the cotangent (the slow axis), 1792 of its columns and two slabs (the fast one). -/
theorem idx : ∀ t : Fin cfg0.N, win0_0.index t (0 : Fin 2) = t.val / 4 ∧ win0_0.index t (1 : Fin 2) = t.val % 4
    ∧ win0_1.index t (0 : Fin 3) = t.val % 4 ∧ win0_1.index t (1 : Fin 3) = 0 ∧ win0_1.index t (2 : Fin 3) = 0
    ∧ win0_2.index t (0 : Fin 2) = t.val / 4 ∧ win0_2.index t (1 : Fin 2) = 0 ∧ (win0_2.flush t = true ↔ t.val % 4 = 3) :=
  (by decide +kernel : ∀ t : Fin grid0.N, _)

/-- The weight and the cotangent the run starts with. -/
abbrev argW (c : Dev nD) : Mat 2048 7168 := m ((c : Thread nD τ).loc main_arg1)
abbrev argCt (c : Dev nD) : Mat 2048 7168 := m ((c : Thread nD τ).loc main_arg2)

theorem blk0 (c : Dev nD) (t : Fin cfg0.N) (a : Fin 1024) (b : Fin 1792) (r : Fin 2048) (j : Fin 7168) (hr : r.val = 1024 * (t.val / 4) + a.val)
    (hj : j.val = 1792 * (t.val % 4) + b.val) : iblk m c 0 t (ix2 a b) = argCt m c (ix2 r j) := by
  unfold iblk
  rw [View.read_apply]
  show V m c main_arg2 _ = _
  rw [V_main_arg2]
  show _ = m ((c : Thread nD τ).loc main_arg2) (ix2 r j)
  congr 1; funext d; apply Fin.ext
  obtain ⟨h0, h1, -⟩ := idx t
  match d with
  | ⟨0, _⟩ => show win0_0.index t (0 : Fin 2) * 1024 + 1 * a.val = r.val; omega
  | ⟨1, _⟩ => show win0_0.index t (1 : Fin 2) * 1792 + 1 * b.val = j.val; omega

theorem blk1 (c : Dev nD) (t : Fin cfg0.N) (g : Fin 2) (k : Fin 2048) (b : Fin 896) (j : Fin 7168)
    (hj : j.val = (2 * (t.val % 4) + g.val) * 896 + b.val) : iblk m c 1 t (ix3 g k b) = argW m c (ix2 k j) := by
  unfold iblk
  rw [View.read_apply]
  show V m c main_v1 _ = _
  rw [V_weight]
  obtain ⟨-, -, h0, h1, h2, -⟩ := idx t
  refine (congrArg _ (funext fun d => Fin.ext ?_)).trans
    (slab_apply (M := 2048) (S := 8) (N := 896) (W := 7168) _ shapeCasts_S2048x7168_S2048x8x896 transposes_S2048x8x896_S8x2048x896_1_0_2 rfl
      ⟨2 * (t.val % 4) + g.val, by omega⟩ k b j hj)
  match d with
  | ⟨0, _⟩ => show win0_1.index t (0 : Fin 3) * 2 + 1 * g.val = 2 * (t.val % 4) + g.val; omega
  | ⟨1, _⟩ => show win0_1.index t (1 : Fin 3) * 2048 + 1 * k.val = k.val; omega
  | ⟨2, _⟩ => show win0_1.index t (2 : Fin 3) * 896 + 1 * b.val = b.val; omega

/-- One term of the product `ct · wᵀ`. -/
def term (c : Dev nD) (r d : Fin 2048) (k : Fin 7168) : EReal := argCt m c (ix2 r k) * argW m c (ix2 d k)

/-- What a point makes of an accumulator. -/
def next (c : Dev nD) (t : Fin cfg0.N) (acc : Vec Ideal S1024x2048 .f32) : Vec Ideal S1024x2048 .f32 :=
  k0_pay2 acc (iblk m c 0 t) (slab0 (iblk m c 1 t)) (slab1 (iblk m c 1 t))

/-- A point adds the next 1792 terms. -/
theorem step (c : Dev nD) (t : Fin cfg0.N) (acc : Vec Ideal S1024x2048 .f32) (a : Fin 1024) (d r : Fin 2048) (hr : r.val = 1024 * (t.val / 4) + a.val)
    (n : Nat) (hn : n = 1792 * (t.val % 4)) (hacc : acc (ix2 a d) = psum (term m c r d) n) :
    next m c t acc (ix2 a d) = psum (term m c r d) (n + 1792) := by
  unfold next
  rw [step_apply, hacc]
  refine psum_add (term m c r d) n _ (by omega) fun b k hk => ?_
  have hb := b.isLt
  unfold term
  rw [blk0 m c t a b r k hr (by omega), blk1 m c t _ d _ k (by dsimp only; omega)]

theorem first_acc (c : Dev nD) (t : Fin cfg0.N) (h0 : t.val % 4 = 0) : (outsAt0 m c t.val t.isLt).2 = next m c t (k0_pay1 (F := Ideal)) := by
  have e := congrArg Prod.snd (outsAt0_A m c t h0 (by omega))
  dsimp only at e
  rw [acc_A] at e
  exact e

theorem later_acc (c : Dev nD) (t : Fin cfg0.N) (h0 : ¬t.val % 4 = 0) : (outsAt0 m c t.val t.isLt).2
    = next m c t (outsAt0 m c (t.val - 1) (Nat.lt_of_le_of_lt (Nat.sub_le _ _) t.isLt)).2 := by
  by_cases h1 : t.val % 4 = 3
  · have e := congrArg Prod.snd (outsAt0_C m c t h0 h1)
    dsimp only at e
    rw [acc_C] at e
    exact e
  · have e := congrArg Prod.snd (outsAt0_B m c t h0 h1)
    dsimp only at e
    rw [acc_B] at e
    exact e

theorem last_out (c : Dev nD) (t : Fin cfg0.N) (h0 : ¬t.val % 4 = 0) (h1 : t.val % 4 = 3) : (outsAt0 m c t.val t.isLt).1
    = next m c t (outsAt0 m c (t.val - 1) (Nat.lt_of_le_of_lt (Nat.sub_le _ _) t.isLt)).2 := by
  have e := congrArg Prod.fst (outsAt0_C m c t h0 h1)
  dsimp only at e
  rw [out_C] at e
  exact e

theorem zero_apply (i : S1024x2048.Idx) : k0_pay1 (F := Ideal) i = 0 := by
  unfold k0_pay1
  rw [shapeCast_self]
  exact ofBits_zero

/-- The accumulator after point `n`: the terms up to its columns. -/
theorem acc_eq (c : Dev nD) : ∀ (n : Nat) (hn : n < cfg0.N) (a : Fin 1024) (d r : Fin 2048), r.val = 1024 * (n / 4) + a.val →
    (outsAt0 m c n hn).2 (ix2 a d) = psum (term m c r d) (1792 * (n % 4) + 1792) := by
  intro n
  induction n using Nat.strong_induction_on with
  | _ n ih =>
    intro hn a d r hr
    by_cases h0 : n % 4 = 0
    · rw [first_acc m c ⟨n, hn⟩ h0]
      exact step m c ⟨n, hn⟩ _ a d r hr _ rfl (by rw [zero_apply, h0, Nat.mul_zero, psum_zero])
    · rw [later_acc m c ⟨n, hn⟩ h0]
      refine step m c ⟨n, hn⟩ _ a d r hr _ rfl ((ih (n - 1) (by omega) (lt_of_le_of_lt (Nat.sub_le _ _) hn) a d r (by omega)).trans ?_)
      exact congrArg (psum _) (by omega)

/-- What a point of the last kind stores is its rows of the product. -/
theorem point (c : Dev nD) (t : Fin cfg0.N) (h1 : t.val % 4 = 3) (a : Fin 1024) (d r : Fin 2048) (hr : r.val = 1024 * (t.val / 4) + a.val) :
    (outsAt0 m c t.val t.isLt).1 (ix2 a d) = nt (argCt m c) (argW m c) (ix2 r d) := by
  have h0 : ¬t.val % 4 = 0 := by omega
  rw [last_out m c t h0 h1]
  refine (step m c t _ a d r hr (1792 * (t.val % 4)) rfl ?_).trans ?_
  · refine (acc_eq m c (t.val - 1) (lt_of_le_of_lt (Nat.sub_le _ _) t.isLt) a d r (by omega)).trans (congrArg (psum _) (by omega))
  · refine (congrArg (psum _) (by omega : _ = 7168)).trans (psum_all (term m c r d))

theorem mem_blk (t : Fin cfg0.N) (i : S2048x2048.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v2).slice (win0_2.rect t)).set ↔ _
  rw [View.set_slice_whole, Rect.mem_set_unit]
  exact Iff.rfl

/-- The result: `ct · wᵀ`. -/
theorem final (c : Dev nD) : (dats m 0 c).arrAt 2 cfg0.N = nt (argCt m c) (argW m c) := by
  refine (dats m 0 c).arrAt_eq_of_cover 2 _ (fun t hf => ?_) (fun i => ?_)
  · obtain ⟨-, -, -, -, -, h0, h1, h2⟩ := idx t
    rw [Value.flushed2]
    funext y
    rw [View.read_apply]
    have e : (cfg0.win 2).xinj (grid0.coords t) y = ix2 (n0 := 1024) (n1 := 2048) (y 0) (y 1) :=
      funext fun a => match a with | ⟨0, _⟩ => rfl | ⟨1, _⟩ => rfl
    have e0 : (((cfg0.win 2).blk t).view.emb y 0).val = win0_2.index t (0 : Fin 2) * 1024 + 1 * (y 0).val := rfl
    have e1 : (((cfg0.win 2).blk t).view.emb y 1).val = win0_2.index t (1 : Fin 2) * 2048 + 1 * (y 1).val := rfl
    have e2 : ix2 (n0 := 2048) (n1 := 2048) (((cfg0.win 2).blk t).view.emb y 0) (y 1) = ((cfg0.win 2).blk t).view.emb y :=
      funext fun a => Fin.ext (match a with | ⟨0, _⟩ => rfl | ⟨1, _⟩ => by show (y 1).val = (((cfg0.win 2).blk t).view.emb y 1).val; omega)
    have p := point m c t (h2.mp hf) (y 0) (y 1) (((cfg0.win 2).blk t).view.emb y 0) (by rw [e0, h0, Nat.one_mul, Nat.mul_comm])
    rw [e2] at p
    refine (congrArg (outsAt0 m c t.val t.isLt).1 e).trans ?_
    exact p.trans (cast_eq _ _).symm
  · have i0 : (i 0).val < 2048 := (i 0).isLt
    have i1 : (i 1).val < 2048 := (i 1).isLt
    have hN : cfg0.N = 8 := N_0
    obtain ⟨-, -, -, -, -, h0, h1, h2⟩ := idx ⟨(i 0).val / 1024 * 4 + 3, by omega⟩
    refine ⟨⟨(i 0).val / 1024 * 4 + 3, by omega⟩, h2.mpr (by dsimp only; omega), ?_⟩
    rw [mem_blk]
    intro a
    match a with
    | ⟨0, _⟩ => show win0_2.index _ (0 : Fin 2) * 1024 ≤ (i 0).val ∧ (i 0).val < win0_2.index _ (0 : Fin 2) * 1024 + 1024; rw [h0]; dsimp only; omega
    | ⟨1, _⟩ => show win0_2.index _ (1 : Fin 2) * 2048 ≤ (i 1).val ∧ (i 1).val < win0_2.index _ (1 : Fin 2) * 2048 + 2048; rw [h1]; omega

/-- The kernel and the reference end with one product. -/
theorem algebraic : Cert.algebraic_DhOddIdeal_DhOddRefIdeal := by
  intro m ρ m' ρ' _ hagree
  refine ⟨_, Cert.DhOddIdeal.Value.run_blocks (F := Ideal) m ρ, ?_⟩
  refine (θ_run Cert.DhOddRefIdeal.defs _ _).mono (fun _ h c => ⟨?_, (h c).2⟩) (Cert.DhOddRefIdeal.Value.run (F := Ideal) m' ρ')
  rw [(h c).1, (hagree c).2.1, (hagree c).2.2, final m c]
  exact dot_nt none (M := 2048) (K := 7168) (N := 2048) (φ₁ := .f32) (φ₂ := .f32) _ _ _

end Cert.DhOddIdeal.Product

end
-- ==== Proof.Products.DwInOdd.lean ====
/- The weight's gradient `yᵀ · ct` of the odd layer's input projection, in eight slabs of its columns. -/
module

public import proofs.«01_k».proof.Defs
public import proofs.«01_k».proof.Proof.Products.Sums
public import proofs.«01_k».proof.Proof.Gen.DwInOddIdeal.Value
public import proofs.«01_k».proof.Proof.Gen.DwInOddRefIdeal.Run
public import Idealize.ShloMosaic.Lib.Tactic

@[expose] public section

noncomputable section

open scoped BigOperators

namespace Cert.DwInOddIdeal.Product

open Cert.DwInOddIdeal Cert.DwInOddIdeal.Gen Cert.Products Idealize.ShloMosaic Idealize.ShloMosaic.TcCoe Idealize.SL.Sem
open Idealize.ShloMosaic.ValueIdx

variable (m : (ℓ : Loc nD τ sig) → Buf (Elt Ideal) ℓ)

/-- The accumulator a point ends with: the product of its two blocks. -/
theorem acc_apply (x0 : Vec Ideal S2048x1024 .bf16) (x1 : Vec Ideal S2048x1792 .bf16) (a : Fin 1024) (b : Fin 1792) :
    k0_pay2 k0_pay1 x0 x1 (ix2 a b) = ∑ k : Fin 2048, x0 (ix2 k a) * x1 (ix2 k b) := by
  unfold k0_pay2 k0_pay1
  dsimp only
  rw [shapeCast_self, shapeCast_self]
  refine (congrArg (Ideal.ofBits .f32 0#32 + ·) (matmul_tn none (M := 1024) (K := 2048) (N := 1792) (φ₁ := .bf16) (φ₂ := .bf16) x0 x1
    _ dot_S2048x1024_S2048x1792_S1024x1792_0_0_1_1_n_n.wf (ix2 a b))).trans ?_
  show Ideal.ofBits .f32 0#32 + (Ideal.ofBits .f32 0#32 + _) = _
  rw [ofBits_zero, zero_add, zero_add]
  rfl

/-- What a point stores: its accumulator's two halves of columns, a slab each. -/
theorem out_apply (c : Dev nD) (i : grid0.Coords) (arg3 : Memref sig .tc .vmem S2048x1024 .bf16) (harg3 : arg3.IsWhole) (arg4 : Memref sig .tc .vmem S2048x1792 .bf16) (harg4 : arg4.IsWhole) (arg5 : Memref sig .tc .vmem S2x1024x896 .bf16) (harg5 : arg5.IsWhole) (arg6 : Memref sig .tc .vmem S1024x1792 .f32) (harg6 : arg6.IsWhole) (hc0 : cond0_0 i) (hc1 : cond0_1 i)
    (x0 : Vec Ideal S2048x1024 .bf16) (x1 : Vec Ideal S2048x1792 .bf16) (g : Fin 2) (a : Fin 1024) (b : Fin 896) (j : Fin 1792)
    (hj : j.val = g.val * 896 + b.val) :
    out0_A_2 c i arg3 harg3 arg4 harg4 arg5 harg5 arg6 harg6 hc0 hc1 x0 x1 (ix3 g a b) = k0_pay2 k0_pay1 x0 x1 (ix2 a j) := by
  unfold out0_A_2
  rw [View.read_writes_eq_canon _ _ _ (cover0_A_2 c i arg3 harg3 arg4 harg4 arg5 harg5 arg6 harg6 hc0 hc1 x0 x1)]
  unfold kernelRun0_A
  sl_unfold_words
  have e3 : View.readAt (Elt Ideal) arg3.view (Rect.unit ![0, 0] S2048x1024.size inb_S2048x1024_S2048x1024_0_0).toLoadRect (harg3.unread x0) = x0 := by
    rw [View.readAt_eq_ld, harg3.read_unread, View.ld_unit_zero hz2]
  have e4 : View.readAt (Elt Ideal) arg4.view (Rect.unit ![0, 0] S2048x1792.size inb_S2048x1792_S2048x1792_0_0).toLoadRect (harg4.unread x1) = x1 := by
    rw [View.readAt_eq_ld, harg4.read_unread, View.ld_unit_zero hz2]
  have e6 := View.readCov_unit_zero (Val := Elt Ideal) arg6.view hz2 inb_S1024x1792_S1024x1792_0_0 (k0_pay1 (F := Ideal))
  dsimp only
  rw [e3, e4, e6]
  rw [View.readCov_eq_canon', View.readCov_eq_canon', View.canon_cons_unit_zero hz2]
  refine (pair_canon (e := .bf16) (M := 1024) (N := 896) _ _ _ _
    (fun g a b => k0_pay2 k0_pay1 x0 x1 (ix2 a (⟨g.val * 896 + b.val, by omega⟩ : Fin 1792))) (fun z a b => ?_) (fun z a b => ?_) g a b).trans
    (congrArg (fun q => k0_pay2 k0_pay1 x0 x1 (ix2 a q)) (Fin.ext hj.symm))
  · unfold k0_pay3
    refine (add1 _ _ z a b).trans (congrArg (k0_pay2 k0_pay1 x0 x1) (funext fun d => Fin.ext ?_))
    match d with
    | ⟨0, _⟩ => show 0 + 1 * a.val = a.val; omega
    | ⟨1, _⟩ => show 0 + 1 * b.val = 0 * 896 + b.val; omega
  · unfold k0_pay4
    refine (add1 _ _ z a b).trans (congrArg (k0_pay2 k0_pay1 x0 x1) (funext fun d => Fin.ext ?_))
    match d with
    | ⟨0, _⟩ => show 0 + 1 * a.val = a.val; omega
    | ⟨1, _⟩ => show 896 + 1 * b.val = 1 * 896 + b.val; omega

/-- The blocks a point takes and gives: 1024 columns of `h` (the fast axis), 1792 of the cotangent (the slow one). -/
theorem idx : ∀ t : Fin cfg0.N, win0_0.index t (0 : Fin 2) = 0 ∧ win0_0.index t (1 : Fin 2) = t.val % 2
    ∧ win0_1.index t (0 : Fin 2) = 0 ∧ win0_1.index t (1 : Fin 2) = t.val / 2
    ∧ win0_2.index t (0 : Fin 3) = t.val / 2 ∧ win0_2.index t (1 : Fin 3) = t.val % 2 ∧ win0_2.index t (2 : Fin 3) = 0 ∧ win0_2.flush t = true :=
  (by decide +kernel : ∀ t : Fin grid0.N, _)

theorem blk0 (c : Dev nD) (t : Fin cfg0.N) (k : Fin 2048) (a : Fin 1024) (j : Fin 2048) (hj : j.val = 1024 * (t.val % 2) + a.val) :
    iblk m c 0 t (ix2 k a) = m ((c : Thread nD τ).loc main_arg0) (ix2 k j) := by
  unfold iblk
  rw [View.read_apply]
  show V m c main_arg0 _ = _
  rw [V_main_arg0]
  congr 1; funext d; apply Fin.ext
  obtain ⟨h0, h1, -⟩ := idx t
  match d with
  | ⟨0, _⟩ => show win0_0.index t (0 : Fin 2) * 2048 + 1 * k.val = k.val; omega
  | ⟨1, _⟩ => show win0_0.index t (1 : Fin 2) * 1024 + 1 * a.val = j.val; omega

theorem blk1 (c : Dev nD) (t : Fin cfg0.N) (k : Fin 2048) (b : Fin 1792) (j : Fin 7168) (hj : j.val = 1792 * (t.val / 2) + b.val) :
    iblk m c 1 t (ix2 k b) = m ((c : Thread nD τ).loc main_arg2) (ix2 k j) := by
  unfold iblk
  rw [View.read_apply]
  show V m c main_arg2 _ = _
  rw [V_main_arg2]
  congr 1; funext d; apply Fin.ext
  obtain ⟨-, -, h0, h1, -⟩ := idx t
  match d with
  | ⟨0, _⟩ => show win0_1.index t (0 : Fin 2) * 2048 + 1 * k.val = k.val; omega
  | ⟨1, _⟩ => show win0_1.index t (1 : Fin 2) * 1792 + 1 * b.val = j.val; omega

/-- The layer's input and the cotangent the run starts with. -/
abbrev argH (c : Dev nD) : Mat 2048 2048 := m ((c : Thread nD τ).loc main_arg0)
abbrev argCt (c : Dev nD) : Mat 2048 7168 := m ((c : Thread nD τ).loc main_arg2)

/-- The gradient of the arguments the run starts with, in its slabs. -/
def grad (c : Dev nD) : (⟨3, ![8, 2048, 896]⟩ : Shape).Idx → EReal :=
  tnSlab (M := 2048) (K := 2048) (S := 8) (N := 896) (W := 7168) rfl (argH m c) (argCt m c)

/-- What point `t` stores is its part of the gradient. -/
theorem point (c : Dev nD) (t : Fin cfg0.N) (g : Fin 2) (a : Fin 1024) (b : Fin 896) (s : Fin 8) (j : Fin 2048)
    (hs : s.val = 2 * (t.val / 2) + g.val) (hj : j.val = 1024 * (t.val % 2) + a.val) :
    outsAt0 m c t (ix3 g a b) = grad m c (ix3 s j b) := by
  have hN : t.val < 8 := lt_of_lt_of_eq t.isLt N_0
  unfold outsAt0
  rw [out_apply _ _ _ _ _ _ _ _ _ _ _ _ _ _ g a b ⟨g.val * 896 + b.val, by omega⟩ rfl, acc_apply]
  unfold grad tnSlab tn
  refine Finset.sum_congr rfl fun k _ => ?_
  rw [blk0 m c t k a j hj, blk1 m c t k _ (slabCol (S := 8) (N := 896) (W := 7168) rfl s b) (by
    show s.val * 896 + b.val = 1792 * (t.val / 2) + (g.val * 896 + b.val); omega)]

theorem mem_blk (t : Fin cfg0.N) (i : S8x2048x896.Idx) :
    i ∈ ((cfg0.win 2).blk t).view.set ↔ ∀ a : Fin 3, win0_2.index t a * S2x1024x896.size a ≤ (i a).val
      ∧ (i a).val < win0_2.index t a * S2x1024x896.size a + S2x1024x896.size a := by
  show i ∈ ((View.whole main_v0).slice (win0_2.rect t)).set ↔ _
  rw [View.set_slice_whole, Rect.mem_set_unit]
  exact Iff.rfl

/-- The result: `hᵀ · ct`. -/
theorem final (c : Dev nD) : (dats m 0 c).arrAt 2 cfg0.N = grad m c := by
  refine (dats m 0 c).arrAt_eq_of_cover 2 _ (fun t hf => ?_) (fun i => ?_)
  · obtain ⟨-, -, -, -, h0, h1, h2, -⟩ := idx t
    rw [Value.flushed2]
    funext y
    rw [View.read_apply]
    have e : (cfg0.win 2).xinj (grid0.coords t) y = ix3 (n0 := 2) (n1 := 1024) (n2 := 896) (y 0) (y 1) (y 2) :=
      funext fun a => match a with | ⟨0, _⟩ => rfl | ⟨1, _⟩ => rfl | ⟨2, _⟩ => rfl
    have e0 : (((cfg0.win 2).blk t).view.emb y 0).val = win0_2.index t (0 : Fin 3) * 2 + 1 * (y 0).val := rfl
    have e1 : (((cfg0.win 2).blk t).view.emb y 1).val = win0_2.index t (1 : Fin 3) * 1024 + 1 * (y 1).val := rfl
    have e2 : (((cfg0.win 2).blk t).view.emb y 2).val = win0_2.index t (2 : Fin 3) * 896 + 1 * (y 2).val := rfl
    have e3 : ix3 (n0 := 8) (n1 := 2048) (n2 := 896) (((cfg0.win 2).blk t).view.emb y 0) (((cfg0.win 2).blk t).view.emb y 1) (y 2)
        = ((cfg0.win 2).blk t).view.emb y :=
      funext fun a => Fin.ext (match a with
        | ⟨0, _⟩ => rfl
        | ⟨1, _⟩ => rfl
        | ⟨2, _⟩ => by show (y 2).val = (((cfg0.win 2).blk t).view.emb y 2).val; omega)
    exact (congrArg (outsAt0 m c t) e).trans
      ((point m c t (y 0) (y 1) (y 2) (((cfg0.win 2).blk t).view.emb y 0) (((cfg0.win 2).blk t).view.emb y 1) (by omega) (by omega)).trans (congrArg _ e3))
  · have i0 : (i 0).val < 8 := (i 0).isLt
    have i1 : (i 1).val < 2048 := (i 1).isLt
    have i2 : (i 2).val < 896 := (i 2).isLt
    have hN : cfg0.N = 8 := N_0
    refine ⟨⟨(i 0).val / 2 * 2 + (i 1).val / 1024, by omega⟩, (idx _).2.2.2.2.2.2.2, ?_⟩
    obtain ⟨-, -, -, -, h0, h1, h2, -⟩ := idx ⟨(i 0).val / 2 * 2 + (i 1).val / 1024, by omega⟩
    rw [mem_blk]
    intro a
    match a with
    | ⟨0, _⟩ => show win0_2.index _ (0 : Fin 3) * 2 ≤ (i 0).val ∧ (i 0).val < win0_2.index _ (0 : Fin 3) * 2 + 2; rw [h0]; dsimp only; omega
    | ⟨1, _⟩ => show win0_2.index _ (1 : Fin 3) * 1024 ≤ (i 1).val ∧ (i 1).val < win0_2.index _ (1 : Fin 3) * 1024 + 1024; rw [h1]; dsimp only; omega
    | ⟨2, _⟩ => show win0_2.index _ (2 : Fin 3) * 896 ≤ (i 2).val ∧ (i 2).val < win0_2.index _ (2 : Fin 3) * 896 + 896; rw [h2]; omega

/-- The kernel and the reference end with one gradient. -/
theorem algebraic : Cert.algebraic_DwInOddIdeal_DwInOddRefIdeal := by
  intro m ρ m' ρ' _ hagree
  refine ⟨_, Cert.DwInOddIdeal.Value.run_blocks (F := Ideal) m ρ, ?_⟩
  refine (θ_run Cert.DwInOddRefIdeal.defs _ _).mono (fun _ h c => ⟨?_, (h c).2⟩) (Cert.DwInOddRefIdeal.Value.run (F := Ideal) m' ρ')
  rw [(h c).1, (hagree c).1, (hagree c).2.2, final m c]
  funext i
  obtain ⟨s, a, b, rfl⟩ : ∃ s a b, i = ix3 (n0 := 8) (n1 := 2048) (n2 := 896) s a b := ⟨_, _, _, eq_ix3 i⟩
  exact (slab_apply (M := 2048) (S := 8) (N := 896) (W := 7168) _ _ _ rfl s a b (slabCol rfl s b) rfl).trans
    (congrFun (weight_grad (M := 2048) (K := 2048) (N := 7168) _ _ _ _ _) (ix2 a (slabCol rfl s b)))

end Cert.DwInOddIdeal.Product

end
-- ==== Proof.Products.InOdd.lean ====
/- The odd layer's input projection `h · w`, the weight in eight slabs of columns, two of them at a time. -/
module

public import proofs.«01_k».proof.Defs
public import proofs.«01_k».proof.Proof.Products.Sums
public import proofs.«01_k».proof.Proof.Gen.InOddIdeal.Value
public import proofs.«01_k».proof.Proof.Gen.InOddRefIdeal.Run
public import Idealize.ShloMosaic.Lib.Tactic

@[expose] public section

noncomputable section

open scoped BigOperators

namespace Cert.InOddIdeal.Product

open Cert.InOddIdeal Cert.InOddIdeal.Gen Cert.Products Idealize.ShloMosaic Idealize.ShloMosaic.TcCoe Idealize.SL.Sem
open Idealize.ShloMosaic.ValueIdx

variable (m : (ℓ : Loc nD τ sig) → Buf (Elt Ideal) ℓ)

/-- The layer's input and its weight. -/
abbrev argH (c : Dev nD) : Mat 2048 2048 := m ((c : Thread nD τ).loc main_arg0)
abbrev argW (c : Dev nD) : Mat 2048 7168 := m ((c : Thread nD τ).loc main_arg1)

/-- The weight in the slabs the call takes. -/
theorem V_weight (c : Dev nD) : V m c main_v1 = transpose S8x2048x896 [1, 0, 2]
    (shapeCast S2048x8x896 (m ((c : Thread nD τ).loc main_arg1)) shapeCasts_S2048x7168_S2048x8x896) transposes_S2048x8x896_S8x2048x896_1_0_2 := by
  show StableHlo.after hostOps0 _ _ = _
  after_results <;> rfl

/-- What a point stores: the product of its block of `h` and its two slabs side by side. -/
theorem out_apply (x0 : Vec Ideal S2048x2048 .bf16) (x1 : Vec Ideal S2x2048x896 .bf16) (a : Fin 2048) (g : Fin 2) (b : Fin 896)
    (j : Fin 1792) (hj : j.val = g.val * 896 + b.val) :
    out0_2 x0 x1 (ix2 a j) = ∑ k : Fin 2048, x0 (ix2 a k) * x1 (ix3 g k b) := by
  unfold out0_2 r0_0 r0_1 r0_2 r0_3
  rw [View.canon_unit_zero hz2]
  unfold k0_pay1
  rw [View.ld_unit_zero hz2]
  dsimp only
  refine (matmul_nn none (M := 2048) (K := 2048) (N := 1792) (φ₁ := .bf16) (φ₂ := .bf16) x0
    _ _ dot_S2048x2048_S2048x1792_S2048x1792_1_0_0_1_n_n.wf (ix2 a j)).trans ?_
  show Ideal.ofBits .f32 0#32 + _ = _
  rw [ofBits_zero, zero_add]
  exact Finset.sum_congr rfl fun k _ => congrArg (x0 (ix2 a k) * ·) (pair_apply (e := .bf16) x1 _ _ _ _ g k b j hj)

/-- The blocks a point takes and gives: all rows of `h`, the point's two slabs, their columns. -/
theorem idx : ∀ t : Fin cfg0.N, win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = t.val ∧ win0_2.flush t = true :=
  (by decide +kernel : ∀ t : Fin grid0.N, _)

theorem blk0 (c : Dev nD) (t : Fin cfg0.N) (a k : Fin 2048) : iblk m c 0 t (ix2 a k) = argH m c (ix2 a k) := by
  unfold iblk
  rw [View.read_apply]
  show V m c main_arg0 _ = _
  rw [V_main_arg0]
  show _ = m ((c : Thread nD τ).loc main_arg0) (ix2 a k)
  congr 1; funext d; apply Fin.ext
  obtain ⟨h0, h1, -⟩ := idx t
  match d with
  | ⟨0, _⟩ => show win0_0.index t (0 : Fin 2) * 2048 + 1 * a.val = a.val; omega
  | ⟨1, _⟩ => show win0_0.index t (1 : Fin 2) * 2048 + 1 * k.val = k.val; omega

theorem blk1 (c : Dev nD) (t : Fin cfg0.N) (g : Fin 2) (k : Fin 2048) (b : Fin 896) (j : Fin 7168)
    (hj : j.val = (2 * t.val + g.val) * 896 + b.val) : iblk m c 1 t (ix3 g k b) = argW m c (ix2 k j) := by
  unfold iblk
  rw [View.read_apply]
  show V m c main_v1 _ = _
  rw [V_weight]
  obtain ⟨-, -, h0, h1, h2, -⟩ := idx t
  have hN : t.val < 4 := lt_of_lt_of_eq t.isLt N_0
  refine (congrArg _ (funext fun d => Fin.ext ?_)).trans
    (slab_apply (M := 2048) (S := 8) (N := 896) (W := 7168) _ shapeCasts_S2048x7168_S2048x8x896 transposes_S2048x8x896_S8x2048x896_1_0_2 rfl
      ⟨2 * t.val + g.val, by omega⟩ k b j hj)
  match d with
  | ⟨0, _⟩ => show win0_1.index t (0 : Fin 3) * 2 + 1 * g.val = 2 * t.val + g.val; omega
  | ⟨1, _⟩ => show win0_1.index t (1 : Fin 3) * 2048 + 1 * k.val = k.val; omega
  | ⟨2, _⟩ => show win0_1.index t (2 : Fin 3) * 896 + 1 * b.val = b.val; omega

/-- What point `t` stores is its columns of the product. -/
theorem point (c : Dev nD) (t : Fin cfg0.N) (a : Fin 2048) (b : Fin 1792) (j : Fin 7168) (hj : j.val = 1792 * t.val + b.val) :
    out0_2 (iblk m c 0 t) (iblk m c 1 t) (ix2 a b) = nn (argH m c) (argW m c) (ix2 a j) := by
  have hb := b.isLt
  rw [out_apply _ _ a ⟨b.val / 896, by omega⟩ ⟨b.val % 896, by omega⟩ b (by dsimp only; omega)]
  unfold nn
  refine Finset.sum_congr rfl fun k _ => ?_
  rw [blk0, blk1 m c t _ k _ j (by dsimp only; omega)]

theorem mem_blk (t : Fin cfg0.N) (i : S2048x7168.Idx) :
    i ∈ ((cfg0.win 2).blk t).view.set ↔ ∀ a : Fin 2, win0_2.index t a * S2048x1792.size a ≤ (i a).val
      ∧ (i a).val < win0_2.index t a * S2048x1792.size a + S2048x1792.size a := by
  show i ∈ ((View.whole main_v2).slice (win0_2.rect t)).set ↔ _
  rw [View.set_slice_whole, Rect.mem_set_unit]
  exact Iff.rfl

/-- The result: `h · w`. -/
theorem final (c : Dev nD) : (dats m 0 c).arrAt 2 cfg0.N = nn (argH m c) (argW m c) := by
  refine (dats m 0 c).arrAt_eq_of_cover 2 _ (fun t hf => ?_) (fun i => ?_)
  · obtain ⟨-, -, -, -, -, h0, h1, -⟩ := idx t
    rw [Value.flushed2]
    funext y
    rw [View.read_apply]
    have e : (cfg0.win 2).xinj (grid0.coords t) y = ix2 (n0 := 2048) (n1 := 1792) (y 0) (y 1) :=
      funext fun a => match a with | ⟨0, _⟩ => rfl | ⟨1, _⟩ => rfl
    have e0 : (((cfg0.win 2).blk t).view.emb y 0).val = win0_2.index t (0 : Fin 2) * 2048 + 1 * (y 0).val := rfl
    have e1 : (((cfg0.win 2).blk t).view.emb y 1).val = win0_2.index t (1 : Fin 2) * 1792 + 1 * (y 1).val := rfl
    have e2 : ix2 (n0 := 2048) (n1 := 7168) (y 0) (((cfg0.win 2).blk t).view.emb y 1) = ((cfg0.win 2).blk t).view.emb y :=
      funext fun a => Fin.ext (match a with | ⟨0, _⟩ => by show (y 0).val = (((cfg0.win 2).blk t).view.emb y 0).val; omega | ⟨1, _⟩ => rfl)
    exact (congrArg (out0_2 (iblk m c 0 t) (iblk m c 1 t)) e).trans
      ((point m c t (y 0) (y 1) (((cfg0.win 2).blk t).view.emb y 1) (by omega)).trans (congrArg _ e2))
  · have i0 : (i 0).val < 2048 := (i 0).isLt
    have i1 : (i 1).val < 7168 := (i 1).isLt
    have hN : cfg0.N = 4 := N_0
    refine ⟨⟨(i 1).val / 1792, by omega⟩, (idx _).2.2.2.2.2.2.2, ?_⟩
    obtain ⟨-, -, -, -, -, h0, h1, -⟩ := idx ⟨(i 1).val / 1792, by omega⟩
    rw [mem_blk]
    intro a
    match a with
    | ⟨0, _⟩ => show win0_2.index _ (0 : Fin 2) * 2048 ≤ (i 0).val ∧ (i 0).val < win0_2.index _ (0 : Fin 2) * 2048 + 2048; rw [h0]; omega
    | ⟨1, _⟩ => show win0_2.index _ (1 : Fin 2) * 1792 ≤ (i 1).val ∧ (i 1).val < win0_2.index _ (1 : Fin 2) * 1792 + 1792; rw [h1]; dsimp only; omega

/-- The kernel and the reference end with one product. -/
theorem algebraic : Cert.algebraic_InOddIdeal_InOddRefIdeal := by
  intro m ρ m' ρ' _ hagree
  refine ⟨_, Cert.InOddIdeal.Value.run_blocks (F := Ideal) m ρ, ?_⟩
  refine (θ_run Cert.InOddRefIdeal.defs _ _).mono (fun _ h c => ⟨?_, (h c).2⟩) (Cert.InOddRefIdeal.Value.run (F := Ideal) m' ρ')
  rw [(h c).1, (hagree c).1, (hagree c).2, final m c]
  exact dot_nn none (M := 2048) (K := 2048) (N := 7168) (φ₁ := .f32) (φ₂ := .f32) _ _ _

end Cert.InOddIdeal.Product

end
-- ==== Proof.Products.DhEven.lean ====
/- The gradient `ct · wᵀ` of the even layer's input, folded over the weight's slabs two at a time. -/
module

public import proofs.«01_k».proof.Defs
public import proofs.«01_k».proof.Proof.Products.Sums
public import proofs.«01_k».proof.Proof.Gen.DhEvenIdeal.Value
public import proofs.«01_k».proof.Proof.Gen.DhEvenRefIdeal.Run
public import Idealize.ShloMosaic.Lib.Tactic

@[expose] public section

noncomputable section

open scoped BigOperators

namespace Cert.DhEvenIdeal.Product

open Cert.DhEvenIdeal Cert.DhEvenIdeal.Gen Cert.Products Idealize.ShloMosaic Idealize.ShloMosaic.TcCoe Idealize.SL.Sem
open Idealize.ShloMosaic.ValueIdx

variable (m : (ℓ : Loc nD τ sig) → Buf (Elt Ideal) ℓ)

/-- The weight in the slabs the call takes. -/
theorem V_weight (c : Dev nD) : V m c main_v1 = transpose S8x2048x768 [1, 0, 2]
    (shapeCast S2048x8x768 (m ((c : Thread nD τ).loc main_arg1)) shapeCasts_S2048x6144_S2048x8x768) transposes_S2048x8x768_S8x2048x768_1_0_2 := by
  show StableHlo.after hostOps0 _ _ = _
  after_results <;> rfl

/-- The two slabs of a point. -/
def slab0 (x1 : Vec Ideal S2x2048x768 .bf16) : Vec Ideal S1x2048x768 .bf16 :=
  View.ld x1 (Rect.unit (s := S2x2048x768) ![0, 0, 0] S1x2048x768.size inb_S2x2048x768_S1x2048x768_0_0_0)
def slab1 (x1 : Vec Ideal S2x2048x768 .bf16) : Vec Ideal S1x2048x768 .bf16 :=
  View.ld x1 (Rect.unit (s := S2x2048x768) ![1, 0, 0] S1x2048x768.size inb_S2x2048x768_S1x2048x768_1_0_0)

/-- A point adds to its accumulator the product of its cotangent's columns and its slabs' rows. -/
theorem step_apply (acc : Vec Ideal S1024x2048 .f32) (x0 : Vec Ideal S1024x1536 .bf16) (x1 : Vec Ideal S2x2048x768 .bf16) (a : Fin 1024) (d : Fin 2048) :
    k0_pay2 acc x0 (slab0 x1) (slab1 x1) (ix2 a d) = acc (ix2 a d)
      + ∑ b : Fin 1536, x0 (ix2 a b) * x1 (ix3 (n0 := 2) (n2 := 768) ⟨b.val / 768, by omega⟩ d ⟨b.val % 768, by omega⟩) := by
  unfold k0_pay2
  rw [shapeCast_self]
  refine congrArg (acc (ix2 a d) + ·) ((matmul_nt none (M := 1024) (K := 1536) (N := 2048) (φ₁ := .bf16) (φ₂ := .bf16) x0
    _ _ dot_S1024x1536_S2048x1536_S1024x2048_1_1_0_0_n_n.wf (ix2 a d)).trans ?_)
  show Ideal.ofBits .f32 0#32 + _ = _
  rw [ofBits_zero, zero_add]
  refine Finset.sum_congr rfl fun b _ => congrArg (x0 (ix2 a b) * ·) ?_
  unfold slab0 slab1
  exact pair_apply (e := .bf16) x1 _ _ _ _ ⟨b.val / 768, by omega⟩ d ⟨b.val % 768, by omega⟩ b (by dsimp only; omega)

/-- The accumulator after a point of the first kind: from zero. -/
theorem acc_A (c : Dev nD) (i : grid0.Coords) (arg2 : Memref sig .tc .vmem S1024x1536 .bf16) (harg2 : arg2.IsWhole) (arg3 : Memref sig .tc .vmem S2x2048x768 .bf16) (harg3 : arg3.IsWhole) (arg4 : Memref sig .tc .vmem S1024x2048 .bf16) (harg4 : arg4.IsWhole) (arg5 : Memref sig .tc .vmem S1024x2048 .f32) (harg5 : arg5.IsWhole) (hc0 : cond0_0 i) (hc1 : ¬cond0_1 i)
    (x0 : Vec Ideal S1024x1536 .bf16) (x1 : Vec Ideal S2x2048x768 .bf16) :
    sout0_A_0 c i arg2 harg2 arg3 harg3 arg4 harg4 arg5 harg5 hc0 hc1 x0 x1 = k0_pay2 k0_pay1 x0 (slab0 x1) (slab1 x1) := by
  unfold sout0_A_0
  rw [View.read_writes_eq_canon _ _ _ (scover0_A_0 c i arg2 harg2 arg3 harg3 arg4 harg4 arg5 harg5 hc0 hc1 x0 x1)]
  unfold kernelRun0_A
  sl_unfold_words
  have e2 : View.readAt (Elt Ideal) arg2.view (Rect.unit ![0, 0] S1024x1536.size inb_S1024x1536_S1024x1536_0_0).toLoadRect (harg2.unread x0) = x0 := by
    rw [View.readAt_eq_ld, harg2.read_unread, View.ld_unit_zero hz2]
  have e30 : View.readAt (Elt Ideal) arg3.view (Rect.unit (s := S2x2048x768) ![0, 0, 0] S1x2048x768.size inb_S2x2048x768_S1x2048x768_0_0_0).toLoadRect (harg3.unread x1) = slab0 x1 := by
    rw [View.readAt_eq_ld, harg3.read_unread]; rfl
  have e31 : View.readAt (Elt Ideal) arg3.view (Rect.unit (s := S2x2048x768) ![1, 0, 0] S1x2048x768.size inb_S2x2048x768_S1x2048x768_1_0_0).toLoadRect (harg3.unread x1) = slab1 x1 := by
    rw [View.readAt_eq_ld, harg3.read_unread]; rfl
  have e5 := View.readCov_unit_zero (Val := Elt Ideal) arg5.view hz2 inb_S1024x2048_S1024x2048_0_0 (k0_pay1 (F := Ideal))
  dsimp only
  rw [View.canon_cons_unit_zero hz2, e2, e30, e31, e5]

/-- … of the second kind: over what the point before left. -/
theorem acc_B (c : Dev nD) (i : grid0.Coords) (arg2 : Memref sig .tc .vmem S1024x1536 .bf16) (harg2 : arg2.IsWhole) (arg3 : Memref sig .tc .vmem S2x2048x768 .bf16) (harg3 : arg3.IsWhole) (arg4 : Memref sig .tc .vmem S1024x2048 .bf16) (harg4 : arg4.IsWhole) (arg5 : Memref sig .tc .vmem S1024x2048 .f32) (harg5 : arg5.IsWhole) (hc0 : ¬cond0_0 i) (hc1 : ¬cond0_1 i)
    (x0 : Vec Ideal S1024x1536 .bf16) (x1 : Vec Ideal S2x2048x768 .bf16) (xs0 : Vec Ideal S1024x2048 .f32) :
    sout0_B_0 c i arg2 harg2 arg3 harg3 arg4 harg4 arg5 harg5 hc0 hc1 x0 x1 xs0 = k0_pay2 xs0 x0 (slab0 x1) (slab1 x1) := by
  unfold sout0_B_0
  rw [View.read_writes_eq_canon _ _ _ (scover0_B_0 c i arg2 harg2 arg3 harg3 arg4 harg4 arg5 harg5 hc0 hc1 x0 x1 xs0)]
  unfold kernelRun0_B
  sl_unfold_words
  have e2 : View.readAt (Elt Ideal) arg2.view (Rect.unit ![0, 0] S1024x1536.size inb_S1024x1536_S1024x1536_0_0).toLoadRect (harg2.unread x0) = x0 := by
    rw [View.readAt_eq_ld, harg2.read_unread, View.ld_unit_zero hz2]
  have e30 : View.readAt (Elt Ideal) arg3.view (Rect.unit (s := S2x2048x768) ![0, 0, 0] S1x2048x768.size inb_S2x2048x768_S1x2048x768_0_0_0).toLoadRect (harg3.unread x1) = slab0 x1 := by
    rw [View.readAt_eq_ld, harg3.read_unread]; rfl
  have e31 : View.readAt (Elt Ideal) arg3.view (Rect.unit (s := S2x2048x768) ![1, 0, 0] S1x2048x768.size inb_S2x2048x768_S1x2048x768_1_0_0).toLoadRect (harg3.unread x1) = slab1 x1 := by
    rw [View.readAt_eq_ld, harg3.read_unread]; rfl
  have e5 : View.readAt (Elt Ideal) arg5.view (Rect.unit ![0, 0] S1024x2048.size inb_S1024x2048_S1024x2048_0_0).toLoadRect (harg5.unread xs0) = xs0 := by
    rw [View.readAt_eq_ld, harg5.read_unread, View.ld_unit_zero hz2]
  dsimp only
  rw [View.canon_unit_zero hz2, e2, e30, e31, e5]

/-- … of the last kind, likewise; … -/
theorem acc_C (c : Dev nD) (i : grid0.Coords) (arg2 : Memref sig .tc .vmem S1024x1536 .bf16) (harg2 : arg2.IsWhole) (arg3 : Memref sig .tc .vmem S2x2048x768 .bf16) (harg3 : arg3.IsWhole) (arg4 : Memref sig .tc .vmem S1024x2048 .bf16) (harg4 : arg4.IsWhole) (arg5 : Memref sig .tc .vmem S1024x2048 .f32) (harg5 : arg5.IsWhole) (hc0 : ¬cond0_0 i) (hc1 : cond0_1 i)
    (x0 : Vec Ideal S1024x1536 .bf16) (x1 : Vec Ideal S2x2048x768 .bf16) (xs0 : Vec Ideal S1024x2048 .f32) :
    sout0_C_0 c i arg2 harg2 arg3 harg3 arg4 harg4 arg5 harg5 hc0 hc1 x0 x1 xs0 = k0_pay2 xs0 x0 (slab0 x1) (slab1 x1) := by
  unfold sout0_C_0
  rw [View.read_writes_eq_canon _ _ _ (scover0_C_0 c i arg2 harg2 arg3 harg3 arg4 harg4 arg5 harg5 hc0 hc1 x0 x1 xs0)]
  unfold kernelRun0_C
  sl_unfold_words
  have e2 : View.readAt (Elt Ideal) arg2.view (Rect.unit ![0, 0] S1024x1536.size inb_S1024x1536_S1024x1536_0_0).toLoadRect (harg2.unread x0) = x0 := by
    rw [View.readAt_eq_ld, harg2.read_unread, View.ld_unit_zero hz2]
  have e30 : View.readAt (Elt Ideal) arg3.view (Rect.unit (s := S2x2048x768) ![0, 0, 0] S1x2048x768.size inb_S2x2048x768_S1x2048x768_0_0_0).toLoadRect (harg3.unread x1) = slab0 x1 := by
    rw [View.readAt_eq_ld, harg3.read_unread]; rfl
  have e31 : View.readAt (Elt Ideal) arg3.view (Rect.unit (s := S2x2048x768) ![1, 0, 0] S1x2048x768.size inb_S2x2048x768_S1x2048x768_1_0_0).toLoadRect (harg3.unread x1) = slab1 x1 := by
    rw [View.readAt_eq_ld, harg3.read_unread]; rfl
  have e5 : View.readAt (Elt Ideal) arg5.view (Rect.unit ![0, 0] S1024x2048.size inb_S1024x2048_S1024x2048_0_0).toLoadRect (harg5.unread xs0) = xs0 := by
    rw [View.readAt_eq_ld, harg5.read_unread, View.ld_unit_zero hz2]
  dsimp only
  rw [View.canon_unit_zero hz2, e2, e30, e31, e5]

/-- … and what that kind of point stores: the same. -/
theorem out_C (c : Dev nD) (i : grid0.Coords) (arg2 : Memref sig .tc .vmem S1024x1536 .bf16) (harg2 : arg2.IsWhole) (arg3 : Memref sig .tc .vmem S2x2048x768 .bf16) (harg3 : arg3.IsWhole) (arg4 : Memref sig .tc .vmem S1024x2048 .bf16) (harg4 : arg4.IsWhole) (arg5 : Memref sig .tc .vmem S1024x2048 .f32) (harg5 : arg5.IsWhole) (hc0 : ¬cond0_0 i) (hc1 : cond0_1 i)
    (x0 : Vec Ideal S1024x1536 .bf16) (x1 : Vec Ideal S2x2048x768 .bf16) (xs0 : Vec Ideal S1024x2048 .f32) :
    out0_C_2 c i arg2 harg2 arg3 harg3 arg4 harg4 arg5 harg5 hc0 hc1 x0 x1 xs0 = k0_pay2 xs0 x0 (slab0 x1) (slab1 x1) := by
  unfold out0_C_2
  rw [View.read_writes_eq_canon _ _ _ (cover0_C_2 c i arg2 harg2 arg3 harg3 arg4 harg4 arg5 harg5 hc0 hc1 x0 x1 xs0)]
  unfold kernelRun0_C
  sl_unfold_words
  have e2 : View.readAt (Elt Ideal) arg2.view (Rect.unit ![0, 0] S1024x1536.size inb_S1024x1536_S1024x1536_0_0).toLoadRect (harg2.unread x0) = x0 := by
    rw [View.readAt_eq_ld, harg2.read_unread, View.ld_unit_zero hz2]
  have e30 : View.readAt (Elt Ideal) arg3.view (Rect.unit (s := S2x2048x768) ![0, 0, 0] S1x2048x768.size inb_S2x2048x768_S1x2048x768_0_0_0).toLoadRect (harg3.unread x1) = slab0 x1 := by
    rw [View.readAt_eq_ld, harg3.read_unread]; rfl
  have e31 : View.readAt (Elt Ideal) arg3.view (Rect.unit (s := S2x2048x768) ![1, 0, 0] S1x2048x768.size inb_S2x2048x768_S1x2048x768_1_0_0).toLoadRect (harg3.unread x1) = slab1 x1 := by
    rw [View.readAt_eq_ld, harg3.read_unread]; rfl
  have e5 : View.readAt (Elt Ideal) arg5.view (Rect.unit ![0, 0] S1024x2048.size inb_S1024x2048_S1024x2048_0_0).toLoadRect (harg5.unread xs0) = xs0 := by
    rw [View.readAt_eq_ld, harg5.read_unread, View.ld_unit_zero hz2]
  dsimp only
  rw [View.canon_unit_zero hz2, e2, e30, e31, e5, View.readCov_unit_zero _ hz2]
  rfl

/-- The blocks a point takes and gives: 1024 rows of the cotangent (the slow axis), 1536 of its columns and two slabs (the fast one). -/
theorem idx : ∀ t : Fin cfg0.N, win0_0.index t (0 : Fin 2) = t.val / 4 ∧ win0_0.index t (1 : Fin 2) = t.val % 4
    ∧ win0_1.index t (0 : Fin 3) = t.val % 4 ∧ win0_1.index t (1 : Fin 3) = 0 ∧ win0_1.index t (2 : Fin 3) = 0
    ∧ win0_2.index t (0 : Fin 2) = t.val / 4 ∧ win0_2.index t (1 : Fin 2) = 0 ∧ (win0_2.flush t = true ↔ t.val % 4 = 3) :=
  (by decide +kernel : ∀ t : Fin grid0.N, _)

/-- The weight and the cotangent the run starts with. -/
abbrev argW (c : Dev nD) : Mat 2048 6144 := m ((c : Thread nD τ).loc main_arg1)
abbrev argCt (c : Dev nD) : Mat 2048 6144 := m ((c : Thread nD τ).loc main_arg2)

theorem blk0 (c : Dev nD) (t : Fin cfg0.N) (a : Fin 1024) (b : Fin 1536) (r : Fin 2048) (j : Fin 6144) (hr : r.val = 1024 * (t.val / 4) + a.val)
    (hj : j.val = 1536 * (t.val % 4) + b.val) : iblk m c 0 t (ix2 a b) = argCt m c (ix2 r j) := by
  unfold iblk
  rw [View.read_apply]
  show V m c main_arg2 _ = _
  rw [V_main_arg2]
  show _ = m ((c : Thread nD τ).loc main_arg2) (ix2 r j)
  congr 1; funext d; apply Fin.ext
  obtain ⟨h0, h1, -⟩ := idx t
  match d with
  | ⟨0, _⟩ => show win0_0.index t (0 : Fin 2) * 1024 + 1 * a.val = r.val; omega
  | ⟨1, _⟩ => show win0_0.index t (1 : Fin 2) * 1536 + 1 * b.val = j.val; omega

theorem blk1 (c : Dev nD) (t : Fin cfg0.N) (g : Fin 2) (k : Fin 2048) (b : Fin 768) (j : Fin 6144)
    (hj : j.val = (2 * (t.val % 4) + g.val) * 768 + b.val) : iblk m c 1 t (ix3 g k b) = argW m c (ix2 k j) := by
  unfold iblk
  rw [View.read_apply]
  show V m c main_v1 _ = _
  rw [V_weight]
  obtain ⟨-, -, h0, h1, h2, -⟩ := idx t
  refine (congrArg _ (funext fun d => Fin.ext ?_)).trans
    (slab_apply (M := 2048) (S := 8) (N := 768) (W := 6144) _ shapeCasts_S2048x6144_S2048x8x768 transposes_S2048x8x768_S8x2048x768_1_0_2 rfl
      ⟨2 * (t.val % 4) + g.val, by omega⟩ k b j hj)
  match d with
  | ⟨0, _⟩ => show win0_1.index t (0 : Fin 3) * 2 + 1 * g.val = 2 * (t.val % 4) + g.val; omega
  | ⟨1, _⟩ => show win0_1.index t (1 : Fin 3) * 2048 + 1 * k.val = k.val; omega
  | ⟨2, _⟩ => show win0_1.index t (2 : Fin 3) * 768 + 1 * b.val = b.val; omega

/-- One term of the product `ct · wᵀ`. -/
def term (c : Dev nD) (r d : Fin 2048) (k : Fin 6144) : EReal := argCt m c (ix2 r k) * argW m c (ix2 d k)

/-- What a point makes of an accumulator. -/
def next (c : Dev nD) (t : Fin cfg0.N) (acc : Vec Ideal S1024x2048 .f32) : Vec Ideal S1024x2048 .f32 :=
  k0_pay2 acc (iblk m c 0 t) (slab0 (iblk m c 1 t)) (slab1 (iblk m c 1 t))

/-- A point adds the next 1536 terms. -/
theorem step (c : Dev nD) (t : Fin cfg0.N) (acc : Vec Ideal S1024x2048 .f32) (a : Fin 1024) (d r : Fin 2048) (hr : r.val = 1024 * (t.val / 4) + a.val)
    (n : Nat) (hn : n = 1536 * (t.val % 4)) (hacc : acc (ix2 a d) = psum (term m c r d) n) :
    next m c t acc (ix2 a d) = psum (term m c r d) (n + 1536) := by
  unfold next
  rw [step_apply, hacc]
  refine psum_add (term m c r d) n _ (by omega) fun b k hk => ?_
  have hb := b.isLt
  unfold term
  rw [blk0 m c t a b r k hr (by omega), blk1 m c t _ d _ k (by dsimp only; omega)]

theorem first_acc (c : Dev nD) (t : Fin cfg0.N) (h0 : t.val % 4 = 0) : (outsAt0 m c t.val t.isLt).2 = next m c t (k0_pay1 (F := Ideal)) := by
  have e := congrArg Prod.snd (outsAt0_A m c t h0 (by omega))
  dsimp only at e
  rw [acc_A] at e
  exact e

theorem later_acc (c : Dev nD) (t : Fin cfg0.N) (h0 : ¬t.val % 4 = 0) : (outsAt0 m c t.val t.isLt).2
    = next m c t (outsAt0 m c (t.val - 1) (Nat.lt_of_le_of_lt (Nat.sub_le _ _) t.isLt)).2 := by
  by_cases h1 : t.val % 4 = 3
  · have e := congrArg Prod.snd (outsAt0_C m c t h0 h1)
    dsimp only at e
    rw [acc_C] at e
    exact e
  · have e := congrArg Prod.snd (outsAt0_B m c t h0 h1)
    dsimp only at e
    rw [acc_B] at e
    exact e

theorem last_out (c : Dev nD) (t : Fin cfg0.N) (h0 : ¬t.val % 4 = 0) (h1 : t.val % 4 = 3) : (outsAt0 m c t.val t.isLt).1
    = next m c t (outsAt0 m c (t.val - 1) (Nat.lt_of_le_of_lt (Nat.sub_le _ _) t.isLt)).2 := by
  have e := congrArg Prod.fst (outsAt0_C m c t h0 h1)
  dsimp only at e
  rw [out_C] at e
  exact e

theorem zero_apply (i : S1024x2048.Idx) : k0_pay1 (F := Ideal) i = 0 := by
  unfold k0_pay1
  rw [shapeCast_self]
  exact ofBits_zero

/-- The accumulator after point `n`: the terms up to its columns. -/
theorem acc_eq (c : Dev nD) : ∀ (n : Nat) (hn : n < cfg0.N) (a : Fin 1024) (d r : Fin 2048), r.val = 1024 * (n / 4) + a.val →
    (outsAt0 m c n hn).2 (ix2 a d) = psum (term m c r d) (1536 * (n % 4) + 1536) := by
  intro n
  induction n using Nat.strong_induction_on with
  | _ n ih =>
    intro hn a d r hr
    by_cases h0 : n % 4 = 0
    · rw [first_acc m c ⟨n, hn⟩ h0]
      exact step m c ⟨n, hn⟩ _ a d r hr _ rfl (by rw [zero_apply, h0, Nat.mul_zero, psum_zero])
    · rw [later_acc m c ⟨n, hn⟩ h0]
      refine step m c ⟨n, hn⟩ _ a d r hr _ rfl ((ih (n - 1) (by omega) (lt_of_le_of_lt (Nat.sub_le _ _) hn) a d r (by omega)).trans ?_)
      exact congrArg (psum _) (by omega)

/-- What a point of the last kind stores is its rows of the product. -/
theorem point (c : Dev nD) (t : Fin cfg0.N) (h1 : t.val % 4 = 3) (a : Fin 1024) (d r : Fin 2048) (hr : r.val = 1024 * (t.val / 4) + a.val) :
    (outsAt0 m c t.val t.isLt).1 (ix2 a d) = nt (argCt m c) (argW m c) (ix2 r d) := by
  have h0 : ¬t.val % 4 = 0 := by omega
  rw [last_out m c t h0 h1]
  refine (step m c t _ a d r hr (1536 * (t.val % 4)) rfl ?_).trans ?_
  · refine (acc_eq m c (t.val - 1) (lt_of_le_of_lt (Nat.sub_le _ _) t.isLt) a d r (by omega)).trans (congrArg (psum _) (by omega))
  · refine (congrArg (psum _) (by omega : _ = 6144)).trans (psum_all (term m c r d))

theorem mem_blk (t : Fin cfg0.N) (i : S2048x2048.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v2).slice (win0_2.rect t)).set ↔ _
  rw [View.set_slice_whole, Rect.mem_set_unit]
  exact Iff.rfl

/-- The result: `ct · wᵀ`. -/
theorem final (c : Dev nD) : (dats m 0 c).arrAt 2 cfg0.N = nt (argCt m c) (argW m c) := by
  refine (dats m 0 c).arrAt_eq_of_cover 2 _ (fun t hf => ?_) (fun i => ?_)
  · obtain ⟨-, -, -, -, -, h0, h1, h2⟩ := idx t
    rw [Value.flushed2]
    funext y
    rw [View.read_apply]
    have e : (cfg0.win 2).xinj (grid0.coords t) y = ix2 (n0 := 1024) (n1 := 2048) (y 0) (y 1) :=
      funext fun a => match a with | ⟨0, _⟩ => rfl | ⟨1, _⟩ => rfl
    have e0 : (((cfg0.win 2).blk t).view.emb y 0).val = win0_2.index t (0 : Fin 2) * 1024 + 1 * (y 0).val := rfl
    have e1 : (((cfg0.win 2).blk t).view.emb y 1).val = win0_2.index t (1 : Fin 2) * 2048 + 1 * (y 1).val := rfl
    have e2 : ix2 (n0 := 2048) (n1 := 2048) (((cfg0.win 2).blk t).view.emb y 0) (y 1) = ((cfg0.win 2).blk t).view.emb y :=
      funext fun a => Fin.ext (match a with | ⟨0, _⟩ => rfl | ⟨1, _⟩ => by show (y 1).val = (((cfg0.win 2).blk t).view.emb y 1).val; omega)
    have p := point m c t (h2.mp hf) (y 0) (y 1) (((cfg0.win 2).blk t).view.emb y 0) (by rw [e0, h0, Nat.one_mul, Nat.mul_comm])
    rw [e2] at p
    refine (congrArg (outsAt0 m c t.val t.isLt).1 e).trans ?_
    exact p.trans (cast_eq _ _).symm
  · have i0 : (i 0).val < 2048 := (i 0).isLt
    have i1 : (i 1).val < 2048 := (i 1).isLt
    have hN : cfg0.N = 8 := N_0
    obtain ⟨-, -, -, -, -, h0, h1, h2⟩ := idx ⟨(i 0).val / 1024 * 4 + 3, by omega⟩
    refine ⟨⟨(i 0).val / 1024 * 4 + 3, by omega⟩, h2.mpr (by dsimp only; omega), ?_⟩
    rw [mem_blk]
    intro a
    match a with
    | ⟨0, _⟩ => show win0_2.index _ (0 : Fin 2) * 1024 ≤ (i 0).val ∧ (i 0).val < win0_2.index _ (0 : Fin 2) * 1024 + 1024; rw [h0]; dsimp only; omega
    | ⟨1, _⟩ => show win0_2.index _ (1 : Fin 2) * 2048 ≤ (i 1).val ∧ (i 1).val < win0_2.index _ (1 : Fin 2) * 2048 + 2048; rw [h1]; omega

/-- The kernel and the reference end with one product. -/
theorem algebraic : Cert.algebraic_DhEvenIdeal_DhEvenRefIdeal := by
  intro m ρ m' ρ' _ hagree
  refine ⟨_, Cert.DhEvenIdeal.Value.run_blocks (F := Ideal) m ρ, ?_⟩
  refine (θ_run Cert.DhEvenRefIdeal.defs _ _).mono (fun _ h c => ⟨?_, (h c).2⟩) (Cert.DhEvenRefIdeal.Value.run (F := Ideal) m' ρ')
  rw [(h c).1, (hagree c).2.1, (hagree c).2.2, final m c]
  exact dot_nt none (M := 2048) (K := 6144) (N := 2048) (φ₁ := .f32) (φ₂ := .f32) _ _ _

end Cert.DhEvenIdeal.Product

end
-- ==== Proof.Products.DwOwnIdealTable.lean ====
/- The table the call reads (one word, which half the device owns) as its run finds it, and the blocks it then asks for. -/
module

public import proofs.«01_k».proof.Proof.Gen.DwOwnIdeal.Frame
public import Idealize.ShloMosaic.Lib.Tactic

@[expose] public section

noncomputable section

namespace Cert.DwOwnIdeal.Product

open Cert.DwOwnIdeal Cert.DwOwnIdeal.Gen Idealize.ShloMosaic Idealize.ShloMosaic.TcCoe Idealize.SL.Sem

variable {F : FTy → Type} [FloatOps F]
variable (m : (ℓ : Loc nD τ sig) → Buf (Elt F) ℓ)

/-- The table holds the one word the program writes. -/
theorem table (c : Dev nD) : V m c main_v0 = broadcastInDim S1 ![] bcast_S_S1 (constantI S_ 32 0#32) := by
  show StableHlo.after hostOps0 _ _ = _
  after_results <;> rfl

theorem word : (tbl m).at 0 (Rect.unit (s := S1) ![0] S1.size inb_S1_S1_0) numel1_S1 = 0#32 := by
  have h : tbl m 0 = broadcastInDim S1 ![] bcast_S_S1 (constantI S_ 32 0#32) := table m 0
  unfold Pipeline.Prefetch.Contents.at
  rw [h]
  rfl

/-- The cotangent's block at a point, that word read. -/
def ix (i : grid0.Coords) : Fin 2 → Nat :=
  ![(BitVec.ofNat 32 (i 2).val).toNat, (Scalar.addi (Scalar.muli 2#32 (BitVec.ofNat 32 (i 0).val)) 0#32).toNat]

theorem ix_eq (i : grid0.Coords) : cc0_transform_1 inb_S1_S1_0 numel1_S1 (tbl m) i = ix i := by
  unfold cc0_transform_1
  rw [word]
  rfl

/-- Every block lies inside the array. -/
theorem ok : Ok m := by
  intro i
  rw [ix_eq]
  revert i
  decide +kernel

end Cert.DwOwnIdeal.Product

end
-- ==== Proof.Products.DwOwn.lean ====
/- The weight's gradient `hᵀ · ct` of the even layer's input projection, the slabs of columns a core keeps, over tiles of 1024 of its rows. -/
module

public import proofs.«01_k».proof.Defs
public import proofs.«01_k».proof.Proof.Products.Sums
public import proofs.«01_k».proof.Proof.Products.DwOwnIdealTable
public import proofs.«01_k».proof.Proof.Gen.DwOwnIdeal.Frame
public import Idealize.ShloMosaic.Lib.Pipeline.Value
public import proofs.«01_k».proof.Proof.Gen.DwOwnRefIdeal.Run
public import Idealize.ShloMosaic.Lib.Tactic

@[expose] public section

noncomputable section

open scoped BigOperators

namespace Cert.DwOwnIdeal.Product

open Cert.DwOwnIdeal Cert.DwOwnIdeal.Gen Cert.Products Idealize.ShloMosaic Idealize.ShloMosaic.TcCoe Idealize.SL.Sem
open Idealize.ShloMosaic.ValueIdx

variable (m : (ℓ : Loc nD τ sig) → Buf (Elt Ideal) ℓ) (ρ : Dev nD → PrngReg)

/-- What a point stores: the accumulator, cleared, plus the product of its two blocks. -/
theorem out_eq (c : Dev nD) (i : grid0.Coords) (arg4 : Memref sig .tc .vmem S2048x1024 .bf16) (harg4 : arg4.IsWhole) (arg5 : Memref sig .tc .vmem S2048x768 .bf16) (harg5 : arg5.IsWhole) (arg6 : Memref sig .tc .vmem S1x1024x768 .bf16) (harg6 : arg6.IsWhole) (arg7 : Memref sig .tc .vmem S1024x768 .f32) (harg7 : arg7.IsWhole) (hc0 : cond0_0 i) (hc1 : cond0_1 i)
    (x0 : Vec Ideal S2048x1024 .bf16) (x1 : Vec Ideal S2048x768 .bf16) (xt0 : TbBuf0 (F := Ideal) c tbM0_0) :
    out0_A_2 c i arg4 harg4 arg5 harg5 arg6 harg6 arg7 harg7 hc0 hc1 x0 x1 xt0 = k0_pay3 (k0_pay2 k0_pay1 x0 x1) := by
  unfold out0_A_2
  rw [View.read_writes_eq_canon _ _ _ (cover0_A_2 c i arg4 harg4 arg5 harg5 arg6 harg6 arg7 harg7 hc0 hc1 x0 x1 xt0)]
  unfold kernelRun0_A
  sl_unfold_words
  rw [View.canon_unit_zero hz3]
  rw [View.readCov_unit_zero _ hz2, View.readCov_full, View.readAt_eq_ld, View.readAt_eq_ld, harg4.read_unread, harg5.read_unread,
    View.ld_unit_zero hz2, View.ld_unit_zero hz2]

/-- … which is the product of the blocks. -/
theorem out_apply (x0 : Vec Ideal S2048x1024 .bf16) (x1 : Vec Ideal S2048x768 .bf16) (z : Fin 1) (a : Fin 1024) (b : Fin 768) :
    k0_pay3 (k0_pay2 k0_pay1 x0 x1) (ix3 z a b) = ∑ k : Fin 2048, x0 (ix2 k a) * x1 (ix2 k b) := by
  unfold k0_pay3 k0_pay2 k0_pay1
  dsimp only
  rw [shapeCast_self, shapeCast_self]
  refine (add1 _ _ z a b).trans ?_
  refine (congrArg (Ideal.ofBits .f32 0#32 + ·) (matmul_tn none (M := 1024) (K := 2048) (N := 768) (φ₁ := .bf16) (φ₂ := .bf16) x0 x1
    _ dot_S2048x1024_S2048x768_S1024x768_0_0_1_1_n_n.wf (ix2 a b))).trans ?_
  show Ideal.ofBits .f32 0#32 + (Ideal.ofBits .f32 0#32 + _) = _
  rw [ofBits_zero, zero_add, zero_add]
  rfl

/-- The blocks a point takes and gives: 1024 columns of `h` (the fast axis), a slab of the cotangent (the slow one). -/
theorem idx : ∀ t : Fin grid0.N, cc0_transform_0 (grid0.coords t) (0 : Fin 2) = 0 ∧ cc0_transform_0 (grid0.coords t) (1 : Fin 2) = t.val % 2
    ∧ ix (grid0.coords t) (0 : Fin 2) = 0 ∧ ix (grid0.coords t) (1 : Fin 2) = 2 * (t.val / 2) + 0
    ∧ cc0_transform_2 (grid0.coords t) (0 : Fin 3) = t.val / 2 ∧ cc0_transform_2 (grid0.coords t) (1 : Fin 3) = t.val % 2
    ∧ cc0_transform_2 (grid0.coords t) (2 : Fin 3) = 0 :=
  by decide +kernel

/-- The two blocks of a point. -/
def blkH (hO : Ok m) (c : Dev nD) (t : Fin (cfgM m hO).N) : Vec Ideal S2048x1024 .bf16 := iblk m hO c 0 t
def blkCt (hO : Ok m) (c : Dev nD) (t : Fin (cfgM m hO).N) : Vec Ideal S2048x768 .bf16 := iblk m hO c 1 t

theorem blk0 (hO : Ok m) (c : Dev nD) (t : Fin (cfgM m hO).N) (k : Fin 2048) (a : Fin 1024) (j : Fin 2048) (hj : j.val = 1024 * (t.val % 2) + a.val) :
    blkH m hO c t (ix2 k a) = m ((c : Thread nD τ).loc main_arg0) (ix2 k j) := by
  unfold blkH iblk
  refine (View.read_apply _ _).trans ((cast_eq _ _).trans ?_)
  show V m c main_arg0 _ = _
  rw [V_main_arg0]
  congr 1; funext d; apply Fin.ext
  obtain ⟨h0, h1, -⟩ := idx t
  match d with
  | ⟨0, _⟩ => show cc0_transform_0 (grid0.coords t) (0 : Fin 2) * 2048 + 1 * k.val = k.val; omega
  | ⟨1, _⟩ => show cc0_transform_0 (grid0.coords t) (1 : Fin 2) * 1024 + 1 * a.val = j.val; omega

theorem blk1 (hO : Ok m) (c : Dev nD) (t : Fin (cfgM m hO).N) (k : Fin 2048) (b : Fin 768) (j : Fin 6144)
    (hj : j.val = (2 * (t.val / 2) + 0) * 768 + b.val) :
    blkCt m hO c t (ix2 k b) = m ((c : Thread nD τ).loc main_arg2) (ix2 k j) := by
  unfold blkCt iblk
  refine (View.read_apply _ _).trans ((cast_eq _ _).trans ?_)
  show V m c main_arg2 _ = _
  rw [V_main_arg2]
  congr 1; funext d; apply Fin.ext
  obtain ⟨-, -, h0, h1, -⟩ := idx t
  have e := ix_eq m (grid0.coords t)
  match d with
  | ⟨0, _⟩ =>
    show cc0_transform_1 inb_S1_S1_0 numel1_S1 (tbl m) (grid0.coords t) (0 : Fin 2) * 2048 + 1 * k.val = k.val
    rw [e]; omega
  | ⟨1, _⟩ =>
    show cc0_transform_1 inb_S1_S1_0 numel1_S1 (tbl m) (grid0.coords t) (1 : Fin 2) * 768 + 1 * b.val = j.val
    rw [e, h1, hj]; omega

/-- The layer's input and the cotangent the run starts with. -/
abbrev argH (c : Dev nD) : Mat 2048 2048 := m ((c : Thread nD τ).loc main_arg0)
abbrev argCt (c : Dev nD) : Mat 2048 6144 := m ((c : Thread nD τ).loc main_arg2)

/-- The gradient of the arguments the run starts with, in its slabs. -/
def slabs (c : Dev nD) : (⟨3, ![8, 2048, 768]⟩ : Shape).Idx → EReal :=
  tnSlab (M := 2048) (K := 2048) (S := 8) (N := 768) (W := 6144) rfl (argH m c) (argCt m c)

/-- … the half of them this call computes. -/
def grad (c : Dev nD) : (⟨3, ![4, 2048, 768]⟩ : Shape).Idx → EReal := fun i =>
  slabs m c (ix3 (n1 := 2048) (n2 := 768) ⟨2 * (i 0).val + 0, by have := (i 0).isLt; show _ < 8; change (i 0).val < 4 at this; omega⟩ (i 1) (i 2))

/-- What point `t` stores is its part of the gradient. -/
theorem point (hO : Ok m) (c : Dev nD) (t : Fin (cfgM m hO).N) (z : Fin 1) (a : Fin 1024) (b : Fin 768) (s : Fin 4) (j : Fin 2048)
    (hs : s.val = t.val / 2) (hj : j.val = 1024 * (t.val % 2) + a.val) :
    outsAt0 m hO c t (ix3 z a b) = grad m c (ix3 s j b) := by
  refine (congrFun (out_eq c (grid0.coords t) _ _ _ _ _ _ _ _ _ _ (blkH m hO c t) (blkCt m hO c t) (tbl m 0)) (ix3 z a b)).trans ?_
  rw [out_apply]
  unfold grad slabs tnSlab tn
  refine Finset.sum_congr rfl fun k _ => ?_
  have hw : ∀ q : Fin 8, q.val = 2 * s.val + 0 → (slabCol (S := 8) (N := 768) (W := 6144) rfl q b).val = (2 * (t.val / 2) + 0) * 768 + b.val := by
    intro q hq; show q.val * 768 + b.val = _; rw [hq, hs]
  rw [blk0 m hO c t k a j hj, blk1 m hO c t k b _ (hw ⟨2 * s.val + 0, by omega⟩ rfl)]

theorem mem_blk (hO : Ok m) (t : Fin (cfgM m hO).N) (i : S4x2048x768.Idx) :
    i ∈ (((cfgM m hO).win 2).blk t).view.set ↔ ∀ a : Fin 3, cc0_transform_2 (grid0.coords t) a * S1x1024x768.size a ≤ (i a).val
      ∧ (i a).val < cc0_transform_2 (grid0.coords t) a * S1x1024x768.size a + S1x1024x768.size a := by
  refine (iff_of_eq (congrArg (i ∈ ·) (View.set_slice_whole main_v1 (((cfgM m hO).win 2).rect t)))).trans ?_
  exact Rect.mem_set_unit

theorem flushed (hO : Ok m) (c : Dev nD) (t : Fin (cfgM m hO).N) :
    (dats m hO 0 c).flushed 2 t = ((cfgM m hO).win 2).cut (grid0.coords t) (outsAt0 m hO c t) := by
  show ((cfgM m hO).win 2).cut (grid0.coords t) ((dats m hO 0 c).after 2 t) = _
  rw [after0_2]

/-- Where a block's element lies in the array. -/
abbrev place (hO : Ok m) (t : Fin (cfgM m hO).N) (y : S1x1024x768.Idx) : S4x2048x768.Idx := (((cfgM m hO).win 2).blk t).view.emb y

/-- A point's stored block is the gradient at the places it goes to. -/
theorem point_place (hO : Ok m) (c : Dev nD) (t : Fin (cfgM m hO).N) (y : S1x1024x768.Idx) :
    outsAt0 m hO c t y = grad m c (place m hO t y) := by
  obtain ⟨-, -, -, -, h0, h1, h2⟩ := idx t
  obtain ⟨z, a, b, rfl⟩ : ∃ z a b, y = ix3 (n0 := 1) (n1 := 1024) (n2 := 768) z a b := ⟨_, _, _, eq_ix3 y⟩
  have e0 : (place m hO t (ix3 z a b) 0).val = cc0_transform_2 (grid0.coords t) (0 : Fin 3) * 1 + 1 * z.val := rfl
  have e1 : (place m hO t (ix3 z a b) 1).val = cc0_transform_2 (grid0.coords t) (1 : Fin 3) * 1024 + 1 * a.val := rfl
  have e2 : (place m hO t (ix3 z a b) 2).val = cc0_transform_2 (grid0.coords t) (2 : Fin 3) * 768 + 1 * b.val := rfl
  have hz : z.val < 1 := z.isLt
  have e3 : ix3 (n0 := 4) (n1 := 2048) (n2 := 768) (place m hO t (ix3 z a b) 0) (place m hO t (ix3 z a b) 1) b = place m hO t (ix3 z a b) :=
    funext fun d => Fin.ext (match d with
      | ⟨0, _⟩ => rfl
      | ⟨1, _⟩ => rfl
      | ⟨2, _⟩ => by show b.val = (place m hO t (ix3 z a b) 2).val; omega)
  exact (point m hO c t z a b _ _ (by omega) (by omega)).trans (congrArg (grad m c) e3)

/-- The result: those slabs of `hᵀ · ct`. -/
theorem final (hO : Ok m) (c : Dev nD) : (dats m hO 0 c).arrAt 2 (cfgM m hO).N = grad m c := by
  refine (dats m hO 0 c).arrAt_eq_of_cover 2 _ (fun t hf => ?_) (fun (i : S4x2048x768.Idx) => ?_)
  · rw [flushed]
    funext y
    exact ((View.read_apply _ _).trans ((cast_eq _ _).trans (point_place m hO c t y).symm)).symm
  · have i0 : (i 0).val < 4 := (i 0).isLt
    have i1 : (i 1).val < 2048 := (i 1).isLt
    have i2 : (i 2).val < 768 := (i 2).isLt
    have hN : (cfgM m hO).N = 8 := N_0
    obtain ⟨-, -, -, -, h0, h1, h2⟩ := idx ⟨(i 0).val * 2 + (i 1).val / 1024, by rw [N_0]; omega⟩
    refine ⟨⟨(i 0).val * 2 + (i 1).val / 1024, by omega⟩, flush0_2 _ _, ?_⟩
    refine (mem_blk m hO _ i).mpr ?_
    intro a
    match a with
    | ⟨0, _⟩ => show cc0_transform_2 _ (0 : Fin 3) * 1 ≤ (i 0).val ∧ (i 0).val < cc0_transform_2 _ (0 : Fin 3) * 1 + 1; rw [h0]; dsimp only; omega
    | ⟨1, _⟩ => show cc0_transform_2 _ (1 : Fin 3) * 1024 ≤ (i 1).val ∧ (i 1).val < cc0_transform_2 _ (1 : Fin 3) * 1024 + 1024; rw [h1]; dsimp only; omega
    | ⟨2, _⟩ => show cc0_transform_2 _ (2 : Fin 3) * 768 ≤ (i 2).val ∧ (i 2).val < cc0_transform_2 _ (2 : Fin 3) * 768 + 768; rw [h2]; omega

/-- The run, its result named. -/
theorem run (hO : Ok m) : θ_run defs (onTc (τ := τ) (main (F := Ideal))) ⟨m, fun _ => 0, ρ⟩ fun r => ∀ c : Dev nD,
      r.2.mem ((c : Thread nD τ).loc main_v1) = grad m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final m hO c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).1 1).trans (((dats m hO 0 c).arrAt_in 1 rfl _).trans ((A_eq m hO c 1).trans (V_main_arg2 m c)))⟩)
    (run_main m ρ hO)

/-- The kernel and the reference end with one gradient. -/
theorem algebraic : Cert.algebraic_DwOwnIdeal_DwOwnRefIdeal := by
  intro m ρ m' ρ' _ hagree
  refine ⟨_, run m ρ (ok m), ?_⟩
  refine (θ_run Cert.DwOwnRefIdeal.defs _ _).mono (fun _ h c => ⟨?_, (h c).2⟩) (Cert.DwOwnRefIdeal.Value.run (F := Ideal) m' ρ')
  rw [(h c).1, (hagree c).1, (hagree c).2.2]
  funext i
  obtain ⟨s, a, b, rfl⟩ : ∃ s a b, i = ix3 (n0 := 4) (n1 := 2048) (n2 := 768) s a b := ⟨_, _, _, eq_ix3 i⟩
  refine (slice_slabs (M := 2048) (N := 768) 0 _ _ s a b ⟨2 * s.val + 0, by omega⟩ rfl).trans ?_
  exact (slab_apply (M := 2048) (S := 8) (N := 768) (W := 6144) _ _ _ rfl _ a b (slabCol rfl _ b) rfl).trans
    (congrFun (weight_grad (M := 2048) (K := 2048) (N := 6144) _ _ _ _ _) (ix2 a (slabCol rfl _ b)))

end Cert.DwOwnIdeal.Product

end
-- ==== Proof.Products.DwSiblingIdealTable.lean ====
/- The table the call reads (one word, which half the device owns) as its run finds it, and the blocks it then asks for. -/
module

public import proofs.«01_k».proof.Proof.Gen.DwSiblingIdeal.Frame
public import Idealize.ShloMosaic.Lib.Tactic

@[expose] public section

noncomputable section

namespace Cert.DwSiblingIdeal.Product

open Cert.DwSiblingIdeal Cert.DwSiblingIdeal.Gen Idealize.ShloMosaic Idealize.ShloMosaic.TcCoe Idealize.SL.Sem

variable {F : FTy → Type} [FloatOps F]
variable (m : (ℓ : Loc nD τ sig) → Buf (Elt F) ℓ)

/-- The table holds the one word the program writes. -/
theorem table (c : Dev nD) : V m c main_v0 = broadcastInDim S1 ![] bcast_S_S1 (constantI S_ 32 1#32) := by
  show StableHlo.after hostOps0 _ _ = _
  after_results <;> rfl

theorem word : (tbl m).at 0 (Rect.unit (s := S1) ![0] S1.size inb_S1_S1_0) numel1_S1 = 1#32 := by
  have h : tbl m 0 = broadcastInDim S1 ![] bcast_S_S1 (constantI S_ 32 1#32) := table m 0
  unfold Pipeline.Prefetch.Contents.at
  rw [h]
  rfl

/-- The cotangent's block at a point, that word read. -/
def ix (i : grid0.Coords) : Fin 2 → Nat :=
  ![(BitVec.ofNat 32 (i 2).val).toNat, (Scalar.addi (Scalar.muli 2#32 (BitVec.ofNat 32 (i 0).val)) 1#32).toNat]

theorem ix_eq (i : grid0.Coords) : cc0_transform_1 inb_S1_S1_0 numel1_S1 (tbl m) i = ix i := by
  unfold cc0_transform_1
  rw [word]
  rfl

/-- Every block lies inside the array. -/
theorem ok : Ok m := by
  intro i
  rw [ix_eq]
  revert i
  decide +kernel

end Cert.DwSiblingIdeal.Product

end
-- ==== Proof.Products.DwSibling.lean ====
/- The weight's gradient `hᵀ · ct` of the even layer's input projection, the slabs of columns its sibling keeps, over tiles of 1024 of its rows. -/
module

public import proofs.«01_k».proof.Defs
public import proofs.«01_k».proof.Proof.Products.Sums
public import proofs.«01_k».proof.Proof.Products.DwSiblingIdealTable
public import proofs.«01_k».proof.Proof.Gen.DwSiblingIdeal.Frame
public import Idealize.ShloMosaic.Lib.Pipeline.Value
public import proofs.«01_k».proof.Proof.Gen.DwSiblingRefIdeal.Run
public import Idealize.ShloMosaic.Lib.Tactic

@[expose] public section

noncomputable section

open scoped BigOperators

namespace Cert.DwSiblingIdeal.Product

open Cert.DwSiblingIdeal Cert.DwSiblingIdeal.Gen Cert.Products Idealize.ShloMosaic Idealize.ShloMosaic.TcCoe Idealize.SL.Sem
open Idealize.ShloMosaic.ValueIdx

variable (m : (ℓ : Loc nD τ sig) → Buf (Elt Ideal) ℓ) (ρ : Dev nD → PrngReg)

/-- What a point stores: the accumulator, cleared, plus the product of its two blocks. -/
theorem out_eq (c : Dev nD) (i : grid0.Coords) (arg4 : Memref sig .tc .vmem S2048x1024 .bf16) (harg4 : arg4.IsWhole) (arg5 : Memref sig .tc .vmem S2048x768 .bf16) (harg5 : arg5.IsWhole) (arg6 : Memref sig .tc .vmem S1x1024x768 .bf16) (harg6 : arg6.IsWhole) (arg7 : Memref sig .tc .vmem S1024x768 .f32) (harg7 : arg7.IsWhole) (hc0 : cond0_0 i) (hc1 : cond0_1 i)
    (x0 : Vec Ideal S2048x1024 .bf16) (x1 : Vec Ideal S2048x768 .bf16) (xt0 : TbBuf0 (F := Ideal) c tbM0_0) :
    out0_A_2 c i arg4 harg4 arg5 harg5 arg6 harg6 arg7 harg7 hc0 hc1 x0 x1 xt0 = k0_pay3 (k0_pay2 k0_pay1 x0 x1) := by
  unfold out0_A_2
  rw [View.read_writes_eq_canon _ _ _ (cover0_A_2 c i arg4 harg4 arg5 harg5 arg6 harg6 arg7 harg7 hc0 hc1 x0 x1 xt0)]
  unfold kernelRun0_A
  sl_unfold_words
  rw [View.canon_unit_zero hz3]
  rw [View.readCov_unit_zero _ hz2, View.readCov_full, View.readAt_eq_ld, View.readAt_eq_ld, harg4.read_unread, harg5.read_unread,
    View.ld_unit_zero hz2, View.ld_unit_zero hz2]

/-- … which is the product of the blocks. -/
theorem out_apply (x0 : Vec Ideal S2048x1024 .bf16) (x1 : Vec Ideal S2048x768 .bf16) (z : Fin 1) (a : Fin 1024) (b : Fin 768) :
    k0_pay3 (k0_pay2 k0_pay1 x0 x1) (ix3 z a b) = ∑ k : Fin 2048, x0 (ix2 k a) * x1 (ix2 k b) := by
  unfold k0_pay3 k0_pay2 k0_pay1
  dsimp only
  rw [shapeCast_self, shapeCast_self]
  refine (add1 _ _ z a b).trans ?_
  refine (congrArg (Ideal.ofBits .f32 0#32 + ·) (matmul_tn none (M := 1024) (K := 2048) (N := 768) (φ₁ := .bf16) (φ₂ := .bf16) x0 x1
    _ dot_S2048x1024_S2048x768_S1024x768_0_0_1_1_n_n.wf (ix2 a b))).trans ?_
  show Ideal.ofBits .f32 0#32 + (Ideal.ofBits .f32 0#32 + _) = _
  rw [ofBits_zero, zero_add, zero_add]
  rfl

/-- The blocks a point takes and gives: 1024 columns of `h` (the fast axis), a slab of the cotangent (the slow one). -/
theorem idx : ∀ t : Fin grid0.N, cc0_transform_0 (grid0.coords t) (0 : Fin 2) = 0 ∧ cc0_transform_0 (grid0.coords t) (1 : Fin 2) = t.val % 2
    ∧ ix (grid0.coords t) (0 : Fin 2) = 0 ∧ ix (grid0.coords t) (1 : Fin 2) = 2 * (t.val / 2) + 1
    ∧ cc0_transform_2 (grid0.coords t) (0 : Fin 3) = t.val / 2 ∧ cc0_transform_2 (grid0.coords t) (1 : Fin 3) = t.val % 2
    ∧ cc0_transform_2 (grid0.coords t) (2 : Fin 3) = 0 :=
  by decide +kernel

/-- The two blocks of a point. -/
def blkH (hO : Ok m) (c : Dev nD) (t : Fin (cfgM m hO).N) : Vec Ideal S2048x1024 .bf16 := iblk m hO c 0 t
def blkCt (hO : Ok m) (c : Dev nD) (t : Fin (cfgM m hO).N) : Vec Ideal S2048x768 .bf16 := iblk m hO c 1 t

theorem blk0 (hO : Ok m) (c : Dev nD) (t : Fin (cfgM m hO).N) (k : Fin 2048) (a : Fin 1024) (j : Fin 2048) (hj : j.val = 1024 * (t.val % 2) + a.val) :
    blkH m hO c t (ix2 k a) = m ((c : Thread nD τ).loc main_arg0) (ix2 k j) := by
  unfold blkH iblk
  refine (View.read_apply _ _).trans ((cast_eq _ _).trans ?_)
  show V m c main_arg0 _ = _
  rw [V_main_arg0]
  congr 1; funext d; apply Fin.ext
  obtain ⟨h0, h1, -⟩ := idx t
  match d with
  | ⟨0, _⟩ => show cc0_transform_0 (grid0.coords t) (0 : Fin 2) * 2048 + 1 * k.val = k.val; omega
  | ⟨1, _⟩ => show cc0_transform_0 (grid0.coords t) (1 : Fin 2) * 1024 + 1 * a.val = j.val; omega

theorem blk1 (hO : Ok m) (c : Dev nD) (t : Fin (cfgM m hO).N) (k : Fin 2048) (b : Fin 768) (j : Fin 6144)
    (hj : j.val = (2 * (t.val / 2) + 1) * 768 + b.val) :
    blkCt m hO c t (ix2 k b) = m ((c : Thread nD τ).loc main_arg2) (ix2 k j) := by
  unfold blkCt iblk
  refine (View.read_apply _ _).trans ((cast_eq _ _).trans ?_)
  show V m c main_arg2 _ = _
  rw [V_main_arg2]
  congr 1; funext d; apply Fin.ext
  obtain ⟨-, -, h0, h1, -⟩ := idx t
  have e := ix_eq m (grid0.coords t)
  match d with
  | ⟨0, _⟩ =>
    show cc0_transform_1 inb_S1_S1_0 numel1_S1 (tbl m) (grid0.coords t) (0 : Fin 2) * 2048 + 1 * k.val = k.val
    rw [e]; omega
  | ⟨1, _⟩ =>
    show cc0_transform_1 inb_S1_S1_0 numel1_S1 (tbl m) (grid0.coords t) (1 : Fin 2) * 768 + 1 * b.val = j.val
    rw [e, h1, hj]; omega

/-- The layer's input and the cotangent the run starts with. -/
abbrev argH (c : Dev nD) : Mat 2048 2048 := m ((c : Thread nD τ).loc main_arg0)
abbrev argCt (c : Dev nD) : Mat 2048 6144 := m ((c : Thread nD τ).loc main_arg2)

/-- The gradient of the arguments the run starts with, in its slabs. -/
def slabs (c : Dev nD) : (⟨3, ![8, 2048, 768]⟩ : Shape).Idx → EReal :=
  tnSlab (M := 2048) (K := 2048) (S := 8) (N := 768) (W := 6144) rfl (argH m c) (argCt m c)

/-- … the half of them this call computes. -/
def grad (c : Dev nD) : (⟨3, ![4, 2048, 768]⟩ : Shape).Idx → EReal := fun i =>
  slabs m c (ix3 (n1 := 2048) (n2 := 768) ⟨2 * (i 0).val + 1, by have := (i 0).isLt; show _ < 8; change (i 0).val < 4 at this; omega⟩ (i 1) (i 2))

/-- What point `t` stores is its part of the gradient. -/
theorem point (hO : Ok m) (c : Dev nD) (t : Fin (cfgM m hO).N) (z : Fin 1) (a : Fin 1024) (b : Fin 768) (s : Fin 4) (j : Fin 2048)
    (hs : s.val = t.val / 2) (hj : j.val = 1024 * (t.val % 2) + a.val) :
    outsAt0 m hO c t (ix3 z a b) = grad m c (ix3 s j b) := by
  refine (congrFun (out_eq c (grid0.coords t) _ _ _ _ _ _ _ _ _ _ (blkH m hO c t) (blkCt m hO c t) (tbl m 0)) (ix3 z a b)).trans ?_
  rw [out_apply]
  unfold grad slabs tnSlab tn
  refine Finset.sum_congr rfl fun k _ => ?_
  have hw : ∀ q : Fin 8, q.val = 2 * s.val + 1 → (slabCol (S := 8) (N := 768) (W := 6144) rfl q b).val = (2 * (t.val / 2) + 1) * 768 + b.val := by
    intro q hq; show q.val * 768 + b.val = _; rw [hq, hs]
  rw [blk0 m hO c t k a j hj, blk1 m hO c t k b _ (hw ⟨2 * s.val + 1, by omega⟩ rfl)]

theorem mem_blk (hO : Ok m) (t : Fin (cfgM m hO).N) (i : S4x2048x768.Idx) :
    i ∈ (((cfgM m hO).win 2).blk t).view.set ↔ ∀ a : Fin 3, cc0_transform_2 (grid0.coords t) a * S1x1024x768.size a ≤ (i a).val
      ∧ (i a).val < cc0_transform_2 (grid0.coords t) a * S1x1024x768.size a + S1x1024x768.size a := by
  refine (iff_of_eq (congrArg (i ∈ ·) (View.set_slice_whole main_v1 (((cfgM m hO).win 2).rect t)))).trans ?_
  exact Rect.mem_set_unit

theorem flushed (hO : Ok m) (c : Dev nD) (t : Fin (cfgM m hO).N) :
    (dats m hO 0 c).flushed 2 t = ((cfgM m hO).win 2).cut (grid0.coords t) (outsAt0 m hO c t) := by
  show ((cfgM m hO).win 2).cut (grid0.coords t) ((dats m hO 0 c).after 2 t) = _
  rw [after0_2]

/-- Where a block's element lies in the array. -/
abbrev place (hO : Ok m) (t : Fin (cfgM m hO).N) (y : S1x1024x768.Idx) : S4x2048x768.Idx := (((cfgM m hO).win 2).blk t).view.emb y

/-- A point's stored block is the gradient at the places it goes to. -/
theorem point_place (hO : Ok m) (c : Dev nD) (t : Fin (cfgM m hO).N) (y : S1x1024x768.Idx) :
    outsAt0 m hO c t y = grad m c (place m hO t y) := by
  obtain ⟨-, -, -, -, h0, h1, h2⟩ := idx t
  obtain ⟨z, a, b, rfl⟩ : ∃ z a b, y = ix3 (n0 := 1) (n1 := 1024) (n2 := 768) z a b := ⟨_, _, _, eq_ix3 y⟩
  have e0 : (place m hO t (ix3 z a b) 0).val = cc0_transform_2 (grid0.coords t) (0 : Fin 3) * 1 + 1 * z.val := rfl
  have e1 : (place m hO t (ix3 z a b) 1).val = cc0_transform_2 (grid0.coords t) (1 : Fin 3) * 1024 + 1 * a.val := rfl
  have e2 : (place m hO t (ix3 z a b) 2).val = cc0_transform_2 (grid0.coords t) (2 : Fin 3) * 768 + 1 * b.val := rfl
  have hz : z.val < 1 := z.isLt
  have e3 : ix3 (n0 := 4) (n1 := 2048) (n2 := 768) (place m hO t (ix3 z a b) 0) (place m hO t (ix3 z a b) 1) b = place m hO t (ix3 z a b) :=
    funext fun d => Fin.ext (match d with
      | ⟨0, _⟩ => rfl
      | ⟨1, _⟩ => rfl
      | ⟨2, _⟩ => by show b.val = (place m hO t (ix3 z a b) 2).val; omega)
  exact (point m hO c t z a b _ _ (by omega) (by omega)).trans (congrArg (grad m c) e3)

/-- The result: those slabs of `hᵀ · ct`. -/
theorem final (hO : Ok m) (c : Dev nD) : (dats m hO 0 c).arrAt 2 (cfgM m hO).N = grad m c := by
  refine (dats m hO 0 c).arrAt_eq_of_cover 2 _ (fun t hf => ?_) (fun (i : S4x2048x768.Idx) => ?_)
  · rw [flushed]
    funext y
    exact ((View.read_apply _ _).trans ((cast_eq _ _).trans (point_place m hO c t y).symm)).symm
  · have i0 : (i 0).val < 4 := (i 0).isLt
    have i1 : (i 1).val < 2048 := (i 1).isLt
    have i2 : (i 2).val < 768 := (i 2).isLt
    have hN : (cfgM m hO).N = 8 := N_0
    obtain ⟨-, -, -, -, h0, h1, h2⟩ := idx ⟨(i 0).val * 2 + (i 1).val / 1024, by rw [N_0]; omega⟩
    refine ⟨⟨(i 0).val * 2 + (i 1).val / 1024, by omega⟩, flush0_2 _ _, ?_⟩
    refine (mem_blk m hO _ i).mpr ?_
    intro a
    match a with
    | ⟨0, _⟩ => show cc0_transform_2 _ (0 : Fin 3) * 1 ≤ (i 0).val ∧ (i 0).val < cc0_transform_2 _ (0 : Fin 3) * 1 + 1; rw [h0]; dsimp only; omega
    | ⟨1, _⟩ => show cc0_transform_2 _ (1 : Fin 3) * 1024 ≤ (i 1).val ∧ (i 1).val < cc0_transform_2 _ (1 : Fin 3) * 1024 + 1024; rw [h1]; dsimp only; omega
    | ⟨2, _⟩ => show cc0_transform_2 _ (2 : Fin 3) * 768 ≤ (i 2).val ∧ (i 2).val < cc0_transform_2 _ (2 : Fin 3) * 768 + 768; rw [h2]; omega

/-- The run, its result named. -/
theorem run (hO : Ok m) : θ_run defs (onTc (τ := τ) (main (F := Ideal))) ⟨m, fun _ => 0, ρ⟩ fun r => ∀ c : Dev nD,
      r.2.mem ((c : Thread nD τ).loc main_v1) = grad m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final m hO c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).1 1).trans (((dats m hO 0 c).arrAt_in 1 rfl _).trans ((A_eq m hO c 1).trans (V_main_arg2 m c)))⟩)
    (run_main m ρ hO)

/-- The kernel and the reference end with one gradient. -/
theorem algebraic : Cert.algebraic_DwSiblingIdeal_DwSiblingRefIdeal := by
  intro m ρ m' ρ' _ hagree
  refine ⟨_, run m ρ (ok m), ?_⟩
  refine (θ_run Cert.DwSiblingRefIdeal.defs _ _).mono (fun _ h c => ⟨?_, (h c).2⟩) (Cert.DwSiblingRefIdeal.Value.run (F := Ideal) m' ρ')
  rw [(h c).1, (hagree c).1, (hagree c).2.2]
  funext i
  obtain ⟨s, a, b, rfl⟩ : ∃ s a b, i = ix3 (n0 := 4) (n1 := 2048) (n2 := 768) s a b := ⟨_, _, _, eq_ix3 i⟩
  refine (slice_slabs (M := 2048) (N := 768) 1 _ _ s a b ⟨2 * s.val + 1, by omega⟩ rfl).trans ?_
  exact (slab_apply (M := 2048) (S := 8) (N := 768) (W := 6144) _ _ _ rfl _ a b (slabCol rfl _ b) rfl).trans
    (congrFun (weight_grad (M := 2048) (K := 2048) (N := 6144) _ _ _ _ _) (ix2 a (slabCol rfl _ b)))

end Cert.DwSiblingIdeal.Product

end
-- ==== Proof.Products.Dy.lean ====
/- The backward product `ct · wᵀ` of the output projection, over tiles of 1024 rows. -/
module

public import proofs.«01_k».proof.Defs
public import proofs.«01_k».proof.Proof.Products.Sums
public import proofs.«01_k».proof.Proof.Gen.DyIdeal.Value
public import proofs.«01_k».proof.Proof.Gen.DyRefIdeal.Run
public import Idealize.ShloMosaic.Lib.Tactic

@[expose] public section

noncomputable section

open scoped BigOperators

namespace Cert.DyIdeal.Product

open Cert.DyIdeal Cert.DyIdeal.Gen Cert.Products Idealize.ShloMosaic Idealize.ShloMosaic.TcCoe Idealize.SL.Sem
open Idealize.ShloMosaic.ValueIdx

variable (m : (ℓ : Loc nD τ sig) → Buf (Elt Ideal) ℓ)

/-- The weight in the layout the call takes. -/
theorem V_weight (c : Dev nD) : V m c main_v0 = shapeCast S1x2048x2048 (m ((c : Thread nD τ).loc main_arg1)) shapeCasts_S2048x2048_S1x2048x2048 := by
  show StableHlo.after hostOps0 _ _ = _
  after_results <;> rfl

/-- What a point stores: the accumulator, cleared, plus the product of its two blocks. -/
theorem out_eq (c : Dev nD) (i : grid0.Coords) (arg2 : Memref sig .tc .vmem S1024x2048 .bf16) (harg2 : arg2.IsWhole) (arg3 : Memref sig .tc .vmem S1x2048x2048 .bf16) (harg3 : arg3.IsWhole) (arg4 : Memref sig .tc .vmem S1024x2048 .bf16) (harg4 : arg4.IsWhole) (arg5 : Memref sig .tc .vmem S1024x2048 .f32) (harg5 : arg5.IsWhole) (hc0 : cond0_0 i) (hc1 : cond0_1 i)
    (x0 : Vec Ideal S1024x2048 .bf16) (x1 : Vec Ideal S1x2048x2048 .bf16) :
    out0_A_2 c i arg2 harg2 arg3 harg3 arg4 harg4 arg5 harg5 hc0 hc1 x0 x1 = k0_pay3 (k0_pay2 k0_pay1 x0 x1) := by
  unfold out0_A_2
  rw [View.read_writes_eq_canon _ _ _ (cover0_A_2 c i arg2 harg2 arg3 harg3 arg4 harg4 arg5 harg5 hc0 hc1 x0 x1)]
  unfold kernelRun0_A
  sl_unfold_words
  rw [View.canon_unit_zero hz2]
  rw [View.readCov_unit_zero _ hz2, View.readCov_full, View.readAt_eq_ld, View.readAt_eq_ld, harg2.read_unread, harg3.read_unread,
    View.ld_unit_zero hz2, View.ld_unit_zero hz3]

/-- … which is the product of the blocks. -/
theorem out_apply (x0 : Vec Ideal S1024x2048 .bf16) (x1 : Vec Ideal S1x2048x2048 .bf16) (a : Fin 1024) (b : Fin 2048) :
    k0_pay3 (k0_pay2 k0_pay1 x0 x1) (ix2 a b) = ∑ k : Fin 2048, x0 (ix2 a k) * x1 (ix3 0 b k) := by
  unfold k0_pay3 k0_pay2 k0_pay1
  dsimp only
  rw [shapeCast_self, shapeCast_self]
  refine (congrArg (Ideal.ofBits .f32 0#32 + ·) (matmul_nt none (M := 1024) (K := 2048) (N := 2048) (φ₁ := .bf16) (φ₂ := .bf16) x0
    (shapeCast S2048x2048 x1 shapeCasts_S1x2048x2048_S2048x2048) _ dot_S1024x2048_S2048x2048_S1024x2048_1_1_0_0_n_n.wf (ix2 a b))).trans ?_
  show Ideal.ofBits .f32 0#32 + (Ideal.ofBits .f32 0#32 + _) = _
  rw [ofBits_zero, zero_add, zero_add]
  exact Finset.sum_congr rfl fun k _ => congrArg (x0 (ix2 a k) * ·) (drop1 x1 _ b k)

/-- The blocks a point takes and gives: the point's 1024 rows, the whole weight. -/
theorem idx : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 ∧ win0_2.flush t = true :=
  (by decide +kernel : ∀ t : Fin grid0.N, _)

theorem blk0 (c : Dev nD) (t : Fin cfg0.N) (a : Fin 1024) (k j : Fin 2048) (hj : j.val = 1024 * t.val + a.val) :
    iblk m c 0 t (ix2 a k) = m ((c : Thread nD τ).loc main_arg2) (ix2 j k) := by
  unfold iblk
  rw [View.read_apply]
  show V m c main_arg2 _ = _
  rw [V_main_arg2]
  congr 1; funext d; apply Fin.ext
  obtain ⟨h0, h1, -⟩ := idx t
  match d with
  | ⟨0, _⟩ => show win0_0.index t (0 : Fin 2) * 1024 + 1 * a.val = j.val; omega
  | ⟨1, _⟩ => show win0_0.index t (1 : Fin 2) * 2048 + 1 * k.val = k.val; omega

theorem blk1 (c : Dev nD) (t : Fin cfg0.N) (b k : Fin 2048) :
    iblk m c 1 t (ix3 0 b k) = m ((c : Thread nD τ).loc main_arg1) (ix2 b k) := by
  unfold iblk
  rw [View.read_apply]
  show V m c main_v0 _ = _
  rw [V_weight]
  obtain ⟨-, -, h0, h1, h2, -⟩ := idx t
  refine shapeCast_apply _ _ _ (ix2 b k) ?_
  rw [Shape.rowMajor_val_two, Shape.rowMajor_val_three]
  show b.val * 2048 + k.val = ((win0_1.index t (0 : Fin 3) * 1 + 1 * 0) * 2048 + (win0_1.index t (1 : Fin 3) * 2048 + 1 * b.val)) * 2048
    + (win0_1.index t (2 : Fin 3) * 2048 + 1 * k.val)
  rw [h0, h1, h2]; omega

/-- What point `t` stores is its rows of the product. -/
theorem point (c : Dev nD) (t : Fin cfg0.N) (a : Fin 1024) (b : Fin 2048) (j : Fin 2048) (hj : j.val = 1024 * t.val + a.val) :
    k0_pay3 (F := Ideal) (k0_pay2 k0_pay1 (iblk m c 0 t) (iblk m c 1 t)) (ix2 a b)
      = nt (M := 2048) (K := 2048) (N := 2048) (m ((c : Thread nD τ).loc main_arg2)) (m ((c : Thread nD τ).loc main_arg1)) (ix2 j b) := by
  rw [out_apply]
  refine Finset.sum_congr rfl fun k _ => ?_
  rw [blk0 m c t a k j hj, blk1 m c t b k]

theorem mem_blk (t : Fin cfg0.N) (i : S2048x2048.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v1).slice (win0_2.rect t)).set ↔ _
  rw [View.set_slice_whole, Rect.mem_set_unit]
  exact Iff.rfl

/-- The result: `ct · wᵀ`. -/
theorem final (c : Dev nD) : (dats m 0 c).arrAt 2 cfg0.N
    = nt (M := 2048) (K := 2048) (N := 2048) (m ((c : Thread nD τ).loc main_arg2)) (m ((c : Thread nD τ).loc main_arg1)) := by
  refine (dats m 0 c).arrAt_eq_of_cover 2 _ (fun t hf => ?_) (fun i => ?_)
  · obtain ⟨-, -, -, -, -, h0, h1, -⟩ := idx t
    rw [Value.flushed2_A, out_eq]
    funext y
    rw [View.read_apply]
    have e : (cfg0.win 2).xinj (grid0.coords t) y = ix2 (n0 := 1024) (n1 := 2048) (y 0) (y 1) :=
      funext fun a => match a with | ⟨0, _⟩ => rfl | ⟨1, _⟩ => rfl
    have e0 : (((cfg0.win 2).blk t).view.emb y 0).val = win0_2.index t (0 : Fin 2) * 1024 + 1 * (y 0).val := rfl
    have e1 : (((cfg0.win 2).blk t).view.emb y 1).val = win0_2.index t (1 : Fin 2) * 2048 + 1 * (y 1).val := rfl
    have e2 : ix2 (n0 := 2048) (n1 := 2048) (((cfg0.win 2).blk t).view.emb y 0) (y 1) = ((cfg0.win 2).blk t).view.emb y :=
      funext fun a => Fin.ext (match a with | ⟨0, _⟩ => rfl | ⟨1, _⟩ => by show (y 1).val = (((cfg0.win 2).blk t).view.emb y 1).val; omega)
    exact (congrArg (k0_pay3 (F := Ideal) (k0_pay2 k0_pay1 (iblk m c 0 t) (iblk m c 1 t))) e).trans
      ((point m c t (y 0) (y 1) (((cfg0.win 2).blk t).view.emb y 0) (by omega)).trans (congrArg _ e2))
  · have i0 : (i 0).val < 2048 := (i 0).isLt
    have i1 : (i 1).val < 2048 := (i 1).isLt
    have hN : cfg0.N = 2 := N_0
    refine ⟨⟨(i 0).val / 1024, by omega⟩, (idx _).2.2.2.2.2.2.2, ?_⟩
    obtain ⟨-, -, -, -, -, h0, h1, -⟩ := idx ⟨(i 0).val / 1024, by omega⟩
    rw [mem_blk]
    intro a
    match a with
    | ⟨0, _⟩ => show win0_2.index _ (0 : Fin 2) * 1024 ≤ (i 0).val ∧ (i 0).val < win0_2.index _ (0 : Fin 2) * 1024 + 1024; rw [h0]; dsimp only; omega
    | ⟨1, _⟩ => show win0_2.index _ (1 : Fin 2) * 2048 ≤ (i 1).val ∧ (i 1).val < win0_2.index _ (1 : Fin 2) * 2048 + 2048; rw [h1]; omega

/-- The kernel and the reference end with one product. -/
theorem algebraic : Cert.algebraic_DyIdeal_DyRefIdeal := by
  intro m ρ m' ρ' _ hagree
  refine ⟨_, Cert.DyIdeal.Value.run_blocks (F := Ideal) m ρ, ?_⟩
  refine (θ_run Cert.DyRefIdeal.defs _ _).mono (fun _ h c => ⟨?_, (h c).2⟩) (Cert.DyRefIdeal.Value.run (F := Ideal) m' ρ')
  rw [(h c).1, (hagree c).2.1, (hagree c).2.2, final m c]
  exact dot_nt none (M := 2048) (K := 2048) (N := 2048) (φ₁ := .f32) (φ₂ := .f32) _ _ _

end Cert.DyIdeal.Product

end
-- ==== Proof.Products.DwOut.lean ====
/- The weight's gradient `yᵀ · ct` of the output projection, over tiles of 1024 of its rows. -/
module

public import proofs.«01_k».proof.Defs
public import proofs.«01_k».proof.Proof.Products.Sums
public import proofs.«01_k».proof.Proof.Gen.DwOutIdeal.Value
public import proofs.«01_k».proof.Proof.Gen.DwOutRefIdeal.Run
public import Idealize.ShloMosaic.Lib.Tactic

@[expose] public section

noncomputable section

open scoped BigOperators

namespace Cert.DwOutIdeal.Product

open Cert.DwOutIdeal Cert.DwOutIdeal.Gen Cert.Products Idealize.ShloMosaic Idealize.ShloMosaic.TcCoe Idealize.SL.Sem
open Idealize.ShloMosaic.ValueIdx

variable (m : (ℓ : Loc nD τ sig) → Buf (Elt Ideal) ℓ)

/-- What a point stores: the accumulator, cleared, plus the product of its two blocks. -/
theorem out_eq (c : Dev nD) (i : grid0.Coords) (arg3 : Memref sig .tc .vmem S2048x1024 .bf16) (harg3 : arg3.IsWhole) (arg4 : Memref sig .tc .vmem S2048x2048 .bf16) (harg4 : arg4.IsWhole) (arg5 : Memref sig .tc .vmem S1x1024x2048 .bf16) (harg5 : arg5.IsWhole) (arg6 : Memref sig .tc .vmem S1024x2048 .f32) (harg6 : arg6.IsWhole) (hc0 : cond0_0 i) (hc1 : cond0_1 i)
    (x0 : Vec Ideal S2048x1024 .bf16) (x1 : Vec Ideal S2048x2048 .bf16) :
    out0_A_2 c i arg3 harg3 arg4 harg4 arg5 harg5 arg6 harg6 hc0 hc1 x0 x1 = k0_pay3 (k0_pay2 k0_pay1 x0 x1) := by
  unfold out0_A_2
  rw [View.read_writes_eq_canon _ _ _ (cover0_A_2 c i arg3 harg3 arg4 harg4 arg5 harg5 arg6 harg6 hc0 hc1 x0 x1)]
  unfold kernelRun0_A
  sl_unfold_words
  rw [View.canon_unit_zero hz3]
  rw [View.readCov_unit_zero _ hz2, View.readCov_full, View.readAt_eq_ld, View.readAt_eq_ld, harg3.read_unread, harg4.read_unread,
    View.ld_unit_zero hz2, View.ld_unit_zero hz2]

/-- … which is the product of the blocks. -/
theorem out_apply (x0 : Vec Ideal S2048x1024 .bf16) (x1 : Vec Ideal S2048x2048 .bf16) (z : Fin 1) (a : Fin 1024) (b : Fin 2048) :
    k0_pay3 (k0_pay2 k0_pay1 x0 x1) (ix3 z a b) = ∑ k : Fin 2048, x0 (ix2 k a) * x1 (ix2 k b) := by
  unfold k0_pay3 k0_pay2 k0_pay1
  dsimp only
  rw [shapeCast_self, shapeCast_self]
  refine (add1 _ _ z a b).trans ?_
  refine (congrArg (Ideal.ofBits .f32 0#32 + ·) (matmul_tn none (M := 1024) (K := 2048) (N := 2048) (φ₁ := .bf16) (φ₂ := .bf16) x0 x1
    _ dot_S2048x1024_S2048x2048_S1024x2048_0_0_1_1_n_n.wf (ix2 a b))).trans ?_
  show Ideal.ofBits .f32 0#32 + (Ideal.ofBits .f32 0#32 + _) = _
  rw [ofBits_zero, zero_add, zero_add]
  rfl

/-- The blocks a point takes and gives: the point's 1024 columns of `y`, the whole cotangent. -/
theorem idx : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 3) = 0 ∧ win0_2.index t (1 : Fin 3) = t.val ∧ win0_2.index t (2 : Fin 3) = 0 ∧ win0_2.flush t = true :=
  (by decide +kernel : ∀ t : Fin grid0.N, _)

theorem blk0 (c : Dev nD) (t : Fin cfg0.N) (k : Fin 2048) (a : Fin 1024) (j : Fin 2048) (hj : j.val = 1024 * t.val + a.val) :
    iblk m c 0 t (ix2 k a) = m ((c : Thread nD τ).loc main_arg0) (ix2 k j) := by
  unfold iblk
  rw [View.read_apply]
  show V m c main_arg0 _ = _
  rw [V_main_arg0]
  congr 1; funext d; apply Fin.ext
  obtain ⟨h0, h1, -⟩ := idx t
  match d with
  | ⟨0, _⟩ => show win0_0.index t (0 : Fin 2) * 2048 + 1 * k.val = k.val; omega
  | ⟨1, _⟩ => show win0_0.index t (1 : Fin 2) * 1024 + 1 * a.val = j.val; omega

theorem blk1 (c : Dev nD) (t : Fin cfg0.N) (k b : Fin 2048) :
    iblk m c 1 t (ix2 k b) = m ((c : Thread nD τ).loc main_arg2) (ix2 k b) := by
  unfold iblk
  rw [View.read_apply]
  show V m c main_arg2 _ = _
  rw [V_main_arg2]
  congr 1; funext d; apply Fin.ext
  obtain ⟨-, -, h0, h1, -⟩ := idx t
  match d with
  | ⟨0, _⟩ => show win0_1.index t (0 : Fin 2) * 2048 + 1 * k.val = k.val; omega
  | ⟨1, _⟩ => show win0_1.index t (1 : Fin 2) * 2048 + 1 * b.val = b.val; omega

/-- The layer's input and the cotangent the run starts with. -/
abbrev argY (c : Dev nD) : Mat 2048 2048 := m ((c : Thread nD τ).loc main_arg0)
abbrev argCt (c : Dev nD) : Mat 2048 2048 := m ((c : Thread nD τ).loc main_arg2)

/-- The gradient of the arguments the run starts with. -/
def grad (c : Dev nD) : (⟨3, ![1, 2048, 2048]⟩ : Shape).Idx → EReal :=
  tnSlab (M := 2048) (K := 2048) (S := 1) (N := 2048) (W := 2048) rfl (argY m c) (argCt m c)

/-- What point `t` stores is its rows of the gradient. -/
theorem point (c : Dev nD) (t : Fin cfg0.N) (z : Fin 1) (a : Fin 1024) (b : Fin 2048) (j : Fin 2048) (hj : j.val = 1024 * t.val + a.val) :
    k0_pay3 (F := Ideal) (k0_pay2 k0_pay1 (iblk m c 0 t) (iblk m c 1 t)) (ix3 z a b) = grad m c (ix3 z j b) := by
  rw [out_apply]
  unfold grad tnSlab tn
  refine Finset.sum_congr rfl fun k _ => ?_
  have hb : slabCol (S := 1) (N := 2048) (W := 2048) rfl z b = b := Fin.ext (by show z.val * 2048 + b.val = b.val; omega)
  rw [blk0 m c t k a j hj, blk1 m c t k b]
  exact congrArg (fun q : Fin 2048 => argY m c (ix2 k j) * argCt m c (ix2 k q)) hb.symm

theorem mem_blk (t : Fin cfg0.N) (i : S1x2048x2048.Idx) :
    i ∈ ((cfg0.win 2).blk t).view.set ↔ ∀ a : Fin 3, win0_2.index t a * S1x1024x2048.size a ≤ (i a).val
      ∧ (i a).val < win0_2.index t a * S1x1024x2048.size a + S1x1024x2048.size a := by
  show i ∈ ((View.whole main_v0).slice (win0_2.rect t)).set ↔ _
  rw [View.set_slice_whole, Rect.mem_set_unit]
  exact Iff.rfl

/-- The result: `yᵀ · ct`. -/
theorem final (c : Dev nD) : (dats m 0 c).arrAt 2 cfg0.N = grad m c := by
  refine (dats m 0 c).arrAt_eq_of_cover 2 _ (fun t hf => ?_) (fun i => ?_)
  · obtain ⟨-, -, -, -, h0, h1, h2, -⟩ := idx t
    rw [Value.flushed2_A, out_eq]
    funext y
    rw [View.read_apply]
    have e : (cfg0.win 2).xinj (grid0.coords t) y = ix3 (n0 := 1) (n1 := 1024) (n2 := 2048) (y 0) (y 1) (y 2) :=
      funext fun a => match a with | ⟨0, _⟩ => rfl | ⟨1, _⟩ => rfl | ⟨2, _⟩ => rfl
    have e0 : (((cfg0.win 2).blk t).view.emb y 0).val = win0_2.index t (0 : Fin 3) * 1 + 1 * (y 0).val := rfl
    have e1 : (((cfg0.win 2).blk t).view.emb y 1).val = win0_2.index t (1 : Fin 3) * 1024 + 1 * (y 1).val := rfl
    have e2 : (((cfg0.win 2).blk t).view.emb y 2).val = win0_2.index t (2 : Fin 3) * 2048 + 1 * (y 2).val := rfl
    have e3 : ix3 (n0 := 1) (n1 := 2048) (n2 := 2048) (y 0) (((cfg0.win 2).blk t).view.emb y 1) (y 2) = ((cfg0.win 2).blk t).view.emb y :=
      funext fun a => Fin.ext (match a with
        | ⟨0, _⟩ => by show (y 0).val = (((cfg0.win 2).blk t).view.emb y 0).val; omega
        | ⟨1, _⟩ => rfl
        | ⟨2, _⟩ => by show (y 2).val = (((cfg0.win 2).blk t).view.emb y 2).val; omega)
    exact (congrArg (k0_pay3 (F := Ideal) (k0_pay2 k0_pay1 (iblk m c 0 t) (iblk m c 1 t))) e).trans
      ((point m c t (y 0) (y 1) (y 2) (((cfg0.win 2).blk t).view.emb y 1) (by omega)).trans (congrArg _ e3))
  · have i0 : (i 0).val < 1 := (i 0).isLt
    have i1 : (i 1).val < 2048 := (i 1).isLt
    have i2 : (i 2).val < 2048 := (i 2).isLt
    have hN : cfg0.N = 2 := N_0
    refine ⟨⟨(i 1).val / 1024, by omega⟩, (idx _).2.2.2.2.2.2.2, ?_⟩
    obtain ⟨-, -, -, -, h0, h1, h2, -⟩ := idx ⟨(i 1).val / 1024, by omega⟩
    rw [mem_blk]
    intro a
    match a with
    | ⟨0, _⟩ => show win0_2.index _ (0 : Fin 3) * 1 ≤ (i 0).val ∧ (i 0).val < win0_2.index _ (0 : Fin 3) * 1 + 1; rw [h0]; omega
    | ⟨1, _⟩ => show win0_2.index _ (1 : Fin 3) * 1024 ≤ (i 1).val ∧ (i 1).val < win0_2.index _ (1 : Fin 3) * 1024 + 1024; rw [h1]; dsimp only; omega
    | ⟨2, _⟩ => show win0_2.index _ (2 : Fin 3) * 2048 ≤ (i 2).val ∧ (i 2).val < win0_2.index _ (2 : Fin 3) * 2048 + 2048; rw [h2]; omega

/-- The kernel and the reference end with one gradient. -/
theorem algebraic : Cert.algebraic_DwOutIdeal_DwOutRefIdeal := by
  intro m ρ m' ρ' _ hagree
  refine ⟨_, Cert.DwOutIdeal.Value.run_blocks (F := Ideal) m ρ, ?_⟩
  refine (θ_run Cert.DwOutRefIdeal.defs _ _).mono (fun _ h c => ⟨?_, (h c).2⟩) (Cert.DwOutRefIdeal.Value.run (F := Ideal) m' ρ')
  rw [(h c).1, (hagree c).1, (hagree c).2.2, final m c]
  funext i
  obtain ⟨z, a, b, rfl⟩ : ∃ z a b, i = ix3 (n0 := 1) (n1 := 2048) (n2 := 2048) z a b := ⟨_, _, _, eq_ix3 i⟩
  refine (add1 _ _ z a b).trans ((congrFun (weight_grad (M := 2048) (K := 2048) (N := 2048) _ _ _ _ _) (ix2 a b)).trans ?_)
  have hb : slabCol (S := 1) (N := 2048) (W := 2048) rfl z b = b := Fin.ext (by show z.val * 2048 + b.val = b.val; omega)
  exact congrArg (fun q => tn (argY m c) (argCt m c) (ix2 a q)) hb.symm

end Cert.DwOutIdeal.Product

end
-- ==== Proof.Products.Out.lean ====
/- The output projection's product `y · w`, over tiles of 512 columns. -/
module

public import proofs.«01_k».proof.Defs
public import proofs.«01_k».proof.Proof.Products.Sums
public import proofs.«01_k».proof.Proof.Gen.OutIdeal.Value
public import proofs.«01_k».proof.Proof.Gen.OutRefIdeal.Run
public import Idealize.ShloMosaic.Lib.Tactic

@[expose] public section

noncomputable section

open scoped BigOperators

namespace Cert.OutIdeal.Product

open Cert.OutIdeal Cert.OutIdeal.Gen Cert.Products Idealize.ShloMosaic Idealize.ShloMosaic.TcCoe Idealize.SL.Sem
open Idealize.ShloMosaic.ValueIdx

variable (m : (ℓ : Loc nD τ sig) → Buf (Elt Ideal) ℓ)

/-- The weight in the layout the call takes. -/
theorem V_weight (c : Dev nD) : V m c main_v0 = shapeCast S1x2048x2048 (m ((c : Thread nD τ).loc main_arg1)) shapeCasts_S2048x2048_S1x2048x2048 := by
  show StableHlo.after hostOps0 _ _ = _
  after_results <;> rfl

/-- What a point stores: the product of its two blocks. -/
theorem out_apply (x0 : Vec Ideal S2048x2048 .bf16) (x1 : Vec Ideal S1x2048x512 .bf16) (a : Fin 2048) (b : Fin 512) :
    out0_2 x0 x1 (ix2 a b) = ∑ k : Fin 2048, x0 (ix2 a k) * x1 (ix3 0 k b) := by
  unfold out0_2 r0_0 r0_1 r0_2
  rw [View.canon_unit_zero hz2]
  unfold k0_pay1
  rw [View.ld_unit_zero hz2, View.ld_unit_zero hz3]
  refine (matmul_nn none (M := 2048) (K := 2048) (N := 512) (φ₁ := .bf16) (φ₂ := .bf16) x0
    (shapeCast S2048x512 x1 shapeCasts_S1x2048x512_S2048x512) _ dot_S2048x2048_S2048x512_S2048x512_1_0_0_1_n_n.wf (ix2 a b)).trans ?_
  show Ideal.ofBits .f32 0#32 + _ = _
  rw [ofBits_zero, zero_add]
  refine Finset.sum_congr rfl fun k _ => congrArg (x0 (ix2 a k) * ·) ?_
  exact drop1 x1 _ k b

/-- The blocks a point takes and gives: all rows, the point's 512 columns. -/
theorem idx : ∀ t : Fin cfg0.N, win0_0.index t (0 : Fin 2) = 0 ∧ win0_0.index t (1 : Fin 2) = 0
    ∧ win0_1.index t (0 : Fin 3) = 0 ∧ win0_1.index t (1 : Fin 3) = 0 ∧ win0_1.index t (2 : Fin 3) = t.val
    ∧ win0_2.index t (0 : Fin 2) = 0 ∧ win0_2.index t (1 : Fin 2) = t.val ∧ win0_2.flush t = true :=
  (by decide +kernel : ∀ t : Fin grid0.N, _)

theorem blk0 (c : Dev nD) (t : Fin cfg0.N) (a k : Fin 2048) :
    iblk m c 0 t (ix2 a k) = m ((c : Thread nD τ).loc main_arg0) (ix2 a k) := by
  unfold iblk
  rw [View.read_apply]
  show V m c main_arg0 _ = _
  rw [V_main_arg0]
  congr 1; funext d; apply Fin.ext
  obtain ⟨h0, h1, -⟩ := idx t
  match d with
  | ⟨0, _⟩ => show win0_0.index t (0 : Fin 2) * 2048 + 1 * a.val = a.val; omega
  | ⟨1, _⟩ => show win0_0.index t (1 : Fin 2) * 2048 + 1 * k.val = k.val; omega

theorem blk1 (c : Dev nD) (t : Fin cfg0.N) (k : Fin 2048) (b : Fin 512) (j : Fin 2048) (hj : j.val = 512 * t.val + b.val) :
    iblk m c 1 t (ix3 0 k b) = m ((c : Thread nD τ).loc main_arg1) (ix2 k j) := by
  unfold iblk
  rw [View.read_apply]
  show V m c main_v0 _ = _
  rw [V_weight]
  obtain ⟨-, -, h0, h1, h2, -⟩ := idx t
  refine shapeCast_apply _ _ _ (ix2 k j) ?_
  rw [Shape.rowMajor_val_two, Shape.rowMajor_val_three]
  show k.val * 2048 + j.val = ((win0_1.index t (0 : Fin 3) * 1 + 1 * 0) * 2048 + (win0_1.index t (1 : Fin 3) * 2048 + 1 * k.val)) * 2048
    + (win0_1.index t (2 : Fin 3) * 512 + 1 * b.val)
  rw [h0, h1, h2, hj]; omega

/-- What point `t` stores is its columns of the product. -/
theorem point (c : Dev nD) (t : Fin cfg0.N) (a : Fin 2048) (b : Fin 512) (j : Fin 2048) (hj : j.val = 512 * t.val + b.val) :
    out0_2 (iblk m c 0 t) (iblk m c 1 t) (ix2 a b)
      = nn (M := 2048) (K := 2048) (N := 2048) (m ((c : Thread nD τ).loc main_arg0)) (m ((c : Thread nD τ).loc main_arg1)) (ix2 a j) := by
  rw [out_apply]
  refine Finset.sum_congr rfl fun k _ => ?_
  rw [blk0, blk1 m c t k b j hj]

theorem mem_blk (t : Fin cfg0.N) (i : S2048x2048.Idx) :
    i ∈ ((cfg0.win 2).blk t).view.set ↔ ∀ a : Fin 2, win0_2.index t a * S2048x512.size a ≤ (i a).val
      ∧ (i a).val < win0_2.index t a * S2048x512.size a + S2048x512.size a := by
  show i ∈ ((View.whole main_v1).slice (win0_2.rect t)).set ↔ _
  rw [View.set_slice_whole, Rect.mem_set_unit]
  exact Iff.rfl

/-- The result: `y · w`. -/
theorem final (c : Dev nD) : (dats m 0 c).arrAt 2 cfg0.N
    = nn (M := 2048) (K := 2048) (N := 2048) (m ((c : Thread nD τ).loc main_arg0)) (m ((c : Thread nD τ).loc main_arg1)) := by
  refine (dats m 0 c).arrAt_eq_of_cover 2 _ (fun t hf => ?_) (fun i => ?_)
  · obtain ⟨-, -, -, -, -, h0, h1, -⟩ := idx t
    rw [Value.flushed2]
    funext y
    rw [View.read_apply]
    have e : (cfg0.win 2).xinj (grid0.coords t) y = ix2 (n0 := 2048) (n1 := 512) (y 0) (y 1) :=
      funext fun a => match a with | ⟨0, _⟩ => rfl | ⟨1, _⟩ => rfl
    have e0 : (((cfg0.win 2).blk t).view.emb y 0).val = win0_2.index t (0 : Fin 2) * 2048 + 1 * (y 0).val := rfl
    have e1 : (((cfg0.win 2).blk t).view.emb y 1).val = win0_2.index t (1 : Fin 2) * 512 + 1 * (y 1).val := rfl
    have e2 : ix2 (n0 := 2048) (n1 := 2048) (y 0) (((cfg0.win 2).blk t).view.emb y 1) = ((cfg0.win 2).blk t).view.emb y :=
      funext fun a => Fin.ext (match a with | ⟨0, _⟩ => by show (y 0).val = (((cfg0.win 2).blk t).view.emb y 0).val; omega | ⟨1, _⟩ => rfl)
    exact (congrArg (out0_2 (iblk m c 0 t) (iblk m c 1 t)) e).trans
      ((point m c t (y 0) (y 1) (((cfg0.win 2).blk t).view.emb y 1) (by omega)).trans (congrArg _ e2))
  · have i0 : (i 0).val < 2048 := (i 0).isLt
    have i1 : (i 1).val < 2048 := (i 1).isLt
    have hN : cfg0.N = 4 := N_0
    refine ⟨⟨(i 1).val / 512, by omega⟩, (idx _).2.2.2.2.2.2.2, ?_⟩
    obtain ⟨-, -, -, -, -, h0, h1, -⟩ := idx ⟨(i 1).val / 512, by omega⟩
    rw [mem_blk]
    intro a
    match a with
    | ⟨0, _⟩ => show win0_2.index _ (0 : Fin 2) * 2048 ≤ (i 0).val ∧ (i 0).val < win0_2.index _ (0 : Fin 2) * 2048 + 2048; rw [h0]; omega
    | ⟨1, _⟩ => show win0_2.index _ (1 : Fin 2) * 512 ≤ (i 1).val ∧ (i 1).val < win0_2.index _ (1 : Fin 2) * 512 + 512; rw [h1]; dsimp only; omega

/-- The kernel and the reference end with one product. -/
theorem algebraic : Cert.algebraic_OutIdeal_OutRefIdeal := by
  intro m ρ m' ρ' _ hagree
  refine ⟨_, Cert.OutIdeal.Value.run_blocks (F := Ideal) m ρ, ?_⟩
  refine (θ_run Cert.OutRefIdeal.defs _ _).mono (fun _ h c => ⟨?_, (h c).2⟩) (Cert.OutRefIdeal.Value.run (F := Ideal) m' ρ')
  rw [(h c).1, (hagree c).1, (hagree c).2, final m c]
  exact dot_nn none (M := 2048) (K := 2048) (N := 2048) (φ₁ := .f32) (φ₂ := .f32) _ _ _

end Cert.OutIdeal.Product

end
-- ==== Proof.Products.Adam.lean ====
/- One element's AdamW step over the extended reals, and how the host's slices read. -/
module

public import proofs.«01_k».proof.Proof.Products.Sums

@[expose] public section

noncomputable section

namespace Cert.Products

open Idealize.ShloMosaic Idealize.ShloMosaic.ValueIdx

/-- A constant of the program, named by its word. -/
abbrev lit (w : BitVec 32) : EReal := Ideal.ofBits .f32 w

/-- The four parts of a gradient, summed. -/
def gradE (p0 p1 p2 p3 : EReal) : EReal := p0 + p1 + p2 + p3
/-- The first and the second moment after the step. -/
def firstE (g m : EReal) : EReal := lit 0x3F666666#32 * m + lit 0x3DCCCCCD#32 * g
def secondE (g v : EReal) : EReal := lit 0x3F7FBE77#32 * v + lit 0x3A83126F#32 * (g * g)
/-- What is added to the weight. -/
def stepE (w g m v : EReal) : EReal :=
  lit 0xBA83126F#32 * (Ideal.div (Ideal.div (firstE g m) (lit 0x3F26BD02#32)) (Ideal.sqrt (Ideal.div (secondE g v) (lit 0x3C231ACC#32)) + lit 0x322BCC77#32)
    + lit 0x3C23D70A#32 * w)

/-- One of four slabs, its leading axis dropped. -/
theorem slab4_apply {α : Type} {M N : Nat} (o : Fin 4) (x : (⟨3, ![4, M, N]⟩ : Shape).Idx → α) (off : Fin 3 → Nat) (hoff : off = ![o.val, 0, 0])
    (h : Shape.Slices ⟨3, ![4, M, N]⟩ off ⟨3, ![1, M, N]⟩) (h' : Shape.ShapeCasts ⟨3, ![1, M, N]⟩ ⟨2, ![M, N]⟩) (a : Fin M) (b : Fin N) :
    shapeCast ⟨2, ![M, N]⟩ (extractStridedSlice ⟨3, ![1, M, N]⟩ off x h) h' (ix2 a b) = x (ix3 o a b) := by
  subst hoff
  refine (drop1 _ h' a b).trans (congrArg x (funext fun d => Fin.ext ?_))
  match d with
  | ⟨0, _⟩ => show o.val + 0 = o.val; omega
  | ⟨1, _⟩ => show 0 + a.val = a.val; omega
  | ⟨2, _⟩ => show 0 + b.val = b.val; omega

/-- The sum of the four parts of a gradient, as a host slices and adds them. -/
theorem parts4 {M N : Nat} (own got : FVec Ideal ⟨3, ![4, M, N]⟩ .bf16)
    (h0 : Shape.Slices ⟨3, ![4, M, N]⟩ ![0, 0, 0] ⟨3, ![1, M, N]⟩) (h1 : Shape.Slices ⟨3, ![4, M, N]⟩ ![1, 0, 0] ⟨3, ![1, M, N]⟩)
    (h2 : Shape.Slices ⟨3, ![4, M, N]⟩ ![2, 0, 0] ⟨3, ![1, M, N]⟩) (h3 : Shape.Slices ⟨3, ![4, M, N]⟩ ![3, 0, 0] ⟨3, ![1, M, N]⟩)
    (h' : Shape.ShapeCasts ⟨3, ![1, M, N]⟩ ⟨2, ![M, N]⟩) (hb : FTy.bits .bf16 < FTy.bits .f32) (a : Fin M) (b : Fin N) :
    addf (addf (addf (extf .f32 (shapeCast ⟨2, ![M, N]⟩ (extractStridedSlice ⟨3, ![1, M, N]⟩ ![0, 0, 0] own h0) h') hb)
      (extf .f32 (shapeCast ⟨2, ![M, N]⟩ (extractStridedSlice ⟨3, ![1, M, N]⟩ ![1, 0, 0] got h1) h') hb))
      (extf .f32 (shapeCast ⟨2, ![M, N]⟩ (extractStridedSlice ⟨3, ![1, M, N]⟩ ![2, 0, 0] got h2) h') hb))
      (extf .f32 (shapeCast ⟨2, ![M, N]⟩ (extractStridedSlice ⟨3, ![1, M, N]⟩ ![3, 0, 0] got h3) h') hb) (ix2 a b)
      = gradE (own (ix3 0 a b)) (got (ix3 1 a b)) (got (ix3 2 a b)) (got (ix3 3 a b)) :=
  congrArg₂ (· + ·) (congrArg₂ (· + ·) (congrArg₂ (· + ·) (slab4_apply 0 own _ rfl h0 h' a b) (slab4_apply 1 got _ rfl h1 h' a b))
    (slab4_apply 2 got _ rfl h2 h' a b)) (slab4_apply 3 got _ rfl h3 h' a b)

variable {S : Shape}

/-- The step of a whole weight, of its gradient and of its two moments; and the moments after it. -/
def stepV (w g m v : S.Idx → EReal) : S.Idx → EReal := fun i => stepE (w i) (g i) (m i) (v i)
def firstV (g m : S.Idx → EReal) : S.Idx → EReal := fun i => firstE (g i) (m i)
def secondV (g v : S.Idx → EReal) : S.Idx → EReal := fun i => secondE (g i) (v i)

theorem stepV_congr {w w' g g' m m' v v' : S.Idx → EReal} (hw : w = w') (hg : g = g') (hm : m = m') (hv : v = v') :
    stepV w g m v = stepV w' g' m' v' := by rw [hw, hg, hm, hv]
theorem firstV_congr {g g' m m' : S.Idx → EReal} (hg : g = g') (hm : m = m') : firstV g m = firstV g' m' := by rw [hg, hm]
theorem secondV_congr {g g' v v' : S.Idx → EReal} (hg : g = g') (hv : v = v') : secondV g v = secondV g' v' := by rw [hg, hv]

/-- Blocks of `r` whole rows: an index lies in the block its row is in … -/
theorem rows_mem {R C r : Nat} (f : Fin 2 → Nat) (i : (⟨2, ![R, C]⟩ : Shape).Idx) (hr : 0 < r) (h0 : f 0 = (i 0).val / r) (h1 : f 1 = 0) (a : Fin 2) :
    f a * (⟨2, ![r, C]⟩ : Shape).size a ≤ (i a).val ∧ (i a).val < f a * (⟨2, ![r, C]⟩ : Shape).size a + (⟨2, ![r, C]⟩ : Shape).size a := by
  have i1 : (i 1).val < C := (i 1).isLt
  match a with
  | ⟨0, _⟩ =>
    show f 0 * r ≤ (i 0).val ∧ (i 0).val < f 0 * r + r
    rw [h0]
    exact ⟨Nat.div_mul_le_self _ _, Nat.lt_div_mul_add hr⟩
  | ⟨1, _⟩ =>
    show f 1 * C ≤ (i 1).val ∧ (i 1).val < f 1 * C + C
    rw [h1]
    omega

/-- … and a block's column is the array's. -/
theorem rows_col {R C : Nat} (f : Fin 2 → Nat) (j : (⟨2, ![R, C]⟩ : Shape).Idx) (b : Fin C) (h : (j 1).val = f 1 * C + 1 * b.val) (h1 : f 1 = 0) :
    ix2 (n0 := R) (n1 := C) (j 0) b = j :=
  funext fun d => Fin.ext (match d with
    | ⟨0, _⟩ => rfl
    | ⟨1, _⟩ => by show b.val = (j 1).val; rw [h, h1]; omega)

end Cert.Products

end
-- ==== Proof.Products.AdamInEvenIdealTable.lean ====
/- The table the call reads (one word, which chip the device is on) as its run finds it, and the blocks it then asks for. -/
module

public import proofs.«01_k».proof.Proof.Gen.AdamInEvenIdeal.Frame
public import Idealize.ShloMosaic.Lib.Tactic

@[expose] public section

noncomputable section

namespace Cert.AdamInEvenIdeal.Step

open Cert.AdamInEvenIdeal Cert.AdamInEvenIdeal.Gen Idealize.ShloMosaic Idealize.ShloMosaic.TcCoe Idealize.SL.Sem

variable {F : FTy → Type} [FloatOps F]
variable (m : (ℓ : Loc nD τ sig) → Buf (Elt F) ℓ)

/-- The table holds the one word the program writes. -/
theorem table (c : Dev nD) : V m c main_v0 = broadcastInDim S1 ![] bcast_S_S1 (constantI S_ 32 0#32) := by
  show StableHlo.after hostOps0 _ _ = _
  after_results <;> rfl

theorem word : (tbl m).at 0 (Rect.unit (s := S1) ![0] S1.size inb_S1_S1_0) numel1_S1 = 0#32 := by
  have h : tbl m 0 = broadcastInDim S1 ![] bcast_S_S1 (constantI S_ 32 0#32) := table m 0
  unfold Pipeline.Prefetch.Contents.at
  rw [h]
  rfl

/-- The block of part `k` at a point, that word read. -/
def ix (k : BitVec 32) (i : grid0.Coords) : Fin 3 → Nat := ![(Scalar.xori 0#32 k).toNat, (BitVec.ofNat 32 (i 0).val).toNat, 0]

theorem ix_eq0 (i : grid0.Coords) : cc0_transform_3 inb_S1_S1_0 numel1_S1 (tbl m) i = ix 0#32 i := by
  unfold cc0_transform_3
  rw [word]
  rfl

theorem ix_eq1 (i : grid0.Coords) : cc0_transform_4 inb_S1_S1_0 numel1_S1 (tbl m) i = ix 1#32 i := by
  unfold cc0_transform_4
  rw [word]
  rfl

theorem ix_eq2 (i : grid0.Coords) : cc0_transform_5 inb_S1_S1_0 numel1_S1 (tbl m) i = ix 2#32 i := by
  unfold cc0_transform_5
  rw [word]
  rfl

theorem ix_eq3 (i : grid0.Coords) : cc0_transform_6 inb_S1_S1_0 numel1_S1 (tbl m) i = ix 3#32 i := by
  unfold cc0_transform_6
  rw [word]
  rfl

/-- Every block lies inside the array. -/
theorem ok : Ok m := by
  refine ⟨?_, ?_, ?_, ?_⟩ <;> intro i <;> first | rw [ix_eq0] | rw [ix_eq1] | rw [ix_eq2] | rw [ix_eq3]
  all_goals revert i; decide +kernel

end Cert.AdamInEvenIdeal.Step

end
-- ==== Proof.Products.AdamInEven.lean ====
/- The AdamW step of the even layer's input weight: the parts of its gradient summed, and the step, 512 rows at a time. -/
module

public import proofs.«01_k».proof.Defs
public import proofs.«01_k».proof.Proof.Products.Adam
public import proofs.«01_k».proof.Proof.Products.AdamInEvenIdealTable
public import proofs.«01_k».proof.Proof.Gen.AdamInEvenIdeal.Frame
public import Idealize.ShloMosaic.Lib.Pipeline.Value
public import proofs.«01_k».proof.Proof.Gen.AdamInEvenRefIdeal.Run
public import Idealize.ShloMosaic.Lib.Tactic

@[expose] public section

noncomputable section

namespace Cert.AdamInEvenIdeal.Step

open Cert.AdamInEvenIdeal Cert.AdamInEvenIdeal.Gen Cert.Products Idealize.ShloMosaic Idealize.ShloMosaic.TcCoe Idealize.SL.Sem
open Idealize.ShloMosaic.ValueIdx

variable (m : (ℓ : Loc nD τ sig) → Buf (Elt Ideal) ℓ) (ρ : Dev nD → PrngReg)

/-! What a point stores in its four blocks. -/

section Stores

variable (c : Dev nD) (i : grid0.Coords) (arg2 : Memref sig .tc .vmem S512x768 .f32) (harg2 : arg2.IsWhole) (arg3 : Memref sig .tc .vmem S512x768 .f32) (harg3 : arg3.IsWhole) (arg4 : Memref sig .tc .vmem S512x768 .f32) (harg4 : arg4.IsWhole) (arg5 : Memref sig .tc .vmem S1x512x768 .bf16) (harg5 : arg5.IsWhole) (arg6 : Memref sig .tc .vmem S1x512x768 .bf16) (harg6 : arg6.IsWhole) (arg7 : Memref sig .tc .vmem S1x512x768 .bf16) (harg7 : arg7.IsWhole) (arg8 : Memref sig .tc .vmem S1x512x768 .bf16) (harg8 : arg8.IsWhole) (arg9 : Memref sig .tc .vmem S512x768 .f32) (harg9 : arg9.IsWhole) (arg10 : Memref sig .tc .vmem S512x768 .f32) (harg10 : arg10.IsWhole) (arg11 : Memref sig .tc .vmem S512x768 .f32) (harg11 : arg11.IsWhole) (arg12 : Memref sig .tc .vmem S512x768 .f32) (harg12 : arg12.IsWhole)
  (x0 x1 x2 : Vec Ideal S512x768 .f32) (x3 x4 x5 x6 : Vec Ideal S1x512x768 .bf16) (xt0 : TbBuf0 (F := Ideal) c tbM0_0)

theorem out7_eq : out0_A_7 c i arg2 harg2 arg3 harg3 arg4 harg4 arg5 harg5 arg6 harg6 arg7 harg7 arg8 harg8 arg9 harg9 arg10 harg10 arg11 harg11 arg12 harg12 x0 x1 x2 x3 x4 x5 x6 xt0 = k0_pay2 x3 x4 x5 x6 := by
  unfold out0_A_7
  rw [View.read_writes_eq_canon _ _ _ (cover0_A_7 c i _ _ _ _ _ _ _ _ _ _ _ _ _ _ _ _ _ _ _ _ _ _ _ _ _ _ _ _ _ _)]
  unfold kernelRun0_A
  sl_unfold_words
  rw [View.canon_unit_zero hz2]
  simp only [View.readAt_eq_ld, harg2.read_unread, harg3.read_unread, harg4.read_unread, harg5.read_unread, harg6.read_unread, harg7.read_unread, harg8.read_unread]
  repeat first | rw [View.ld_unit_zero hz2] | rw [View.ld_unit_zero hz3]

theorem out8_eq : out0_A_8 c i arg2 harg2 arg3 harg3 arg4 harg4 arg5 harg5 arg6 harg6 arg7 harg7 arg8 harg8 arg9 harg9 arg10 harg10 arg11 harg11 arg12 harg12 x0 x1 x2 x3 x4 x5 x6 xt0 = k0_pay1 x0 (k0_pay5 x3 x4 x5 x6 x1) (k0_pay6 x3 x4 x5 x6 x2) (Scalar.ofBits .f32 0x322BCC77#32) := by
  unfold out0_A_8
  rw [View.read_writes_eq_canon _ _ _ (cover0_A_8 c i _ _ _ _ _ _ _ _ _ _ _ _ _ _ _ _ _ _ _ _ _ _ _ _ _ _ _ _ _ _)]
  unfold kernelRun0_A
  sl_unfold_words
  rw [View.canon_unit_zero hz2]
  simp only [View.readAt_eq_ld, harg2.read_unread, harg3.read_unread, harg4.read_unread, harg5.read_unread, harg6.read_unread, harg7.read_unread, harg8.read_unread]
  repeat first | rw [View.ld_unit_zero hz2] | rw [View.ld_unit_zero hz3]

theorem out9_eq : out0_A_9 c i arg2 harg2 arg3 harg3 arg4 harg4 arg5 harg5 arg6 harg6 arg7 harg7 arg8 harg8 arg9 harg9 arg10 harg10 arg11 harg11 arg12 harg12 x0 x1 x2 x3 x4 x5 x6 xt0 = k0_pay3 x3 x4 x5 x6 x1 := by
  unfold out0_A_9
  rw [View.read_writes_eq_canon _ _ _ (cover0_A_9 c i _ _ _ _ _ _ _ _ _ _ _ _ _ _ _ _ _ _ _ _ _ _ _ _ _ _ _ _ _ _)]
  unfold kernelRun0_A
  sl_unfold_words
  rw [View.canon_unit_zero hz2]
  simp only [View.readAt_eq_ld, harg2.read_unread, harg3.read_unread, harg4.read_unread, harg5.read_unread, harg6.read_unread, harg7.read_unread, harg8.read_unread]
  repeat first | rw [View.ld_unit_zero hz2] | rw [View.ld_unit_zero hz3]

theorem out10_eq : out0_A_10 c i arg2 harg2 arg3 harg3 arg4 harg4 arg5 harg5 arg6 harg6 arg7 harg7 arg8 harg8 arg9 harg9 arg10 harg10 arg11 harg11 arg12 harg12 x0 x1 x2 x3 x4 x5 x6 xt0 = k0_pay4 x3 x4 x5 x6 x2 := by
  unfold out0_A_10
  rw [View.read_writes_eq_canon _ _ _ (cover0_A_10 c i _ _ _ _ _ _ _ _ _ _ _ _ _ _ _ _ _ _ _ _ _ _ _ _ _ _ _ _ _ _)]
  unfold kernelRun0_A
  sl_unfold_words
  rw [View.canon_unit_zero hz2]
  simp only [View.readAt_eq_ld, harg2.read_unread, harg3.read_unread, harg4.read_unread, harg5.read_unread, harg6.read_unread, harg7.read_unread, harg8.read_unread]
  repeat first | rw [View.ld_unit_zero hz2] | rw [View.ld_unit_zero hz3]

end Stores

/-! … element by element. -/

theorem pay2_apply (x3 x4 x5 x6 : Vec Ideal S1x512x768 .bf16) (a : Fin 512) (b : Fin 768) :
    k0_pay2 x3 x4 x5 x6 (ix2 a b) = gradE (x3 (ix3 0 a b)) (x4 (ix3 0 a b)) (x5 (ix3 0 a b)) (x6 (ix3 0 a b)) := by
  unfold k0_pay2 gradE
  exact congrArg₂ (· + ·) (congrArg₂ (· + ·) (congrArg₂ (· + ·) (drop1 x3 _ a b) (drop1 x4 _ a b)) (drop1 x5 _ a b)) (drop1 x6 _ a b)

theorem pay3_apply (x1 : Vec Ideal S512x768 .f32) (x3 x4 x5 x6 : Vec Ideal S1x512x768 .bf16) (a : Fin 512) (b : Fin 768) :
    k0_pay3 x3 x4 x5 x6 x1 (ix2 a b) = firstE (gradE (x3 (ix3 0 a b)) (x4 (ix3 0 a b)) (x5 (ix3 0 a b)) (x6 (ix3 0 a b))) (x1 (ix2 a b)) :=
  congrArg (firstE · (x1 (ix2 a b))) (pay2_apply x3 x4 x5 x6 a b)

theorem pay4_apply (x2 : Vec Ideal S512x768 .f32) (x3 x4 x5 x6 : Vec Ideal S1x512x768 .bf16) (a : Fin 512) (b : Fin 768) :
    k0_pay4 x3 x4 x5 x6 x2 (ix2 a b) = secondE (gradE (x3 (ix3 0 a b)) (x4 (ix3 0 a b)) (x5 (ix3 0 a b)) (x6 (ix3 0 a b))) (x2 (ix2 a b)) :=
  congrArg (secondE · (x2 (ix2 a b))) (pay2_apply x3 x4 x5 x6 a b)

theorem pay1_apply (x0 x1 x2 : Vec Ideal S512x768 .f32) (x3 x4 x5 x6 : Vec Ideal S1x512x768 .bf16) (a : Fin 512) (b : Fin 768) :
    k0_pay1 x0 (k0_pay5 x3 x4 x5 x6 x1) (k0_pay6 x3 x4 x5 x6 x2) (Scalar.ofBits .f32 0x322BCC77#32) (ix2 a b)
      = stepE (x0 (ix2 a b)) (gradE (x3 (ix3 0 a b)) (x4 (ix3 0 a b)) (x5 (ix3 0 a b)) (x6 (ix3 0 a b))) (x1 (ix2 a b)) (x2 (ix2 a b)) :=
  congrArg (stepE (x0 (ix2 a b)) · (x1 (ix2 a b)) (x2 (ix2 a b))) (pay2_apply x3 x4 x5 x6 a b)

/-- The blocks a point takes and gives: rows of the arrays, and of the four parts. -/
theorem idx : ∀ t : Fin grid0.N, (cc0_transform_0 (grid0.coords t) (0 : Fin 2) = t.val ∧ cc0_transform_0 (grid0.coords t) (1 : Fin 2) = 0)
    ∧ (cc0_transform_1 (grid0.coords t) (0 : Fin 2) = t.val ∧ cc0_transform_1 (grid0.coords t) (1 : Fin 2) = 0)
    ∧ (cc0_transform_2 (grid0.coords t) (0 : Fin 2) = t.val ∧ cc0_transform_2 (grid0.coords t) (1 : Fin 2) = 0)
    ∧ (cc0_transform_7 (grid0.coords t) (0 : Fin 2) = t.val ∧ cc0_transform_7 (grid0.coords t) (1 : Fin 2) = 0)
    ∧ (cc0_transform_8 (grid0.coords t) (0 : Fin 2) = t.val ∧ cc0_transform_8 (grid0.coords t) (1 : Fin 2) = 0)
    ∧ (cc0_transform_9 (grid0.coords t) (0 : Fin 2) = t.val ∧ cc0_transform_9 (grid0.coords t) (1 : Fin 2) = 0)
    ∧ (cc0_transform_10 (grid0.coords t) (0 : Fin 2) = t.val ∧ cc0_transform_10 (grid0.coords t) (1 : Fin 2) = 0)
    ∧ (ix 0#32 (grid0.coords t) (0 : Fin 3) = 0 ∧ ix 0#32 (grid0.coords t) (1 : Fin 3) = t.val ∧ ix 0#32 (grid0.coords t) (2 : Fin 3) = 0)
    ∧ (ix 1#32 (grid0.coords t) (0 : Fin 3) = 1 ∧ ix 1#32 (grid0.coords t) (1 : Fin 3) = t.val ∧ ix 1#32 (grid0.coords t) (2 : Fin 3) = 0)
    ∧ (ix 2#32 (grid0.coords t) (0 : Fin 3) = 2 ∧ ix 2#32 (grid0.coords t) (1 : Fin 3) = t.val ∧ ix 2#32 (grid0.coords t) (2 : Fin 3) = 0)
    ∧ (ix 3#32 (grid0.coords t) (0 : Fin 3) = 3 ∧ ix 3#32 (grid0.coords t) (1 : Fin 3) = t.val ∧ ix 3#32 (grid0.coords t) (2 : Fin 3) = 0) :=
  by decide +kernel

/-! The blocks of a point. -/

section Blocks

variable (hO : Ok m) (c : Dev nD) (t : Fin (cfgM m hO).N) (a : Fin 512) (b : Fin 768) (r : Fin 2048) (hr : r.val = 512 * t.val + a.val)

include hr

def blk0 : Vec Ideal S512x768 .f32 := iblk m hO c 0 t

theorem blk0_apply : blk0 m hO c t (ix2 a b) = m ((c : Thread nD τ).loc main_arg0) (ix2 r b) := by
  unfold blk0 iblk
  refine (View.read_apply _ _).trans ((cast_eq _ _).trans ?_)
  show V m c main_arg0 _ = _
  rw [V_main_arg0]
  congr 1; funext d; apply Fin.ext
  obtain ⟨⟨h0, h1⟩, -⟩ := idx t
  match d with
  | ⟨0, _⟩ => show cc0_transform_0 (grid0.coords t) (0 : Fin 2) * 512 + 1 * a.val = r.val; omega
  | ⟨1, _⟩ => show cc0_transform_0 (grid0.coords t) (1 : Fin 2) * 768 + 1 * b.val = b.val; omega

def blk1 : Vec Ideal S512x768 .f32 := iblk m hO c 1 t

theorem blk1_apply : blk1 m hO c t (ix2 a b) = m ((c : Thread nD τ).loc main_arg1) (ix2 r b) := by
  unfold blk1 iblk
  refine (View.read_apply _ _).trans ((cast_eq _ _).trans ?_)
  show V m c main_arg1 _ = _
  rw [V_main_arg1]
  congr 1; funext d; apply Fin.ext
  obtain ⟨-, ⟨h0, h1⟩, -⟩ := idx t
  match d with
  | ⟨0, _⟩ => show cc0_transform_1 (grid0.coords t) (0 : Fin 2) * 512 + 1 * a.val = r.val; omega
  | ⟨1, _⟩ => show cc0_transform_1 (grid0.coords t) (1 : Fin 2) * 768 + 1 * b.val = b.val; omega

def blk2 : Vec Ideal S512x768 .f32 := iblk m hO c 2 t

theorem blk2_apply : blk2 m hO c t (ix2 a b) = m ((c : Thread nD τ).loc main_arg2) (ix2 r b) := by
  unfold blk2 iblk
  refine (View.read_apply _ _).trans ((cast_eq _ _).trans ?_)
  show V m c main_arg2 _ = _
  rw [V_main_arg2]
  congr 1; funext d; apply Fin.ext
  obtain ⟨-, -, ⟨h0, h1⟩, -⟩ := idx t
  match d with
  | ⟨0, _⟩ => show cc0_transform_2 (grid0.coords t) (0 : Fin 2) * 512 + 1 * a.val = r.val; omega
  | ⟨1, _⟩ => show cc0_transform_2 (grid0.coords t) (1 : Fin 2) * 768 + 1 * b.val = b.val; omega

def blk3 : Vec Ideal S1x512x768 .bf16 := iblk m hO c 3 t

theorem blk3_apply : blk3 m hO c t (ix3 0 a b) = m ((c : Thread nD τ).loc main_arg3) (ix3 0 r b) := by
  unfold blk3 iblk
  refine (View.read_apply _ _).trans ((cast_eq _ _).trans ?_)
  show V m c main_arg3 _ = _
  rw [V_main_arg3]
  congr 1; funext d; apply Fin.ext
  obtain ⟨-, -, -, -, -, -, -, ⟨h0, h1, h2⟩, -⟩ := idx t
  have e := ix_eq0 m (grid0.coords t)
  match d with
  | ⟨0, _⟩ => show cc0_transform_3 inb_S1_S1_0 numel1_S1 (tbl m) (grid0.coords t) (0 : Fin 3) * 1 + 1 * 0 = 0; rw [e]; omega
  | ⟨1, _⟩ => show cc0_transform_3 inb_S1_S1_0 numel1_S1 (tbl m) (grid0.coords t) (1 : Fin 3) * 512 + 1 * a.val = r.val; rw [e]; omega
  | ⟨2, _⟩ => show cc0_transform_3 inb_S1_S1_0 numel1_S1 (tbl m) (grid0.coords t) (2 : Fin 3) * 768 + 1 * b.val = b.val; rw [e]; omega

def blk4 : Vec Ideal S1x512x768 .bf16 := iblk m hO c 4 t

theorem blk4_apply : blk4 m hO c t (ix3 0 a b) = m ((c : Thread nD τ).loc main_arg4) (ix3 1 r b) := by
  unfold blk4 iblk
  refine (View.read_apply _ _).trans ((cast_eq _ _).trans ?_)
  show V m c main_arg4 _ = _
  rw [V_main_arg4]
  congr 1; funext d; apply Fin.ext
  obtain ⟨-, -, -, -, -, -, -, -, ⟨h0, h1, h2⟩, -⟩ := idx t
  have e := ix_eq1 m (grid0.coords t)
  match d with
  | ⟨0, _⟩ => show cc0_transform_4 inb_S1_S1_0 numel1_S1 (tbl m) (grid0.coords t) (0 : Fin 3) * 1 + 1 * 0 = 1; rw [e]; omega
  | ⟨1, _⟩ => show cc0_transform_4 inb_S1_S1_0 numel1_S1 (tbl m) (grid0.coords t) (1 : Fin 3) * 512 + 1 * a.val = r.val; rw [e]; omega
  | ⟨2, _⟩ => show cc0_transform_4 inb_S1_S1_0 numel1_S1 (tbl m) (grid0.coords t) (2 : Fin 3) * 768 + 1 * b.val = b.val; rw [e]; omega

def blk5 : Vec Ideal S1x512x768 .bf16 := iblk m hO c 5 t

theorem blk5_apply : blk5 m hO c t (ix3 0 a b) = m ((c : Thread nD τ).loc main_arg4) (ix3 2 r b) := by
  unfold blk5 iblk
  refine (View.read_apply _ _).trans ((cast_eq _ _).trans ?_)
  show V m c main_arg4 _ = _
  rw [V_main_arg4]
  congr 1; funext d; apply Fin.ext
  obtain ⟨-, -, -, -, -, -, -, -, -, ⟨h0, h1, h2⟩, -⟩ := idx t
  have e := ix_eq2 m (grid0.coords t)
  match d with
  | ⟨0, _⟩ => show cc0_transform_5 inb_S1_S1_0 numel1_S1 (tbl m) (grid0.coords t) (0 : Fin 3) * 1 + 1 * 0 = 2; rw [e]; omega
  | ⟨1, _⟩ => show cc0_transform_5 inb_S1_S1_0 numel1_S1 (tbl m) (grid0.coords t) (1 : Fin 3) * 512 + 1 * a.val = r.val; rw [e]; omega
  | ⟨2, _⟩ => show cc0_transform_5 inb_S1_S1_0 numel1_S1 (tbl m) (grid0.coords t) (2 : Fin 3) * 768 + 1 * b.val = b.val; rw [e]; omega

def blk6 : Vec Ideal S1x512x768 .bf16 := iblk m hO c 6 t

theorem blk6_apply : blk6 m hO c t (ix3 0 a b) = m ((c : Thread nD τ).loc main_arg4) (ix3 3 r b) := by
  unfold blk6 iblk
  refine (View.read_apply _ _).trans ((cast_eq _ _).trans ?_)
  show V m c main_arg4 _ = _
  rw [V_main_arg4]
  congr 1; funext d; apply Fin.ext
  obtain ⟨-, -, -, -, -, -, -, -, -, -, ⟨h0, h1, h2⟩⟩ := idx t
  have e := ix_eq3 m (grid0.coords t)
  match d with
  | ⟨0, _⟩ => show cc0_transform_6 inb_S1_S1_0 numel1_S1 (tbl m) (grid0.coords t) (0 : Fin 3) * 1 + 1 * 0 = 3; rw [e]; omega
  | ⟨1, _⟩ => show cc0_transform_6 inb_S1_S1_0 numel1_S1 (tbl m) (grid0.coords t) (1 : Fin 3) * 512 + 1 * a.val = r.val; rw [e]; omega
  | ⟨2, _⟩ => show cc0_transform_6 inb_S1_S1_0 numel1_S1 (tbl m) (grid0.coords t) (2 : Fin 3) * 768 + 1 * b.val = b.val; rw [e]; omega

end Blocks

/-! The results, of the arguments the run starts with. -/

def grad (c : Dev nD) : S2048x768.Idx → EReal := fun i => gradE (m ((c : Thread nD τ).loc main_arg3) (ix3 (n0 := 4) (n1 := 2048) (n2 := 768) 0 (i 0) (i 1))) (m ((c : Thread nD τ).loc main_arg4) (ix3 (n0 := 4) (n1 := 2048) (n2 := 768) 1 (i 0) (i 1))) (m ((c : Thread nD τ).loc main_arg4) (ix3 (n0 := 4) (n1 := 2048) (n2 := 768) 2 (i 0) (i 1))) (m ((c : Thread nD τ).loc main_arg4) (ix3 (n0 := 4) (n1 := 2048) (n2 := 768) 3 (i 0) (i 1)))
def step (c : Dev nD) : S2048x768.Idx → EReal := fun i => stepE (m ((c : Thread nD τ).loc main_arg0) (ix2 (n0 := 2048) (n1 := 768) (i 0) (i 1))) (grad m c i) (m ((c : Thread nD τ).loc main_arg1) (ix2 (n0 := 2048) (n1 := 768) (i 0) (i 1))) (m ((c : Thread nD τ).loc main_arg2) (ix2 (n0 := 2048) (n1 := 768) (i 0) (i 1)))
def first (c : Dev nD) : S2048x768.Idx → EReal := fun i => firstE (grad m c i) (m ((c : Thread nD τ).loc main_arg1) (ix2 (n0 := 2048) (n1 := 768) (i 0) (i 1)))
def second (c : Dev nD) : S2048x768.Idx → EReal := fun i => secondE (grad m c i) (m ((c : Thread nD τ).loc main_arg2) (ix2 (n0 := 2048) (n1 := 768) (i 0) (i 1)))

theorem point7 (hO : Ok m) (c : Dev nD) (t : Fin (cfgM m hO).N) (y : S512x768.Idx) :
    (outsAt0 m hO c t).1 y = grad m c ((((cfgM m hO).win 7).blk t).view.emb y) := by
  obtain ⟨-, -, -, ⟨h0, h1⟩, -⟩ := idx t
  obtain ⟨a, b, rfl⟩ : ∃ a b, y = ix2 (n0 := 512) (n1 := 768) a b := ⟨_, _, eq_ix2 y⟩
  have e := rows_col (R := 2048) (cc0_transform_7 (grid0.coords t)) ((((cfgM m hO).win 7).blk t).view.emb (ix2 a b)) b rfl h1
  have hr : ((((cfgM m hO).win 7).blk t).view.emb (ix2 a b) (0 : Fin 2)).val = 512 * t.val + a.val := by
    show cc0_transform_7 (grid0.coords t) (0 : Fin 2) * 512 + 1 * a.val = _; omega
  unfold outsAt0
  dsimp only
  refine (congrFun (out7_eq c (grid0.coords t) _ _ _ _ _ _ _ _ _ _ _ _ _ _ _ _ _ _ _ _ _ _ (blk0 m hO c t) (blk1 m hO c t) (blk2 m hO c t) (blk3 m hO c t) (blk4 m hO c t) (blk5 m hO c t) (blk6 m hO c t) (tbl m 0)) (ix2 a b)).trans ?_
  refine (pay2_apply (blk3 m hO c t) (blk4 m hO c t) (blk5 m hO c t) (blk6 m hO c t) a b).trans (Eq.trans ?_ (congrArg (grad m c) e))
  rw [blk3_apply m hO c t a b _ hr, blk4_apply m hO c t a b _ hr, blk5_apply m hO c t a b _ hr, blk6_apply m hO c t a b _ hr]
  rfl

theorem final7 (hO : Ok m) (c : Dev nD) : (dats m hO 0 c).arrAt 7 (cfgM m hO).N = grad m c := by
  refine (dats m hO 0 c).arrAt_eq_of_cover 7 _ (fun t hf => ?_) (fun (i : S2048x768.Idx) => ?_)
  · show ((cfgM m hO).win 7).cut (grid0.coords t) ((dats m hO 0 c).after 7 t) = _
    rw [after0_7]
    funext y
    exact ((View.read_apply _ _).trans ((cast_eq _ _).trans (point7 m hO c t y).symm)).symm
  · have i0 : (i 0).val < 2048 := (i 0).isLt
    have hN : (cfgM m hO).N = 4 := N_0
    obtain ⟨-, -, -, ⟨h0, h1⟩, -⟩ := idx ⟨(i 0).val / 512, by rw [N_0]; omega⟩
    have hm := rows_mem (r := 512) (cc0_transform_7 (grid0.coords ⟨(i 0).val / 512, by rw [N_0]; omega⟩)) i (by decide) h0 h1
    exact ⟨⟨(i 0).val / 512, by omega⟩, flush0_7 _ _, ((iff_of_eq (congrArg (i ∈ ·) (View.set_slice_whole main_v1_0 (((cfgM m hO).win 7).rect _)))).trans Rect.mem_set_unit).mpr hm⟩

theorem point8 (hO : Ok m) (c : Dev nD) (t : Fin (cfgM m hO).N) (y : S512x768.Idx) :
    (outsAt0 m hO c t).2.1 y = step m c ((((cfgM m hO).win 8).blk t).view.emb y) := by
  obtain ⟨-, -, -, -, ⟨h0, h1⟩, -⟩ := idx t
  obtain ⟨a, b, rfl⟩ : ∃ a b, y = ix2 (n0 := 512) (n1 := 768) a b := ⟨_, _, eq_ix2 y⟩
  have e := rows_col (R := 2048) (cc0_transform_8 (grid0.coords t)) ((((cfgM m hO).win 8).blk t).view.emb (ix2 a b)) b rfl h1
  have hr : ((((cfgM m hO).win 8).blk t).view.emb (ix2 a b) (0 : Fin 2)).val = 512 * t.val + a.val := by
    show cc0_transform_8 (grid0.coords t) (0 : Fin 2) * 512 + 1 * a.val = _; omega
  unfold outsAt0
  dsimp only
  refine (congrFun (out8_eq c (grid0.coords t) _ _ _ _ _ _ _ _ _ _ _ _ _ _ _ _ _ _ _ _ _ _ (blk0 m hO c t) (blk1 m hO c t) (blk2 m hO c t) (blk3 m hO c t) (blk4 m hO c t) (blk5 m hO c t) (blk6 m hO c t) (tbl m 0)) (ix2 a b)).trans ?_
  refine (pay1_apply (blk0 m hO c t) (blk1 m hO c t) (blk2 m hO c t) (blk3 m hO c t) (blk4 m hO c t) (blk5 m hO c t) (blk6 m hO c t) a b).trans (Eq.trans ?_ (congrArg (step m c) e))
  rw [blk3_apply m hO c t a b _ hr, blk4_apply m hO c t a b _ hr, blk5_apply m hO c t a b _ hr, blk6_apply m hO c t a b _ hr, blk0_apply m hO c t a b _ hr, blk1_apply m hO c t a b _ hr, blk2_apply m hO c t a b _ hr]
  rfl

theorem final8 (hO : Ok m) (c : Dev nD) : (dats m hO 0 c).arrAt 8 (cfgM m hO).N = step m c := by
  refine (dats m hO 0 c).arrAt_eq_of_cover 8 _ (fun t hf => ?_) (fun (i : S2048x768.Idx) => ?_)
  · show ((cfgM m hO).win 8).cut (grid0.coords t) ((dats m hO 0 c).after 8 t) = _
    rw [after0_8]
    funext y
    exact ((View.read_apply _ _).trans ((cast_eq _ _).trans (point8 m hO c t y).symm)).symm
  · have i0 : (i 0).val < 2048 := (i 0).isLt
    have hN : (cfgM m hO).N = 4 := N_0
    obtain ⟨-, -, -, -, ⟨h0, h1⟩, -⟩ := idx ⟨(i 0).val / 512, by rw [N_0]; omega⟩
    have hm := rows_mem (r := 512) (cc0_transform_8 (grid0.coords ⟨(i 0).val / 512, by rw [N_0]; omega⟩)) i (by decide) h0 h1
    exact ⟨⟨(i 0).val / 512, by omega⟩, flush0_8 _ _, ((iff_of_eq (congrArg (i ∈ ·) (View.set_slice_whole main_v1_1 (((cfgM m hO).win 8).rect _)))).trans Rect.mem_set_unit).mpr hm⟩

theorem point9 (hO : Ok m) (c : Dev nD) (t : Fin (cfgM m hO).N) (y : S512x768.Idx) :
    (outsAt0 m hO c t).2.2.1 y = first m c ((((cfgM m hO).win 9).blk t).view.emb y) := by
  obtain ⟨-, -, -, -, -, ⟨h0, h1⟩, -⟩ := idx t
  obtain ⟨a, b, rfl⟩ : ∃ a b, y = ix2 (n0 := 512) (n1 := 768) a b := ⟨_, _, eq_ix2 y⟩
  have e := rows_col (R := 2048) (cc0_transform_9 (grid0.coords t)) ((((cfgM m hO).win 9).blk t).view.emb (ix2 a b)) b rfl h1
  have hr : ((((cfgM m hO).win 9).blk t).view.emb (ix2 a b) (0 : Fin 2)).val = 512 * t.val + a.val := by
    show cc0_transform_9 (grid0.coords t) (0 : Fin 2) * 512 + 1 * a.val = _; omega
  unfold outsAt0
  dsimp only
  refine (congrFun (out9_eq c (grid0.coords t) _ _ _ _ _ _ _ _ _ _ _ _ _ _ _ _ _ _ _ _ _ _ (blk0 m hO c t) (blk1 m hO c t) (blk2 m hO c t) (blk3 m hO c t) (blk4 m hO c t) (blk5 m hO c t) (blk6 m hO c t) (tbl m 0)) (ix2 a b)).trans ?_
  refine (pay3_apply (blk1 m hO c t) (blk3 m hO c t) (blk4 m hO c t) (blk5 m hO c t) (blk6 m hO c t) a b).trans (Eq.trans ?_ (congrArg (first m c) e))
  rw [blk3_apply m hO c t a b _ hr, blk4_apply m hO c t a b _ hr, blk5_apply m hO c t a b _ hr, blk6_apply m hO c t a b _ hr, blk1_apply m hO c t a b _ hr]
  rfl

theorem final9 (hO : Ok m) (c : Dev nD) : (dats m hO 0 c).arrAt 9 (cfgM m hO).N = first m c := by
  refine (dats m hO 0 c).arrAt_eq_of_cover 9 _ (fun t hf => ?_) (fun (i : S2048x768.Idx) => ?_)
  · show ((cfgM m hO).win 9).cut (grid0.coords t) ((dats m hO 0 c).after 9 t) = _
    rw [after0_9]
    funext y
    exact ((View.read_apply _ _).trans ((cast_eq _ _).trans (point9 m hO c t y).symm)).symm
  · have i0 : (i 0).val < 2048 := (i 0).isLt
    have hN : (cfgM m hO).N = 4 := N_0
    obtain ⟨-, -, -, -, -, ⟨h0, h1⟩, -⟩ := idx ⟨(i 0).val / 512, by rw [N_0]; omega⟩
    have hm := rows_mem (r := 512) (cc0_transform_9 (grid0.coords ⟨(i 0).val / 512, by rw [N_0]; omega⟩)) i (by decide) h0 h1
    exact ⟨⟨(i 0).val / 512, by omega⟩, flush0_9 _ _, ((iff_of_eq (congrArg (i ∈ ·) (View.set_slice_whole main_v1_2 (((cfgM m hO).win 9).rect _)))).trans Rect.mem_set_unit).mpr hm⟩

theorem point10 (hO : Ok m) (c : Dev nD) (t : Fin (cfgM m hO).N) (y : S512x768.Idx) :
    (outsAt0 m hO c t).2.2.2 y = second m c ((((cfgM m hO).win 10).blk t).view.emb y) := by
  obtain ⟨-, -, -, -, -, -, ⟨h0, h1⟩, -⟩ := idx t
  obtain ⟨a, b, rfl⟩ : ∃ a b, y = ix2 (n0 := 512) (n1 := 768) a b := ⟨_, _, eq_ix2 y⟩
  have e := rows_col (R := 2048) (cc0_transform_10 (grid0.coords t)) ((((cfgM m hO).win 10).blk t).view.emb (ix2 a b)) b rfl h1
  have hr : ((((cfgM m hO).win 10).blk t).view.emb (ix2 a b) (0 : Fin 2)).val = 512 * t.val + a.val := by
    show cc0_transform_10 (grid0.coords t) (0 : Fin 2) * 512 + 1 * a.val = _; omega
  unfold outsAt0
  dsimp only
  refine (congrFun (out10_eq c (grid0.coords t) _ _ _ _ _ _ _ _ _ _ _ _ _ _ _ _ _ _ _ _ _ _ (blk0 m hO c t) (blk1 m hO c t) (blk2 m hO c t) (blk3 m hO c t) (blk4 m hO c t) (blk5 m hO c t) (blk6 m hO c t) (tbl m 0)) (ix2 a b)).trans ?_
  refine (pay4_apply (blk2 m hO c t) (blk3 m hO c t) (blk4 m hO c t) (blk5 m hO c t) (blk6 m hO c t) a b).trans (Eq.trans ?_ (congrArg (second m c) e))
  rw [blk3_apply m hO c t a b _ hr, blk4_apply m hO c t a b _ hr, blk5_apply m hO c t a b _ hr, blk6_apply m hO c t a b _ hr, blk2_apply m hO c t a b _ hr]
  rfl

theorem final10 (hO : Ok m) (c : Dev nD) : (dats m hO 0 c).arrAt 10 (cfgM m hO).N = second m c := by
  refine (dats m hO 0 c).arrAt_eq_of_cover 10 _ (fun t hf => ?_) (fun (i : S2048x768.Idx) => ?_)
  · show ((cfgM m hO).win 10).cut (grid0.coords t) ((dats m hO 0 c).after 10 t) = _
    rw [after0_10]
    funext y
    exact ((View.read_apply _ _).trans ((cast_eq _ _).trans (point10 m hO c t y).symm)).symm
  · have i0 : (i 0).val < 2048 := (i 0).isLt
    have hN : (cfgM m hO).N = 4 := N_0
    obtain ⟨-, -, -, -, -, -, ⟨h0, h1⟩, -⟩ := idx ⟨(i 0).val / 512, by rw [N_0]; omega⟩
    have hm := rows_mem (r := 512) (cc0_transform_10 (grid0.coords ⟨(i 0).val / 512, by rw [N_0]; omega⟩)) i (by decide) h0 h1
    exact ⟨⟨(i 0).val / 512, by omega⟩, flush0_10 _ _, ((iff_of_eq (congrArg (i ∈ ·) (View.set_slice_whole main_v1_3 (((cfgM m hO).win 10).rect _)))).trans Rect.mem_set_unit).mpr hm⟩

/-- The run, its results named. -/
theorem run (hO : Ok m) : θ_run defs (onTc (τ := τ) (main (F := Ideal))) ⟨m, fun _ => 0, ρ⟩ fun r => ∀ c : Dev nD,
      r.2.mem ((c : Thread nD τ).loc main_v1_0) = grad m c
      ∧ r.2.mem ((c : Thread nD τ).loc main_v1_1) = step m c
      ∧ r.2.mem ((c : Thread nD τ).loc main_v1_2) = first m c
      ∧ r.2.mem ((c : Thread nD τ).loc main_v1_3) = second m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 7).trans (final7 m hO c), ((h c).1 8).trans (final8 m hO c),
      ((h c).1 9).trans (final9 m hO c), ((h c).1 10).trans (final10 m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).1 3).trans (((dats m hO 0 c).arrAt_in 3 rfl _).trans ((A_eq m hO c 3).trans (V_main_arg3 m c))),
      ((h c).1 4).trans (((dats m hO 0 c).arrAt_in 4 rfl _).trans ((A_eq m hO c 4).trans (V_main_arg4 m c)))⟩)
    (run_main m ρ hO)

/-- The kernel and the reference end with one gradient and one step. -/
theorem algebraic : Cert.algebraic_AdamInEvenIdeal_AdamInEvenRefIdeal := by
  intro m ρ m' ρ' _ hagree
  refine ⟨_, _, _, _, run m ρ (ok m), ?_⟩
  refine (θ_run Cert.AdamInEvenRefIdeal.defs _ _).mono (fun _ h c => ⟨?_, ?_, ?_, ?_, (h c).2.2.2.2⟩) (Cert.AdamInEvenRefIdeal.Value.run (F := Ideal) m' ρ')
  · rw [(h c).1, (hagree c).2.2.2.1, (hagree c).2.2.2.2]
    funext i
    obtain ⟨a, b, rfl⟩ : ∃ a b, i = ix2 (n0 := 2048) (n1 := 768) a b := ⟨_, _, eq_ix2 i⟩
    exact parts4 (M := 2048) (N := 768) (m ((c : Thread nD τ).loc main_arg3)) (m ((c : Thread nD τ).loc main_arg4)) _ _ _ _ _ _ a b
  · rw [(h c).2.1, (hagree c).1, (hagree c).2.1, (hagree c).2.2.1, (hagree c).2.2.2.1, (hagree c).2.2.2.2]
    funext i
    obtain ⟨a, b, rfl⟩ : ∃ a b, i = ix2 (n0 := 2048) (n1 := 768) a b := ⟨_, _, eq_ix2 i⟩
    exact congrArg (stepE (m ((c : Thread nD τ).loc main_arg0) (ix2 a b)) · (m ((c : Thread nD τ).loc main_arg1) (ix2 a b)) (m ((c : Thread nD τ).loc main_arg2) (ix2 a b))) (parts4 (M := 2048) (N := 768) (m ((c : Thread nD τ).loc main_arg3)) (m ((c : Thread nD τ).loc main_arg4)) _ _ _ _ _ _ a b)
  · rw [(h c).2.2.1, (hagree c).2.1, (hagree c).2.2.2.1, (hagree c).2.2.2.2]
    funext i
    obtain ⟨a, b, rfl⟩ : ∃ a b, i = ix2 (n0 := 2048) (n1 := 768) a b := ⟨_, _, eq_ix2 i⟩
    exact congrArg (firstE · (m ((c : Thread nD τ).loc main_arg1) (ix2 a b))) (parts4 (M := 2048) (N := 768) (m ((c : Thread nD τ).loc main_arg3)) (m ((c : Thread nD τ).loc main_arg4)) _ _ _ _ _ _ a b)
  · rw [(h c).2.2.2.1, (hagree c).2.2.1, (hagree c).2.2.2.1, (hagree c).2.2.2.2]
    funext i
    obtain ⟨a, b, rfl⟩ : ∃ a b, i = ix2 (n0 := 2048) (n1 := 768) a b := ⟨_, _, eq_ix2 i⟩
    exact congrArg (secondE · (m ((c : Thread nD τ).loc main_arg2) (ix2 a b))) (parts4 (M := 2048) (N := 768) (m ((c : Thread nD τ).loc main_arg3)) (m ((c : Thread nD τ).loc main_arg4)) _ _ _ _ _ _ a b)

end Cert.AdamInEvenIdeal.Step

end
-- ==== Proof.Products.AdamInOddIdealTable.lean ====
/- The table the call reads (one word, which chip the device is on) as its run finds it, and the blocks it then asks for. -/
module

public import proofs.«01_k».proof.Proof.Gen.AdamInOddIdeal.Frame
public import Idealize.ShloMosaic.Lib.Tactic

@[expose] public section

noncomputable section

namespace Cert.AdamInOddIdeal.Step

open Cert.AdamInOddIdeal Cert.AdamInOddIdeal.Gen Idealize.ShloMosaic Idealize.ShloMosaic.TcCoe Idealize.SL.Sem

variable {F : FTy → Type} [FloatOps F]
variable (m : (ℓ : Loc nD τ sig) → Buf (Elt F) ℓ)

/-- The table holds the one word the program writes. -/
theorem table (c : Dev nD) : V m c main_v0 = broadcastInDim S1 ![] bcast_S_S1 (constantI S_ 32 0#32) := by
  show StableHlo.after hostOps0 _ _ = _
  after_results <;> rfl

theorem word : (tbl m).at 0 (Rect.unit (s := S1) ![0] S1.size inb_S1_S1_0) numel1_S1 = 0#32 := by
  have h : tbl m 0 = broadcastInDim S1 ![] bcast_S_S1 (constantI S_ 32 0#32) := table m 0
  unfold Pipeline.Prefetch.Contents.at
  rw [h]
  rfl

/-- The block of part `k` at a point, that word read. -/
def ix (k : BitVec 32) (i : grid0.Coords) : Fin 3 → Nat := ![(Scalar.xori 0#32 k).toNat, (BitVec.ofNat 32 (i 0).val).toNat, 0]

theorem ix_eq0 (i : grid0.Coords) : cc0_transform_3 inb_S1_S1_0 numel1_S1 (tbl m) i = ix 0#32 i := by
  unfold cc0_transform_3
  rw [word]
  rfl

theorem ix_eq1 (i : grid0.Coords) : cc0_transform_4 inb_S1_S1_0 numel1_S1 (tbl m) i = ix 1#32 i := by
  unfold cc0_transform_4
  rw [word]
  rfl

theorem ix_eq2 (i : grid0.Coords) : cc0_transform_5 inb_S1_S1_0 numel1_S1 (tbl m) i = ix 2#32 i := by
  unfold cc0_transform_5
  rw [word]
  rfl

theorem ix_eq3 (i : grid0.Coords) : cc0_transform_6 inb_S1_S1_0 numel1_S1 (tbl m) i = ix 3#32 i := by
  unfold cc0_transform_6
  rw [word]
  rfl

/-- Every block lies inside the array. -/
theorem ok : Ok m := by
  refine ⟨?_, ?_, ?_, ?_⟩ <;> intro i <;> first | rw [ix_eq0] | rw [ix_eq1] | rw [ix_eq2] | rw [ix_eq3]
  all_goals revert i; decide +kernel

end Cert.AdamInOddIdeal.Step

end
-- ==== Proof.Products.AdamInOdd.lean ====
/- The AdamW step of the odd layer's input weight: the parts of its gradient summed, and the step, 512 rows at a time. -/
module

public import proofs.«01_k».proof.Defs
public import proofs.«01_k».proof.Proof.Products.Adam
public import proofs.«01_k».proof.Proof.Products.AdamInOddIdealTable
public import proofs.«01_k».proof.Proof.Gen.AdamInOddIdeal.Frame
public import Idealize.ShloMosaic.Lib.Pipeline.Value
public import proofs.«01_k».proof.Proof.Gen.AdamInOddRefIdeal.Run
public import Idealize.ShloMosaic.Lib.Tactic

@[expose] public section

noncomputable section

namespace Cert.AdamInOddIdeal.Step

open Cert.AdamInOddIdeal Cert.AdamInOddIdeal.Gen Cert.Products Idealize.ShloMosaic Idealize.ShloMosaic.TcCoe Idealize.SL.Sem
open Idealize.ShloMosaic.ValueIdx

variable (m : (ℓ : Loc nD τ sig) → Buf (Elt Ideal) ℓ) (ρ : Dev nD → PrngReg)

/-! What a point stores in its four blocks. -/

section Stores

variable (c : Dev nD) (i : grid0.Coords) (arg2 : Memref sig .tc .vmem S512x896 .f32) (harg2 : arg2.IsWhole) (arg3 : Memref sig .tc .vmem S512x896 .f32) (harg3 : arg3.IsWhole) (arg4 : Memref sig .tc .vmem S512x896 .f32) (harg4 : arg4.IsWhole) (arg5 : Memref sig .tc .vmem S1x512x896 .bf16) (harg5 : arg5.IsWhole) (arg6 : Memref sig .tc .vmem S1x512x896 .bf16) (harg6 : arg6.IsWhole) (arg7 : Memref sig .tc .vmem S1x512x896 .bf16) (harg7 : arg7.IsWhole) (arg8 : Memref sig .tc .vmem S1x512x896 .bf16) (harg8 : arg8.IsWhole) (arg9 : Memref sig .tc .vmem S512x896 .f32) (harg9 : arg9.IsWhole) (arg10 : Memref sig .tc .vmem S512x896 .f32) (harg10 : arg10.IsWhole) (arg11 : Memref sig .tc .vmem S512x896 .f32) (harg11 : arg11.IsWhole) (arg12 : Memref sig .tc .vmem S512x896 .f32) (harg12 : arg12.IsWhole)
  (x0 x1 x2 : Vec Ideal S512x896 .f32) (x3 x4 x5 x6 : Vec Ideal S1x512x896 .bf16) (xt0 : TbBuf0 (F := Ideal) c tbM0_0)

theorem out7_eq : out0_A_7 c i arg2 harg2 arg3 harg3 arg4 harg4 arg5 harg5 arg6 harg6 arg7 harg7 arg8 harg8 arg9 harg9 arg10 harg10 arg11 harg11 arg12 harg12 x0 x1 x2 x3 x4 x5 x6 xt0 = k0_pay2 x3 x4 x5 x6 := by
  unfold out0_A_7
  rw [View.read_writes_eq_canon _ _ _ (cover0_A_7 c i _ _ _ _ _ _ _ _ _ _ _ _ _ _ _ _ _ _ _ _ _ _ _ _ _ _ _ _ _ _)]
  unfold kernelRun0_A
  sl_unfold_words
  rw [View.canon_unit_zero hz2]
  simp only [View.readAt_eq_ld, harg2.read_unread, harg3.read_unread, harg4.read_unread, harg5.read_unread, harg6.read_unread, harg7.read_unread, harg8.read_unread]
  repeat first | rw [View.ld_unit_zero hz2] | rw [View.ld_unit_zero hz3]

theorem out8_eq : out0_A_8 c i arg2 harg2 arg3 harg3 arg4 harg4 arg5 harg5 arg6 harg6 arg7 harg7 arg8 harg8 arg9 harg9 arg10 harg10 arg11 harg11 arg12 harg12 x0 x1 x2 x3 x4 x5 x6 xt0 = k0_pay1 x0 (k0_pay5 x3 x4 x5 x6 x1) (k0_pay6 x3 x4 x5 x6 x2) (Scalar.ofBits .f32 0x322BCC77#32) := by
  unfold out0_A_8
  rw [View.read_writes_eq_canon _ _ _ (cover0_A_8 c i _ _ _ _ _ _ _ _ _ _ _ _ _ _ _ _ _ _ _ _ _ _ _ _ _ _ _ _ _ _)]
  unfold kernelRun0_A
  sl_unfold_words
  rw [View.canon_unit_zero hz2]
  simp only [View.readAt_eq_ld, harg2.read_unread, harg3.read_unread, harg4.read_unread, harg5.read_unread, harg6.read_unread, harg7.read_unread, harg8.read_unread]
  repeat first | rw [View.ld_unit_zero hz2] | rw [View.ld_unit_zero hz3]

theorem out9_eq : out0_A_9 c i arg2 harg2 arg3 harg3 arg4 harg4 arg5 harg5 arg6 harg6 arg7 harg7 arg8 harg8 arg9 harg9 arg10 harg10 arg11 harg11 arg12 harg12 x0 x1 x2 x3 x4 x5 x6 xt0 = k0_pay3 x3 x4 x5 x6 x1 := by
  unfold out0_A_9
  rw [View.read_writes_eq_canon _ _ _ (cover0_A_9 c i _ _ _ _ _ _ _ _ _ _ _ _ _ _ _ _ _ _ _ _ _ _ _ _ _ _ _ _ _ _)]
  unfold kernelRun0_A
  sl_unfold_words
  rw [View.canon_unit_zero hz2]
  simp only [View.readAt_eq_ld, harg2.read_unread, harg3.read_unread, harg4.read_unread, harg5.read_unread, harg6.read_unread, harg7.read_unread, harg8.read_unread]
  repeat first | rw [View.ld_unit_zero hz2] | rw [View.ld_unit_zero hz3]

theorem out10_eq : out0_A_10 c i arg2 harg2 arg3 harg3 arg4 harg4 arg5 harg5 arg6 harg6 arg7 harg7 arg8 harg8 arg9 harg9 arg10 harg10 arg11 harg11 arg12 harg12 x0 x1 x2 x3 x4 x5 x6 xt0 = k0_pay4 x3 x4 x5 x6 x2 := by
  unfold out0_A_10
  rw [View.read_writes_eq_canon _ _ _ (cover0_A_10 c i _ _ _ _ _ _ _ _ _ _ _ _ _ _ _ _ _ _ _ _ _ _ _ _ _ _ _ _ _ _)]
  unfold kernelRun0_A
  sl_unfold_words
  rw [View.canon_unit_zero hz2]
  simp only [View.readAt_eq_ld, harg2.read_unread, harg3.read_unread, harg4.read_unread, harg5.read_unread, harg6.read_unread, harg7.read_unread, harg8.read_unread]
  repeat first | rw [View.ld_unit_zero hz2] | rw [View.ld_unit_zero hz3]

end Stores

/-! … element by element. -/

theorem pay2_apply (x3 x4 x5 x6 : Vec Ideal S1x512x896 .bf16) (a : Fin 512) (b : Fin 896) :
    k0_pay2 x3 x4 x5 x6 (ix2 a b) = gradE (x3 (ix3 0 a b)) (x4 (ix3 0 a b)) (x5 (ix3 0 a b)) (x6 (ix3 0 a b)) := by
  unfold k0_pay2 gradE
  exact congrArg₂ (· + ·) (congrArg₂ (· + ·) (congrArg₂ (· + ·) (drop1 x3 _ a b) (drop1 x4 _ a b)) (drop1 x5 _ a b)) (drop1 x6 _ a b)

theorem pay3_apply (x1 : Vec Ideal S512x896 .f32) (x3 x4 x5 x6 : Vec Ideal S1x512x896 .bf16) (a : Fin 512) (b : Fin 896) :
    k0_pay3 x3 x4 x5 x6 x1 (ix2 a b) = firstE (gradE (x3 (ix3 0 a b)) (x4 (ix3 0 a b)) (x5 (ix3 0 a b)) (x6 (ix3 0 a b))) (x1 (ix2 a b)) :=
  congrArg (firstE · (x1 (ix2 a b))) (pay2_apply x3 x4 x5 x6 a b)

theorem pay4_apply (x2 : Vec Ideal S512x896 .f32) (x3 x4 x5 x6 : Vec Ideal S1x512x896 .bf16) (a : Fin 512) (b : Fin 896) :
    k0_pay4 x3 x4 x5 x6 x2 (ix2 a b) = secondE (gradE (x3 (ix3 0 a b)) (x4 (ix3 0 a b)) (x5 (ix3 0 a b)) (x6 (ix3 0 a b))) (x2 (ix2 a b)) :=
  congrArg (secondE · (x2 (ix2 a b))) (pay2_apply x3 x4 x5 x6 a b)

theorem pay1_apply (x0 x1 x2 : Vec Ideal S512x896 .f32) (x3 x4 x5 x6 : Vec Ideal S1x512x896 .bf16) (a : Fin 512) (b : Fin 896) :
    k0_pay1 x0 (k0_pay5 x3 x4 x5 x6 x1) (k0_pay6 x3 x4 x5 x6 x2) (Scalar.ofBits .f32 0x322BCC77#32) (ix2 a b)
      = stepE (x0 (ix2 a b)) (gradE (x3 (ix3 0 a b)) (x4 (ix3 0 a b)) (x5 (ix3 0 a b)) (x6 (ix3 0 a b))) (x1 (ix2 a b)) (x2 (ix2 a b)) :=
  congrArg (stepE (x0 (ix2 a b)) · (x1 (ix2 a b)) (x2 (ix2 a b))) (pay2_apply x3 x4 x5 x6 a b)

/-- The blocks a point takes and gives: rows of the arrays, and of the four parts. -/
theorem idx : ∀ t : Fin grid0.N, (cc0_transform_0 (grid0.coords t) (0 : Fin 2) = t.val ∧ cc0_transform_0 (grid0.coords t) (1 : Fin 2) = 0)
    ∧ (cc0_transform_1 (grid0.coords t) (0 : Fin 2) = t.val ∧ cc0_transform_1 (grid0.coords t) (1 : Fin 2) = 0)
    ∧ (cc0_transform_2 (grid0.coords t) (0 : Fin 2) = t.val ∧ cc0_transform_2 (grid0.coords t) (1 : Fin 2) = 0)
    ∧ (cc0_transform_7 (grid0.coords t) (0 : Fin 2) = t.val ∧ cc0_transform_7 (grid0.coords t) (1 : Fin 2) = 0)
    ∧ (cc0_transform_8 (grid0.coords t) (0 : Fin 2) = t.val ∧ cc0_transform_8 (grid0.coords t) (1 : Fin 2) = 0)
    ∧ (cc0_transform_9 (grid0.coords t) (0 : Fin 2) = t.val ∧ cc0_transform_9 (grid0.coords t) (1 : Fin 2) = 0)
    ∧ (cc0_transform_10 (grid0.coords t) (0 : Fin 2) = t.val ∧ cc0_transform_10 (grid0.coords t) (1 : Fin 2) = 0)
    ∧ (ix 0#32 (grid0.coords t) (0 : Fin 3) = 0 ∧ ix 0#32 (grid0.coords t) (1 : Fin 3) = t.val ∧ ix 0#32 (grid0.coords t) (2 : Fin 3) = 0)
    ∧ (ix 1#32 (grid0.coords t) (0 : Fin 3) = 1 ∧ ix 1#32 (grid0.coords t) (1 : Fin 3) = t.val ∧ ix 1#32 (grid0.coords t) (2 : Fin 3) = 0)
    ∧ (ix 2#32 (grid0.coords t) (0 : Fin 3) = 2 ∧ ix 2#32 (grid0.coords t) (1 : Fin 3) = t.val ∧ ix 2#32 (grid0.coords t) (2 : Fin 3) = 0)
    ∧ (ix 3#32 (grid0.coords t) (0 : Fin 3) = 3 ∧ ix 3#32 (grid0.coords t) (1 : Fin 3) = t.val ∧ ix 3#32 (grid0.coords t) (2 : Fin 3) = 0) :=
  by decide +kernel

/-! The blocks of a point. -/

section Blocks

variable (hO : Ok m) (c : Dev nD) (t : Fin (cfgM m hO).N) (a : Fin 512) (b : Fin 896) (r : Fin 2048) (hr : r.val = 512 * t.val + a.val)

include hr

def blk0 : Vec Ideal S512x896 .f32 := iblk m hO c 0 t

theorem blk0_apply : blk0 m hO c t (ix2 a b) = m ((c : Thread nD τ).loc main_arg0) (ix2 r b) := by
  unfold blk0 iblk
  refine (View.read_apply _ _).trans ((cast_eq _ _).trans ?_)
  show V m c main_arg0 _ = _
  rw [V_main_arg0]
  congr 1; funext d; apply Fin.ext
  obtain ⟨⟨h0, h1⟩, -⟩ := idx t
  match d with
  | ⟨0, _⟩ => show cc0_transform_0 (grid0.coords t) (0 : Fin 2) * 512 + 1 * a.val = r.val; omega
  | ⟨1, _⟩ => show cc0_transform_0 (grid0.coords t) (1 : Fin 2) * 896 + 1 * b.val = b.val; omega

def blk1 : Vec Ideal S512x896 .f32 := iblk m hO c 1 t

theorem blk1_apply : blk1 m hO c t (ix2 a b) = m ((c : Thread nD τ).loc main_arg1) (ix2 r b) := by
  unfold blk1 iblk
  refine (View.read_apply _ _).trans ((cast_eq _ _).trans ?_)
  show V m c main_arg1 _ = _
  rw [V_main_arg1]
  congr 1; funext d; apply Fin.ext
  obtain ⟨-, ⟨h0, h1⟩, -⟩ := idx t
  match d with
  | ⟨0, _⟩ => show cc0_transform_1 (grid0.coords t) (0 : Fin 2) * 512 + 1 * a.val = r.val; omega
  | ⟨1, _⟩ => show cc0_transform_1 (grid0.coords t) (1 : Fin 2) * 896 + 1 * b.val = b.val; omega

def blk2 : Vec Ideal S512x896 .f32 := iblk m hO c 2 t

theorem blk2_apply : blk2 m hO c t (ix2 a b) = m ((c : Thread nD τ).loc main_arg2) (ix2 r b) := by
  unfold blk2 iblk
  refine (View.read_apply _ _).trans ((cast_eq _ _).trans ?_)
  show V m c main_arg2 _ = _
  rw [V_main_arg2]
  congr 1; funext d; apply Fin.ext
  obtain ⟨-, -, ⟨h0, h1⟩, -⟩ := idx t
  match d with
  | ⟨0, _⟩ => show cc0_transform_2 (grid0.coords t) (0 : Fin 2) * 512 + 1 * a.val = r.val; omega
  | ⟨1, _⟩ => show cc0_transform_2 (grid0.coords t) (1 : Fin 2) * 896 + 1 * b.val = b.val; omega

def blk3 : Vec Ideal S1x512x896 .bf16 := iblk m hO c 3 t

theorem blk3_apply : blk3 m hO c t (ix3 0 a b) = m ((c : Thread nD τ).loc main_arg3) (ix3 0 r b) := by
  unfold blk3 iblk
  refine (View.read_apply _ _).trans ((cast_eq _ _).trans ?_)
  show V m c main_arg3 _ = _
  rw [V_main_arg3]
  congr 1; funext d; apply Fin.ext
  obtain ⟨-, -, -, -, -, -, -, ⟨h0, h1, h2⟩, -⟩ := idx t
  have e := ix_eq0 m (grid0.coords t)
  match d with
  | ⟨0, _⟩ => show cc0_transform_3 inb_S1_S1_0 numel1_S1 (tbl m) (grid0.coords t) (0 : Fin 3) * 1 + 1 * 0 = 0; rw [e]; omega
  | ⟨1, _⟩ => show cc0_transform_3 inb_S1_S1_0 numel1_S1 (tbl m) (grid0.coords t) (1 : Fin 3) * 512 + 1 * a.val = r.val; rw [e]; omega
  | ⟨2, _⟩ => show cc0_transform_3 inb_S1_S1_0 numel1_S1 (tbl m) (grid0.coords t) (2 : Fin 3) * 896 + 1 * b.val = b.val; rw [e]; omega

def blk4 : Vec Ideal S1x512x896 .bf16 := iblk m hO c 4 t

theorem blk4_apply : blk4 m hO c t (ix3 0 a b) = m ((c : Thread nD τ).loc main_arg4) (ix3 1 r b) := by
  unfold blk4 iblk
  refine (View.read_apply _ _).trans ((cast_eq _ _).trans ?_)
  show V m c main_arg4 _ = _
  rw [V_main_arg4]
  congr 1; funext d; apply Fin.ext
  obtain ⟨-, -, -, -, -, -, -, -, ⟨h0, h1, h2⟩, -⟩ := idx t
  have e := ix_eq1 m (grid0.coords t)
  match d with
  | ⟨0, _⟩ => show cc0_transform_4 inb_S1_S1_0 numel1_S1 (tbl m) (grid0.coords t) (0 : Fin 3) * 1 + 1 * 0 = 1; rw [e]; omega
  | ⟨1, _⟩ => show cc0_transform_4 inb_S1_S1_0 numel1_S1 (tbl m) (grid0.coords t) (1 : Fin 3) * 512 + 1 * a.val = r.val; rw [e]; omega
  | ⟨2, _⟩ => show cc0_transform_4 inb_S1_S1_0 numel1_S1 (tbl m) (grid0.coords t) (2 : Fin 3) * 896 + 1 * b.val = b.val; rw [e]; omega

def blk5 : Vec Ideal S1x512x896 .bf16 := iblk m hO c 5 t

theorem blk5_apply : blk5 m hO c t (ix3 0 a b) = m ((c : Thread nD τ).loc main_arg4) (ix3 2 r b) := by
  unfold blk5 iblk
  refine (View.read_apply _ _).trans ((cast_eq _ _).trans ?_)
  show V m c main_arg4 _ = _
  rw [V_main_arg4]
  congr 1; funext d; apply Fin.ext
  obtain ⟨-, -, -, -, -, -, -, -, -, ⟨h0, h1, h2⟩, -⟩ := idx t
  have e := ix_eq2 m (grid0.coords t)
  match d with
  | ⟨0, _⟩ => show cc0_transform_5 inb_S1_S1_0 numel1_S1 (tbl m) (grid0.coords t) (0 : Fin 3) * 1 + 1 * 0 = 2; rw [e]; omega
  | ⟨1, _⟩ => show cc0_transform_5 inb_S1_S1_0 numel1_S1 (tbl m) (grid0.coords t) (1 : Fin 3) * 512 + 1 * a.val = r.val; rw [e]; omega
  | ⟨2, _⟩ => show cc0_transform_5 inb_S1_S1_0 numel1_S1 (tbl m) (grid0.coords t) (2 : Fin 3) * 896 + 1 * b.val = b.val; rw [e]; omega

def blk6 : Vec Ideal S1x512x896 .bf16 := iblk m hO c 6 t

theorem blk6_apply : blk6 m hO c t (ix3 0 a b) = m ((c : Thread nD τ).loc main_arg4) (ix3 3 r b) := by
  unfold blk6 iblk
  refine (View.read_apply _ _).trans ((cast_eq _ _).trans ?_)
  show V m c main_arg4 _ = _
  rw [V_main_arg4]
  congr 1; funext d; apply Fin.ext
  obtain ⟨-, -, -, -, -, -, -, -, -, -, ⟨h0, h1, h2⟩⟩ := idx t
  have e := ix_eq3 m (grid0.coords t)
  match d with
  | ⟨0, _⟩ => show cc0_transform_6 inb_S1_S1_0 numel1_S1 (tbl m) (grid0.coords t) (0 : Fin 3) * 1 + 1 * 0 = 3; rw [e]; omega
  | ⟨1, _⟩ => show cc0_transform_6 inb_S1_S1_0 numel1_S1 (tbl m) (grid0.coords t) (1 : Fin 3) * 512 + 1 * a.val = r.val; rw [e]; omega
  | ⟨2, _⟩ => show cc0_transform_6 inb_S1_S1_0 numel1_S1 (tbl m) (grid0.coords t) (2 : Fin 3) * 896 + 1 * b.val = b.val; rw [e]; omega

end Blocks

/-! The results, of the arguments the run starts with. -/

def grad (c : Dev nD) : S2048x896.Idx → EReal := fun i => gradE (m ((c : Thread nD τ).loc main_arg3) (ix3 (n0 := 4) (n1 := 2048) (n2 := 896) 0 (i 0) (i 1))) (m ((c : Thread nD τ).loc main_arg4) (ix3 (n0 := 4) (n1 := 2048) (n2 := 896) 1 (i 0) (i 1))) (m ((c : Thread nD τ).loc main_arg4) (ix3 (n0 := 4) (n1 := 2048) (n2 := 896) 2 (i 0) (i 1))) (m ((c : Thread nD τ).loc main_arg4) (ix3 (n0 := 4) (n1 := 2048) (n2 := 896) 3 (i 0) (i 1)))
def step (c : Dev nD) : S2048x896.Idx → EReal := fun i => stepE (m ((c : Thread nD τ).loc main_arg0) (ix2 (n0 := 2048) (n1 := 896) (i 0) (i 1))) (grad m c i) (m ((c : Thread nD τ).loc main_arg1) (ix2 (n0 := 2048) (n1 := 896) (i 0) (i 1))) (m ((c : Thread nD τ).loc main_arg2) (ix2 (n0 := 2048) (n1 := 896) (i 0) (i 1)))
def first (c : Dev nD) : S2048x896.Idx → EReal := fun i => firstE (grad m c i) (m ((c : Thread nD τ).loc main_arg1) (ix2 (n0 := 2048) (n1 := 896) (i 0) (i 1)))
def second (c : Dev nD) : S2048x896.Idx → EReal := fun i => secondE (grad m c i) (m ((c : Thread nD τ).loc main_arg2) (ix2 (n0 := 2048) (n1 := 896) (i 0) (i 1)))

theorem point7 (hO : Ok m) (c : Dev nD) (t : Fin (cfgM m hO).N) (y : S512x896.Idx) :
    (outsAt0 m hO c t).1 y = grad m c ((((cfgM m hO).win 7).blk t).view.emb y) := by
  obtain ⟨-, -, -, ⟨h0, h1⟩, -⟩ := idx t
  obtain ⟨a, b, rfl⟩ : ∃ a b, y = ix2 (n0 := 512) (n1 := 896) a b := ⟨_, _, eq_ix2 y⟩
  have e := rows_col (R := 2048) (cc0_transform_7 (grid0.coords t)) ((((cfgM m hO).win 7).blk t).view.emb (ix2 a b)) b rfl h1
  have hr : ((((cfgM m hO).win 7).blk t).view.emb (ix2 a b) (0 : Fin 2)).val = 512 * t.val + a.val := by
    show cc0_transform_7 (grid0.coords t) (0 : Fin 2) * 512 + 1 * a.val = _; omega
  unfold outsAt0
  dsimp only
  refine (congrFun (out7_eq c (grid0.coords t) _ _ _ _ _ _ _ _ _ _ _ _ _ _ _ _ _ _ _ _ _ _ (blk0 m hO c t) (blk1 m hO c t) (blk2 m hO c t) (blk3 m hO c t) (blk4 m hO c t) (blk5 m hO c t) (blk6 m hO c t) (tbl m 0)) (ix2 a b)).trans ?_
  refine (pay2_apply (blk3 m hO c t) (blk4 m hO c t) (blk5 m hO c t) (blk6 m hO c t) a b).trans (Eq.trans ?_ (congrArg (grad m c) e))
  rw [blk3_apply m hO c t a b _ hr, blk4_apply m hO c t a b _ hr, blk5_apply m hO c t a b _ hr, blk6_apply m hO c t a b _ hr]
  rfl

theorem final7 (hO : Ok m) (c : Dev nD) : (dats m hO 0 c).arrAt 7 (cfgM m hO).N = grad m c := by
  refine (dats m hO 0 c).arrAt_eq_of_cover 7 _ (fun t hf => ?_) (fun (i : S2048x896.Idx) => ?_)
  · show ((cfgM m hO).win 7).cut (grid0.coords t) ((dats m hO 0 c).after 7 t) = _
    rw [after0_7]
    funext y
    exact ((View.read_apply _ _).trans ((cast_eq _ _).trans (point7 m hO c t y).symm)).symm
  · have i0 : (i 0).val < 2048 := (i 0).isLt
    have hN : (cfgM m hO).N = 4 := N_0
    obtain ⟨-, -, -, ⟨h0, h1⟩, -⟩ := idx ⟨(i 0).val / 512, by rw [N_0]; omega⟩
    have hm := rows_mem (r := 512) (cc0_transform_7 (grid0.coords ⟨(i 0).val / 512, by rw [N_0]; omega⟩)) i (by decide) h0 h1
    exact ⟨⟨(i 0).val / 512, by omega⟩, flush0_7 _ _, ((iff_of_eq (congrArg (i ∈ ·) (View.set_slice_whole main_v1_0 (((cfgM m hO).win 7).rect _)))).trans Rect.mem_set_unit).mpr hm⟩

theorem point8 (hO : Ok m) (c : Dev nD) (t : Fin (cfgM m hO).N) (y : S512x896.Idx) :
    (outsAt0 m hO c t).2.1 y = step m c ((((cfgM m hO).win 8).blk t).view.emb y) := by
  obtain ⟨-, -, -, -, ⟨h0, h1⟩, -⟩ := idx t
  obtain ⟨a, b, rfl⟩ : ∃ a b, y = ix2 (n0 := 512) (n1 := 896) a b := ⟨_, _, eq_ix2 y⟩
  have e := rows_col (R := 2048) (cc0_transform_8 (grid0.coords t)) ((((cfgM m hO).win 8).blk t).view.emb (ix2 a b)) b rfl h1
  have hr : ((((cfgM m hO).win 8).blk t).view.emb (ix2 a b) (0 : Fin 2)).val = 512 * t.val + a.val := by
    show cc0_transform_8 (grid0.coords t) (0 : Fin 2) * 512 + 1 * a.val = _; omega
  unfold outsAt0
  dsimp only
  refine (congrFun (out8_eq c (grid0.coords t) _ _ _ _ _ _ _ _ _ _ _ _ _ _ _ _ _ _ _ _ _ _ (blk0 m hO c t) (blk1 m hO c t) (blk2 m hO c t) (blk3 m hO c t) (blk4 m hO c t) (blk5 m hO c t) (blk6 m hO c t) (tbl m 0)) (ix2 a b)).trans ?_
  refine (pay1_apply (blk0 m hO c t) (blk1 m hO c t) (blk2 m hO c t) (blk3 m hO c t) (blk4 m hO c t) (blk5 m hO c t) (blk6 m hO c t) a b).trans (Eq.trans ?_ (congrArg (step m c) e))
  rw [blk3_apply m hO c t a b _ hr, blk4_apply m hO c t a b _ hr, blk5_apply m hO c t a b _ hr, blk6_apply m hO c t a b _ hr, blk0_apply m hO c t a b _ hr, blk1_apply m hO c t a b _ hr, blk2_apply m hO c t a b _ hr]
  rfl

theorem final8 (hO : Ok m) (c : Dev nD) : (dats m hO 0 c).arrAt 8 (cfgM m hO).N = step m c := by
  refine (dats m hO 0 c).arrAt_eq_of_cover 8 _ (fun t hf => ?_) (fun (i : S2048x896.Idx) => ?_)
  · show ((cfgM m hO).win 8).cut (grid0.coords t) ((dats m hO 0 c).after 8 t) = _
    rw [after0_8]
    funext y
    exact ((View.read_apply _ _).trans ((cast_eq _ _).trans (point8 m hO c t y).symm)).symm
  · have i0 : (i 0).val < 2048 := (i 0).isLt
    have hN : (cfgM m hO).N = 4 := N_0
    obtain ⟨-, -, -, -, ⟨h0, h1⟩, -⟩ := idx ⟨(i 0).val / 512, by rw [N_0]; omega⟩
    have hm := rows_mem (r := 512) (cc0_transform_8 (grid0.coords ⟨(i 0).val / 512, by rw [N_0]; omega⟩)) i (by decide) h0 h1
    exact ⟨⟨(i 0).val / 512, by omega⟩, flush0_8 _ _, ((iff_of_eq (congrArg (i ∈ ·) (View.set_slice_whole main_v1_1 (((cfgM m hO).win 8).rect _)))).trans Rect.mem_set_unit).mpr hm⟩

theorem point9 (hO : Ok m) (c : Dev nD) (t : Fin (cfgM m hO).N) (y : S512x896.Idx) :
    (outsAt0 m hO c t).2.2.1 y = first m c ((((cfgM m hO).win 9).blk t).view.emb y) := by
  obtain ⟨-, -, -, -, -, ⟨h0, h1⟩, -⟩ := idx t
  obtain ⟨a, b, rfl⟩ : ∃ a b, y = ix2 (n0 := 512) (n1 := 896) a b := ⟨_, _, eq_ix2 y⟩
  have e := rows_col (R := 2048) (cc0_transform_9 (grid0.coords t)) ((((cfgM m hO).win 9).blk t).view.emb (ix2 a b)) b rfl h1
  have hr : ((((cfgM m hO).win 9).blk t).view.emb (ix2 a b) (0 : Fin 2)).val = 512 * t.val + a.val := by
    show cc0_transform_9 (grid0.coords t) (0 : Fin 2) * 512 + 1 * a.val = _; omega
  unfold outsAt0
  dsimp only
  refine (congrFun (out9_eq c (grid0.coords t) _ _ _ _ _ _ _ _ _ _ _ _ _ _ _ _ _ _ _ _ _ _ (blk0 m hO c t) (blk1 m hO c t) (blk2 m hO c t) (blk3 m hO c t) (blk4 m hO c t) (blk5 m hO c t) (blk6 m hO c t) (tbl m 0)) (ix2 a b)).trans ?_
  refine (pay3_apply (blk1 m hO c t) (blk3 m hO c t) (blk4 m hO c t) (blk5 m hO c t) (blk6 m hO c t) a b).trans (Eq.trans ?_ (congrArg (first m c) e))
  rw [blk3_apply m hO c t a b _ hr, blk4_apply m hO c t a b _ hr, blk5_apply m hO c t a b _ hr, blk6_apply m hO c t a b _ hr, blk1_apply m hO c t a b _ hr]
  rfl

theorem final9 (hO : Ok m) (c : Dev nD) : (dats m hO 0 c).arrAt 9 (cfgM m hO).N = first m c := by
  refine (dats m hO 0 c).arrAt_eq_of_cover 9 _ (fun t hf => ?_) (fun (i : S2048x896.Idx) => ?_)
  · show ((cfgM m hO).win 9).cut (grid0.coords t) ((dats m hO 0 c).after 9 t) = _
    rw [after0_9]
    funext y
    exact ((View.read_apply _ _).trans ((cast_eq _ _).trans (point9 m hO c t y).symm)).symm
  · have i0 : (i 0).val < 2048 := (i 0).isLt
    have hN : (cfgM m hO).N = 4 := N_0
    obtain ⟨-, -, -, -, -, ⟨h0, h1⟩, -⟩ := idx ⟨(i 0).val / 512, by rw [N_0]; omega⟩
    have hm := rows_mem (r := 512) (cc0_transform_9 (grid0.coords ⟨(i 0).val / 512, by rw [N_0]; omega⟩)) i (by decide) h0 h1
    exact ⟨⟨(i 0).val / 512, by omega⟩, flush0_9 _ _, ((iff_of_eq (congrArg (i ∈ ·) (View.set_slice_whole main_v1_2 (((cfgM m hO).win 9).rect _)))).trans Rect.mem_set_unit).mpr hm⟩

theorem point10 (hO : Ok m) (c : Dev nD) (t : Fin (cfgM m hO).N) (y : S512x896.Idx) :
    (outsAt0 m hO c t).2.2.2 y = second m c ((((cfgM m hO).win 10).blk t).view.emb y) := by
  obtain ⟨-, -, -, -, -, -, ⟨h0, h1⟩, -⟩ := idx t
  obtain ⟨a, b, rfl⟩ : ∃ a b, y = ix2 (n0 := 512) (n1 := 896) a b := ⟨_, _, eq_ix2 y⟩
  have e := rows_col (R := 2048) (cc0_transform_10 (grid0.coords t)) ((((cfgM m hO).win 10).blk t).view.emb (ix2 a b)) b rfl h1
  have hr : ((((cfgM m hO).win 10).blk t).view.emb (ix2 a b) (0 : Fin 2)).val = 512 * t.val + a.val := by
    show cc0_transform_10 (grid0.coords t) (0 : Fin 2) * 512 + 1 * a.val = _; omega
  unfold outsAt0
  dsimp only
  refine (congrFun (out10_eq c (grid0.coords t) _ _ _ _ _ _ _ _ _ _ _ _ _ _ _ _ _ _ _ _ _ _ (blk0 m hO c t) (blk1 m hO c t) (blk2 m hO c t) (blk3 m hO c t) (blk4 m hO c t) (blk5 m hO c t) (blk6 m hO c t) (tbl m 0)) (ix2 a b)).trans ?_
  refine (pay4_apply (blk2 m hO c t) (blk3 m hO c t) (blk4 m hO c t) (blk5 m hO c t) (blk6 m hO c t) a b).trans (Eq.trans ?_ (congrArg (second m c) e))
  rw [blk3_apply m hO c t a b _ hr, blk4_apply m hO c t a b _ hr, blk5_apply m hO c t a b _ hr, blk6_apply m hO c t a b _ hr, blk2_apply m hO c t a b _ hr]
  rfl

theorem final10 (hO : Ok m) (c : Dev nD) : (dats m hO 0 c).arrAt 10 (cfgM m hO).N = second m c := by
  refine (dats m hO 0 c).arrAt_eq_of_cover 10 _ (fun t hf => ?_) (fun (i : S2048x896.Idx) => ?_)
  · show ((cfgM m hO).win 10).cut (grid0.coords t) ((dats m hO 0 c).after 10 t) = _
    rw [after0_10]
    funext y
    exact ((View.read_apply _ _).trans ((cast_eq _ _).trans (point10 m hO c t y).symm)).symm
  · have i0 : (i 0).val < 2048 := (i 0).isLt
    have hN : (cfgM m hO).N = 4 := N_0
    obtain ⟨-, -, -, -, -, -, ⟨h0, h1⟩, -⟩ := idx ⟨(i 0).val / 512, by rw [N_0]; omega⟩
    have hm := rows_mem (r := 512) (cc0_transform_10 (grid0.coords ⟨(i 0).val / 512, by rw [N_0]; omega⟩)) i (by decide) h0 h1
    exact ⟨⟨(i 0).val / 512, by omega⟩, flush0_10 _ _, ((iff_of_eq (congrArg (i ∈ ·) (View.set_slice_whole main_v1_3 (((cfgM m hO).win 10).rect _)))).trans Rect.mem_set_unit).mpr hm⟩

/-- The run, its results named. -/
theorem run (hO : Ok m) : θ_run defs (onTc (τ := τ) (main (F := Ideal))) ⟨m, fun _ => 0, ρ⟩ fun r => ∀ c : Dev nD,
      r.2.mem ((c : Thread nD τ).loc main_v1_0) = grad m c
      ∧ r.2.mem ((c : Thread nD τ).loc main_v1_1) = step m c
      ∧ r.2.mem ((c : Thread nD τ).loc main_v1_2) = first m c
      ∧ r.2.mem ((c : Thread nD τ).loc main_v1_3) = second m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 7).trans (final7 m hO c), ((h c).1 8).trans (final8 m hO c),
      ((h c).1 9).trans (final9 m hO c), ((h c).1 10).trans (final10 m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).1 3).trans (((dats m hO 0 c).arrAt_in 3 rfl _).trans ((A_eq m hO c 3).trans (V_main_arg3 m c))),
      ((h c).1 4).trans (((dats m hO 0 c).arrAt_in 4 rfl _).trans ((A_eq m hO c 4).trans (V_main_arg4 m c)))⟩)
    (run_main m ρ hO)

/-- The kernel and the reference end with one gradient and one step. -/
theorem algebraic : Cert.algebraic_AdamInOddIdeal_AdamInOddRefIdeal := by
  intro m ρ m' ρ' _ hagree
  refine ⟨_, _, _, _, run m ρ (ok m), ?_⟩
  refine (θ_run Cert.AdamInOddRefIdeal.defs _ _).mono (fun _ h c => ⟨?_, ?_, ?_, ?_, (h c).2.2.2.2⟩) (Cert.AdamInOddRefIdeal.Value.run (F := Ideal) m' ρ')
  · rw [(h c).1, (hagree c).2.2.2.1, (hagree c).2.2.2.2]
    funext i
    obtain ⟨a, b, rfl⟩ : ∃ a b, i = ix2 (n0 := 2048) (n1 := 896) a b := ⟨_, _, eq_ix2 i⟩
    exact parts4 (M := 2048) (N := 896) (m ((c : Thread nD τ).loc main_arg3)) (m ((c : Thread nD τ).loc main_arg4)) _ _ _ _ _ _ a b
  · rw [(h c).2.1, (hagree c).1, (hagree c).2.1, (hagree c).2.2.1, (hagree c).2.2.2.1, (hagree c).2.2.2.2]
    funext i
    obtain ⟨a, b, rfl⟩ : ∃ a b, i = ix2 (n0 := 2048) (n1 := 896) a b := ⟨_, _, eq_ix2 i⟩
    exact congrArg (stepE (m ((c : Thread nD τ).loc main_arg0) (ix2 a b)) · (m ((c : Thread nD τ).loc main_arg1) (ix2 a b)) (m ((c : Thread nD τ).loc main_arg2) (ix2 a b))) (parts4 (M := 2048) (N := 896) (m ((c : Thread nD τ).loc main_arg3)) (m ((c : Thread nD τ).loc main_arg4)) _ _ _ _ _ _ a b)
  · rw [(h c).2.2.1, (hagree c).2.1, (hagree c).2.2.2.1, (hagree c).2.2.2.2]
    funext i
    obtain ⟨a, b, rfl⟩ : ∃ a b, i = ix2 (n0 := 2048) (n1 := 896) a b := ⟨_, _, eq_ix2 i⟩
    exact congrArg (firstE · (m ((c : Thread nD τ).loc main_arg1) (ix2 a b))) (parts4 (M := 2048) (N := 896) (m ((c : Thread nD τ).loc main_arg3)) (m ((c : Thread nD τ).loc main_arg4)) _ _ _ _ _ _ a b)
  · rw [(h c).2.2.2.1, (hagree c).2.2.1, (hagree c).2.2.2.1, (hagree c).2.2.2.2]
    funext i
    obtain ⟨a, b, rfl⟩ : ∃ a b, i = ix2 (n0 := 2048) (n1 := 896) a b := ⟨_, _, eq_ix2 i⟩
    exact congrArg (secondE · (m ((c : Thread nD τ).loc main_arg2) (ix2 a b))) (parts4 (M := 2048) (N := 896) (m ((c : Thread nD τ).loc main_arg3)) (m ((c : Thread nD τ).loc main_arg4)) _ _ _ _ _ _ a b)

end Cert.AdamInOddIdeal.Step

end
-- ==== Proof.Products.AdamOutIdealTable.lean ====
/- The table the call reads (one word, which chip the device is on) as its run finds it, and the blocks it then asks for. -/
module

public import proofs.«01_k».proof.Proof.Gen.AdamOutIdeal.Frame
public import Idealize.ShloMosaic.Lib.Tactic

@[expose] public section

noncomputable section

namespace Cert.AdamOutIdeal.Step

open Cert.AdamOutIdeal Cert.AdamOutIdeal.Gen Idealize.ShloMosaic Idealize.ShloMosaic.TcCoe Idealize.SL.Sem

variable {F : FTy → Type} [FloatOps F]
variable (m : (ℓ : Loc nD τ sig) → Buf (Elt F) ℓ)

/-- The table holds the one word the program writes. -/
theorem table (c : Dev nD) : V m c main_v0 = broadcastInDim S1 ![] bcast_S_S1 (constantI S_ 32 0#32) := by
  show StableHlo.after hostOps0 _ _ = _
  after_results <;> rfl

theorem word : (tbl m).at 0 (Rect.unit (s := S1) ![0] S1.size inb_S1_S1_0) numel1_S1 = 0#32 := by
  have h : tbl m 0 = broadcastInDim S1 ![] bcast_S_S1 (constantI S_ 32 0#32) := table m 0
  unfold Pipeline.Prefetch.Contents.at
  rw [h]
  rfl

/-- The block of part `k` at a point, that word read. -/
def ix (k : BitVec 32) (i : grid0.Coords) : Fin 3 → Nat := ![(Scalar.xori 0#32 k).toNat, (BitVec.ofNat 32 (i 0).val).toNat, 0]

theorem ix_eq0 (i : grid0.Coords) : cc0_transform_3 inb_S1_S1_0 numel1_S1 (tbl m) i = ix 0#32 i := by
  unfold cc0_transform_3
  rw [word]
  rfl

theorem ix_eq1 (i : grid0.Coords) : cc0_transform_4 inb_S1_S1_0 numel1_S1 (tbl m) i = ix 1#32 i := by
  unfold cc0_transform_4
  rw [word]
  rfl

theorem ix_eq2 (i : grid0.Coords) : cc0_transform_5 inb_S1_S1_0 numel1_S1 (tbl m) i = ix 2#32 i := by
  unfold cc0_transform_5
  rw [word]
  rfl

theorem ix_eq3 (i : grid0.Coords) : cc0_transform_6 inb_S1_S1_0 numel1_S1 (tbl m) i = ix 3#32 i := by
  unfold cc0_transform_6
  rw [word]
  rfl

/-- Every block lies inside the array. -/
theorem ok : Ok m := by
  refine ⟨?_, ?_, ?_, ?_⟩ <;> intro i <;> first | rw [ix_eq0] | rw [ix_eq1] | rw [ix_eq2] | rw [ix_eq3]
  all_goals revert i; decide +kernel

end Cert.AdamOutIdeal.Step

end
-- ==== Proof.Products.AdamOut.lean ====
/- The AdamW step of an output weight: the parts of its gradient summed, and the step, 256 rows at a time. -/
module

public import proofs.«01_k».proof.Defs
public import proofs.«01_k».proof.Proof.Products.Adam
public import proofs.«01_k».proof.Proof.Products.AdamOutIdealTable
public import proofs.«01_k».proof.Proof.Gen.AdamOutIdeal.Frame
public import Idealize.ShloMosaic.Lib.Pipeline.Value
public import proofs.«01_k».proof.Proof.Gen.AdamOutRefIdeal.Run
public import Idealize.ShloMosaic.Lib.Tactic

@[expose] public section

noncomputable section

namespace Cert.AdamOutIdeal.Step

open Cert.AdamOutIdeal Cert.AdamOutIdeal.Gen Cert.Products Idealize.ShloMosaic Idealize.ShloMosaic.TcCoe Idealize.SL.Sem
open Idealize.ShloMosaic.ValueIdx

variable (m : (ℓ : Loc nD τ sig) → Buf (Elt Ideal) ℓ) (ρ : Dev nD → PrngReg)

/-! What a point stores in its four blocks. -/

section Stores

variable (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S1x256x2048 .bf16) (harg5 : arg5.IsWhole) (arg6 : Memref sig .tc .vmem S1x256x2048 .bf16) (harg6 : arg6.IsWhole) (arg7 : Memref sig .tc .vmem S1x256x2048 .bf16) (harg7 : arg7.IsWhole) (arg8 : Memref sig .tc .vmem S1x256x2048 .bf16) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole)
  (x0 x1 x2 : Vec Ideal S256x2048 .f32) (x3 x4 x5 x6 : Vec Ideal S1x256x2048 .bf16) (xt0 : TbBuf0 (F := Ideal) c tbM0_0)

theorem out7_eq : out0_A_7 c i arg2 harg2 arg3 harg3 arg4 harg4 arg5 harg5 arg6 harg6 arg7 harg7 arg8 harg8 arg9 harg9 arg10 harg10 arg11 harg11 arg12 harg12 x0 x1 x2 x3 x4 x5 x6 xt0 = k0_pay2 x3 x4 x5 x6 := by
  unfold out0_A_7
  rw [View.read_writes_eq_canon _ _ _ (cover0_A_7 c i _ _ _ _ _ _ _ _ _ _ _ _ _ _ _ _ _ _ _ _ _ _ _ _ _ _ _ _ _ _)]
  unfold kernelRun0_A
  sl_unfold_words
  rw [View.canon_unit_zero hz2]
  simp only [View.readAt_eq_ld, harg2.read_unread, harg3.read_unread, harg4.read_unread, harg5.read_unread, harg6.read_unread, harg7.read_unread, harg8.read_unread]
  repeat first | rw [View.ld_unit_zero hz2] | rw [View.ld_unit_zero hz3]

theorem out8_eq : out0_A_8 c i arg2 harg2 arg3 harg3 arg4 harg4 arg5 harg5 arg6 harg6 arg7 harg7 arg8 harg8 arg9 harg9 arg10 harg10 arg11 harg11 arg12 harg12 x0 x1 x2 x3 x4 x5 x6 xt0 = k0_pay1 x0 (k0_pay5 x3 x4 x5 x6 x1) (k0_pay6 x3 x4 x5 x6 x2) (Scalar.ofBits .f32 0x322BCC77#32) := by
  unfold out0_A_8
  rw [View.read_writes_eq_canon _ _ _ (cover0_A_8 c i _ _ _ _ _ _ _ _ _ _ _ _ _ _ _ _ _ _ _ _ _ _ _ _ _ _ _ _ _ _)]
  unfold kernelRun0_A
  sl_unfold_words
  rw [View.canon_unit_zero hz2]
  simp only [View.readAt_eq_ld, harg2.read_unread, harg3.read_unread, harg4.read_unread, harg5.read_unread, harg6.read_unread, harg7.read_unread, harg8.read_unread]
  repeat first | rw [View.ld_unit_zero hz2] | rw [View.ld_unit_zero hz3]

theorem out9_eq : out0_A_9 c i arg2 harg2 arg3 harg3 arg4 harg4 arg5 harg5 arg6 harg6 arg7 harg7 arg8 harg8 arg9 harg9 arg10 harg10 arg11 harg11 arg12 harg12 x0 x1 x2 x3 x4 x5 x6 xt0 = k0_pay3 x3 x4 x5 x6 x1 := by
  unfold out0_A_9
  rw [View.read_writes_eq_canon _ _ _ (cover0_A_9 c i _ _ _ _ _ _ _ _ _ _ _ _ _ _ _ _ _ _ _ _ _ _ _ _ _ _ _ _ _ _)]
  unfold kernelRun0_A
  sl_unfold_words
  rw [View.canon_unit_zero hz2]
  simp only [View.readAt_eq_ld, harg2.read_unread, harg3.read_unread, harg4.read_unread, harg5.read_unread, harg6.read_unread, harg7.read_unread, harg8.read_unread]
  repeat first | rw [View.ld_unit_zero hz2] | rw [View.ld_unit_zero hz3]

theorem out10_eq : out0_A_10 c i arg2 harg2 arg3 harg3 arg4 harg4 arg5 harg5 arg6 harg6 arg7 harg7 arg8 harg8 arg9 harg9 arg10 harg10 arg11 harg11 arg12 harg12 x0 x1 x2 x3 x4 x5 x6 xt0 = k0_pay4 x3 x4 x5 x6 x2 := by
  unfold out0_A_10
  rw [View.read_writes_eq_canon _ _ _ (cover0_A_10 c i _ _ _ _ _ _ _ _ _ _ _ _ _ _ _ _ _ _ _ _ _ _ _ _ _ _ _ _ _ _)]
  unfold kernelRun0_A
  sl_unfold_words
  rw [View.canon_unit_zero hz2]
  simp only [View.readAt_eq_ld, harg2.read_unread, harg3.read_unread, harg4.read_unread, harg5.read_unread, harg6.read_unread, harg7.read_unread, harg8.read_unread]
  repeat first | rw [View.ld_unit_zero hz2] | rw [View.ld_unit_zero hz3]

end Stores

/-! … element by element. -/

theorem pay2_apply (x3 x4 x5 x6 : Vec Ideal S1x256x2048 .bf16) (a : Fin 256) (b : Fin 2048) :
    k0_pay2 x3 x4 x5 x6 (ix2 a b) = gradE (x3 (ix3 0 a b)) (x4 (ix3 0 a b)) (x5 (ix3 0 a b)) (x6 (ix3 0 a b)) := by
  unfold k0_pay2 gradE
  exact congrArg₂ (· + ·) (congrArg₂ (· + ·) (congrArg₂ (· + ·) (drop1 x3 _ a b) (drop1 x4 _ a b)) (drop1 x5 _ a b)) (drop1 x6 _ a b)

theorem pay3_apply (x1 : Vec Ideal S256x2048 .f32) (x3 x4 x5 x6 : Vec Ideal S1x256x2048 .bf16) (a : Fin 256) (b : Fin 2048) :
    k0_pay3 x3 x4 x5 x6 x1 (ix2 a b) = firstE (gradE (x3 (ix3 0 a b)) (x4 (ix3 0 a b)) (x5 (ix3 0 a b)) (x6 (ix3 0 a b))) (x1 (ix2 a b)) :=
  congrArg (firstE · (x1 (ix2 a b))) (pay2_apply x3 x4 x5 x6 a b)

theorem pay4_apply (x2 : Vec Ideal S256x2048 .f32) (x3 x4 x5 x6 : Vec Ideal S1x256x2048 .bf16) (a : Fin 256) (b : Fin 2048) :
    k0_pay4 x3 x4 x5 x6 x2 (ix2 a b) = secondE (gradE (x3 (ix3 0 a b)) (x4 (ix3 0 a b)) (x5 (ix3 0 a b)) (x6 (ix3 0 a b))) (x2 (ix2 a b)) :=
  congrArg (secondE · (x2 (ix2 a b))) (pay2_apply x3 x4 x5 x6 a b)

theorem pay1_apply (x0 x1 x2 : Vec Ideal S256x2048 .f32) (x3 x4 x5 x6 : Vec Ideal S1x256x2048 .bf16) (a : Fin 256) (b : Fin 2048) :
    k0_pay1 x0 (k0_pay5 x3 x4 x5 x6 x1) (k0_pay6 x3 x4 x5 x6 x2) (Scalar.ofBits .f32 0x322BCC77#32) (ix2 a b)
      = stepE (x0 (ix2 a b)) (gradE (x3 (ix3 0 a b)) (x4 (ix3 0 a b)) (x5 (ix3 0 a b)) (x6 (ix3 0 a b))) (x1 (ix2 a b)) (x2 (ix2 a b)) :=
  congrArg (stepE (x0 (ix2 a b)) · (x1 (ix2 a b)) (x2 (ix2 a b))) (pay2_apply x3 x4 x5 x6 a b)

/-- The blocks a point takes and gives: rows of the arrays, and of the four parts. -/
theorem idx : ∀ t : Fin grid0.N, (cc0_transform_0 (grid0.coords t) (0 : Fin 2) = t.val ∧ cc0_transform_0 (grid0.coords t) (1 : Fin 2) = 0)
    ∧ (cc0_transform_1 (grid0.coords t) (0 : Fin 2) = t.val ∧ cc0_transform_1 (grid0.coords t) (1 : Fin 2) = 0)
    ∧ (cc0_transform_2 (grid0.coords t) (0 : Fin 2) = t.val ∧ cc0_transform_2 (grid0.coords t) (1 : Fin 2) = 0)
    ∧ (cc0_transform_7 (grid0.coords t) (0 : Fin 2) = t.val ∧ cc0_transform_7 (grid0.coords t) (1 : Fin 2) = 0)
    ∧ (cc0_transform_8 (grid0.coords t) (0 : Fin 2) = t.val ∧ cc0_transform_8 (grid0.coords t) (1 : Fin 2) = 0)
    ∧ (cc0_transform_9 (grid0.coords t) (0 : Fin 2) = t.val ∧ cc0_transform_9 (grid0.coords t) (1 : Fin 2) = 0)
    ∧ (cc0_transform_10 (grid0.coords t) (0 : Fin 2) = t.val ∧ cc0_transform_10 (grid0.coords t) (1 : Fin 2) = 0)
    ∧ (ix 0#32 (grid0.coords t) (0 : Fin 3) = 0 ∧ ix 0#32 (grid0.coords t) (1 : Fin 3) = t.val ∧ ix 0#32 (grid0.coords t) (2 : Fin 3) = 0)
    ∧ (ix 1#32 (grid0.coords t) (0 : Fin 3) = 1 ∧ ix 1#32 (grid0.coords t) (1 : Fin 3) = t.val ∧ ix 1#32 (grid0.coords t) (2 : Fin 3) = 0)
    ∧ (ix 2#32 (grid0.coords t) (0 : Fin 3) = 2 ∧ ix 2#32 (grid0.coords t) (1 : Fin 3) = t.val ∧ ix 2#32 (grid0.coords t) (2 : Fin 3) = 0)
    ∧ (ix 3#32 (grid0.coords t) (0 : Fin 3) = 3 ∧ ix 3#32 (grid0.coords t) (1 : Fin 3) = t.val ∧ ix 3#32 (grid0.coords t) (2 : Fin 3) = 0) :=
  by decide +kernel

/-! The blocks of a point. -/

section Blocks

variable (hO : Ok m) (c : Dev nD) (t : Fin (cfgM m hO).N) (a : Fin 256) (b : Fin 2048) (r : Fin 256) (hr : r.val = 256 * t.val + a.val)

include hr

def blk0 : Vec Ideal S256x2048 .f32 := iblk m hO c 0 t

theorem blk0_apply : blk0 m hO c t (ix2 a b) = m ((c : Thread nD τ).loc main_arg0) (ix2 r b) := by
  unfold blk0 iblk
  refine (View.read_apply _ _).trans ((cast_eq _ _).trans ?_)
  show V m c main_arg0 _ = _
  rw [V_main_arg0]
  congr 1; funext d; apply Fin.ext
  obtain ⟨⟨h0, h1⟩, -⟩ := idx t
  match d with
  | ⟨0, _⟩ => show cc0_transform_0 (grid0.coords t) (0 : Fin 2) * 256 + 1 * a.val = r.val; omega
  | ⟨1, _⟩ => show cc0_transform_0 (grid0.coords t) (1 : Fin 2) * 2048 + 1 * b.val = b.val; omega

def blk1 : Vec Ideal S256x2048 .f32 := iblk m hO c 1 t

theorem blk1_apply : blk1 m hO c t (ix2 a b) = m ((c : Thread nD τ).loc main_arg1) (ix2 r b) := by
  unfold blk1 iblk
  refine (View.read_apply _ _).trans ((cast_eq _ _).trans ?_)
  show V m c main_arg1 _ = _
  rw [V_main_arg1]
  congr 1; funext d; apply Fin.ext
  obtain ⟨-, ⟨h0, h1⟩, -⟩ := idx t
  match d with
  | ⟨0, _⟩ => show cc0_transform_1 (grid0.coords t) (0 : Fin 2) * 256 + 1 * a.val = r.val; omega
  | ⟨1, _⟩ => show cc0_transform_1 (grid0.coords t) (1 : Fin 2) * 2048 + 1 * b.val = b.val; omega

def blk2 : Vec Ideal S256x2048 .f32 := iblk m hO c 2 t

theorem blk2_apply : blk2 m hO c t (ix2 a b) = m ((c : Thread nD τ).loc main_arg2) (ix2 r b) := by
  unfold blk2 iblk
  refine (View.read_apply _ _).trans ((cast_eq _ _).trans ?_)
  show V m c main_arg2 _ = _
  rw [V_main_arg2]
  congr 1; funext d; apply Fin.ext
  obtain ⟨-, -, ⟨h0, h1⟩, -⟩ := idx t
  match d with
  | ⟨0, _⟩ => show cc0_transform_2 (grid0.coords t) (0 : Fin 2) * 256 + 1 * a.val = r.val; omega
  | ⟨1, _⟩ => show cc0_transform_2 (grid0.coords t) (1 : Fin 2) * 2048 + 1 * b.val = b.val; omega

def blk3 : Vec Ideal S1x256x2048 .bf16 := iblk m hO c 3 t

theorem blk3_apply : blk3 m hO c t (ix3 0 a b) = m ((c : Thread nD τ).loc main_arg3) (ix3 0 r b) := by
  unfold blk3 iblk
  refine (View.read_apply _ _).trans ((cast_eq _ _).trans ?_)
  show V m c main_arg3 _ = _
  rw [V_main_arg3]
  congr 1; funext d; apply Fin.ext
  obtain ⟨-, -, -, -, -, -, -, ⟨h0, h1, h2⟩, -⟩ := idx t
  have e := ix_eq0 m (grid0.coords t)
  match d with
  | ⟨0, _⟩ => show cc0_transform_3 inb_S1_S1_0 numel1_S1 (tbl m) (grid0.coords t) (0 : Fin 3) * 1 + 1 * 0 = 0; rw [e]; omega
  | ⟨1, _⟩ => show cc0_transform_3 inb_S1_S1_0 numel1_S1 (tbl m) (grid0.coords t) (1 : Fin 3) * 256 + 1 * a.val = r.val; rw [e]; omega
  | ⟨2, _⟩ => show cc0_transform_3 inb_S1_S1_0 numel1_S1 (tbl m) (grid0.coords t) (2 : Fin 3) * 2048 + 1 * b.val = b.val; rw [e]; omega

def blk4 : Vec Ideal S1x256x2048 .bf16 := iblk m hO c 4 t

theorem blk4_apply : blk4 m hO c t (ix3 0 a b) = m ((c : Thread nD τ).loc main_arg4) (ix3 1 r b) := by
  unfold blk4 iblk
  refine (View.read_apply _ _).trans ((cast_eq _ _).trans ?_)
  show V m c main_arg4 _ = _
  rw [V_main_arg4]
  congr 1; funext d; apply Fin.ext
  obtain ⟨-, -, -, -, -, -, -, -, ⟨h0, h1, h2⟩, -⟩ := idx t
  have e := ix_eq1 m (grid0.coords t)
  match d with
  | ⟨0, _⟩ => show cc0_transform_4 inb_S1_S1_0 numel1_S1 (tbl m) (grid0.coords t) (0 : Fin 3) * 1 + 1 * 0 = 1; rw [e]; omega
  | ⟨1, _⟩ => show cc0_transform_4 inb_S1_S1_0 numel1_S1 (tbl m) (grid0.coords t) (1 : Fin 3) * 256 + 1 * a.val = r.val; rw [e]; omega
  | ⟨2, _⟩ => show cc0_transform_4 inb_S1_S1_0 numel1_S1 (tbl m) (grid0.coords t) (2 : Fin 3) * 2048 + 1 * b.val = b.val; rw [e]; omega

def blk5 : Vec Ideal S1x256x2048 .bf16 := iblk m hO c 5 t

theorem blk5_apply : blk5 m hO c t (ix3 0 a b) = m ((c : Thread nD τ).loc main_arg4) (ix3 2 r b) := by
  unfold blk5 iblk
  refine (View.read_apply _ _).trans ((cast_eq _ _).trans ?_)
  show V m c main_arg4 _ = _
  rw [V_main_arg4]
  congr 1; funext d; apply Fin.ext
  obtain ⟨-, -, -, -, -, -, -, -, -, ⟨h0, h1, h2⟩, -⟩ := idx t
  have e := ix_eq2 m (grid0.coords t)
  match d with
  | ⟨0, _⟩ => show cc0_transform_5 inb_S1_S1_0 numel1_S1 (tbl m) (grid0.coords t) (0 : Fin 3) * 1 + 1 * 0 = 2; rw [e]; omega
  | ⟨1, _⟩ => show cc0_transform_5 inb_S1_S1_0 numel1_S1 (tbl m) (grid0.coords t) (1 : Fin 3) * 256 + 1 * a.val = r.val; rw [e]; omega
  | ⟨2, _⟩ => show cc0_transform_5 inb_S1_S1_0 numel1_S1 (tbl m) (grid0.coords t) (2 : Fin 3) * 2048 + 1 * b.val = b.val; rw [e]; omega

def blk6 : Vec Ideal S1x256x2048 .bf16 := iblk m hO c 6 t

theorem blk6_apply : blk6 m hO c t (ix3 0 a b) = m ((c : Thread nD τ).loc main_arg4) (ix3 3 r b) := by
  unfold blk6 iblk
  refine (View.read_apply _ _).trans ((cast_eq _ _).trans ?_)
  show V m c main_arg4 _ = _
  rw [V_main_arg4]
  congr 1; funext d; apply Fin.ext
  obtain ⟨-, -, -, -, -, -, -, -, -, -, ⟨h0, h1, h2⟩⟩ := idx t
  have e := ix_eq3 m (grid0.coords t)
  match d with
  | ⟨0, _⟩ => show cc0_transform_6 inb_S1_S1_0 numel1_S1 (tbl m) (grid0.coords t) (0 : Fin 3) * 1 + 1 * 0 = 3; rw [e]; omega
  | ⟨1, _⟩ => show cc0_transform_6 inb_S1_S1_0 numel1_S1 (tbl m) (grid0.coords t) (1 : Fin 3) * 256 + 1 * a.val = r.val; rw [e]; omega
  | ⟨2, _⟩ => show cc0_transform_6 inb_S1_S1_0 numel1_S1 (tbl m) (grid0.coords t) (2 : Fin 3) * 2048 + 1 * b.val = b.val; rw [e]; omega

end Blocks

/-! The results, of the arguments the run starts with. -/

def grad (c : Dev nD) : S256x2048.Idx → EReal := fun i => gradE (m ((c : Thread nD τ).loc main_arg3) (ix3 (n0 := 4) (n1 := 256) (n2 := 2048) 0 (i 0) (i 1))) (m ((c : Thread nD τ).loc main_arg4) (ix3 (n0 := 4) (n1 := 256) (n2 := 2048) 1 (i 0) (i 1))) (m ((c : Thread nD τ).loc main_arg4) (ix3 (n0 := 4) (n1 := 256) (n2 := 2048) 2 (i 0) (i 1))) (m ((c : Thread nD τ).loc main_arg4) (ix3 (n0 := 4) (n1 := 256) (n2 := 2048) 3 (i 0) (i 1)))
def step (c : Dev nD) : S256x2048.Idx → EReal := fun i => stepE (m ((c : Thread nD τ).loc main_arg0) (ix2 (n0 := 256) (n1 := 2048) (i 0) (i 1))) (grad m c i) (m ((c : Thread nD τ).loc main_arg1) (ix2 (n0 := 256) (n1 := 2048) (i 0) (i 1))) (m ((c : Thread nD τ).loc main_arg2) (ix2 (n0 := 256) (n1 := 2048) (i 0) (i 1)))
def first (c : Dev nD) : S256x2048.Idx → EReal := fun i => firstE (grad m c i) (m ((c : Thread nD τ).loc main_arg1) (ix2 (n0 := 256) (n1 := 2048) (i 0) (i 1)))
def second (c : Dev nD) : S256x2048.Idx → EReal := fun i => secondE (grad m c i) (m ((c : Thread nD τ).loc main_arg2) (ix2 (n0 := 256) (n1 := 2048) (i 0) (i 1)))

theorem point7 (hO : Ok m) (c : Dev nD) (t : Fin (cfgM m hO).N) (y : S256x2048.Idx) :
    (outsAt0 m hO c t).1 y = grad m c ((((cfgM m hO).win 7).blk t).view.emb y) := by
  obtain ⟨-, -, -, ⟨h0, h1⟩, -⟩ := idx t
  obtain ⟨a, b, rfl⟩ : ∃ a b, y = ix2 (n0 := 256) (n1 := 2048) a b := ⟨_, _, eq_ix2 y⟩
  have e := rows_col (R := 256) (cc0_transform_7 (grid0.coords t)) ((((cfgM m hO).win 7).blk t).view.emb (ix2 a b)) b rfl h1
  have hr : ((((cfgM m hO).win 7).blk t).view.emb (ix2 a b) (0 : Fin 2)).val = 256 * t.val + a.val := by
    show cc0_transform_7 (grid0.coords t) (0 : Fin 2) * 256 + 1 * a.val = _; omega
  unfold outsAt0
  dsimp only
  refine (congrFun (out7_eq c (grid0.coords t) _ _ _ _ _ _ _ _ _ _ _ _ _ _ _ _ _ _ _ _ _ _ (blk0 m hO c t) (blk1 m hO c t) (blk2 m hO c t) (blk3 m hO c t) (blk4 m hO c t) (blk5 m hO c t) (blk6 m hO c t) (tbl m 0)) (ix2 a b)).trans ?_
  refine (pay2_apply (blk3 m hO c t) (blk4 m hO c t) (blk5 m hO c t) (blk6 m hO c t) a b).trans (Eq.trans ?_ (congrArg (grad m c) e))
  rw [blk3_apply m hO c t a b _ hr, blk4_apply m hO c t a b _ hr, blk5_apply m hO c t a b _ hr, blk6_apply m hO c t a b _ hr]
  rfl

theorem final7 (hO : Ok m) (c : Dev nD) : (dats m hO 0 c).arrAt 7 (cfgM m hO).N = grad m c := by
  refine (dats m hO 0 c).arrAt_eq_of_cover 7 _ (fun t hf => ?_) (fun (i : S256x2048.Idx) => ?_)
  · show ((cfgM m hO).win 7).cut (grid0.coords t) ((dats m hO 0 c).after 7 t) = _
    rw [after0_7]
    funext y
    exact ((View.read_apply _ _).trans ((cast_eq _ _).trans (point7 m hO c t y).symm)).symm
  · have i0 : (i 0).val < 256 := (i 0).isLt
    have hN : (cfgM m hO).N = 1 := N_0
    obtain ⟨-, -, -, ⟨h0, h1⟩, -⟩ := idx ⟨(i 0).val / 256, by rw [N_0]; omega⟩
    have hm := rows_mem (r := 256) (cc0_transform_7 (grid0.coords ⟨(i 0).val / 256, by rw [N_0]; omega⟩)) i (by decide) h0 h1
    exact ⟨⟨(i 0).val / 256, by omega⟩, flush0_7 _ _, ((iff_of_eq (congrArg (i ∈ ·) (View.set_slice_whole main_v1_0 (((cfgM m hO).win 7).rect _)))).trans Rect.mem_set_unit).mpr hm⟩

theorem point8 (hO : Ok m) (c : Dev nD) (t : Fin (cfgM m hO).N) (y : S256x2048.Idx) :
    (outsAt0 m hO c t).2.1 y = step m c ((((cfgM m hO).win 8).blk t).view.emb y) := by
  obtain ⟨-, -, -, -, ⟨h0, h1⟩, -⟩ := idx t
  obtain ⟨a, b, rfl⟩ : ∃ a b, y = ix2 (n0 := 256) (n1 := 2048) a b := ⟨_, _, eq_ix2 y⟩
  have e := rows_col (R := 256) (cc0_transform_8 (grid0.coords t)) ((((cfgM m hO).win 8).blk t).view.emb (ix2 a b)) b rfl h1
  have hr : ((((cfgM m hO).win 8).blk t).view.emb (ix2 a b) (0 : Fin 2)).val = 256 * t.val + a.val := by
    show cc0_transform_8 (grid0.coords t) (0 : Fin 2) * 256 + 1 * a.val = _; omega
  unfold outsAt0
  dsimp only
  refine (congrFun (out8_eq c (grid0.coords t) _ _ _ _ _ _ _ _ _ _ _ _ _ _ _ _ _ _ _ _ _ _ (blk0 m hO c t) (blk1 m hO c t) (blk2 m hO c t) (blk3 m hO c t) (blk4 m hO c t) (blk5 m hO c t) (blk6 m hO c t) (tbl m 0)) (ix2 a b)).trans ?_
  refine (pay1_apply (blk0 m hO c t) (blk1 m hO c t) (blk2 m hO c t) (blk3 m hO c t) (blk4 m hO c t) (blk5 m hO c t) (blk6 m hO c t) a b).trans (Eq.trans ?_ (congrArg (step m c) e))
  rw [blk3_apply m hO c t a b _ hr, blk4_apply m hO c t a b _ hr, blk5_apply m hO c t a b _ hr, blk6_apply m hO c t a b _ hr, blk0_apply m hO c t a b _ hr, blk1_apply m hO c t a b _ hr, blk2_apply m hO c t a b _ hr]
  rfl

theorem final8 (hO : Ok m) (c : Dev nD) : (dats m hO 0 c).arrAt 8 (cfgM m hO).N = step m c := by
  refine (dats m hO 0 c).arrAt_eq_of_cover 8 _ (fun t hf => ?_) (fun (i : S256x2048.Idx) => ?_)
  · show ((cfgM m hO).win 8).cut (grid0.coords t) ((dats m hO 0 c).after 8 t) = _
    rw [after0_8]
    funext y
    exact ((View.read_apply _ _).trans ((cast_eq _ _).trans (point8 m hO c t y).symm)).symm
  · have i0 : (i 0).val < 256 := (i 0).isLt
    have hN : (cfgM m hO).N = 1 := N_0
    obtain ⟨-, -, -, -, ⟨h0, h1⟩, -⟩ := idx ⟨(i 0).val / 256, by rw [N_0]; omega⟩
    have hm := rows_mem (r := 256) (cc0_transform_8 (grid0.coords ⟨(i 0).val / 256, by rw [N_0]; omega⟩)) i (by decide) h0 h1
    exact ⟨⟨(i 0).val / 256, by omega⟩, flush0_8 _ _, ((iff_of_eq (congrArg (i ∈ ·) (View.set_slice_whole main_v1_1 (((cfgM m hO).win 8).rect _)))).trans Rect.mem_set_unit).mpr hm⟩

theorem point9 (hO : Ok m) (c : Dev nD) (t : Fin (cfgM m hO).N) (y : S256x2048.Idx) :
    (outsAt0 m hO c t).2.2.1 y = first m c ((((cfgM m hO).win 9).blk t).view.emb y) := by
  obtain ⟨-, -, -, -, -, ⟨h0, h1⟩, -⟩ := idx t
  obtain ⟨a, b, rfl⟩ : ∃ a b, y = ix2 (n0 := 256) (n1 := 2048) a b := ⟨_, _, eq_ix2 y⟩
  have e := rows_col (R := 256) (cc0_transform_9 (grid0.coords t)) ((((cfgM m hO).win 9).blk t).view.emb (ix2 a b)) b rfl h1
  have hr : ((((cfgM m hO).win 9).blk t).view.emb (ix2 a b) (0 : Fin 2)).val = 256 * t.val + a.val := by
    show cc0_transform_9 (grid0.coords t) (0 : Fin 2) * 256 + 1 * a.val = _; omega
  unfold outsAt0
  dsimp only
  refine (congrFun (out9_eq c (grid0.coords t) _ _ _ _ _ _ _ _ _ _ _ _ _ _ _ _ _ _ _ _ _ _ (blk0 m hO c t) (blk1 m hO c t) (blk2 m hO c t) (blk3 m hO c t) (blk4 m hO c t) (blk5 m hO c t) (blk6 m hO c t) (tbl m 0)) (ix2 a b)).trans ?_
  refine (pay3_apply (blk1 m hO c t) (blk3 m hO c t) (blk4 m hO c t) (blk5 m hO c t) (blk6 m hO c t) a b).trans (Eq.trans ?_ (congrArg (first m c) e))
  rw [blk3_apply m hO c t a b _ hr, blk4_apply m hO c t a b _ hr, blk5_apply m hO c t a b _ hr, blk6_apply m hO c t a b _ hr, blk1_apply m hO c t a b _ hr]
  rfl

theorem final9 (hO : Ok m) (c : Dev nD) : (dats m hO 0 c).arrAt 9 (cfgM m hO).N = first m c := by
  refine (dats m hO 0 c).arrAt_eq_of_cover 9 _ (fun t hf => ?_) (fun (i : S256x2048.Idx) => ?_)
  · show ((cfgM m hO).win 9).cut (grid0.coords t) ((dats m hO 0 c).after 9 t) = _
    rw [after0_9]
    funext y
    exact ((View.read_apply _ _).trans ((cast_eq _ _).trans (point9 m hO c t y).symm)).symm
  · have i0 : (i 0).val < 256 := (i 0).isLt
    have hN : (cfgM m hO).N = 1 := N_0
    obtain ⟨-, -, -, -, -, ⟨h0, h1⟩, -⟩ := idx ⟨(i 0).val / 256, by rw [N_0]; omega⟩
    have hm := rows_mem (r := 256) (cc0_transform_9 (grid0.coords ⟨(i 0).val / 256, by rw [N_0]; omega⟩)) i (by decide) h0 h1
    exact ⟨⟨(i 0).val / 256, by omega⟩, flush0_9 _ _, ((iff_of_eq (congrArg (i ∈ ·) (View.set_slice_whole main_v1_2 (((cfgM m hO).win 9).rect _)))).trans Rect.mem_set_unit).mpr hm⟩

theorem point10 (hO : Ok m) (c : Dev nD) (t : Fin (cfgM m hO).N) (y : S256x2048.Idx) :
    (outsAt0 m hO c t).2.2.2 y = second m c ((((cfgM m hO).win 10).blk t).view.emb y) := by
  obtain ⟨-, -, -, -, -, -, ⟨h0, h1⟩, -⟩ := idx t
  obtain ⟨a, b, rfl⟩ : ∃ a b, y = ix2 (n0 := 256) (n1 := 2048) a b := ⟨_, _, eq_ix2 y⟩
  have e := rows_col (R := 256) (cc0_transform_10 (grid0.coords t)) ((((cfgM m hO).win 10).blk t).view.emb (ix2 a b)) b rfl h1
  have hr : ((((cfgM m hO).win 10).blk t).view.emb (ix2 a b) (0 : Fin 2)).val = 256 * t.val + a.val := by
    show cc0_transform_10 (grid0.coords t) (0 : Fin 2) * 256 + 1 * a.val = _; omega
  unfold outsAt0
  dsimp only
  refine (congrFun (out10_eq c (grid0.coords t) _ _ _ _ _ _ _ _ _ _ _ _ _ _ _ _ _ _ _ _ _ _ (blk0 m hO c t) (blk1 m hO c t) (blk2 m hO c t) (blk3 m hO c t) (blk4 m hO c t) (blk5 m hO c t) (blk6 m hO c t) (tbl m 0)) (ix2 a b)).trans ?_
  refine (pay4_apply (blk2 m hO c t) (blk3 m hO c t) (blk4 m hO c t) (blk5 m hO c t) (blk6 m hO c t) a b).trans (Eq.trans ?_ (congrArg (second m c) e))
  rw [blk3_apply m hO c t a b _ hr, blk4_apply m hO c t a b _ hr, blk5_apply m hO c t a b _ hr, blk6_apply m hO c t a b _ hr, blk2_apply m hO c t a b _ hr]
  rfl

theorem final10 (hO : Ok m) (c : Dev nD) : (dats m hO 0 c).arrAt 10 (cfgM m hO).N = second m c := by
  refine (dats m hO 0 c).arrAt_eq_of_cover 10 _ (fun t hf => ?_) (fun (i : S256x2048.Idx) => ?_)
  · show ((cfgM m hO).win 10).cut (grid0.coords t) ((dats m hO 0 c).after 10 t) = _
    rw [after0_10]
    funext y
    exact ((View.read_apply _ _).trans ((cast_eq _ _).trans (point10 m hO c t y).symm)).symm
  · have i0 : (i 0).val < 256 := (i 0).isLt
    have hN : (cfgM m hO).N = 1 := N_0
    obtain ⟨-, -, -, -, -, -, ⟨h0, h1⟩, -⟩ := idx ⟨(i 0).val / 256, by rw [N_0]; omega⟩
    have hm := rows_mem (r := 256) (cc0_transform_10 (grid0.coords ⟨(i 0).val / 256, by rw [N_0]; omega⟩)) i (by decide) h0 h1
    exact ⟨⟨(i 0).val / 256, by omega⟩, flush0_10 _ _, ((iff_of_eq (congrArg (i ∈ ·) (View.set_slice_whole main_v1_3 (((cfgM m hO).win 10).rect _)))).trans Rect.mem_set_unit).mpr hm⟩

/-- The run, its results named. -/
theorem run (hO : Ok m) : θ_run defs (onTc (τ := τ) (main (F := Ideal))) ⟨m, fun _ => 0, ρ⟩ fun r => ∀ c : Dev nD,
      r.2.mem ((c : Thread nD τ).loc main_v1_0) = grad m c
      ∧ r.2.mem ((c : Thread nD τ).loc main_v1_1) = step m c
      ∧ r.2.mem ((c : Thread nD τ).loc main_v1_2) = first m c
      ∧ r.2.mem ((c : Thread nD τ).loc main_v1_3) = second m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 7).trans (final7 m hO c), ((h c).1 8).trans (final8 m hO c),
      ((h c).1 9).trans (final9 m hO c), ((h c).1 10).trans (final10 m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).1 3).trans (((dats m hO 0 c).arrAt_in 3 rfl _).trans ((A_eq m hO c 3).trans (V_main_arg3 m c))),
      ((h c).1 4).trans (((dats m hO 0 c).arrAt_in 4 rfl _).trans ((A_eq m hO c 4).trans (V_main_arg4 m c)))⟩)
    (run_main m ρ hO)

/-- The kernel and the reference end with one gradient and one step. -/
theorem algebraic : Cert.algebraic_AdamOutIdeal_AdamOutRefIdeal := by
  intro m ρ m' ρ' _ hagree
  refine ⟨_, _, _, _, run m ρ (ok m), ?_⟩
  refine (θ_run Cert.AdamOutRefIdeal.defs _ _).mono (fun _ h c => ⟨?_, ?_, ?_, ?_, (h c).2.2.2.2⟩) (Cert.AdamOutRefIdeal.Value.run (F := Ideal) m' ρ')
  · rw [(h c).1, (hagree c).2.2.2.1, (hagree c).2.2.2.2]
    funext i
    obtain ⟨a, b, rfl⟩ : ∃ a b, i = ix2 (n0 := 256) (n1 := 2048) a b := ⟨_, _, eq_ix2 i⟩
    exact parts4 (M := 256) (N := 2048) (m ((c : Thread nD τ).loc main_arg3)) (m ((c : Thread nD τ).loc main_arg4)) _ _ _ _ _ _ a b
  · rw [(h c).2.1, (hagree c).1, (hagree c).2.1, (hagree c).2.2.1, (hagree c).2.2.2.1, (hagree c).2.2.2.2]
    funext i
    obtain ⟨a, b, rfl⟩ : ∃ a b, i = ix2 (n0 := 256) (n1 := 2048) a b := ⟨_, _, eq_ix2 i⟩
    exact congrArg (stepE (m ((c : Thread nD τ).loc main_arg0) (ix2 a b)) · (m ((c : Thread nD τ).loc main_arg1) (ix2 a b)) (m ((c : Thread nD τ).loc main_arg2) (ix2 a b))) (parts4 (M := 256) (N := 2048) (m ((c : Thread nD τ).loc main_arg3)) (m ((c : Thread nD τ).loc main_arg4)) _ _ _ _ _ _ a b)
  · rw [(h c).2.2.1, (hagree c).2.1, (hagree c).2.2.2.1, (hagree c).2.2.2.2]
    funext i
    obtain ⟨a, b, rfl⟩ : ∃ a b, i = ix2 (n0 := 256) (n1 := 2048) a b := ⟨_, _, eq_ix2 i⟩
    exact congrArg (firstE · (m ((c : Thread nD τ).loc main_arg1) (ix2 a b))) (parts4 (M := 256) (N := 2048) (m ((c : Thread nD τ).loc main_arg3)) (m ((c : Thread nD τ).loc main_arg4)) _ _ _ _ _ _ a b)
  · rw [(h c).2.2.2.1, (hagree c).2.2.1, (hagree c).2.2.2.1, (hagree c).2.2.2.2]
    funext i
    obtain ⟨a, b, rfl⟩ : ∃ a b, i = ix2 (n0 := 256) (n1 := 2048) a b := ⟨_, _, eq_ix2 i⟩
    exact congrArg (secondE · (m ((c : Thread nD τ).loc main_arg2) (ix2 a b))) (parts4 (M := 256) (N := 2048) (m ((c : Thread nD τ).loc main_arg3)) (m ((c : Thread nD τ).loc main_arg4)) _ _ _ _ _ _ a b)

end Cert.AdamOutIdeal.Step

end
-- ==== Proof.Products.AdamPoolIdealTable.lean ====
/- The table the call reads (one word, which chip the device is on) as its run finds it, and the blocks it then asks for. -/
module

public import proofs.«01_k».proof.Proof.Gen.AdamPoolIdeal.Frame
public import Idealize.ShloMosaic.Lib.Tactic

@[expose] public section

noncomputable section

namespace Cert.AdamPoolIdeal.Step

open Cert.AdamPoolIdeal Cert.AdamPoolIdeal.Gen Idealize.ShloMosaic Idealize.ShloMosaic.TcCoe Idealize.SL.Sem

variable {F : FTy → Type} [FloatOps F]
variable (m : (ℓ : Loc nD τ sig) → Buf (Elt F) ℓ)

/-- The table holds the one word the program writes. -/
theorem table (c : Dev nD) : V m c main_v0 = broadcastInDim S1 ![] bcast_S_S1 (constantI S_ 32 0#32) := by
  show StableHlo.after hostOps0 _ _ = _
  after_results <;> rfl

theorem word : (tbl m).at 0 (Rect.unit (s := S1) ![0] S1.size inb_S1_S1_0) numel1_S1 = 0#32 := by
  have h : tbl m 0 = broadcastInDim S1 ![] bcast_S_S1 (constantI S_ 32 0#32) := table m 0
  unfold Pipeline.Prefetch.Contents.at
  rw [h]
  rfl

/-- The block of part `k` at a point, that word read. -/
def ix (k : BitVec 32) (i : grid0.Coords) : Fin 3 → Nat := ![(Scalar.xori 0#32 k).toNat, (BitVec.ofNat 32 (i 0).val).toNat, 0]

theorem ix_eq0 (i : grid0.Coords) : cc0_transform_3 inb_S1_S1_0 numel1_S1 (tbl m) i = ix 0#32 i := by
  unfold cc0_transform_3
  rw [word]
  rfl

theorem ix_eq1 (i : grid0.Coords) : cc0_transform_4 inb_S1_S1_0 numel1_S1 (tbl m) i = ix 1#32 i := by
  unfold cc0_transform_4
  rw [word]
  rfl

theorem ix_eq2 (i : grid0.Coords) : cc0_transform_5 inb_S1_S1_0 numel1_S1 (tbl m) i = ix 2#32 i := by
  unfold cc0_transform_5
  rw [word]
  rfl

theorem ix_eq3 (i : grid0.Coords) : cc0_transform_6 inb_S1_S1_0 numel1_S1 (tbl m) i = ix 3#32 i := by
  unfold cc0_transform_6
  rw [word]
  rfl

/-- Every block lies inside the array. -/
theorem ok : Ok m := by
  refine ⟨?_, ?_, ?_, ?_⟩ <;> intro i <;> first | rw [ix_eq0] | rw [ix_eq1] | rw [ix_eq2] | rw [ix_eq3]
  all_goals revert i; decide +kernel

end Cert.AdamPoolIdeal.Step

end
-- ==== Proof.Products.AdamPool.lean ====
/- The AdamW step of the pool's weight: the parts of its gradient summed, and the step, 128 rows at a time. -/
module

public import proofs.«01_k».proof.Defs
public import proofs.«01_k».proof.Proof.Products.Adam
public import proofs.«01_k».proof.Proof.Products.AdamPoolIdealTable
public import proofs.«01_k».proof.Proof.Gen.AdamPoolIdeal.Frame
public import Idealize.ShloMosaic.Lib.Pipeline.Value
public import proofs.«01_k».proof.Proof.Gen.AdamPoolRefIdeal.Run
public import Idealize.ShloMosaic.Lib.Tactic

@[expose] public section

noncomputable section

namespace Cert.AdamPoolIdeal.Step

open Cert.AdamPoolIdeal Cert.AdamPoolIdeal.Gen Cert.Products Idealize.ShloMosaic Idealize.ShloMosaic.TcCoe Idealize.SL.Sem
open Idealize.ShloMosaic.ValueIdx

variable (m : (ℓ : Loc nD τ sig) → Buf (Elt Ideal) ℓ) (ρ : Dev nD → PrngReg)

/-! What a point stores in its four blocks. -/

section Stores

variable (c : Dev nD) (i : grid0.Coords) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x128x256 .bf16) (harg5 : arg5.IsWhole) (arg6 : Memref sig .tc .vmem S1x128x256 .bf16) (harg6 : arg6.IsWhole) (arg7 : Memref sig .tc .vmem S1x128x256 .bf16) (harg7 : arg7.IsWhole) (arg8 : Memref sig .tc .vmem S1x128x256 .bf16) (harg8 : arg8.IsWhole) (arg9 : Memref sig .tc .vmem S128x256 .f32) (harg9 : arg9.IsWhole) (arg10 : Memref sig .tc .vmem S128x256 .f32) (harg10 : arg10.IsWhole) (arg11 : Memref sig .tc .vmem S128x256 .f32) (harg11 : arg11.IsWhole) (arg12 : Memref sig .tc .vmem S128x256 .f32) (harg12 : arg12.IsWhole)
  (x0 x1 x2 : Vec Ideal S128x256 .f32) (x3 x4 x5 x6 : Vec Ideal S1x128x256 .bf16) (xt0 : TbBuf0 (F := Ideal) c tbM0_0)

theorem out7_eq : out0_A_7 c i arg2 harg2 arg3 harg3 arg4 harg4 arg5 harg5 arg6 harg6 arg7 harg7 arg8 harg8 arg9 harg9 arg10 harg10 arg11 harg11 arg12 harg12 x0 x1 x2 x3 x4 x5 x6 xt0 = k0_pay2 x3 x4 x5 x6 := by
  unfold out0_A_7
  rw [View.read_writes_eq_canon _ _ _ (cover0_A_7 c i _ _ _ _ _ _ _ _ _ _ _ _ _ _ _ _ _ _ _ _ _ _ _ _ _ _ _ _ _ _)]
  unfold kernelRun0_A
  sl_unfold_words
  rw [View.canon_unit_zero hz2]
  simp only [View.readAt_eq_ld, harg2.read_unread, harg3.read_unread, harg4.read_unread, harg5.read_unread, harg6.read_unread, harg7.read_unread, harg8.read_unread]
  repeat first | rw [View.ld_unit_zero hz2] | rw [View.ld_unit_zero hz3]

theorem out8_eq : out0_A_8 c i arg2 harg2 arg3 harg3 arg4 harg4 arg5 harg5 arg6 harg6 arg7 harg7 arg8 harg8 arg9 harg9 arg10 harg10 arg11 harg11 arg12 harg12 x0 x1 x2 x3 x4 x5 x6 xt0 = k0_pay1 x0 (k0_pay5 x3 x4 x5 x6 x1) (k0_pay6 x3 x4 x5 x6 x2) (Scalar.ofBits .f32 0x322BCC77#32) := by
  unfold out0_A_8
  rw [View.read_writes_eq_canon _ _ _ (cover0_A_8 c i _ _ _ _ _ _ _ _ _ _ _ _ _ _ _ _ _ _ _ _ _ _ _ _ _ _ _ _ _ _)]
  unfold kernelRun0_A
  sl_unfold_words
  rw [View.canon_unit_zero hz2]
  simp only [View.readAt_eq_ld, harg2.read_unread, harg3.read_unread, harg4.read_unread, harg5.read_unread, harg6.read_unread, harg7.read_unread, harg8.read_unread]
  repeat first | rw [View.ld_unit_zero hz2] | rw [View.ld_unit_zero hz3]

theorem out9_eq : out0_A_9 c i arg2 harg2 arg3 harg3 arg4 harg4 arg5 harg5 arg6 harg6 arg7 harg7 arg8 harg8 arg9 harg9 arg10 harg10 arg11 harg11 arg12 harg12 x0 x1 x2 x3 x4 x5 x6 xt0 = k0_pay3 x3 x4 x5 x6 x1 := by
  unfold out0_A_9
  rw [View.read_writes_eq_canon _ _ _ (cover0_A_9 c i _ _ _ _ _ _ _ _ _ _ _ _ _ _ _ _ _ _ _ _ _ _ _ _ _ _ _ _ _ _)]
  unfold kernelRun0_A
  sl_unfold_words
  rw [View.canon_unit_zero hz2]
  simp only [View.readAt_eq_ld, harg2.read_unread, harg3.read_unread, harg4.read_unread, harg5.read_unread, harg6.read_unread, harg7.read_unread, harg8.read_unread]
  repeat first | rw [View.ld_unit_zero hz2] | rw [View.ld_unit_zero hz3]

theorem out10_eq : out0_A_10 c i arg2 harg2 arg3 harg3 arg4 harg4 arg5 harg5 arg6 harg6 arg7 harg7 arg8 harg8 arg9 harg9 arg10 harg10 arg11 harg11 arg12 harg12 x0 x1 x2 x3 x4 x5 x6 xt0 = k0_pay4 x3 x4 x5 x6 x2 := by
  unfold out0_A_10
  rw [View.read_writes_eq_canon _ _ _ (cover0_A_10 c i _ _ _ _ _ _ _ _ _ _ _ _ _ _ _ _ _ _ _ _ _ _ _ _ _ _ _ _ _ _)]
  unfold kernelRun0_A
  sl_unfold_words
  rw [View.canon_unit_zero hz2]
  simp only [View.readAt_eq_ld, harg2.read_unread, harg3.read_unread, harg4.read_unread, harg5.read_unread, harg6.read_unread, harg7.read_unread, harg8.read_unread]
  repeat first | rw [View.ld_unit_zero hz2] | rw [View.ld_unit_zero hz3]

end Stores

/-! … element by element. -/

theorem pay2_apply (x3 x4 x5 x6 : Vec Ideal S1x128x256 .bf16) (a : Fin 128) (b : Fin 256) :
    k0_pay2 x3 x4 x5 x6 (ix2 a b) = gradE (x3 (ix3 0 a b)) (x4 (ix3 0 a b)) (x5 (ix3 0 a b)) (x6 (ix3 0 a b)) := by
  unfold k0_pay2 gradE
  exact congrArg₂ (· + ·) (congrArg₂ (· + ·) (congrArg₂ (· + ·) (drop1 x3 _ a b) (drop1 x4 _ a b)) (drop1 x5 _ a b)) (drop1 x6 _ a b)

theorem pay3_apply (x1 : Vec Ideal S128x256 .f32) (x3 x4 x5 x6 : Vec Ideal S1x128x256 .bf16) (a : Fin 128) (b : Fin 256) :
    k0_pay3 x3 x4 x5 x6 x1 (ix2 a b) = firstE (gradE (x3 (ix3 0 a b)) (x4 (ix3 0 a b)) (x5 (ix3 0 a b)) (x6 (ix3 0 a b))) (x1 (ix2 a b)) :=
  congrArg (firstE · (x1 (ix2 a b))) (pay2_apply x3 x4 x5 x6 a b)

theorem pay4_apply (x2 : Vec Ideal S128x256 .f32) (x3 x4 x5 x6 : Vec Ideal S1x128x256 .bf16) (a : Fin 128) (b : Fin 256) :
    k0_pay4 x3 x4 x5 x6 x2 (ix2 a b) = secondE (gradE (x3 (ix3 0 a b)) (x4 (ix3 0 a b)) (x5 (ix3 0 a b)) (x6 (ix3 0 a b))) (x2 (ix2 a b)) :=
  congrArg (secondE · (x2 (ix2 a b))) (pay2_apply x3 x4 x5 x6 a b)

theorem pay1_apply (x0 x1 x2 : Vec Ideal S128x256 .f32) (x3 x4 x5 x6 : Vec Ideal S1x128x256 .bf16) (a : Fin 128) (b : Fin 256) :
    k0_pay1 x0 (k0_pay5 x3 x4 x5 x6 x1) (k0_pay6 x3 x4 x5 x6 x2) (Scalar.ofBits .f32 0x322BCC77#32) (ix2 a b)
      = stepE (x0 (ix2 a b)) (gradE (x3 (ix3 0 a b)) (x4 (ix3 0 a b)) (x5 (ix3 0 a b)) (x6 (ix3 0 a b))) (x1 (ix2 a b)) (x2 (ix2 a b)) :=
  congrArg (stepE (x0 (ix2 a b)) · (x1 (ix2 a b)) (x2 (ix2 a b))) (pay2_apply x3 x4 x5 x6 a b)

/-- The blocks a point takes and gives: rows of the arrays, and of the four parts. -/
theorem idx : ∀ t : Fin grid0.N, (cc0_transform_0 (grid0.coords t) (0 : Fin 2) = t.val ∧ cc0_transform_0 (grid0.coords t) (1 : Fin 2) = 0)
    ∧ (cc0_transform_1 (grid0.coords t) (0 : Fin 2) = t.val ∧ cc0_transform_1 (grid0.coords t) (1 : Fin 2) = 0)
    ∧ (cc0_transform_2 (grid0.coords t) (0 : Fin 2) = t.val ∧ cc0_transform_2 (grid0.coords t) (1 : Fin 2) = 0)
    ∧ (cc0_transform_7 (grid0.coords t) (0 : Fin 2) = t.val ∧ cc0_transform_7 (grid0.coords t) (1 : Fin 2) = 0)
    ∧ (cc0_transform_8 (grid0.coords t) (0 : Fin 2) = t.val ∧ cc0_transform_8 (grid0.coords t) (1 : Fin 2) = 0)
    ∧ (cc0_transform_9 (grid0.coords t) (0 : Fin 2) = t.val ∧ cc0_transform_9 (grid0.coords t) (1 : Fin 2) = 0)
    ∧ (cc0_transform_10 (grid0.coords t) (0 : Fin 2) = t.val ∧ cc0_transform_10 (grid0.coords t) (1 : Fin 2) = 0)
    ∧ (ix 0#32 (grid0.coords t) (0 : Fin 3) = 0 ∧ ix 0#32 (grid0.coords t) (1 : Fin 3) = t.val ∧ ix 0#32 (grid0.coords t) (2 : Fin 3) = 0)
    ∧ (ix 1#32 (grid0.coords t) (0 : Fin 3) = 1 ∧ ix 1#32 (grid0.coords t) (1 : Fin 3) = t.val ∧ ix 1#32 (grid0.coords t) (2 : Fin 3) = 0)
    ∧ (ix 2#32 (grid0.coords t) (0 : Fin 3) = 2 ∧ ix 2#32 (grid0.coords t) (1 : Fin 3) = t.val ∧ ix 2#32 (grid0.coords t) (2 : Fin 3) = 0)
    ∧ (ix 3#32 (grid0.coords t) (0 : Fin 3) = 3 ∧ ix 3#32 (grid0.coords t) (1 : Fin 3) = t.val ∧ ix 3#32 (grid0.coords t) (2 : Fin 3) = 0) :=
  by decide +kernel

/-! The blocks of a point. -/

section Blocks

variable (hO : Ok m) (c : Dev nD) (t : Fin (cfgM m hO).N) (a : Fin 128) (b : Fin 256) (r : Fin 128) (hr : r.val = 128 * t.val + a.val)

include hr

def blk0 : Vec Ideal S128x256 .f32 := iblk m hO c 0 t

theorem blk0_apply : blk0 m hO c t (ix2 a b) = m ((c : Thread nD τ).loc main_arg0) (ix2 r b) := by
  unfold blk0 iblk
  refine (View.read_apply _ _).trans ((cast_eq _ _).trans ?_)
  show V m c main_arg0 _ = _
  rw [V_main_arg0]
  congr 1; funext d; apply Fin.ext
  obtain ⟨⟨h0, h1⟩, -⟩ := idx t
  match d with
  | ⟨0, _⟩ => show cc0_transform_0 (grid0.coords t) (0 : Fin 2) * 128 + 1 * a.val = r.val; omega
  | ⟨1, _⟩ => show cc0_transform_0 (grid0.coords t) (1 : Fin 2) * 256 + 1 * b.val = b.val; omega

def blk1 : Vec Ideal S128x256 .f32 := iblk m hO c 1 t

theorem blk1_apply : blk1 m hO c t (ix2 a b) = m ((c : Thread nD τ).loc main_arg1) (ix2 r b) := by
  unfold blk1 iblk
  refine (View.read_apply _ _).trans ((cast_eq _ _).trans ?_)
  show V m c main_arg1 _ = _
  rw [V_main_arg1]
  congr 1; funext d; apply Fin.ext
  obtain ⟨-, ⟨h0, h1⟩, -⟩ := idx t
  match d with
  | ⟨0, _⟩ => show cc0_transform_1 (grid0.coords t) (0 : Fin 2) * 128 + 1 * a.val = r.val; omega
  | ⟨1, _⟩ => show cc0_transform_1 (grid0.coords t) (1 : Fin 2) * 256 + 1 * b.val = b.val; omega

def blk2 : Vec Ideal S128x256 .f32 := iblk m hO c 2 t

theorem blk2_apply : blk2 m hO c t (ix2 a b) = m ((c : Thread nD τ).loc main_arg2) (ix2 r b) := by
  unfold blk2 iblk
  refine (View.read_apply _ _).trans ((cast_eq _ _).trans ?_)
  show V m c main_arg2 _ = _
  rw [V_main_arg2]
  congr 1; funext d; apply Fin.ext
  obtain ⟨-, -, ⟨h0, h1⟩, -⟩ := idx t
  match d with
  | ⟨0, _⟩ => show cc0_transform_2 (grid0.coords t) (0 : Fin 2) * 128 + 1 * a.val = r.val; omega
  | ⟨1, _⟩ => show cc0_transform_2 (grid0.coords t) (1 : Fin 2) * 256 + 1 * b.val = b.val; omega

def blk3 : Vec Ideal S1x128x256 .bf16 := iblk m hO c 3 t

theorem blk3_apply : blk3 m hO c t (ix3 0 a b) = m ((c : Thread nD τ).loc main_arg3) (ix3 0 r b) := by
  unfold blk3 iblk
  refine (View.read_apply _ _).trans ((cast_eq _ _).trans ?_)
  show V m c main_arg3 _ = _
  rw [V_main_arg3]
  congr 1; funext d; apply Fin.ext
  obtain ⟨-, -, -, -, -, -, -, ⟨h0, h1, h2⟩, -⟩ := idx t
  have e := ix_eq0 m (grid0.coords t)
  match d with
  | ⟨0, _⟩ => show cc0_transform_3 inb_S1_S1_0 numel1_S1 (tbl m) (grid0.coords t) (0 : Fin 3) * 1 + 1 * 0 = 0; rw [e]; omega
  | ⟨1, _⟩ => show cc0_transform_3 inb_S1_S1_0 numel1_S1 (tbl m) (grid0.coords t) (1 : Fin 3) * 128 + 1 * a.val = r.val; rw [e]; omega
  | ⟨2, _⟩ => show cc0_transform_3 inb_S1_S1_0 numel1_S1 (tbl m) (grid0.coords t) (2 : Fin 3) * 256 + 1 * b.val = b.val; rw [e]; omega

def blk4 : Vec Ideal S1x128x256 .bf16 := iblk m hO c 4 t

theorem blk4_apply : blk4 m hO c t (ix3 0 a b) = m ((c : Thread nD τ).loc main_arg4) (ix3 1 r b) := by
  unfold blk4 iblk
  refine (View.read_apply _ _).trans ((cast_eq _ _).trans ?_)
  show V m c main_arg4 _ = _
  rw [V_main_arg4]
  congr 1; funext d; apply Fin.ext
  obtain ⟨-, -, -, -, -, -, -, -, ⟨h0, h1, h2⟩, -⟩ := idx t
  have e := ix_eq1 m (grid0.coords t)
  match d with
  | ⟨0, _⟩ => show cc0_transform_4 inb_S1_S1_0 numel1_S1 (tbl m) (grid0.coords t) (0 : Fin 3) * 1 + 1 * 0 = 1; rw [e]; omega
  | ⟨1, _⟩ => show cc0_transform_4 inb_S1_S1_0 numel1_S1 (tbl m) (grid0.coords t) (1 : Fin 3) * 128 + 1 * a.val = r.val; rw [e]; omega
  | ⟨2, _⟩ => show cc0_transform_4 inb_S1_S1_0 numel1_S1 (tbl m) (grid0.coords t) (2 : Fin 3) * 256 + 1 * b.val = b.val; rw [e]; omega

def blk5 : Vec Ideal S1x128x256 .bf16 := iblk m hO c 5 t

theorem blk5_apply : blk5 m hO c t (ix3 0 a b) = m ((c : Thread nD τ).loc main_arg4) (ix3 2 r b) := by
  unfold blk5 iblk
  refine (View.read_apply _ _).trans ((cast_eq _ _).trans ?_)
  show V m c main_arg4 _ = _
  rw [V_main_arg4]
  congr 1; funext d; apply Fin.ext
  obtain ⟨-, -, -, -, -, -, -, -, -, ⟨h0, h1, h2⟩, -⟩ := idx t
  have e := ix_eq2 m (grid0.coords t)
  match d with
  | ⟨0, _⟩ => show cc0_transform_5 inb_S1_S1_0 numel1_S1 (tbl m) (grid0.coords t) (0 : Fin 3) * 1 + 1 * 0 = 2; rw [e]; omega
  | ⟨1, _⟩ => show cc0_transform_5 inb_S1_S1_0 numel1_S1 (tbl m) (grid0.coords t) (1 : Fin 3) * 128 + 1 * a.val = r.val; rw [e]; omega
  | ⟨2, _⟩ => show cc0_transform_5 inb_S1_S1_0 numel1_S1 (tbl m) (grid0.coords t) (2 : Fin 3) * 256 + 1 * b.val = b.val; rw [e]; omega

def blk6 : Vec Ideal S1x128x256 .bf16 := iblk m hO c 6 t

theorem blk6_apply : blk6 m hO c t (ix3 0 a b) = m ((c : Thread nD τ).loc main_arg4) (ix3 3 r b) := by
  unfold blk6 iblk
  refine (View.read_apply _ _).trans ((cast_eq _ _).trans ?_)
  show V m c main_arg4 _ = _
  rw [V_main_arg4]
  congr 1; funext d; apply Fin.ext
  obtain ⟨-, -, -, -, -, -, -, -, -, -, ⟨h0, h1, h2⟩⟩ := idx t
  have e := ix_eq3 m (grid0.coords t)
  match d with
  | ⟨0, _⟩ => show cc0_transform_6 inb_S1_S1_0 numel1_S1 (tbl m) (grid0.coords t) (0 : Fin 3) * 1 + 1 * 0 = 3; rw [e]; omega
  | ⟨1, _⟩ => show cc0_transform_6 inb_S1_S1_0 numel1_S1 (tbl m) (grid0.coords t) (1 : Fin 3) * 128 + 1 * a.val = r.val; rw [e]; omega
  | ⟨2, _⟩ => show cc0_transform_6 inb_S1_S1_0 numel1_S1 (tbl m) (grid0.coords t) (2 : Fin 3) * 256 + 1 * b.val = b.val; rw [e]; omega

end Blocks

/-! The results, of the arguments the run starts with. -/

def grad (c : Dev nD) : S128x256.Idx → EReal := fun i => gradE (m ((c : Thread nD τ).loc main_arg3) (ix3 (n0 := 4) (n1 := 128) (n2 := 256) 0 (i 0) (i 1))) (m ((c : Thread nD τ).loc main_arg4) (ix3 (n0 := 4) (n1 := 128) (n2 := 256) 1 (i 0) (i 1))) (m ((c : Thread nD τ).loc main_arg4) (ix3 (n0 := 4) (n1 := 128) (n2 := 256) 2 (i 0) (i 1))) (m ((c : Thread nD τ).loc main_arg4) (ix3 (n0 := 4) (n1 := 128) (n2 := 256) 3 (i 0) (i 1)))
def step (c : Dev nD) : S128x256.Idx → EReal := fun i => stepE (m ((c : Thread nD τ).loc main_arg0) (ix2 (n0 := 128) (n1 := 256) (i 0) (i 1))) (grad m c i) (m ((c : Thread nD τ).loc main_arg1) (ix2 (n0 := 128) (n1 := 256) (i 0) (i 1))) (m ((c : Thread nD τ).loc main_arg2) (ix2 (n0 := 128) (n1 := 256) (i 0) (i 1)))
def first (c : Dev nD) : S128x256.Idx → EReal := fun i => firstE (grad m c i) (m ((c : Thread nD τ).loc main_arg1) (ix2 (n0 := 128) (n1 := 256) (i 0) (i 1)))
def second (c : Dev nD) : S128x256.Idx → EReal := fun i => secondE (grad m c i) (m ((c : Thread nD τ).loc main_arg2) (ix2 (n0 := 128) (n1 := 256) (i 0) (i 1)))

theorem point7 (hO : Ok m) (c : Dev nD) (t : Fin (cfgM m hO).N) (y : S128x256.Idx) :
    (outsAt0 m hO c t).1 y = grad m c ((((cfgM m hO).win 7).blk t).view.emb y) := by
  obtain ⟨-, -, -, ⟨h0, h1⟩, -⟩ := idx t
  obtain ⟨a, b, rfl⟩ : ∃ a b, y = ix2 (n0 := 128) (n1 := 256) a b := ⟨_, _, eq_ix2 y⟩
  have e := rows_col (R := 128) (cc0_transform_7 (grid0.coords t)) ((((cfgM m hO).win 7).blk t).view.emb (ix2 a b)) b rfl h1
  have hr : ((((cfgM m hO).win 7).blk t).view.emb (ix2 a b) (0 : Fin 2)).val = 128 * t.val + a.val := by
    show cc0_transform_7 (grid0.coords t) (0 : Fin 2) * 128 + 1 * a.val = _; omega
  unfold outsAt0
  dsimp only
  refine (congrFun (out7_eq c (grid0.coords t) _ _ _ _ _ _ _ _ _ _ _ _ _ _ _ _ _ _ _ _ _ _ (blk0 m hO c t) (blk1 m hO c t) (blk2 m hO c t) (blk3 m hO c t) (blk4 m hO c t) (blk5 m hO c t) (blk6 m hO c t) (tbl m 0)) (ix2 a b)).trans ?_
  refine (pay2_apply (blk3 m hO c t) (blk4 m hO c t) (blk5 m hO c t) (blk6 m hO c t) a b).trans (Eq.trans ?_ (congrArg (grad m c) e))
  rw [blk3_apply m hO c t a b _ hr, blk4_apply m hO c t a b _ hr, blk5_apply m hO c t a b _ hr, blk6_apply m hO c t a b _ hr]
  rfl

theorem final7 (hO : Ok m) (c : Dev nD) : (dats m hO 0 c).arrAt 7 (cfgM m hO).N = grad m c := by
  refine (dats m hO 0 c).arrAt_eq_of_cover 7 _ (fun t hf => ?_) (fun (i : S128x256.Idx) => ?_)
  · show ((cfgM m hO).win 7).cut (grid0.coords t) ((dats m hO 0 c).after 7 t) = _
    rw [after0_7]
    funext y
    exact ((View.read_apply _ _).trans ((cast_eq _ _).trans (point7 m hO c t y).symm)).symm
  · have i0 : (i 0).val < 128 := (i 0).isLt
    have hN : (cfgM m hO).N = 1 := N_0
    obtain ⟨-, -, -, ⟨h0, h1⟩, -⟩ := idx ⟨(i 0).val / 128, by rw [N_0]; omega⟩
    have hm := rows_mem (r := 128) (cc0_transform_7 (grid0.coords ⟨(i 0).val / 128, by rw [N_0]; omega⟩)) i (by decide) h0 h1
    exact ⟨⟨(i 0).val / 128, by omega⟩, flush0_7 _ _, ((iff_of_eq (congrArg (i ∈ ·) (View.set_slice_whole main_v1_0 (((cfgM m hO).win 7).rect _)))).trans Rect.mem_set_unit).mpr hm⟩

theorem point8 (hO : Ok m) (c : Dev nD) (t : Fin (cfgM m hO).N) (y : S128x256.Idx) :
    (outsAt0 m hO c t).2.1 y = step m c ((((cfgM m hO).win 8).blk t).view.emb y) := by
  obtain ⟨-, -, -, -, ⟨h0, h1⟩, -⟩ := idx t
  obtain ⟨a, b, rfl⟩ : ∃ a b, y = ix2 (n0 := 128) (n1 := 256) a b := ⟨_, _, eq_ix2 y⟩
  have e := rows_col (R := 128) (cc0_transform_8 (grid0.coords t)) ((((cfgM m hO).win 8).blk t).view.emb (ix2 a b)) b rfl h1
  have hr : ((((cfgM m hO).win 8).blk t).view.emb (ix2 a b) (0 : Fin 2)).val = 128 * t.val + a.val := by
    show cc0_transform_8 (grid0.coords t) (0 : Fin 2) * 128 + 1 * a.val = _; omega
  unfold outsAt0
  dsimp only
  refine (congrFun (out8_eq c (grid0.coords t) _ _ _ _ _ _ _ _ _ _ _ _ _ _ _ _ _ _ _ _ _ _ (blk0 m hO c t) (blk1 m hO c t) (blk2 m hO c t) (blk3 m hO c t) (blk4 m hO c t) (blk5 m hO c t) (blk6 m hO c t) (tbl m 0)) (ix2 a b)).trans ?_
  refine (pay1_apply (blk0 m hO c t) (blk1 m hO c t) (blk2 m hO c t) (blk3 m hO c t) (blk4 m hO c t) (blk5 m hO c t) (blk6 m hO c t) a b).trans (Eq.trans ?_ (congrArg (step m c) e))
  rw [blk3_apply m hO c t a b _ hr, blk4_apply m hO c t a b _ hr, blk5_apply m hO c t a b _ hr, blk6_apply m hO c t a b _ hr, blk0_apply m hO c t a b _ hr, blk1_apply m hO c t a b _ hr, blk2_apply m hO c t a b _ hr]
  rfl

theorem final8 (hO : Ok m) (c : Dev nD) : (dats m hO 0 c).arrAt 8 (cfgM m hO).N = step m c := by
  refine (dats m hO 0 c).arrAt_eq_of_cover 8 _ (fun t hf => ?_) (fun (i : S128x256.Idx) => ?_)
  · show ((cfgM m hO).win 8).cut (grid0.coords t) ((dats m hO 0 c).after 8 t) = _
    rw [after0_8]
    funext y
    exact ((View.read_apply _ _).trans ((cast_eq _ _).trans (point8 m hO c t y).symm)).symm
  · have i0 : (i 0).val < 128 := (i 0).isLt
    have hN : (cfgM m hO).N = 1 := N_0
    obtain ⟨-, -, -, -, ⟨h0, h1⟩, -⟩ := idx ⟨(i 0).val / 128, by rw [N_0]; omega⟩
    have hm := rows_mem (r := 128) (cc0_transform_8 (grid0.coords ⟨(i 0).val / 128, by rw [N_0]; omega⟩)) i (by decide) h0 h1
    exact ⟨⟨(i 0).val / 128, by omega⟩, flush0_8 _ _, ((iff_of_eq (congrArg (i ∈ ·) (View.set_slice_whole main_v1_1 (((cfgM m hO).win 8).rect _)))).trans Rect.mem_set_unit).mpr hm⟩

theorem point9 (hO : Ok m) (c : Dev nD) (t : Fin (cfgM m hO).N) (y : S128x256.Idx) :
    (outsAt0 m hO c t).2.2.1 y = first m c ((((cfgM m hO).win 9).blk t).view.emb y) := by
  obtain ⟨-, -, -, -, -, ⟨h0, h1⟩, -⟩ := idx t
  obtain ⟨a, b, rfl⟩ : ∃ a b, y = ix2 (n0 := 128) (n1 := 256) a b := ⟨_, _, eq_ix2 y⟩
  have e := rows_col (R := 128) (cc0_transform_9 (grid0.coords t)) ((((cfgM m hO).win 9).blk t).view.emb (ix2 a b)) b rfl h1
  have hr : ((((cfgM m hO).win 9).blk t).view.emb (ix2 a b) (0 : Fin 2)).val = 128 * t.val + a.val := by
    show cc0_transform_9 (grid0.coords t) (0 : Fin 2) * 128 + 1 * a.val = _; omega
  unfold outsAt0
  dsimp only
  refine (congrFun (out9_eq c (grid0.coords t) _ _ _ _ _ _ _ _ _ _ _ _ _ _ _ _ _ _ _ _ _ _ (blk0 m hO c t) (blk1 m hO c t) (blk2 m hO c t) (blk3 m hO c t) (blk4 m hO c t) (blk5 m hO c t) (blk6 m hO c t) (tbl m 0)) (ix2 a b)).trans ?_
  refine (pay3_apply (blk1 m hO c t) (blk3 m hO c t) (blk4 m hO c t) (blk5 m hO c t) (blk6 m hO c t) a b).trans (Eq.trans ?_ (congrArg (first m c) e))
  rw [blk3_apply m hO c t a b _ hr, blk4_apply m hO c t a b _ hr, blk5_apply m hO c t a b _ hr, blk6_apply m hO c t a b _ hr, blk1_apply m hO c t a b _ hr]
  rfl

theorem final9 (hO : Ok m) (c : Dev nD) : (dats m hO 0 c).arrAt 9 (cfgM m hO).N = first m c := by
  refine (dats m hO 0 c).arrAt_eq_of_cover 9 _ (fun t hf => ?_) (fun (i : S128x256.Idx) => ?_)
  · show ((cfgM m hO).win 9).cut (grid0.coords t) ((dats m hO 0 c).after 9 t) = _
    rw [after0_9]
    funext y
    exact ((View.read_apply _ _).trans ((cast_eq _ _).trans (point9 m hO c t y).symm)).symm
  · have i0 : (i 0).val < 128 := (i 0).isLt
    have hN : (cfgM m hO).N = 1 := N_0
    obtain ⟨-, -, -, -, -, ⟨h0, h1⟩, -⟩ := idx ⟨(i 0).val / 128, by rw [N_0]; omega⟩
    have hm := rows_mem (r := 128) (cc0_transform_9 (grid0.coords ⟨(i 0).val / 128, by rw [N_0]; omega⟩)) i (by decide) h0 h1
    exact ⟨⟨(i 0).val / 128, by omega⟩, flush0_9 _ _, ((iff_of_eq (congrArg (i ∈ ·) (View.set_slice_whole main_v1_2 (((cfgM m hO).win 9).rect _)))).trans Rect.mem_set_unit).mpr hm⟩

theorem point10 (hO : Ok m) (c : Dev nD) (t : Fin (cfgM m hO).N) (y : S128x256.Idx) :
    (outsAt0 m hO c t).2.2.2 y = second m c ((((cfgM m hO).win 10).blk t).view.emb y) := by
  obtain ⟨-, -, -, -, -, -, ⟨h0, h1⟩, -⟩ := idx t
  obtain ⟨a, b, rfl⟩ : ∃ a b, y = ix2 (n0 := 128) (n1 := 256) a b := ⟨_, _, eq_ix2 y⟩
  have e := rows_col (R := 128) (cc0_transform_10 (grid0.coords t)) ((((cfgM m hO).win 10).blk t).view.emb (ix2 a b)) b rfl h1
  have hr : ((((cfgM m hO).win 10).blk t).view.emb (ix2 a b) (0 : Fin 2)).val = 128 * t.val + a.val := by
    show cc0_transform_10 (grid0.coords t) (0 : Fin 2) * 128 + 1 * a.val = _; omega
  unfold outsAt0
  dsimp only
  refine (congrFun (out10_eq c (grid0.coords t) _ _ _ _ _ _ _ _ _ _ _ _ _ _ _ _ _ _ _ _ _ _ (blk0 m hO c t) (blk1 m hO c t) (blk2 m hO c t) (blk3 m hO c t) (blk4 m hO c t) (blk5 m hO c t) (blk6 m hO c t) (tbl m 0)) (ix2 a b)).trans ?_
  refine (pay4_apply (blk2 m hO c t) (blk3 m hO c t) (blk4 m hO c t) (blk5 m hO c t) (blk6 m hO c t) a b).trans (Eq.trans ?_ (congrArg (second m c) e))
  rw [blk3_apply m hO c t a b _ hr, blk4_apply m hO c t a b _ hr, blk5_apply m hO c t a b _ hr, blk6_apply m hO c t a b _ hr, blk2_apply m hO c t a b _ hr]
  rfl

theorem final10 (hO : Ok m) (c : Dev nD) : (dats m hO 0 c).arrAt 10 (cfgM m hO).N = second m c := by
  refine (dats m hO 0 c).arrAt_eq_of_cover 10 _ (fun t hf => ?_) (fun (i : S128x256.Idx) => ?_)
  · show ((cfgM m hO).win 10).cut (grid0.coords t) ((dats m hO 0 c).after 10 t) = _
    rw [after0_10]
    funext y
    exact ((View.read_apply _ _).trans ((cast_eq _ _).trans (point10 m hO c t y).symm)).symm
  · have i0 : (i 0).val < 128 := (i 0).isLt
    have hN : (cfgM m hO).N = 1 := N_0
    obtain ⟨-, -, -, -, -, -, ⟨h0, h1⟩, -⟩ := idx ⟨(i 0).val / 128, by rw [N_0]; omega⟩
    have hm := rows_mem (r := 128) (cc0_transform_10 (grid0.coords ⟨(i 0).val / 128, by rw [N_0]; omega⟩)) i (by decide) h0 h1
    exact ⟨⟨(i 0).val / 128, by omega⟩, flush0_10 _ _, ((iff_of_eq (congrArg (i ∈ ·) (View.set_slice_whole main_v1_3 (((cfgM m hO).win 10).rect _)))).trans Rect.mem_set_unit).mpr hm⟩

/-- The run, its results named. -/
theorem run (hO : Ok m) : θ_run defs (onTc (τ := τ) (main (F := Ideal))) ⟨m, fun _ => 0, ρ⟩ fun r => ∀ c : Dev nD,
      r.2.mem ((c : Thread nD τ).loc main_v1_0) = grad m c
      ∧ r.2.mem ((c : Thread nD τ).loc main_v1_1) = step m c
      ∧ r.2.mem ((c : Thread nD τ).loc main_v1_2) = first m c
      ∧ r.2.mem ((c : Thread nD τ).loc main_v1_3) = second m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 7).trans (final7 m hO c), ((h c).1 8).trans (final8 m hO c),
      ((h c).1 9).trans (final9 m hO c), ((h c).1 10).trans (final10 m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).1 3).trans (((dats m hO 0 c).arrAt_in 3 rfl _).trans ((A_eq m hO c 3).trans (V_main_arg3 m c))),
      ((h c).1 4).trans (((dats m hO 0 c).arrAt_in 4 rfl _).trans ((A_eq m hO c 4).trans (V_main_arg4 m c)))⟩)
    (run_main m ρ hO)

/-- The kernel and the reference end with one gradient and one step. -/
theorem algebraic : Cert.algebraic_AdamPoolIdeal_AdamPoolRefIdeal := by
  intro m ρ m' ρ' _ hagree
  refine ⟨_, _, _, _, run m ρ (ok m), ?_⟩
  refine (θ_run Cert.AdamPoolRefIdeal.defs _ _).mono (fun _ h c => ⟨?_, ?_, ?_, ?_, (h c).2.2.2.2⟩) (Cert.AdamPoolRefIdeal.Value.run (F := Ideal) m' ρ')
  · rw [(h c).1, (hagree c).2.2.2.1, (hagree c).2.2.2.2]
    funext i
    obtain ⟨a, b, rfl⟩ : ∃ a b, i = ix2 (n0 := 128) (n1 := 256) a b := ⟨_, _, eq_ix2 i⟩
    exact parts4 (M := 128) (N := 256) (m ((c : Thread nD τ).loc main_arg3)) (m ((c : Thread nD τ).loc main_arg4)) _ _ _ _ _ _ a b
  · rw [(h c).2.1, (hagree c).1, (hagree c).2.1, (hagree c).2.2.1, (hagree c).2.2.2.1, (hagree c).2.2.2.2]
    funext i
    obtain ⟨a, b, rfl⟩ : ∃ a b, i = ix2 (n0 := 128) (n1 := 256) a b := ⟨_, _, eq_ix2 i⟩
    exact congrArg (stepE (m ((c : Thread nD τ).loc main_arg0) (ix2 a b)) · (m ((c : Thread nD τ).loc main_arg1) (ix2 a b)) (m ((c : Thread nD τ).loc main_arg2) (ix2 a b))) (parts4 (M := 128) (N := 256) (m ((c : Thread nD τ).loc main_arg3)) (m ((c : Thread nD τ).loc main_arg4)) _ _ _ _ _ _ a b)
  · rw [(h c).2.2.1, (hagree c).2.1, (hagree c).2.2.2.1, (hagree c).2.2.2.2]
    funext i
    obtain ⟨a, b, rfl⟩ : ∃ a b, i = ix2 (n0 := 128) (n1 := 256) a b := ⟨_, _, eq_ix2 i⟩
    exact congrArg (firstE · (m ((c : Thread nD τ).loc main_arg1) (ix2 a b))) (parts4 (M := 128) (N := 256) (m ((c : Thread nD τ).loc main_arg3)) (m ((c : Thread nD τ).loc main_arg4)) _ _ _ _ _ _ a b)
  · rw [(h c).2.2.2.1, (hagree c).2.2.1, (hagree c).2.2.2.1, (hagree c).2.2.2.2]
    funext i
    obtain ⟨a, b, rfl⟩ : ∃ a b, i = ix2 (n0 := 128) (n1 := 256) a b := ⟨_, _, eq_ix2 i⟩
    exact congrArg (secondE · (m ((c : Thread nD τ).loc main_arg2) (ix2 a b))) (parts4 (M := 128) (N := 256) (m ((c : Thread nD τ).loc main_arg3)) (m ((c : Thread nD τ).loc main_arg4)) _ _ _ _ _ _ a b)

end Cert.AdamPoolIdeal.Step

end
-- ==== Proof.Products.AdamSmallA.lean ====
/- The AdamW step of three of the small weights, in one call: element by element. -/
module

public import proofs.«01_k».proof.Defs
public import proofs.«01_k».proof.Proof.Products.Adam
public import proofs.«01_k».proof.Proof.Gen.AdamSmallAIdeal.Value
public import proofs.«01_k».proof.Proof.Gen.AdamSmallARefIdeal.Run

@[expose] public section

noncomputable section

namespace Cert.AdamSmallAIdeal.Step

open Cert.AdamSmallAIdeal Cert.AdamSmallAIdeal.Gen Cert.Products Idealize.ShloMosaic Idealize.ShloMosaic.TcCoe Idealize.SL.Sem

/-- The kernel and the reference end with one step of every weight. -/
theorem algebraic : Cert.algebraic_AdamSmallAIdeal_AdamSmallARefIdeal := by
  intro m ρ m' ρ' _ hagree
  refine ⟨fun c => stepV (S := S1x2048) (m ((c : Thread nD τ).loc main_arg0)) (m ((c : Thread nD τ).loc main_arg3)) (m ((c : Thread nD τ).loc main_arg6)) (m ((c : Thread nD τ).loc main_arg9)),
    fun c => stepV (S := S1x1024) (m ((c : Thread nD τ).loc main_arg1)) (m ((c : Thread nD τ).loc main_arg4)) (m ((c : Thread nD τ).loc main_arg7)) (m ((c : Thread nD τ).loc main_arg10)),
    fun c => stepV (S := S1x2048) (m ((c : Thread nD τ).loc main_arg2)) (m ((c : Thread nD τ).loc main_arg5)) (m ((c : Thread nD τ).loc main_arg8)) (m ((c : Thread nD τ).loc main_arg11)),
    fun c => firstV (S := S1x2048) (m ((c : Thread nD τ).loc main_arg3)) (m ((c : Thread nD τ).loc main_arg6)),
    fun c => firstV (S := S1x1024) (m ((c : Thread nD τ).loc main_arg4)) (m ((c : Thread nD τ).loc main_arg7)),
    fun c => firstV (S := S1x2048) (m ((c : Thread nD τ).loc main_arg5)) (m ((c : Thread nD τ).loc main_arg8)),
    fun c => secondV (S := S1x2048) (m ((c : Thread nD τ).loc main_arg3)) (m ((c : Thread nD τ).loc main_arg9)),
    fun c => secondV (S := S1x1024) (m ((c : Thread nD τ).loc main_arg4)) (m ((c : Thread nD τ).loc main_arg10)),
    fun c => secondV (S := S1x2048) (m ((c : Thread nD τ).loc main_arg5)) (m ((c : Thread nD τ).loc main_arg11)),
    (θ_run defs _ _).mono (fun r h c => ?_) (Value.run m ρ), ?_⟩
  · obtain ⟨h0, h1, h2, h3, h4, h5, h6, h7, h8, kept⟩ := h c
    exact ⟨h0.trans rfl, h1.trans rfl, h2.trans rfl, h3.trans rfl, h4.trans rfl, h5.trans rfl, h6.trans rfl, h7.trans rfl, h8.trans rfl, kept⟩
  · refine (θ_run Cert.AdamSmallARefIdeal.defs _ _).mono (fun _ h c => ?_) (Cert.AdamSmallARefIdeal.Value.run (F := Ideal) m' ρ')
    obtain ⟨h0, h1, h2, h3, h4, h5, h6, h7, h8, kept⟩ := h c
    obtain ⟨e0, e1, e2, e3, e4, e5, e6, e7, e8, e9, e10, e11⟩ := hagree c
    exact ⟨h0.trans ((show _ = stepV (S := S1x2048) (m' ((c.tc : Thread Cert.AdamSmallARefIdeal.nD Cert.AdamSmallARefIdeal.τ).loc Cert.AdamSmallARefIdeal.main_arg0)) (m' ((c.tc : Thread Cert.AdamSmallARefIdeal.nD Cert.AdamSmallARefIdeal.τ).loc Cert.AdamSmallARefIdeal.main_arg3)) (m' ((c.tc : Thread Cert.AdamSmallARefIdeal.nD Cert.AdamSmallARefIdeal.τ).loc Cert.AdamSmallARefIdeal.main_arg6)) (m' ((c.tc : Thread Cert.AdamSmallARefIdeal.nD Cert.AdamSmallARefIdeal.τ).loc Cert.AdamSmallARefIdeal.main_arg9)) from rfl).trans (stepV_congr e0 e3 e6 e9)),
      h1.trans ((show _ = stepV (S := S1x1024) (m' ((c.tc : Thread Cert.AdamSmallARefIdeal.nD Cert.AdamSmallARefIdeal.τ).loc Cert.AdamSmallARefIdeal.main_arg1)) (m' ((c.tc : Thread Cert.AdamSmallARefIdeal.nD Cert.AdamSmallARefIdeal.τ).loc Cert.AdamSmallARefIdeal.main_arg4)) (m' ((c.tc : Thread Cert.AdamSmallARefIdeal.nD Cert.AdamSmallARefIdeal.τ).loc Cert.AdamSmallARefIdeal.main_arg7)) (m' ((c.tc : Thread Cert.AdamSmallARefIdeal.nD Cert.AdamSmallARefIdeal.τ).loc Cert.AdamSmallARefIdeal.main_arg10)) from rfl).trans (stepV_congr e1 e4 e7 e10)),
      h2.trans ((show _ = stepV (S := S1x2048) (m' ((c.tc : Thread Cert.AdamSmallARefIdeal.nD Cert.AdamSmallARefIdeal.τ).loc Cert.AdamSmallARefIdeal.main_arg2)) (m' ((c.tc : Thread Cert.AdamSmallARefIdeal.nD Cert.AdamSmallARefIdeal.τ).loc Cert.AdamSmallARefIdeal.main_arg5)) (m' ((c.tc : Thread Cert.AdamSmallARefIdeal.nD Cert.AdamSmallARefIdeal.τ).loc Cert.AdamSmallARefIdeal.main_arg8)) (m' ((c.tc : Thread Cert.AdamSmallARefIdeal.nD Cert.AdamSmallARefIdeal.τ).loc Cert.AdamSmallARefIdeal.main_arg11)) from rfl).trans (stepV_congr e2 e5 e8 e11)),
      h3.trans ((show _ = firstV (S := S1x2048) (m' ((c.tc : Thread Cert.AdamSmallARefIdeal.nD Cert.AdamSmallARefIdeal.τ).loc Cert.AdamSmallARefIdeal.main_arg3)) (m' ((c.tc : Thread Cert.AdamSmallARefIdeal.nD Cert.AdamSmallARefIdeal.τ).loc Cert.AdamSmallARefIdeal.main_arg6)) from rfl).trans (firstV_congr e3 e6)),
      h4.trans ((show _ = firstV (S := S1x1024) (m' ((c.tc : Thread Cert.AdamSmallARefIdeal.nD Cert.AdamSmallARefIdeal.τ).loc Cert.AdamSmallARefIdeal.main_arg4)) (m' ((c.tc : Thread Cert.AdamSmallARefIdeal.nD Cert.AdamSmallARefIdeal.τ).loc Cert.AdamSmallARefIdeal.main_arg7)) from rfl).trans (firstV_congr e4 e7)),
      h5.trans ((show _ = firstV (S := S1x2048) (m' ((c.tc : Thread Cert.AdamSmallARefIdeal.nD Cert.AdamSmallARefIdeal.τ).loc Cert.AdamSmallARefIdeal.main_arg5)) (m' ((c.tc : Thread Cert.AdamSmallARefIdeal.nD Cert.AdamSmallARefIdeal.τ).loc Cert.AdamSmallARefIdeal.main_arg8)) from rfl).trans (firstV_congr e5 e8)),
      h6.trans ((show _ = secondV (S := S1x2048) (m' ((c.tc : Thread Cert.AdamSmallARefIdeal.nD Cert.AdamSmallARefIdeal.τ).loc Cert.AdamSmallARefIdeal.main_arg3)) (m' ((c.tc : Thread Cert.AdamSmallARefIdeal.nD Cert.AdamSmallARefIdeal.τ).loc Cert.AdamSmallARefIdeal.main_arg9)) from rfl).trans (secondV_congr e3 e9)),
      h7.trans ((show _ = secondV (S := S1x1024) (m' ((c.tc : Thread Cert.AdamSmallARefIdeal.nD Cert.AdamSmallARefIdeal.τ).loc Cert.AdamSmallARefIdeal.main_arg4)) (m' ((c.tc : Thread Cert.AdamSmallARefIdeal.nD Cert.AdamSmallARefIdeal.τ).loc Cert.AdamSmallARefIdeal.main_arg10)) from rfl).trans (secondV_congr e4 e10)),
      h8.trans ((show _ = secondV (S := S1x2048) (m' ((c.tc : Thread Cert.AdamSmallARefIdeal.nD Cert.AdamSmallARefIdeal.τ).loc Cert.AdamSmallARefIdeal.main_arg5)) (m' ((c.tc : Thread Cert.AdamSmallARefIdeal.nD Cert.AdamSmallARefIdeal.τ).loc Cert.AdamSmallARefIdeal.main_arg11)) from rfl).trans (secondV_congr e5 e11)), kept⟩

end Cert.AdamSmallAIdeal.Step

end
-- ==== Proof.Products.AdamSmallB.lean ====
/- The AdamW step of three of the small weights, in one call: element by element. -/
module

public import proofs.«01_k».proof.Defs
public import proofs.«01_k».proof.Proof.Products.Adam
public import proofs.«01_k».proof.Proof.Gen.AdamSmallBIdeal.Value
public import proofs.«01_k».proof.Proof.Gen.AdamSmallBRefIdeal.Run

@[expose] public section

noncomputable section

namespace Cert.AdamSmallBIdeal.Step

open Cert.AdamSmallBIdeal Cert.AdamSmallBIdeal.Gen Cert.Products Idealize.ShloMosaic Idealize.ShloMosaic.TcCoe Idealize.SL.Sem

/-- The kernel and the reference end with one step of every weight. -/
theorem algebraic : Cert.algebraic_AdamSmallBIdeal_AdamSmallBRefIdeal := by
  intro m ρ m' ρ' _ hagree
  refine ⟨fun c => stepV (S := S1x256) (m ((c : Thread nD τ).loc main_arg0)) (m ((c : Thread nD τ).loc main_arg3)) (m ((c : Thread nD τ).loc main_arg6)) (m ((c : Thread nD τ).loc main_arg9)),
    fun c => stepV (S := S3x128) (m ((c : Thread nD τ).loc main_arg1)) (m ((c : Thread nD τ).loc main_arg4)) (m ((c : Thread nD τ).loc main_arg7)) (m ((c : Thread nD τ).loc main_arg10)),
    fun c => stepV (S := S31x128) (m ((c : Thread nD τ).loc main_arg2)) (m ((c : Thread nD τ).loc main_arg5)) (m ((c : Thread nD τ).loc main_arg8)) (m ((c : Thread nD τ).loc main_arg11)),
    fun c => firstV (S := S1x256) (m ((c : Thread nD τ).loc main_arg3)) (m ((c : Thread nD τ).loc main_arg6)),
    fun c => firstV (S := S3x128) (m ((c : Thread nD τ).loc main_arg4)) (m ((c : Thread nD τ).loc main_arg7)),
    fun c => firstV (S := S31x128) (m ((c : Thread nD τ).loc main_arg5)) (m ((c : Thread nD τ).loc main_arg8)),
    fun c => secondV (S := S1x256) (m ((c : Thread nD τ).loc main_arg3)) (m ((c : Thread nD τ).loc main_arg9)),
    fun c => secondV (S := S3x128) (m ((c : Thread nD τ).loc main_arg4)) (m ((c : Thread nD τ).loc main_arg10)),
    fun c => secondV (S := S31x128) (m ((c : Thread nD τ).loc main_arg5)) (m ((c : Thread nD τ).loc main_arg11)),
    (θ_run defs _ _).mono (fun r h c => ?_) (Value.run m ρ), ?_⟩
  · obtain ⟨h0, h1, h2, h3, h4, h5, h6, h7, h8, kept⟩ := h c
    exact ⟨h0.trans rfl, h1.trans rfl, h2.trans rfl, h3.trans rfl, h4.trans rfl, h5.trans rfl, h6.trans rfl, h7.trans rfl, h8.trans rfl, kept⟩
  · refine (θ_run Cert.AdamSmallBRefIdeal.defs _ _).mono (fun _ h c => ?_) (Cert.AdamSmallBRefIdeal.Value.run (F := Ideal) m' ρ')
    obtain ⟨h0, h1, h2, h3, h4, h5, h6, h7, h8, kept⟩ := h c
    obtain ⟨e0, e1, e2, e3, e4, e5, e6, e7, e8, e9, e10, e11⟩ := hagree c
    exact ⟨h0.trans ((show _ = stepV (S := S1x256) (m' ((c.tc : Thread Cert.AdamSmallBRefIdeal.nD Cert.AdamSmallBRefIdeal.τ).loc Cert.AdamSmallBRefIdeal.main_arg0)) (m' ((c.tc : Thread Cert.AdamSmallBRefIdeal.nD Cert.AdamSmallBRefIdeal.τ).loc Cert.AdamSmallBRefIdeal.main_arg3)) (m' ((c.tc : Thread Cert.AdamSmallBRefIdeal.nD Cert.AdamSmallBRefIdeal.τ).loc Cert.AdamSmallBRefIdeal.main_arg6)) (m' ((c.tc : Thread Cert.AdamSmallBRefIdeal.nD Cert.AdamSmallBRefIdeal.τ).loc Cert.AdamSmallBRefIdeal.main_arg9)) from rfl).trans (stepV_congr e0 e3 e6 e9)),
      h1.trans ((show _ = stepV (S := S3x128) (m' ((c.tc : Thread Cert.AdamSmallBRefIdeal.nD Cert.AdamSmallBRefIdeal.τ).loc Cert.AdamSmallBRefIdeal.main_arg1)) (m' ((c.tc : Thread Cert.AdamSmallBRefIdeal.nD Cert.AdamSmallBRefIdeal.τ).loc Cert.AdamSmallBRefIdeal.main_arg4)) (m' ((c.tc : Thread Cert.AdamSmallBRefIdeal.nD Cert.AdamSmallBRefIdeal.τ).loc Cert.AdamSmallBRefIdeal.main_arg7)) (m' ((c.tc : Thread Cert.AdamSmallBRefIdeal.nD Cert.AdamSmallBRefIdeal.τ).loc Cert.AdamSmallBRefIdeal.main_arg10)) from rfl).trans (stepV_congr e1 e4 e7 e10)),
      h2.trans ((show _ = stepV (S := S31x128) (m' ((c.tc : Thread Cert.AdamSmallBRefIdeal.nD Cert.AdamSmallBRefIdeal.τ).loc Cert.AdamSmallBRefIdeal.main_arg2)) (m' ((c.tc : Thread Cert.AdamSmallBRefIdeal.nD Cert.AdamSmallBRefIdeal.τ).loc Cert.AdamSmallBRefIdeal.main_arg5)) (m' ((c.tc : Thread Cert.AdamSmallBRefIdeal.nD Cert.AdamSmallBRefIdeal.τ).loc Cert.AdamSmallBRefIdeal.main_arg8)) (m' ((c.tc : Thread Cert.AdamSmallBRefIdeal.nD Cert.AdamSmallBRefIdeal.τ).loc Cert.AdamSmallBRefIdeal.main_arg11)) from rfl).trans (stepV_congr e2 e5 e8 e11)),
      h3.trans ((show _ = firstV (S := S1x256) (m' ((c.tc : Thread Cert.AdamSmallBRefIdeal.nD Cert.AdamSmallBRefIdeal.τ).loc Cert.AdamSmallBRefIdeal.main_arg3)) (m' ((c.tc : Thread Cert.AdamSmallBRefIdeal.nD Cert.AdamSmallBRefIdeal.τ).loc Cert.AdamSmallBRefIdeal.main_arg6)) from rfl).trans (firstV_congr e3 e6)),
      h4.trans ((show _ = firstV (S := S3x128) (m' ((c.tc : Thread Cert.AdamSmallBRefIdeal.nD Cert.AdamSmallBRefIdeal.τ).loc Cert.AdamSmallBRefIdeal.main_arg4)) (m' ((c.tc : Thread Cert.AdamSmallBRefIdeal.nD Cert.AdamSmallBRefIdeal.τ).loc Cert.AdamSmallBRefIdeal.main_arg7)) from rfl).trans (firstV_congr e4 e7)),
      h5.trans ((show _ = firstV (S := S31x128) (m' ((c.tc : Thread Cert.AdamSmallBRefIdeal.nD Cert.AdamSmallBRefIdeal.τ).loc Cert.AdamSmallBRefIdeal.main_arg5)) (m' ((c.tc : Thread Cert.AdamSmallBRefIdeal.nD Cert.AdamSmallBRefIdeal.τ).loc Cert.AdamSmallBRefIdeal.main_arg8)) from rfl).trans (firstV_congr e5 e8)),
      h6.trans ((show _ = secondV (S := S1x256) (m' ((c.tc : Thread Cert.AdamSmallBRefIdeal.nD Cert.AdamSmallBRefIdeal.τ).loc Cert.AdamSmallBRefIdeal.main_arg3)) (m' ((c.tc : Thread Cert.AdamSmallBRefIdeal.nD Cert.AdamSmallBRefIdeal.τ).loc Cert.AdamSmallBRefIdeal.main_arg9)) from rfl).trans (secondV_congr e3 e9)),
      h7.trans ((show _ = secondV (S := S3x128) (m' ((c.tc : Thread Cert.AdamSmallBRefIdeal.nD Cert.AdamSmallBRefIdeal.τ).loc Cert.AdamSmallBRefIdeal.main_arg4)) (m' ((c.tc : Thread Cert.AdamSmallBRefIdeal.nD Cert.AdamSmallBRefIdeal.τ).loc Cert.AdamSmallBRefIdeal.main_arg10)) from rfl).trans (secondV_congr e4 e10)),
      h8.trans ((show _ = secondV (S := S31x128) (m' ((c.tc : Thread Cert.AdamSmallBRefIdeal.nD Cert.AdamSmallBRefIdeal.τ).loc Cert.AdamSmallBRefIdeal.main_arg5)) (m' ((c.tc : Thread Cert.AdamSmallBRefIdeal.nD Cert.AdamSmallBRefIdeal.τ).loc Cert.AdamSmallBRefIdeal.main_arg11)) from rfl).trans (secondV_congr e5 e11)), kept⟩

end Cert.AdamSmallBIdeal.Step

end
-- ==== Proof.Products.AdamSmallC.lean ====
/- The AdamW step of two of the small weights, in one call: element by element. -/
module

public import proofs.«01_k».proof.Defs
public import proofs.«01_k».proof.Proof.Products.Adam
public import proofs.«01_k».proof.Proof.Gen.AdamSmallCIdeal.Value
public import proofs.«01_k».proof.Proof.Gen.AdamSmallCRefIdeal.Run

@[expose] public section

noncomputable section

namespace Cert.AdamSmallCIdeal.Step

open Cert.AdamSmallCIdeal Cert.AdamSmallCIdeal.Gen Cert.Products Idealize.ShloMosaic Idealize.ShloMosaic.TcCoe Idealize.SL.Sem

/-- The kernel and the reference end with one step of every weight. -/
theorem algebraic : Cert.algebraic_AdamSmallCIdeal_AdamSmallCRefIdeal := by
  intro m ρ m' ρ' _ hagree
  refine ⟨fun c => stepV (S := S1x128) (m ((c : Thread nD τ).loc main_arg0)) (m ((c : Thread nD τ).loc main_arg2)) (m ((c : Thread nD τ).loc main_arg4)) (m ((c : Thread nD τ).loc main_arg6)),
    fun c => stepV (S := S1x128) (m ((c : Thread nD τ).loc main_arg1)) (m ((c : Thread nD τ).loc main_arg3)) (m ((c : Thread nD τ).loc main_arg5)) (m ((c : Thread nD τ).loc main_arg7)),
    fun c => firstV (S := S1x128) (m ((c : Thread nD τ).loc main_arg2)) (m ((c : Thread nD τ).loc main_arg4)),
    fun c => firstV (S := S1x128) (m ((c : Thread nD τ).loc main_arg3)) (m ((c : Thread nD τ).loc main_arg5)),
    fun c => secondV (S := S1x128) (m ((c : Thread nD τ).loc main_arg2)) (m ((c : Thread nD τ).loc main_arg6)),
    fun c => secondV (S := S1x128) (m ((c : Thread nD τ).loc main_arg3)) (m ((c : Thread nD τ).loc main_arg7)),
    (θ_run defs _ _).mono (fun r h c => ?_) (Value.run m ρ), ?_⟩
  · obtain ⟨h0, h1, h2, h3, h4, h5, kept⟩ := h c
    exact ⟨h0.trans rfl, h1.trans rfl, h2.trans rfl, h3.trans rfl, h4.trans rfl, h5.trans rfl, kept⟩
  · refine (θ_run Cert.AdamSmallCRefIdeal.defs _ _).mono (fun _ h c => ?_) (Cert.AdamSmallCRefIdeal.Value.run (F := Ideal) m' ρ')
    obtain ⟨h0, h1, h2, h3, h4, h5, kept⟩ := h c
    obtain ⟨e0, e1, e2, e3, e4, e5, e6, e7⟩ := hagree c
    exact ⟨h0.trans ((show _ = stepV (S := S1x128) (m' ((c.tc : Thread Cert.AdamSmallCRefIdeal.nD Cert.AdamSmallCRefIdeal.τ).loc Cert.AdamSmallCRefIdeal.main_arg0)) (m' ((c.tc : Thread Cert.AdamSmallCRefIdeal.nD Cert.AdamSmallCRefIdeal.τ).loc Cert.AdamSmallCRefIdeal.main_arg2)) (m' ((c.tc : Thread Cert.AdamSmallCRefIdeal.nD Cert.AdamSmallCRefIdeal.τ).loc Cert.AdamSmallCRefIdeal.main_arg4)) (m' ((c.tc : Thread Cert.AdamSmallCRefIdeal.nD Cert.AdamSmallCRefIdeal.τ).loc Cert.AdamSmallCRefIdeal.main_arg6)) from rfl).trans (stepV_congr e0 e2 e4 e6)),
      h1.trans ((show _ = stepV (S := S1x128) (m' ((c.tc : Thread Cert.AdamSmallCRefIdeal.nD Cert.AdamSmallCRefIdeal.τ).loc Cert.AdamSmallCRefIdeal.main_arg1)) (m' ((c.tc : Thread Cert.AdamSmallCRefIdeal.nD Cert.AdamSmallCRefIdeal.τ).loc Cert.AdamSmallCRefIdeal.main_arg3)) (m' ((c.tc : Thread Cert.AdamSmallCRefIdeal.nD Cert.AdamSmallCRefIdeal.τ).loc Cert.AdamSmallCRefIdeal.main_arg5)) (m' ((c.tc : Thread Cert.AdamSmallCRefIdeal.nD Cert.AdamSmallCRefIdeal.τ).loc Cert.AdamSmallCRefIdeal.main_arg7)) from rfl).trans (stepV_congr e1 e3 e5 e7)),
      h2.trans ((show _ = firstV (S := S1x128) (m' ((c.tc : Thread Cert.AdamSmallCRefIdeal.nD Cert.AdamSmallCRefIdeal.τ).loc Cert.AdamSmallCRefIdeal.main_arg2)) (m' ((c.tc : Thread Cert.AdamSmallCRefIdeal.nD Cert.AdamSmallCRefIdeal.τ).loc Cert.AdamSmallCRefIdeal.main_arg4)) from rfl).trans (firstV_congr e2 e4)),
      h3.trans ((show _ = firstV (S := S1x128) (m' ((c.tc : Thread Cert.AdamSmallCRefIdeal.nD Cert.AdamSmallCRefIdeal.τ).loc Cert.AdamSmallCRefIdeal.main_arg3)) (m' ((c.tc : Thread Cert.AdamSmallCRefIdeal.nD Cert.AdamSmallCRefIdeal.τ).loc Cert.AdamSmallCRefIdeal.main_arg5)) from rfl).trans (firstV_congr e3 e5)),
      h4.trans ((show _ = secondV (S := S1x128) (m' ((c.tc : Thread Cert.AdamSmallCRefIdeal.nD Cert.AdamSmallCRefIdeal.τ).loc Cert.AdamSmallCRefIdeal.main_arg2)) (m' ((c.tc : Thread Cert.AdamSmallCRefIdeal.nD Cert.AdamSmallCRefIdeal.τ).loc Cert.AdamSmallCRefIdeal.main_arg6)) from rfl).trans (secondV_congr e2 e6)),
      h5.trans ((show _ = secondV (S := S1x128) (m' ((c.tc : Thread Cert.AdamSmallCRefIdeal.nD Cert.AdamSmallCRefIdeal.τ).loc Cert.AdamSmallCRefIdeal.main_arg3)) (m' ((c.tc : Thread Cert.AdamSmallCRefIdeal.nD Cert.AdamSmallCRefIdeal.τ).loc Cert.AdamSmallCRefIdeal.main_arg7)) from rfl).trans (secondV_congr e3 e7)), kept⟩

end Cert.AdamSmallCIdeal.Step

end
-- ==== Proof.Products.AdamSmallD.lean ====
/- The AdamW step of two of the small weights, in one call: element by element. -/
module

public import proofs.«01_k».proof.Defs
public import proofs.«01_k».proof.Proof.Products.Adam
public import proofs.«01_k».proof.Proof.Gen.AdamSmallDIdeal.Value
public import proofs.«01_k».proof.Proof.Gen.AdamSmallDRefIdeal.Run

@[expose] public section

noncomputable section

namespace Cert.AdamSmallDIdeal.Step

open Cert.AdamSmallDIdeal Cert.AdamSmallDIdeal.Gen Cert.Products Idealize.ShloMosaic Idealize.ShloMosaic.TcCoe Idealize.SL.Sem

/-- The kernel and the reference end with one step of every weight. -/
theorem algebraic : Cert.algebraic_AdamSmallDIdeal_AdamSmallDRefIdeal := by
  intro m ρ m' ρ' _ hagree
  refine ⟨fun c => stepV (S := S1x128) (m ((c : Thread nD τ).loc main_arg0)) (m ((c : Thread nD τ).loc main_arg2)) (m ((c : Thread nD τ).loc main_arg4)) (m ((c : Thread nD τ).loc main_arg6)),
    fun c => stepV (S := S1x256) (m ((c : Thread nD τ).loc main_arg1)) (m ((c : Thread nD τ).loc main_arg3)) (m ((c : Thread nD τ).loc main_arg5)) (m ((c : Thread nD τ).loc main_arg7)),
    fun c => firstV (S := S1x128) (m ((c : Thread nD τ).loc main_arg2)) (m ((c : Thread nD τ).loc main_arg4)),
    fun c => firstV (S := S1x256) (m ((c : Thread nD τ).loc main_arg3)) (m ((c : Thread nD τ).loc main_arg5)),
    fun c => secondV (S := S1x128) (m ((c : Thread nD τ).loc main_arg2)) (m ((c : Thread nD τ).loc main_arg6)),
    fun c => secondV (S := S1x256) (m ((c : Thread nD τ).loc main_arg3)) (m ((c : Thread nD τ).loc main_arg7)),
    (θ_run defs _ _).mono (fun r h c => ?_) (Value.run m ρ), ?_⟩
  · obtain ⟨h0, h1, h2, h3, h4, h5, kept⟩ := h c
    exact ⟨h0.trans rfl, h1.trans rfl, h2.trans rfl, h3.trans rfl, h4.trans rfl, h5.trans rfl, kept⟩
  · refine (θ_run Cert.AdamSmallDRefIdeal.defs _ _).mono (fun _ h c => ?_) (Cert.AdamSmallDRefIdeal.Value.run (F := Ideal) m' ρ')
    obtain ⟨h0, h1, h2, h3, h4, h5, kept⟩ := h c
    obtain ⟨e0, e1, e2, e3, e4, e5, e6, e7⟩ := hagree c
    exact ⟨h0.trans ((show _ = stepV (S := S1x128) (m' ((c.tc : Thread Cert.AdamSmallDRefIdeal.nD Cert.AdamSmallDRefIdeal.τ).loc Cert.AdamSmallDRefIdeal.main_arg0)) (m' ((c.tc : Thread Cert.AdamSmallDRefIdeal.nD Cert.AdamSmallDRefIdeal.τ).loc Cert.AdamSmallDRefIdeal.main_arg2)) (m' ((c.tc : Thread Cert.AdamSmallDRefIdeal.nD Cert.AdamSmallDRefIdeal.τ).loc Cert.AdamSmallDRefIdeal.main_arg4)) (m' ((c.tc : Thread Cert.AdamSmallDRefIdeal.nD Cert.AdamSmallDRefIdeal.τ).loc Cert.AdamSmallDRefIdeal.main_arg6)) from rfl).trans (stepV_congr e0 e2 e4 e6)),
      h1.trans ((show _ = stepV (S := S1x256) (m' ((c.tc : Thread Cert.AdamSmallDRefIdeal.nD Cert.AdamSmallDRefIdeal.τ).loc Cert.AdamSmallDRefIdeal.main_arg1)) (m' ((c.tc : Thread Cert.AdamSmallDRefIdeal.nD Cert.AdamSmallDRefIdeal.τ).loc Cert.AdamSmallDRefIdeal.main_arg3)) (m' ((c.tc : Thread Cert.AdamSmallDRefIdeal.nD Cert.AdamSmallDRefIdeal.τ).loc Cert.AdamSmallDRefIdeal.main_arg5)) (m' ((c.tc : Thread Cert.AdamSmallDRefIdeal.nD Cert.AdamSmallDRefIdeal.τ).loc Cert.AdamSmallDRefIdeal.main_arg7)) from rfl).trans (stepV_congr e1 e3 e5 e7)),
      h2.trans ((show _ = firstV (S := S1x128) (m' ((c.tc : Thread Cert.AdamSmallDRefIdeal.nD Cert.AdamSmallDRefIdeal.τ).loc Cert.AdamSmallDRefIdeal.main_arg2)) (m' ((c.tc : Thread Cert.AdamSmallDRefIdeal.nD Cert.AdamSmallDRefIdeal.τ).loc Cert.AdamSmallDRefIdeal.main_arg4)) from rfl).trans (firstV_congr e2 e4)),
      h3.trans ((show _ = firstV (S := S1x256) (m' ((c.tc : Thread Cert.AdamSmallDRefIdeal.nD Cert.AdamSmallDRefIdeal.τ).loc Cert.AdamSmallDRefIdeal.main_arg3)) (m' ((c.tc : Thread Cert.AdamSmallDRefIdeal.nD Cert.AdamSmallDRefIdeal.τ).loc Cert.AdamSmallDRefIdeal.main_arg5)) from rfl).trans (firstV_congr e3 e5)),
      h4.trans ((show _ = secondV (S := S1x128) (m' ((c.tc : Thread Cert.AdamSmallDRefIdeal.nD Cert.AdamSmallDRefIdeal.τ).loc Cert.AdamSmallDRefIdeal.main_arg2)) (m' ((c.tc : Thread Cert.AdamSmallDRefIdeal.nD Cert.AdamSmallDRefIdeal.τ).loc Cert.AdamSmallDRefIdeal.main_arg6)) from rfl).trans (secondV_congr e2 e6)),
      h5.trans ((show _ = secondV (S := S1x256) (m' ((c.tc : Thread Cert.AdamSmallDRefIdeal.nD Cert.AdamSmallDRefIdeal.τ).loc Cert.AdamSmallDRefIdeal.main_arg3)) (m' ((c.tc : Thread Cert.AdamSmallDRefIdeal.nD Cert.AdamSmallDRefIdeal.τ).loc Cert.AdamSmallDRefIdeal.main_arg7)) from rfl).trans (secondV_congr e3 e7)), kept⟩

end Cert.AdamSmallDIdeal.Step

end
-- ==== Proof.Products.Rows.lean ====
/- A packed array of rows of 128 words, cut and reshaped: its sum over eight chips, taken before or after the cutting. -/
module

public import proofs.«01_k».proof.Proof.Products.Sums
public import Idealize.ShloMosaic.Lib.IdealHost

@[expose] public section

noncomputable section

open scoped BigOperators

namespace Cert.Products

open Idealize.ShloMosaic Idealize.ShloMosaic.ValueIdx

variable {A r p q q' lo : Nat}

/-- The row and the column of the packed array that hold entry `(a, b)` of a gradient of `q` columns. -/
def rowOf (A q lo a b : Nat) (h : lo + (a * q + b) / 128 < A) : Fin A := ⟨lo + (a * q + b) / 128, h⟩
def colOf (q a b : Nat) : Fin 128 := ⟨(a * q + b) % 128, Nat.mod_lt _ (by decide)⟩

theorem row_lt (hr : r * 128 = p * q) (hA : lo + r ≤ A) (a : Fin p) (b : Fin q) : lo + (a.val * q + b.val) / 128 < A := by
  have h1 : a.val * q + b.val < p * q := by
    calc a.val * q + b.val < a.val * q + q := Nat.add_lt_add_left b.isLt _
      _ = (a.val + 1) * q := by ring
      _ ≤ p * q := Nat.mul_le_mul_right _ a.isLt
  have h2 : (a.val * q + b.val) / 128 < r := Nat.div_lt_of_lt_mul (by rw [Nat.mul_comm 128 r, hr]; exact h1)
  omega

/-- Rows `lo …` of the packed sum as a matrix of `q` columns. -/
theorem cut2_apply {α : Type} (x : (⟨2, ![A, 128]⟩ : Shape).Idx → α) (hs : Shape.Slices ⟨2, ![A, 128]⟩ ![lo, 0] ⟨2, ![r, 128]⟩)
    (hc : Shape.ShapeCasts ⟨2, ![r, 128]⟩ ⟨2, ![p, q]⟩) (hr : r * 128 = p * q) (hA : lo + r ≤ A) (a : Fin p) (b : Fin q) :
    shapeCast ⟨2, ![p, q]⟩ (extractStridedSlice ⟨2, ![r, 128]⟩ ![lo, 0] x hs) hc (ix2 a b)
      = x (ix2 (rowOf A q lo a b (row_lt hr hA a b)) (colOf q a b)) := by
  have hlt := row_lt (lo := 0) (A := r) hr (by omega) a b
  rw [Nat.zero_add] at hlt
  refine (shapeCast_apply _ _ _ (ix2 (⟨(a.val * q + b.val) / 128, hlt⟩ : Fin r) (colOf q a b)) ?_).trans
    (extractStridedSlice_apply _ _ _ _ _ fun d => ?_)
  · rw [Shape.rowMajor_val_two, Shape.rowMajor_val_two]
    show (a.val * q + b.val) / 128 * 128 + (a.val * q + b.val) % 128 = a.val * q + b.val
    omega
  · match d with
    | ⟨0, _⟩ => rfl
    | ⟨1, _⟩ => show (a.val * q + b.val) % 128 = 0 + (a.val * q + b.val) % 128; omega

/-- The same of every chip's packed array. -/
theorem cut3_apply {α : Type} (x : (⟨3, ![8, A, 128]⟩ : Shape).Idx → α) (hs : Shape.Slices ⟨3, ![8, A, 128]⟩ ![0, lo, 0] ⟨3, ![8, r, 128]⟩)
    (hc : Shape.ShapeCasts ⟨3, ![8, r, 128]⟩ ⟨3, ![8, p, q]⟩) (hr : r * 128 = p * q) (hA : lo + r ≤ A) (k : Fin 8) (a : Fin p) (b : Fin q) :
    shapeCast ⟨3, ![8, p, q]⟩ (extractStridedSlice ⟨3, ![8, r, 128]⟩ ![0, lo, 0] x hs) hc (ix3 k a b)
      = x (ix3 k (rowOf A q lo a b (row_lt hr hA a b)) (colOf q a b)) := by
  have hlt := row_lt (lo := 0) (A := r) hr (by omega) a b
  rw [Nat.zero_add] at hlt
  refine (shapeCast_apply _ _ _ (ix3 k (⟨(a.val * q + b.val) / 128, hlt⟩ : Fin r) (colOf q a b)) ?_).trans
    (extractStridedSlice_apply _ _ _ _ _ fun d => ?_)
  · rw [Shape.rowMajor_val_three, Shape.rowMajor_val_three]
    show (k.val * r + (a.val * q + b.val) / 128) * 128 + (a.val * q + b.val) % 128 = (k.val * p + a.val) * q + b.val
    have h1 : (k.val * r + (a.val * q + b.val) / 128) * 128 = k.val * (r * 128) + (a.val * q + b.val) / 128 * 128 := by ring
    have h2 : (k.val * p + a.val) * q = k.val * (p * q) + a.val * q := by ring
    rw [h1, h2, hr]
    omega
  · match d with
    | ⟨0, _⟩ => show k.val = 0 + k.val; omega
    | ⟨1, _⟩ => rfl
    | ⟨2, _⟩ => show (a.val * q + b.val) % 128 = 0 + (a.val * q + b.val) % 128; omega

/-- The first `q'` columns of a matrix, and of every chip's. -/
theorem left2_apply {α : Type} (x : (⟨2, ![p, q]⟩ : Shape).Idx → α) (hs : Shape.Slices ⟨2, ![p, q]⟩ ![0, 0] ⟨2, ![p, q']⟩)
    (hq : q' ≤ q) (a : Fin p) (b : Fin q') : extractStridedSlice ⟨2, ![p, q']⟩ ![0, 0] x hs (ix2 a b) = x (ix2 a (b.castLE hq)) :=
  extractStridedSlice_apply _ _ _ _ _ fun d => match d with
    | ⟨0, _⟩ => (Nat.zero_add a.val).symm
    | ⟨1, _⟩ => (Nat.zero_add b.val).symm

theorem left3_apply {α : Type} (x : (⟨3, ![8, p, q]⟩ : Shape).Idx → α) (hs : Shape.Slices ⟨3, ![8, p, q]⟩ ![0, 0, 0] ⟨3, ![8, p, q']⟩)
    (hq : q' ≤ q) (k : Fin 8) (a : Fin p) (b : Fin q') :
    extractStridedSlice ⟨3, ![8, p, q']⟩ ![0, 0, 0] x hs (ix3 k a b) = x (ix3 k a (b.castLE hq)) :=
  extractStridedSlice_apply _ _ _ _ _ fun d => match d with
    | ⟨0, _⟩ => (Nat.zero_add k.val).symm
    | ⟨1, _⟩ => (Nat.zero_add a.val).symm
    | ⟨2, _⟩ => (Nat.zero_add b.val).symm

/-- A host's sum over the eight chips. -/
theorem chips_apply (x : FVec Ideal ⟨3, ![8, p, q]⟩ .f32) (h : Shape.ReducesTo ⟨3, ![8, p, q]⟩ [0] ⟨2, ![p, q]⟩)
    (hR : Shape.Reduces ⟨3, ![8, p, q]⟩ [0] ⟨2, ![p, q]⟩) (hu : 0 < (⟨0, ![]⟩ : Shape).numel) (a : Fin p) (b : Fin q) :
    Host.reduceAdd x (constant ⟨0, ![]⟩ .f32 0x00000000#32) h hu (ix2 a b) = ∑ k : Fin 8, x (ix3 k a b) := by
  rw [hostReduceAdd_apply, Ideal.hostReduceAdd_single h hR]
  show Ideal.ofBits .f32 0x00000000#32 + _ = _
  rw [Ideal.ofBits_zero_f32, zero_add]
  refine Finset.sum_congr rfl fun k _ => congrArg x (funext fun d => Fin.ext ?_)
  match d with
  | ⟨0, _⟩ => rfl
  | ⟨1, _⟩ => rfl
  | ⟨2, _⟩ => rfl

/-- The sum over the chips of a packed array. -/
def tot (x : (⟨3, ![8, A, 128]⟩ : Shape).Idx → EReal) : (⟨2, ![A, 128]⟩ : Shape).Idx → EReal :=
  fun i => ∑ k : Fin 8, x (ix3 k (i 0 : Fin A) (i 1 : Fin 128))

/-- A gradient cut out of the sum is the sum of the gradients cut out. -/
theorem chips_cut (x : FVec Ideal ⟨3, ![8, A, 128]⟩ .f32) (hs2 : Shape.Slices ⟨2, ![A, 128]⟩ ![lo, 0] ⟨2, ![r, 128]⟩)
    (hc2 : Shape.ShapeCasts ⟨2, ![r, 128]⟩ ⟨2, ![p, q]⟩) (hs3 : Shape.Slices ⟨3, ![8, A, 128]⟩ ![0, lo, 0] ⟨3, ![8, r, 128]⟩)
    (hc3 : Shape.ShapeCasts ⟨3, ![8, r, 128]⟩ ⟨3, ![8, p, q]⟩) (h : Shape.ReducesTo ⟨3, ![8, p, q]⟩ [0] ⟨2, ![p, q]⟩)
    (hR : Shape.Reduces ⟨3, ![8, p, q]⟩ [0] ⟨2, ![p, q]⟩) (hu : 0 < (⟨0, ![]⟩ : Shape).numel) (hr : r * 128 = p * q) (hA : lo + r ≤ A) :
    Host.reduceAdd (shapeCast ⟨3, ![8, p, q]⟩ (extractStridedSlice ⟨3, ![8, r, 128]⟩ ![0, lo, 0] x hs3) hc3)
        (constant (F := Ideal) ⟨0, ![]⟩ .f32 0x00000000#32) h hu
      = shapeCast ⟨2, ![p, q]⟩ (extractStridedSlice ⟨2, ![r, 128]⟩ ![lo, 0] (tot x) hs2) hc2 := by
  have key : ∀ (a : Fin p) (b : Fin q), Host.reduceAdd (shapeCast ⟨3, ![8, p, q]⟩ (extractStridedSlice ⟨3, ![8, r, 128]⟩ ![0, lo, 0] x hs3) hc3) (constant (F := Ideal) ⟨0, ![]⟩ .f32 0x00000000#32) h hu (ix2 a b) = shapeCast ⟨2, ![p, q]⟩ (extractStridedSlice ⟨2, ![r, 128]⟩ ![lo, 0] (tot x) hs2) hc2 (ix2 a b) := by
    intro a b
    rw [chips_apply _ h hR hu, cut2_apply (tot x) hs2 hc2 hr hA]
    exact Finset.sum_congr rfl fun k _ => cut3_apply x hs3 hc3 hr hA k _ _
  exact funext fun i => (congrArg _ (eq_ix2 i)).trans ((key (i 0) (i 1)).trans (congrArg _ (eq_ix2 i).symm))

/-- The same of a gradient of which only the first columns are kept. -/
theorem chips_cut_left (x : FVec Ideal ⟨3, ![8, A, 128]⟩ .f32) (hs2 : Shape.Slices ⟨2, ![A, 128]⟩ ![lo, 0] ⟨2, ![r, 128]⟩)
    (hc2 : Shape.ShapeCasts ⟨2, ![r, 128]⟩ ⟨2, ![p, q]⟩) (hs3 : Shape.Slices ⟨3, ![8, A, 128]⟩ ![0, lo, 0] ⟨3, ![8, r, 128]⟩)
    (hc3 : Shape.ShapeCasts ⟨3, ![8, r, 128]⟩ ⟨3, ![8, p, q]⟩) (hl2 : Shape.Slices ⟨2, ![p, q]⟩ ![0, 0] ⟨2, ![p, q']⟩)
    (hl3 : Shape.Slices ⟨3, ![8, p, q]⟩ ![0, 0, 0] ⟨3, ![8, p, q']⟩) (h : Shape.ReducesTo ⟨3, ![8, p, q']⟩ [0] ⟨2, ![p, q']⟩)
    (hR : Shape.Reduces ⟨3, ![8, p, q']⟩ [0] ⟨2, ![p, q']⟩) (hu : 0 < (⟨0, ![]⟩ : Shape).numel) (hr : r * 128 = p * q) (hA : lo + r ≤ A)
    (hq : q' ≤ q) :
    Host.reduceAdd (extractStridedSlice ⟨3, ![8, p, q']⟩ ![0, 0, 0]
        (shapeCast ⟨3, ![8, p, q]⟩ (extractStridedSlice ⟨3, ![8, r, 128]⟩ ![0, lo, 0] x hs3) hc3) hl3)
        (constant (F := Ideal) ⟨0, ![]⟩ .f32 0x00000000#32) h hu
      = extractStridedSlice ⟨2, ![p, q']⟩ ![0, 0]
        (shapeCast ⟨2, ![p, q]⟩ (extractStridedSlice ⟨2, ![r, 128]⟩ ![lo, 0] (tot x) hs2) hc2) hl2 := by
  have key : ∀ (a : Fin p) (b : Fin q'), Host.reduceAdd (extractStridedSlice ⟨3, ![8, p, q']⟩ ![0, 0, 0]
        (shapeCast ⟨3, ![8, p, q]⟩ (extractStridedSlice ⟨3, ![8, r, 128]⟩ ![0, lo, 0] x hs3) hc3) hl3) (constant (F := Ideal) ⟨0, ![]⟩ .f32 0x00000000#32) h hu (ix2 a b) = extractStridedSlice ⟨2, ![p, q']⟩ ![0, 0]
        (shapeCast ⟨2, ![p, q]⟩ (extractStridedSlice ⟨2, ![r, 128]⟩ ![lo, 0] (tot x) hs2) hc2) hl2 (ix2 a b) := by
    intro a b
    rw [chips_apply _ h hR hu, left2_apply _ hl2 hq, cut2_apply (tot x) hs2 hc2 hr hA]
    exact Finset.sum_congr rfl fun k _ => (left3_apply _ hl3 hq k _ _).trans (cut3_apply x hs3 hc3 hr hA k _ _)
  exact funext fun i => (congrArg _ (eq_ix2 i)).trans ((key (i 0) (i 1)).trans (congrArg _ (eq_ix2 i).symm))

/-- The index of one of eight entries; a sum over such indices. -/
def at8 (k : Fin 8) : (⟨1, ![8]⟩ : Shape).Idx := fun d => match d with | ⟨0, _⟩ => k

theorem sum_eight (f : (⟨1, ![8]⟩ : Shape).Idx → EReal) : ∑ i, f i = ∑ k : Fin 8, f (at8 k) :=
  (Fintype.sum_equiv ⟨at8, fun i => i 0, fun _ => rfl, fun i => funext fun d => match d with | ⟨0, _⟩ => rfl⟩ (fun k => f (at8 k)) f fun _ => rfl).symm

/-- One entry cut out of the sum, as a scalar: the sum of the chips' entries. -/
theorem chips_one (x : FVec Ideal ⟨3, ![8, A, 128]⟩ .f32) (hA : lo < A) (hs2 : Shape.Slices ⟨2, ![A, 128]⟩ ![lo, 0] ⟨2, ![1, 1]⟩)
    (hc2 : Shape.ShapeCasts ⟨2, ![1, 1]⟩ ⟨0, ![]⟩) (hs3 : Shape.Slices ⟨3, ![8, A, 128]⟩ ![0, lo, 0] ⟨3, ![8, 1, 1]⟩)
    (hc3 : Shape.ShapeCasts ⟨3, ![8, 1, 1]⟩ ⟨1, ![8]⟩) (h : Shape.ReducesTo ⟨1, ![8]⟩ [0] ⟨0, ![]⟩) (hu : 0 < (⟨0, ![]⟩ : Shape).numel) :
    Host.reduceAdd (shapeCast ⟨1, ![8]⟩ (extractStridedSlice ⟨3, ![8, 1, 1]⟩ ![0, lo, 0] x hs3) hc3)
        (constant (F := Ideal) ⟨0, ![]⟩ .f32 0x00000000#32) h hu
      = shapeCast ⟨0, ![]⟩ (extractStridedSlice ⟨2, ![1, 1]⟩ ![lo, 0] (tot x) hs2) hc2 := by
  refine funext fun (i : (⟨0, ![]⟩ : Shape).Idx) => ?_
  rw [hostReduceAdd_apply, Ideal.hostReduceAdd_total h (fun b => b.elim0)]
  have e2 : shapeCast ⟨0, ![]⟩ (extractStridedSlice ⟨2, ![1, 1]⟩ ![lo, 0] (tot x) hs2) hc2 i = tot x (ix2 ⟨lo, hA⟩ 0) :=
    (shapeCast_apply _ _ _ (ix2 (0 : Fin 1) (0 : Fin 1)) (by
      have h1 := ((⟨0, ![]⟩ : Shape).rowMajor i).isLt
      have h2 := ((⟨2, ![1, 1]⟩ : Shape).rowMajor (ix2 (0 : Fin 1) (0 : Fin 1))).isLt
      have n1 : (⟨0, ![]⟩ : Shape).numel = 1 := by decide
      have n2 : (⟨2, ![1, 1]⟩ : Shape).numel = 1 := by decide
      omega)).trans
    (extractStridedSlice_apply _ _ _ _ _ fun d => match d with
      | ⟨0, _⟩ => rfl
      | ⟨1, _⟩ => rfl)
  rw [e2]
  show Ideal.ofBits .f32 0x00000000#32 + _ = _
  rw [Ideal.ofBits_zero_f32, zero_add, sum_eight]
  refine Finset.sum_congr rfl fun (k : Fin 8) _ => ?_
  refine (shapeCast_apply _ _ _ (ix3 k (0 : Fin 1) (0 : Fin 1)) ?_).trans (extractStridedSlice_apply _ _ _ _ _ fun d => ?_)
  · rw [Shape.rowMajor_val_three, Shape.rowMajor_val_one]
    show (k.val * 1 + 0) * 1 + 0 = k.val
    omega
  · match d with
    | ⟨0, _⟩ => show k.val = 0 + k.val; omega
    | ⟨1, _⟩ => rfl
    | ⟨2, _⟩ => rfl

end Cert.Products

end
-- ==== Proof.Products.SumSmall.lean ====
/- The small gradients' sum over the eight chips: one packed sum, cut into its gradients. -/
module

public import proofs.«01_k».proof.Defs
public import proofs.«01_k».proof.Proof.Products.Rows
public import proofs.«01_k».proof.Proof.Gen.SumSmallIdeal.Frame
public import proofs.«01_k».proof.Proof.Gen.SumSmallRefIdeal.Run
public import Idealize.ShloMosaic.Lib.Tactic

@[expose] public section

noncomputable section

open scoped BigOperators

namespace Cert.SumSmallIdeal.Step

open Cert.SumSmallIdeal Cert.SumSmallIdeal.Gen Cert.Products Idealize.ShloMosaic Idealize.ShloMosaic.TcCoe Idealize.SL.Sem
open Idealize.ShloMosaic.ValueIdx

/-- What the one point stores: the sum over the chips. -/
theorem out_apply (x : Vec Ideal S8x376x128 .f32) (a : Fin 376) (b : Fin 128) : out0_1 x (ix2 a b) = tot (A := 376) x (ix2 a b) := by
  unfold out0_1 r0_8
  rw [View.canon_unit_zero hz2]
  unfold k0_pay1
  refine Eq.trans ?_ (Fin.sum_univ_eight fun k : Fin 8 => x (ix3 k a b)).symm
  have e : ∀ (k : Fin 8) (off : Fin 3 → Nat) (hoff : off = ![k.val, 0, 0]) (inb) (h),
      shapeCast S376x128 (View.ld x (Rect.unit (s := S8x376x128) off S1x376x128.size inb)) h (ix2 a b) = x (ix3 k a b) := by
    intro k off hoff inb h
    subst hoff
    refine (drop1 _ h a b).trans (congrArg x (funext fun d => Fin.ext ?_))
    match d with
    | ⟨0, _⟩ => show k.val + 1 * 0 = k.val; omega
    | ⟨1, _⟩ => show 0 + 1 * a.val = a.val; omega
    | ⟨2, _⟩ => show 0 + 1 * b.val = b.val; omega
  exact congrArg₂ (· + ·) (congrArg₂ (· + ·) (congrArg₂ (· + ·) (congrArg₂ (· + ·) (congrArg₂ (· + ·) (congrArg₂ (· + ·) (congrArg₂ (· + ·)
    (e 0 _ rfl _ _) (e 1 _ rfl _ _)) (e 2 _ rfl _ _)) (e 3 _ rfl _ _)) (e 4 _ rfl _ _)) (e 5 _ rfl _ _)) (e 6 _ rfl _ _)) (e 7 _ rfl _ _)

variable (m : (ℓ : Loc nD τ sig) → Buf (Elt Ideal) ℓ)

theorem idx : ∀ t : Fin cfg0.N, win0_0.index t (0 : Fin 3) = 0 ∧ win0_0.index t (1 : Fin 3) = 0 ∧ win0_0.index t (2 : Fin 3) = 0
    ∧ win0_1.index t (0 : Fin 2) = 0 ∧ win0_1.index t (1 : Fin 2) = 0 ∧ win0_1.flush t = true :=
  (by decide +kernel : ∀ t : Fin grid0.N, _)

/-- The point's block of the packed gradients is the whole of them. -/
theorem blk0 (c : Dev nD) (t : Fin cfg0.N) (k : Fin 8) (a : Fin 376) (b : Fin 128) :
    iblk m c 0 t (ix3 k a b) = m ((c : Thread nD τ).loc main_arg0) (ix3 k a b) := by
  unfold iblk
  rw [View.read_apply]
  show V m c main_arg0 _ = _
  rw [V_main_arg0]
  congr 1; funext d; apply Fin.ext
  obtain ⟨h0, h1, h2, -⟩ := idx t
  match d with
  | ⟨0, _⟩ => show win0_0.index t (0 : Fin 3) * 8 + 1 * k.val = k.val; omega
  | ⟨1, _⟩ => show win0_0.index t (1 : Fin 3) * 376 + 1 * a.val = a.val; omega
  | ⟨2, _⟩ => show win0_0.index t (2 : Fin 3) * 128 + 1 * b.val = b.val; omega

theorem mem_blk (t : Fin cfg0.N) (i : S376x128.Idx) :
    i ∈ ((cfg0.win 1).blk t).view.set ↔ ∀ a : Fin 2, win0_1.index t a * S376x128.size a ≤ (i a).val
      ∧ (i a).val < win0_1.index t a * S376x128.size a + S376x128.size a := by
  show i ∈ ((View.whole main_v0).slice (win0_1.rect t)).set ↔ _
  rw [View.set_slice_whole, Rect.mem_set_unit]
  exact Iff.rfl

theorem flushed (c : Dev nD) (t : Fin cfg0.N) : (dats m 0 c).flushed 1 t
    = (out0_1 (iblk m c 0 t) ∘ (cfg0.win 1).xinj (grid0.coords t) : ((cfg0.win 1).xblock (cfg0.grid.coords t)).Idx → Elt Ideal (cfg0.win 1).elt) := by
  unfold Pipeline.Dat.flushed
  rw [after0_1]
  rfl

/-- The call's array: the sum over the chips. -/
theorem final (c : Dev nD) : (dats m 0 c).arrAt 1 cfg0.N = tot (A := 376) (m ((c : Thread nD τ).loc main_arg0)) := by
  refine (dats m 0 c).arrAt_eq_of_cover 1 _ (fun t hf => ?_) (fun i => ?_)
  · obtain ⟨-, -, -, h0, h1, -⟩ := idx t
    rw [flushed]
    funext y
    rw [View.read_apply]
    have e : (cfg0.win 1).xinj (grid0.coords t) y = ix2 (n0 := 376) (n1 := 128) (y 0) (y 1) :=
      funext fun a => match a with | ⟨0, _⟩ => rfl | ⟨1, _⟩ => rfl
    have e0 : (((cfg0.win 1).blk t).view.emb y 0).val = win0_1.index t (0 : Fin 2) * 376 + 1 * (y 0).val := rfl
    have e1 : (((cfg0.win 1).blk t).view.emb y 1).val = win0_1.index t (1 : Fin 2) * 128 + 1 * (y 1).val := rfl
    have e2 : ix2 (n0 := 376) (n1 := 128) (y 0) (y 1) = ((cfg0.win 1).blk t).view.emb y :=
      funext fun a => Fin.ext (match a with
        | ⟨0, _⟩ => by show (y 0).val = (((cfg0.win 1).blk t).view.emb y 0).val; omega
        | ⟨1, _⟩ => by show (y 1).val = (((cfg0.win 1).blk t).view.emb y 1).val; omega)
    refine (congrArg (out0_1 (iblk m c 0 t)) e).trans ((out_apply _ _ _).trans (Eq.trans ?_ (congrArg (tot (A := 376) (m ((c : Thread nD τ).loc main_arg0))) e2)))
    exact Finset.sum_congr rfl fun k _ => blk0 m c t k (y 0) (y 1)
  · have i0 : (i 0).val < 376 := (i 0).isLt
    have i1 : (i 1).val < 128 := (i 1).isLt
    have hN : cfg0.N = 1 := N_0
    refine ⟨⟨0, by omega⟩, (idx _).2.2.2.2.2, ?_⟩
    obtain ⟨-, -, -, h0, h1, -⟩ := idx ⟨0, by omega⟩
    rw [mem_blk]
    intro a
    match a with
    | ⟨0, _⟩ => show win0_1.index _ (0 : Fin 2) * 376 ≤ (i 0).val ∧ (i 0).val < win0_1.index _ (0 : Fin 2) * 376 + 376; rw [h0]; omega
    | ⟨1, _⟩ => show win0_1.index _ (1 : Fin 2) * 128 ≤ (i 1).val ∧ (i 1).val < win0_1.index _ (1 : Fin 2) * 128 + 128; rw [h1]; omega

/-! ## The host's cuts of the call's array -/

variable (W : Valuation τ sig (Elt Ideal))

theorem cut_v2 : StableHlo.after hostOps1 W (Proc.devRef .tc main_v2) = shapeCast S_ (extractStridedSlice S1x1 ![368, 0] (W (Proc.devRef .tc main_v0)) slices_S376x128_S1x1_368_0) shapeCasts_S1x1_S_ := by
  after_results_simp <;> rfl
theorem cut_v4 : StableHlo.after hostOps1 W (Proc.devRef .tc main_v4) = shapeCast S1x2048 (extractStridedSlice S16x128 ![0, 0] (W (Proc.devRef .tc main_v0)) slices_S376x128_S16x128_0_0) shapeCasts_S16x128_S1x2048 := by
  after_results_simp <;> rfl
theorem cut_v6 : StableHlo.after hostOps1 W (Proc.devRef .tc main_v6) = shapeCast S1x1024 (extractStridedSlice S8x128 ![16, 0] (W (Proc.devRef .tc main_v0)) slices_S376x128_S8x128_16_0) shapeCasts_S8x128_S1x1024 := by
  after_results_simp <;> rfl
theorem cut_v8 : StableHlo.after hostOps1 W (Proc.devRef .tc main_v8) = shapeCast S1x2048 (extractStridedSlice S16x128 ![24, 0] (W (Proc.devRef .tc main_v0)) slices_S376x128_S16x128_24_0) shapeCasts_S16x128_S1x2048 := by
  after_results_simp <;> rfl
theorem cut_v11 : StableHlo.after hostOps1 W (Proc.devRef .tc main_v11) = extractStridedSlice S1x256 ![0, 0] (shapeCast S1x2048 (extractStridedSlice S16x128 ![40, 0] (W (Proc.devRef .tc main_v0)) slices_S376x128_S16x128_40_0) shapeCasts_S16x128_S1x2048) slices_S1x2048_S1x256_0_0 := by
  after_results_simp <;> rfl
theorem cut_v14 : StableHlo.after hostOps1 W (Proc.devRef .tc main_v14) = extractStridedSlice S3x128 ![0, 0] (shapeCast S3x1024 (extractStridedSlice S24x128 ![56, 0] (W (Proc.devRef .tc main_v0)) slices_S376x128_S24x128_56_0) shapeCasts_S24x128_S3x1024) slices_S3x1024_S3x128_0_0 := by
  after_results_simp <;> rfl
theorem cut_v17 : StableHlo.after hostOps1 W (Proc.devRef .tc main_v17) = extractStridedSlice S31x128 ![0, 0] (shapeCast S31x1024 (extractStridedSlice S248x128 ![80, 0] (W (Proc.devRef .tc main_v0)) slices_S376x128_S248x128_80_0) shapeCasts_S248x128_S31x1024) slices_S31x1024_S31x128_0_0 := by
  after_results_simp <;> rfl
theorem cut_v20 : StableHlo.after hostOps1 W (Proc.devRef .tc main_v20) = extractStridedSlice S1x128 ![0, 0] (shapeCast S1x1024 (extractStridedSlice S8x128 ![328, 0] (W (Proc.devRef .tc main_v0)) slices_S376x128_S8x128_328_0) shapeCasts_S8x128_S1x1024) slices_S1x1024_S1x128_0_0 := by
  after_results_simp <;> rfl
theorem cut_v23 : StableHlo.after hostOps1 W (Proc.devRef .tc main_v23) = extractStridedSlice S1x128 ![0, 0] (shapeCast S1x1024 (extractStridedSlice S8x128 ![336, 0] (W (Proc.devRef .tc main_v0)) slices_S376x128_S8x128_336_0) shapeCasts_S8x128_S1x1024) slices_S1x1024_S1x128_0_0 := by
  after_results_simp <;> rfl
theorem cut_v26 : StableHlo.after hostOps1 W (Proc.devRef .tc main_v26) = extractStridedSlice S1x128 ![0, 0] (shapeCast S1x1024 (extractStridedSlice S8x128 ![344, 0] (W (Proc.devRef .tc main_v0)) slices_S376x128_S8x128_344_0) shapeCasts_S8x128_S1x1024) slices_S1x1024_S1x128_0_0 := by
  after_results_simp <;> rfl
theorem cut_v29 : StableHlo.after hostOps1 W (Proc.devRef .tc main_v29) = extractStridedSlice S1x256 ![0, 0] (shapeCast S1x2048 (extractStridedSlice S16x128 ![352, 0] (W (Proc.devRef .tc main_v0)) slices_S376x128_S16x128_352_0) shapeCasts_S16x128_S1x2048) slices_S1x2048_S1x256_0_0 := by
  after_results_simp <;> rfl

/-- The memory the host's cuts start from holds the sum. -/
theorem start (c : Dev nD) : Pipeline.withArrays (cfgs 0).spec c (V0 m c) (fun w => (dats m 0 c).arrAt w cfg0.N) (Proc.devRef .tc main_v0)
    = tot (A := 376) (m ((c : Thread nD τ).loc main_arg0)) :=
  (Pipeline.withArrays_arr spec0 winFacts0.arr_inj c (V0 m c) (fun w => (dats m 0 c).arrAt w cfg0.N) 1).trans (final m c)

/-- The kernel and the reference end with the same loss and the same ten gradients. -/
theorem algebraic : Cert.algebraic_SumSmallIdeal_SumSmallRefIdeal := by
  intro m ρ m' ρ' _ hagree
  refine ⟨fun c => shapeCast S_ (extractStridedSlice S1x1 ![368, 0] (tot (A := 376) (m ((c : Thread nD τ).loc main_arg0))) slices_S376x128_S1x1_368_0) shapeCasts_S1x1_S_,
    fun c => shapeCast S1x2048 (extractStridedSlice S16x128 ![0, 0] (tot (A := 376) (m ((c : Thread nD τ).loc main_arg0))) slices_S376x128_S16x128_0_0) shapeCasts_S16x128_S1x2048,
    fun c => shapeCast S1x1024 (extractStridedSlice S8x128 ![16, 0] (tot (A := 376) (m ((c : Thread nD τ).loc main_arg0))) slices_S376x128_S8x128_16_0) shapeCasts_S8x128_S1x1024,
    fun c => shapeCast S1x2048 (extractStridedSlice S16x128 ![24, 0] (tot (A := 376) (m ((c : Thread nD τ).loc main_arg0))) slices_S376x128_S16x128_24_0) shapeCasts_S16x128_S1x2048,
    fun c => extractStridedSlice S1x256 ![0, 0] (shapeCast S1x2048 (extractStridedSlice S16x128 ![40, 0] (tot (A := 376) (m ((c : Thread nD τ).loc main_arg0))) slices_S376x128_S16x128_40_0) shapeCasts_S16x128_S1x2048) slices_S1x2048_S1x256_0_0,
    fun c => extractStridedSlice S3x128 ![0, 0] (shapeCast S3x1024 (extractStridedSlice S24x128 ![56, 0] (tot (A := 376) (m ((c : Thread nD τ).loc main_arg0))) slices_S376x128_S24x128_56_0) shapeCasts_S24x128_S3x1024) slices_S3x1024_S3x128_0_0,
    fun c => extractStridedSlice S31x128 ![0, 0] (shapeCast S31x1024 (extractStridedSlice S248x128 ![80, 0] (tot (A := 376) (m ((c : Thread nD τ).loc main_arg0))) slices_S376x128_S248x128_80_0) shapeCasts_S248x128_S31x1024) slices_S31x1024_S31x128_0_0,
    fun c => extractStridedSlice S1x128 ![0, 0] (shapeCast S1x1024 (extractStridedSlice S8x128 ![328, 0] (tot (A := 376) (m ((c : Thread nD τ).loc main_arg0))) slices_S376x128_S8x128_328_0) shapeCasts_S8x128_S1x1024) slices_S1x1024_S1x128_0_0,
    fun c => extractStridedSlice S1x128 ![0, 0] (shapeCast S1x1024 (extractStridedSlice S8x128 ![336, 0] (tot (A := 376) (m ((c : Thread nD τ).loc main_arg0))) slices_S376x128_S8x128_336_0) shapeCasts_S8x128_S1x1024) slices_S1x1024_S1x128_0_0,
    fun c => extractStridedSlice S1x128 ![0, 0] (shapeCast S1x1024 (extractStridedSlice S8x128 ![344, 0] (tot (A := 376) (m ((c : Thread nD τ).loc main_arg0))) slices_S376x128_S8x128_344_0) shapeCasts_S8x128_S1x1024) slices_S1x1024_S1x128_0_0,
    fun c => extractStridedSlice S1x256 ![0, 0] (shapeCast S1x2048 (extractStridedSlice S16x128 ![352, 0] (tot (A := 376) (m ((c : Thread nD τ).loc main_arg0))) slices_S376x128_S16x128_352_0) shapeCasts_S16x128_S1x2048) slices_S1x2048_S1x256_0_0,
    (θ_run defs _ _).mono (fun r h c => ?_) (run_main m ρ), ?_⟩
  · exact ⟨((h c).2 main_v2 (by decide)).trans ((cut_v2 _).trans (congrArg (fun X : S376x128.Idx → EReal => shapeCast S_ (extractStridedSlice S1x1 ![368, 0] X slices_S376x128_S1x1_368_0) shapeCasts_S1x1_S_) (start m c))),
      ((h c).2 main_v4 (by decide)).trans ((cut_v4 _).trans (congrArg (fun X : S376x128.Idx → EReal => shapeCast S1x2048 (extractStridedSlice S16x128 ![0, 0] X slices_S376x128_S16x128_0_0) shapeCasts_S16x128_S1x2048) (start m c))),
      ((h c).2 main_v6 (by decide)).trans ((cut_v6 _).trans (congrArg (fun X : S376x128.Idx → EReal => shapeCast S1x1024 (extractStridedSlice S8x128 ![16, 0] X slices_S376x128_S8x128_16_0) shapeCasts_S8x128_S1x1024) (start m c))),
      ((h c).2 main_v8 (by decide)).trans ((cut_v8 _).trans (congrArg (fun X : S376x128.Idx → EReal => shapeCast S1x2048 (extractStridedSlice S16x128 ![24, 0] X slices_S376x128_S16x128_24_0) shapeCasts_S16x128_S1x2048) (start m c))),
      ((h c).2 main_v11 (by decide)).trans ((cut_v11 _).trans (congrArg (fun X : S376x128.Idx → EReal => extractStridedSlice S1x256 ![0, 0] (shapeCast S1x2048 (extractStridedSlice S16x128 ![40, 0] X slices_S376x128_S16x128_40_0) shapeCasts_S16x128_S1x2048) slices_S1x2048_S1x256_0_0) (start m c))),
      ((h c).2 main_v14 (by decide)).trans ((cut_v14 _).trans (congrArg (fun X : S376x128.Idx → EReal => extractStridedSlice S3x128 ![0, 0] (shapeCast S3x1024 (extractStridedSlice S24x128 ![56, 0] X slices_S376x128_S24x128_56_0) shapeCasts_S24x128_S3x1024) slices_S3x1024_S3x128_0_0) (start m c))),
      ((h c).2 main_v17 (by decide)).trans ((cut_v17 _).trans (congrArg (fun X : S376x128.Idx → EReal => extractStridedSlice S31x128 ![0, 0] (shapeCast S31x1024 (extractStridedSlice S248x128 ![80, 0] X slices_S376x128_S248x128_80_0) shapeCasts_S248x128_S31x1024) slices_S31x1024_S31x128_0_0) (start m c))),
      ((h c).2 main_v20 (by decide)).trans ((cut_v20 _).trans (congrArg (fun X : S376x128.Idx → EReal => extractStridedSlice S1x128 ![0, 0] (shapeCast S1x1024 (extractStridedSlice S8x128 ![328, 0] X slices_S376x128_S8x128_328_0) shapeCasts_S8x128_S1x1024) slices_S1x1024_S1x128_0_0) (start m c))),
      ((h c).2 main_v23 (by decide)).trans ((cut_v23 _).trans (congrArg (fun X : S376x128.Idx → EReal => extractStridedSlice S1x128 ![0, 0] (shapeCast S1x1024 (extractStridedSlice S8x128 ![336, 0] X slices_S376x128_S8x128_336_0) shapeCasts_S8x128_S1x1024) slices_S1x1024_S1x128_0_0) (start m c))),
      ((h c).2 main_v26 (by decide)).trans ((cut_v26 _).trans (congrArg (fun X : S376x128.Idx → EReal => extractStridedSlice S1x128 ![0, 0] (shapeCast S1x1024 (extractStridedSlice S8x128 ![344, 0] X slices_S376x128_S8x128_344_0) shapeCasts_S8x128_S1x1024) slices_S1x1024_S1x128_0_0) (start m c))),
      ((h c).2 main_v29 (by decide)).trans ((cut_v29 _).trans (congrArg (fun X : S376x128.Idx → EReal => extractStridedSlice S1x256 ![0, 0] (shapeCast S1x2048 (extractStridedSlice S16x128 ![352, 0] X slices_S376x128_S16x128_352_0) shapeCasts_S16x128_S1x2048) slices_S1x2048_S1x256_0_0) (start m c))),
      ((h c).1 0).trans (((dats m 0 c).arrAt_in 0 rfl _).trans ((A_eq m c 0).trans (V_main_arg0 m c)))⟩
  · refine (θ_run Cert.SumSmallRefIdeal.defs _ _).mono (fun _ h c => ?_) (Cert.SumSmallRefIdeal.Value.run (F := Ideal) m' ρ')
    obtain ⟨h0, h1, h2, h3, h4, h5, h6, h7, h8, h9, h10, kept⟩ := h c
    have e := hagree c
    rw [e] at h0 h1 h2 h3 h4 h5 h6 h7 h8 h9 h10
    exact ⟨h0.trans (chips_one (A := 376) (lo := 368) (m ((c : Thread nD τ).loc main_arg0)) (by decide) _ _ _ _ _ _),
      h1.trans (chips_cut (A := 376) (lo := 0) (r := 16) (p := 1) (q := 2048) (m ((c : Thread nD τ).loc main_arg0)) _ _ _ _ _ (by decide) _ (by decide) (by decide)),
      h2.trans (chips_cut (A := 376) (lo := 16) (r := 8) (p := 1) (q := 1024) (m ((c : Thread nD τ).loc main_arg0)) _ _ _ _ _ (by decide) _ (by decide) (by decide)),
      h3.trans (chips_cut (A := 376) (lo := 24) (r := 16) (p := 1) (q := 2048) (m ((c : Thread nD τ).loc main_arg0)) _ _ _ _ _ (by decide) _ (by decide) (by decide)),
      h4.trans (chips_cut_left (A := 376) (lo := 40) (r := 16) (p := 1) (q := 2048) (q' := 256) (m ((c : Thread nD τ).loc main_arg0)) _ _ _ _ _ _ _ (by decide) _ (by decide) (by decide) (by decide)),
      h5.trans (chips_cut_left (A := 376) (lo := 56) (r := 24) (p := 3) (q := 1024) (q' := 128) (m ((c : Thread nD τ).loc main_arg0)) _ _ _ _ _ _ _ (by decide) _ (by decide) (by decide) (by decide)),
      h6.trans (chips_cut_left (A := 376) (lo := 80) (r := 248) (p := 31) (q := 1024) (q' := 128) (m ((c : Thread nD τ).loc main_arg0)) _ _ _ _ _ _ _ (by decide) _ (by decide) (by decide) (by decide)),
      h7.trans (chips_cut_left (A := 376) (lo := 328) (r := 8) (p := 1) (q := 1024) (q' := 128) (m ((c : Thread nD τ).loc main_arg0)) _ _ _ _ _ _ _ (by decide) _ (by decide) (by decide) (by decide)),
      h8.trans (chips_cut_left (A := 376) (lo := 336) (r := 8) (p := 1) (q := 1024) (q' := 128) (m ((c : Thread nD τ).loc main_arg0)) _ _ _ _ _ _ _ (by decide) _ (by decide) (by decide) (by decide)),
      h9.trans (chips_cut_left (A := 376) (lo := 344) (r := 8) (p := 1) (q := 1024) (q' := 128) (m ((c : Thread nD τ).loc main_arg0)) _ _ _ _ _ _ _ (by decide) _ (by decide) (by decide) (by decide)),
      h10.trans (chips_cut_left (A := 376) (lo := 352) (r := 16) (p := 1) (q := 2048) (q' := 256) (m ((c : Thread nD τ).loc main_arg0)) _ _ _ _ _ _ _ (by decide) _ (by decide) (by decide) (by decide)), kept⟩

end Cert.SumSmallIdeal.Step

end
-- ==== Proof.Norms.Math.lean ====
/- The gradient of a row's norm `x / √(mean x² + ε)`, over the extended reals: the form a kernel computes and the one
   that differentiation writes are equal, whatever the numbers are. -/
module

public import Idealize.ShloMosaic.PureOps.Ideal.Laws

@[expose] public section

noncomputable section

open scoped BigOperators

namespace Cert.Norms

open Idealize.ShloMosaic

/-- A real factor that isn't negative goes through a sum. -/
theorem mul_sum {ι : Type} (s : Finset ι) (f : ι → EReal) (c : ℝ) (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- A quotient by a real that isn't zero. -/
theorem div_real (x : EReal) (c : ℝ) (hc : c ≠ 0) : Ideal.div x (c : EReal) = x * ((c⁻¹ : ℝ) : EReal) := by
  unfold Ideal.div
  rw [if_neg (by exact_mod_cast hc), EReal.coe_inv]

/-- A number twice. -/
theorem add_self (x : EReal) : x + x = x * ((2 : ℝ) : EReal) := by
  induction x with
  | bot => rw [EReal.bot_mul_coe_of_pos (by norm_num)]; rfl
  | top => rw [EReal.top_mul_coe_of_pos (by norm_num)]; rfl
  | coe r => norm_cast; ring

/-! The words that the programs' constants are. -/

theorem word_2048 : Ideal.ofBits .f32 0x45000000#32 = ((2048 : ℝ) : EReal) := by
  simp [Ideal.ofBits, Ideal.ieee]; rw [← EReal.coe_mul]; norm_num
theorem word_neg_half : Ideal.ofBits .f32 0xBF000000#32 = ((-(1 / 2) : ℝ) : EReal) := by
  simp [Ideal.ofBits, Ideal.ieee]; rw [← EReal.coe_mul]; norm_num
theorem word_half : Ideal.ofBits .f32 0x3F000000#32 = ((1 / 2 : ℝ) : EReal) := by
  simp [Ideal.ofBits, Ideal.ieee]; rw [← EReal.coe_mul]; norm_num
theorem word_one : Ideal.ofBits .f32 0x3F800000#32 = ((1 : ℝ) : EReal) := by
  simp [Ideal.ofBits, Ideal.ieee]; rw [← EReal.coe_mul]; norm_num
theorem word_two : Ideal.ofBits .f32 0x40000000#32 = ((2 : ℝ) : EReal) := by
  simp [Ideal.ofBits, Ideal.ieee]; rw [← EReal.coe_mul]; norm_num
theorem word_2048th : Ideal.ofBits .f32 0x3A000000#32 = ((1 / 2048 : ℝ) : EReal) := by
  simp [Ideal.ofBits, Ideal.ieee]; rw [← EReal.coe_mul]; norm_num
theorem word_4096th : Ideal.ofBits .f32 0x39800000#32 = ((1 / 4096 : ℝ) : EReal) := by
  simp [Ideal.ofBits, Ideal.ieee]; rw [← EReal.coe_mul]; norm_num
theorem word_eps : ∃ e : ℝ, 0 < e ∧ Ideal.ofBits .f32 0x358637BD#32 = (e : EReal) := by
  refine ⟨_, ?_, by simp [Ideal.ofBits, Ideal.ieee]; rfl⟩
  norm_num

/-- What a row of squares' sum `s` gives: its mean plus ε … -/
def var (s : EReal) : EReal := Ideal.div s (Ideal.ofBits .f32 0x45000000#32) + Ideal.ofBits .f32 0x358637BD#32
/-- … and the factor of the norm. -/
def scl (s : EReal) : EReal := Ideal.rsqrt (var s)

/-- The sum of a row's squares. -/
def sq {n : Nat} (x : Fin n → EReal) : EReal := ∑ k, x k * x k

theorem sq_self_nonneg (x : EReal) : 0 ≤ x * x := by
  rcases le_total 0 x with h | h
  · exact mul_nonneg h h
  · have h' : 0 ≤ -x := by simpa using EReal.neg_le_neg_iff.2 h
    have := mul_nonneg h' h'
    rwa [neg_mul, mul_neg, neg_neg] at this

theorem sq_nonneg {n : Nat} (x : Fin n → EReal) : 0 ≤ sq x := Finset.sum_nonneg fun k _ => sq_self_nonneg (x k)

/-- Where a row's sum of squares is finite, so is each of its numbers. -/
theorem real_of_sq {n : Nat} (x : Fin n → EReal) (h : sq x ≠ ⊤) (k : Fin n) : ∃ r : ℝ, x k = r := by
  have hk : x k * x k ≤ sq x := Finset.single_le_sum (f := fun k => x k * x k) (fun k _ => sq_self_nonneg (x k)) (Finset.mem_univ k)
  have hk' : x k * x k ≠ ⊤ := fun e => h (top_le_iff.1 (e ▸ hk))
  induction hx : x k with
  | bot => rw [hx] at hk'; exact absurd EReal.bot_mul_bot hk'
  | top => rw [hx] at hk'; exact absurd EReal.top_mul_top hk'
  | coe r => exact ⟨r, rfl⟩

/-- The factor is a real number whose square is the inverse of the mean plus ε, or the mean is infinite and the factor zero. -/
theorem scl_cases (s : EReal) (hs : 0 ≤ s) : (s = ⊤ ∧ scl s = 0 ∧ Ideal.div (scl s) (var s) = 0)
    ∨ (s ≠ ⊤ ∧ ∃ r : ℝ, 0 < r ∧ scl s = r ∧ Ideal.div (scl s) (var s) = ((r * (r * r) : ℝ) : EReal)) := by
  obtain ⟨e, he, hw⟩ := word_eps
  by_cases h : s = ⊤
  · refine Or.inl ⟨h, ?_⟩
    have hv : var s = ⊤ := by
      unfold var
      rw [h, word_2048, hw, div_real _ _ (by norm_num), EReal.top_mul_coe_of_pos (by norm_num)]
      rfl
    have hz : scl s = 0 := by unfold scl; rw [hv]; rfl
    refine ⟨hz, ?_⟩
    rw [hz, hv]
    unfold Ideal.div
    rw [if_neg (by simp), zero_mul]
  · refine Or.inr ⟨h, ?_⟩
    have hb : s ≠ ⊥ := fun e => by rw [e] at hs; exact absurd hs (by simp)
    lift s to ℝ using ⟨h, hb⟩
    have hs' : 0 ≤ s := by exact_mod_cast hs
    have hv : var (s : EReal) = ((s * 2048⁻¹ + e : ℝ) : EReal) := by
      unfold var
      rw [word_2048, hw, div_real _ _ (by norm_num)]
      norm_cast
    have hp : 0 < s * 2048⁻¹ + e := by positivity
    have hr : scl (s : EReal) = (((Real.sqrt (s * 2048⁻¹ + e))⁻¹ : ℝ) : EReal) := by
      unfold scl
      rw [hv, Ideal.rsqrt_coe, if_neg (not_lt.2 hp.le), if_neg hp.ne']
    refine ⟨_, inv_pos.2 (Real.sqrt_pos.2 hp), hr, ?_⟩
    rw [hr, hv, div_real _ _ hp.ne', ← EReal.coe_mul]
    congr 2
    rw [← mul_inv, Real.mul_self_sqrt hp.le]

/-- A row's norm differentiated, as a kernel computes it: from the row `x`, the derivative `d` by the norm. -/
def grad {n : Nat} (x d : Fin n → EReal) (k : Fin n) : EReal :=
  scl (sq x) * (d k - x k * scl (sq x) * Ideal.div (∑ j, d j * (x j * scl (sq x))) (Ideal.ofBits .f32 0x45000000#32))

/-- The derivative by the mean, as differentiation writes it. -/
def inner {n : Nat} (x d : Fin n → EReal) : EReal :=
  Ideal.div ((∑ j, x j * d j) * (Ideal.ofBits .f32 0xBF000000#32 * Ideal.div (scl (sq x)) (var (sq x)))) (Ideal.ofBits .f32 0x45000000#32)

/-- The two forms are equal. -/
theorem grad_eq {n : Nat} (x d : Fin n → EReal) (k : Fin n) : grad x d k = d k * scl (sq x) + (x k * inner x d + inner x d * x k) := by
  unfold grad inner
  rcases scl_cases (sq x) (sq_nonneg x) with ⟨-, h0, h1⟩ | ⟨ht, r, hr, h0, h1⟩
  · rw [h1, h0, word_2048]
    simp only [div_real _ (2048 : ℝ) (by norm_num)]
    simp
  · obtain ⟨y, hy⟩ := real_of_sq x ht k
    have hD : ∑ j, d j * (x j * (r : EReal)) = (r : EReal) * ∑ j, x j * d j := by
      rw [mul_sum _ _ _ hr.le]
      exact Finset.sum_congr rfl fun j _ => by rw [mul_comm (d j), mul_comm (x j) (r : EReal), mul_assoc]
    rw [h1, h0, hD, hy, word_2048, word_neg_half, div_real _ _ (by norm_num), div_real _ _ (by norm_num)]
    generalize (∑ j, x j * d j) = D
    rw [EReal.mul_sub_of_nonneg_of_ne_top (by exact_mod_cast hr.le) (EReal.coe_ne_top r), sub_eq_add_neg, mul_comm (r : EReal) (d k)]
    refine congrArg (d k * (r : EReal) + ·) ?_
    have e1 : (r : EReal) * ((y : EReal) * r * ((r : EReal) * D * ((2048⁻¹ : ℝ) : EReal))) = D * ((r * (y * r * (r * 2048⁻¹)) : ℝ) : EReal) := by
      simp only [EReal.coe_mul]; ac_rfl
    have e2 : D * (((-(1 / 2) : ℝ) : EReal) * ((r * (r * r) : ℝ) : EReal)) * ((2048⁻¹ : ℝ) : EReal) * (y : EReal)
        = D * ((-(1 / 2) * (r * (r * r)) * 2048⁻¹ * y : ℝ) : EReal) := by
      simp only [EReal.coe_mul]; ac_rfl
    rw [e1, mul_comm (y : EReal), e2, add_self, mul_assoc D, ← EReal.coe_mul, ← mul_neg, ← EReal.coe_neg]
    congr 2
    ring

end Cert.Norms

end
-- ==== Proof.Norms.Read.lean ====
/- The operations around a row's norm read at an index, over the extended reals: a block's norm and its derivative as a
   kernel computes them, and the arrays that the reference computes. -/
module

public import proofs.«01_k».proof.Proof.Norms.Math
public import proofs.«01_k».proof.Proof.Products.Sums
public import Idealize.ShloMosaic.Lib.IdealHost
public import Idealize.ShloMosaic.Lib.ValueLayout

@[expose] public section

noncomputable section

open scoped BigOperators

namespace Cert.Norms

open Idealize.ShloMosaic Idealize.ShloMosaic.ValueIdx Cert.Products

variable {M N G : Nat}

/-- Row `a` of a matrix. -/
abbrev row (x : Mat M N) (a : Fin M) : Fin N → EReal := fun k => x (ix2 a k)

/-! ## A kernel's block -/

/-- The sums of a block's rows, as a column. -/
theorem rows_apply (x : FVec Ideal ⟨2, ![M, N]⟩ .f32) (h : Shape.Reduces ⟨2, ![M, N]⟩ [1] ⟨1, ![M]⟩) (hφ : FKind.Formats .f32)
    (hacc : 0x00000000#32 = FKind.add.neutral .f32 hφ) (hc : Shape.ShapeCasts ⟨1, ![M]⟩ ⟨2, ![M, 1]⟩) (a : Fin M) :
    shapeCast ⟨2, ![M, 1]⟩ (multiReduction .add [1] ⟨1, ![M]⟩ x 0x00000000#32 h hφ hacc) hc (ix2 a 0) = ∑ k : Fin N, x (ix2 a k) := by
  refine (shapeCast_apply _ _ _ (ix1 a) ?_).trans ((Ideal.multiReduction_add_single x _ h hφ hacc (ix1 a)).trans ?_)
  · rw [Shape.rowMajor_val_one, Shape.rowMajor_val_two]
    show a.val = a.val * 1 + 0
    omega
  · refine Finset.sum_congr rfl fun k _ => congrArg x (funext fun d => Fin.ext ?_)
    match d with
    | ⟨0, _⟩ => rfl
    | ⟨1, _⟩ => rfl

/-- The sums of a block's columns, as a row. -/
theorem cols_apply (x : FVec Ideal ⟨2, ![M, N]⟩ .f32) (h : Shape.Reduces ⟨2, ![M, N]⟩ [0] ⟨1, ![N]⟩) (hφ : FKind.Formats .f32)
    (hacc : 0x00000000#32 = FKind.add.neutral .f32 hφ) (hc : Shape.ShapeCasts ⟨1, ![N]⟩ ⟨2, ![1, N]⟩) (b : Fin N) :
    shapeCast ⟨2, ![1, N]⟩ (multiReduction .add [0] ⟨1, ![N]⟩ x 0x00000000#32 h hφ hacc) hc (ix2 0 b) = ∑ k : Fin M, x (ix2 k b) := by
  refine (shapeCast_apply _ _ _ (ix1 b) ?_).trans ((Ideal.multiReduction_add_single x _ h hφ hacc (ix1 b)).trans ?_)
  · rw [Shape.rowMajor_val_one, Shape.rowMajor_val_two]
    show b.val = 0 * N + b.val
    omega
  · refine Finset.sum_congr rfl fun k _ => congrArg x (funext fun d => Fin.ext ?_)
    match d with
    | ⟨0, _⟩ => rfl
    | ⟨1, _⟩ => rfl

/-- A block's rows in groups of eight: the sum over the groups. -/
theorem groups_apply (x : FVec Ideal ⟨2, ![M, N]⟩ .f32) (hc : Shape.ShapeCasts ⟨2, ![M, N]⟩ ⟨3, ![G, 8, N]⟩)
    (h : Shape.Reduces ⟨3, ![G, 8, N]⟩ [0] ⟨2, ![8, N]⟩) (hφ : FKind.Formats .f32)
    (hacc : 0x00000000#32 = FKind.add.neutral .f32 hφ) (hM : M = G * 8) (e : Fin 8) (b : Fin N) :
    multiReduction .add [0] ⟨2, ![8, N]⟩ (shapeCast ⟨3, ![G, 8, N]⟩ x hc) 0x00000000#32 h hφ hacc (ix2 e b)
      = ∑ k : Fin G, x (ix2 (⟨8 * k.val + e.val, by have := k.isLt; have := e.isLt; omega⟩ : Fin M) b) := by
  refine (Ideal.multiReduction_add_single _ _ h hφ hacc (ix2 e b)).trans ?_
  refine Finset.sum_congr rfl fun (k : Fin G) _ => ?_
  have hl : h.lift (ix2 e b) k = ix3 k e b := funext fun d => Fin.ext (match d with
    | ⟨0, _⟩ => rfl
    | ⟨1, _⟩ => rfl
    | ⟨2, _⟩ => rfl)
  rw [hl]
  refine shapeCast_apply _ _ _ _ ?_
  rw [Shape.rowMajor_val_two, Shape.rowMajor_val_three]
  show (8 * k.val + e.val) * N + b.val = (k.val * 8 + e.val) * N + b.val
  rw [Nat.mul_comm 8]

/-- A column broadcast to a block. -/
theorem col_apply {α : Type} (x : (⟨2, ![M, 1]⟩ : Shape).Idx → α) (h : (⟨2, ![M, 1]⟩ : Shape).Broadcasts ⟨2, ![M, N]⟩) (a : Fin M) (b : Fin N) :
    broadcastTo ⟨2, ![M, N]⟩ x h (ix2 a b) = x (ix2 a 0) := by
  refine broadcastTo_apply _ _ _ _ fun d => ?_
  match d with
  | ⟨0, _⟩ =>
    show a.val = if M = 1 then 0 else a.val
    have := a.isLt
    split <;> omega
  | ⟨1, _⟩ => rfl

/-- The factor of each row's norm. -/
theorem scale_apply (x : FVec Ideal ⟨2, ![M, N]⟩ .f32) (h : Shape.Reduces ⟨2, ![M, N]⟩ [1] ⟨1, ![M]⟩) (hφ : FKind.Formats .f32)
    (hacc : 0x00000000#32 = FKind.add.neutral .f32 hφ) (hc : Shape.ShapeCasts ⟨1, ![M]⟩ ⟨2, ![M, 1]⟩) (a : Fin M) :
    rsqrt (addf (divf (shapeCast ⟨2, ![M, 1]⟩ (multiReduction .add [1] ⟨1, ![M]⟩ (mulf x x) 0x00000000#32 h hφ hacc) hc)
      (broadcast ⟨2, ![M, 1]⟩ (Scalar.ofBits (F := Ideal) .f32 0x45000000#32))) (broadcast ⟨2, ![M, 1]⟩ (Scalar.ofBits (F := Ideal) .f32 0x358637BD#32))) (ix2 a 0)
      = scl (sq (row x a)) := by
  show Ideal.rsqrt (Ideal.div (shapeCast ⟨2, ![M, 1]⟩ (multiReduction .add [1] ⟨1, ![M]⟩ (mulf x x) 0x00000000#32 h hφ hacc) hc (ix2 a 0)) _ + _) = _
  rw [rows_apply]
  rfl

/-- The derivative of the rows' norms, from the rows `x`, their factors `r`, the norms `y` and the derivative `d` by them. -/
theorem grad_apply (x d y : FVec Ideal ⟨2, ![M, N]⟩ .f32) (r : FVec Ideal ⟨2, ![M, 1]⟩ .f32) (h : Shape.Reduces ⟨2, ![M, N]⟩ [1] ⟨1, ![M]⟩)
    (hφ : FKind.Formats .f32) (hacc : 0x00000000#32 = FKind.add.neutral .f32 hφ) (hc : Shape.ShapeCasts ⟨1, ![M]⟩ ⟨2, ![M, 1]⟩)
    (hb : (⟨2, ![M, 1]⟩ : Shape).Broadcasts ⟨2, ![M, N]⟩) (hr : ∀ a : Fin M, r (ix2 a 0) = scl (sq (row x a)))
    (hy : ∀ (a : Fin M) (b : Fin N), y (ix2 a b) = x (ix2 a b) * scl (sq (row x a))) (a : Fin M) (b : Fin N) :
    mulf (broadcastTo ⟨2, ![M, N]⟩ r hb) (subf d (mulf y (broadcastTo ⟨2, ![M, N]⟩
      (divf (shapeCast ⟨2, ![M, 1]⟩ (multiReduction .add [1] ⟨1, ![M]⟩ (mulf d y) 0x00000000#32 h hφ hacc) hc)
        (broadcast ⟨2, ![M, 1]⟩ (Scalar.ofBits (F := Ideal) .f32 0x45000000#32))) hb))) (ix2 a b) = grad (row x a) (row d a) b := by
  show broadcastTo ⟨2, ![M, N]⟩ r hb (ix2 a b) * (d (ix2 a b) - y (ix2 a b) * broadcastTo ⟨2, ![M, N]⟩ _ hb (ix2 a b)) = _
  rw [col_apply, col_apply, hr, hy]
  show _ * (_ - _ * Ideal.div (shapeCast ⟨2, ![M, 1]⟩ (multiReduction .add [1] ⟨1, ![M]⟩ (mulf d y) 0x00000000#32 h hφ hacc) hc (ix2 a 0)) _) = _
  rw [rows_apply]
  have e : (∑ k : Fin N, (mulf d y) (ix2 a k)) = ∑ k : Fin N, row d a k * (row x a k * scl (sq (row x a))) :=
    Finset.sum_congr rfl fun k _ => by show d (ix2 a k) * y (ix2 a k) = _; rw [hy]
  rw [e]
  rfl

/-! ## The reference's arrays -/

/-- The sums of the rows. -/
theorem hrows_apply (x : FVec Ideal ⟨2, ![M, N]⟩ .f32) (h : Shape.ReducesTo ⟨2, ![M, N]⟩ [1] ⟨1, ![M]⟩)
    (hR : Shape.Reduces ⟨2, ![M, N]⟩ [1] ⟨1, ![M]⟩) (hu : 0 < (⟨0, ![]⟩ : Shape).numel) (a : Fin M) :
    Host.reduceAdd x (constant ⟨0, ![]⟩ .f32 0x00000000#32) h hu (ix1 a) = ∑ k : Fin N, x (ix2 a k) := by
  rw [hostReduceAdd_apply, Ideal.hostReduceAdd_single h hR]
  show Ideal.ofBits .f32 0x00000000#32 + _ = _
  rw [Ideal.ofBits_zero_f32, zero_add]
  refine Finset.sum_congr rfl fun k _ => congrArg x (funext fun d => Fin.ext ?_)
  match d with
  | ⟨0, _⟩ => rfl
  | ⟨1, _⟩ => rfl

/-- The sums of the columns, as a row. -/
theorem hcols_apply (x : FVec Ideal ⟨2, ![M, N]⟩ .f32) (h : Shape.ReducesTo ⟨2, ![M, N]⟩ [0] ⟨1, ![N]⟩)
    (hR : Shape.Reduces ⟨2, ![M, N]⟩ [0] ⟨1, ![N]⟩) (hu : 0 < (⟨0, ![]⟩ : Shape).numel) (hc : Shape.ShapeCasts ⟨1, ![N]⟩ ⟨2, ![1, N]⟩) (b : Fin N) :
    shapeCast ⟨2, ![1, N]⟩ (Host.reduceAdd x (constant ⟨0, ![]⟩ .f32 0x00000000#32) h hu) hc (ix2 0 b) = ∑ k : Fin M, x (ix2 k b) := by
  refine (shapeCast_apply _ _ _ (ix1 b) ?_).trans ?_
  · rw [Shape.rowMajor_val_one, Shape.rowMajor_val_two]
    show b.val = 0 * N + b.val
    omega
  rw [hostReduceAdd_apply, Ideal.hostReduceAdd_single h hR]
  show Ideal.ofBits .f32 0x00000000#32 + _ = _
  rw [Ideal.ofBits_zero_f32, zero_add]
  refine Finset.sum_congr rfl fun k _ => congrArg x (funext fun d => Fin.ext ?_)
  match d with
  | ⟨0, _⟩ => rfl
  | ⟨1, _⟩ => rfl

/-- A column, a row and a vector broadcast to a matrix; a vector as a column. -/
theorem hcol_apply {α : Type} (x : (⟨2, ![M, 1]⟩ : Shape).Idx → α) (h : (⟨2, ![M, 1]⟩ : Shape).BroadcastsInDim ⟨2, ![M, N]⟩ ![0, 1])
    (a : Fin M) (b : Fin N) : broadcastInDim ⟨2, ![M, N]⟩ ![0, 1] h x (ix2 a b) = x (ix2 a 0) := by
  refine broadcastInDim_apply _ _ _ _ _ fun d => ?_
  match d with
  | ⟨0, _⟩ =>
    show a.val = if M = 1 then 0 else a.val
    have := a.isLt
    split <;> omega
  | ⟨1, _⟩ => rfl

theorem hrow_apply {α : Type} (x : (⟨2, ![1, N]⟩ : Shape).Idx → α) (h : (⟨2, ![1, N]⟩ : Shape).BroadcastsInDim ⟨2, ![M, N]⟩ ![0, 1])
    (a : Fin M) (b : Fin N) : broadcastInDim ⟨2, ![M, N]⟩ ![0, 1] h x (ix2 a b) = x (ix2 0 b) := by
  refine broadcastInDim_apply _ _ _ _ _ fun d => ?_
  match d with
  | ⟨0, _⟩ => rfl
  | ⟨1, _⟩ =>
    show b.val = if N = 1 then 0 else b.val
    have := b.isLt
    split <;> omega

theorem hvec_apply {α : Type} (x : (⟨1, ![M]⟩ : Shape).Idx → α) (h : (⟨1, ![M]⟩ : Shape).BroadcastsInDim ⟨2, ![M, N]⟩ ![0])
    (a : Fin M) (b : Fin N) : broadcastInDim ⟨2, ![M, N]⟩ ![0] h x (ix2 a b) = x (ix1 a) := by
  refine broadcastInDim_apply _ _ _ _ _ fun d => ?_
  match d with
  | ⟨0, _⟩ =>
    show a.val = if M = 1 then 0 else a.val
    have := a.isLt
    split <;> omega

variable (h : Shape.ReducesTo ⟨2, ![M, N]⟩ [1] ⟨1, ![M]⟩) (hu : 0 < (⟨0, ![]⟩ : Shape).numel)
  (hb : (⟨1, ![M]⟩ : Shape).BroadcastsInDim ⟨2, ![M, 1]⟩ ![0]) (hs : (⟨0, ![]⟩ : Shape).BroadcastsInDim ⟨2, ![M, 1]⟩ ![])

/-- The rows' mean squares plus ε, as a column … -/
def hvar (x : FVec Ideal ⟨2, ![M, N]⟩ .f32) : FVec Ideal ⟨2, ![M, 1]⟩ .f32 :=
  addf (Host.divf (broadcastInDim ⟨2, ![M, 1]⟩ ![0] hb (Host.reduceAdd (mulf x x) (constant ⟨0, ![]⟩ .f32 0x00000000#32) h hu))
    (broadcastInDim ⟨2, ![M, 1]⟩ ![] hs (constant ⟨0, ![]⟩ .f32 0x45000000#32)))
    (broadcastInDim ⟨2, ![M, 1]⟩ ![] hs (constant ⟨0, ![]⟩ .f32 0x358637BD#32))

theorem hvar_apply (hR : Shape.Reduces ⟨2, ![M, N]⟩ [1] ⟨1, ![M]⟩) (x : FVec Ideal ⟨2, ![M, N]⟩ .f32) (a : Fin M) :
    hvar h hu hb hs x (ix2 a 0) = var (sq (row x a)) := by
  show Ideal.div (broadcastInDim ⟨2, ![M, 1]⟩ ![0] hb (Host.reduceAdd (mulf x x) (constant ⟨0, ![]⟩ .f32 0x00000000#32) h hu) (ix2 a 0))
      (broadcastInDim ⟨2, ![M, 1]⟩ ![] hs (constant (F := Ideal) ⟨0, ![]⟩ .f32 0x45000000#32) (ix2 a 0))
    + broadcastInDim ⟨2, ![M, 1]⟩ ![] hs (constant (F := Ideal) ⟨0, ![]⟩ .f32 0x358637BD#32) (ix2 a 0) = _
  rw [hvec_apply, hrows_apply _ h hR hu, broadcastInDim_scalar_apply, broadcastInDim_scalar_apply]
  rfl

/-- … and the derivative by the mean, a number for each row. -/
def hinner (hc : Shape.ShapeCasts ⟨1, ![M]⟩ ⟨2, ![M, 1]⟩) (h1 : Shape.ReducesTo ⟨2, ![M, 1]⟩ [1] ⟨1, ![M]⟩)
    (x d : FVec Ideal ⟨2, ![M, N]⟩ .f32) : FVec Ideal ⟨1, ![M]⟩ .f32 :=
  Host.reduceAdd (Host.divf (mulf (shapeCast ⟨2, ![M, 1]⟩ (Host.reduceAdd (mulf x d) (constant ⟨0, ![]⟩ .f32 0x00000000#32) h hu) hc)
    (mulf (broadcastInDim ⟨2, ![M, 1]⟩ ![] hs (constant ⟨0, ![]⟩ .f32 0xBF000000#32))
      (Host.divf (Host.rsqrt (hvar h hu hb hs x)) (hvar h hu hb hs x))))
    (broadcastInDim ⟨2, ![M, 1]⟩ ![] hs (constant ⟨0, ![]⟩ .f32 0x45000000#32))) (constant ⟨0, ![]⟩ .f32 0x00000000#32) h1 hu

theorem hinner_apply (hR : Shape.Reduces ⟨2, ![M, N]⟩ [1] ⟨1, ![M]⟩) (hR1 : Shape.Reduces ⟨2, ![M, 1]⟩ [1] ⟨1, ![M]⟩)
    (hc : Shape.ShapeCasts ⟨1, ![M]⟩ ⟨2, ![M, 1]⟩) (h1 : Shape.ReducesTo ⟨2, ![M, 1]⟩ [1] ⟨1, ![M]⟩)
    (x d : FVec Ideal ⟨2, ![M, N]⟩ .f32) (a : Fin M) : hinner h hu hb hs hc h1 x d (ix1 a) = inner (row x a) (row d a) := by
  unfold hinner
  rw [hrows_apply _ h1 hR1 hu, Fin.sum_univ_one]
  show Ideal.div (shapeCast ⟨2, ![M, 1]⟩ (Host.reduceAdd (mulf x d) (constant ⟨0, ![]⟩ .f32 0x00000000#32) h hu) hc (ix2 a 0)
    * (broadcastInDim ⟨2, ![M, 1]⟩ ![] hs (constant (F := Ideal) ⟨0, ![]⟩ .f32 0xBF000000#32) (ix2 a 0) * Ideal.div (Ideal.rsqrt (hvar h hu hb hs x (ix2 a 0))) (hvar h hu hb hs x (ix2 a 0))))
    (broadcastInDim ⟨2, ![M, 1]⟩ ![] hs (constant (F := Ideal) ⟨0, ![]⟩ .f32 0x45000000#32) (ix2 a 0)) = _
  have e : shapeCast ⟨2, ![M, 1]⟩ (Host.reduceAdd (mulf x d) (constant ⟨0, ![]⟩ .f32 0x00000000#32) h hu) hc (ix2 a 0) = ∑ k : Fin N, row x a k * row d a k := by
    refine (shapeCast_apply _ _ _ (ix1 a) ?_).trans (hrows_apply _ h hR hu a)
    rw [Shape.rowMajor_val_one, Shape.rowMajor_val_two]
    show a.val = a.val * 1 + 0
    omega
  rw [e, hvar_apply h hu hb hs hR, broadcastInDim_scalar_apply, broadcastInDim_scalar_apply]
  rfl

/-- The rows' norms … -/
theorem hnorm_apply (hR : Shape.Reduces ⟨2, ![M, N]⟩ [1] ⟨1, ![M]⟩) (hm : (⟨2, ![M, 1]⟩ : Shape).BroadcastsInDim ⟨2, ![M, N]⟩ ![0, 1])
    (x : FVec Ideal ⟨2, ![M, N]⟩ .f32) (a : Fin M) (b : Fin N) :
    broadcastInDim ⟨2, ![M, N]⟩ ![0, 1] hm (Host.rsqrt (hvar h hu hb hs x)) (ix2 a b) = scl (sq (row x a)) := by
  rw [hcol_apply]
  show Ideal.rsqrt (hvar h hu hb hs x (ix2 a 0)) = _
  rw [hvar_apply h hu hb hs hR]
  rfl

/-- … and their derivative: what three summands add to is the kernel's form. -/
theorem hgrad_apply (hR : Shape.Reduces ⟨2, ![M, N]⟩ [1] ⟨1, ![M]⟩) (hR1 : Shape.Reduces ⟨2, ![M, 1]⟩ [1] ⟨1, ![M]⟩)
    (hm : (⟨2, ![M, 1]⟩ : Shape).BroadcastsInDim ⟨2, ![M, N]⟩ ![0, 1]) (hv : (⟨1, ![M]⟩ : Shape).BroadcastsInDim ⟨2, ![M, N]⟩ ![0])
    (hc : Shape.ShapeCasts ⟨1, ![M]⟩ ⟨2, ![M, 1]⟩) (h1 : Shape.ReducesTo ⟨2, ![M, 1]⟩ [1] ⟨1, ![M]⟩)
    (x d : FVec Ideal ⟨2, ![M, N]⟩ .f32) (a : Fin M) (b : Fin N) :
    mulf d (broadcastInDim ⟨2, ![M, N]⟩ ![0, 1] hm (Host.rsqrt (hvar h hu hb hs x))) (ix2 a b)
      + (mulf x (broadcastInDim ⟨2, ![M, N]⟩ ![0] hv (hinner h hu hb hs hc h1 x d)) (ix2 a b)
        + mulf (broadcastInDim ⟨2, ![M, N]⟩ ![0] hv (hinner h hu hb hs hc h1 x d)) x (ix2 a b)) = grad (row x a) (row d a) b := by
  rw [grad_eq]
  show d (ix2 a b) * broadcastInDim ⟨2, ![M, N]⟩ ![0, 1] hm (Host.rsqrt (hvar h hu hb hs x)) (ix2 a b)
    + (x (ix2 a b) * broadcastInDim ⟨2, ![M, N]⟩ ![0] hv (hinner h hu hb hs hc h1 x d) (ix2 a b)
      + broadcastInDim ⟨2, ![M, N]⟩ ![0] hv (hinner h hu hb hs hc h1 x d) (ix2 a b) * x (ix2 a b)) = _
  rw [hnorm_apply h hu hb hs hR, hvec_apply, hinner_apply h hu hb hs hR hR1]

/-- A gradient that three summands add to, added to what was there before them. -/
theorem add_four {s : Shape} (r x y z : FVec Ideal s .f32) (i : s.Idx) {g : EReal} (h : x i + (y i + z i) = g) :
    addf (addf (addf r x) y) z i = g + r i := by
  show ((r i + x i) + y i) + z i = _
  rw [← h, add_assoc, add_assoc, add_comm]

/-- Matrices that agree at every row and column are equal. -/
theorem mat_ext {α : Type} {f g : (⟨2, ![M, N]⟩ : Shape).Idx → α} (h : ∀ (a : Fin M) (b : Fin N), f (ix2 a b) = g (ix2 a b)) : f = g :=
  funext fun i => (congrArg f (eq_ix2 i)).trans ((h (i 0) (i 1)).trans (congrArg g (eq_ix2 i).symm))

/-- Rows plus the scaled norms of other rows … -/
def mix (x o : Mat M N) (g : Mat 1 N) (a : Fin M) (b : Fin N) : EReal := x (ix2 a b) + o (ix2 a b) * scl (sq (row o a)) * g (ix2 0 b)

/-- … as the reference computes them. -/
theorem hmix_apply (hR : Shape.Reduces ⟨2, ![M, N]⟩ [1] ⟨1, ![M]⟩) (hm : (⟨2, ![M, 1]⟩ : Shape).BroadcastsInDim ⟨2, ![M, N]⟩ ![0, 1])
    (hr : (⟨2, ![1, N]⟩ : Shape).BroadcastsInDim ⟨2, ![M, N]⟩ ![0, 1]) (x o : FVec Ideal ⟨2, ![M, N]⟩ .f32) (g : FVec Ideal ⟨2, ![1, N]⟩ .f32)
    (a : Fin M) (b : Fin N) :
    addf x (mulf (mulf o (broadcastInDim ⟨2, ![M, N]⟩ ![0, 1] hm (Host.rsqrt (hvar h hu hb hs o)))) (broadcastInDim ⟨2, ![M, N]⟩ ![0, 1] hr g)) (ix2 a b)
      = mix x o g a b := by
  show x (ix2 a b) + o (ix2 a b) * broadcastInDim ⟨2, ![M, N]⟩ ![0, 1] hm (Host.rsqrt (hvar h hu hb hs o)) (ix2 a b)
    * broadcastInDim ⟨2, ![M, N]⟩ ![0, 1] hr g (ix2 a b) = _
  rw [hnorm_apply h hu hb hs hR, hrow_apply]
  rfl

/-! ## Sums in groups of eight rows -/

/-- A sum over rows, by the place in a group of eight and the group. -/
theorem sum_groups (f : Fin 2048 → EReal) :
    ∑ e : Fin 8, ∑ k : Fin 256, f ⟨8 * k.val + e.val, by have := k.isLt; have := e.isLt; omega⟩ = ∑ j, f j := by
  rw [Finset.sum_comm, ← Fintype.sum_prod_type']
  exact Fintype.sum_equiv (finProdFinEquiv (m := 256) (n := 8)) _ _ fun p => congrArg f (Fin.ext (Nat.add_comm _ _))

end Cert.Norms

end
-- ==== Proof.Norms.PreEven.lean ====
/- The backward call of the first norm of an even layer: the gradient by its input, plus the stream's, and the one by
   its gain, over tiles of 512 rows. -/
module

public import proofs.«01_k».proof.Defs
public import proofs.«01_k».proof.Proof.Norms.Read
public import proofs.«01_k».proof.Proof.Gen.PreEvenIdeal.Value
public import proofs.«01_k».proof.Proof.Gen.PreEvenRefIdeal.Run
public import Idealize.ShloMosaic.Lib.Tactic

@[expose] public section

noncomputable section

open scoped BigOperators

namespace Cert.PreEvenIdeal.Product

open Cert.PreEvenIdeal Cert.PreEvenIdeal.Gen Cert.Products Cert.Norms Idealize.ShloMosaic Idealize.ShloMosaic.TcCoe Idealize.SL.Sem
open Idealize.ShloMosaic.ValueIdx

variable (m : (ℓ : Loc nD τ sig) → Buf (Elt Ideal) ℓ)

/-! ## What a point stores -/

section Stores

variable (c : Dev nD) (i : grid0.Coords) (arg1 : Memref sig .tc .vmem S512x2048 .bf16) (harg1 : arg1.IsWhole) (arg2 : Memref sig .tc .vmem S512x2048 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x2048 .f32) (harg6 : arg6.IsWhole) (arg7 : Memref sig .tc .vmem S8x2048 .f32) (harg7 : arg7.IsWhole)

section A

variable (hc0 : cond0_0 i) (hc1 : ¬cond0_1 i)
  (x0 : Vec Ideal S512x2048 .bf16) (x1 : Vec Ideal S512x2048 .f32) (x2 : Vec Ideal S1x2048 .f32) (x3 : Vec Ideal S512x2048 .f32)

theorem out0_A_4_eq : out0_A_4 c i arg1 harg1 arg2 harg2 arg3 harg3 arg4 harg4 arg5 harg5 arg6 harg6 arg7 harg7 hc0 hc1 x0 x1 x2 x3 = k0_pay7 x0 x1 x2 x3 := by
  unfold out0_A_4
  rw [View.read_writes_eq_canon _ _ _ (cover0_A_4 c i arg1 harg1 arg2 harg2 arg3 harg3 arg4 harg4 arg5 harg5 arg6 harg6 arg7 harg7 hc0 hc1 x0 x1 x2 x3)]
  unfold kernelRun0_A
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread]
  repeat rw [View.ld_unit_zero hz2]

theorem sout0_A_0_eq : sout0_A_0 c i arg1 harg1 arg2 harg2 arg3 harg3 arg4 harg4 arg5 harg5 arg6 harg6 arg7 harg7 hc0 hc1 x0 x1 x2 x3 = k0_pay1 (k0_pay8 x0 x1 (k0_pay3 (F := Ideal))) := by
  unfold sout0_A_0
  rw [View.read_writes_eq_canon _ _ _ (scover0_A_0 c i arg1 harg1 arg2 harg2 arg3 harg3 arg4 harg4 arg5 harg5 arg6 harg6 arg7 harg7 hc0 hc1 x0 x1 x2 x3)]
  unfold kernelRun0_A
  sl_unfold_words
  rw [View.canon_cons_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread]
  repeat rw [View.ld_unit_zero hz2]

end A

section B

variable (hc0 : ¬cond0_0 i) (hc1 : ¬cond0_1 i)
  (x0 : Vec Ideal S512x2048 .bf16) (x1 : Vec Ideal S512x2048 .f32) (x2 : Vec Ideal S1x2048 .f32) (x3 : Vec Ideal S512x2048 .f32) (xs0 : Vec Ideal S8x2048 .f32)

theorem out0_B_4_eq : out0_B_4 c i arg1 harg1 arg2 harg2 arg3 harg3 arg4 harg4 arg5 harg5 arg6 harg6 arg7 harg7 hc0 hc1 x0 x1 x2 x3 xs0 = k0_pay7 x0 x1 x2 x3 := by
  unfold out0_B_4
  rw [View.read_writes_eq_canon _ _ _ (cover0_B_4 c i arg1 harg1 arg2 harg2 arg3 harg3 arg4 harg4 arg5 harg5 arg6 harg6 arg7 harg7 hc0 hc1 x0 x1 x2 x3 xs0)]
  unfold kernelRun0_B
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread]
  repeat rw [View.ld_unit_zero hz2]

theorem sout0_B_0_eq : sout0_B_0 c i arg1 harg1 arg2 harg2 arg3 harg3 arg4 harg4 arg5 harg5 arg6 harg6 arg7 harg7 hc0 hc1 x0 x1 x2 x3 xs0 = k0_pay1 (k0_pay8 x0 x1 xs0) := by
  unfold sout0_B_0
  rw [View.read_writes_eq_canon _ _ _ (scover0_B_0 c i arg1 harg1 arg2 harg2 arg3 harg3 arg4 harg4 arg5 harg5 arg6 harg6 arg7 harg7 hc0 hc1 x0 x1 x2 x3 xs0)]
  unfold kernelRun0_B
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread]
  repeat rw [View.ld_unit_zero hz2]

end B

section C

variable (hc0 : ¬cond0_0 i) (hc1 : cond0_1 i)
  (x0 : Vec Ideal S512x2048 .bf16) (x1 : Vec Ideal S512x2048 .f32) (x2 : Vec Ideal S1x2048 .f32) (x3 : Vec Ideal S512x2048 .f32) (xs0 : Vec Ideal S8x2048 .f32)

theorem out0_C_4_eq : out0_C_4 c i arg1 harg1 arg2 harg2 arg3 harg3 arg4 harg4 arg5 harg5 arg6 harg6 arg7 harg7 hc0 hc1 x0 x1 x2 x3 xs0 = k0_pay7 x0 x1 x2 x3 := by
  unfold out0_C_4
  rw [View.read_writes_eq_canon _ _ _ (cover0_C_4 c i arg1 harg1 arg2 harg2 arg3 harg3 arg4 harg4 arg5 harg5 arg6 harg6 arg7 harg7 hc0 hc1 x0 x1 x2 x3 xs0)]
  unfold kernelRun0_C
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread]
  repeat rw [View.ld_unit_zero hz2]

theorem sout0_C_0_eq : sout0_C_0 c i arg1 harg1 arg2 harg2 arg3 harg3 arg4 harg4 arg5 harg5 arg6 harg6 arg7 harg7 hc0 hc1 x0 x1 x2 x3 xs0 = k0_pay1 (k0_pay8 x0 x1 xs0) := by
  unfold sout0_C_0
  rw [View.read_writes_eq_canon _ _ _ (scover0_C_0 c i arg1 harg1 arg2 harg2 arg3 harg3 arg4 harg4 arg5 harg5 arg6 harg6 arg7 harg7 hc0 hc1 x0 x1 x2 x3 xs0)]
  unfold kernelRun0_C
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread]
  repeat rw [View.ld_unit_zero hz2]

theorem out0_C_5_eq : out0_C_5 c i arg1 harg1 arg2 harg2 arg3 harg3 arg4 harg4 arg5 harg5 arg6 harg6 arg7 harg7 hc0 hc1 x0 x1 x2 x3 xs0 = k0_pay2 (k0_pay1 (k0_pay8 x0 x1 xs0)) := by
  unfold out0_C_5
  rw [View.read_writes_eq_canon _ _ _ (cover0_C_5 c i arg1 harg1 arg2 harg2 arg3 harg3 arg4 harg4 arg5 harg5 arg6 harg6 arg7 harg7 hc0 hc1 x0 x1 x2 x3 xs0)]
  unfold kernelRun0_C
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread]
  repeat rw [View.ld_unit_zero hz2]

end C

end Stores

/-! ## A block's numbers -/

theorem pay5_apply (x1 : Vec Ideal S512x2048 .f32) (a : Fin 512) : k0_pay5 x1 (ix2 a 0) = scl (sq (row (M := 512) (N := 2048) x1 a)) :=
  scale_apply (M := 512) (N := 2048) x1 _ _ _ _ a

theorem pay6_apply (x1 : Vec Ideal S512x2048 .f32) (a : Fin 512) (b : Fin 2048) :
    k0_pay6 x1 (ix2 a b) = x1 (ix2 a b) * scl (sq (row (M := 512) (N := 2048) x1 a)) := by
  unfold k0_pay6
  show x1 (ix2 a b) * broadcastTo S512x2048 (k0_pay5 x1) broadcasts_S512x1_S512x2048 (ix2 a b) = _
  rw [← pay5_apply]
  exact congrArg (x1 (ix2 a b) * ·) (col_apply (M := 512) (N := 2048) (k0_pay5 x1) broadcasts_S512x1_S512x2048 a b)

/-- The gradient by the block's rows, plus the stream's. -/
theorem pay7_apply (x0 : Vec Ideal S512x2048 .bf16) (x1 : Vec Ideal S512x2048 .f32) (x2 : Vec Ideal S1x2048 .f32) (x3 : Vec Ideal S512x2048 .f32)
    (a : Fin 512) (b : Fin 2048) :
    k0_pay7 x0 x1 x2 x3 (ix2 a b)
      = grad (row (M := 512) (N := 2048) x1 a) (fun k => x0 (ix2 a k) * x2 (ix2 0 k)) b + x3 (ix2 a b) := by
  refine congrArg (· + x3 (ix2 a b)) ((grad_apply (M := 512) (N := 2048) x1
    (mulf (k0_pay4 x0) (broadcastTo S512x2048 x2 broadcasts_S1x2048_S512x2048)) (k0_pay6 x1) (k0_pay5 x1) _ _ _ _ _
    (pay5_apply x1) (pay6_apply x1) a b).trans ?_)
  refine congrArg (fun d => grad (row (M := 512) (N := 2048) x1 a) d b) (funext fun k => ?_)
  exact congrArg (x0 (ix2 a k) * ·) (broadcastTo_1b_ab_apply (a := 512) (b := 2048) x2 broadcasts_S1x2048_S512x2048 a k)

/-- The accumulator plus the block's rows in groups of eight. -/
theorem pay8_apply (x0 : Vec Ideal S512x2048 .bf16) (x1 : Vec Ideal S512x2048 .f32) (xs : Vec Ideal S8x2048 .f32) (e : Fin 8) (b : Fin 2048) :
    k0_pay1 (k0_pay8 x0 x1 xs) (ix2 e b) = xs (ix2 e b) + ∑ k : Fin 64,
      x0 (ix2 (⟨8 * k.val + e.val, by have := k.isLt; have := e.isLt; omega⟩ : Fin 512) b)
        * (x1 (ix2 (⟨8 * k.val + e.val, by have := k.isLt; have := e.isLt; omega⟩ : Fin 512) b)
          * scl (sq (row (M := 512) (N := 2048) x1 ⟨8 * k.val + e.val, by have := k.isLt; have := e.isLt; omega⟩))) := by
  unfold k0_pay1 k0_pay8
  rw [shapeCast_self]
  refine congrArg (xs (ix2 e b) + ·) ((groups_apply (M := 512) (N := 2048) (G := 64) (mulf (k0_pay4 x0) (k0_pay6 x1)) _ _ _ _ rfl e b).trans ?_)
  exact Finset.sum_congr rfl fun k _ => congrArg (x0 (ix2 (⟨8 * k.val + e.val, by have := k.isLt; have := e.isLt; omega⟩ : Fin 512) b) * ·) (pay6_apply x1 _ b)

theorem pay3_apply (i : S8x2048.Idx) : k0_pay3 (F := Ideal) i = 0 := by
  unfold k0_pay3
  rw [shapeCast_self]
  exact Ideal.ofBits_zero_f32

theorem pay2_apply (v : Vec Ideal S8x2048 .f32) (b : Fin 2048) : k0_pay2 v (ix2 0 b) = ∑ e : Fin 8, v (ix2 e b) :=
  cols_apply (M := 8) (N := 2048) v _ _ _ _ b

/-! ## The blocks a point takes -/

theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0) :=
  (by decide +kernel : ∀ t : Fin grid0.N, _)

theorem blk0 (c : Dev nD) (t : Fin cfg0.N) (a : Fin 512) (k j : Fin 2048) (hj : j.val = 512 * t.val + a.val) :
    iblk m c 0 t (ix2 a k) = m ((c : Thread nD τ).loc main_arg3) (ix2 j k) := by
  unfold iblk
  rw [View.read_apply]
  show V m c main_arg3 _ = _
  rw [V_main_arg3]
  congr 1; funext d; apply Fin.ext
  obtain ⟨⟨h0, h1⟩, -⟩ := idx t
  match d with
  | ⟨0, _⟩ => show win0_0.index t (0 : Fin 2) * 512 + 1 * a.val = j.val; omega
  | ⟨1, _⟩ => show win0_0.index t (1 : Fin 2) * 2048 + 1 * k.val = k.val; omega

theorem blk1 (c : Dev nD) (t : Fin cfg0.N) (a : Fin 512) (k j : Fin 2048) (hj : j.val = 512 * t.val + a.val) :
    iblk m c 1 t (ix2 a k) = m ((c : Thread nD τ).loc main_arg0) (ix2 j k) := by
  unfold iblk
  rw [View.read_apply]
  show V m c main_arg0 _ = _
  rw [V_main_arg0]
  congr 1; funext d; apply Fin.ext
  obtain ⟨-, ⟨h0, h1⟩, -⟩ := idx t
  match d with
  | ⟨0, _⟩ => show win0_1.index t (0 : Fin 2) * 512 + 1 * a.val = j.val; omega
  | ⟨1, _⟩ => show win0_1.index t (1 : Fin 2) * 2048 + 1 * k.val = k.val; omega

theorem blk2 (c : Dev nD) (t : Fin cfg0.N) (k : Fin 2048) :
    iblk m c 2 t (ix2 0 k) = m ((c : Thread nD τ).loc main_arg1) (ix2 0 k) := by
  unfold iblk
  rw [View.read_apply]
  show V m c main_arg1 _ = _
  rw [V_main_arg1]
  congr 1; funext d; apply Fin.ext
  obtain ⟨-, -, ⟨h0, h1⟩, -⟩ := idx t
  match d with
  | ⟨0, _⟩ => show win0_2.index t (0 : Fin 2) * 1 + 1 * 0 = 0; omega
  | ⟨1, _⟩ => show win0_2.index t (1 : Fin 2) * 2048 + 1 * k.val = k.val; omega

theorem blk3 (c : Dev nD) (t : Fin cfg0.N) (a : Fin 512) (k j : Fin 2048) (hj : j.val = 512 * t.val + a.val) :
    iblk m c 3 t (ix2 a k) = m ((c : Thread nD τ).loc main_arg2) (ix2 j k) := by
  unfold iblk
  rw [View.read_apply]
  show V m c main_arg2 _ = _
  rw [V_main_arg2]
  congr 1; funext d; apply Fin.ext
  obtain ⟨-, -, -, h0, h1⟩ := idx t
  match d with
  | ⟨0, _⟩ => show win0_3.index t (0 : Fin 2) * 512 + 1 * a.val = j.val; omega
  | ⟨1, _⟩ => show win0_3.index t (1 : Fin 2) * 2048 + 1 * k.val = k.val; omega

/-! ## The arrays after the run -/

/-- The arguments the run starts with: the stream, the gain, the stream's gradient, the derivative by the norm. -/
abbrev argX (c : Dev nD) : Mat 2048 2048 := m ((c : Thread nD τ).loc main_arg0)
abbrev argG (c : Dev nD) : Mat 1 2048 := m ((c : Thread nD τ).loc main_arg1)
abbrev argR (c : Dev nD) : Mat 2048 2048 := m ((c : Thread nD τ).loc main_arg2)
abbrev argD (c : Dev nD) : Mat 2048 2048 := m ((c : Thread nD τ).loc main_arg3)

/-- The gradient by the stream … -/
def gx (c : Dev nD) (j b : Fin 2048) : EReal :=
  grad (row (argX m c) j) (fun k => argD m c (ix2 j k) * argG m c (ix2 0 k)) b + argR m c (ix2 j b)
/-- … and a row's part of the gradient by the gain. -/
def gg (c : Dev nD) (b j : Fin 2048) : EReal := argD m c (ix2 j b) * (argX m c (ix2 j b) * scl (sq (row (argX m c) j)))

theorem rowX (c : Dev nD) (t : Fin cfg0.N) (a : Fin 512) (j : Fin 2048) (hj : j.val = 512 * t.val + a.val) :
    row (M := 512) (N := 2048) (iblk m c 1 t) a = row (argX m c) j := funext fun k => blk1 m c t a k j hj

/-- What a point stores of the gradient by the stream. -/
theorem out4 (c : Dev nD) (t : Fin cfg0.N) : (outsAt0 m c t.val t.isLt).1 = k0_pay7 (iblk m c 0 t) (iblk m c 1 t) (iblk m c 2 t) (iblk m c 3 t) := by
  by_cases h0 : t.val % 4 = 0
  · rw [outsAt0_A m c t h0 (by omega)]; dsimp only; rw [out0_A_4_eq]
  · by_cases h1 : t.val % 4 = 3
    · rw [outsAt0_C m c t h0 h1]; dsimp only; rw [out0_C_4_eq]
    · rw [outsAt0_B m c t h0 h1]; dsimp only; rw [out0_B_4_eq]

theorem final4 (c : Dev nD) (a b : Fin 2048) : Value.G4 m c (ix2 a b) = gx m c a b := by
  have ha := a.isLt
  have hb := b.isLt
  have hN : cfg0.N = 4 := N_0
  have hp : Value.pt4Of (ix2 a b) = a.val / 512 := by
    show 1 * (a.val / 512 - 0) + 1 * (b.val / 2048 - 0) = _
    omega
  have hl : Value.loc4Of (ix2 a b) = ix2 (⟨a.val % 512, Nat.mod_lt _ (by decide)⟩ : Fin 512) b := funext fun d => Fin.ext (match d with
    | ⟨0, _⟩ => rfl
    | ⟨1, _⟩ => by show b.val % 2048 = b.val; omega)
  have ht : a.val / 512 < cfg0.N := by omega
  unfold Value.G4
  rw [dif_pos (by rw [hp]; exact ht), hl, Value.fold0_congr m c _ _ (a.val / 512) (by omega) hp, ← Value.outsAt0_sweep m c _ ht,
    out4 m c ⟨a.val / 512, ht⟩, pay7_apply]
  have hj : a.val = 512 * (⟨a.val / 512, ht⟩ : Fin cfg0.N).val + (⟨a.val % 512, Nat.mod_lt _ (by decide)⟩ : Fin 512).val := by
    show a.val = 512 * (a.val / 512) + a.val % 512; omega
  rw [rowX m c _ _ a hj, blk3 m c _ _ b a hj]
  refine congrArg (fun d => grad (row (argX m c) a) d b + argR m c (ix2 a b)) (funext fun k => ?_)
  rw [blk0 m c _ _ k a hj, blk2 m c]

/-- What a point adds to the accumulator. -/
theorem step (c : Dev nD) (t : Fin cfg0.N) (xs : Vec Ideal S8x2048 .f32) (e : Fin 8) (b : Fin 2048)
    (hx : xs (ix2 e b) = psum (fun k : Fin 256 => gg m c b ⟨8 * k.val + e.val, by have := k.isLt; have := e.isLt; omega⟩) (64 * t.val)) :
    k0_pay1 (k0_pay8 (iblk m c 0 t) (iblk m c 1 t) xs) (ix2 e b)
      = psum (fun k : Fin 256 => gg m c b ⟨8 * k.val + e.val, by have := k.isLt; have := e.isLt; omega⟩) (64 * (t.val + 1)) := by
  have hN : t.val < 4 := lt_of_lt_of_eq t.isLt N_0
  rw [pay8_apply, hx, Nat.mul_succ]
  refine psum_add _ _ _ (by omega) fun k q hq => ?_
  have hj : (⟨8 * q.val + e.val, by have := q.isLt; have := e.isLt; omega⟩ : Fin 2048).val
      = 512 * t.val + (⟨8 * k.val + e.val, by have := k.isLt; have := e.isLt; omega⟩ : Fin 512).val := by
    show 8 * q.val + e.val = 512 * t.val + (8 * k.val + e.val); omega
  rw [blk0 m c t _ b _ hj, blk1 m c t _ b _ hj, rowX m c t _ _ hj]
  rfl

/-- What the accumulator holds after a point. -/
theorem acc (c : Dev nD) (e : Fin 8) (b : Fin 2048) : ∀ (n : Nat) (hn : n < cfg0.N), (outsAt0 m c n hn).2.2 (ix2 e b)
    = psum (fun k : Fin 256 => gg m c b ⟨8 * k.val + e.val, by have := k.isLt; have := e.isLt; omega⟩) (64 * (n + 1))
  | 0, hn => by
    rw [outsAt0_A m c ⟨0, hn⟩ (Nat.zero_mod _) (show ¬0 % 4 = 3 by omega)]
    dsimp only
    rw [sout0_A_0_eq]
    exact step m c ⟨0, hn⟩ (k0_pay3 (F := Ideal)) e b ((pay3_apply _).trans (psum_zero _).symm)
  | n + 1, hn => by
    have hN : n + 1 < 4 := lt_of_lt_of_eq hn N_0
    have ih := acc c e b n (by omega)
    by_cases h1 : (n + 1) % 4 = 3
    · rw [outsAt0_C m c ⟨n + 1, hn⟩ (show ¬(n + 1) % 4 = 0 by omega) h1]
      dsimp only
      rw [sout0_C_0_eq]
      exact step m c ⟨n + 1, hn⟩ _ e b ih
    · rw [outsAt0_B m c ⟨n + 1, hn⟩ (show ¬(n + 1) % 4 = 0 by omega) h1]
      dsimp only
      rw [sout0_B_0_eq]
      exact step m c ⟨n + 1, hn⟩ _ e b ih

theorem final5 (c : Dev nD) (b : Fin 2048) : Value.G5 m c (ix2 0 b) = ∑ j, gg m c b j := by
  have h3 : 3 < cfg0.N := lt_of_lt_of_eq (by decide) N_0.symm
  have hs : ∀ e : Fin 8, k0_pay1 (k0_pay8 (iblk m c 0 ⟨3, h3⟩) (iblk m c 1 ⟨3, h3⟩) (outsAt0 m c 2 (by omega)).2.2) (ix2 e b)
      = ∑ k : Fin 256, gg m c b ⟨8 * k.val + e.val, by have := k.isLt; have := e.isLt; omega⟩ := fun e =>
    (step m c ⟨3, h3⟩ _ e b (acc m c e b 2 (by omega))).trans (psum_all _)
  rw [Value.G5_last, ← Value.outsAt0_sweep m c 3 h3, outsAt0_C m c ⟨3, h3⟩ (show ¬3 % 4 = 0 by omega) (show 3 % 4 = 3 by omega)]
  dsimp only
  rw [out0_C_5_eq, pay2_apply]
  exact (Finset.sum_congr rfl fun e _ => hs e).trans (sum_groups (gg m c b))

/-- The kernel and the reference end with one pair of gradients. -/
theorem algebraic : Cert.algebraic_PreEvenIdeal_PreEvenRefIdeal := by
  intro m ρ m' ρ' _ hagree
  refine ⟨_, _, Cert.PreEvenIdeal.Value.run (F := Ideal) m ρ, ?_⟩
  refine (θ_run Cert.PreEvenRefIdeal.defs _ _).mono (fun _ h c => ⟨?_, ?_, (h c).2.2⟩) (Cert.PreEvenRefIdeal.Value.run (F := Ideal) m' ρ')
  · rw [(h c).1, (hagree c).1, (hagree c).2.1, (hagree c).2.2.1, (hagree c).2.2.2]
    refine mat_ext (M := 2048) (N := 2048) fun a b => ((add_four _ _ _ _ _ (hgrad_apply (M := 2048) (N := 2048)
      _ _ _ _
      (by decide) (by decide) _ _
      _ _ _ _ a b)).trans ?_).trans (final4 m c a b).symm
    refine congrArg (fun d => grad (row (argX m c) a) d b + argR m c (ix2 a b)) (funext fun k => ?_)
    exact congrArg (argD m c (ix2 a k) * ·) (hrow_apply (M := 2048) (N := 2048) (argG m c) _ a k)
  · rw [(h c).2.1, (hagree c).1, (hagree c).2.2.2]
    refine mat_ext (M := 1) (N := 2048) fun z b => ?_
    obtain rfl : z = 0 := Subsingleton.elim _ _
    refine ((hcols_apply (M := 2048) (N := 2048) _ _ (by decide) _ _ b).trans ?_).trans (final5 m c b).symm
    refine Finset.sum_congr rfl fun j _ => (mul_comm _ _).trans ?_
    refine congrArg (fun s => argD m c (ix2 j b) * (argX m c (ix2 j b) * s)) ?_
    exact hnorm_apply (M := 2048) (N := 2048) _ _
      _ _ (by decide) _ (argX m c) j b

end Cert.PreEvenIdeal.Product

end
-- ==== Proof.Norms.Between.lean ====
/- The backward call between an odd and an even layer: the gradients by the stream, by the rows whose norm is added to it
   and by the two norms' gains, over tiles of 256 rows. -/
module

public import proofs.«01_k».proof.Defs
public import proofs.«01_k».proof.Proof.Norms.Read
public import proofs.«01_k».proof.Proof.Gen.BetweenIdeal.Value
public import proofs.«01_k».proof.Proof.Gen.BetweenRefIdeal.Run
public import Idealize.ShloMosaic.Lib.Tactic

@[expose] public section

noncomputable section

open scoped BigOperators

namespace Cert.BetweenIdeal.Product

open Cert.BetweenIdeal Cert.BetweenIdeal.Gen Cert.Products Cert.Norms Idealize.ShloMosaic Idealize.ShloMosaic.TcCoe Idealize.SL.Sem
open Idealize.ShloMosaic.ValueIdx

variable (m : (ℓ : Loc nD τ sig) → Buf (Elt Ideal) ℓ)

/-! ## What a point stores -/

section Stores

variable (c : Dev nD) (i : grid0.Coords) (arg1 : Memref sig .tc .vmem S256x2048 .bf16) (harg1 : arg1.IsWhole) (arg2 : Memref sig .tc .vmem S256x2048 .f32) (harg2 : arg2.IsWhole) (arg3 : Memref sig .tc .vmem S1x2048 .f32) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S1x2048 .f32) (harg6 : arg6.IsWhole) (arg7 : Memref sig .tc .vmem S256x2048 .f32) (harg7 : arg7.IsWhole) (arg8 : Memref sig .tc .vmem S1x2048 .f32) (harg8 : arg8.IsWhole) (arg9 : Memref sig .tc .vmem S256x2048 .bf16) (harg9 : arg9.IsWhole) (arg10 : Memref sig .tc .vmem S1x2048 .f32) (harg10 : arg10.IsWhole) (arg11 : Memref sig .tc .vmem S8x2048 .f32) (harg11 : arg11.IsWhole) (arg12 : Memref sig .tc .vmem S8x2048 .f32) (harg12 : arg12.IsWhole)

section A

variable (hc0 : cond0_0 i) (hc1 : ¬cond0_1 i)
  (x0 : Vec Ideal S256x2048 .bf16) (x1 : Vec Ideal S256x2048 .f32) (x2 : Vec Ideal S1x2048 .f32) (x3 : Vec Ideal S256x2048 .f32) (x4 : Vec Ideal S256x2048 .bf16) (x5 : Vec Ideal S1x2048 .f32)

theorem out0_A_6_eq : out0_A_6 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 = k0_pay10 x0 x1 x2 x3 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  repeat rw [View.ld_unit_zero hz2]

theorem out0_A_8_eq : out0_A_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 = k0_pay15 (k0_pay10 x0 x1 x2 x3) x4 x5 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  repeat rw [View.ld_unit_zero hz2]

theorem sout0_A_0_eq : sout0_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 = k0_pay11 (k0_pay9 x0 x1) (k0_pay3 (F := Ideal)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  sl_unfold_words
  rw [View.canon_cons_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  repeat rw [View.ld_unit_zero hz2]

theorem sout0_A_1_eq : sout0_A_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 = k0_pay16 (k0_pay10 x0 x1 x2 x3) x4 (k0_pay4 (F := Ideal)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  sl_unfold_words
  rw [View.canon_cons_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  repeat rw [View.ld_unit_zero hz2]

end A

section B

variable (hc0 : ¬cond0_0 i) (hc1 : ¬cond0_1 i)
  (x0 : Vec Ideal S256x2048 .bf16) (x1 : Vec Ideal S256x2048 .f32) (x2 : Vec Ideal S1x2048 .f32) (x3 : Vec Ideal S256x2048 .f32) (x4 : Vec Ideal S256x2048 .bf16) (x5 : Vec Ideal S1x2048 .f32) (xs0 : Vec Ideal S8x2048 .f32) (xs1 : Vec Ideal S8x2048 .f32)

theorem out0_B_6_eq : out0_B_6 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 = k0_pay10 x0 x1 x2 x3 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun0_B
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  repeat rw [View.ld_unit_zero hz2]

theorem out0_B_8_eq : out0_B_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 = k0_pay15 (k0_pay10 x0 x1 x2 x3) x4 x5 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun0_B
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  repeat rw [View.ld_unit_zero hz2]

theorem sout0_B_0_eq : sout0_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 = k0_pay11 (k0_pay9 x0 x1) xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun0_B
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  repeat rw [View.ld_unit_zero hz2]

theorem sout0_B_1_eq : sout0_B_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 = k0_pay16 (k0_pay10 x0 x1 x2 x3) x4 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun0_B
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  repeat rw [View.ld_unit_zero hz2]

end B

section C

variable (hc0 : ¬cond0_0 i) (hc1 : cond0_1 i)
  (x0 : Vec Ideal S256x2048 .bf16) (x1 : Vec Ideal S256x2048 .f32) (x2 : Vec Ideal S1x2048 .f32) (x3 : Vec Ideal S256x2048 .f32) (x4 : Vec Ideal S256x2048 .bf16) (x5 : Vec Ideal S1x2048 .f32) (xs0 : Vec Ideal S8x2048 .f32) (xs1 : Vec Ideal S8x2048 .f32)

theorem out0_C_6_eq : out0_C_6 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 = k0_pay10 x0 x1 x2 x3 := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun0_C
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  repeat rw [View.ld_unit_zero hz2]

theorem out0_C_8_eq : out0_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 = k0_pay15 (k0_pay10 x0 x1 x2 x3) x4 x5 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun0_C
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  repeat rw [View.ld_unit_zero hz2]

theorem sout0_C_0_eq : sout0_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 = k0_pay11 (k0_pay9 x0 x1) xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun0_C
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  repeat rw [View.ld_unit_zero hz2]

theorem sout0_C_1_eq : sout0_C_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 = k0_pay16 (k0_pay10 x0 x1 x2 x3) x4 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun0_C
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  repeat rw [View.ld_unit_zero hz2]

theorem out0_C_7_eq : out0_C_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 = k0_pay1 (k0_pay11 (k0_pay9 x0 x1) xs0) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun0_C
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  repeat rw [View.ld_unit_zero hz2]

theorem out0_C_9_eq : out0_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 = k0_pay2 (k0_pay16 (k0_pay10 x0 x1 x2 x3) x4 xs1) := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun0_C
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread]
  repeat rw [View.ld_unit_zero hz2]

end C

end Stores

/-! ## A block's numbers -/

theorem pay7_apply (x1 : Vec Ideal S256x2048 .f32) (a : Fin 256) : k0_pay7 x1 (ix2 a 0) = scl (sq (row (M := 256) (N := 2048) x1 a)) := by
  unfold k0_pay7 k0_pay6
  rw [shapeCast_self]
  exact scale_apply (M := 256) (N := 2048) x1 _ _ _ _ a

theorem pay8_apply (x1 : Vec Ideal S256x2048 .f32) (a : Fin 256) (b : Fin 2048) :
    k0_pay8 x1 (ix2 a b) = x1 (ix2 a b) * scl (sq (row (M := 256) (N := 2048) x1 a)) := by
  unfold k0_pay8 k0_pay6
  rw [shapeCast_self]
  show x1 (ix2 a b) * broadcastTo S256x2048 (k0_pay7 x1) broadcasts_S256x1_S256x2048 (ix2 a b) = _
  rw [← pay7_apply]
  exact congrArg (x1 (ix2 a b) * ·) (col_apply (M := 256) (N := 2048) (k0_pay7 x1) broadcasts_S256x1_S256x2048 a b)

/-- The gradient by the block's rows, plus the stream's. -/
theorem pay10_apply (x0 : Vec Ideal S256x2048 .bf16) (x1 : Vec Ideal S256x2048 .f32) (x2 : Vec Ideal S1x2048 .f32) (x3 : Vec Ideal S256x2048 .f32)
    (a : Fin 256) (b : Fin 2048) :
    k0_pay10 x0 x1 x2 x3 (ix2 a b)
      = grad (row (M := 256) (N := 2048) x1 a) (fun k => x0 (ix2 a k) * x2 (ix2 0 k)) b + x3 (ix2 a b) := by
  refine congrArg (· + x3 (ix2 a b)) ((grad_apply (M := 256) (N := 2048) x1
    (mulf (k0_pay5 x0) (broadcastTo S256x2048 x2 broadcasts_S1x2048_S256x2048)) (k0_pay8 x1) (k0_pay7 x1) _ _ _ _ _
    (pay7_apply x1) (pay8_apply x1) a b).trans ?_)
  refine congrArg (fun d => grad (row (M := 256) (N := 2048) x1 a) d b) (funext fun k => ?_)
  exact congrArg (x0 (ix2 a k) * ·) (broadcastTo_1b_ab_apply (a := 256) (b := 2048) x2 broadcasts_S1x2048_S256x2048 a k)

theorem pay13_apply (x4 : Vec Ideal S256x2048 .bf16) (a : Fin 256) : k0_pay13 x4 (ix2 a 0) = scl (sq (row (M := 256) (N := 2048) x4 a)) :=
  scale_apply (M := 256) (N := 2048) x4 _ _ _ _ a

theorem pay14_apply (x4 : Vec Ideal S256x2048 .bf16) (a : Fin 256) (b : Fin 2048) :
    k0_pay14 x4 (ix2 a b) = x4 (ix2 a b) * scl (sq (row (M := 256) (N := 2048) x4 a)) := by
  unfold k0_pay14
  show x4 (ix2 a b) * broadcastTo S256x2048 (k0_pay13 x4) broadcasts_S256x1_S256x2048 (ix2 a b) = _
  rw [← pay13_apply]
  exact congrArg (x4 (ix2 a b) * ·) (col_apply (M := 256) (N := 2048) (k0_pay13 x4) broadcasts_S256x1_S256x2048 a b)

/-- The gradient by the rows that the other norm takes. -/
theorem pay15_apply (y : FVec Ideal S256x2048 .f32) (x4 : Vec Ideal S256x2048 .bf16) (x5 : Vec Ideal S1x2048 .f32) (a : Fin 256) (b : Fin 2048) :
    k0_pay15 y x4 x5 (ix2 a b) = grad (row (M := 256) (N := 2048) x4 a) (fun k => y (ix2 a k) * x5 (ix2 0 k)) b := by
  refine (grad_apply (M := 256) (N := 2048) x4
    (mulf y (broadcastTo S256x2048 x5 broadcasts_S1x2048_S256x2048)) (k0_pay14 x4) (k0_pay13 x4) _ _ _ _ _
    (pay13_apply x4) (pay14_apply x4) a b).trans ?_
  refine congrArg (fun d => grad (row (M := 256) (N := 2048) x4 a) d b) (funext fun k => ?_)
  exact congrArg (y (ix2 a k) * ·) (broadcastTo_1b_ab_apply (a := 256) (b := 2048) x5 broadcasts_S1x2048_S256x2048 a k)

/-- The accumulators plus the block's rows in groups of eight. -/
theorem pay11_apply (x0 : Vec Ideal S256x2048 .bf16) (x1 : Vec Ideal S256x2048 .f32) (xs : Vec Ideal S8x2048 .f32) (e : Fin 8) (b : Fin 2048) :
    k0_pay11 (k0_pay9 x0 x1) xs (ix2 e b) = xs (ix2 e b) + ∑ k : Fin 32,
      x0 (ix2 (⟨8 * k.val + e.val, by have := k.isLt; have := e.isLt; omega⟩ : Fin 256) b)
        * (x1 (ix2 (⟨8 * k.val + e.val, by have := k.isLt; have := e.isLt; omega⟩ : Fin 256) b)
          * scl (sq (row (M := 256) (N := 2048) x1 ⟨8 * k.val + e.val, by have := k.isLt; have := e.isLt; omega⟩))) := by
  unfold k0_pay11 k0_pay9
  rw [shapeCast_self]
  refine congrArg (xs (ix2 e b) + ·) ((groups_apply (M := 256) (N := 2048) (G := 32) (mulf (k0_pay5 x0) (k0_pay8 x1)) _ _ _ _ rfl e b).trans ?_)
  exact Finset.sum_congr rfl fun k _ => congrArg (x0 (ix2 (⟨8 * k.val + e.val, by have := k.isLt; have := e.isLt; omega⟩ : Fin 256) b) * ·) (pay8_apply x1 _ b)

theorem pay16_apply (y : FVec Ideal S256x2048 .f32) (x4 : Vec Ideal S256x2048 .bf16) (xs : Vec Ideal S8x2048 .f32) (e : Fin 8) (b : Fin 2048) :
    k0_pay16 y x4 xs (ix2 e b) = xs (ix2 e b) + ∑ k : Fin 32,
      y (ix2 (⟨8 * k.val + e.val, by have := k.isLt; have := e.isLt; omega⟩ : Fin 256) b)
        * (x4 (ix2 (⟨8 * k.val + e.val, by have := k.isLt; have := e.isLt; omega⟩ : Fin 256) b)
          * scl (sq (row (M := 256) (N := 2048) x4 ⟨8 * k.val + e.val, by have := k.isLt; have := e.isLt; omega⟩))) := by
  unfold k0_pay16
  rw [shapeCast_self]
  refine congrArg (xs (ix2 e b) + ·) ((groups_apply (M := 256) (N := 2048) (G := 32) (mulf y (k0_pay14 x4)) _ _ _ _ rfl e b).trans ?_)
  exact Finset.sum_congr rfl fun k _ => congrArg (y (ix2 (⟨8 * k.val + e.val, by have := k.isLt; have := e.isLt; omega⟩ : Fin 256) b) * ·) (pay14_apply x4 _ b)

theorem pay3_apply (i : S8x2048.Idx) : k0_pay3 (F := Ideal) i = 0 := by
  unfold k0_pay3
  rw [shapeCast_self]
  exact Ideal.ofBits_zero_f32

theorem pay4_apply (i : S8x2048.Idx) : k0_pay4 (F := Ideal) i = 0 := by
  unfold k0_pay4
  rw [shapeCast_self]
  exact Ideal.ofBits_zero_f32

theorem pay1_apply (v : Vec Ideal S8x2048 .f32) (b : Fin 2048) : k0_pay1 v (ix2 0 b) = ∑ e : Fin 8, v (ix2 e b) :=
  cols_apply (M := 8) (N := 2048) v _ _ _ _ b

theorem pay2_apply (v : Vec Ideal S8x2048 .f32) (b : Fin 2048) : k0_pay2 v (ix2 0 b) = ∑ e : Fin 8, v (ix2 e b) :=
  cols_apply (M := 8) (N := 2048) v _ _ _ _ b

/-! ## What the arguments give -/

section Values

variable (x o : Mat 2048 2048) (g2 g : Mat 1 2048) (r d : Mat 2048 2048)

/-- The gradient by the stream … -/
def gx (j b : Fin 2048) : EReal := grad (mix x o g2 j) (fun k => d (ix2 j k) * g (ix2 0 k)) b + r (ix2 j b)
/-- … and by the rows that are normed and added to it; … -/
def go (j b : Fin 2048) : EReal := grad (row o j) (fun k => gx x o g2 g r d j k * g2 (ix2 0 k)) b
/-- … a row's part of the gradient by the second norm's gain … -/
def gg (b j : Fin 2048) : EReal := d (ix2 j b) * (mix x o g2 j b * scl (sq (mix x o g2 j)))
/-- … and by the first's. -/
def gh (b j : Fin 2048) : EReal := gx x o g2 g r d j b * (o (ix2 j b) * scl (sq (row o j)))

end Values

/-! ## The blocks a point takes -/

/-- The stream between the layers is computed before the tiles. -/
theorem between (c : Dev nD) (a b : Fin 2048) : V m c main_v13 (ix2 a b)
    = mix (M := 2048) (N := 2048) (m ((c : Thread nD τ).loc main_arg0)) (m ((c : Thread nD τ).loc main_arg1)) (m ((c : Thread nD τ).loc main_arg2)) a b := by
  have e : V m c main_v13 = addf (F := Ideal) (s := S2048x2048) (φ := .f32) (m ((c : Thread nD τ).loc main_arg0)) (mulf (mulf (extf .f32 (m ((c : Thread nD τ).loc main_arg1)) bitsLt_bf16_f32)
      (broadcastInDim S2048x2048 ![0, 1] bcast_S2048x1_S2048x2048_0_1 (Host.rsqrt (addf (Host.divf (broadcastInDim S2048x1 ![0] bcast_S2048_S2048x1_0
        (Host.reduceAdd (mulf (extf .f32 (m ((c : Thread nD τ).loc main_arg1)) bitsLt_bf16_f32) (extf .f32 (m ((c : Thread nD τ).loc main_arg1)) bitsLt_bf16_f32))
          (constant S_ .f32 0x00000000#32) reducesTo_S2048x2048_S2048_d1 h_S_)) (broadcastInDim S2048x1 ![] bcast_S_S2048x1 (constant S_ .f32 0x45000000#32)))
        (broadcastInDim S2048x1 ![] bcast_S_S2048x1 (constant S_ .f32 0x358637BD#32))))))
      (broadcastInDim S2048x2048 ![0, 1] bcast_S1x2048_S2048x2048_0_1 (m ((c : Thread nD τ).loc main_arg2)))) := by
    show StableHlo.after hostOps0 _ _ = _
    after_results <;> rfl
  rw [e]
  exact hmix_apply (M := 2048) (N := 2048) _ _ _ _ (by decide) _ _ _ _ _ a b

theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0) :=
  (by decide +kernel : ∀ t : Fin grid0.N, _)

theorem blk0 (c : Dev nD) (t : Fin cfg0.N) (a : Fin 256) (k j : Fin 2048) (hj : j.val = 256 * t.val + a.val) :
    iblk m c 0 t (ix2 a k) = m ((c : Thread nD τ).loc main_arg5) (ix2 j k) := by
  unfold iblk
  rw [View.read_apply]
  show V m c main_arg5 _ = _
  rw [V_main_arg5]
  congr 1; funext d; apply Fin.ext
  obtain ⟨⟨h0, h1⟩, -⟩ := idx t
  match d with
  | ⟨0, _⟩ => show win0_0.index t (0 : Fin 2) * 256 + 1 * a.val = j.val; omega
  | ⟨1, _⟩ => show win0_0.index t (1 : Fin 2) * 2048 + 1 * k.val = k.val; omega

theorem blk1 (c : Dev nD) (t : Fin cfg0.N) (a : Fin 256) (k j : Fin 2048) (hj : j.val = 256 * t.val + a.val) :
    iblk m c 1 t (ix2 a k) = mix (M := 2048) (N := 2048) (m ((c : Thread nD τ).loc main_arg0)) (m ((c : Thread nD τ).loc main_arg1))
      (m ((c : Thread nD τ).loc main_arg2)) j k := by
  unfold iblk
  rw [View.read_apply, ← between m c]
  show V m c main_v13 _ = _
  congr 1; funext d; apply Fin.ext
  obtain ⟨-, ⟨h0, h1⟩, -⟩ := idx t
  match d with
  | ⟨0, _⟩ => show win0_1.index t (0 : Fin 2) * 256 + 1 * a.val = j.val; omega
  | ⟨1, _⟩ => show win0_1.index t (1 : Fin 2) * 2048 + 1 * k.val = k.val; omega

theorem blk2 (c : Dev nD) (t : Fin cfg0.N) (k : Fin 2048) :
    iblk m c 2 t (ix2 0 k) = m ((c : Thread nD τ).loc main_arg3) (ix2 0 k) := by
  unfold iblk
  rw [View.read_apply]
  show V m c main_arg3 _ = _
  rw [V_main_arg3]
  congr 1; funext d; apply Fin.ext
  obtain ⟨-, -, ⟨h0, h1⟩, -⟩ := idx t
  match d with
  | ⟨0, _⟩ => show win0_2.index t (0 : Fin 2) * 1 + 1 * 0 = 0; omega
  | ⟨1, _⟩ => show win0_2.index t (1 : Fin 2) * 2048 + 1 * k.val = k.val; omega

theorem blk3 (c : Dev nD) (t : Fin cfg0.N) (a : Fin 256) (k j : Fin 2048) (hj : j.val = 256 * t.val + a.val) :
    iblk m c 3 t (ix2 a k) = m ((c : Thread nD τ).loc main_arg4) (ix2 j k) := by
  unfold iblk
  rw [View.read_apply]
  show V m c main_arg4 _ = _
  rw [V_main_arg4]
  congr 1; funext d; apply Fin.ext
  obtain ⟨-, -, -, ⟨h0, h1⟩, -⟩ := idx t
  match d with
  | ⟨0, _⟩ => show win0_3.index t (0 : Fin 2) * 256 + 1 * a.val = j.val; omega
  | ⟨1, _⟩ => show win0_3.index t (1 : Fin 2) * 2048 + 1 * k.val = k.val; omega

theorem blk4 (c : Dev nD) (t : Fin cfg0.N) (a : Fin 256) (k j : Fin 2048) (hj : j.val = 256 * t.val + a.val) :
    iblk m c 4 t (ix2 a k) = m ((c : Thread nD τ).loc main_arg1) (ix2 j k) := by
  unfold iblk
  rw [View.read_apply]
  show V m c main_arg1 _ = _
  rw [V_main_arg1]
  congr 1; funext d; apply Fin.ext
  obtain ⟨-, -, -, -, ⟨h0, h1⟩, -⟩ := idx t
  match d with
  | ⟨0, _⟩ => show win0_4.index t (0 : Fin 2) * 256 + 1 * a.val = j.val; omega
  | ⟨1, _⟩ => show win0_4.index t (1 : Fin 2) * 2048 + 1 * k.val = k.val; omega

theorem blk5 (c : Dev nD) (t : Fin cfg0.N) (k : Fin 2048) :
    iblk m c 5 t (ix2 0 k) = m ((c : Thread nD τ).loc main_arg2) (ix2 0 k) := by
  unfold iblk
  rw [View.read_apply]
  show V m c main_arg2 _ = _
  rw [V_main_arg2]
  congr 1; funext d; apply Fin.ext
  obtain ⟨-, -, -, -, -, h0, h1⟩ := idx t
  match d with
  | ⟨0, _⟩ => show win0_5.index t (0 : Fin 2) * 1 + 1 * 0 = 0; omega
  | ⟨1, _⟩ => show win0_5.index t (1 : Fin 2) * 2048 + 1 * k.val = k.val; omega

/-! ## The arrays after the run -/

/-- The arguments the run starts with. -/
abbrev argX (c : Dev nD) : Mat 2048 2048 := m ((c : Thread nD τ).loc main_arg0)
abbrev argO (c : Dev nD) : Mat 2048 2048 := m ((c : Thread nD τ).loc main_arg1)
abbrev argH (c : Dev nD) : Mat 1 2048 := m ((c : Thread nD τ).loc main_arg2)
abbrev argG (c : Dev nD) : Mat 1 2048 := m ((c : Thread nD τ).loc main_arg3)
abbrev argR (c : Dev nD) : Mat 2048 2048 := m ((c : Thread nD τ).loc main_arg4)
abbrev argD (c : Dev nD) : Mat 2048 2048 := m ((c : Thread nD τ).loc main_arg5)

/-- … and what they give. -/
abbrev mgx (c : Dev nD) (j b : Fin 2048) : EReal := gx (argX m c) (argO m c) (argH m c) (argG m c) (argR m c) (argD m c) j b
abbrev mgo (c : Dev nD) (j b : Fin 2048) : EReal := go (argX m c) (argO m c) (argH m c) (argG m c) (argR m c) (argD m c) j b
abbrev mgg (c : Dev nD) (b j : Fin 2048) : EReal := gg (argX m c) (argO m c) (argH m c) (argD m c) b j
abbrev mgh (c : Dev nD) (b j : Fin 2048) : EReal := gh (argX m c) (argO m c) (argH m c) (argG m c) (argR m c) (argD m c) b j

theorem rowX (c : Dev nD) (t : Fin cfg0.N) (a : Fin 256) (j : Fin 2048) (hj : j.val = 256 * t.val + a.val) :
    row (M := 256) (N := 2048) (iblk m c 1 t) a = mix (argX m c) (argO m c) (argH m c) j := funext fun k => blk1 m c t a k j hj

theorem rowO (c : Dev nD) (t : Fin cfg0.N) (a : Fin 256) (j : Fin 2048) (hj : j.val = 256 * t.val + a.val) :
    row (M := 256) (N := 2048) (iblk m c 4 t) a = row (argO m c) j := funext fun k => blk4 m c t a k j hj

/-- The gradient by the stream at a row of a block. -/
theorem gxBlk (c : Dev nD) (t : Fin cfg0.N) (a : Fin 256) (b j : Fin 2048) (hj : j.val = 256 * t.val + a.val) :
    k0_pay10 (iblk m c 0 t) (iblk m c 1 t) (iblk m c 2 t) (iblk m c 3 t) (ix2 a b) = mgx m c j b := by
  rw [pay10_apply, rowX m c t a j hj, blk3 m c t a b j hj]
  refine congrArg (fun d => grad (mix (argX m c) (argO m c) (argH m c) j) d b + argR m c (ix2 j b)) (funext fun k => ?_)
  rw [blk0 m c t a k j hj, blk2 m c]

/-- What a point stores of the two gradients with a row for each token. -/
theorem out6 (c : Dev nD) (t : Fin cfg0.N) : (outsAt0 m c t.val t.isLt).1 = k0_pay10 (iblk m c 0 t) (iblk m c 1 t) (iblk m c 2 t) (iblk m c 3 t) := by
  by_cases h0 : t.val % 8 = 0
  · rw [outsAt0_A m c t h0 (by omega)]; dsimp only; rw [out0_A_6_eq]
  · by_cases h1 : t.val % 8 = 7
    · rw [outsAt0_C m c t h0 h1]; dsimp only; rw [out0_C_6_eq]
    · rw [outsAt0_B m c t h0 h1]; dsimp only; rw [out0_B_6_eq]

theorem out8 (c : Dev nD) (t : Fin cfg0.N) : (outsAt0 m c t.val t.isLt).2.2.1
    = k0_pay15 (k0_pay10 (iblk m c 0 t) (iblk m c 1 t) (iblk m c 2 t) (iblk m c 3 t)) (iblk m c 4 t) (iblk m c 5 t) := by
  by_cases h0 : t.val % 8 = 0
  · rw [outsAt0_A m c t h0 (by omega)]; dsimp only; rw [out0_A_8_eq]
  · by_cases h1 : t.val % 8 = 7
    · rw [outsAt0_C m c t h0 h1]; dsimp only; rw [out0_C_8_eq]
    · rw [outsAt0_B m c t h0 h1]; dsimp only; rw [out0_B_8_eq]

theorem final6 (c : Dev nD) (a b : Fin 2048) : Value.G6 m c (ix2 a b) = mgx m c a b := by
  have ha := a.isLt
  have hb := b.isLt
  have hN : cfg0.N = 8 := N_0
  have hp : Value.pt6Of (ix2 a b) = a.val / 256 := by
    show 1 * (a.val / 256 - 0) + 1 * (b.val / 2048 - 0) = _
    omega
  have hl : Value.loc6Of (ix2 a b) = ix2 (⟨a.val % 256, Nat.mod_lt _ (by decide)⟩ : Fin 256) b := funext fun d => Fin.ext (match d with
    | ⟨0, _⟩ => rfl
    | ⟨1, _⟩ => by show b.val % 2048 = b.val; omega)
  have ht : a.val / 256 < cfg0.N := by omega
  unfold Value.G6
  rw [dif_pos (by rw [hp]; exact ht), hl, Value.fold0_congr m c _ _ (a.val / 256) (by omega) hp, ← Value.outsAt0_sweep m c _ ht,
    out6 m c ⟨a.val / 256, ht⟩]
  exact gxBlk m c ⟨a.val / 256, ht⟩ _ b a (by show a.val = 256 * (a.val / 256) + a.val % 256; omega)

theorem final8 (c : Dev nD) (a b : Fin 2048) : Value.G8 m c (ix2 a b) = mgo m c a b := by
  have ha := a.isLt
  have hb := b.isLt
  have hN : cfg0.N = 8 := N_0
  have hp : Value.pt8Of (ix2 a b) = a.val / 256 := by
    show 1 * (a.val / 256 - 0) + 1 * (b.val / 2048 - 0) = _
    omega
  have hl : Value.loc8Of (ix2 a b) = ix2 (⟨a.val % 256, Nat.mod_lt _ (by decide)⟩ : Fin 256) b := funext fun d => Fin.ext (match d with
    | ⟨0, _⟩ => rfl
    | ⟨1, _⟩ => by show b.val % 2048 = b.val; omega)
  have ht : a.val / 256 < cfg0.N := by omega
  unfold Value.G8
  rw [dif_pos (by rw [hp]; exact ht), hl, Value.fold0_congr m c _ _ (a.val / 256) (by omega) hp, ← Value.outsAt0_sweep m c _ ht,
    out8 m c ⟨a.val / 256, ht⟩, pay15_apply]
  have hj : a.val = 256 * (⟨a.val / 256, ht⟩ : Fin cfg0.N).val + (⟨a.val % 256, Nat.mod_lt _ (by decide)⟩ : Fin 256).val := by
    show a.val = 256 * (a.val / 256) + a.val % 256; omega
  rw [rowO m c _ _ a hj]
  refine congrArg (fun d => grad (row (argO m c) a) d b) (funext fun k => ?_)
  rw [gxBlk m c _ _ k a hj, blk5 m c]

/-- What a point adds to the two accumulators. -/
theorem stepG (c : Dev nD) (t : Fin cfg0.N) (xs : Vec Ideal S8x2048 .f32) (e : Fin 8) (b : Fin 2048)
    (hx : xs (ix2 e b) = psum (fun k : Fin 256 => mgg m c b ⟨8 * k.val + e.val, by have := k.isLt; have := e.isLt; omega⟩) (32 * t.val)) :
    k0_pay11 (k0_pay9 (iblk m c 0 t) (iblk m c 1 t)) xs (ix2 e b)
      = psum (fun k : Fin 256 => mgg m c b ⟨8 * k.val + e.val, by have := k.isLt; have := e.isLt; omega⟩) (32 * (t.val + 1)) := by
  have hN : t.val < 8 := lt_of_lt_of_eq t.isLt N_0
  rw [pay11_apply, hx, Nat.mul_succ]
  refine psum_add _ _ _ (by omega) fun k q hq => ?_
  have hj : (⟨8 * q.val + e.val, by have := q.isLt; have := e.isLt; omega⟩ : Fin 2048).val
      = 256 * t.val + (⟨8 * k.val + e.val, by have := k.isLt; have := e.isLt; omega⟩ : Fin 256).val := by
    show 8 * q.val + e.val = 256 * t.val + (8 * k.val + e.val); omega
  rw [blk0 m c t _ b _ hj, blk1 m c t _ b _ hj, rowX m c t _ _ hj]
  rfl

theorem stepH (c : Dev nD) (t : Fin cfg0.N) (xs : Vec Ideal S8x2048 .f32) (e : Fin 8) (b : Fin 2048)
    (hx : xs (ix2 e b) = psum (fun k : Fin 256 => mgh m c b ⟨8 * k.val + e.val, by have := k.isLt; have := e.isLt; omega⟩) (32 * t.val)) :
    k0_pay16 (k0_pay10 (iblk m c 0 t) (iblk m c 1 t) (iblk m c 2 t) (iblk m c 3 t)) (iblk m c 4 t) xs (ix2 e b)
      = psum (fun k : Fin 256 => mgh m c b ⟨8 * k.val + e.val, by have := k.isLt; have := e.isLt; omega⟩) (32 * (t.val + 1)) := by
  have hN : t.val < 8 := lt_of_lt_of_eq t.isLt N_0
  rw [pay16_apply, hx, Nat.mul_succ]
  refine psum_add _ _ _ (by omega) fun k q hq => ?_
  have hj : (⟨8 * q.val + e.val, by have := q.isLt; have := e.isLt; omega⟩ : Fin 2048).val
      = 256 * t.val + (⟨8 * k.val + e.val, by have := k.isLt; have := e.isLt; omega⟩ : Fin 256).val := by
    show 8 * q.val + e.val = 256 * t.val + (8 * k.val + e.val); omega
  rw [gxBlk m c t _ b _ hj, blk4 m c t _ b _ hj, rowO m c t _ _ hj]
  rfl

/-- What the accumulators hold after a point. -/
theorem acc (c : Dev nD) (e : Fin 8) (b : Fin 2048) : ∀ (n : Nat) (hn : n < cfg0.N),
    (outsAt0 m c n hn).2.2.2.2.1 (ix2 e b) = psum (fun k : Fin 256 => mgg m c b ⟨8 * k.val + e.val, by have := k.isLt; have := e.isLt; omega⟩) (32 * (n + 1))
    ∧ (outsAt0 m c n hn).2.2.2.2.2 (ix2 e b) = psum (fun k : Fin 256 => mgh m c b ⟨8 * k.val + e.val, by have := k.isLt; have := e.isLt; omega⟩) (32 * (n + 1))
  | 0, hn => by
    rw [outsAt0_A m c ⟨0, hn⟩ (Nat.zero_mod _) (show ¬0 % 8 = 7 by omega)]
    dsimp only
    rw [sout0_A_0_eq, sout0_A_1_eq]
    exact ⟨stepG m c ⟨0, hn⟩ (k0_pay3 (F := Ideal)) e b ((pay3_apply _).trans (psum_zero _).symm),
      stepH m c ⟨0, hn⟩ (k0_pay4 (F := Ideal)) e b ((pay4_apply _).trans (psum_zero _).symm)⟩
  | n + 1, hn => by
    have hN : n + 1 < 8 := lt_of_lt_of_eq hn N_0
    have ih := acc c e b n (by omega)
    by_cases h1 : (n + 1) % 8 = 7
    · rw [outsAt0_C m c ⟨n + 1, hn⟩ (show ¬(n + 1) % 8 = 0 by omega) h1]
      dsimp only
      rw [sout0_C_0_eq, sout0_C_1_eq]
      exact ⟨stepG m c ⟨n + 1, hn⟩ _ e b ih.1, stepH m c ⟨n + 1, hn⟩ _ e b ih.2⟩
    · rw [outsAt0_B m c ⟨n + 1, hn⟩ (show ¬(n + 1) % 8 = 0 by omega) h1]
      dsimp only
      rw [sout0_B_0_eq, sout0_B_1_eq]
      exact ⟨stepG m c ⟨n + 1, hn⟩ _ e b ih.1, stepH m c ⟨n + 1, hn⟩ _ e b ih.2⟩

theorem final7 (c : Dev nD) (b : Fin 2048) : Value.G7 m c (ix2 0 b) = ∑ j, mgg m c b j := by
  have h3 : 7 < cfg0.N := lt_of_lt_of_eq (by decide) N_0.symm
  have hs : ∀ e : Fin 8, k0_pay11 (k0_pay9 (iblk m c 0 ⟨7, h3⟩) (iblk m c 1 ⟨7, h3⟩)) (outsAt0 m c 6 (by omega)).2.2.2.2.1 (ix2 e b)
      = ∑ k : Fin 256, mgg m c b ⟨8 * k.val + e.val, by have := k.isLt; have := e.isLt; omega⟩ := fun e =>
    (stepG m c ⟨7, h3⟩ _ e b (acc m c e b 6 (by omega)).1).trans (psum_all _)
  rw [Value.G7_last, ← Value.outsAt0_sweep m c 7 h3, outsAt0_C m c ⟨7, h3⟩ (show ¬7 % 8 = 0 by omega) (show 7 % 8 = 7 by omega)]
  dsimp only
  rw [out0_C_7_eq, pay1_apply]
  exact (Finset.sum_congr rfl fun e _ => hs e).trans (sum_groups (mgg m c b))

theorem final9 (c : Dev nD) (b : Fin 2048) : Value.G9 m c (ix2 0 b) = ∑ j, mgh m c b j := by
  have h3 : 7 < cfg0.N := lt_of_lt_of_eq (by decide) N_0.symm
  have hs : ∀ e : Fin 8, k0_pay16 (k0_pay10 (iblk m c 0 ⟨7, h3⟩) (iblk m c 1 ⟨7, h3⟩) (iblk m c 2 ⟨7, h3⟩) (iblk m c 3 ⟨7, h3⟩)) (iblk m c 4 ⟨7, h3⟩)
        (outsAt0 m c 6 (by omega)).2.2.2.2.2 (ix2 e b)
      = ∑ k : Fin 256, mgh m c b ⟨8 * k.val + e.val, by have := k.isLt; have := e.isLt; omega⟩ := fun e =>
    (stepH m c ⟨7, h3⟩ _ e b (acc m c e b 6 (by omega)).2).trans (psum_all _)
  rw [Value.G9_last, ← Value.outsAt0_sweep m c 7 h3, outsAt0_C m c ⟨7, h3⟩ (show ¬7 % 8 = 0 by omega) (show 7 % 8 = 7 by omega)]
  dsimp only
  rw [out0_C_9_eq, pay2_apply]
  exact (Finset.sum_congr rfl fun e _ => hs e).trans (sum_groups (mgh m c b))

/-! ## What the reference computes -/

section Reference

variable (m' : (ℓ : Loc Cert.BetweenRefIdeal.nD Cert.BetweenRefIdeal.τ Cert.BetweenRefIdeal.sig) → Buf (Elt Ideal) ℓ) (c : Dev Cert.BetweenRefIdeal.nD)

abbrev refX : Mat 2048 2048 := m' ((c.tc : Thread Cert.BetweenRefIdeal.nD Cert.BetweenRefIdeal.τ).loc Cert.BetweenRefIdeal.main_arg0)
abbrev refO : Mat 2048 2048 := m' ((c.tc : Thread Cert.BetweenRefIdeal.nD Cert.BetweenRefIdeal.τ).loc Cert.BetweenRefIdeal.main_arg1)
abbrev refH : Mat 1 2048 := m' ((c.tc : Thread Cert.BetweenRefIdeal.nD Cert.BetweenRefIdeal.τ).loc Cert.BetweenRefIdeal.main_arg2)
abbrev refG : Mat 1 2048 := m' ((c.tc : Thread Cert.BetweenRefIdeal.nD Cert.BetweenRefIdeal.τ).loc Cert.BetweenRefIdeal.main_arg3)
abbrev refR : Mat 2048 2048 := m' ((c.tc : Thread Cert.BetweenRefIdeal.nD Cert.BetweenRefIdeal.τ).loc Cert.BetweenRefIdeal.main_arg4)
abbrev refD : Mat 2048 2048 := m' ((c.tc : Thread Cert.BetweenRefIdeal.nD Cert.BetweenRefIdeal.τ).loc Cert.BetweenRefIdeal.main_arg5)

theorem ref_gx (a b : Fin 2048) : Cert.BetweenRefIdeal.Value.res_main_v52 (F := Ideal) m' c (ix2 a b)
    = gx (refX m' c) (refO m' c) (refH m' c) (refG m' c) (refR m' c) (refD m' c) a b := by
  unfold Cert.BetweenRefIdeal.Value.res_main_v52
  refine (add_four _ _ _ _ _ (hgrad_apply (M := 2048) (N := 2048) _ _ _ _ (by decide) (by decide) _ _ _ _ _ _ a b)).trans ?_
  refine congrArg₂ (fun y d => grad y d b + refR m' c (ix2 a b)) (funext fun k => ?_) (funext fun k => ?_)
  · exact hmix_apply (M := 2048) (N := 2048) _ _ _ _ (by decide) _ _ _ _ _ a k
  · exact congrArg (refD m' c (ix2 a k) * ·) (hrow_apply (M := 2048) (N := 2048) (refG m' c) _ a k)

theorem ref_go (a b : Fin 2048) : Cert.BetweenRefIdeal.Value.res_main_v73 (F := Ideal) m' c (ix2 a b)
    = go (refX m' c) (refO m' c) (refH m' c) (refG m' c) (refR m' c) (refD m' c) a b := by
  unfold Cert.BetweenRefIdeal.Value.res_main_v73
  refine (add_assoc (G := EReal) _ _ _).trans ((hgrad_apply (M := 2048) (N := 2048) _ _ _ _ (by decide) (by decide) _ _ _ _ (refO m' c) _ a b).trans ?_)
  refine congrArg (fun d => grad (row (refO m' c) a) d b) (funext fun k => ?_)
  exact congrArg₂ (· * ·) ((congrFun (shapeCast_self _ _) _).trans (ref_gx m' c a k)) (hrow_apply (M := 2048) (N := 2048) (refH m' c) _ a k)

theorem ref_gh (b : Fin 2048) : Cert.BetweenRefIdeal.Value.res_main_v56 (F := Ideal) m' c (ix2 0 b)
    = ∑ j, gh (refX m' c) (refO m' c) (refH m' c) (refG m' c) (refR m' c) (refD m' c) b j := by
  unfold Cert.BetweenRefIdeal.Value.res_main_v56
  refine (hcols_apply (M := 2048) (N := 2048) _ _ (by decide) _ _ b).trans (Finset.sum_congr rfl fun j _ => (mul_comm _ _).trans ?_)
  refine congrArg₂ (· * ·) ((congrFun (shapeCast_self _ _) _).trans (ref_gx m' c j b)) (congrArg (refO m' c (ix2 j b) * ·) ?_)
  exact hnorm_apply (M := 2048) (N := 2048) _ _ _ _ (by decide) _ (refO m' c) j b

end Reference

/-- The kernel and the reference end with the same four gradients. -/
theorem algebraic : Cert.algebraic_BetweenIdeal_BetweenRefIdeal := by
  intro m ρ m' ρ' _ hagree
  have eX : ∀ c, refX m' c = argX m c := fun c => (hagree c).1
  have eO : ∀ c, refO m' c = argO m c := fun c => (hagree c).2.1
  have eH : ∀ c, refH m' c = argH m c := fun c => (hagree c).2.2.1
  have eG : ∀ c, refG m' c = argG m c := fun c => (hagree c).2.2.2.1
  have eR : ∀ c, refR m' c = argR m c := fun c => (hagree c).2.2.2.2.1
  have eD : ∀ c, refD m' c = argD m c := fun c => (hagree c).2.2.2.2.2
  refine ⟨_, _, _, _, (θ_run defs _ _).mono (fun _ h c => ⟨(h c).1, (h c).2.2.1, (h c).2.2.2.1, (h c).2.1, (h c).2.2.2.2⟩)
    (Cert.BetweenIdeal.Value.run (F := Ideal) m ρ), ?_⟩
  refine (θ_run Cert.BetweenRefIdeal.defs _ _).mono (fun _ h c => ⟨?_, ?_, ?_, ?_, (h c).2.2.2.2⟩) (Cert.BetweenRefIdeal.Value.run (F := Ideal) m' ρ')
  · rw [(h c).1]
    refine mat_ext (M := 2048) (N := 2048) fun a b => ((ref_gx m' c a b).trans ?_).trans (final6 m c a b).symm
    rw [eX c, eO c, eH c, eG c, eR c, eD c]
  · rw [(h c).2.1]
    refine mat_ext (M := 2048) (N := 2048) fun a b => ((ref_go m' c a b).trans ?_).trans (final8 m c a b).symm
    rw [eX c, eO c, eH c, eG c, eR c, eD c]
  · rw [(h c).2.2.1]
    refine mat_ext (M := 1) (N := 2048) fun z b => ?_
    obtain rfl : z = 0 := Subsingleton.elim _ _
    refine ((ref_gh m' c b).trans ?_).trans (final9 m c b).symm
    rw [eX c, eO c, eH c, eG c, eR c, eD c]
  · rw [(h c).2.2.2.1, (hagree c).1, (hagree c).2.1, (hagree c).2.2.1, (hagree c).2.2.2.2.2]
    refine mat_ext (M := 1) (N := 2048) fun z b => ?_
    obtain rfl : z = 0 := Subsingleton.elim _ _
    refine ((hcols_apply (M := 2048) (N := 2048) _ _ (by decide) _ _ b).trans ?_).trans (final7 m c b).symm
    refine Finset.sum_congr rfl fun j _ => (mul_comm _ _).trans ?_
    refine congrArg (argD m c (ix2 j b) * ·) (congrArg₂ (· * ·) ?_ ((hnorm_apply (M := 2048) (N := 2048) _ _ _ _ (by decide) _ _ j b).trans ?_))
    · exact hmix_apply (M := 2048) (N := 2048) _ _ _ _ (by decide) _ _ _ _ _ j b
    · exact congrArg (fun y => scl (sq y)) (funext fun k => hmix_apply (M := 2048) (N := 2048) _ _ _ _ (by decide) _ _ _ _ _ j k)

end Cert.BetweenIdeal.Product

end
-- ==== Proof.Norms.TokenLoss.lean ====
/- The call after the last layer: the loss, and its gradients by the stream, by the rows whose norm is added to it and by
   the norm's gain, over tiles of 512 rows. -/
module

public import proofs.«01_k».proof.Defs
public import proofs.«01_k».proof.Proof.Norms.Read
public import proofs.«01_k».proof.Proof.Gen.TokenLossIdeal.Value
public import proofs.«01_k».proof.Proof.Gen.TokenLossRefIdeal.Run
public import Idealize.ShloMosaic.Lib.Tactic

@[expose] public section

noncomputable section

open scoped BigOperators

namespace Cert.TokenLossIdeal.Product

open Cert.TokenLossIdeal Cert.TokenLossIdeal.Gen Cert.Products Cert.Norms Idealize.ShloMosaic Idealize.ShloMosaic.TcCoe Idealize.SL.Sem
open Idealize.ShloMosaic.ValueIdx

variable (m : (ℓ : Loc nD τ sig) → Buf (Elt Ideal) ℓ)

/-! ## What a point stores -/

section Stores

variable (c : Dev nD) (i : grid0.Coords) (arg1 : Memref sig .tc .vmem S512x2048 .f32) (harg1 : arg1.IsWhole) (arg2 : Memref sig .tc .vmem S512x2048 .bf16) (harg2 : arg2.IsWhole) (arg3 : Memref sig .tc .vmem S1x2048 .f32) (harg3 : arg3.IsWhole) (arg4 : Memref sig .tc .vmem S512x2048 .f32) (harg4 : arg4.IsWhole) (arg5 : Memref sig .tc .vmem S8x128 .f32) (harg5 : arg5.IsWhole) (arg6 : Memref sig .tc .vmem S512x2048 .f32) (harg6 : arg6.IsWhole) (arg7 : Memref sig .tc .vmem S512x2048 .bf16) (harg7 : arg7.IsWhole) (arg8 : Memref sig .tc .vmem S1x2048 .f32) (harg8 : arg8.IsWhole) (arg9 : Memref sig .tc .vmem S8x2048 .f32) (harg9 : arg9.IsWhole) (arg10 : Memref sig .tc .vmem S8x2048 .f32) (harg10 : arg10.IsWhole)

section A

variable (hc0 : cond0_0 i) (hc1 : ¬cond0_1 i)
  (x0 : Vec Ideal S512x2048 .f32) (x1 : Vec Ideal S512x2048 .bf16) (x2 : Vec Ideal S1x2048 .f32) (x3 : Vec Ideal S512x2048 .f32)

theorem out0_A_5_eq : out0_A_5 c i arg1 harg1 arg2 harg2 arg3 harg3 arg4 harg4 arg5 harg5 arg6 harg6 arg7 harg7 arg8 harg8 arg9 harg9 arg10 harg10 hc0 hc1 x0 x1 x2 x3 = k0_pay12 x1 x2 x0 x3 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 hc1 x0 x1 x2 x3)]
  unfold kernelRun0_A
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread]
  repeat rw [View.ld_unit_zero hz2]

theorem out0_A_6_eq : out0_A_6 c i arg1 harg1 arg2 harg2 arg3 harg3 arg4 harg4 arg5 harg5 arg6 harg6 arg7 harg7 arg8 harg8 arg9 harg9 arg10 harg10 hc0 hc1 x0 x1 x2 x3 = k0_pay2 x2 (k0_pay8 x1) (k0_pay9 x1) (k0_pay12 x1 x2 x0 x3) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 hc1 x0 x1 x2 x3)]
  unfold kernelRun0_A
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread]
  repeat rw [View.ld_unit_zero hz2]

theorem sout0_A_0_eq : sout0_A_0 c i arg1 harg1 arg2 harg2 arg3 harg3 arg4 harg4 arg5 harg5 arg6 harg6 arg7 harg7 arg8 harg8 arg9 harg9 arg10 harg10 hc0 hc1 x0 x1 x2 x3 = k0_pay11 x1 x2 x0 x3 (k0_pay5 (F := Ideal)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3)]
  unfold kernelRun0_A
  sl_unfold_words
  rw [View.canon_cons_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread]
  repeat rw [View.ld_unit_zero hz2]

theorem sout0_A_1_eq : sout0_A_1 c i arg1 harg1 arg2 harg2 arg3 harg3 arg4 harg4 arg5 harg5 arg6 harg6 arg7 harg7 arg8 harg8 arg9 harg9 arg10 harg10 hc0 hc1 x0 x1 x2 x3 = k0_pay1 (k0_pay9 x1) (k0_pay12 x1 x2 x0 x3) (k0_pay6 (F := Ideal)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3)]
  unfold kernelRun0_A
  sl_unfold_words
  rw [View.canon_cons_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread]
  repeat rw [View.ld_unit_zero hz2]

end A

section B

variable (hc0 : ¬cond0_0 i) (hc1 : ¬cond0_1 i)
  (x0 : Vec Ideal S512x2048 .f32) (x1 : Vec Ideal S512x2048 .bf16) (x2 : Vec Ideal S1x2048 .f32) (x3 : Vec Ideal S512x2048 .f32) (xs0 : Vec Ideal S8x2048 .f32) (xs1 : Vec Ideal S8x2048 .f32)

theorem out0_B_5_eq : out0_B_5 c i arg1 harg1 arg2 harg2 arg3 harg3 arg4 harg4 arg5 harg5 arg6 harg6 arg7 harg7 arg8 harg8 arg9 harg9 arg10 harg10 hc0 hc1 x0 x1 x2 x3 xs0 xs1 = k0_pay12 x1 x2 x0 x3 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 hc1 x0 x1 x2 x3 xs0 xs1)]
  unfold kernelRun0_B
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread]
  repeat rw [View.ld_unit_zero hz2]

theorem out0_B_6_eq : out0_B_6 c i arg1 harg1 arg2 harg2 arg3 harg3 arg4 harg4 arg5 harg5 arg6 harg6 arg7 harg7 arg8 harg8 arg9 harg9 arg10 harg10 hc0 hc1 x0 x1 x2 x3 xs0 xs1 = k0_pay2 x2 (k0_pay8 x1) (k0_pay9 x1) (k0_pay12 x1 x2 x0 x3) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 hc1 x0 x1 x2 x3 xs0 xs1)]
  unfold kernelRun0_B
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread]
  repeat rw [View.ld_unit_zero hz2]

theorem sout0_B_0_eq : sout0_B_0 c i arg1 harg1 arg2 harg2 arg3 harg3 arg4 harg4 arg5 harg5 arg6 harg6 arg7 harg7 arg8 harg8 arg9 harg9 arg10 harg10 hc0 hc1 x0 x1 x2 x3 xs0 xs1 = k0_pay11 x1 x2 x0 x3 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 xs0 xs1)]
  unfold kernelRun0_B
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread]
  repeat rw [View.ld_unit_zero hz2]

theorem sout0_B_1_eq : sout0_B_1 c i arg1 harg1 arg2 harg2 arg3 harg3 arg4 harg4 arg5 harg5 arg6 harg6 arg7 harg7 arg8 harg8 arg9 harg9 arg10 harg10 hc0 hc1 x0 x1 x2 x3 xs0 xs1 = k0_pay1 (k0_pay9 x1) (k0_pay12 x1 x2 x0 x3) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 xs0 xs1)]
  unfold kernelRun0_B
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread]
  repeat rw [View.ld_unit_zero hz2]

end B

section C

variable (hc0 : ¬cond0_0 i) (hc1 : cond0_1 i)
  (x0 : Vec Ideal S512x2048 .f32) (x1 : Vec Ideal S512x2048 .bf16) (x2 : Vec Ideal S1x2048 .f32) (x3 : Vec Ideal S512x2048 .f32) (xs0 : Vec Ideal S8x2048 .f32) (xs1 : Vec Ideal S8x2048 .f32)

theorem out0_C_5_eq : out0_C_5 c i arg1 harg1 arg2 harg2 arg3 harg3 arg4 harg4 arg5 harg5 arg6 harg6 arg7 harg7 arg8 harg8 arg9 harg9 arg10 harg10 hc0 hc1 x0 x1 x2 x3 xs0 xs1 = k0_pay12 x1 x2 x0 x3 := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 hc0 hc1 x0 x1 x2 x3 xs0 xs1)]
  unfold kernelRun0_C
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread]
  repeat rw [View.ld_unit_zero hz2]

theorem out0_C_6_eq : out0_C_6 c i arg1 harg1 arg2 harg2 arg3 harg3 arg4 harg4 arg5 harg5 arg6 harg6 arg7 harg7 arg8 harg8 arg9 harg9 arg10 harg10 hc0 hc1 x0 x1 x2 x3 xs0 xs1 = k0_pay2 x2 (k0_pay8 x1) (k0_pay9 x1) (k0_pay12 x1 x2 x0 x3) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 xs0 xs1)]
  unfold kernelRun0_C
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread]
  repeat rw [View.ld_unit_zero hz2]

theorem sout0_C_0_eq : sout0_C_0 c i arg1 harg1 arg2 harg2 arg3 harg3 arg4 harg4 arg5 harg5 arg6 harg6 arg7 harg7 arg8 harg8 arg9 harg9 arg10 harg10 hc0 hc1 x0 x1 x2 x3 xs0 xs1 = k0_pay11 x1 x2 x0 x3 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 xs0 xs1)]
  unfold kernelRun0_C
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread]
  repeat rw [View.ld_unit_zero hz2]

theorem sout0_C_1_eq : sout0_C_1 c i arg1 harg1 arg2 harg2 arg3 harg3 arg4 harg4 arg5 harg5 arg6 harg6 arg7 harg7 arg8 harg8 arg9 harg9 arg10 harg10 hc0 hc1 x0 x1 x2 x3 xs0 xs1 = k0_pay1 (k0_pay9 x1) (k0_pay12 x1 x2 x0 x3) xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 hc0 hc1 x0 x1 x2 x3 xs0 xs1)]
  unfold kernelRun0_C
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread]
  repeat rw [View.ld_unit_zero hz2]

theorem out0_C_4_eq : out0_C_4 c i arg1 harg1 arg2 harg2 arg3 harg3 arg4 harg4 arg5 harg5 arg6 harg6 arg7 harg7 arg8 harg8 arg9 harg9 arg10 harg10 hc0 hc1 x0 x1 x2 x3 xs0 xs1 = k0_pay3 (k0_pay11 x1 x2 x0 x3 xs0) := by
  unfold out0_C_4
  rw [View.read_writes_eq_canon _ _ _ (cover0_C_4 c i arg1 harg1 arg2 harg2 arg3 harg3 arg4 harg4 arg5 harg5 arg6 harg6 arg7 harg7 arg8 harg8 arg9 harg9 arg10 harg10 hc0 hc1 x0 x1 x2 x3 xs0 xs1)]
  unfold kernelRun0_C
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread]
  repeat rw [View.ld_unit_zero hz2]

theorem out0_C_7_eq : out0_C_7 c i arg1 harg1 arg2 harg2 arg3 harg3 arg4 harg4 arg5 harg5 arg6 harg6 arg7 harg7 arg8 harg8 arg9 harg9 arg10 harg10 hc0 hc1 x0 x1 x2 x3 xs0 xs1 = k0_pay4 (k0_pay1 (k0_pay9 x1) (k0_pay12 x1 x2 x0 x3) xs1) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 xs0 xs1)]
  unfold kernelRun0_C
  sl_unfold_words
  rw [View.canon_unit_zero hz2]
  try rw [View.readCov_unit_zero _ hz2]
  try rw [View.readCov_full]
  simp only [View.readAt_eq_ld, harg1.read_unread, harg2.read_unread, harg3.read_unread, harg4.read_unread, harg5.read_unread, harg6.read_unread, harg7.read_unread, harg8.read_unread, harg9.read_unread, harg10.read_unread]
  repeat rw [View.ld_unit_zero hz2]

end C

end Stores

/-! ## A block's numbers -/

theorem pay8_apply (x1 : Vec Ideal S512x2048 .bf16) (a : Fin 512) : k0_pay8 x1 (ix2 a 0) = scl (sq (row (M := 512) (N := 2048) x1 a)) :=
  scale_apply (M := 512) (N := 2048) x1 _ _ _ _ a

theorem pay9_apply (x1 : Vec Ideal S512x2048 .bf16) (a : Fin 512) (b : Fin 2048) :
    k0_pay9 x1 (ix2 a b) = x1 (ix2 a b) * scl (sq (row (M := 512) (N := 2048) x1 a)) := by
  unfold k0_pay9
  show x1 (ix2 a b) * broadcastTo S512x2048 (k0_pay8 x1) broadcasts_S512x1_S512x2048 (ix2 a b) = _
  rw [← pay8_apply]
  exact congrArg (x1 (ix2 a b) * ·) (col_apply (M := 512) (N := 2048) (k0_pay8 x1) broadcasts_S512x1_S512x2048 a b)

/-- What the stream misses the target by. -/
theorem pay10_apply (x0 : Vec Ideal S512x2048 .f32) (x1 : Vec Ideal S512x2048 .bf16) (x2 : Vec Ideal S1x2048 .f32) (x3 : Vec Ideal S512x2048 .f32)
    (a : Fin 512) (b : Fin 2048) :
    k0_pay10 x1 x2 x0 x3 (ix2 a b) = mix (M := 512) (N := 2048) x0 x1 x2 a b - x3 (ix2 a b) := by
  unfold k0_pay10
  show (x0 (ix2 a b) + k0_pay9 x1 (ix2 a b) * broadcastTo S512x2048 x2 broadcasts_S1x2048_S512x2048 (ix2 a b)) - x3 (ix2 a b) = _
  rw [pay9_apply]
  exact congrArg (fun z => (x0 (ix2 a b) + x1 (ix2 a b) * scl (sq (row (M := 512) (N := 2048) x1 a)) * z) - x3 (ix2 a b))
    (broadcastTo_1b_ab_apply (a := 512) (b := 2048) x2 broadcasts_S1x2048_S512x2048 a b)

/-- The gradient by the rows that are normed. -/
theorem pay2_apply (x1 : Vec Ideal S512x2048 .bf16) (x2 : Vec Ideal S1x2048 .f32) (y : FVec Ideal S512x2048 .f32) (a : Fin 512) (b : Fin 2048) :
    k0_pay2 x2 (k0_pay8 x1) (k0_pay9 x1) y (ix2 a b) = grad (row (M := 512) (N := 2048) x1 a) (fun k => y (ix2 a k) * x2 (ix2 0 k)) b := by
  refine (grad_apply (M := 512) (N := 2048) x1
    (mulf y (broadcastTo S512x2048 x2 broadcasts_S1x2048_S512x2048)) (k0_pay9 x1) (k0_pay8 x1) _ _ _ _ _
    (pay8_apply x1) (pay9_apply x1) a b).trans ?_
  refine congrArg (fun d => grad (row (M := 512) (N := 2048) x1 a) d b) (funext fun k => ?_)
  exact congrArg (y (ix2 a k) * ·) (broadcastTo_1b_ab_apply (a := 512) (b := 2048) x2 broadcasts_S1x2048_S512x2048 a k)

/-- The accumulators plus the block's rows in groups of eight. -/
theorem pay11_apply (x0 : Vec Ideal S512x2048 .f32) (x1 : Vec Ideal S512x2048 .bf16) (x2 : Vec Ideal S1x2048 .f32) (x3 : Vec Ideal S512x2048 .f32)
    (xs : Vec Ideal S8x2048 .f32) (e : Fin 8) (b : Fin 2048) :
    k0_pay11 x1 x2 x0 x3 xs (ix2 e b) = xs (ix2 e b) + ∑ k : Fin 64,
      k0_pay10 x1 x2 x0 x3 (ix2 (⟨8 * k.val + e.val, by have := k.isLt; have := e.isLt; omega⟩ : Fin 512) b)
        * k0_pay10 x1 x2 x0 x3 (ix2 (⟨8 * k.val + e.val, by have := k.isLt; have := e.isLt; omega⟩ : Fin 512) b) := by
  unfold k0_pay11
  rw [shapeCast_self]
  exact congrArg (xs (ix2 e b) + ·) (groups_apply (M := 512) (N := 2048) (G := 64) (mulf (k0_pay10 x1 x2 x0 x3) (k0_pay10 x1 x2 x0 x3)) _ _ _ _ rfl e b)

theorem pay1_apply (x1 : Vec Ideal S512x2048 .bf16) (y : FVec Ideal S512x2048 .f32) (xs : Vec Ideal S8x2048 .f32) (e : Fin 8) (b : Fin 2048) :
    k0_pay1 (k0_pay9 x1) y xs (ix2 e b) = xs (ix2 e b) + ∑ k : Fin 64,
      y (ix2 (⟨8 * k.val + e.val, by have := k.isLt; have := e.isLt; omega⟩ : Fin 512) b)
        * (x1 (ix2 (⟨8 * k.val + e.val, by have := k.isLt; have := e.isLt; omega⟩ : Fin 512) b)
          * scl (sq (row (M := 512) (N := 2048) x1 ⟨8 * k.val + e.val, by have := k.isLt; have := e.isLt; omega⟩))) := by
  unfold k0_pay1
  rw [shapeCast_self]
  refine congrArg (xs (ix2 e b) + ·) ((groups_apply (M := 512) (N := 2048) (G := 64) (mulf y (k0_pay9 x1)) _ _ _ _ rfl e b).trans ?_)
  exact Finset.sum_congr rfl fun k _ => congrArg (y (ix2 (⟨8 * k.val + e.val, by have := k.isLt; have := e.isLt; omega⟩ : Fin 512) b) * ·) (pay9_apply x1 _ b)

theorem pay5_apply (i : S8x2048.Idx) : k0_pay5 (F := Ideal) i = 0 := by
  unfold k0_pay5
  rw [shapeCast_self]
  exact Ideal.ofBits_zero_f32

theorem pay6_apply (i : S8x2048.Idx) : k0_pay6 (F := Ideal) i = 0 := by
  unfold k0_pay6
  rw [shapeCast_self]
  exact Ideal.ofBits_zero_f32

theorem pay4_apply (v : Vec Ideal S8x2048 .f32) (b : Fin 2048) : k0_pay4 v (ix2 0 b) = ∑ e : Fin 8, v (ix2 e b) :=
  cols_apply (M := 8) (N := 2048) v _ _ _ _ b

/-- The loss: every number of the block is the accumulator's sum times a constant. -/
theorem pay3_apply (v : Vec Ideal S8x2048 .f32) (p : Fin 8) (q : Fin 128) :
    k0_pay3 v (ix2 p q) = (∑ b : Fin 2048, ∑ e : Fin 8, v (ix2 e b)) * Ideal.ofBits .f32 0x39800000#32 := by
  unfold k0_pay3
  refine (broadcastTo_apply _ _ _ (ix2 0 0) fun d => by match d with | ⟨0, _⟩ => rfl | ⟨1, _⟩ => rfl).trans ?_
  rw [shapeCast_self]
  refine congrArg (· * Ideal.ofBits .f32 0x39800000#32) ((rows_apply (M := 1) (N := 2048) _ _ _ _ _ 0).trans ?_)
  exact Finset.sum_congr rfl fun b _ => cols_apply (M := 8) (N := 2048) v _ _ _ _ b

/-! ## What the arguments give -/

section Values

variable (x o : Mat 2048 2048) (g : Mat 1 2048) (t : Mat 2048 2048)

/-- What the stream misses the target by, … -/
def df (j b : Fin 2048) : EReal := mix x o g j b - t (ix2 j b)
/-- … the loss, … -/
def ls : EReal := (∑ b, ∑ j, df x o g t j b * df x o g t j b) * Ideal.ofBits .f32 0x39800000#32
/-- … its gradient by the stream … -/
def gx (j b : Fin 2048) : EReal := df x o g t j b * Ideal.ofBits .f32 0x3A000000#32
/-- … and by the rows that are normed, and a row's part of the one by the gain. -/
def go (j b : Fin 2048) : EReal := grad (row o j) (fun k => gx x o g t j k * g (ix2 0 k)) b
def gg (b j : Fin 2048) : EReal := gx x o g t j b * (o (ix2 j b) * scl (sq (row o j)))

end Values

/-! ## The blocks a point takes -/

theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0) :=
  (by decide +kernel : ∀ t : Fin grid0.N, _)

theorem blk0 (c : Dev nD) (t : Fin cfg0.N) (a : Fin 512) (k j : Fin 2048) (hj : j.val = 512 * t.val + a.val) :
    iblk m c 0 t (ix2 a k) = m ((c : Thread nD τ).loc main_arg0) (ix2 j k) := by
  unfold iblk
  rw [View.read_apply]
  show V m c main_arg0 _ = _
  rw [V_main_arg0]
  congr 1; funext d; apply Fin.ext
  obtain ⟨⟨h0, h1⟩, -⟩ := idx t
  match d with
  | ⟨0, _⟩ => show win0_0.index t (0 : Fin 2) * 512 + 1 * a.val = j.val; omega
  | ⟨1, _⟩ => show win0_0.index t (1 : Fin 2) * 2048 + 1 * k.val = k.val; omega

theorem blk1 (c : Dev nD) (t : Fin cfg0.N) (a : Fin 512) (k j : Fin 2048) (hj : j.val = 512 * t.val + a.val) :
    iblk m c 1 t (ix2 a k) = m ((c : Thread nD τ).loc main_arg1) (ix2 j k) := by
  unfold iblk
  rw [View.read_apply]
  show V m c main_arg1 _ = _
  rw [V_main_arg1]
  congr 1; funext d; apply Fin.ext
  obtain ⟨-, ⟨h0, h1⟩, -⟩ := idx t
  match d with
  | ⟨0, _⟩ => show win0_1.index t (0 : Fin 2) * 512 + 1 * a.val = j.val; omega
  | ⟨1, _⟩ => show win0_1.index t (1 : Fin 2) * 2048 + 1 * k.val = k.val; omega

theorem blk2 (c : Dev nD) (t : Fin cfg0.N) (k : Fin 2048) :
    iblk m c 2 t (ix2 0 k) = m ((c : Thread nD τ).loc main_arg2) (ix2 0 k) := by
  unfold iblk
  rw [View.read_apply]
  show V m c main_arg2 _ = _
  rw [V_main_arg2]
  congr 1; funext d; apply Fin.ext
  obtain ⟨-, -, ⟨h0, h1⟩, -⟩ := idx t
  match d with
  | ⟨0, _⟩ => show win0_2.index t (0 : Fin 2) * 1 + 1 * 0 = 0; omega
  | ⟨1, _⟩ => show win0_2.index t (1 : Fin 2) * 2048 + 1 * k.val = k.val; omega

theorem blk3 (c : Dev nD) (t : Fin cfg0.N) (a : Fin 512) (k j : Fin 2048) (hj : j.val = 512 * t.val + a.val) :
    iblk m c 3 t (ix2 a k) = m ((c : Thread nD τ).loc main_arg3) (ix2 j k) := by
  unfold iblk
  rw [View.read_apply]
  show V m c main_arg3 _ = _
  rw [V_main_arg3]
  congr 1; funext d; apply Fin.ext
  obtain ⟨-, -, -, h0, h1⟩ := idx t
  match d with
  | ⟨0, _⟩ => show win0_3.index t (0 : Fin 2) * 512 + 1 * a.val = j.val; omega
  | ⟨1, _⟩ => show win0_3.index t (1 : Fin 2) * 2048 + 1 * k.val = k.val; omega

/-! ## The arrays after the run -/

/-- The arguments the run starts with. -/
abbrev argX (c : Dev nD) : Mat 2048 2048 := m ((c : Thread nD τ).loc main_arg0)
abbrev argO (c : Dev nD) : Mat 2048 2048 := m ((c : Thread nD τ).loc main_arg1)
abbrev argG (c : Dev nD) : Mat 1 2048 := m ((c : Thread nD τ).loc main_arg2)
abbrev argT (c : Dev nD) : Mat 2048 2048 := m ((c : Thread nD τ).loc main_arg3)

/-- … and what they give. -/
abbrev mdf (c : Dev nD) (j b : Fin 2048) : EReal := df (argX m c) (argO m c) (argG m c) (argT m c) j b
abbrev mgx (c : Dev nD) (j b : Fin 2048) : EReal := gx (argX m c) (argO m c) (argG m c) (argT m c) j b
abbrev mgo (c : Dev nD) (j b : Fin 2048) : EReal := go (argX m c) (argO m c) (argG m c) (argT m c) j b
abbrev mgg (c : Dev nD) (b j : Fin 2048) : EReal := gg (argX m c) (argO m c) (argG m c) (argT m c) b j

theorem rowO (c : Dev nD) (t : Fin cfg0.N) (a : Fin 512) (j : Fin 2048) (hj : j.val = 512 * t.val + a.val) :
    row (M := 512) (N := 2048) (iblk m c 1 t) a = row (argO m c) j := funext fun k => blk1 m c t a k j hj

/-- What the stream misses the target by at a row of a block, and the gradient by the stream there. -/
theorem dfBlk (c : Dev nD) (t : Fin cfg0.N) (a : Fin 512) (b j : Fin 2048) (hj : j.val = 512 * t.val + a.val) :
    k0_pay10 (iblk m c 1 t) (iblk m c 2 t) (iblk m c 0 t) (iblk m c 3 t) (ix2 a b) = mdf m c j b := by
  rw [pay10_apply]
  unfold mix
  rw [rowO m c t a j hj, blk0 m c t a b j hj, blk1 m c t a b j hj, blk2 m c, blk3 m c t a b j hj]
  rfl

theorem gxBlk (c : Dev nD) (t : Fin cfg0.N) (a : Fin 512) (b j : Fin 2048) (hj : j.val = 512 * t.val + a.val) :
    k0_pay12 (iblk m c 1 t) (iblk m c 2 t) (iblk m c 0 t) (iblk m c 3 t) (ix2 a b) = mgx m c j b :=
  congrArg (· * Ideal.ofBits .f32 0x3A000000#32) (dfBlk m c t a b j hj)

/-- What a point stores of the two gradients with a row for each token. -/
theorem out5 (c : Dev nD) (t : Fin cfg0.N) : (outsAt0 m c t.val t.isLt).2.1 = k0_pay12 (iblk m c 1 t) (iblk m c 2 t) (iblk m c 0 t) (iblk m c 3 t) := by
  by_cases h0 : t.val % 4 = 0
  · rw [outsAt0_A m c t h0 (by omega)]; dsimp only; rw [out0_A_5_eq]
  · by_cases h1 : t.val % 4 = 3
    · rw [outsAt0_C m c t h0 h1]; dsimp only; rw [out0_C_5_eq]
    · rw [outsAt0_B m c t h0 h1]; dsimp only; rw [out0_B_5_eq]

theorem out6 (c : Dev nD) (t : Fin cfg0.N) : (outsAt0 m c t.val t.isLt).2.2.1
    = k0_pay2 (iblk m c 2 t) (k0_pay8 (iblk m c 1 t)) (k0_pay9 (iblk m c 1 t)) (k0_pay12 (iblk m c 1 t) (iblk m c 2 t) (iblk m c 0 t) (iblk m c 3 t)) := by
  by_cases h0 : t.val % 4 = 0
  · rw [outsAt0_A m c t h0 (by omega)]; dsimp only; rw [out0_A_6_eq]
  · by_cases h1 : t.val % 4 = 3
    · rw [outsAt0_C m c t h0 h1]; dsimp only; rw [out0_C_6_eq]
    · rw [outsAt0_B m c t h0 h1]; dsimp only; rw [out0_B_6_eq]

theorem final5 (c : Dev nD) (a b : Fin 2048) : Value.G5 m c (ix2 a b) = mgx m c a b := by
  have ha := a.isLt
  have hb := b.isLt
  have hN : cfg0.N = 4 := N_0
  have hp : Value.pt5Of (ix2 a b) = a.val / 512 := by
    show 1 * (a.val / 512 - 0) + 1 * (b.val / 2048 - 0) = _
    omega
  have hl : Value.loc5Of (ix2 a b) = ix2 (⟨a.val % 512, Nat.mod_lt _ (by decide)⟩ : Fin 512) b := funext fun d => Fin.ext (match d with
    | ⟨0, _⟩ => rfl
    | ⟨1, _⟩ => by show b.val % 2048 = b.val; omega)
  have ht : a.val / 512 < cfg0.N := by omega
  unfold Value.G5
  rw [dif_pos (by rw [hp]; exact ht), hl, Value.fold0_congr m c _ _ (a.val / 512) (by omega) hp, ← Value.outsAt0_sweep m c _ ht,
    out5 m c ⟨a.val / 512, ht⟩]
  exact gxBlk m c ⟨a.val / 512, ht⟩ _ b a (by show a.val = 512 * (a.val / 512) + a.val % 512; omega)

theorem final6 (c : Dev nD) (a b : Fin 2048) : Value.G6 m c (ix2 a b) = mgo m c a b := by
  have ha := a.isLt
  have hb := b.isLt
  have hN : cfg0.N = 4 := N_0
  have hp : Value.pt6Of (ix2 a b) = a.val / 512 := by
    show 1 * (a.val / 512 - 0) + 1 * (b.val / 2048 - 0) = _
    omega
  have hl : Value.loc6Of (ix2 a b) = ix2 (⟨a.val % 512, Nat.mod_lt _ (by decide)⟩ : Fin 512) b := funext fun d => Fin.ext (match d with
    | ⟨0, _⟩ => rfl
    | ⟨1, _⟩ => by show b.val % 2048 = b.val; omega)
  have ht : a.val / 512 < cfg0.N := by omega
  unfold Value.G6
  rw [dif_pos (by rw [hp]; exact ht), hl, Value.fold0_congr m c _ _ (a.val / 512) (by omega) hp, ← Value.outsAt0_sweep m c _ ht,
    out6 m c ⟨a.val / 512, ht⟩, pay2_apply]
  have hj : a.val = 512 * (⟨a.val / 512, ht⟩ : Fin cfg0.N).val + (⟨a.val % 512, Nat.mod_lt _ (by decide)⟩ : Fin 512).val := by
    show a.val = 512 * (a.val / 512) + a.val % 512; omega
  rw [rowO m c _ _ a hj]
  refine congrArg (fun d => grad (row (argO m c) a) d b) (funext fun k => ?_)
  rw [gxBlk m c _ _ k a hj, blk2 m c]

/-- What a point adds to the two accumulators. -/
theorem stepL (c : Dev nD) (t : Fin cfg0.N) (xs : Vec Ideal S8x2048 .f32) (e : Fin 8) (b : Fin 2048)
    (hx : xs (ix2 e b) = psum (fun k : Fin 256 => (fun j => mdf m c j b * mdf m c j b) ⟨8 * k.val + e.val, by have := k.isLt; have := e.isLt; omega⟩) (64 * t.val)) :
    k0_pay11 (iblk m c 1 t) (iblk m c 2 t) (iblk m c 0 t) (iblk m c 3 t) xs (ix2 e b)
      = psum (fun k : Fin 256 => (fun j => mdf m c j b * mdf m c j b) ⟨8 * k.val + e.val, by have := k.isLt; have := e.isLt; omega⟩) (64 * (t.val + 1)) := by
  have hN : t.val < 4 := lt_of_lt_of_eq t.isLt N_0
  rw [pay11_apply, hx, Nat.mul_succ]
  refine psum_add _ _ _ (by omega) fun k q hq => ?_
  have hj : (⟨8 * q.val + e.val, by have := q.isLt; have := e.isLt; omega⟩ : Fin 2048).val
      = 512 * t.val + (⟨8 * k.val + e.val, by have := k.isLt; have := e.isLt; omega⟩ : Fin 512).val := by
    show 8 * q.val + e.val = 512 * t.val + (8 * k.val + e.val); omega
  rw [dfBlk m c t _ b _ hj]

theorem stepG (c : Dev nD) (t : Fin cfg0.N) (xs : Vec Ideal S8x2048 .f32) (e : Fin 8) (b : Fin 2048)
    (hx : xs (ix2 e b) = psum (fun k : Fin 256 => mgg m c b ⟨8 * k.val + e.val, by have := k.isLt; have := e.isLt; omega⟩) (64 * t.val)) :
    k0_pay1 (k0_pay9 (iblk m c 1 t)) (k0_pay12 (iblk m c 1 t) (iblk m c 2 t) (iblk m c 0 t) (iblk m c 3 t)) xs (ix2 e b)
      = psum (fun k : Fin 256 => mgg m c b ⟨8 * k.val + e.val, by have := k.isLt; have := e.isLt; omega⟩) (64 * (t.val + 1)) := by
  have hN : t.val < 4 := lt_of_lt_of_eq t.isLt N_0
  rw [pay1_apply, hx, Nat.mul_succ]
  refine psum_add _ _ _ (by omega) fun k q hq => ?_
  have hj : (⟨8 * q.val + e.val, by have := q.isLt; have := e.isLt; omega⟩ : Fin 2048).val
      = 512 * t.val + (⟨8 * k.val + e.val, by have := k.isLt; have := e.isLt; omega⟩ : Fin 512).val := by
    show 8 * q.val + e.val = 512 * t.val + (8 * k.val + e.val); omega
  rw [gxBlk m c t _ b _ hj, blk1 m c t _ b _ hj, rowO m c t _ _ hj]
  rfl

/-- What the accumulators hold after a point. -/
theorem acc (c : Dev nD) (e : Fin 8) (b : Fin 2048) : ∀ (n : Nat) (hn : n < cfg0.N),
    (outsAt0 m c n hn).2.2.2.2.1 (ix2 e b)
        = psum (fun k : Fin 256 => (fun j => mdf m c j b * mdf m c j b) ⟨8 * k.val + e.val, by have := k.isLt; have := e.isLt; omega⟩) (64 * (n + 1))
    ∧ (outsAt0 m c n hn).2.2.2.2.2 (ix2 e b) = psum (fun k : Fin 256 => mgg m c b ⟨8 * k.val + e.val, by have := k.isLt; have := e.isLt; omega⟩) (64 * (n + 1))
  | 0, hn => by
    rw [outsAt0_A m c ⟨0, hn⟩ (Nat.zero_mod _) (show ¬0 % 4 = 3 by omega)]
    dsimp only
    rw [sout0_A_0_eq, sout0_A_1_eq]
    exact ⟨stepL m c ⟨0, hn⟩ (k0_pay5 (F := Ideal)) e b ((pay5_apply _).trans (psum_zero _).symm),
      stepG m c ⟨0, hn⟩ (k0_pay6 (F := Ideal)) e b ((pay6_apply _).trans (psum_zero _).symm)⟩
  | n + 1, hn => by
    have hN : n + 1 < 4 := lt_of_lt_of_eq hn N_0
    have ih := acc c e b n (by omega)
    by_cases h1 : (n + 1) % 4 = 3
    · rw [outsAt0_C m c ⟨n + 1, hn⟩ (show ¬(n + 1) % 4 = 0 by omega) h1]
      dsimp only
      rw [sout0_C_0_eq, sout0_C_1_eq]
      exact ⟨stepL m c ⟨n + 1, hn⟩ _ e b ih.1, stepG m c ⟨n + 1, hn⟩ _ e b ih.2⟩
    · rw [outsAt0_B m c ⟨n + 1, hn⟩ (show ¬(n + 1) % 4 = 0 by omega) h1]
      dsimp only
      rw [sout0_B_0_eq, sout0_B_1_eq]
      exact ⟨stepL m c ⟨n + 1, hn⟩ _ e b ih.1, stepG m c ⟨n + 1, hn⟩ _ e b ih.2⟩

theorem final4 (c : Dev nD) (p : Fin 8) (q : Fin 128) : Value.G4 m c (ix2 p q) = ls (argX m c) (argO m c) (argG m c) (argT m c) := by
  have h3 : 3 < cfg0.N := lt_of_lt_of_eq (by decide) N_0.symm
  have hs : ∀ (b : Fin 2048) (e : Fin 8), k0_pay11 (iblk m c 1 ⟨3, h3⟩) (iblk m c 2 ⟨3, h3⟩) (iblk m c 0 ⟨3, h3⟩) (iblk m c 3 ⟨3, h3⟩)
        (outsAt0 m c 2 (by omega)).2.2.2.2.1 (ix2 e b)
      = ∑ k : Fin 256, (fun j => mdf m c j b * mdf m c j b) ⟨8 * k.val + e.val, by have := k.isLt; have := e.isLt; omega⟩ := fun b e =>
    (stepL m c ⟨3, h3⟩ _ e b (acc m c e b 2 (by omega)).1).trans (psum_all _)
  rw [Value.G4_last, ← Value.outsAt0_sweep m c 3 h3, outsAt0_C m c ⟨3, h3⟩ (show ¬3 % 4 = 0 by omega) (show 3 % 4 = 3 by omega)]
  dsimp only
  rw [out0_C_4_eq, pay3_apply]
  refine congrArg (· * Ideal.ofBits .f32 0x39800000#32) (Finset.sum_congr rfl fun b _ => ?_)
  exact (Finset.sum_congr rfl fun e _ => hs b e).trans (sum_groups fun j => mdf m c j b * mdf m c j b)

theorem final7 (c : Dev nD) (b : Fin 2048) : Value.G7 m c (ix2 0 b) = ∑ j, mgg m c b j := by
  have h3 : 3 < cfg0.N := lt_of_lt_of_eq (by decide) N_0.symm
  have hs : ∀ e : Fin 8, k0_pay1 (k0_pay9 (iblk m c 1 ⟨3, h3⟩)) (k0_pay12 (iblk m c 1 ⟨3, h3⟩) (iblk m c 2 ⟨3, h3⟩) (iblk m c 0 ⟨3, h3⟩) (iblk m c 3 ⟨3, h3⟩))
        (outsAt0 m c 2 (by omega)).2.2.2.2.2 (ix2 e b)
      = ∑ k : Fin 256, mgg m c b ⟨8 * k.val + e.val, by have := k.isLt; have := e.isLt; omega⟩ := fun e =>
    (stepG m c ⟨3, h3⟩ _ e b (acc m c e b 2 (by omega)).2).trans (psum_all _)
  rw [Value.G7_last, ← Value.outsAt0_sweep m c 3 h3, outsAt0_C m c ⟨3, h3⟩ (show ¬3 % 4 = 0 by omega) (show 3 % 4 = 3 by omega)]
  dsimp only
  rw [out0_C_7_eq, pay4_apply]
  exact (Finset.sum_congr rfl fun e _ => hs e).trans (sum_groups (mgg m c b))

/-! ## What the reference computes -/

/-- A half of the sum of the rows' mean squares. -/
theorem half_mean (f : Fin 2048 → Fin 2048 → EReal) :
    Ideal.ofBits .f32 0x3F000000#32 * ∑ j, Ideal.div (∑ b, f j b) (Ideal.ofBits .f32 0x45000000#32)
      = (∑ b, ∑ j, f j b) * Ideal.ofBits .f32 0x39800000#32 := by
  rw [word_half, word_2048, word_4096th, Finset.sum_comm, mul_comm _ ((1 / 4096 : ℝ) : EReal), mul_sum _ _ _ (by norm_num), mul_sum _ _ _ (by norm_num)]
  refine Finset.sum_congr rfl fun j _ => ?_
  rw [div_real _ _ (by norm_num), mul_comm (∑ b, f j b), ← mul_assoc, ← EReal.coe_mul]
  norm_num

/-- The derivative of a half of a mean square. -/
theorem half_square (x : EReal) :
    Ideal.div (Ideal.ofBits .f32 0x3F000000#32 * Ideal.ofBits .f32 0x3F800000#32) (Ideal.ofBits .f32 0x45000000#32) * (Ideal.ofBits .f32 0x40000000#32 * x)
      = x * Ideal.ofBits .f32 0x3A000000#32 := by
  rw [word_half, word_one, word_2048, word_two, word_2048th, div_real _ _ (by norm_num), ← mul_assoc, ← EReal.coe_mul, ← EReal.coe_mul, ← EReal.coe_mul,
    mul_comm x]
  norm_num

/-- The sum of a vector. -/
theorem hsum_apply (x : FVec Ideal ⟨1, ![2048]⟩ .f32) (h : Shape.ReducesTo ⟨1, ![2048]⟩ [0] ⟨0, ![]⟩) (hu : 0 < (⟨0, ![]⟩ : Shape).numel) (i : (⟨0, ![]⟩ : Shape).Idx) :
    Host.reduceAdd x (constant ⟨0, ![]⟩ .f32 0x00000000#32) h hu i = ∑ a : Fin 2048, x (ix1 a) := by
  rw [hostReduceAdd_apply, Ideal.hostReduceAdd_total h (fun b => b.elim0)]
  show Ideal.ofBits .f32 0x00000000#32 + _ = _
  rw [Ideal.ofBits_zero_f32, zero_add]
  exact Fintype.sum_equiv ⟨fun i => i 0, fun a => ix1 a, fun i => funext fun d => by match d with | ⟨0, _⟩ => rfl, fun _ => rfl⟩ _ _
    fun i => congrArg x (funext fun d => by match d with | ⟨0, _⟩ => rfl)

/-- The loss of what is missed … -/
theorem hloss_apply (y : FVec Ideal ⟨2, ![2048, 2048]⟩ .f32) (h : Shape.ReducesTo ⟨2, ![2048, 2048]⟩ [1] ⟨1, ![2048]⟩)
    (h0 : Shape.ReducesTo ⟨1, ![2048]⟩ [0] ⟨0, ![]⟩) (hu : 0 < (⟨0, ![]⟩ : Shape).numel) (hs : (⟨0, ![]⟩ : Shape).BroadcastsInDim ⟨1, ![2048]⟩ ![])
    (hb : (⟨0, ![]⟩ : Shape).BroadcastsInDim ⟨2, ![8, 128]⟩ ![]) (i : (⟨2, ![8, 128]⟩ : Shape).Idx) :
    broadcastInDim ⟨2, ![8, 128]⟩ ![] hb (mulf (constant ⟨0, ![]⟩ .f32 0x3F000000#32) (Host.reduceAdd (Host.divf
        (Host.reduceAdd (mulf y y) (constant ⟨0, ![]⟩ .f32 0x00000000#32) h hu) (broadcastInDim ⟨1, ![2048]⟩ ![] hs (constant ⟨0, ![]⟩ .f32 0x45000000#32)))
        (constant ⟨0, ![]⟩ .f32 0x00000000#32) h0 hu)) i
      = (∑ b : Fin 2048, ∑ j : Fin 2048, y (ix2 j b) * y (ix2 j b)) * Ideal.ofBits .f32 0x39800000#32 := by
  rw [broadcastInDim_scalar_apply]
  refine Eq.trans ?_ (half_mean fun j b => y (ix2 j b) * y (ix2 j b))
  refine congrArg (Ideal.ofBits .f32 0x3F000000#32 * ·) ((hsum_apply _ h0 hu _).trans (Finset.sum_congr rfl fun j _ => ?_))
  show Ideal.div (Host.reduceAdd (mulf y y) (constant ⟨0, ![]⟩ .f32 0x00000000#32) h hu (ix1 j))
    (broadcastInDim ⟨1, ![2048]⟩ ![] hs (constant (F := Ideal) ⟨0, ![]⟩ .f32 0x45000000#32) (ix1 j)) = _
  rw [broadcastInDim_scalar_apply, hrows_apply _ h (by decide) hu]
  rfl

/-- … and its gradient. -/
theorem hlgrad_apply (y : FVec Ideal ⟨2, ![2048, 2048]⟩ .f32) (hs : (⟨0, ![]⟩ : Shape).BroadcastsInDim ⟨1, ![2048]⟩ ![])
    (hv : (⟨1, ![2048]⟩ : Shape).BroadcastsInDim ⟨2, ![2048, 2048]⟩ ![0]) (hb : (⟨0, ![]⟩ : Shape).BroadcastsInDim ⟨2, ![2048, 2048]⟩ ![]) (a b : Fin 2048) :
    mulf (broadcastInDim ⟨2, ![2048, 2048]⟩ ![0] hv (Host.divf (broadcastInDim ⟨1, ![2048]⟩ ![] hs
        (mulf (constant ⟨0, ![]⟩ .f32 0x3F000000#32) (constant ⟨0, ![]⟩ .f32 0x3F800000#32)))
        (broadcastInDim ⟨1, ![2048]⟩ ![] hs (constant ⟨0, ![]⟩ .f32 0x45000000#32))))
      (mulf (broadcastInDim ⟨2, ![2048, 2048]⟩ ![] hb (constant ⟨0, ![]⟩ .f32 0x40000000#32)) y) (ix2 a b)
      = y (ix2 a b) * Ideal.ofBits .f32 0x3A000000#32 := by
  refine Eq.trans ?_ (half_square (y (ix2 a b)))
  refine congrArg₂ (· * ·) ((hvec_apply (M := 2048) (N := 2048) _ hv a b).trans ?_) (congrArg (· * y (ix2 a b)) (broadcastInDim_scalar_apply hb _ _))
  exact congrArg₂ Ideal.div (broadcastInDim_scalar_apply hs _ _) (broadcastInDim_scalar_apply hs _ _)

section Reference

variable (m' : (ℓ : Loc Cert.TokenLossRefIdeal.nD Cert.TokenLossRefIdeal.τ Cert.TokenLossRefIdeal.sig) → Buf (Elt Ideal) ℓ) (c : Dev Cert.TokenLossRefIdeal.nD)

abbrev refX : Mat 2048 2048 := m' ((c.tc : Thread Cert.TokenLossRefIdeal.nD Cert.TokenLossRefIdeal.τ).loc Cert.TokenLossRefIdeal.main_arg0)
abbrev refO : Mat 2048 2048 := m' ((c.tc : Thread Cert.TokenLossRefIdeal.nD Cert.TokenLossRefIdeal.τ).loc Cert.TokenLossRefIdeal.main_arg1)
abbrev refG : Mat 1 2048 := m' ((c.tc : Thread Cert.TokenLossRefIdeal.nD Cert.TokenLossRefIdeal.τ).loc Cert.TokenLossRefIdeal.main_arg2)
abbrev refT : Mat 2048 2048 := m' ((c.tc : Thread Cert.TokenLossRefIdeal.nD Cert.TokenLossRefIdeal.τ).loc Cert.TokenLossRefIdeal.main_arg3)

theorem ref_go (a b : Fin 2048) : Cert.TokenLossRefIdeal.Value.res_main_v52 (F := Ideal) m' c (ix2 a b)
    = go (refX m' c) (refO m' c) (refG m' c) (refT m' c) a b := by
  unfold Cert.TokenLossRefIdeal.Value.res_main_v52
  refine (add_assoc (G := EReal) _ _ _).trans ((hgrad_apply (M := 2048) (N := 2048) _ _ _ _ (by decide) (by decide) _ _ _ _ (refO m' c) _ a b).trans ?_)
  refine congrArg (fun d => grad (row (refO m' c) a) d b) (funext fun k => ?_)
  refine congrArg₂ (· * ·) ((hlgrad_apply _ _ _ _ a k).trans ?_) (hrow_apply (M := 2048) (N := 2048) (refG m' c) _ a k)
  exact congrArg (fun z => (z - refT m' c (ix2 a k)) * Ideal.ofBits .f32 0x3A000000#32) (hmix_apply (M := 2048) (N := 2048) _ _ _ _ (by decide) _ _ _ _ _ a k)

end Reference

/-- The kernel and the reference end with one loss and the same three gradients. -/
theorem algebraic : Cert.algebraic_TokenLossIdeal_TokenLossRefIdeal := by
  intro m ρ m' ρ' _ hagree
  have eX : ∀ c, refX m' c = argX m c := fun c => (hagree c).1
  have eO : ∀ c, refO m' c = argO m c := fun c => (hagree c).2.1
  have eG : ∀ c, refG m' c = argG m c := fun c => (hagree c).2.2.1
  have eT : ∀ c, refT m' c = argT m c := fun c => (hagree c).2.2.2
  refine ⟨_, _, _, _, Cert.TokenLossIdeal.Value.run (F := Ideal) m ρ, ?_⟩
  refine (θ_run Cert.TokenLossRefIdeal.defs _ _).mono (fun _ h c => ⟨?_, ?_, ?_, ?_, (h c).2.2.2.2⟩) (Cert.TokenLossRefIdeal.Value.run (F := Ideal) m' ρ')
  · rw [(h c).1, (hagree c).1, (hagree c).2.1, (hagree c).2.2.1, (hagree c).2.2.2]
    refine mat_ext (M := 8) (N := 128) fun p q => ((hloss_apply _ _ _ _ _ _ _).trans ?_).trans (final4 m c p q).symm
    refine congrArg (· * Ideal.ofBits .f32 0x39800000#32) (Finset.sum_congr rfl fun b _ => Finset.sum_congr rfl fun j _ => ?_)
    exact congrArg (fun z => (z - argT m c (ix2 j b)) * (z - argT m c (ix2 j b))) (hmix_apply (M := 2048) (N := 2048) _ _ _ _ (by decide) _ _ _ _ _ j b)
  · rw [(h c).2.1, (hagree c).1, (hagree c).2.1, (hagree c).2.2.1, (hagree c).2.2.2]
    refine mat_ext (M := 2048) (N := 2048) fun a b => ((hlgrad_apply _ _ _ _ a b).trans ?_).trans (final5 m c a b).symm
    exact congrArg (fun z => (z - argT m c (ix2 a b)) * Ideal.ofBits .f32 0x3A000000#32) (hmix_apply (M := 2048) (N := 2048) _ _ _ _ (by decide) _ _ _ _ _ a b)
  · rw [(h c).2.2.1]
    refine mat_ext (M := 2048) (N := 2048) fun a b => ((ref_go m' c a b).trans ?_).trans (final6 m c a b).symm
    rw [eX c, eO c, eG c, eT c]
  · rw [(h c).2.2.2.1, (hagree c).1, (hagree c).2.1, (hagree c).2.2.1, (hagree c).2.2.2]
    refine mat_ext (M := 1) (N := 2048) fun z b => ?_
    obtain rfl : z = 0 := Subsingleton.elim _ _
    refine ((hcols_apply (M := 2048) (N := 2048) _ _ (by decide) _ _ b).trans ?_).trans (final7 m c b).symm
    refine Finset.sum_congr rfl fun j _ => (mul_comm _ _).trans ?_
    refine congrArg₂ (· * ·) ((hlgrad_apply _ _ _ _ j b).trans ?_) (congrArg (argO m c (ix2 j b) * ·) (hnorm_apply (M := 2048) (N := 2048) _ _ _ _ (by decide) _ _ j b))
    exact congrArg (fun z => (z - argT m c (ix2 j b)) * Ideal.ofBits .f32 0x3A000000#32) (hmix_apply (M := 2048) (N := 2048) _ _ _ _ (by decide) _ _ _ _ _ j b)

end Cert.TokenLossIdeal.Product

end
-- ==== Proof.Products.Pair.lean ====
/- The sum of the two cores' parts of a gradient, for the four slabs a core keeps: what a point's block and the reference are, element by element, of slabs of any size. -/
module

public import proofs.«01_k».proof.Proof.Products.Sums
public import Idealize.ShloMosaic.Lib.Pipeline.Value

@[expose] public section

noncomputable section

namespace Cert.Products

open Idealize.ShloMosaic Idealize.ShloMosaic.ValueIdx

theorem hz4 : (![0, 0, 0, 0] : Fin 4 → Nat) = fun _ => 0 := by
  funext a; match a with | ⟨0, _⟩ => rfl | ⟨1, _⟩ => rfl | ⟨2, _⟩ => rfl | ⟨3, _⟩ => rfl

variable {M N n : Nat}

/-- The sum: a core's own slabs are the first of each pair. -/
def pairSum [NeZero n] (own : (⟨4, ![4, n, M, N]⟩ : Shape).Idx → EReal) (got : (⟨4, ![4, 1, M, N]⟩ : Shape).Idx → EReal) :
    (⟨3, ![4, M, N]⟩ : Shape).Idx → EReal :=
  fun i => own (ix4 (n0 := 4) (n1 := n) (n2 := M) (n3 := N) (i 0) 0 (i 1) (i 2)) + got (ix4 (n0 := 4) (n1 := 1) (n2 := M) (n3 := N) (i 0) 0 (i 1) (i 2))

/-- Two leading axes of size one dropped. -/
theorem drop2 {α : Type} (x : (⟨4, ![1, 1, M, N]⟩ : Shape).Idx → α) (h : Shape.ShapeCasts ⟨4, ![1, 1, M, N]⟩ ⟨2, ![M, N]⟩) (a : Fin M) (b : Fin N) :
    shapeCast ⟨2, ![M, N]⟩ x h (ix2 a b) = x (ix4 0 0 a b) :=
  shapeCast_apply x h _ (ix4 0 0 a b) (by
    rw [Shape.rowMajor_val_two, Shape.rowMajor_val_four]
    show ((0 * 1 + 0) * M + a.val) * N + b.val = a.val * N + b.val
    simp only [Nat.zero_mul, Nat.zero_add])

/-- The axis of the pair, of which one is left, dropped. -/
theorem dropPair {α : Type} (x : (⟨4, ![4, 1, M, N]⟩ : Shape).Idx → α) (h : Shape.ShapeCasts ⟨4, ![4, 1, M, N]⟩ ⟨3, ![4, M, N]⟩)
    (s : Fin 4) (a : Fin M) (b : Fin N) : shapeCast ⟨3, ![4, M, N]⟩ x h (ix3 s a b) = x (ix4 s 0 a b) :=
  shapeCast_apply x h _ (ix4 s 0 a b) (by
    rw [Shape.rowMajor_val_three, Shape.rowMajor_val_four]
    show ((s.val * 1 + 0) * M + a.val) * N + b.val = (s.val * M + a.val) * N + b.val
    rw [Nat.mul_one, Nat.add_zero])

/-- What a point stores. -/
theorem pairBlock (x0 x1 : (⟨4, ![1, 1, M, N]⟩ : Shape).Idx → EReal) (h : Shape.ShapeCasts ⟨4, ![1, 1, M, N]⟩ ⟨2, ![M, N]⟩)
    (h' : Shape.ShapeCasts ⟨2, ![M, N]⟩ ⟨3, ![1, M, N]⟩) (z : Fin 1) (a : Fin M) (b : Fin N) :
    shapeCast ⟨3, ![1, M, N]⟩ (fun i => (shapeCast ⟨2, ![M, N]⟩ x0 h i + shapeCast ⟨2, ![M, N]⟩ x1 h i : EReal)) h' (ix3 z a b)
      = x0 (ix4 0 0 a b) + x1 (ix4 0 0 a b) := by
  refine (add1 _ h' z a b).trans ?_
  rw [drop2, drop2]

/-- The reference's sum. -/
theorem pairRef [NeZero n] (own : (⟨4, ![4, n, M, N]⟩ : Shape).Idx → EReal) (got : (⟨4, ![4, 1, M, N]⟩ : Shape).Idx → EReal)
    (hs : Shape.Slices ⟨4, ![4, n, M, N]⟩ ![0, 0, 0, 0] ⟨4, ![4, 1, M, N]⟩) (h : Shape.ShapeCasts ⟨4, ![4, 1, M, N]⟩ ⟨3, ![4, M, N]⟩) :
    (fun i => (shapeCast ⟨3, ![4, M, N]⟩ (extractStridedSlice ⟨4, ![4, 1, M, N]⟩ ![0, 0, 0, 0] own hs) h i
      + shapeCast ⟨3, ![4, M, N]⟩ got h i : EReal)) = pairSum own got := by
  funext i
  obtain ⟨s, a, b, rfl⟩ : ∃ s a b, i = ix3 (n0 := 4) (n1 := M) (n2 := N) s a b := ⟨_, _, _, eq_ix3 i⟩
  rw [dropPair, dropPair, extractStridedSlice_apply _ _ _ _ (ix4 s 0 a b) fun d => by
    match d with
    | ⟨0, _⟩ => show s.val = 0 + s.val; omega
    | ⟨1, _⟩ => show ((0 : Fin n).val) = 0 + 0; rfl
    | ⟨2, _⟩ => show a.val = 0 + a.val; omega
    | ⟨3, _⟩ => show b.val = 0 + b.val; omega]
  rfl

/-- The reference's sum where only the own slabs are given. -/
theorem pairRefOwn (own got : (⟨4, ![4, 1, M, N]⟩ : Shape).Idx → EReal) (h : Shape.ShapeCasts ⟨4, ![4, 1, M, N]⟩ ⟨3, ![4, M, N]⟩) :
    (fun i => (shapeCast ⟨3, ![4, M, N]⟩ own h i + shapeCast ⟨3, ![4, M, N]⟩ got h i : EReal)) = pairSum own got := by
  funext i
  obtain ⟨s, a, b, rfl⟩ : ∃ s a b, i = ix3 (n0 := 4) (n1 := M) (n2 := N) s a b := ⟨_, _, _, eq_ix3 i⟩
  rw [dropPair, dropPair]
  rfl

end Cert.Products

end
-- ==== Proof.Products.PairAddIdealTable.lean ====
/- The table the call reads (one word, which core the device is) as its run finds it, and the blocks it then asks for. -/
module

public import proofs.«01_k».proof.Proof.Gen.PairAddIdeal.Frame
public import Idealize.ShloMosaic.Lib.Tactic

@[expose] public section

noncomputable section

namespace Cert.PairAddIdeal.Step

open Cert.PairAddIdeal Cert.PairAddIdeal.Gen Idealize.ShloMosaic Idealize.ShloMosaic.TcCoe Idealize.SL.Sem

variable {F : FTy → Type} [FloatOps F]
variable (m : (ℓ : Loc nD τ sig) → Buf (Elt F) ℓ)

/-- The table holds the one word the program writes. -/
theorem table (c : Dev nD) : V m c main_v0 = broadcastInDim S1 ![] bcast_S_S1 (constantI S_ 32 0#32) := by
  show StableHlo.after hostOps0 _ _ = _
  after_results <;> rfl

theorem word : (tbl m).at 0 (Rect.unit (s := S1) ![0] S1.size inb_S1_S1_0) numel1_S1 = 0#32 := by
  have h : tbl m 0 = broadcastInDim S1 ![] bcast_S_S1 (constantI S_ 32 0#32) := table m 0
  unfold Pipeline.Prefetch.Contents.at
  rw [h]
  rfl

/-- The block of the core's own parts at a point, that word read. -/
def ix (i : grid0.Coords) : Fin 4 → Nat := ![(BitVec.ofNat 32 (i 0).val).toNat, 0, (BitVec.ofNat 32 (i 1).val).toNat, 0]

theorem ix_eq (i : grid0.Coords) : cc0_transform_0 inb_S1_S1_0 numel1_S1 (tbl m) i = ix i := by
  unfold cc0_transform_0
  rw [word]
  rfl

/-- Every block lies inside the array. -/
theorem ok : Ok m := by
  intro i
  rw [ix_eq]
  revert i
  decide +kernel

end Cert.PairAddIdeal.Step

end
-- ==== Proof.Products.PairAdd.lean ====
/- The sum of the two cores' parts of a gradient (the odd layer's input weight), the four slabs a core keeps one by one. -/
module

public import proofs.«01_k».proof.Defs
public import proofs.«01_k».proof.Proof.Products.Pair
public import proofs.«01_k».proof.Proof.Products.PairAddIdealTable
public import proofs.«01_k».proof.Proof.Gen.PairAddIdeal.Frame
public import proofs.«01_k».proof.Proof.Gen.PairAddRefIdeal.Run
public import Idealize.ShloMosaic.Lib.Tactic

@[expose] public section

noncomputable section

namespace Cert.PairAddIdeal.Step

open Cert.PairAddIdeal Cert.PairAddIdeal.Gen Cert.Products Idealize.ShloMosaic Idealize.ShloMosaic.TcCoe Idealize.SL.Sem
open Idealize.ShloMosaic.ValueIdx

variable (m : (ℓ : Loc nD τ sig) → Buf (Elt Ideal) ℓ) (ρ : Dev nD → PrngReg)

/-- What a point stores: the sum of its two blocks. -/
theorem out_eq (c : Dev nD) (i : grid0.Coords) (arg3 : Memref sig .tc .vmem S1x1x2048x896 .bf16) (harg3 : arg3.IsWhole)
    (arg4 : Memref sig .tc .vmem S1x1x2048x896 .bf16) (harg4 : arg4.IsWhole) (arg5 : Memref sig .tc .vmem S1x2048x896 .bf16) (harg5 : arg5.IsWhole)
    (x0 x1 : Vec Ideal S1x1x2048x896 .bf16) (xt0 : TbBuf0 (F := Ideal) c tbM0_0) : out0_A_2 c i arg3 harg3 arg4 harg4 arg5 harg5 x0 x1 xt0 = k0_pay1 x0 x1 := by
  unfold out0_A_2
  rw [View.read_writes_eq_canon _ _ _ (cover0_A_2 c i arg3 harg3 arg4 harg4 arg5 harg5 x0 x1 xt0)]
  unfold kernelRun0_A
  sl_unfold_words
  rw [View.canon_unit_zero hz3]
  simp only [View.readAt_eq_ld, harg3.read_unread, harg4.read_unread]
  repeat rw [View.ld_unit_zero hz4]

/-- The blocks a point takes and gives: a slab of each. -/
theorem idx : ∀ t : Fin grid0.N, (ix (grid0.coords t) (0 : Fin 4) = t.val ∧ ix (grid0.coords t) (1 : Fin 4) = 0
      ∧ ix (grid0.coords t) (2 : Fin 4) = 0 ∧ ix (grid0.coords t) (3 : Fin 4) = 0)
    ∧ (cc0_transform_1 (grid0.coords t) (0 : Fin 4) = t.val ∧ cc0_transform_1 (grid0.coords t) (1 : Fin 4) = 0
      ∧ cc0_transform_1 (grid0.coords t) (2 : Fin 4) = 0 ∧ cc0_transform_1 (grid0.coords t) (3 : Fin 4) = 0)
    ∧ cc0_transform_2 (grid0.coords t) (0 : Fin 3) = t.val ∧ cc0_transform_2 (grid0.coords t) (1 : Fin 3) = 0
      ∧ cc0_transform_2 (grid0.coords t) (2 : Fin 3) = 0 :=
  by decide +kernel

/-- The two blocks of a point. -/
def blk0 (hO : Ok m) (c : Dev nD) (t : Fin (cfgM m hO).N) : Vec Ideal S1x1x2048x896 .bf16 := iblk m hO c 0 t
def blk1 (hO : Ok m) (c : Dev nD) (t : Fin (cfgM m hO).N) : Vec Ideal S1x1x2048x896 .bf16 := iblk m hO c 1 t

theorem blk0_apply (hO : Ok m) (c : Dev nD) (t : Fin (cfgM m hO).N) (a : Fin 2048) (b : Fin 896) (s : Fin 4) (hs : s.val = t.val) :
    blk0 m hO c t (ix4 0 0 a b) = m ((c : Thread nD τ).loc main_arg0) (ix4 s 0 a b) := by
  unfold blk0 iblk
  refine (View.read_apply _ _).trans ((cast_eq _ _).trans ?_)
  show V m c main_arg0 _ = _
  rw [V_main_arg0]
  congr 1; funext d; apply Fin.ext
  obtain ⟨⟨h0, h1, h2, h3⟩, -⟩ := idx t
  have e := ix_eq m (grid0.coords t)
  match d with
  | ⟨0, _⟩ => show cc0_transform_0 inb_S1_S1_0 numel1_S1 (tbl m) (grid0.coords t) (0 : Fin 4) * 1 + 1 * 0 = s.val; rw [e]; omega
  | ⟨1, _⟩ => show cc0_transform_0 inb_S1_S1_0 numel1_S1 (tbl m) (grid0.coords t) (1 : Fin 4) * 1 + 1 * 0 = 0; rw [e]; omega
  | ⟨2, _⟩ => show cc0_transform_0 inb_S1_S1_0 numel1_S1 (tbl m) (grid0.coords t) (2 : Fin 4) * 2048 + 1 * a.val = a.val; rw [e]; omega
  | ⟨3, _⟩ => show cc0_transform_0 inb_S1_S1_0 numel1_S1 (tbl m) (grid0.coords t) (3 : Fin 4) * 896 + 1 * b.val = b.val; rw [e]; omega

theorem blk1_apply (hO : Ok m) (c : Dev nD) (t : Fin (cfgM m hO).N) (a : Fin 2048) (b : Fin 896) (s : Fin 4) (hs : s.val = t.val) :
    blk1 m hO c t (ix4 0 0 a b) = m ((c : Thread nD τ).loc main_arg1) (ix4 s 0 a b) := by
  unfold blk1 iblk
  refine (View.read_apply _ _).trans ((cast_eq _ _).trans ?_)
  show V m c main_arg1 _ = _
  rw [V_main_arg1]
  congr 1; funext d; apply Fin.ext
  obtain ⟨-, ⟨h0, h1, h2, h3⟩, -⟩ := idx t
  match d with
  | ⟨0, _⟩ => show cc0_transform_1 (grid0.coords t) (0 : Fin 4) * 1 + 1 * 0 = s.val; omega
  | ⟨1, _⟩ => show cc0_transform_1 (grid0.coords t) (1 : Fin 4) * 1 + 1 * 0 = 0; omega
  | ⟨2, _⟩ => show cc0_transform_1 (grid0.coords t) (2 : Fin 4) * 2048 + 1 * a.val = a.val; omega
  | ⟨3, _⟩ => show cc0_transform_1 (grid0.coords t) (3 : Fin 4) * 896 + 1 * b.val = b.val; omega

/-- The result, of the arguments the run starts with. -/
def total (c : Dev nD) : S4x2048x896.Idx → EReal :=
  pairSum (n := 2) (M := 2048) (N := 896) (m ((c : Thread nD τ).loc main_arg0)) (m ((c : Thread nD τ).loc main_arg1))

/-- What a point stores is the sum at the places its block goes to. -/
theorem point (hO : Ok m) (c : Dev nD) (t : Fin (cfgM m hO).N) (y : S1x2048x896.Idx) :
    outsAt0 m hO c t y = total m c ((((cfgM m hO).win 2).blk t).view.emb y) := by
  obtain ⟨-, -, h0, h1, h2⟩ := idx t
  obtain ⟨z, a, b, rfl⟩ : ∃ z a b, y = ix3 (n0 := 1) (n1 := 2048) (n2 := 896) z a b := ⟨_, _, _, eq_ix3 y⟩
  have hz : z.val < 1 := z.isLt
  have ht : t.val < 4 := N_0 ▸ t.isLt
  have e : ((((cfgM m hO).win 2).blk t).view.emb (ix3 z a b) : S4x2048x896.Idx) = ix3 (n0 := 4) (n1 := 2048) (n2 := 896) ⟨t.val, ht⟩ a b :=
    funext fun d => Fin.ext (match d with
      | ⟨0, _⟩ => by show cc0_transform_2 (grid0.coords t) (0 : Fin 3) * 1 + 1 * z.val = t.val; omega
      | ⟨1, _⟩ => by show cc0_transform_2 (grid0.coords t) (1 : Fin 3) * 2048 + 1 * a.val = a.val; omega
      | ⟨2, _⟩ => by show cc0_transform_2 (grid0.coords t) (2 : Fin 3) * 896 + 1 * b.val = b.val; omega)
  refine (congrFun (out_eq c (grid0.coords t) _ _ _ _ _ _ (blk0 m hO c t) (blk1 m hO c t) (tbl m 0)) (ix3 z a b)).trans ?_
  refine (pairBlock (blk0 m hO c t) (blk1 m hO c t) _ _ z a b).trans (Eq.trans ?_ (congrArg (total m c) e).symm)
  rw [blk0_apply m hO c t a b ⟨t.val, ht⟩ rfl, blk1_apply m hO c t a b ⟨t.val, ht⟩ rfl]
  rfl

theorem mem_blk (hO : Ok m) (t : Fin (cfgM m hO).N) (i : S4x2048x896.Idx) :
    i ∈ (((cfgM m hO).win 2).blk t).view.set ↔ ∀ a : Fin 3, cc0_transform_2 (grid0.coords t) a * S1x2048x896.size a ≤ (i a).val
      ∧ (i a).val < cc0_transform_2 (grid0.coords t) a * S1x2048x896.size a + S1x2048x896.size a :=
  (iff_of_eq (congrArg (i ∈ ·) (View.set_slice_whole main_v1 (((cfgM m hO).win 2).rect t)))).trans Rect.mem_set_unit

theorem final (hO : Ok m) (c : Dev nD) : (dats m hO 0 c).arrAt 2 (cfgM m hO).N = total m c := by
  refine (dats m hO 0 c).arrAt_eq_of_cover 2 _ (fun t hf => ?_) (fun (i : S4x2048x896.Idx) => ?_)
  · show ((cfgM m hO).win 2).cut (grid0.coords t) ((dats m hO 0 c).after 2 t) = _
    rw [after0_2]
    funext y
    exact ((View.read_apply _ _).trans ((cast_eq _ _).trans (point m hO c t y).symm)).symm
  · have i0 : (i 0).val < 4 := (i 0).isLt
    have i1 : (i 1).val < 2048 := (i 1).isLt
    have i2 : (i 2).val < 896 := (i 2).isLt
    have hN : (cfgM m hO).N = 4 := N_0
    obtain ⟨-, -, h0, h1, h2⟩ := idx ⟨(i 0).val, by rw [N_0]; omega⟩
    refine ⟨⟨(i 0).val, by omega⟩, flush0_2 _ _, (mem_blk m hO _ i).mpr fun a => ?_⟩
    match a with
    | ⟨0, _⟩ => show cc0_transform_2 _ (0 : Fin 3) * 1 ≤ (i 0).val ∧ (i 0).val < cc0_transform_2 _ (0 : Fin 3) * 1 + 1; rw [h0]; dsimp only; omega
    | ⟨1, _⟩ => show cc0_transform_2 _ (1 : Fin 3) * 2048 ≤ (i 1).val ∧ (i 1).val < cc0_transform_2 _ (1 : Fin 3) * 2048 + 2048; rw [h1]; omega
    | ⟨2, _⟩ => show cc0_transform_2 _ (2 : Fin 3) * 896 ≤ (i 2).val ∧ (i 2).val < cc0_transform_2 _ (2 : Fin 3) * 896 + 896; rw [h2]; omega

/-- The run, its result named. -/
theorem run (hO : Ok m) : θ_run defs (onTc (τ := τ) (main (F := Ideal))) ⟨m, fun _ => 0, ρ⟩ fun r => ∀ c : Dev nD,
      r.2.mem ((c : Thread nD τ).loc main_v1) = total m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c)))⟩)
    (run_main m ρ hO)

/-- The kernel and the reference end with one sum. -/
theorem algebraic : Cert.algebraic_PairAddIdeal_PairAddRefIdeal := by
  intro m ρ m' ρ' _ hagree
  refine ⟨_, run m ρ (ok m), ?_⟩
  refine (θ_run Cert.PairAddRefIdeal.defs _ _).mono (fun _ h c => ⟨?_, (h c).2⟩) (Cert.PairAddRefIdeal.Value.run (F := Ideal) m' ρ')
  rw [(h c).1, (hagree c).1, (hagree c).2]
  exact pairRef (n := 2) (M := 2048) (N := 896) (m ((c : Thread nD τ).loc main_arg0)) (m ((c : Thread nD τ).loc main_arg1))
    Cert.PairAddRefIdeal.Gen.slices_S4x2x2048x896_S4x1x2048x896_0_0_0_0 Cert.PairAddRefIdeal.Gen.shapeCasts_S4x1x2048x896_S4x2048x896

end Cert.PairAddIdeal.Step

end
-- ==== Proof.Products.PairOutIdealTable.lean ====
/- The table the call reads (one word, which core the device is) as its run finds it, and the blocks it then asks for. -/
module

public import proofs.«01_k».proof.Proof.Gen.PairOutIdeal.Frame
public import Idealize.ShloMosaic.Lib.Tactic

@[expose] public section

noncomputable section

namespace Cert.PairOutIdeal.Step

open Cert.PairOutIdeal Cert.PairOutIdeal.Gen Idealize.ShloMosaic Idealize.ShloMosaic.TcCoe Idealize.SL.Sem

variable {F : FTy → Type} [FloatOps F]
variable (m : (ℓ : Loc nD τ sig) → Buf (Elt F) ℓ)

/-- The table holds the one word the program writes. -/
theorem table (c : Dev nD) : V m c main_v0 = broadcastInDim S1 ![] bcast_S_S1 (constantI S_ 32 0#32) := by
  show StableHlo.after hostOps0 _ _ = _
  after_results <;> rfl

theorem word : (tbl m).at 0 (Rect.unit (s := S1) ![0] S1.size inb_S1_S1_0) numel1_S1 = 0#32 := by
  have h : tbl m 0 = broadcastInDim S1 ![] bcast_S_S1 (constantI S_ 32 0#32) := table m 0
  unfold Pipeline.Prefetch.Contents.at
  rw [h]
  rfl

/-- The block of the core's own parts at a point, that word read. -/
def ix (i : grid0.Coords) : Fin 4 → Nat := ![(BitVec.ofNat 32 (i 0).val).toNat, 0, (BitVec.ofNat 32 (i 1).val).toNat, 0]

theorem ix_eq (i : grid0.Coords) : cc0_transform_0 inb_S1_S1_0 numel1_S1 (tbl m) i = ix i := by
  unfold cc0_transform_0
  rw [word]
  rfl

/-- Every block lies inside the array. -/
theorem ok : Ok m := by
  intro i
  rw [ix_eq]
  revert i
  decide +kernel

end Cert.PairOutIdeal.Step

end
-- ==== Proof.Products.PairOut.lean ====
/- The sum of the two cores' parts of a gradient (an output weight), the four slabs a core keeps one by one. -/
module

public import proofs.«01_k».proof.Defs
public import proofs.«01_k».proof.Proof.Products.Pair
public import proofs.«01_k».proof.Proof.Products.PairOutIdealTable
public import proofs.«01_k».proof.Proof.Gen.PairOutIdeal.Frame
public import proofs.«01_k».proof.Proof.Gen.PairOutRefIdeal.Run
public import Idealize.ShloMosaic.Lib.Tactic

@[expose] public section

noncomputable section

namespace Cert.PairOutIdeal.Step

open Cert.PairOutIdeal Cert.PairOutIdeal.Gen Cert.Products Idealize.ShloMosaic Idealize.ShloMosaic.TcCoe Idealize.SL.Sem
open Idealize.ShloMosaic.ValueIdx

variable (m : (ℓ : Loc nD τ sig) → Buf (Elt Ideal) ℓ) (ρ : Dev nD → PrngReg)

/-- What a point stores: the sum of its two blocks. -/
theorem out_eq (c : Dev nD) (i : grid0.Coords) (arg3 : Memref sig .tc .vmem S1x1x256x2048 .bf16) (harg3 : arg3.IsWhole)
    (arg4 : Memref sig .tc .vmem S1x1x256x2048 .bf16) (harg4 : arg4.IsWhole) (arg5 : Memref sig .tc .vmem S1x256x2048 .bf16) (harg5 : arg5.IsWhole)
    (x0 x1 : Vec Ideal S1x1x256x2048 .bf16) (xt0 : TbBuf0 (F := Ideal) c tbM0_0) : out0_A_2 c i arg3 harg3 arg4 harg4 arg5 harg5 x0 x1 xt0 = k0_pay1 x0 x1 := by
  unfold out0_A_2
  rw [View.read_writes_eq_canon _ _ _ (cover0_A_2 c i arg3 harg3 arg4 harg4 arg5 harg5 x0 x1 xt0)]
  unfold kernelRun0_A
  sl_unfold_words
  rw [View.canon_unit_zero hz3]
  simp only [View.readAt_eq_ld, harg3.read_unread, harg4.read_unread]
  repeat rw [View.ld_unit_zero hz4]

/-- The blocks a point takes and gives: a slab of each. -/
theorem idx : ∀ t : Fin grid0.N, (ix (grid0.coords t) (0 : Fin 4) = t.val ∧ ix (grid0.coords t) (1 : Fin 4) = 0
      ∧ ix (grid0.coords t) (2 : Fin 4) = 0 ∧ ix (grid0.coords t) (3 : Fin 4) = 0)
    ∧ (cc0_transform_1 (grid0.coords t) (0 : Fin 4) = t.val ∧ cc0_transform_1 (grid0.coords t) (1 : Fin 4) = 0
      ∧ cc0_transform_1 (grid0.coords t) (2 : Fin 4) = 0 ∧ cc0_transform_1 (grid0.coords t) (3 : Fin 4) = 0)
    ∧ cc0_transform_2 (grid0.coords t) (0 : Fin 3) = t.val ∧ cc0_transform_2 (grid0.coords t) (1 : Fin 3) = 0
      ∧ cc0_transform_2 (grid0.coords t) (2 : Fin 3) = 0 :=
  by decide +kernel

/-- The two blocks of a point. -/
def blk0 (hO : Ok m) (c : Dev nD) (t : Fin (cfgM m hO).N) : Vec Ideal S1x1x256x2048 .bf16 := iblk m hO c 0 t
def blk1 (hO : Ok m) (c : Dev nD) (t : Fin (cfgM m hO).N) : Vec Ideal S1x1x256x2048 .bf16 := iblk m hO c 1 t

theorem blk0_apply (hO : Ok m) (c : Dev nD) (t : Fin (cfgM m hO).N) (a : Fin 256) (b : Fin 2048) (s : Fin 4) (hs : s.val = t.val) :
    blk0 m hO c t (ix4 0 0 a b) = m ((c : Thread nD τ).loc main_arg0) (ix4 s 0 a b) := by
  unfold blk0 iblk
  refine (View.read_apply _ _).trans ((cast_eq _ _).trans ?_)
  show V m c main_arg0 _ = _
  rw [V_main_arg0]
  congr 1; funext d; apply Fin.ext
  obtain ⟨⟨h0, h1, h2, h3⟩, -⟩ := idx t
  have e := ix_eq m (grid0.coords t)
  match d with
  | ⟨0, _⟩ => show cc0_transform_0 inb_S1_S1_0 numel1_S1 (tbl m) (grid0.coords t) (0 : Fin 4) * 1 + 1 * 0 = s.val; rw [e]; omega
  | ⟨1, _⟩ => show cc0_transform_0 inb_S1_S1_0 numel1_S1 (tbl m) (grid0.coords t) (1 : Fin 4) * 1 + 1 * 0 = 0; rw [e]; omega
  | ⟨2, _⟩ => show cc0_transform_0 inb_S1_S1_0 numel1_S1 (tbl m) (grid0.coords t) (2 : Fin 4) * 256 + 1 * a.val = a.val; rw [e]; omega
  | ⟨3, _⟩ => show cc0_transform_0 inb_S1_S1_0 numel1_S1 (tbl m) (grid0.coords t) (3 : Fin 4) * 2048 + 1 * b.val = b.val; rw [e]; omega

theorem blk1_apply (hO : Ok m) (c : Dev nD) (t : Fin (cfgM m hO).N) (a : Fin 256) (b : Fin 2048) (s : Fin 4) (hs : s.val = t.val) :
    blk1 m hO c t (ix4 0 0 a b) = m ((c : Thread nD τ).loc main_arg1) (ix4 s 0 a b) := by
  unfold blk1 iblk
  refine (View.read_apply _ _).trans ((cast_eq _ _).trans ?_)
  show V m c main_arg1 _ = _
  rw [V_main_arg1]
  congr 1; funext d; apply Fin.ext
  obtain ⟨-, ⟨h0, h1, h2, h3⟩, -⟩ := idx t
  match d with
  | ⟨0, _⟩ => show cc0_transform_1 (grid0.coords t) (0 : Fin 4) * 1 + 1 * 0 = s.val; omega
  | ⟨1, _⟩ => show cc0_transform_1 (grid0.coords t) (1 : Fin 4) * 1 + 1 * 0 = 0; omega
  | ⟨2, _⟩ => show cc0_transform_1 (grid0.coords t) (2 : Fin 4) * 256 + 1 * a.val = a.val; omega
  | ⟨3, _⟩ => show cc0_transform_1 (grid0.coords t) (3 : Fin 4) * 2048 + 1 * b.val = b.val; omega

/-- The result, of the arguments the run starts with. -/
def total (c : Dev nD) : S4x256x2048.Idx → EReal :=
  pairSum (n := 2) (M := 256) (N := 2048) (m ((c : Thread nD τ).loc main_arg0)) (m ((c : Thread nD τ).loc main_arg1))

/-- What a point stores is the sum at the places its block goes to. -/
theorem point (hO : Ok m) (c : Dev nD) (t : Fin (cfgM m hO).N) (y : S1x256x2048.Idx) :
    outsAt0 m hO c t y = total m c ((((cfgM m hO).win 2).blk t).view.emb y) := by
  obtain ⟨-, -, h0, h1, h2⟩ := idx t
  obtain ⟨z, a, b, rfl⟩ : ∃ z a b, y = ix3 (n0 := 1) (n1 := 256) (n2 := 2048) z a b := ⟨_, _, _, eq_ix3 y⟩
  have hz : z.val < 1 := z.isLt
  have ht : t.val < 4 := N_0 ▸ t.isLt
  have e : ((((cfgM m hO).win 2).blk t).view.emb (ix3 z a b) : S4x256x2048.Idx) = ix3 (n0 := 4) (n1 := 256) (n2 := 2048) ⟨t.val, ht⟩ a b :=
    funext fun d => Fin.ext (match d with
      | ⟨0, _⟩ => by show cc0_transform_2 (grid0.coords t) (0 : Fin 3) * 1 + 1 * z.val = t.val; omega
      | ⟨1, _⟩ => by show cc0_transform_2 (grid0.coords t) (1 : Fin 3) * 256 + 1 * a.val = a.val; omega
      | ⟨2, _⟩ => by show cc0_transform_2 (grid0.coords t) (2 : Fin 3) * 2048 + 1 * b.val = b.val; omega)
  refine (congrFun (out_eq c (grid0.coords t) _ _ _ _ _ _ (blk0 m hO c t) (blk1 m hO c t) (tbl m 0)) (ix3 z a b)).trans ?_
  refine (pairBlock (blk0 m hO c t) (blk1 m hO c t) _ _ z a b).trans (Eq.trans ?_ (congrArg (total m c) e).symm)
  rw [blk0_apply m hO c t a b ⟨t.val, ht⟩ rfl, blk1_apply m hO c t a b ⟨t.val, ht⟩ rfl]
  rfl

theorem mem_blk (hO : Ok m) (t : Fin (cfgM m hO).N) (i : S4x256x2048.Idx) :
    i ∈ (((cfgM m hO).win 2).blk t).view.set ↔ ∀ a : Fin 3, cc0_transform_2 (grid0.coords t) a * S1x256x2048.size a ≤ (i a).val
      ∧ (i a).val < cc0_transform_2 (grid0.coords t) a * S1x256x2048.size a + S1x256x2048.size a :=
  (iff_of_eq (congrArg (i ∈ ·) (View.set_slice_whole main_v1 (((cfgM m hO).win 2).rect t)))).trans Rect.mem_set_unit

theorem final (hO : Ok m) (c : Dev nD) : (dats m hO 0 c).arrAt 2 (cfgM m hO).N = total m c := by
  refine (dats m hO 0 c).arrAt_eq_of_cover 2 _ (fun t hf => ?_) (fun (i : S4x256x2048.Idx) => ?_)
  · show ((cfgM m hO).win 2).cut (grid0.coords t) ((dats m hO 0 c).after 2 t) = _
    rw [after0_2]
    funext y
    exact ((View.read_apply _ _).trans ((cast_eq _ _).trans (point m hO c t y).symm)).symm
  · have i0 : (i 0).val < 4 := (i 0).isLt
    have i1 : (i 1).val < 256 := (i 1).isLt
    have i2 : (i 2).val < 2048 := (i 2).isLt
    have hN : (cfgM m hO).N = 4 := N_0
    obtain ⟨-, -, h0, h1, h2⟩ := idx ⟨(i 0).val, by rw [N_0]; omega⟩
    refine ⟨⟨(i 0).val, by omega⟩, flush0_2 _ _, (mem_blk m hO _ i).mpr fun a => ?_⟩
    match a with
    | ⟨0, _⟩ => show cc0_transform_2 _ (0 : Fin 3) * 1 ≤ (i 0).val ∧ (i 0).val < cc0_transform_2 _ (0 : Fin 3) * 1 + 1; rw [h0]; dsimp only; omega
    | ⟨1, _⟩ => show cc0_transform_2 _ (1 : Fin 3) * 256 ≤ (i 1).val ∧ (i 1).val < cc0_transform_2 _ (1 : Fin 3) * 256 + 256; rw [h1]; omega
    | ⟨2, _⟩ => show cc0_transform_2 _ (2 : Fin 3) * 2048 ≤ (i 2).val ∧ (i 2).val < cc0_transform_2 _ (2 : Fin 3) * 2048 + 2048; rw [h2]; omega

/-- The run, its result named. -/
theorem run (hO : Ok m) : θ_run defs (onTc (τ := τ) (main (F := Ideal))) ⟨m, fun _ => 0, ρ⟩ fun r => ∀ c : Dev nD,
      r.2.mem ((c : Thread nD τ).loc main_v1) = total m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c)))⟩)
    (run_main m ρ hO)

/-- The kernel and the reference end with one sum. -/
theorem algebraic : Cert.algebraic_PairOutIdeal_PairOutRefIdeal := by
  intro m ρ m' ρ' _ hagree
  refine ⟨_, run m ρ (ok m), ?_⟩
  refine (θ_run Cert.PairOutRefIdeal.defs _ _).mono (fun _ h c => ⟨?_, (h c).2⟩) (Cert.PairOutRefIdeal.Value.run (F := Ideal) m' ρ')
  rw [(h c).1, (hagree c).1, (hagree c).2]
  exact pairRef (n := 2) (M := 256) (N := 2048) (m ((c : Thread nD τ).loc main_arg0)) (m ((c : Thread nD τ).loc main_arg1))
    Cert.PairOutRefIdeal.Gen.slices_S4x2x256x2048_S4x1x256x2048_0_0_0_0 Cert.PairOutRefIdeal.Gen.shapeCasts_S4x1x256x2048_S4x256x2048

end Cert.PairOutIdeal.Step

end
-- ==== Proof.Products.PairPoolIdealTable.lean ====
/- The table the call reads (one word, which core the device is) as its run finds it, and the blocks it then asks for. -/
module

public import proofs.«01_k».proof.Proof.Gen.PairPoolIdeal.Frame
public import Idealize.ShloMosaic.Lib.Tactic

@[expose] public section

noncomputable section

namespace Cert.PairPoolIdeal.Step

open Cert.PairPoolIdeal Cert.PairPoolIdeal.Gen Idealize.ShloMosaic Idealize.ShloMosaic.TcCoe Idealize.SL.Sem

variable {F : FTy → Type} [FloatOps F]
variable (m : (ℓ : Loc nD τ sig) → Buf (Elt F) ℓ)

/-- The table holds the one word the program writes. -/
theorem table (c : Dev nD) : V m c main_v0 = broadcastInDim S1 ![] bcast_S_S1 (constantI S_ 32 0#32) := by
  show StableHlo.after hostOps0 _ _ = _
  after_results <;> rfl

theorem word : (tbl m).at 0 (Rect.unit (s := S1) ![0] S1.size inb_S1_S1_0) numel1_S1 = 0#32 := by
  have h : tbl m 0 = broadcastInDim S1 ![] bcast_S_S1 (constantI S_ 32 0#32) := table m 0
  unfold Pipeline.Prefetch.Contents.at
  rw [h]
  rfl

/-- The block of the core's own parts at a point, that word read. -/
def ix (i : grid0.Coords) : Fin 4 → Nat := ![(BitVec.ofNat 32 (i 0).val).toNat, 0, (BitVec.ofNat 32 (i 1).val).toNat, 0]

theorem ix_eq (i : grid0.Coords) : cc0_transform_0 inb_S1_S1_0 numel1_S1 (tbl m) i = ix i := by
  unfold cc0_transform_0
  rw [word]
  rfl

/-- Every block lies inside the array. -/
theorem ok : Ok m := by
  intro i
  rw [ix_eq]
  revert i
  decide +kernel

end Cert.PairPoolIdeal.Step

end
-- ==== Proof.Products.PairPool.lean ====
/- The sum of the two cores' parts of a gradient (the pool's weight), the four slabs a core keeps one by one. -/
module

public import proofs.«01_k».proof.Defs
public import proofs.«01_k».proof.Proof.Products.Pair
public import proofs.«01_k».proof.Proof.Products.PairPoolIdealTable
public import proofs.«01_k».proof.Proof.Gen.PairPoolIdeal.Frame
public import proofs.«01_k».proof.Proof.Gen.PairPoolRefIdeal.Run
public import Idealize.ShloMosaic.Lib.Tactic

@[expose] public section

noncomputable section

namespace Cert.PairPoolIdeal.Step

open Cert.PairPoolIdeal Cert.PairPoolIdeal.Gen Cert.Products Idealize.ShloMosaic Idealize.ShloMosaic.TcCoe Idealize.SL.Sem
open Idealize.ShloMosaic.ValueIdx

variable (m : (ℓ : Loc nD τ sig) → Buf (Elt Ideal) ℓ) (ρ : Dev nD → PrngReg)

/-- What a point stores: the sum of its two blocks. -/
theorem out_eq (c : Dev nD) (i : grid0.Coords) (arg3 : Memref sig .tc .vmem S1x1x128x256 .bf16) (harg3 : arg3.IsWhole)
    (arg4 : Memref sig .tc .vmem S1x1x128x256 .bf16) (harg4 : arg4.IsWhole) (arg5 : Memref sig .tc .vmem S1x128x256 .bf16) (harg5 : arg5.IsWhole)
    (x0 x1 : Vec Ideal S1x1x128x256 .bf16) (xt0 : TbBuf0 (F := Ideal) c tbM0_0) : out0_A_2 c i arg3 harg3 arg4 harg4 arg5 harg5 x0 x1 xt0 = k0_pay1 x0 x1 := by
  unfold out0_A_2
  rw [View.read_writes_eq_canon _ _ _ (cover0_A_2 c i arg3 harg3 arg4 harg4 arg5 harg5 x0 x1 xt0)]
  unfold kernelRun0_A
  sl_unfold_words
  rw [View.canon_unit_zero hz3]
  simp only [View.readAt_eq_ld, harg3.read_unread, harg4.read_unread]
  repeat rw [View.ld_unit_zero hz4]

/-- The blocks a point takes and gives: a slab of each. -/
theorem idx : ∀ t : Fin grid0.N, (ix (grid0.coords t) (0 : Fin 4) = t.val ∧ ix (grid0.coords t) (1 : Fin 4) = 0
      ∧ ix (grid0.coords t) (2 : Fin 4) = 0 ∧ ix (grid0.coords t) (3 : Fin 4) = 0)
    ∧ (cc0_transform_1 (grid0.coords t) (0 : Fin 4) = t.val ∧ cc0_transform_1 (grid0.coords t) (1 : Fin 4) = 0
      ∧ cc0_transform_1 (grid0.coords t) (2 : Fin 4) = 0 ∧ cc0_transform_1 (grid0.coords t) (3 : Fin 4) = 0)
    ∧ cc0_transform_2 (grid0.coords t) (0 : Fin 3) = t.val ∧ cc0_transform_2 (grid0.coords t) (1 : Fin 3) = 0
      ∧ cc0_transform_2 (grid0.coords t) (2 : Fin 3) = 0 :=
  by decide +kernel

/-- The two blocks of a point. -/
def blk0 (hO : Ok m) (c : Dev nD) (t : Fin (cfgM m hO).N) : Vec Ideal S1x1x128x256 .bf16 := iblk m hO c 0 t
def blk1 (hO : Ok m) (c : Dev nD) (t : Fin (cfgM m hO).N) : Vec Ideal S1x1x128x256 .bf16 := iblk m hO c 1 t

theorem blk0_apply (hO : Ok m) (c : Dev nD) (t : Fin (cfgM m hO).N) (a : Fin 128) (b : Fin 256) (s : Fin 4) (hs : s.val = t.val) :
    blk0 m hO c t (ix4 0 0 a b) = m ((c : Thread nD τ).loc main_arg0) (ix4 s 0 a b) := by
  unfold blk0 iblk
  refine (View.read_apply _ _).trans ((cast_eq _ _).trans ?_)
  show V m c main_arg0 _ = _
  rw [V_main_arg0]
  congr 1; funext d; apply Fin.ext
  obtain ⟨⟨h0, h1, h2, h3⟩, -⟩ := idx t
  have e := ix_eq m (grid0.coords t)
  match d with
  | ⟨0, _⟩ => show cc0_transform_0 inb_S1_S1_0 numel1_S1 (tbl m) (grid0.coords t) (0 : Fin 4) * 1 + 1 * 0 = s.val; rw [e]; omega
  | ⟨1, _⟩ => show cc0_transform_0 inb_S1_S1_0 numel1_S1 (tbl m) (grid0.coords t) (1 : Fin 4) * 1 + 1 * 0 = 0; rw [e]; omega
  | ⟨2, _⟩ => show cc0_transform_0 inb_S1_S1_0 numel1_S1 (tbl m) (grid0.coords t) (2 : Fin 4) * 128 + 1 * a.val = a.val; rw [e]; omega
  | ⟨3, _⟩ => show cc0_transform_0 inb_S1_S1_0 numel1_S1 (tbl m) (grid0.coords t) (3 : Fin 4) * 256 + 1 * b.val = b.val; rw [e]; omega

theorem blk1_apply (hO : Ok m) (c : Dev nD) (t : Fin (cfgM m hO).N) (a : Fin 128) (b : Fin 256) (s : Fin 4) (hs : s.val = t.val) :
    blk1 m hO c t (ix4 0 0 a b) = m ((c : Thread nD τ).loc main_arg1) (ix4 s 0 a b) := by
  unfold blk1 iblk
  refine (View.read_apply _ _).trans ((cast_eq _ _).trans ?_)
  show V m c main_arg1 _ = _
  rw [V_main_arg1]
  congr 1; funext d; apply Fin.ext
  obtain ⟨-, ⟨h0, h1, h2, h3⟩, -⟩ := idx t
  match d with
  | ⟨0, _⟩ => show cc0_transform_1 (grid0.coords t) (0 : Fin 4) * 1 + 1 * 0 = s.val; omega
  | ⟨1, _⟩ => show cc0_transform_1 (grid0.coords t) (1 : Fin 4) * 1 + 1 * 0 = 0; omega
  | ⟨2, _⟩ => show cc0_transform_1 (grid0.coords t) (2 : Fin 4) * 128 + 1 * a.val = a.val; omega
  | ⟨3, _⟩ => show cc0_transform_1 (grid0.coords t) (3 : Fin 4) * 256 + 1 * b.val = b.val; omega

/-- The result, of the arguments the run starts with. -/
def total (c : Dev nD) : S4x128x256.Idx → EReal :=
  pairSum (n := 2) (M := 128) (N := 256) (m ((c : Thread nD τ).loc main_arg0)) (m ((c : Thread nD τ).loc main_arg1))

/-- What a point stores is the sum at the places its block goes to. -/
theorem point (hO : Ok m) (c : Dev nD) (t : Fin (cfgM m hO).N) (y : S1x128x256.Idx) :
    outsAt0 m hO c t y = total m c ((((cfgM m hO).win 2).blk t).view.emb y) := by
  obtain ⟨-, -, h0, h1, h2⟩ := idx t
  obtain ⟨z, a, b, rfl⟩ : ∃ z a b, y = ix3 (n0 := 1) (n1 := 128) (n2 := 256) z a b := ⟨_, _, _, eq_ix3 y⟩
  have hz : z.val < 1 := z.isLt
  have ht : t.val < 4 := N_0 ▸ t.isLt
  have e : ((((cfgM m hO).win 2).blk t).view.emb (ix3 z a b) : S4x128x256.Idx) = ix3 (n0 := 4) (n1 := 128) (n2 := 256) ⟨t.val, ht⟩ a b :=
    funext fun d => Fin.ext (match d with
      | ⟨0, _⟩ => by show cc0_transform_2 (grid0.coords t) (0 : Fin 3) * 1 + 1 * z.val = t.val; omega
      | ⟨1, _⟩ => by show cc0_transform_2 (grid0.coords t) (1 : Fin 3) * 128 + 1 * a.val = a.val; omega
      | ⟨2, _⟩ => by show cc0_transform_2 (grid0.coords t) (2 : Fin 3) * 256 + 1 * b.val = b.val; omega)
  refine (congrFun (out_eq c (grid0.coords t) _ _ _ _ _ _ (blk0 m hO c t) (blk1 m hO c t) (tbl m 0)) (ix3 z a b)).trans ?_
  refine (pairBlock (blk0 m hO c t) (blk1 m hO c t) _ _ z a b).trans (Eq.trans ?_ (congrArg (total m c) e).symm)
  rw [blk0_apply m hO c t a b ⟨t.val, ht⟩ rfl, blk1_apply m hO c t a b ⟨t.val, ht⟩ rfl]
  rfl

theorem mem_blk (hO : Ok m) (t : Fin (cfgM m hO).N) (i : S4x128x256.Idx) :
    i ∈ (((cfgM m hO).win 2).blk t).view.set ↔ ∀ a : Fin 3, cc0_transform_2 (grid0.coords t) a * S1x128x256.size a ≤ (i a).val
      ∧ (i a).val < cc0_transform_2 (grid0.coords t) a * S1x128x256.size a + S1x128x256.size a :=
  (iff_of_eq (congrArg (i ∈ ·) (View.set_slice_whole main_v1 (((cfgM m hO).win 2).rect t)))).trans Rect.mem_set_unit

theorem final (hO : Ok m) (c : Dev nD) : (dats m hO 0 c).arrAt 2 (cfgM m hO).N = total m c := by
  refine (dats m hO 0 c).arrAt_eq_of_cover 2 _ (fun t hf => ?_) (fun (i : S4x128x256.Idx) => ?_)
  · show ((cfgM m hO).win 2).cut (grid0.coords t) ((dats m hO 0 c).after 2 t) = _
    rw [after0_2]
    funext y
    exact ((View.read_apply _ _).trans ((cast_eq _ _).trans (point m hO c t y).symm)).symm
  · have i0 : (i 0).val < 4 := (i 0).isLt
    have i1 : (i 1).val < 128 := (i 1).isLt
    have i2 : (i 2).val < 256 := (i 2).isLt
    have hN : (cfgM m hO).N = 4 := N_0
    obtain ⟨-, -, h0, h1, h2⟩ := idx ⟨(i 0).val, by rw [N_0]; omega⟩
    refine ⟨⟨(i 0).val, by omega⟩, flush0_2 _ _, (mem_blk m hO _ i).mpr fun a => ?_⟩
    match a with
    | ⟨0, _⟩ => show cc0_transform_2 _ (0 : Fin 3) * 1 ≤ (i 0).val ∧ (i 0).val < cc0_transform_2 _ (0 : Fin 3) * 1 + 1; rw [h0]; dsimp only; omega
    | ⟨1, _⟩ => show cc0_transform_2 _ (1 : Fin 3) * 128 ≤ (i 1).val ∧ (i 1).val < cc0_transform_2 _ (1 : Fin 3) * 128 + 128; rw [h1]; omega
    | ⟨2, _⟩ => show cc0_transform_2 _ (2 : Fin 3) * 256 ≤ (i 2).val ∧ (i 2).val < cc0_transform_2 _ (2 : Fin 3) * 256 + 256; rw [h2]; omega

/-- The run, its result named. -/
theorem run (hO : Ok m) : θ_run defs (onTc (τ := τ) (main (F := Ideal))) ⟨m, fun _ => 0, ρ⟩ fun r => ∀ c : Dev nD,
      r.2.mem ((c : Thread nD τ).loc main_v1) = total m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c)))⟩)
    (run_main m ρ hO)

/-- The kernel and the reference end with one sum. -/
theorem algebraic : Cert.algebraic_PairPoolIdeal_PairPoolRefIdeal := by
  intro m ρ m' ρ' _ hagree
  refine ⟨_, run m ρ (ok m), ?_⟩
  refine (θ_run Cert.PairPoolRefIdeal.defs _ _).mono (fun _ h c => ⟨?_, (h c).2⟩) (Cert.PairPoolRefIdeal.Value.run (F := Ideal) m' ρ')
  rw [(h c).1, (hagree c).1, (hagree c).2]
  exact pairRef (n := 2) (M := 128) (N := 256) (m ((c : Thread nD τ).loc main_arg0)) (m ((c : Thread nD τ).loc main_arg1))
    Cert.PairPoolRefIdeal.Gen.slices_S4x2x128x256_S4x1x128x256_0_0_0_0 Cert.PairPoolRefIdeal.Gen.shapeCasts_S4x1x128x256_S4x128x256

end Cert.PairPoolIdeal.Step

end
-- ==== Proof.Products.PairInEvenIdealTable.lean ====
/- The table the call reads (one word, which core the device is) as its run finds it, and the blocks it then asks for. -/
module

public import proofs.«01_k».proof.Proof.Gen.PairInEvenIdeal.Frame
public import Idealize.ShloMosaic.Lib.Tactic

@[expose] public section

noncomputable section

namespace Cert.PairInEvenIdeal.Step

open Cert.PairInEvenIdeal Cert.PairInEvenIdeal.Gen Idealize.ShloMosaic Idealize.ShloMosaic.TcCoe Idealize.SL.Sem

variable {F : FTy → Type} [FloatOps F]
variable (m : (ℓ : Loc nD τ sig) → Buf (Elt F) ℓ)

/-- The table holds the one word the program writes. -/
theorem table (c : Dev nD) : V m c main_v0 = broadcastInDim S1 ![] bcast_S_S1 (constantI S_ 32 0#32) := by
  show StableHlo.after hostOps0 _ _ = _
  after_results <;> rfl

theorem word : (tbl m).at 0 (Rect.unit (s := S1) ![0] S1.size inb_S1_S1_0) numel1_S1 = 0#32 := by
  have h : tbl m 0 = broadcastInDim S1 ![] bcast_S_S1 (constantI S_ 32 0#32) := table m 0
  unfold Pipeline.Prefetch.Contents.at
  rw [h]
  rfl

/-- The block of the core's own parts at a point, that word read. -/
def ix (i : grid0.Coords) : Fin 4 → Nat := ![(BitVec.ofNat 32 (i 0).val).toNat, 0, (BitVec.ofNat 32 (i 1).val).toNat, 0]

theorem ix_eq (i : grid0.Coords) : cc0_transform_0 inb_S1_S1_0 numel1_S1 (tbl m) i = ix i := by
  unfold cc0_transform_0
  rw [word]
  rfl

/-- Every block lies inside the array. -/
theorem ok : Ok m := by
  intro i
  rw [ix_eq]
  revert i
  decide +kernel

end Cert.PairInEvenIdeal.Step

end
-- ==== Proof.Products.PairInEven.lean ====
/- The sum of the two cores' parts of a gradient (the even layer's input weight), the four slabs a core keeps one by one. -/
module

public import proofs.«01_k».proof.Defs
public import proofs.«01_k».proof.Proof.Products.Pair
public import proofs.«01_k».proof.Proof.Products.PairInEvenIdealTable
public import proofs.«01_k».proof.Proof.Gen.PairInEvenIdeal.Frame
public import proofs.«01_k».proof.Proof.Gen.PairInEvenRefIdeal.Run
public import Idealize.ShloMosaic.Lib.Tactic

@[expose] public section

noncomputable section

namespace Cert.PairInEvenIdeal.Step

open Cert.PairInEvenIdeal Cert.PairInEvenIdeal.Gen Cert.Products Idealize.ShloMosaic Idealize.ShloMosaic.TcCoe Idealize.SL.Sem
open Idealize.ShloMosaic.ValueIdx

variable (m : (ℓ : Loc nD τ sig) → Buf (Elt Ideal) ℓ) (ρ : Dev nD → PrngReg)

/-- What a point stores: the sum of its two blocks. -/
theorem out_eq (c : Dev nD) (i : grid0.Coords) (arg3 : Memref sig .tc .vmem S1x1x2048x768 .bf16) (harg3 : arg3.IsWhole)
    (arg4 : Memref sig .tc .vmem S1x1x2048x768 .bf16) (harg4 : arg4.IsWhole) (arg5 : Memref sig .tc .vmem S1x2048x768 .bf16) (harg5 : arg5.IsWhole)
    (x0 x1 : Vec Ideal S1x1x2048x768 .bf16) (xt0 : TbBuf0 (F := Ideal) c tbM0_0) : out0_A_2 c i arg3 harg3 arg4 harg4 arg5 harg5 x0 x1 xt0 = k0_pay1 x0 x1 := by
  unfold out0_A_2
  rw [View.read_writes_eq_canon _ _ _ (cover0_A_2 c i arg3 harg3 arg4 harg4 arg5 harg5 x0 x1 xt0)]
  unfold kernelRun0_A
  sl_unfold_words
  rw [View.canon_unit_zero hz3]
  simp only [View.readAt_eq_ld, harg3.read_unread, harg4.read_unread]
  repeat rw [View.ld_unit_zero hz4]

/-- The blocks a point takes and gives: a slab of each. -/
theorem idx : ∀ t : Fin grid0.N, (ix (grid0.coords t) (0 : Fin 4) = t.val ∧ ix (grid0.coords t) (1 : Fin 4) = 0
      ∧ ix (grid0.coords t) (2 : Fin 4) = 0 ∧ ix (grid0.coords t) (3 : Fin 4) = 0)
    ∧ (cc0_transform_1 (grid0.coords t) (0 : Fin 4) = t.val ∧ cc0_transform_1 (grid0.coords t) (1 : Fin 4) = 0
      ∧ cc0_transform_1 (grid0.coords t) (2 : Fin 4) = 0 ∧ cc0_transform_1 (grid0.coords t) (3 : Fin 4) = 0)
    ∧ cc0_transform_2 (grid0.coords t) (0 : Fin 3) = t.val ∧ cc0_transform_2 (grid0.coords t) (1 : Fin 3) = 0
      ∧ cc0_transform_2 (grid0.coords t) (2 : Fin 3) = 0 :=
  by decide +kernel

/-- The two blocks of a point. -/
def blk0 (hO : Ok m) (c : Dev nD) (t : Fin (cfgM m hO).N) : Vec Ideal S1x1x2048x768 .bf16 := iblk m hO c 0 t
def blk1 (hO : Ok m) (c : Dev nD) (t : Fin (cfgM m hO).N) : Vec Ideal S1x1x2048x768 .bf16 := iblk m hO c 1 t

theorem blk0_apply (hO : Ok m) (c : Dev nD) (t : Fin (cfgM m hO).N) (a : Fin 2048) (b : Fin 768) (s : Fin 4) (hs : s.val = t.val) :
    blk0 m hO c t (ix4 0 0 a b) = m ((c : Thread nD τ).loc main_arg0) (ix4 s 0 a b) := by
  unfold blk0 iblk
  refine (View.read_apply _ _).trans ((cast_eq _ _).trans ?_)
  show V m c main_arg0 _ = _
  rw [V_main_arg0]
  congr 1; funext d; apply Fin.ext
  obtain ⟨⟨h0, h1, h2, h3⟩, -⟩ := idx t
  have e := ix_eq m (grid0.coords t)
  match d with
  | ⟨0, _⟩ => show cc0_transform_0 inb_S1_S1_0 numel1_S1 (tbl m) (grid0.coords t) (0 : Fin 4) * 1 + 1 * 0 = s.val; rw [e]; omega
  | ⟨1, _⟩ => show cc0_transform_0 inb_S1_S1_0 numel1_S1 (tbl m) (grid0.coords t) (1 : Fin 4) * 1 + 1 * 0 = 0; rw [e]; omega
  | ⟨2, _⟩ => show cc0_transform_0 inb_S1_S1_0 numel1_S1 (tbl m) (grid0.coords t) (2 : Fin 4) * 2048 + 1 * a.val = a.val; rw [e]; omega
  | ⟨3, _⟩ => show cc0_transform_0 inb_S1_S1_0 numel1_S1 (tbl m) (grid0.coords t) (3 : Fin 4) * 768 + 1 * b.val = b.val; rw [e]; omega

theorem blk1_apply (hO : Ok m) (c : Dev nD) (t : Fin (cfgM m hO).N) (a : Fin 2048) (b : Fin 768) (s : Fin 4) (hs : s.val = t.val) :
    blk1 m hO c t (ix4 0 0 a b) = m ((c : Thread nD τ).loc main_arg1) (ix4 s 0 a b) := by
  unfold blk1 iblk
  refine (View.read_apply _ _).trans ((cast_eq _ _).trans ?_)
  show V m c main_arg1 _ = _
  rw [V_main_arg1]
  congr 1; funext d; apply Fin.ext
  obtain ⟨-, ⟨h0, h1, h2, h3⟩, -⟩ := idx t
  match d with
  | ⟨0, _⟩ => show cc0_transform_1 (grid0.coords t) (0 : Fin 4) * 1 + 1 * 0 = s.val; omega
  | ⟨1, _⟩ => show cc0_transform_1 (grid0.coords t) (1 : Fin 4) * 1 + 1 * 0 = 0; omega
  | ⟨2, _⟩ => show cc0_transform_1 (grid0.coords t) (2 : Fin 4) * 2048 + 1 * a.val = a.val; omega
  | ⟨3, _⟩ => show cc0_transform_1 (grid0.coords t) (3 : Fin 4) * 768 + 1 * b.val = b.val; omega

/-- The result, of the arguments the run starts with. -/
def total (c : Dev nD) : S4x2048x768.Idx → EReal :=
  pairSum (n := 1) (M := 2048) (N := 768) (m ((c : Thread nD τ).loc main_arg0)) (m ((c : Thread nD τ).loc main_arg1))

/-- What a point stores is the sum at the places its block goes to. -/
theorem point (hO : Ok m) (c : Dev nD) (t : Fin (cfgM m hO).N) (y : S1x2048x768.Idx) :
    outsAt0 m hO c t y = total m c ((((cfgM m hO).win 2).blk t).view.emb y) := by
  obtain ⟨-, -, h0, h1, h2⟩ := idx t
  obtain ⟨z, a, b, rfl⟩ : ∃ z a b, y = ix3 (n0 := 1) (n1 := 2048) (n2 := 768) z a b := ⟨_, _, _, eq_ix3 y⟩
  have hz : z.val < 1 := z.isLt
  have ht : t.val < 4 := N_0 ▸ t.isLt
  have e : ((((cfgM m hO).win 2).blk t).view.emb (ix3 z a b) : S4x2048x768.Idx) = ix3 (n0 := 4) (n1 := 2048) (n2 := 768) ⟨t.val, ht⟩ a b :=
    funext fun d => Fin.ext (match d with
      | ⟨0, _⟩ => by show cc0_transform_2 (grid0.coords t) (0 : Fin 3) * 1 + 1 * z.val = t.val; omega
      | ⟨1, _⟩ => by show cc0_transform_2 (grid0.coords t) (1 : Fin 3) * 2048 + 1 * a.val = a.val; omega
      | ⟨2, _⟩ => by show cc0_transform_2 (grid0.coords t) (2 : Fin 3) * 768 + 1 * b.val = b.val; omega)
  refine (congrFun (out_eq c (grid0.coords t) _ _ _ _ _ _ (blk0 m hO c t) (blk1 m hO c t) (tbl m 0)) (ix3 z a b)).trans ?_
  refine (pairBlock (blk0 m hO c t) (blk1 m hO c t) _ _ z a b).trans (Eq.trans ?_ (congrArg (total m c) e).symm)
  rw [blk0_apply m hO c t a b ⟨t.val, ht⟩ rfl, blk1_apply m hO c t a b ⟨t.val, ht⟩ rfl]
  rfl

theorem mem_blk (hO : Ok m) (t : Fin (cfgM m hO).N) (i : S4x2048x768.Idx) :
    i ∈ (((cfgM m hO).win 2).blk t).view.set ↔ ∀ a : Fin 3, cc0_transform_2 (grid0.coords t) a * S1x2048x768.size a ≤ (i a).val
      ∧ (i a).val < cc0_transform_2 (grid0.coords t) a * S1x2048x768.size a + S1x2048x768.size a :=
  (iff_of_eq (congrArg (i ∈ ·) (View.set_slice_whole main_v1 (((cfgM m hO).win 2).rect t)))).trans Rect.mem_set_unit

theorem final (hO : Ok m) (c : Dev nD) : (dats m hO 0 c).arrAt 2 (cfgM m hO).N = total m c := by
  refine (dats m hO 0 c).arrAt_eq_of_cover 2 _ (fun t hf => ?_) (fun (i : S4x2048x768.Idx) => ?_)
  · show ((cfgM m hO).win 2).cut (grid0.coords t) ((dats m hO 0 c).after 2 t) = _
    rw [after0_2]
    funext y
    exact ((View.read_apply _ _).trans ((cast_eq _ _).trans (point m hO c t y).symm)).symm
  · have i0 : (i 0).val < 4 := (i 0).isLt
    have i1 : (i 1).val < 2048 := (i 1).isLt
    have i2 : (i 2).val < 768 := (i 2).isLt
    have hN : (cfgM m hO).N = 4 := N_0
    obtain ⟨-, -, h0, h1, h2⟩ := idx ⟨(i 0).val, by rw [N_0]; omega⟩
    refine ⟨⟨(i 0).val, by omega⟩, flush0_2 _ _, (mem_blk m hO _ i).mpr fun a => ?_⟩
    match a with
    | ⟨0, _⟩ => show cc0_transform_2 _ (0 : Fin 3) * 1 ≤ (i 0).val ∧ (i 0).val < cc0_transform_2 _ (0 : Fin 3) * 1 + 1; rw [h0]; dsimp only; omega
    | ⟨1, _⟩ => show cc0_transform_2 _ (1 : Fin 3) * 2048 ≤ (i 1).val ∧ (i 1).val < cc0_transform_2 _ (1 : Fin 3) * 2048 + 2048; rw [h1]; omega
    | ⟨2, _⟩ => show cc0_transform_2 _ (2 : Fin 3) * 768 ≤ (i 2).val ∧ (i 2).val < cc0_transform_2 _ (2 : Fin 3) * 768 + 768; rw [h2]; omega

/-- The run, its result named. -/
theorem run (hO : Ok m) : θ_run defs (onTc (τ := τ) (main (F := Ideal))) ⟨m, fun _ => 0, ρ⟩ fun r => ∀ c : Dev nD,
      r.2.mem ((c : Thread nD τ).loc main_v1) = total m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c)))⟩)
    (run_main m ρ hO)

/-- The kernel and the reference end with one sum. -/
theorem algebraic : Cert.algebraic_PairInEvenIdeal_PairInEvenRefIdeal := by
  intro m ρ m' ρ' _ hagree
  refine ⟨_, run m ρ (ok m), ?_⟩
  refine (θ_run Cert.PairInEvenRefIdeal.defs _ _).mono (fun _ h c => ⟨?_, (h c).2⟩) (Cert.PairInEvenRefIdeal.Value.run (F := Ideal) m' ρ')
  rw [(h c).1, (hagree c).1, (hagree c).2]
  exact pairRefOwn (M := 2048) (N := 768) (m ((c : Thread nD τ).loc main_arg0)) (m ((c : Thread nD τ).loc main_arg1)) Cert.PairInEvenRefIdeal.Gen.shapeCasts_S4x1x2048x768_S4x2048x768

end Cert.PairInEvenIdeal.Step

end
-- ==== Proof.Norms.PostNorm.lean ====
/- The call between the layers, forward: the stream with the norm of a layer's output added, and its norm, which the next layer
   reads, over tiles of 512 rows. -/
module

public import proofs.«01_k».proof.Defs
public import proofs.«01_k».proof.Proof.Norms.Read
public import proofs.«01_k».proof.Proof.Gen.PostNormIdeal.Value
public import proofs.«01_k».proof.Proof.Gen.PostNormRefIdeal.Run
public import Idealize.ShloMosaic.Lib.Tactic

@[expose] public section

noncomputable section

open scoped BigOperators

namespace Cert.PostNormIdeal.Product

open Cert.PostNormIdeal Cert.PostNormIdeal.Gen Cert.Products Cert.Norms Idealize.ShloMosaic Idealize.ShloMosaic.TcCoe Idealize.SL.Sem
open Idealize.ShloMosaic.ValueIdx

/-- What the next layer reads: the norm of the stream. -/
def nrm (x o : Mat 2048 2048) (g h : Mat 1 2048) (a b : Fin 2048) : EReal :=
  mix x o g a b * scl (sq (mix x o g a)) * h (ix2 0 b)

/-! ## A block's numbers -/

section Block

variable (x0 : Vec Ideal S512x2048 .f32) (x1 : Vec Ideal S512x2048 .bf16) (x2 x3 : Vec Ideal S1x2048 .f32) (a : Fin 512) (b : Fin 2048)

theorem pay1_apply : k0_pay1 x1 x0 x2 (ix2 a b) = mix (M := 512) (N := 2048) x0 x1 x2 a b := by
  unfold k0_pay1
  refine congrArg (x0 (ix2 a b) + ·) (congrArg₂ (· * ·) (congrArg (x1 (ix2 a b) * ·) ((col_apply (M := 512) (N := 2048) _ _ a b).trans ?_)) ?_)
  · exact scale_apply (M := 512) (N := 2048) x1 _ _ _ _ a
  · exact broadcastTo_1b_ab_apply (a := 512) (b := 2048) x2 broadcasts_S1x2048_S512x2048 a b

theorem pay2_apply : k0_pay2 x1 x0 x2 x3 (ix2 a b)
    = mix (M := 512) (N := 2048) x0 x1 x2 a b * scl (sq (mix (M := 512) (N := 2048) x0 x1 x2 a)) * x3 (ix2 0 b) := by
  have e : row (M := 512) (N := 2048) (k0_pay1 x1 x0 x2) a = mix (M := 512) (N := 2048) x0 x1 x2 a := funext fun k => pay1_apply x0 x1 x2 a k
  rw [← pay1_apply, ← e]
  unfold k0_pay2
  refine congrArg₂ (· * ·) (congrArg (k0_pay1 x1 x0 x2 (ix2 a b) * ·) ((col_apply (M := 512) (N := 2048) _ _ a b).trans ?_)) ?_
  · exact scale_apply (M := 512) (N := 2048) (k0_pay1 x1 x0 x2) _ _ _ _ a
  · exact broadcastTo_1b_ab_apply (a := 512) (b := 2048) x3 broadcasts_S1x2048_S512x2048 a b

theorem out4_apply : out0_4 x0 x1 x2 x3 (ix2 a b) = mix (M := 512) (N := 2048) x0 x1 x2 a b := by
  unfold out0_4
  rw [View.canon_unit_zero hz2]
  repeat rw [View.ld_unit_zero hz2]
  exact pay1_apply x0 x1 x2 a b

theorem out5_apply : out0_5 x0 x1 x2 x3 (ix2 a b)
    = mix (M := 512) (N := 2048) x0 x1 x2 a b * scl (sq (mix (M := 512) (N := 2048) x0 x1 x2 a)) * x3 (ix2 0 b) := by
  unfold out0_5
  rw [View.canon_unit_zero hz2]
  repeat rw [View.ld_unit_zero hz2]
  exact pay2_apply x0 x1 x2 x3 a b

end Block

/-! ## The blocks a point takes and gives -/

theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0 ∧ win0_4.flush t = true)
    ∧ (win0_5.index t (0 : Fin 2) = t.val ∧ win0_5.index t (1 : Fin 2) = 0 ∧ win0_5.flush t = true) :=
  (by decide +kernel : ∀ t : Fin grid0.N, _)

variable (m : (ℓ : Loc nD τ sig) → Buf (Elt Ideal) ℓ)

theorem blk0 (c : Dev nD) (t : Fin cfg0.N) (a : Fin 512) (k j : Fin 2048) (hj : j.val = 512 * t.val + a.val) :
    iblk m c 0 t (ix2 a k) = m ((c : Thread nD τ).loc main_arg0) (ix2 j k) := by
  unfold iblk
  rw [View.read_apply]
  show V m c main_arg0 _ = _
  rw [V_main_arg0]
  congr 1; funext d; apply Fin.ext
  obtain ⟨⟨h0, h1⟩, -⟩ := idx t
  match d with
  | ⟨0, _⟩ => show win0_0.index t (0 : Fin 2) * 512 + 1 * a.val = j.val; omega
  | ⟨1, _⟩ => show win0_0.index t (1 : Fin 2) * 2048 + 1 * k.val = k.val; omega

theorem blk1 (c : Dev nD) (t : Fin cfg0.N) (a : Fin 512) (k j : Fin 2048) (hj : j.val = 512 * t.val + a.val) :
    iblk m c 1 t (ix2 a k) = m ((c : Thread nD τ).loc main_arg1) (ix2 j k) := by
  unfold iblk
  rw [View.read_apply]
  show V m c main_arg1 _ = _
  rw [V_main_arg1]
  congr 1; funext d; apply Fin.ext
  obtain ⟨-, ⟨h0, h1⟩, -⟩ := idx t
  match d with
  | ⟨0, _⟩ => show win0_1.index t (0 : Fin 2) * 512 + 1 * a.val = j.val; omega
  | ⟨1, _⟩ => show win0_1.index t (1 : Fin 2) * 2048 + 1 * k.val = k.val; omega

theorem blk2 (c : Dev nD) (t : Fin cfg0.N) (k : Fin 2048) :
    iblk m c 2 t (ix2 0 k) = m ((c : Thread nD τ).loc main_arg2) (ix2 0 k) := by
  unfold iblk
  rw [View.read_apply]
  show V m c main_arg2 _ = _
  rw [V_main_arg2]
  congr 1; funext d; apply Fin.ext
  obtain ⟨-, -, ⟨h0, h1⟩, -⟩ := idx t
  match d with
  | ⟨0, _⟩ => show win0_2.index t (0 : Fin 2) * 1 + 1 * 0 = 0; omega
  | ⟨1, _⟩ => show win0_2.index t (1 : Fin 2) * 2048 + 1 * k.val = k.val; omega

theorem blk3 (c : Dev nD) (t : Fin cfg0.N) (k : Fin 2048) :
    iblk m c 3 t (ix2 0 k) = m ((c : Thread nD τ).loc main_arg3) (ix2 0 k) := by
  unfold iblk
  rw [View.read_apply]
  show V m c main_arg3 _ = _
  rw [V_main_arg3]
  congr 1; funext d; apply Fin.ext
  obtain ⟨-, -, -, ⟨h0, h1⟩, -⟩ := idx t
  match d with
  | ⟨0, _⟩ => show win0_3.index t (0 : Fin 2) * 1 + 1 * 0 = 0; omega
  | ⟨1, _⟩ => show win0_3.index t (1 : Fin 2) * 2048 + 1 * k.val = k.val; omega

/-! ## The arrays after the run -/

/-- The arguments the run starts with, … -/
abbrev argX (c : Dev nD) : Mat 2048 2048 := m ((c : Thread nD τ).loc main_arg0)
abbrev argO (c : Dev nD) : Mat 2048 2048 := m ((c : Thread nD τ).loc main_arg1)
abbrev argG (c : Dev nD) : Mat 1 2048 := m ((c : Thread nD τ).loc main_arg2)
abbrev argH (c : Dev nD) : Mat 1 2048 := m ((c : Thread nD τ).loc main_arg3)

/-- … and what they give. -/
abbrev mstr (c : Dev nD) (a b : Fin 2048) : EReal := mix (argX m c) (argO m c) (argG m c) a b
abbrev mnrm (c : Dev nD) (a b : Fin 2048) : EReal := nrm (argX m c) (argO m c) (argG m c) (argH m c) a b

theorem mixBlk (c : Dev nD) (t : Fin cfg0.N) (a : Fin 512) (b j : Fin 2048) (hj : j.val = 512 * t.val + a.val) :
    mix (M := 512) (N := 2048) (iblk m c 0 t) (iblk m c 1 t) (iblk m c 2 t) a b = mstr m c j b := by
  have e : row (M := 512) (N := 2048) (iblk m c 1 t) a = row (argO m c) j := funext fun k => blk1 m c t a k j hj
  unfold mstr mix
  rw [e, blk0 m c t a b j hj, blk1 m c t a b j hj, blk2 m c t b]

theorem point4 (c : Dev nD) (t : Fin cfg0.N) (a : Fin 512) (b j : Fin 2048) (hj : j.val = 512 * t.val + a.val) :
    out0_4 (iblk m c 0 t) (iblk m c 1 t) (iblk m c 2 t) (iblk m c 3 t) (ix2 a b) = mstr m c j b := by
  rw [out4_apply, mixBlk m c t a b j hj]

theorem point5 (c : Dev nD) (t : Fin cfg0.N) (a : Fin 512) (b j : Fin 2048) (hj : j.val = 512 * t.val + a.val) :
    out0_5 (iblk m c 0 t) (iblk m c 1 t) (iblk m c 2 t) (iblk m c 3 t) (ix2 a b) = mnrm m c j b := by
  have e : mix (M := 512) (N := 2048) (iblk m c 0 t) (iblk m c 1 t) (iblk m c 2 t) a = mstr m c j := funext fun k => mixBlk m c t a k j hj
  rw [out5_apply, e, blk3 m c t b]
  rfl

theorem mem_blk4 (t : Fin cfg0.N) (i : S2048x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v0_0).slice (win0_4.rect t)).set ↔ _
  rw [View.set_slice_whole, Rect.mem_set_unit]
  exact Iff.rfl

/-- The stream after the run … -/
theorem final4 (c : Dev nD) : (dats m 0 c).arrAt 4 cfg0.N = fun i => mstr m c (i 0) (i 1) := by
  refine (dats m 0 c).arrAt_eq_of_cover 4 _ (fun t hf => ?_) (fun i => ?_)
  · obtain ⟨-, -, -, -, ⟨h0, h1, -⟩, -⟩ := idx t
    rw [Value.flushed4]
    funext y
    rw [View.read_apply]
    have e : (cfg0.win 4).xinj (grid0.coords t) y = ix2 (n0 := 512) (n1 := 2048) (y 0) (y 1) :=
      funext fun a => match a with | ⟨0, _⟩ => rfl | ⟨1, _⟩ => rfl
    have e0 : (((cfg0.win 4).blk t).view.emb y 0).val = win0_4.index t (0 : Fin 2) * 512 + 1 * (y 0).val := rfl
    have e1 : (((cfg0.win 4).blk t).view.emb y 1) = y 1 :=
      Fin.ext (by show win0_4.index t (1 : Fin 2) * 2048 + 1 * (y 1).val = (y 1).val; omega)
    exact (congrArg (out0_4 (iblk m c 0 t) (iblk m c 1 t) (iblk m c 2 t) (iblk m c 3 t)) e).trans
      ((point4 m c t (y 0) (y 1) (((cfg0.win 4).blk t).view.emb y 0) (by omega)).trans (congrArg (mstr m c (((cfg0.win 4).blk t).view.emb y 0)) e1.symm))
  · have i0 : (i 0).val < 2048 := (i 0).isLt
    have i1 : (i 1).val < 2048 := (i 1).isLt
    have hN : cfg0.N = 4 := N_0
    obtain ⟨-, -, -, -, ⟨h0, h1, hf⟩, -⟩ := idx ⟨(i 0).val / 512, by omega⟩
    refine ⟨⟨(i 0).val / 512, by omega⟩, hf, ?_⟩
    rw [mem_blk4]
    intro a
    match a with
    | ⟨0, _⟩ => show win0_4.index _ (0 : Fin 2) * 512 ≤ (i 0).val ∧ (i 0).val < win0_4.index _ (0 : Fin 2) * 512 + 512; rw [h0]; dsimp only; omega
    | ⟨1, _⟩ => show win0_4.index _ (1 : Fin 2) * 2048 ≤ (i 1).val ∧ (i 1).val < win0_4.index _ (1 : Fin 2) * 2048 + 2048; rw [h1]; omega

theorem mem_blk5 (t : Fin cfg0.N) (i : S2048x2048.Idx) :
    i ∈ ((cfg0.win 5).blk t).view.set ↔ ∀ a : Fin 2, win0_5.index t a * S512x2048.size a ≤ (i a).val
      ∧ (i a).val < win0_5.index t a * S512x2048.size a + S512x2048.size a := by
  show i ∈ ((View.whole main_v0_1).slice (win0_5.rect t)).set ↔ _
  rw [View.set_slice_whole, Rect.mem_set_unit]
  exact Iff.rfl

/-- … and what the next layer reads. -/
theorem final5 (c : Dev nD) : (dats m 0 c).arrAt 5 cfg0.N = fun i => mnrm m c (i 0) (i 1) := by
  refine (dats m 0 c).arrAt_eq_of_cover 5 _ (fun t hf => ?_) (fun i => ?_)
  · obtain ⟨-, -, -, -, -, ⟨h0, h1, -⟩⟩ := idx t
    rw [Value.flushed5]
    funext y
    rw [View.read_apply]
    have e : (cfg0.win 5).xinj (grid0.coords t) y = ix2 (n0 := 512) (n1 := 2048) (y 0) (y 1) :=
      funext fun a => match a with | ⟨0, _⟩ => rfl | ⟨1, _⟩ => rfl
    have e0 : (((cfg0.win 5).blk t).view.emb y 0).val = win0_5.index t (0 : Fin 2) * 512 + 1 * (y 0).val := rfl
    have e1 : (((cfg0.win 5).blk t).view.emb y 1) = y 1 :=
      Fin.ext (by show win0_5.index t (1 : Fin 2) * 2048 + 1 * (y 1).val = (y 1).val; omega)
    exact (congrArg (out0_5 (iblk m c 0 t) (iblk m c 1 t) (iblk m c 2 t) (iblk m c 3 t)) e).trans
      ((point5 m c t (y 0) (y 1) (((cfg0.win 5).blk t).view.emb y 0) (by omega)).trans (congrArg (mnrm m c (((cfg0.win 5).blk t).view.emb y 0)) e1.symm))
  · have i0 : (i 0).val < 2048 := (i 0).isLt
    have i1 : (i 1).val < 2048 := (i 1).isLt
    have hN : cfg0.N = 4 := N_0
    obtain ⟨-, -, -, -, -, ⟨h0, h1, hf⟩⟩ := idx ⟨(i 0).val / 512, by omega⟩
    refine ⟨⟨(i 0).val / 512, by omega⟩, hf, ?_⟩
    rw [mem_blk5]
    intro a
    match a with
    | ⟨0, _⟩ => show win0_5.index _ (0 : Fin 2) * 512 ≤ (i 0).val ∧ (i 0).val < win0_5.index _ (0 : Fin 2) * 512 + 512; rw [h0]; dsimp only; omega
    | ⟨1, _⟩ => show win0_5.index _ (1 : Fin 2) * 2048 ≤ (i 1).val ∧ (i 1).val < win0_5.index _ (1 : Fin 2) * 2048 + 2048; rw [h1]; omega

/-- The kernel and the reference end with one stream and one norm of it. -/
theorem algebraic : Cert.algebraic_PostNormIdeal_PostNormRefIdeal := by
  intro m ρ m' ρ' _ hagree
  refine ⟨_, _, Cert.PostNormIdeal.Value.run_blocks (F := Ideal) m ρ, ?_⟩
  refine (θ_run Cert.PostNormRefIdeal.defs _ _).mono (fun _ h c => ⟨?_, ?_, (h c).2.2⟩) (Cert.PostNormRefIdeal.Value.run (F := Ideal) m' ρ')
  · rw [(h c).1, (hagree c).1, (hagree c).2.1, (hagree c).2.2.1, final4 m c]
    exact mat_ext (M := 2048) (N := 2048) fun a b => hmix_apply (M := 2048) (N := 2048) _ _ _ _ (by decide) _ _ _ _ _ a b
  · rw [(h c).2.1, (hagree c).1, (hagree c).2.1, (hagree c).2.2.1, (hagree c).2.2.2, final5 m c]
    refine mat_ext (M := 2048) (N := 2048) fun a b => congrArg₂ (· * ·) (congrArg₂ (· * ·) ?_ ?_) (hrow_apply (M := 2048) (N := 2048) (argH m c) _ a b)
    · exact hmix_apply (M := 2048) (N := 2048) _ _ _ _ (by decide) _ _ _ _ _ a b
    · refine (hnorm_apply (M := 2048) (N := 2048) _ _ _ _ (by decide) _ _ a b).trans (congrArg (fun f => scl (sq f)) (funext fun k => ?_))
      exact hmix_apply (M := 2048) (N := 2048) _ _ _ _ (by decide) _ _ _ _ _ a k

end Cert.PostNormIdeal.Product

end
-- ==== Proof.lean ====
/- The certificate's claim from its parts: the frames of every program, and what the products, the sums, the updates and the gradients of the norms and of the loss compute. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.SbBits.Frame
public import proofs.«01_k».proof.Proof.SbIdeal.Frame
public import proofs.«01_k».proof.Proof.Gen.DhOdd.Frame
public import proofs.«01_k».proof.Proof.Products.DhOdd
public import proofs.«01_k».proof.Proof.Gen.DhOddIdeal.Value
public import proofs.«01_k».proof.Proof.Gen.DwInOdd.Frame
public import proofs.«01_k».proof.Proof.Products.DwInOdd
public import proofs.«01_k».proof.Proof.Gen.DwInOddIdeal.Value
public import proofs.«01_k».proof.Proof.Gen.InOdd.Frame
public import proofs.«01_k».proof.Proof.Products.InOdd
public import proofs.«01_k».proof.Proof.Gen.InOddIdeal.Value
public import proofs.«01_k».proof.Proof.Gen.DhEven.Frame
public import proofs.«01_k».proof.Proof.Products.DhEven
public import proofs.«01_k».proof.Proof.Gen.DhEvenIdeal.Value
public import proofs.«01_k».proof.Proof.Gen.DwOwn.Frame
public import proofs.«01_k».proof.Proof.Products.DwOwn
public import proofs.«01_k».proof.Proof.Products.DwOwnTable
public import proofs.«01_k».proof.Proof.Gen.DwSibling.Frame
public import proofs.«01_k».proof.Proof.Products.DwSibling
public import proofs.«01_k».proof.Proof.Products.DwSiblingTable
public import proofs.«01_k».proof.Proof.Gen.Dy.Frame
public import proofs.«01_k».proof.Proof.Products.Dy
public import proofs.«01_k».proof.Proof.Gen.DyIdeal.Value
public import proofs.«01_k».proof.Proof.Gen.DwOut.Frame
public import proofs.«01_k».proof.Proof.Products.DwOut
public import proofs.«01_k».proof.Proof.Gen.DwOutIdeal.Value
public import proofs.«01_k».proof.Proof.Gen.Out.Frame
public import proofs.«01_k».proof.Proof.Products.Out
public import proofs.«01_k».proof.Proof.Gen.OutIdeal.Value
public import proofs.«01_k».proof.Proof.Gen.AdamInEven.Frame
public import proofs.«01_k».proof.Proof.Products.AdamInEven
public import proofs.«01_k».proof.Proof.Products.AdamInEvenTable
public import proofs.«01_k».proof.Proof.Gen.AdamInOdd.Frame
public import proofs.«01_k».proof.Proof.Products.AdamInOdd
public import proofs.«01_k».proof.Proof.Products.AdamInOddTable
public import proofs.«01_k».proof.Proof.Gen.AdamOut.Frame
public import proofs.«01_k».proof.Proof.Products.AdamOut
public import proofs.«01_k».proof.Proof.Products.AdamOutTable
public import proofs.«01_k».proof.Proof.Gen.AdamPool.Frame
public import proofs.«01_k».proof.Proof.Products.AdamPool
public import proofs.«01_k».proof.Proof.Products.AdamPoolTable
public import proofs.«01_k».proof.Proof.Gen.AdamSmallA.Frame
public import proofs.«01_k».proof.Proof.Products.AdamSmallA
public import proofs.«01_k».proof.Proof.Gen.AdamSmallAIdeal.Value
public import proofs.«01_k».proof.Proof.Gen.AdamSmallB.Frame
public import proofs.«01_k».proof.Proof.Products.AdamSmallB
public import proofs.«01_k».proof.Proof.Gen.AdamSmallBIdeal.Value
public import proofs.«01_k».proof.Proof.Gen.AdamSmallC.Frame
public import proofs.«01_k».proof.Proof.Products.AdamSmallC
public import proofs.«01_k».proof.Proof.Gen.AdamSmallCIdeal.Value
public import proofs.«01_k».proof.Proof.Gen.AdamSmallD.Frame
public import proofs.«01_k».proof.Proof.Products.AdamSmallD
public import proofs.«01_k».proof.Proof.Gen.AdamSmallDIdeal.Value
public import proofs.«01_k».proof.Proof.Gen.SumSmall.Frame
public import proofs.«01_k».proof.Proof.Products.SumSmall
public import proofs.«01_k».proof.Proof.Gen.PreEven.Frame
public import proofs.«01_k».proof.Proof.Norms.PreEven
public import proofs.«01_k».proof.Proof.Gen.PreEvenIdeal.Value
public import proofs.«01_k».proof.Proof.Gen.Between.Frame
public import proofs.«01_k».proof.Proof.Norms.Between
public import proofs.«01_k».proof.Proof.Gen.BetweenIdeal.Value
public import proofs.«01_k».proof.Proof.Gen.TokenLoss.Frame
public import proofs.«01_k».proof.Proof.Norms.TokenLoss
public import proofs.«01_k».proof.Proof.Gen.TokenLossIdeal.Value
public import proofs.«01_k».proof.Proof.Gen.PairAdd.Frame
public import proofs.«01_k».proof.Proof.Products.PairAdd
public import proofs.«01_k».proof.Proof.Products.PairAddTable
public import proofs.«01_k».proof.Proof.Gen.PairOut.Frame
public import proofs.«01_k».proof.Proof.Products.PairOut
public import proofs.«01_k».proof.Proof.Products.PairOutTable
public import proofs.«01_k».proof.Proof.Gen.PairPool.Frame
public import proofs.«01_k».proof.Proof.Products.PairPool
public import proofs.«01_k».proof.Proof.Products.PairPoolTable
public import proofs.«01_k».proof.Proof.Gen.PairInEven.Frame
public import proofs.«01_k».proof.Proof.Products.PairInEven
public import proofs.«01_k».proof.Proof.Products.PairInEvenTable
public import proofs.«01_k».proof.Proof.Gen.PostNorm.Frame
public import proofs.«01_k».proof.Proof.Norms.PostNorm
public import proofs.«01_k».proof.Proof.Gen.PostNormIdeal.Value

@[expose] public section

noncomputable section

namespace Cert.Proof

open Idealize.ShloMosaic Idealize.SL.Sem

/-! A reference is host code alone: it ends with its arguments kept, and no semaphore is in it. -/

theorem quiescent_ReferenceIdeal : quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem quiescent_DhOddRefIdeal : quiescent_DhOddRefIdeal := fun m ρ _ =>
  (θ_run Cert.DhOddRefIdeal.defs _ _).mono (fun r h => ⟨fun c => (h c).2, sem_eq_zero_of_no_sems (by decide) r.2⟩)
    (Cert.DhOddRefIdeal.Value.run (F := Ideal) m ρ)

theorem quiescent_DwInOddRefIdeal : quiescent_DwInOddRefIdeal := fun m ρ _ =>
  (θ_run Cert.DwInOddRefIdeal.defs _ _).mono (fun r h => ⟨fun c => (h c).2, sem_eq_zero_of_no_sems (by decide) r.2⟩)
    (Cert.DwInOddRefIdeal.Value.run (F := Ideal) m ρ)

theorem quiescent_InOddRefIdeal : quiescent_InOddRefIdeal := fun m ρ _ =>
  (θ_run Cert.InOddRefIdeal.defs _ _).mono (fun r h => ⟨fun c => (h c).2, sem_eq_zero_of_no_sems (by decide) r.2⟩)
    (Cert.InOddRefIdeal.Value.run (F := Ideal) m ρ)

theorem quiescent_DhEvenRefIdeal : quiescent_DhEvenRefIdeal := fun m ρ _ =>
  (θ_run Cert.DhEvenRefIdeal.defs _ _).mono (fun r h => ⟨fun c => (h c).2, sem_eq_zero_of_no_sems (by decide) r.2⟩)
    (Cert.DhEvenRefIdeal.Value.run (F := Ideal) m ρ)

theorem quiescent_DwOwnRefIdeal : quiescent_DwOwnRefIdeal := fun m ρ _ =>
  (θ_run Cert.DwOwnRefIdeal.defs _ _).mono (fun r h => ⟨fun c => (h c).2, sem_eq_zero_of_no_sems (by decide) r.2⟩)
    (Cert.DwOwnRefIdeal.Value.run (F := Ideal) m ρ)

theorem quiescent_DwSiblingRefIdeal : quiescent_DwSiblingRefIdeal := fun m ρ _ =>
  (θ_run Cert.DwSiblingRefIdeal.defs _ _).mono (fun r h => ⟨fun c => (h c).2, sem_eq_zero_of_no_sems (by decide) r.2⟩)
    (Cert.DwSiblingRefIdeal.Value.run (F := Ideal) m ρ)

theorem quiescent_DyRefIdeal : quiescent_DyRefIdeal := fun m ρ _ =>
  (θ_run Cert.DyRefIdeal.defs _ _).mono (fun r h => ⟨fun c => (h c).2, sem_eq_zero_of_no_sems (by decide) r.2⟩)
    (Cert.DyRefIdeal.Value.run (F := Ideal) m ρ)

theorem quiescent_DwOutRefIdeal : quiescent_DwOutRefIdeal := fun m ρ _ =>
  (θ_run Cert.DwOutRefIdeal.defs _ _).mono (fun r h => ⟨fun c => (h c).2, sem_eq_zero_of_no_sems (by decide) r.2⟩)
    (Cert.DwOutRefIdeal.Value.run (F := Ideal) m ρ)

theorem quiescent_OutRefIdeal : quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

theorem quiescent_AdamInEvenRefIdeal : quiescent_AdamInEvenRefIdeal := fun m ρ _ =>
  (θ_run Cert.AdamInEvenRefIdeal.defs _ _).mono (fun r h => ⟨fun c => (h c).2.2.2.2, sem_eq_zero_of_no_sems (by decide) r.2⟩)
    (Cert.AdamInEvenRefIdeal.Value.run (F := Ideal) m ρ)

theorem quiescent_AdamInOddRefIdeal : quiescent_AdamInOddRefIdeal := fun m ρ _ =>
  (θ_run Cert.AdamInOddRefIdeal.defs _ _).mono (fun r h => ⟨fun c => (h c).2.2.2.2, sem_eq_zero_of_no_sems (by decide) r.2⟩)
    (Cert.AdamInOddRefIdeal.Value.run (F := Ideal) m ρ)

theorem quiescent_AdamOutRefIdeal : quiescent_AdamOutRefIdeal := fun m ρ _ =>
  (θ_run Cert.AdamOutRefIdeal.defs _ _).mono (fun r h => ⟨fun c => (h c).2.2.2.2, sem_eq_zero_of_no_sems (by decide) r.2⟩)
    (Cert.AdamOutRefIdeal.Value.run (F := Ideal) m ρ)

theorem quiescent_AdamPoolRefIdeal : quiescent_AdamPoolRefIdeal := fun m ρ _ =>
  (θ_run Cert.AdamPoolRefIdeal.defs _ _).mono (fun r h => ⟨fun c => (h c).2.2.2.2, sem_eq_zero_of_no_sems (by decide) r.2⟩)
    (Cert.AdamPoolRefIdeal.Value.run (F := Ideal) m ρ)

theorem quiescent_AdamSmallARefIdeal : quiescent_AdamSmallARefIdeal := fun m ρ _ =>
  (θ_run Cert.AdamSmallARefIdeal.defs _ _).mono (fun r h => ⟨fun c => (h c).2.2.2.2.2.2.2.2.2, sem_eq_zero_of_no_sems (by decide) r.2⟩)
    (Cert.AdamSmallARefIdeal.Value.run (F := Ideal) m ρ)

theorem quiescent_AdamSmallBRefIdeal : quiescent_AdamSmallBRefIdeal := fun m ρ _ =>
  (θ_run Cert.AdamSmallBRefIdeal.defs _ _).mono (fun r h => ⟨fun c => (h c).2.2.2.2.2.2.2.2.2, sem_eq_zero_of_no_sems (by decide) r.2⟩)
    (Cert.AdamSmallBRefIdeal.Value.run (F := Ideal) m ρ)

theorem quiescent_AdamSmallCRefIdeal : quiescent_AdamSmallCRefIdeal := fun m ρ _ =>
  (θ_run Cert.AdamSmallCRefIdeal.defs _ _).mono (fun r h => ⟨fun c => (h c).2.2.2.2.2.2, sem_eq_zero_of_no_sems (by decide) r.2⟩)
    (Cert.AdamSmallCRefIdeal.Value.run (F := Ideal) m ρ)

theorem quiescent_AdamSmallDRefIdeal : quiescent_AdamSmallDRefIdeal := fun m ρ _ =>
  (θ_run Cert.AdamSmallDRefIdeal.defs _ _).mono (fun r h => ⟨fun c => (h c).2.2.2.2.2.2, sem_eq_zero_of_no_sems (by decide) r.2⟩)
    (Cert.AdamSmallDRefIdeal.Value.run (F := Ideal) m ρ)

theorem quiescent_SumSmallRefIdeal : quiescent_SumSmallRefIdeal := fun m ρ _ =>
  (θ_run Cert.SumSmallRefIdeal.defs _ _).mono (fun r h => ⟨fun c => (h c).2.2.2.2.2.2.2.2.2.2.2, sem_eq_zero_of_no_sems (by decide) r.2⟩)
    (Cert.SumSmallRefIdeal.Value.run (F := Ideal) m ρ)

theorem quiescent_PreEvenRefIdeal : quiescent_PreEvenRefIdeal := fun m ρ _ =>
  (θ_run Cert.PreEvenRefIdeal.defs _ _).mono (fun r h => ⟨fun c => (h c).2.2, sem_eq_zero_of_no_sems (by decide) r.2⟩)
    (Cert.PreEvenRefIdeal.Value.run (F := Ideal) m ρ)

theorem quiescent_BetweenRefIdeal : quiescent_BetweenRefIdeal := fun m ρ _ =>
  (θ_run Cert.BetweenRefIdeal.defs _ _).mono (fun r h => ⟨fun c => (h c).2.2.2.2, sem_eq_zero_of_no_sems (by decide) r.2⟩)
    (Cert.BetweenRefIdeal.Value.run (F := Ideal) m ρ)

theorem quiescent_TokenLossRefIdeal : quiescent_TokenLossRefIdeal := fun m ρ _ =>
  (θ_run Cert.TokenLossRefIdeal.defs _ _).mono (fun r h => ⟨fun c => (h c).2.2.2.2, sem_eq_zero_of_no_sems (by decide) r.2⟩)
    (Cert.TokenLossRefIdeal.Value.run (F := Ideal) m ρ)

theorem quiescent_PairAddRefIdeal : quiescent_PairAddRefIdeal := fun m ρ _ =>
  (θ_run Cert.PairAddRefIdeal.defs _ _).mono (fun r h => ⟨fun c => (h c).2, sem_eq_zero_of_no_sems (by decide) r.2⟩)
    (Cert.PairAddRefIdeal.Value.run (F := Ideal) m ρ)

theorem quiescent_PairOutRefIdeal : quiescent_PairOutRefIdeal := fun m ρ _ =>
  (θ_run Cert.PairOutRefIdeal.defs _ _).mono (fun r h => ⟨fun c => (h c).2, sem_eq_zero_of_no_sems (by decide) r.2⟩)
    (Cert.PairOutRefIdeal.Value.run (F := Ideal) m ρ)

theorem quiescent_PairPoolRefIdeal : quiescent_PairPoolRefIdeal := fun m ρ _ =>
  (θ_run Cert.PairPoolRefIdeal.defs _ _).mono (fun r h => ⟨fun c => (h c).2, sem_eq_zero_of_no_sems (by decide) r.2⟩)
    (Cert.PairPoolRefIdeal.Value.run (F := Ideal) m ρ)

theorem quiescent_PairInEvenRefIdeal : quiescent_PairInEvenRefIdeal := fun m ρ _ =>
  (θ_run Cert.PairInEvenRefIdeal.defs _ _).mono (fun r h => ⟨fun c => (h c).2, sem_eq_zero_of_no_sems (by decide) r.2⟩)
    (Cert.PairInEvenRefIdeal.Value.run (F := Ideal) m ρ)

theorem quiescent_PostNormRefIdeal : quiescent_PostNormRefIdeal := fun m ρ _ =>
  (θ_run Cert.PostNormRefIdeal.defs _ _).mono (fun r h => ⟨fun c => (h c).2.2, sem_eq_zero_of_no_sems (by decide) r.2⟩)
    (Cert.PostNormRefIdeal.Value.run (F := Ideal) m ρ)

theorem claim : Cert.Claim := ⟨Cert.Kernel.Gen.facts, Cert.KernelIdeal.Gen.facts, Cert.ReferenceIdeal.Gen.facts,
  Cert.DhOdd.Gen.facts, Cert.DhOddIdeal.Gen.facts, Cert.DhOddRefIdeal.Gen.facts,
  Cert.DwInOdd.Gen.facts, Cert.DwInOddIdeal.Gen.facts, Cert.DwInOddRefIdeal.Gen.facts,
  Cert.InOdd.Gen.facts, Cert.InOddIdeal.Gen.facts, Cert.InOddRefIdeal.Gen.facts,
  Cert.DhEven.Gen.facts, Cert.DhEvenIdeal.Gen.facts, Cert.DhEvenRefIdeal.Gen.facts,
  Cert.DwOwn.Gen.facts, Cert.DwOwnIdeal.Gen.facts, Cert.DwOwnRefIdeal.Gen.facts,
  Cert.DwSibling.Gen.facts, Cert.DwSiblingIdeal.Gen.facts, Cert.DwSiblingRefIdeal.Gen.facts,
  Cert.Dy.Gen.facts, Cert.DyIdeal.Gen.facts, Cert.DyRefIdeal.Gen.facts,
  Cert.DwOut.Gen.facts, Cert.DwOutIdeal.Gen.facts, Cert.DwOutRefIdeal.Gen.facts,
  Cert.Out.Gen.facts, Cert.OutIdeal.Gen.facts, Cert.OutRefIdeal.Gen.facts,
  Cert.AdamInEven.Gen.facts, Cert.AdamInEvenIdeal.Gen.facts, Cert.AdamInEvenRefIdeal.Gen.facts,
  Cert.AdamInOdd.Gen.facts, Cert.AdamInOddIdeal.Gen.facts, Cert.AdamInOddRefIdeal.Gen.facts,
  Cert.AdamOut.Gen.facts, Cert.AdamOutIdeal.Gen.facts, Cert.AdamOutRefIdeal.Gen.facts,
  Cert.AdamPool.Gen.facts, Cert.AdamPoolIdeal.Gen.facts, Cert.AdamPoolRefIdeal.Gen.facts,
  Cert.AdamSmallA.Gen.facts, Cert.AdamSmallAIdeal.Gen.facts, Cert.AdamSmallARefIdeal.Gen.facts,
  Cert.AdamSmallB.Gen.facts, Cert.AdamSmallBIdeal.Gen.facts, Cert.AdamSmallBRefIdeal.Gen.facts,
  Cert.AdamSmallC.Gen.facts, Cert.AdamSmallCIdeal.Gen.facts, Cert.AdamSmallCRefIdeal.Gen.facts,
  Cert.AdamSmallD.Gen.facts, Cert.AdamSmallDIdeal.Gen.facts, Cert.AdamSmallDRefIdeal.Gen.facts,
  Cert.SumSmall.Gen.facts, Cert.SumSmallIdeal.Gen.facts, Cert.SumSmallRefIdeal.Gen.facts,
  Cert.PreEven.Gen.facts, Cert.PreEvenIdeal.Gen.facts, Cert.PreEvenRefIdeal.Gen.facts,
  Cert.Between.Gen.facts, Cert.BetweenIdeal.Gen.facts, Cert.BetweenRefIdeal.Gen.facts,
  Cert.TokenLoss.Gen.facts, Cert.TokenLossIdeal.Gen.facts, Cert.TokenLossRefIdeal.Gen.facts,
  Cert.PairAdd.Gen.facts, Cert.PairAddIdeal.Gen.facts, Cert.PairAddRefIdeal.Gen.facts,
  Cert.PairOut.Gen.facts, Cert.PairOutIdeal.Gen.facts, Cert.PairOutRefIdeal.Gen.facts,
  Cert.PairPool.Gen.facts, Cert.PairPoolIdeal.Gen.facts, Cert.PairPoolRefIdeal.Gen.facts,
  Cert.PairInEven.Gen.facts, Cert.PairInEvenIdeal.Gen.facts, Cert.PairInEvenRefIdeal.Gen.facts,
  Cert.PostNorm.Gen.facts, Cert.PostNormIdeal.Gen.facts, Cert.PostNormRefIdeal.Gen.facts,
  fun m ρ _ => Cert.Kernel.Sb.frame m ρ, fun m ρ _ => Cert.KernelIdeal.Sb.frame m ρ, quiescent_ReferenceIdeal,
  fun m ρ _ => Cert.DhOdd.Gen.frame m ρ, fun m ρ _ => Cert.DhOddIdeal.Gen.frame m ρ, quiescent_DhOddRefIdeal,
  fun m ρ _ => Cert.DwInOdd.Gen.frame m ρ, fun m ρ _ => Cert.DwInOddIdeal.Gen.frame m ρ, quiescent_DwInOddRefIdeal,
  fun m ρ _ => Cert.InOdd.Gen.frame m ρ, fun m ρ _ => Cert.InOddIdeal.Gen.frame m ρ, quiescent_InOddRefIdeal,
  fun m ρ _ => Cert.DhEven.Gen.frame m ρ, fun m ρ _ => Cert.DhEvenIdeal.Gen.frame m ρ, quiescent_DhEvenRefIdeal,
  fun m ρ _ => Cert.DwOwn.Gen.frame m ρ (Cert.DwOwn.Product.ok m), fun m ρ _ => Cert.DwOwnIdeal.Gen.frame m ρ (Cert.DwOwnIdeal.Product.ok m), quiescent_DwOwnRefIdeal,
  fun m ρ _ => Cert.DwSibling.Gen.frame m ρ (Cert.DwSibling.Product.ok m), fun m ρ _ => Cert.DwSiblingIdeal.Gen.frame m ρ (Cert.DwSiblingIdeal.Product.ok m), quiescent_DwSiblingRefIdeal,
  fun m ρ _ => Cert.Dy.Gen.frame m ρ, fun m ρ _ => Cert.DyIdeal.Gen.frame m ρ, quiescent_DyRefIdeal,
  fun m ρ _ => Cert.DwOut.Gen.frame m ρ, fun m ρ _ => Cert.DwOutIdeal.Gen.frame m ρ, quiescent_DwOutRefIdeal,
  fun m ρ _ => Cert.Out.Gen.frame m ρ, fun m ρ _ => Cert.OutIdeal.Gen.frame m ρ, quiescent_OutRefIdeal,
  fun m ρ _ => Cert.AdamInEven.Gen.frame m ρ (Cert.AdamInEven.Step.ok m), fun m ρ _ => Cert.AdamInEvenIdeal.Gen.frame m ρ (Cert.AdamInEvenIdeal.Step.ok m), quiescent_AdamInEvenRefIdeal,
  fun m ρ _ => Cert.AdamInOdd.Gen.frame m ρ (Cert.AdamInOdd.Step.ok m), fun m ρ _ => Cert.AdamInOddIdeal.Gen.frame m ρ (Cert.AdamInOddIdeal.Step.ok m), quiescent_AdamInOddRefIdeal,
  fun m ρ _ => Cert.AdamOut.Gen.frame m ρ (Cert.AdamOut.Step.ok m), fun m ρ _ => Cert.AdamOutIdeal.Gen.frame m ρ (Cert.AdamOutIdeal.Step.ok m), quiescent_AdamOutRefIdeal,
  fun m ρ _ => Cert.AdamPool.Gen.frame m ρ (Cert.AdamPool.Step.ok m), fun m ρ _ => Cert.AdamPoolIdeal.Gen.frame m ρ (Cert.AdamPoolIdeal.Step.ok m), quiescent_AdamPoolRefIdeal,
  fun m ρ _ => Cert.AdamSmallA.Gen.frame m ρ, fun m ρ _ => Cert.AdamSmallAIdeal.Gen.frame m ρ, quiescent_AdamSmallARefIdeal,
  fun m ρ _ => Cert.AdamSmallB.Gen.frame m ρ, fun m ρ _ => Cert.AdamSmallBIdeal.Gen.frame m ρ, quiescent_AdamSmallBRefIdeal,
  fun m ρ _ => Cert.AdamSmallC.Gen.frame m ρ, fun m ρ _ => Cert.AdamSmallCIdeal.Gen.frame m ρ, quiescent_AdamSmallCRefIdeal,
  fun m ρ _ => Cert.AdamSmallD.Gen.frame m ρ, fun m ρ _ => Cert.AdamSmallDIdeal.Gen.frame m ρ, quiescent_AdamSmallDRefIdeal,
  fun m ρ _ => Cert.SumSmall.Gen.frame m ρ, fun m ρ _ => Cert.SumSmallIdeal.Gen.frame m ρ, quiescent_SumSmallRefIdeal,
  fun m ρ _ => Cert.PreEven.Gen.frame m ρ, fun m ρ _ => Cert.PreEvenIdeal.Gen.frame m ρ, quiescent_PreEvenRefIdeal,
  fun m ρ _ => Cert.Between.Gen.frame m ρ, fun m ρ _ => Cert.BetweenIdeal.Gen.frame m ρ, quiescent_BetweenRefIdeal,
  fun m ρ _ => Cert.TokenLoss.Gen.frame m ρ, fun m ρ _ => Cert.TokenLossIdeal.Gen.frame m ρ, quiescent_TokenLossRefIdeal,
  fun m ρ _ => Cert.PairAdd.Gen.frame m ρ (Cert.PairAdd.Step.ok m), fun m ρ _ => Cert.PairAddIdeal.Gen.frame m ρ (Cert.PairAddIdeal.Step.ok m), quiescent_PairAddRefIdeal,
  fun m ρ _ => Cert.PairOut.Gen.frame m ρ (Cert.PairOut.Step.ok m), fun m ρ _ => Cert.PairOutIdeal.Gen.frame m ρ (Cert.PairOutIdeal.Step.ok m), quiescent_PairOutRefIdeal,
  fun m ρ _ => Cert.PairPool.Gen.frame m ρ (Cert.PairPool.Step.ok m), fun m ρ _ => Cert.PairPoolIdeal.Gen.frame m ρ (Cert.PairPoolIdeal.Step.ok m), quiescent_PairPoolRefIdeal,
  fun m ρ _ => Cert.PairInEven.Gen.frame m ρ (Cert.PairInEven.Step.ok m), fun m ρ _ => Cert.PairInEvenIdeal.Gen.frame m ρ (Cert.PairInEvenIdeal.Step.ok m), quiescent_PairInEvenRefIdeal,
  fun m ρ _ => Cert.PostNorm.Gen.frame m ρ, fun m ρ _ => Cert.PostNormIdeal.Gen.frame m ρ, quiescent_PostNormRefIdeal,
  ⟨IdealRules.named_const.statement Cert.KernelIdeal.κ "neg_scale_log2e" .f32 0xBE0293EE#32 _ rfl, IdealRules.bf16_pack.statement _,
    IdealRules.named_const.statement Cert.KernelIdeal.κ "scale" .f32 0x3DB504F3#32 _ rfl⟩,
  trivial, Cert.DhOddIdeal.Product.algebraic,
  trivial, Cert.DwInOddIdeal.Product.algebraic,
  trivial, Cert.InOddIdeal.Product.algebraic,
  trivial, Cert.DhEvenIdeal.Product.algebraic,
  trivial, Cert.DwOwnIdeal.Product.algebraic,
  trivial, Cert.DwSiblingIdeal.Product.algebraic,
  trivial, Cert.DyIdeal.Product.algebraic,
  trivial, Cert.DwOutIdeal.Product.algebraic,
  trivial, Cert.OutIdeal.Product.algebraic,
  trivial, Cert.AdamInEvenIdeal.Step.algebraic,
  trivial, Cert.AdamInOddIdeal.Step.algebraic,
  trivial, Cert.AdamOutIdeal.Step.algebraic,
  trivial, Cert.AdamPoolIdeal.Step.algebraic,
  trivial, Cert.AdamSmallAIdeal.Step.algebraic,
  trivial, Cert.AdamSmallBIdeal.Step.algebraic,
  trivial, Cert.AdamSmallCIdeal.Step.algebraic,
  trivial, Cert.AdamSmallDIdeal.Step.algebraic,
  trivial, Cert.SumSmallIdeal.Step.algebraic,
  trivial, Cert.PreEvenIdeal.Product.algebraic,
  trivial, Cert.BetweenIdeal.Product.algebraic,
  trivial, Cert.TokenLossIdeal.Product.algebraic,
  trivial, Cert.PairAddIdeal.Step.algebraic,
  trivial, Cert.PairOutIdeal.Step.algebraic,
  trivial, Cert.PairPoolIdeal.Step.algebraic,
  trivial, Cert.PairInEvenIdeal.Step.algebraic,
  trivial, Cert.PostNormIdeal.Product.algebraic⟩

end Cert.Proof

end
